-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)) (v3 : (c : Dev Cert.KernelIdeal.nD) → Buf (Elt Ideal) ((c.tc : Thread Cert.KernelIdeal.nD Cert.KernelIdeal.τ).loc Cert.KernelIdeal.main_v39_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_v39_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)) (v4 : (c : Dev Cert.Kernel2Ideal.nD) → Buf (Elt Ideal) ((c.tc : Thread Cert.Kernel2Ideal.nD Cert.Kernel2Ideal.τ).loc Cert.Kernel2Ideal.main_v7_4)) (v5 : (c : Dev Cert.Kernel2Ideal.nD) → Buf (Elt Ideal) ((c.tc : Thread Cert.Kernel2Ideal.nD Cert.Kernel2Ideal.τ).loc Cert.Kernel2Ideal.main_v7_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_v7_4) = v4 c
          ∧ r.2.mem ((c.tc : Thread Cert.Kernel2Ideal.nD Cert.Kernel2Ideal.τ).loc Cert.Kernel2Ideal.main_v7_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v161) = v0 c
          ∧ r.2.mem ((c.tc : Thread Cert.Reference2Ideal.nD Cert.Reference2Ideal.τ).loc Cert.Reference2Ideal.main_v111) = v1 c
          ∧ r.2.mem ((c.tc : Thread Cert.Reference2Ideal.nD Cert.Reference2Ideal.τ).loc Cert.Reference2Ideal.main_v108) = v2 c
          ∧ r.2.mem ((c.tc : Thread Cert.Reference2Ideal.nD Cert.Reference2Ideal.τ).loc Cert.Reference2Ideal.main_v162) = v3 c
          ∧ r.2.mem ((c.tc : Thread Cert.Reference2Ideal.nD Cert.Reference2Ideal.τ).loc Cert.Reference2Ideal.main_v164) = v4 c
          ∧ r.2.mem ((c.tc : Thread Cert.Reference2Ideal.nD Cert.Reference2Ideal.τ).loc Cert.Reference2Ideal.main_v77) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v87)) (v1 : (c : Dev Cert.Kernel3Ideal.nD) → Buf (Elt Ideal) ((c.tc : Thread Cert.Kernel3Ideal.nD Cert.Kernel3Ideal.τ).loc Cert.Kernel3Ideal.main_v86_1)) (v2 : (c : Dev Cert.Kernel3Ideal.nD) → Buf (Elt Ideal) ((c.tc : Thread Cert.Kernel3Ideal.nD Cert.Kernel3Ideal.τ).loc Cert.Kernel3Ideal.main_v86_2)) (v3 : (c : Dev Cert.Kernel3Ideal.nD) → Buf (Elt Ideal) ((c.tc : Thread Cert.Kernel3Ideal.nD Cert.Kernel3Ideal.τ).loc Cert.Kernel3Ideal.main_v86_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v87) = v0 c
          ∧ r.2.mem ((c.tc : Thread Cert.Kernel3Ideal.nD Cert.Kernel3Ideal.τ).loc Cert.Kernel3Ideal.main_v86_1) = v1 c
          ∧ r.2.mem ((c.tc : Thread Cert.Kernel3Ideal.nD Cert.Kernel3Ideal.τ).loc Cert.Kernel3Ideal.main_v86_2) = v2 c
          ∧ r.2.mem ((c.tc : Thread Cert.Kernel3Ideal.nD Cert.Kernel3Ideal.τ).loc Cert.Kernel3Ideal.main_v86_6) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v349) = v0 c
          ∧ r.2.mem ((c.tc : Thread Cert.Reference3Ideal.nD Cert.Reference3Ideal.τ).loc Cert.Reference3Ideal.main_v338) = v1 c
          ∧ r.2.mem ((c.tc : Thread Cert.Reference3Ideal.nD Cert.Reference3Ideal.τ).loc Cert.Reference3Ideal.main_v347) = v2 c
          ∧ r.2.mem ((c.tc : Thread Cert.Reference3Ideal.nD Cert.Reference3Ideal.τ).loc Cert.Reference3Ideal.main_v343) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)) (v4 : (c : Dev Cert.Kernel4Ideal.nD) → Buf (Elt Ideal) ((c.tc : Thread Cert.Kernel4Ideal.nD Cert.Kernel4Ideal.τ).loc Cert.Kernel4Ideal.main_v7_4)) (v5 : (c : Dev Cert.Kernel4Ideal.nD) → Buf (Elt Ideal) ((c.tc : Thread Cert.Kernel4Ideal.nD Cert.Kernel4Ideal.τ).loc Cert.Kernel4Ideal.main_v7_5)) (v6 : (c : Dev Cert.Kernel4Ideal.nD) → Buf (Elt Ideal) ((c.tc : Thread Cert.Kernel4Ideal.nD Cert.Kernel4Ideal.τ).loc Cert.Kernel4Ideal.main_v7_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_v7_4) = v4 c
          ∧ r.2.mem ((c.tc : Thread Cert.Kernel4Ideal.nD Cert.Kernel4Ideal.τ).loc Cert.Kernel4Ideal.main_v7_5) = v5 c
          ∧ r.2.mem ((c.tc : Thread Cert.Kernel4Ideal.nD Cert.Kernel4Ideal.τ).loc Cert.Kernel4Ideal.main_v7_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v108) = v0 c
          ∧ r.2.mem ((c.tc : Thread Cert.Reference4Ideal.nD Cert.Reference4Ideal.τ).loc Cert.Reference4Ideal.main_v109) = v1 c
          ∧ r.2.mem ((c.tc : Thread Cert.Reference4Ideal.nD Cert.Reference4Ideal.τ).loc Cert.Reference4Ideal.main_v87) = v2 c
          ∧ r.2.mem ((c.tc : Thread Cert.Reference4Ideal.nD Cert.Reference4Ideal.τ).loc Cert.Reference4Ideal.main_v82) = v3 c
          ∧ r.2.mem ((c.tc : Thread Cert.Reference4Ideal.nD Cert.Reference4Ideal.τ).loc Cert.Reference4Ideal.main_v91) = v4 c
          ∧ r.2.mem ((c.tc : Thread Cert.Reference4Ideal.nD Cert.Reference4Ideal.τ).loc Cert.Reference4Ideal.main_v85) = v5 c
          ∧ r.2.mem ((c.tc : Thread Cert.Reference4Ideal.nD Cert.Reference4Ideal.τ).loc Cert.Reference4Ideal.main_v62) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v63) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v28_0)) (v1 : (c : Dev Cert.Kernel7Ideal.nD) → Buf (Elt Ideal) ((c.tc : Thread Cert.Kernel7Ideal.nD Cert.Kernel7Ideal.τ).loc Cert.Kernel7Ideal.main_v28_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v28_0) = v0 c
          ∧ r.2.mem ((c.tc : Thread Cert.Kernel7Ideal.nD Cert.Kernel7Ideal.τ).loc Cert.Kernel7Ideal.main_v28_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v142) = v0 c
          ∧ r.2.mem ((c.tc : Thread Cert.Reference7Ideal.nD Cert.Reference7Ideal.τ).loc Cert.Reference7Ideal.main_v144) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)) (v2 : (c : Dev Cert.Kernel10Ideal.nD) → Buf (Elt Ideal) ((c.tc : Thread Cert.Kernel10Ideal.nD Cert.Kernel10Ideal.τ).loc Cert.Kernel10Ideal.main_v5_2)) (v3 : (c : Dev Cert.Kernel10Ideal.nD) → Buf (Elt Ideal) ((c.tc : Thread Cert.Kernel10Ideal.nD Cert.Kernel10Ideal.τ).loc Cert.Kernel10Ideal.main_v5_3)) (v4 : (c : Dev Cert.Kernel10Ideal.nD) → Buf (Elt Ideal) ((c.tc : Thread Cert.Kernel10Ideal.nD Cert.Kernel10Ideal.τ).loc Cert.Kernel10Ideal.main_v5_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_v5_2) = v2 c
          ∧ r.2.mem ((c.tc : Thread Cert.Kernel10Ideal.nD Cert.Kernel10Ideal.τ).loc Cert.Kernel10Ideal.main_v5_3) = v3 c
          ∧ r.2.mem ((c.tc : Thread Cert.Kernel10Ideal.nD Cert.Kernel10Ideal.τ).loc Cert.Kernel10Ideal.main_v5_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_v20) = v1 c
          ∧ r.2.mem ((c.tc : Thread Cert.Reference10Ideal.nD Cert.Reference10Ideal.τ).loc Cert.Reference10Ideal.main_v21) = v2 c
          ∧ r.2.mem ((c.tc : Thread Cert.Reference10Ideal.nD Cert.Reference10Ideal.τ).loc Cert.Reference10Ideal.main_v22) = v3 c
          ∧ r.2.mem ((c.tc : Thread Cert.Reference10Ideal.nD Cert.Reference10Ideal.τ).loc Cert.Reference10Ideal.main_v23) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite3 : Cert.Pre_finite3.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S2816x1024 .f32) (main_arg5 : FVec F S8192x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x2816 .f32 := Host.absf main_arg3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg4
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S8192x1024 .f32 := Host.absf main_arg5
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite3.lean ====
abbrev S8192x4624 : Shape := ⟨2, ![8192, 4624]⟩
abbrev S8192x1024 : Shape := ⟨2, ![8192, 1024]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S8192x16 : Shape := ⟨2, ![8192, 16]⟩
abbrev S_ : Shape := ⟨0, ![]⟩

class Facts : Prop where
  slices_S8192x4624_S8192x16_0_4608 : S8192x4624.Slices ![0, 4608] S8192x16
  bcast_S_S8192x16 : S_.BroadcastsInDim S8192x16 (![] : Fin 0 → Fin S8192x16.rank)
  reducesTo_S8192x16_S_d0_1 : S8192x16.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_v14 : IVec S_ 1) (main_v15 : FVec F S1x16 .f32) (main_v16 : FVec F S1x16 .f32) : IVec S_ 1 :=
  let main_v17 : IVec S1x16 1 := cmpf .olt main_v15 main_v16
  let main_c_5 : IVec S_ 1 := constantI S_ 1 1#1
  let main_v18 : IVec S_ 1 := (fun x v => Host.reduce IntOp.andi x v reducesTo_S1x16_S_d0_1 h_S_) main_v17 main_c_5
  let main_v19 : IVec S_ 1 := andi main_v14 main_v18
  main_v19

def fn {F : FTy → Type} [FloatOps F] (main_arg0 : FVec F S8192x4624 .f32) (main_arg1 : FVec F S8192x1024 .f32) (main_arg2 : FVec F S4x1536 .f32) (main_arg3 : FVec F S1x1536 .f32) (main_arg4 : FVec F S1x16 .f32) (main_arg5 : FVec F S1x16 .f32) (main_arg6 : FVec F S1x16 .f32) (main_arg7 : FVec F S1x1024 .f32) : IVec S_ 1 :=
  let main_v0 : FVec F S8192x16 .f32 := (extractStridedSlice S8192x16 ![0, 4608] · slices_S8192x4624_S8192x16_0_4608) main_arg0
  let main_v1 : FVec F S8192x16 .f32 := Host.absf main_v0
  let main_cst : FVec F S_ .f32 := constant S_ .f32 0x7F800000#32
  let main_v2 : FVec F S8192x16 .f32 := broadcastInDim S8192x16 ![] bcast_S_S8192x16 main_cst
  let main_v3 : IVec S8192x16 1 := cmpf .olt main_v1 main_v2
  let main_c : IVec S_ 1 := constantI S_ 1 1#1
  let main_v4 : IVec S_ 1 := (fun x v => Host.reduce IntOp.andi x v reducesTo_S8192x16_S_d0_1 h_S_) main_v3 main_c
  let main_v5 : FVec F S1x16 .f32 := Host.absf main_arg4
  let main_cst_0 : FVec F S_ .f32 := constant S_ .f32 0x7F800000#32
  let main_v6 : FVec F S1x16 .f32 := broadcastInDim S1x16 ![] bcast_S_S1x16 main_cst_0
  let main_v7 : IVec S1x16 1 := cmpf .olt main_v5 main_v6
  let main_c_1 : IVec S_ 1 := constantI S_ 1 1#1
  let main_v8 : IVec S_ 1 := (fun x v => Host.reduce IntOp.andi x v reducesTo_S1x16_S_d0_1 h_S_) main_v7 main_c_1
  let main_v9 : IVec S_ 1 := andi main_v4 main_v8
  let main_v10 : FVec F S1x16 .f32 := Host.absf main_arg5
  let main_cst_2 : FVec F S_ .f32 := constant S_ .f32 0x7F800000#32
  let main_v11 : FVec F S1x16 .f32 := broadcastInDim S1x16 ![] bcast_S_S1x16 main_cst_2
  let main_v12 : IVec S1x16 1 := cmpf .olt main_v10 main_v11
  let main_c_3 : IVec S_ 1 := constantI S_ 1 1#1
  let main_v13 : IVec S_ 1 := (fun x v => Host.reduce IntOp.andi x v reducesTo_S1x16_S_d0_1 h_S_) main_v12 main_c_3
  let main_v14 : IVec S_ 1 := andi main_v9 main_v13
  let main_v15 : FVec F S1x16 .f32 := Host.absf main_arg6
  let main_cst_4 : FVec F S_ .f32 := constant S_ .f32 0x7F800000#32
  let main_v16 : FVec F S1x16 .f32 := broadcastInDim S1x16 ![] bcast_S_S1x16 main_cst_4
  fn_part1 (F := F) main_v14 main_v15 main_v16
-- ==== Pre_finite7.lean ====
abbrev S8192x4624 : Shape := ⟨2, ![8192, 4624]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S8192x16 : Shape := ⟨2, ![8192, 16]⟩
abbrev S_ : Shape := ⟨0, ![]⟩

class Facts : Prop where
  slices_S8192x4624_S8192x16_0_4608 : S8192x4624.Slices ![0, 4608] S8192x16
  bcast_S_S8192x16 : S_.BroadcastsInDim S8192x16 (![] : Fin 0 → Fin S8192x16.rank)
  reducesTo_S8192x16_S_d0_1 : S8192x16.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_v14 : IVec S_ 1) (main_v15 : FVec F S1x16 .f32) (main_v16 : FVec F S1x16 .f32) : IVec S_ 1 :=
  let main_v17 : IVec S1x16 1 := cmpf .olt main_v15 main_v16
  let main_c_5 : IVec S_ 1 := constantI S_ 1 1#1
  let main_v18 : IVec S_ 1 := (fun x v => Host.reduce IntOp.andi x v reducesTo_S1x16_S_d0_1 h_S_) main_v17 main_c_5
  let main_v19 : IVec S_ 1 := andi main_v14 main_v18
  main_v19

def fn {F : FTy → Type} [FloatOps F] (main_arg0 : FVec F S8192x4624 .f32) (main_arg1 : FVec F S4x1536 .f32) (main_arg2 : FVec F S1x1536 .f32) (main_arg3 : FVec F S1x16 .f32) (main_arg4 : FVec F S1x16 .f32) (main_arg5 : FVec F S1x16 .f32) (main_arg6 : FVec F S1x1024 .f32) : IVec S_ 1 :=
  let main_v0 : FVec F S8192x16 .f32 := (extractStridedSlice S8192x16 ![0, 4608] · slices_S8192x4624_S8192x16_0_4608) main_arg0
  let main_v1 : FVec F S8192x16 .f32 := Host.absf main_v0
  let main_cst : FVec F S_ .f32 := constant S_ .f32 0x7F800000#32
  let main_v2 : FVec F S8192x16 .f32 := broadcastInDim S8192x16 ![] bcast_S_S8192x16 main_cst
  let main_v3 : IVec S8192x16 1 := cmpf .olt main_v1 main_v2
  let main_c : IVec S_ 1 := constantI S_ 1 1#1
  let main_v4 : IVec S_ 1 := (fun x v => Host.reduce IntOp.andi x v reducesTo_S8192x16_S_d0_1 h_S_) main_v3 main_c
  let main_v5 : FVec F S1x16 .f32 := Host.absf main_arg3
  let main_cst_0 : FVec F S_ .f32 := constant S_ .f32 0x7F800000#32
  let main_v6 : FVec F S1x16 .f32 := broadcastInDim S1x16 ![] bcast_S_S1x16 main_cst_0
  let main_v7 : IVec S1x16 1 := cmpf .olt main_v5 main_v6
  let main_c_1 : IVec S_ 1 := constantI S_ 1 1#1
  let main_v8 : IVec S_ 1 := (fun x v => Host.reduce IntOp.andi x v reducesTo_S1x16_S_d0_1 h_S_) main_v7 main_c_1
  let main_v9 : IVec S_ 1 := andi main_v4 main_v8
  let main_v10 : FVec F S1x16 .f32 := Host.absf main_arg4
  let main_cst_2 : FVec F S_ .f32 := constant S_ .f32 0x7F800000#32
  let main_v11 : FVec F S1x16 .f32 := broadcastInDim S1x16 ![] bcast_S_S1x16 main_cst_2
  let main_v12 : IVec S1x16 1 := cmpf .olt main_v10 main_v11
  let main_c_3 : IVec S_ 1 := constantI S_ 1 1#1
  let main_v13 : IVec S_ 1 := (fun x v => Host.reduce IntOp.andi x v reducesTo_S1x16_S_d0_1 h_S_) main_v12 main_c_3
  let main_v14 : IVec S_ 1 := andi main_v9 main_v13
  let main_v15 : FVec F S1x16 .f32 := Host.absf main_arg5
  let main_cst_4 : FVec F S_ .f32 := constant S_ .f32 0x7F800000#32
  let main_v16 : FVec F S1x16 .f32 := broadcastInDim S1x16 ![] bcast_S_S1x16 main_cst_4
  fn_part1 (F := F) main_v14 main_v15 main_v16
-- ==== Kernel.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8x352x1024 : Shape := ⟨3, ![8, 352, 1024]⟩
abbrev S8x1056x1024 : Shape := ⟨3, ![8, 1056, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S256x1024 : Shape := ⟨2, ![256, 1024]⟩
abbrev S256x2816 : Shape := ⟨2, ![256, 2816]⟩
abbrev S24 : Shape := ⟨1, ![24]⟩
abbrev S1 : Shape := ⟨1, ![1]⟩
abbrev S352x1024 : Shape := ⟨2, ![352, 1024]⟩
abbrev S1x352x1024 : Shape := ⟨3, ![1, 352, 1024]⟩
abbrev S256 : Shape := ⟨1, ![256]⟩
abbrev S256x1 : Shape := ⟨2, ![256, 1]⟩
abbrev S1024x1024 : Shape := ⟨2, ![1024, 1024]⟩
abbrev S256x768 : Shape := ⟨2, ![256, 768]⟩
abbrev S768x1024 : Shape := ⟨2, ![768, 1024]⟩
abbrev S1024 : Shape := ⟨1, ![1024]⟩

abbrev nBuf : Space → Nat
  | .hbm => 52
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S2816x1024, .f32⟩
  | .hbm, ⟨7, _⟩ => ⟨S2816x1024, .f32⟩
  | .hbm, ⟨8, _⟩ => ⟨S2816x1024, .bf16⟩
  | .hbm, ⟨9, _⟩ => ⟨S8x352x1024, .bf16⟩
  | .hbm, ⟨10, _⟩ => ⟨S2816x1024, .bf16⟩
  | .hbm, ⟨11, _⟩ => ⟨S8x352x1024, .bf16⟩
  | .hbm, ⟨12, _⟩ => ⟨S2816x1024, .bf16⟩
  | .hbm, ⟨13, _⟩ => ⟨S8x352x1024, .bf16⟩
  | .hbm, ⟨14, _⟩ => ⟨S8x1056x1024, .bf16⟩
  | .hbm, ⟨15, _⟩ => ⟨S2816x1024, .bf16⟩
  | .hbm, ⟨16, _⟩ => ⟨S8x352x1024, .bf16⟩
  | .hbm, ⟨17, _⟩ => ⟨S2816x1024, .bf16⟩
  | .hbm, ⟨18, _⟩ => ⟨S8x352x1024, .bf16⟩
  | .hbm, ⟨19, _⟩ => ⟨S2816x1024, .bf16⟩
  | .hbm, ⟨20, _⟩ => ⟨S8x352x1024, .bf16⟩
  | .hbm, ⟨21, _⟩ => ⟨S8x1056x1024, .bf16⟩
  | .hbm, ⟨22, _⟩ => ⟨S2816x1024, .bf16⟩
  | .hbm, ⟨23, _⟩ => ⟨S8x352x1024, .bf16⟩
  | .hbm, ⟨24, _⟩ => ⟨S2816x1024, .bf16⟩
  | .hbm, ⟨25, _⟩ => ⟨S8x352x1024, .bf16⟩
  | .hbm, ⟨26, _⟩ => ⟨S2816x1024, .bf16⟩
  | .hbm, ⟨27, _⟩ => ⟨S8x352x1024, .bf16⟩
  | .hbm, ⟨28, _⟩ => ⟨S8x1056x1024, .bf16⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x2816, .f32⟩
  | .hbm, ⟨45, _⟩ => ⟨S8192x2816, .bf16⟩
  | .hbm, ⟨46, _⟩ => ⟨S8192x2816, .f32⟩
  | .hbm, ⟨47, _⟩ => ⟨S8192x2816, .bf16⟩
  | .hbm, ⟨48, _⟩ => ⟨S8192x1024, .f32⟩
  | .hbm, ⟨49, _⟩ => ⟨S8192x2816, .bf16⟩
  | .hbm, ⟨50, _⟩ => ⟨S8192x2816, .bf16⟩
  | .hbm, ⟨51, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S1x1024, .f32⟩
  | .local _ .vmem, ⟨16, _⟩ => ⟨S2816x1024, .bf16⟩
  | .local _ .vmem, ⟨17, _⟩ => ⟨S2816x1024, .bf16⟩
  | .local _ .vmem, ⟨18, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39_0 : Ref sig .tc := ⟨.hbm, 48, rfl⟩
abbrev main_v39_1 : Ref sig .tc := ⟨.hbm, 49, rfl⟩
abbrev main_v39_2 : Ref sig .tc := ⟨.hbm, 50, rfl⟩
abbrev main_v39_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 131
  | .vmem => 0
  | .smem => 0
  | _ => 0

abbrev hbmTy0_0 (i : Nat) : BufTy := match i % 128 with
  | 0 => ⟨S8192x1024, .f32⟩
  | 1 => ⟨S1x1024, .f32⟩
  | 2 => ⟨S1024x2816, .f32⟩
  | 3 => ⟨S1024x2816, .f32⟩
  | 4 => ⟨S2816x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S8192x1024, .f32⟩
  | 25 => ⟨S8192x2816, .f32⟩
  | 26 => ⟨S8192x2816, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S_, .f32⟩
  | 36 => ⟨S8192x2816, .f32⟩
  | 37 => ⟨S8192x2816, .f32⟩
  | 38 => ⟨S8192x2816, .f32⟩
  | 39 => ⟨S8192x2816, .f32⟩
  | 40 => ⟨S8192x2816, .f32⟩
  | 41 => ⟨S8192x1024, .f32⟩
  | 42 => ⟨S_, .f32⟩
  | 43 => ⟨S8192x1024, .f32⟩
  | 44 => ⟨S8192x1024, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S8192x2816, .f32⟩
  | 51 => ⟨S8192x2816, .f32⟩
  | 52 => ⟨S8192x2816, .f32⟩
  | 53 => ⟨S8192x2816, .f32⟩
  | 54 => ⟨S8192x2816, .f32⟩
  | 55 => ⟨S8192x2816, .f32⟩
  | 56 => ⟨S8192x2816, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S1024, .f32⟩
  | 63 => ⟨S1x1024, .f32⟩
  | 64 => ⟨S8192x1024, .f32⟩
  | 65 => ⟨S8192x1024, .f32⟩
  | 66 => ⟨S8192x1024, .f32⟩
  | 67 => ⟨S_, .f32⟩
  | 68 => ⟨S8192, .f32⟩
  | 69 => ⟨S8192x1, .f32⟩
  | 70 => ⟨S8192x1024, .f32⟩
  | 71 => ⟨S8192x1024, .f32⟩
  | 72 => ⟨S8192x1024, .f32⟩
  | 73 => ⟨S8192x1, .f32⟩
  | 74 => ⟨S_, .f32⟩
  | 75 => ⟨S8192x1, .f32⟩
  | 76 => ⟨S8192x1, .f32⟩
  | 77 => ⟨S_, .f32⟩
  | 78 => ⟨S8192, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S_, .f32⟩
  | 92 => ⟨S8192x1, .f32⟩
  | 93 => ⟨S8192x1, .f32⟩
  | 94 => ⟨S8192x1, .f32⟩
  | 95 => ⟨S8192x1024, .f32⟩
  | 96 => ⟨S8192x1024, .f32⟩
  | 97 => ⟨S8192x1024, .f32⟩
  | 98 => ⟨S8192x1024, .f32⟩
  | 99 => ⟨S8192x2816, .f32⟩
  | 100 => ⟨S8192x2816, .f32⟩
  | 101 => ⟨S8192x2816, .f32⟩
  | 102 => ⟨S8192x2816, .f32⟩
  | 103 => ⟨S_, .f32⟩
  | 104 => ⟨S8192x2816, .f32⟩
  | 105 => ⟨S8192x2816, .f32⟩
  | 106 => ⟨S_, .f32⟩
  | 107 => ⟨S8192x2816, .f32⟩
  | 108 => ⟨S8192x2816, .f32⟩
  | 109 => ⟨S_, .f32⟩
  | 110 => ⟨S8192x2816, .f32⟩
  | 111 => ⟨S8192x2816, .f32⟩
  | 112 => ⟨S8192x2816, .f32⟩
  | 113 => ⟨S8192x2816, .f32⟩
  | 114 => ⟨S8192x2816, .f32⟩
  | 115 => ⟨S8192x1024, .f32⟩
  | 116 => ⟨S_, .f32⟩
  | 117 => ⟨S8192x1024, .f32⟩
  | 118 => ⟨S8192x1024, .f32⟩
  | 119 => ⟨S_, .f32⟩
  | 120 => ⟨S8192x1024, .f32⟩
  | 121 => ⟨S8192x1024, .f32⟩
  | 122 => ⟨S8192x2816, .f32⟩
  | 123 => ⟨S8192x2816, .f32⟩
  | 124 => ⟨S8192x2816, .f32⟩
  | 125 => ⟨S8192x2816, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x2816, .bf16⟩
  | 2 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call2_v0 : Ref sig .tc := ⟨.hbm, 101, rfl⟩
abbrev main_call2_v1 : Ref sig .tc := ⟨.hbm, 102, rfl⟩
abbrev main_call2_cst : Ref sig .tc := ⟨.hbm, 103, rfl⟩
abbrev main_call2_v2 : Ref sig .tc := ⟨.hbm, 104, rfl⟩
abbrev main_call2_v3 : Ref sig .tc := ⟨.hbm, 105, rfl⟩
abbrev main_call2_cst_0 : Ref sig .tc := ⟨.hbm, 106, rfl⟩
abbrev main_call2_v4 : Ref sig .tc := ⟨.hbm, 107, rfl⟩
abbrev main_v67_2 : Ref sig .tc := ⟨.hbm, 108, rfl⟩
abbrev main_call2_cst_1 : Ref sig .tc := ⟨.hbm, 109, rfl⟩
abbrev main_call2_v6 : Ref sig .tc := ⟨.hbm, 110, rfl⟩
abbrev main_call2_v7 : Ref sig .tc := ⟨.hbm, 111, rfl⟩
abbrev main_v67_1 : Ref sig .tc := ⟨.hbm, 112, rfl⟩
abbrev main_v67_0 : Ref sig .tc := ⟨.hbm, 113, rfl⟩
abbrev main_v68 : Ref sig .tc := ⟨.hbm, 114, rfl⟩
abbrev main_v69 : Ref sig .tc := ⟨.hbm, 115, rfl⟩
abbrev main_cst_12 : Ref sig .tc := ⟨.hbm, 116, rfl⟩
abbrev main_v70 : Ref sig .tc := ⟨.hbm, 117, rfl⟩
abbrev main_v71 : Ref sig .tc := ⟨.hbm, 118, rfl⟩
abbrev main_cst_13 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩

abbrev nD : Nat := 1
abbrev τ : Topo := Topo.v7x

variable {F : FTy → Type} [FloatOps F]
-- ==== Kernel2.lean ====
abbrev S8192x4624 : Shape := ⟨2, ![8192, 4624]⟩
abbrev S8192x1024 : Shape := ⟨2, ![8192, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8192x3072 : Shape := ⟨2, ![8192, 3072]⟩
abbrev S8192x16 : Shape := ⟨2, ![8192, 16]⟩
abbrev S_ : Shape := ⟨0, ![]⟩
abbrev S8192x112 : Shape := ⟨2, ![8192, 112]⟩
abbrev S8192x3200 : Shape := ⟨2, ![8192, 3200]⟩
abbrev S8x128x128 : Shape := ⟨3, ![8, 128, 128]⟩
abbrev S8x128 : Shape := ⟨2, ![8, 128]⟩
abbrev S128x8 : Shape := ⟨2, ![128, 8]⟩
abbrev S8192x2048 : Shape := ⟨2, ![8192, 2048]⟩
abbrev S128x1024 : Shape := ⟨2, ![128, 1024]⟩
abbrev S128x2048 : Shape := ⟨2, ![128, 2048]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1024 : Shape := ⟨1, ![1024]⟩
abbrev S128x7 : Shape := ⟨2, ![128, 7]⟩
abbrev S128x896 : Shape := ⟨2, ![128, 896]⟩
abbrev S128x6 : Shape := ⟨2, ![128, 6]⟩
abbrev S128x768 : Shape := ⟨2, ![128, 768]⟩
abbrev S128x5 : Shape := ⟨2, ![128, 5]⟩
abbrev S128x2 : Shape := ⟨2, ![128, 2]⟩
abbrev S128x640 : Shape := ⟨2, ![128, 640]⟩
abbrev S128x256 : Shape := ⟨2, ![128, 256]⟩
abbrev S128x4 : Shape := ⟨2, ![128, 4]⟩
abbrev S128x3 : Shape := ⟨2, ![128, 3]⟩
abbrev S128x512 : Shape := ⟨2, ![128, 512]⟩
abbrev S128x384 : Shape := ⟨2, ![128, 384]⟩

abbrev nBuf : Space → Nat
  | .hbm => 21
  | .vmem => 18
  | .smem => 0
  | _ => 0

abbrev bufTy : (tb : Table) → Fin (tcTables nBuf tb) → BufTy
  | .hbm, ⟨0, _⟩ => ⟨S8192x4624, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S1x1024, .f32⟩
  | .hbm, ⟨7, _⟩ => ⟨S8192x3072, .f32⟩
  | .hbm, ⟨8, _⟩ => ⟨S8192x16, .f32⟩
  | .hbm, ⟨9, _⟩ => ⟨S_, .f32⟩
  | .hbm, ⟨10, _⟩ => ⟨S8192x112, .f32⟩
  | .hbm, ⟨11, _⟩ => ⟨S8192x3200, .f32⟩
  | .hbm, ⟨12, _⟩ => ⟨S8x128x128, .f32⟩
  | .hbm, ⟨13, _⟩ => ⟨S8x128, .f32⟩
  | .hbm, ⟨14, _⟩ => ⟨S128x8, .f32⟩
  | .hbm, ⟨15, _⟩ => ⟨S8192x2048, .bf16⟩
  | .hbm, ⟨16, _⟩ => ⟨S1x1024, .f32⟩
  | .hbm, ⟨17, _⟩ => ⟨S1x1024, .f32⟩
  | .hbm, ⟨18, _⟩ => ⟨S8x128x128, .f32⟩
  | .hbm, ⟨19, _⟩ => ⟨S128x8, .f32⟩
  | .hbm, ⟨20, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S1x1024, .f32⟩
  | .local _ .vmem, ⟨11, _⟩ => ⟨S128x2048, .bf16⟩
  | .local _ .vmem, ⟨12, _⟩ => ⟨S128x2048, .bf16⟩
  | .local _ .vmem, ⟨13, _⟩ => ⟨S1x1024, .f32⟩
  | .local _ .vmem, ⟨14, _⟩ => ⟨S1x1024, .f32⟩
  | .local _ .vmem, ⟨15, _⟩ => ⟨S8x128x128, .f32⟩
  | .local _ .vmem, ⟨16, _⟩ => ⟨S128x8, .f32⟩
  | .local _ .vmem, ⟨17, _⟩ => ⟨S1x1024, .f32⟩
  | _, _ => ⟨S8192x4624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S8192x4624 : Shape := ⟨2, ![8192, 4624]⟩
abbrev S8192x1024 : Shape := ⟨2, ![8192, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S8x128x128 : Shape := ⟨3, ![8, 128, 128]⟩
abbrev S8x128 : Shape := ⟨2, ![8, 128]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S8x64x128x128 : Shape := ⟨4, ![8, 64, 128, 128]⟩
abbrev S128x8 : Shape := ⟨2, ![128, 8]⟩
abbrev S1x128x8x1 : Shape := ⟨4, ![1, 128, 8, 1]⟩
abbrev S1024 : Shape := ⟨1, ![1024]⟩
abbrev S8192x2048 : Shape := ⟨2, ![8192, 2048]⟩

abbrev nBuf : Space → Nat
  | .hbm => 221
  | .vmem => 0
  | .smem => 0
  | _ => 0

abbrev hbmTy0_0 (i : Nat) : BufTy := match i % 128 with
  | 0 => ⟨S8192x4624, .f32⟩
  | 1 => ⟨S8192x1024, .f32⟩
  | 2 => ⟨S1x1024, .f32⟩
  | 3 => ⟨S1x1024, .f32⟩
  | 4 => ⟨S1x8x128x128, .f32⟩
  | 5 => ⟨S1x8x128, .f32⟩
  | 6 => ⟨S1x1024, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8x128x128, .f32⟩
  | 34 => ⟨S8x128, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S8192x1024, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S64x128x8x128, .f32⟩
  | 65 => ⟨S_, .i1⟩
  | 66 => ⟨S128x128, .i1⟩
  | 67 => ⟨S128x128, .i32⟩
  | 68 => ⟨S_, .i32⟩
  | 69 => ⟨S128x128, .i32⟩
  | 70 => ⟨S128x128, .i32⟩
  | 71 => ⟨S128x128, .i32⟩
  | 72 => ⟨S128x128, .i1⟩
  | 73 => ⟨S_, .i1⟩
  | 74 => ⟨S128x128, .i1⟩
  | 75 => ⟨S128x128, .i1⟩
  | 76 => ⟨S_, .f32⟩
  | 77 => ⟨S8x128x128, .f32⟩
  | 78 => ⟨S8x128x128, .i1⟩
  | 79 => ⟨S8x128x128, .f32⟩
  | 80 => ⟨S_, .f32⟩
  | 81 => ⟨S8x128x128, .f32⟩
  | 82 => ⟨S8x64x128x128, .f32⟩
  | 83 => ⟨S64x128x8x128, .f32⟩
  | 84 => ⟨S128x8, .f32⟩
  | 85 => ⟨S1x128x8x1, .f32⟩
  | 86 => ⟨S64x128x8x128, .f32⟩
  | 87 => ⟨S64x128x8x128, .f32⟩
  | 88 => ⟨S8192x1024, .f32⟩
  | 89 => ⟨S8192x1024, .f32⟩
  | 90 => ⟨S8192x1024, .f32⟩
  | 91 => ⟨S_, .f32⟩
  | 92 => ⟨S8192, .f32⟩
  | 93 => ⟨S8192x1, .f32⟩
  | 94 => ⟨S_, .f32⟩
  | 95 => ⟨S8192x1, .f32⟩
  | 96 => ⟨S8192x1, .f32⟩
  | 97 => ⟨S_, .f32⟩
  | 98 => ⟨S8192x1, .f32⟩
  | 99 => ⟨S8192x1, .f32⟩
  | 100 => ⟨S8192x1, .f32⟩
  | 101 => ⟨S8192x1, .f32⟩
  | 102 => ⟨S_, .f32⟩
  | 103 => ⟨S8192x1, .f32⟩
  | 104 => ⟨S8192x1, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S_, .f32⟩
  | 111 => ⟨S1024, .f32⟩
  | 112 => ⟨S1x1024, .f32⟩
  | 113 => ⟨S8192x1024, .f32⟩
  | 114 => ⟨S8192x1024, .f32⟩
  | 115 => ⟨S8192x1024, .f32⟩
  | 116 => ⟨S_, .f32⟩
  | 117 => ⟨S8192, .f32⟩
  | 118 => ⟨S8192x1, .f32⟩
  | 119 => ⟨S8192x1024, .f32⟩
  | 120 => ⟨S8192x1024, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192, .f32⟩
  | 127 => ⟨S8192x1024, .f32⟩
  | _ => ⟨S8192x4624, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S64x128x8x128, .f32⟩
  | 7 => ⟨S_, .f32⟩
  | 8 => ⟨S128x8, .f32⟩
  | 9 => ⟨S1x128x8x1, .f32⟩
  | 10 => ⟨S_, .f32⟩
  | 11 => ⟨S128x8, .f32⟩
  | 12 => ⟨S8x128, .f32⟩
  | 13 => ⟨S8x64x128x128, .f32⟩
  | 14 => ⟨S8x128x128, .f32⟩
  | 15 => ⟨S8x64x128x128, .f32⟩
  | 16 => ⟨S64x128x8x128, .f32⟩
  | 17 => ⟨S_, .f32⟩
  | 18 => ⟨S8x128x128, .f32⟩
  | 19 => ⟨S8x128x128, .f32⟩
  | 20 => ⟨S8192x1024, .f32⟩
  | 21 => ⟨S_, .f32⟩
  | 22 => ⟨S1024, .f32⟩
  | 23 => ⟨S1x1024, .f32⟩
  | 24 => ⟨S8192x1024, .f32⟩
  | 25 => ⟨S_, .f32⟩
  | 26 => ⟨S1024, .f32⟩
  | 27 => ⟨S1x1024, .f32⟩
  | 28 => ⟨S8192x1024, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S8192x1024, .f32⟩
  | 35 => ⟨S8192x1024, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192, .f32⟩
  | 56 => ⟨S8192x1024, .f32⟩
  | 57 => ⟨S8192x1024, .f32⟩
  | 58 => ⟨S1x8x128, .f32⟩
  | 59 => ⟨S1x8x128x128, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S8192x1024, .f32⟩
  | 88 => ⟨S8192x2048, .f32⟩
  | 89 => ⟨S8192x2048, .bf16⟩
  | 90 => ⟨S8x128x128, .f32⟩
  | 91 => ⟨S8x128, .f32⟩
  | 92 => ⟨S128x8, .f32⟩
  | _ => ⟨S8192x4624, .f32⟩

abbrev hbmTy (i : Nat) : BufTy := match i / 128 with
  | 0 => hbmTy0_0 i
  | 1 => hbmTy0_1 i
  | _ => ⟨S8192x4624, .f32⟩

abbrev bufTy : (tb : Table) → Fin (tcTables nBuf tb) → BufTy
  | .hbm, ⟨i, _⟩ => hbmTy i
  | _, _ => ⟨S8192x4624, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c : Ref sig .tc := ⟨.hbm, 65, rfl⟩
abbrev main_v48 : Ref sig .tc := ⟨.hbm, 66, rfl⟩
abbrev main_call0_v0 : Ref sig .tc := ⟨.hbm, 67, rfl⟩
abbrev main_call0_c : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_c_0 : Ref sig .tc := ⟨.hbm, 73, rfl⟩
abbrev main_call0_v5 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51_1 : Ref sig .tc := ⟨.hbm, 78, rfl⟩
abbrev main_v51_0 : Ref sig .tc := ⟨.hbm, 79, rfl⟩
abbrev main_call1_cst : Ref sig .tc := ⟨.hbm, 80, rfl⟩
abbrev main_v51_2 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_15 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_16 : Ref sig .tc := ⟨.hbm, 122, rfl⟩
abbrev main_v86 : Ref sig .tc := ⟨.hbm, 123, rfl⟩
abbrev main_v87 : Ref sig .tc := ⟨.hbm, 124, rfl⟩
abbrev main_cst_17 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_18 : Ref sig .tc := ⟨.hbm, 135, rfl⟩
abbrev main_v97 : Ref sig .tc := ⟨.hbm, 136, rfl⟩
abbrev main_v98 : Ref sig .tc := ⟨.hbm, 137, rfl⟩
abbrev main_cst_19 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_call2_cst : Ref sig .tc := ⟨.hbm, 145, rfl⟩
abbrev main_call2_v0 : Ref sig .tc := ⟨.hbm, 146, rfl⟩
abbrev main_v105 : Ref sig .tc := ⟨.hbm, 147, rfl⟩
abbrev main_v106 : Ref sig .tc := ⟨.hbm, 148, rfl⟩
abbrev main_cst_20 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_21 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_22 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_23 : Ref sig .tc := ⟨.hbm, 165, rfl⟩
abbrev main_v120 : Ref sig .tc := ⟨.hbm, 166, rfl⟩
abbrev main_v121 : Ref sig .tc := ⟨.hbm, 167, rfl⟩
abbrev main_cst_24 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_25 : Ref sig .tc := ⟨.hbm, 176, rfl⟩
abbrev main_v129 : Ref sig .tc := ⟨.hbm, 177, rfl⟩
abbrev main_v130 : Ref sig .tc := ⟨.hbm, 178, rfl⟩
abbrev main_cst_26 : Ref sig .tc := ⟨.hbm, 179, rfl⟩
abbrev main_v131 : Ref sig .tc := ⟨.hbm, 180, rfl⟩
abbrev main_v132 : Ref sig .tc := ⟨.hbm, 181, rfl⟩
abbrev main_cst_27 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_28 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_29 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_cst_30 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_cst_31 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_cst_32 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_cst_33 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩

abbrev nD : Nat := 1
abbrev τ : Topo := Topo.v7x

variable {F : FTy → Type} [FloatOps F]
-- ==== Kernel3.lean ====
abbrev S8192x4624 : Shape := ⟨2, ![8192, 4624]⟩
abbrev S8192x1024 : Shape := ⟨2, ![8192, 1024]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S8192x3072 : Shape := ⟨2, ![8192, 3072]⟩
abbrev S8192x16 : Shape := ⟨2, ![8192, 16]⟩
abbrev S_ : Shape := ⟨0, ![]⟩
abbrev S8192x112 : Shape := ⟨2, ![8192, 112]⟩
abbrev S8192x3200 : Shape := ⟨2, ![8192, 3200]⟩
abbrev S8192x1536 : Shape := ⟨2, ![8192, 1536]⟩
abbrev S8x1536 : Shape := ⟨2, ![8, 1536]⟩
abbrev S8200x1536 : Shape := ⟨2, ![8200, 1536]⟩
abbrev S8192x256 : Shape := ⟨2, ![8192, 256]⟩
abbrev S16 : Shape := ⟨1, ![16]⟩
abbrev S8192x16x64 : Shape := ⟨3, ![8192, 16, 64]⟩
abbrev S8192x16x1 : Shape := ⟨3, ![8192, 16, 1]⟩
abbrev S64x128x2x8x64 : Shape := ⟨5, ![64, 128, 2, 8, 64]⟩
abbrev S64x128x2x8 : Shape := ⟨4, ![64, 128, 2, 8]⟩
abbrev S2x8x64x128 : Shape := ⟨4, ![2, 8, 64, 128]⟩
abbrev S64x128x2x128 : Shape := ⟨4, ![64, 128, 2, 128]⟩
abbrev S2x8x64x1 : Shape := ⟨4, ![2, 8, 64, 1]⟩
abbrev S64x128x2x8x1 : Shape := ⟨5, ![64, 128, 2, 8, 1]⟩
abbrev S64x2x8x64x128 : Shape := ⟨5, ![64, 2, 8, 64, 128]⟩
abbrev S2x8x64 : Shape := ⟨3, ![2, 8, 64]⟩
abbrev S2x8x1 : Shape := ⟨3, ![2, 8, 1]⟩
abbrev S2x8x65 : Shape := ⟨3, ![2, 8, 65]⟩
abbrev S2x8x65x1 : Shape := ⟨4, ![2, 8, 65, 1]⟩
abbrev S2x8x1x65 : Shape := ⟨4, ![2, 8, 1, 65]⟩
abbrev S2x8x65x65 : Shape := ⟨4, ![2, 8, 65, 65]⟩
abbrev S65x65 : Shape := ⟨2, ![65, 65]⟩
abbrev S1x2x8x64x128 : Shape := ⟨5, ![1, 2, 8, 64, 128]⟩
abbrev S65x2x8x64x128 : Shape := ⟨5, ![65, 2, 8, 64, 128]⟩
abbrev S2x8x64x128x65 : Shape := ⟨5, ![2, 8, 64, 128, 65]⟩
abbrev S8192x2688 : Shape := ⟨2, ![8192, 2688]⟩
abbrev S128x1024 : Shape := ⟨2, ![128, 1024]⟩
abbrev S128x1536 : Shape := ⟨2, ![128, 1536]⟩
abbrev S128x128 : Shape := ⟨2, ![128, 128]⟩
abbrev S128x2688 : Shape := ⟨2, ![128, 2688]⟩
abbrev S136x1536 : Shape := ⟨2, ![136, 1536]⟩
abbrev S4x8x1536 : Shape := ⟨3, ![4, 8, 1536]⟩
abbrev S128x16 : Shape := ⟨2, ![128, 16]⟩
abbrev S16x1024 : Shape := ⟨2, ![16, 1024]⟩
abbrev S16x128 : Shape := ⟨2, ![16, 128]⟩
abbrev S128x1 : Shape := ⟨2, ![128, 1]⟩
abbrev S1x128 : Shape := ⟨2, ![1, 128]⟩
abbrev S128x64 : Shape := ⟨2, ![128, 64]⟩
abbrev S128x512 : Shape := ⟨2, ![128, 512]⟩
abbrev S128 : Shape := ⟨1, ![128]⟩
abbrev S1024 : Shape := ⟨1, ![1024]⟩
abbrev S512x128 : Shape := ⟨2, ![512, 128]⟩
abbrev S64x128 : Shape := ⟨2, ![64, 128]⟩
abbrev S128x960 : Shape := ⟨2, ![128, 960]⟩
abbrev S15x128 : Shape := ⟨2, ![15, 128]⟩
abbrev S128x15 : Shape := ⟨2, ![128, 15]⟩
abbrev S128x896 : Shape := ⟨2, ![128, 896]⟩
abbrev S14x128 : Shape := ⟨2, ![14, 128]⟩
abbrev S128x14 : Shape := ⟨2, ![128, 14]⟩
abbrev S128x832 : Shape := ⟨2, ![128, 832]⟩
abbrev S13x128 : Shape := ⟨2, ![13, 128]⟩
abbrev S2x128 : Shape := ⟨2, ![2, 128]⟩
abbrev S128x13 : Shape := ⟨2, ![128, 13]⟩
abbrev S128x2 : Shape := ⟨2, ![128, 2]⟩
abbrev S128x768 : Shape := ⟨2, ![128, 768]⟩
abbrev S128x192 : Shape := ⟨2, ![128, 192]⟩
abbrev S12x128 : Shape := ⟨2, ![12, 128]⟩
abbrev S3x128 : Shape := ⟨2, ![3, 128]⟩
abbrev S128x12 : Shape := ⟨2, ![128, 12]⟩
abbrev S128x3 : Shape := ⟨2, ![128, 3]⟩
abbrev S128x704 : Shape := ⟨2, ![128, 704]⟩
abbrev S128x256 : Shape := ⟨2, ![128, 256]⟩
abbrev S11x128 : Shape := ⟨2, ![11, 128]⟩
abbrev S4x128 : Shape := ⟨2, ![4, 128]⟩
abbrev S128x11 : Shape := ⟨2, ![128, 11]⟩
abbrev S128x4 : Shape := ⟨2, ![128, 4]⟩
abbrev S128x640 : Shape := ⟨2, ![128, 640]⟩
abbrev S128x320 : Shape := ⟨2, ![128, 320]⟩
abbrev S10x128 : Shape := ⟨2, ![10, 128]⟩
abbrev S5x128 : Shape := ⟨2, ![5, 128]⟩
abbrev S128x10 : Shape := ⟨2, ![128, 10]⟩
abbrev S128x5 : Shape := ⟨2, ![128, 5]⟩
abbrev S128x576 : Shape := ⟨2, ![128, 576]⟩
abbrev S128x384 : Shape := ⟨2, ![128, 384]⟩
abbrev S9x128 : Shape := ⟨2, ![9, 128]⟩
abbrev S6x128 : Shape := ⟨2, ![6, 128]⟩
abbrev S128x9 : Shape := ⟨2, ![128, 9]⟩
abbrev S128x6 : Shape := ⟨2, ![128, 6]⟩
abbrev S128x448 : Shape := ⟨2, ![128, 448]⟩
abbrev S8x128 : Shape := ⟨2, ![8, 128]⟩
abbrev S7x128 : Shape := ⟨2, ![7, 128]⟩
abbrev S128x8 : Shape := ⟨2, ![128, 8]⟩
abbrev S128x7 : Shape := ⟨2, ![128, 7]⟩
abbrev S128x1408 : Shape := ⟨2, ![128, 1408]⟩
abbrev S128x1152 : Shape := ⟨2, ![128, 1152]⟩
abbrev S128x1280 : Shape := ⟨2, ![128, 1280]⟩
abbrev S127x16 : Shape := ⟨2, ![127, 16]⟩
abbrev S1x8x1536 : Shape := ⟨3, ![1, 8, 1536]⟩
abbrev S16x8x1536 : Shape := ⟨3, ![16, 8, 1536]⟩
abbrev S1536 : Shape := ⟨1, ![1536]⟩
abbrev S128x112 : Shape := ⟨2, ![128, 112]⟩
abbrev S8192x2560 : Shape := ⟨2, ![8192, 2560]⟩

abbrev nBuf : Space → Nat
  | .hbm => 144
  | .vmem => 29
  | .smem => 0
  | _ => 0

abbrev hbmTy0_0 (i : Nat) : BufTy := match i % 128 with
  | 0 => ⟨S8192x4624, .f32⟩
  | 1 => ⟨S8192x1024, .f32⟩
  | 2 => ⟨S4x1536, .f32⟩
  | 3 => ⟨S1x1536, .f32⟩
  | 4 => ⟨S1x16, .f32⟩
  | 5 => ⟨S1x16, .f32⟩
  | 6 => ⟨S1x16, .f32⟩
  | 7 => ⟨S1x1024, .f32⟩
  | 8 => ⟨S8192x3072, .f32⟩
  | 9 => ⟨S8192x16, .f32⟩
  | 10 => ⟨S_, .f32⟩
  | 11 => ⟨S8192x112, .f32⟩
  | 12 => ⟨S8192x3200, .f32⟩
  | 13 => ⟨S8192x1536, .f32⟩
  | 14 => ⟨S_, .f32⟩
  | 15 => ⟨S8x1536, .f32⟩
  | 16 => ⟨S8200x1536, .f32⟩
  | 17 => ⟨S1x1536, .f32⟩
  | 18 => ⟨S8192x1536, .f32⟩
  | 19 => ⟨S8192x1536, .f32⟩
  | 20 => ⟨S8192x1536, .f32⟩
  | 21 => ⟨S8192x1536, .f32⟩
  | 22 => ⟨S8192x1536, .f32⟩
  | 23 => ⟨S1x1536, .f32⟩
  | 24 => ⟨S8192x1536, .f32⟩
  | 25 => ⟨S8192x1536, .f32⟩
  | 26 => ⟨S8192x1536, .f32⟩
  | 27 => ⟨S8192x1536, .f32⟩
  | 28 => ⟨S1x1536, .f32⟩
  | 29 => ⟨S8192x1536, .f32⟩
  | 30 => ⟨S8192x1536, .f32⟩
  | 31 => ⟨S8192x1536, .f32⟩
  | 32 => ⟨S8192x1536, .f32⟩
  | 33 => ⟨S1x1536, .f32⟩
  | 34 => ⟨S8192x1536, .f32⟩
  | 35 => ⟨S8192x1536, .f32⟩
  | 36 => ⟨S8192x1536, .f32⟩
  | 37 => ⟨S8192x1536, .f32⟩
  | 38 => ⟨S8192x16, .f32⟩
  | 39 => ⟨S8192x1536, .f32⟩
  | 40 => ⟨S8192x1536, .f32⟩
  | 41 => ⟨S_, .f32⟩
  | 42 => ⟨S8192x1536, .f32⟩
  | 43 => ⟨S8192x1536, .f32⟩
  | 44 => ⟨S_, .f32⟩
  | 45 => ⟨S8192x1536, .f32⟩
  | 46 => ⟨S8192x1536, .f32⟩
  | 47 => ⟨S8192x1536, .f32⟩
  | 48 => ⟨S8192x1024, .f32⟩
  | 49 => ⟨S8192x256, .f32⟩
  | 50 => ⟨S8192x256, .f32⟩
  | 51 => ⟨S16, .f32⟩
  | 52 => ⟨S1x16, .f32⟩
  | 53 => ⟨S8192x16, .f32⟩
  | 54 => ⟨S8192x16, .f32⟩
  | 55 => ⟨S_, .f32⟩
  | 56 => ⟨S8192x16, .f32⟩
  | 57 => ⟨S8192x16, .f32⟩
  | 58 => ⟨S8192x16, .f32⟩
  | 59 => ⟨S8192x16, .f32⟩
  | 60 => ⟨S8192x16, .i1⟩
  | 61 => ⟨S8192x16, .f32⟩
  | 62 => ⟨S8192x16, .f32⟩
  | 63 => ⟨S8192x16, .f32⟩
  | 64 => ⟨S8192x16, .f32⟩
  | 65 => ⟨S8192x16, .f32⟩
  | 66 => ⟨S8192x16, .f32⟩
  | 67 => ⟨S8192x16, .f32⟩
  | 68 => ⟨S8192x16, .f32⟩
  | 69 => ⟨S8192x16x64, .f32⟩
  | 70 => ⟨S8192x16x1, .f32⟩
  | 71 => ⟨S8192x16x64, .f32⟩
  | 72 => ⟨S8192x16x64, .f32⟩
  | 73 => ⟨S64x128x2x8x64, .f32⟩
  | 74 => ⟨S16, .f32⟩
  | 75 => ⟨S16, .f32⟩
  | 76 => ⟨S16, .f32⟩
  | 77 => ⟨S1x16, .f32⟩
  | 78 => ⟨S8192x16, .f32⟩
  | 79 => ⟨S8192x16, .f32⟩
  | 80 => ⟨S64x128x2x8, .f32⟩
  | 81 => ⟨S2x8x64x128, .f32⟩
  | 82 => ⟨S64x128x2x128, .f32⟩
  | 83 => ⟨S_, .f32⟩
  | 84 => ⟨S_, .f32⟩
  | 85 => ⟨S2x8x64x128, .f32⟩
  | 86 => ⟨S2x8x64x1, .f32⟩
  | 87 => ⟨S2x8x64x128, .f32⟩
  | 88 => ⟨S2x8x64x128, .f32⟩
  | 89 => ⟨S2x8x64x128, .f32⟩
  | 90 => ⟨S64x128x2x8, .f32⟩
  | 91 => ⟨S64x128x2x8x1, .f32⟩
  | 92 => ⟨S64x128x2x8x64, .f32⟩
  | 93 => ⟨S64x128x2x8x64, .f32⟩
  | 94 => ⟨S64x2x8x64x128, .f32⟩
  | 95 => ⟨S2x8x64x1, .f32⟩
  | 96 => ⟨S2x8x64, .f32⟩
  | 97 => ⟨S2x8x1, .f32⟩
  | 98 => ⟨S_, .f32⟩
  | 99 => ⟨S2x8x1, .f32⟩
  | 100 => ⟨S2x8x65, .f32⟩
  | 101 => ⟨S_, .f32⟩
  | 102 => ⟨S_, .f32⟩
  | 103 => ⟨S2x8x65, .f32⟩
  | 104 => ⟨S2x8x65x1, .f32⟩
  | 105 => ⟨S2x8x1x65, .f32⟩
  | 106 => ⟨S2x8x65x65, .f32⟩
  | 107 => ⟨S2x8x65x65, .f32⟩
  | 108 => ⟨S2x8x65x65, .f32⟩
  | 109 => ⟨S_, .i1⟩
  | 110 => ⟨S65x65, .i1⟩
  | 111 => ⟨S65x65, .i32⟩
  | 112 => ⟨S_, .i32⟩
  | 113 => ⟨S65x65, .i32⟩
  | 114 => ⟨S65x65, .i32⟩
  | 115 => ⟨S65x65, .i32⟩
  | 116 => ⟨S65x65, .i1⟩
  | 117 => ⟨S_, .i1⟩
  | 118 => ⟨S65x65, .i1⟩
  | 119 => ⟨S65x65, .i1⟩
  | 120 => ⟨S_, .f32⟩
  | 121 => ⟨S_, .f32⟩
  | 122 => ⟨S2x8x65x65, .i1⟩
  | 123 => ⟨S2x8x65x65, .f32⟩
  | 124 => ⟨S2x8x65x65, .f32⟩
  | 125 => ⟨S2x8x65x65, .f32⟩
  | 126 => ⟨S1x2x8x64x128, .f32⟩
  | 127 => ⟨S_, .f32⟩
  | _ => ⟨S8192x4624, .f32⟩

abbrev hbmTy0_1 (i : Nat) : BufTy := match i % 128 with
  | 0 => ⟨S1x2x8x64x128, .f32⟩
  | 1 => ⟨S65x2x8x64x128, .f32⟩
  | 2 => ⟨S2x8x64x128x65, .f32⟩
  | 3 => ⟨S65x2x8x64x128, .f32⟩
  | 4 => ⟨S64x2x8x64x128, .f32⟩
  | 5 => ⟨S64x128x2x8x64, .f32⟩
  | 6 => ⟨S8192x1024, .f32⟩
  | 7 => ⟨S8192x1536, .bf16⟩
  | 8 => ⟨S8192x2688, .bf16⟩
  | 9 => ⟨S4x1536, .f32⟩
  | 10 => ⟨S1x1536, .f32⟩
  | 11 => ⟨S1x16, .f32⟩
  | 12 => ⟨S1x16, .f32⟩
  | 13 => ⟨S1x16, .f32⟩
  | 14 => ⟨S1x1024, .f32⟩
  | 15 => ⟨S8192x2560, .bf16⟩
  | _ => ⟨S8192x4624, .f32⟩

abbrev hbmTy (i : Nat) : BufTy := match i / 128 with
  | 0 => hbmTy0_0 i
  | 1 => hbmTy0_1 i
  | _ => ⟨S8192x4624, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S128x1024, .f32⟩
  | .local _ .vmem, ⟨2, _⟩ => ⟨S128x1536, .bf16⟩
  | .local _ .vmem, ⟨3, _⟩ => ⟨S128x1536, .bf16⟩
  | .local _ .vmem, ⟨4, _⟩ => ⟨S128x1536, .f32⟩
  | .local _ .vmem, ⟨5, _⟩ => ⟨S128x1536, .f32⟩
  | .local _ .vmem, ⟨6, _⟩ => ⟨S128x128, .f32⟩
  | .local _ .vmem, ⟨7, _⟩ => ⟨S128x128, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S4x1536, .f32⟩
  | .local _ .vmem, ⟨13, _⟩ => ⟨S1x16, .f32⟩
  | .local _ .vmem, ⟨14, _⟩ => ⟨S1x16, .f32⟩
  | .local _ .vmem, ⟨15, _⟩ => ⟨S1x16, .f32⟩
  | .local _ .vmem, ⟨16, _⟩ => ⟨S1x1024, .f32⟩
  | .local _ .vmem, ⟨17, _⟩ => ⟨S128x2688, .bf16⟩
  | .local _ .vmem, ⟨18, _⟩ => ⟨S128x2688, .bf16⟩
  | .local _ .vmem, ⟨19, _⟩ => ⟨S4x1536, .f32⟩
  | .local _ .vmem, ⟨20, _⟩ => ⟨S1x1536, .f32⟩
  | .local _ .vmem, ⟨21, _⟩ => ⟨S1x16, .f32⟩
  | .local _ .vmem, ⟨22, _⟩ => ⟨S1x16, .f32⟩
  | .local _ .vmem, ⟨23, _⟩ => ⟨S1x16, .f32⟩
  | .local _ .vmem, ⟨24, _⟩ => ⟨S1x1024, .f32⟩
  | .local _ .vmem, ⟨25, _⟩ => ⟨S136x1536, .f32⟩
  | .local _ .vmem, ⟨26, _⟩ => ⟨S128x1024, .f32⟩
  | .local _ .vmem, ⟨27, _⟩ => ⟨S4x8x1536, .f32⟩
  | .local _ .vmem, ⟨28, _⟩ => ⟨S8x1536, .f32⟩
  | _, _ => ⟨S8192x4624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call2_call0_cst : Ref sig .tc := ⟨.hbm, 83, rfl⟩
abbrev main_call2_call0_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_1 : Ref sig .tc := ⟨.hbm, 98, rfl⟩
abbrev main_v65 : Ref sig .tc := ⟨.hbm, 99, rfl⟩
abbrev main_v66 : Ref sig .tc := ⟨.hbm, 100, rfl⟩
abbrev main_call3_call0_cst : Ref sig .tc := ⟨.hbm, 101, rfl⟩
abbrev main_call3_call0_v0 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c : Ref sig .tc := ⟨.hbm, 109, rfl⟩
abbrev main_v73 : Ref sig .tc := ⟨.hbm, 110, rfl⟩
abbrev main_call4_v0 : Ref sig .tc := ⟨.hbm, 111, rfl⟩
abbrev main_call4_c : Ref sig .tc := ⟨.hbm, 112, rfl⟩
abbrev main_call4_v1 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_c_0 : Ref sig .tc := ⟨.hbm, 117, rfl⟩
abbrev main_call4_v5 : Ref sig .tc := ⟨.hbm, 118, rfl⟩
abbrev main_v74 : Ref sig .tc := ⟨.hbm, 119, rfl⟩
abbrev main_cst_2 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_3 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86_0 : Ref sig .tc := ⟨.hbm, 136, rfl⟩
abbrev main_v86_1 : Ref sig .tc := ⟨.hbm, 137, rfl⟩
abbrev main_v86_2 : Ref sig .tc := ⟨.hbm, 138, rfl⟩
abbrev main_v86_3 : Ref sig .tc := ⟨.hbm, 139, rfl⟩
abbrev main_v86_4 : Ref sig .tc := ⟨.hbm, 140, rfl⟩
abbrev main_v86_5 : Ref sig .tc := ⟨.hbm, 141, rfl⟩
abbrev main_v86_6 : Ref sig .tc := ⟨.hbm, 142, rfl⟩
abbrev main_v87 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let c63_i32 : BitVec 32 := 63#32
  let arg0 : BitVec 32 := BitVec.ofNat 32 (i 0).val
  let v3 : BitVec 32 := Scalar.subi c63_i32 arg0
  let c0_i32_361 : BitVec 32 := 0#32
  let v1327 : BitVec 1 := Scalar.cmpi .eq v3 c0_i32_361
  let v1328 : BitVec 32 := Scalar.extui v1327
  let c0_i32_362 : BitVec 32 := 0#32
  let v1329 : BitVec 1 := Scalar.cmpi .ne v1328 c0_i32_362
  v1329

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c24_i32 : BitVec 32 := 24#32
  let c0_i32 : BitVec 32 := 0#32
  ![v0.toNat, c24_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x2688 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference3Ideal.lean ====
abbrev S8192x4624 : Shape := ⟨2, ![8192, 4624]⟩
abbrev S8192x1024 : Shape := ⟨2, ![8192, 1024]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S8192x1536 : Shape := ⟨2, ![8192, 1536]⟩
abbrev S8192x16 : Shape := ⟨2, ![8192, 16]⟩
abbrev S1536 : Shape := ⟨1, ![1536]⟩
abbrev S16 : Shape := ⟨1, ![16]⟩
abbrev S1024 : Shape := ⟨1, ![1024]⟩
abbrev S_ : Shape := ⟨0, ![]⟩
abbrev S3x1536 : Shape := ⟨2, ![3, 1536]⟩
abbrev S8195x1536 : Shape := ⟨2, ![8195, 1536]⟩
abbrev S8192x256 : Shape := ⟨2, ![8192, 256]⟩
abbrev S8192x16x64 : Shape := ⟨3, ![8192, 16, 64]⟩
abbrev S8192x2x128 : Shape := ⟨3, ![8192, 2, 128]⟩
abbrev S8192x16x1 : Shape := ⟨3, ![8192, 16, 1]⟩
abbrev S64x128x2x8x64 : Shape := ⟨5, ![64, 128, 2, 8, 64]⟩
abbrev S64x128x2x8 : Shape := ⟨4, ![64, 128, 2, 8]⟩
abbrev S2x8x64x128 : Shape := ⟨4, ![2, 8, 64, 128]⟩
abbrev S64x128x2x128 : Shape := ⟨4, ![64, 128, 2, 128]⟩
abbrev S2x8x64x128x1 : Shape := ⟨5, ![2, 8, 64, 128, 1]⟩
abbrev S2x8x64x1x128 : Shape := ⟨5, ![2, 8, 64, 1, 128]⟩
abbrev S2x8x64x128x128 : Shape := ⟨5, ![2, 8, 64, 128, 128]⟩
abbrev S128x128 : Shape := ⟨2, ![128, 128]⟩
abbrev S2x64x128x128 : Shape := ⟨4, ![2, 64, 128, 128]⟩
abbrev S2x1x64x128x128 : Shape := ⟨5, ![2, 1, 64, 128, 128]⟩
abbrev S64x2x8x64x128 : Shape := ⟨5, ![64, 2, 8, 64, 128]⟩
abbrev S2x8x64x1 : Shape := ⟨4, ![2, 8, 64, 1]⟩
abbrev S64x128x2x8x1 : Shape := ⟨5, ![64, 128, 2, 8, 1]⟩
abbrev S2x8x64 : Shape := ⟨3, ![2, 8, 64]⟩
abbrev S2x8x1 : Shape := ⟨3, ![2, 8, 1]⟩
abbrev S2x8x65 : Shape := ⟨3, ![2, 8, 65]⟩
abbrev S2x8x65x1 : Shape := ⟨4, ![2, 8, 65, 1]⟩
abbrev S2x8x1x65 : Shape := ⟨4, ![2, 8, 1, 65]⟩
abbrev S2x8x65x65 : Shape := ⟨4, ![2, 8, 65, 65]⟩
abbrev S65x65 : Shape := ⟨2, ![65, 65]⟩
abbrev S1x2x8x64x128 : Shape := ⟨5, ![1, 2, 8, 64, 128]⟩
abbrev S65x2x8x64x128 : Shape := ⟨5, ![65, 2, 8, 64, 128]⟩
abbrev S2x8x64x128x65 : Shape := ⟨5, ![2, 8, 64, 128, 65]⟩
abbrev S16x1 : Shape := ⟨2, ![16, 1]⟩
abbrev S1x16x1 : Shape := ⟨3, ![1, 16, 1]⟩
abbrev S8192x2x512 : Shape := ⟨3, ![8192, 2, 512]⟩
abbrev S8192x2 : Shape := ⟨2, ![8192, 2]⟩
abbrev S8192x2x1 : Shape := ⟨3, ![8192, 2, 1]⟩
abbrev S64x2x128x128 : Shape := ⟨4, ![64, 2, 128, 128]⟩
abbrev S64x2x8x128x128 : Shape := ⟨5, ![64, 2, 8, 128, 128]⟩
abbrev S8192x2560 : Shape := ⟨2, ![8192, 2560]⟩

abbrev nBuf : Space → Nat
  | .hbm => 535
  | .vmem => 0
  | .smem => 0
  | _ => 0

abbrev hbmTy0_0 (i : Nat) : BufTy := match i % 128 with
  | 0 => ⟨S8192x4624, .f32⟩
  | 1 => ⟨S8192x1024, .f32⟩
  | 2 => ⟨S4x1536, .f32⟩
  | 3 => ⟨S1x1536, .f32⟩
  | 4 => ⟨S1x16, .f32⟩
  | 5 => ⟨S1x16, .f32⟩
  | 6 => ⟨S1x16, .f32⟩
  | 7 => ⟨S1x1024, .f32⟩
  | 8 => ⟨S8192x1024, .f32⟩
  | 9 => ⟨S8192x1536, .f32⟩
  | 10 => ⟨S8192x16, .f32⟩
  | 11 => ⟨S1536, .f32⟩
  | 12 => ⟨S16, .f32⟩
  | 13 => ⟨S16, .f32⟩
  | 14 => ⟨S16, .f32⟩
  | 15 => ⟨S1024, .f32⟩
  | 16 => ⟨S_, .f32⟩
  | 17 => ⟨S3x1536, .f32⟩
  | 18 => ⟨S8195x1536, .f32⟩
  | 19 => ⟨S_, .f32⟩
  | 20 => ⟨S3x1536, .f32⟩
  | 21 => ⟨S8192x1536, .f32⟩
  | 22 => ⟨S1x1536, .f32⟩
  | 23 => ⟨S1536, .f32⟩
  | 24 => ⟨S1x1536, .f32⟩
  | 25 => ⟨S8192x1536, .f32⟩
  | 26 => ⟨S8192x1536, .f32⟩
  | 27 => ⟨S8192x1536, .f32⟩
  | 28 => ⟨S1x1536, .f32⟩
  | 29 => ⟨S1536, .f32⟩
  | 30 => ⟨S1x1536, .f32⟩
  | 31 => ⟨S8192x1536, .f32⟩
  | 32 => ⟨S8192x1536, .f32⟩
  | 33 => ⟨S8192x1536, .f32⟩
  | 34 => ⟨S8192x1536, .f32⟩
  | 35 => ⟨S1x1536, .f32⟩
  | 36 => ⟨S1536, .f32⟩
  | 37 => ⟨S1x1536, .f32⟩
  | 38 => ⟨S8192x1536, .f32⟩
  | 39 => ⟨S8192x1536, .f32⟩
  | 40 => ⟨S8192x1536, .f32⟩
  | 41 => ⟨S8192x1536, .f32⟩
  | 42 => ⟨S1x1536, .f32⟩
  | 43 => ⟨S1536, .f32⟩
  | 44 => ⟨S1x1536, .f32⟩
  | 45 => ⟨S8192x1536, .f32⟩
  | 46 => ⟨S8192x1536, .f32⟩
  | 47 => ⟨S8192x1536, .f32⟩
  | 48 => ⟨S1x1536, .f32⟩
  | 49 => ⟨S8192x1536, .f32⟩
  | 50 => ⟨S8192x1536, .f32⟩
  | 51 => ⟨S8192x1536, .f32⟩
  | 52 => ⟨S8192x1536, .f32⟩
  | 53 => ⟨S_, .f32⟩
  | 54 => ⟨S8192x1536, .f32⟩
  | 55 => ⟨S8192x1536, .f32⟩
  | 56 => ⟨S_, .f32⟩
  | 57 => ⟨S8192x1536, .f32⟩
  | 58 => ⟨S8192x1536, .f32⟩
  | 59 => ⟨S_, .f32⟩
  | 60 => ⟨S8192x1536, .f32⟩
  | 61 => ⟨S8192x1536, .f32⟩
  | 62 => ⟨S8192x1536, .f32⟩
  | 63 => ⟨S8192x1536, .f32⟩
  | 64 => ⟨S8192x1024, .f32⟩
  | 65 => ⟨S8192x256, .f32⟩
  | 66 => ⟨S8192x256, .f32⟩
  | 67 => ⟨S8192x16x64, .f32⟩
  | 68 => ⟨S8192x2x128, .f32⟩
  | 69 => ⟨S8192x2x128, .f32⟩
  | 70 => ⟨S1x16, .f32⟩
  | 71 => ⟨S8192x16, .f32⟩
  | 72 => ⟨S8192x16, .f32⟩
  | 73 => ⟨S_, .f32⟩
  | 74 => ⟨S8192x16, .f32⟩
  | 75 => ⟨S8192x16, .f32⟩
  | 76 => ⟨S8192x16, .f32⟩
  | 77 => ⟨S8192x16, .f32⟩
  | 78 => ⟨S8192x16, .i1⟩
  | 79 => ⟨S8192x16, .f32⟩
  | 80 => ⟨S8192x16, .f32⟩
  | 81 => ⟨S8192x16, .f32⟩
  | 82 => ⟨S8192x16, .f32⟩
  | 83 => ⟨S8192x16, .f32⟩
  | 84 => ⟨S8192x16, .f32⟩
  | 85 => ⟨S8192x16, .f32⟩
  | 86 => ⟨S8192x16, .f32⟩
  | 87 => ⟨S_, .f32⟩
  | 88 => ⟨S8192x16, .f32⟩
  | 89 => ⟨S8192x16, .i1⟩
  | 90 => ⟨S_, .f32⟩
  | 91 => ⟨S8192x16, .f32⟩
  | 92 => ⟨S8192x16, .f32⟩
  | 93 => ⟨S_, .f32⟩
  | 94 => ⟨S8192x16, .f32⟩
  | 95 => ⟨S8192x16, .i1⟩
  | 96 => ⟨S_, .f32⟩
  | 97 => ⟨S8192x16, .f32⟩
  | 98 => ⟨S8192x16, .f32⟩
  | 99 => ⟨S8192x16, .f32⟩
  | 100 => ⟨S8192x16, .f32⟩
  | 101 => ⟨S_, .f32⟩
  | 102 => ⟨S_, .f32⟩
  | 103 => ⟨S_, .i1⟩
  | 104 => ⟨S_, .f32⟩
  | 105 => ⟨S_, .f32⟩
  | 106 => ⟨S_, .f32⟩
  | 107 => ⟨S_, .f32⟩
  | 108 => ⟨S8192x16, .f32⟩
  | 109 => ⟨S8192x16, .i1⟩
  | 110 => ⟨S_, .f32⟩
  | 111 => ⟨S8192x16, .f32⟩
  | 112 => ⟨S8192x16, .f32⟩
  | 113 => ⟨S8192x16, .f32⟩
  | 114 => ⟨S8192x16, .f32⟩
  | 115 => ⟨S8192x16, .f32⟩
  | 116 => ⟨S_, .f32⟩
  | 117 => ⟨S8192x16, .f32⟩
  | 118 => ⟨S8192x16, .f32⟩
  | 119 => ⟨S16, .f32⟩
  | 120 => ⟨S16, .f32⟩
  | 121 => ⟨S8192x16x1, .f32⟩
  | 122 => ⟨S8192x16x64, .f32⟩
  | 123 => ⟨S8192x16x64, .f32⟩
  | 124 => ⟨S64x128x2x8x64, .f32⟩
  | 125 => ⟨S1x16, .f32⟩
  | 126 => ⟨S8192x16, .f32⟩
  | 127 => ⟨S8192x16, .f32⟩
  | _ => ⟨S8192x4624, .f32⟩

abbrev hbmTy0_1 (i : Nat) : BufTy := match i % 128 with
  | 0 => ⟨S64x128x2x8, .f32⟩
  | 1 => ⟨S2x8x64x128, .f32⟩
  | 2 => ⟨S64x128x2x128, .f32⟩
  | 3 => ⟨S64x128x2x128, .f32⟩
  | 4 => ⟨S_, .f32⟩
  | 5 => ⟨S_, .f32⟩
  | 6 => ⟨S2x8x64x128, .f32⟩
  | 7 => ⟨S2x8x64x128x1, .f32⟩
  | 8 => ⟨S2x8x64x1x128, .f32⟩
  | 9 => ⟨S2x8x64x128x128, .f32⟩
  | 10 => ⟨S2x8x64x128x128, .f32⟩
  | 11 => ⟨S2x8x64x128x128, .f32⟩
  | 12 => ⟨S_, .i1⟩
  | 13 => ⟨S128x128, .i1⟩
  | 14 => ⟨S128x128, .i32⟩
  | 15 => ⟨S_, .i32⟩
  | 16 => ⟨S128x128, .i32⟩
  | 17 => ⟨S128x128, .i32⟩
  | 18 => ⟨S128x128, .i32⟩
  | 19 => ⟨S128x128, .i1⟩
  | 20 => ⟨S_, .i1⟩
  | 21 => ⟨S128x128, .i1⟩
  | 22 => ⟨S128x128, .i1⟩
  | 23 => ⟨S_, .f32⟩
  | 24 => ⟨S_, .f32⟩
  | 25 => ⟨S2x8x64x128x128, .i1⟩
  | 26 => ⟨S2x8x64x128x128, .f32⟩
  | 27 => ⟨S2x8x64x128x128, .f32⟩
  | 28 => ⟨S_, .f32⟩
  | 29 => ⟨S2x8x64x128x128, .f32⟩
  | 30 => ⟨S2x8x64x128x128, .f32⟩
  | 31 => ⟨S2x64x128x128, .f32⟩
  | 32 => ⟨S2x1x64x128x128, .f32⟩
  | 33 => ⟨S2x8x64x128x128, .f32⟩
  | 34 => ⟨S2x8x64x128x128, .f32⟩
  | 35 => ⟨S64x2x8x64x128, .f32⟩
  | 36 => ⟨S64x128x2x8x64, .f32⟩
  | 37 => ⟨S2x8x64x1, .f32⟩
  | 38 => ⟨S2x8x64x128, .f32⟩
  | 39 => ⟨S2x8x64x128, .f32⟩
  | 40 => ⟨S2x8x64x128, .f32⟩
  | 41 => ⟨S64x128x2x8, .f32⟩
  | 42 => ⟨S64x128x2x8x1, .f32⟩
  | 43 => ⟨S64x128x2x8x64, .f32⟩
  | 44 => ⟨S64x128x2x8x64, .f32⟩
  | 45 => ⟨S64x2x8x64x128, .f32⟩
  | 46 => ⟨S2x8x64x1, .f32⟩
  | 47 => ⟨S2x8x64, .f32⟩
  | 48 => ⟨S2x8x1, .f32⟩
  | 49 => ⟨S_, .f32⟩
  | 50 => ⟨S2x8x1, .f32⟩
  | 51 => ⟨S2x8x65, .f32⟩
  | 52 => ⟨S_, .f32⟩
  | 53 => ⟨S2x8x1, .f32⟩
  | 54 => ⟨S_, .f32⟩
  | 55 => ⟨S_, .f32⟩
  | 56 => ⟨S2x8x65, .f32⟩
  | 57 => ⟨S2x8x65x1, .f32⟩
  | 58 => ⟨S2x8x1x65, .f32⟩
  | 59 => ⟨S2x8x65x65, .f32⟩
  | 60 => ⟨S2x8x65x65, .f32⟩
  | 61 => ⟨S2x8x65x65, .f32⟩
  | 62 => ⟨S_, .i1⟩
  | 63 => ⟨S65x65, .i1⟩
  | 64 => ⟨S65x65, .i32⟩
  | 65 => ⟨S_, .i32⟩
  | 66 => ⟨S65x65, .i32⟩
  | 67 => ⟨S65x65, .i32⟩
  | 68 => ⟨S65x65, .i32⟩
  | 69 => ⟨S65x65, .i1⟩
  | 70 => ⟨S_, .i1⟩
  | 71 => ⟨S65x65, .i1⟩
  | 72 => ⟨S65x65, .i1⟩
  | 73 => ⟨S_, .f32⟩
  | 74 => ⟨S_, .f32⟩
  | 75 => ⟨S2x8x65x65, .i1⟩
  | 76 => ⟨S2x8x65x65, .f32⟩
  | 77 => ⟨S2x8x65x65, .f32⟩
  | 78 => ⟨S_, .f32⟩
  | 79 => ⟨S2x8x65x65, .f32⟩
  | 80 => ⟨S2x8x65x65, .f32⟩
  | 81 => ⟨S1x2x8x64x128, .f32⟩
  | 82 => ⟨S_, .f32⟩
  | 83 => ⟨S1x2x8x64x128, .f32⟩
  | 84 => ⟨S65x2x8x64x128, .f32⟩
  | 85 => ⟨S_, .f32⟩
  | 86 => ⟨S1x2x8x64x128, .f32⟩
  | 87 => ⟨S2x8x64x128x65, .f32⟩
  | 88 => ⟨S65x2x8x64x128, .f32⟩
  | 89 => ⟨S64x2x8x64x128, .f32⟩
  | 90 => ⟨S2x8x64x128, .f32⟩
  | 91 => ⟨S64x128x2x8, .f32⟩
  | 92 => ⟨S64x2x8x64x128, .f32⟩
  | 93 => ⟨S64x128x2x8x64, .f32⟩
  | 94 => ⟨S64x128x2x8x1, .f32⟩
  | 95 => ⟨S64x128x2x8x64, .f32⟩
  | 96 => ⟨S64x128x2x8x64, .f32⟩
  | 97 => ⟨S64x128x2x8x64, .f32⟩
  | 98 => ⟨S8192x16x64, .f32⟩
  | 99 => ⟨S16x1, .f32⟩
  | 100 => ⟨S1x16x1, .f32⟩
  | 101 => ⟨S8192x16x64, .f32⟩
  | 102 => ⟨S8192x16x64, .f32⟩
  | 103 => ⟨S8192x16x64, .f32⟩
  | 104 => ⟨S8192x1024, .f32⟩
  | 105 => ⟨S8192x1024, .f32⟩
  | 106 => ⟨S8192x1024, .f32⟩
  | 107 => ⟨S_, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S_, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x2x512, .f32⟩
  | 120 => ⟨S8192x2x512, .f32⟩
  | 121 => ⟨S_, .f32⟩
  | 122 => ⟨S8192x2, .f32⟩
  | 123 => ⟨S8192x2x1, .f32⟩
  | 124 => ⟨S_, .f32⟩
  | 125 => ⟨S8192x2x1, .f32⟩
  | 126 => ⟨S8192x2x1, .f32⟩
  | 127 => ⟨S_, .f32⟩
  | _ => ⟨S8192x4624, .f32⟩

abbrev hbmTy0_2 (i : Nat) : BufTy := match i % 128 with
  | 0 => ⟨S8192x2x1, .f32⟩
  | 1 => ⟨S8192x2x1, .f32⟩
  | 2 => ⟨S8192x2x1, .f32⟩
  | 3 => ⟨S8192x2x1, .f32⟩
  | 4 => ⟨S_, .f32⟩
  | 5 => ⟨S8192x2x1, .f32⟩
  | 6 => ⟨S8192x2x1, .f32⟩
  | 7 => ⟨S8192x2x512, .f32⟩
  | 8 => ⟨S8192x2x512, .f32⟩
  | 9 => ⟨S8192x1024, .f32⟩
  | 10 => ⟨S1x1024, .f32⟩
  | 11 => ⟨S8192x1024, .f32⟩
  | 12 => ⟨S8192x1024, .f32⟩
  | 13 => ⟨S8192x1024, .f32⟩
  | 14 => ⟨S_, .f32⟩
  | 15 => ⟨S1024, .f32⟩
  | 16 => ⟨S1x1024, .f32⟩
  | 17 => ⟨S8192x1024, .f32⟩
  | 18 => ⟨S8192x1024, .f32⟩
  | 19 => ⟨S_, .f32⟩
  | 20 => ⟨S1024, .f32⟩
  | 21 => ⟨S8192x2x512, .f32⟩
  | 22 => ⟨S8192x2x512, .f32⟩
  | 23 => ⟨S_, .f32⟩
  | 24 => ⟨S8192x2, .f32⟩
  | 25 => ⟨S8192x2x1, .f32⟩
  | 26 => ⟨S8192x2x512, .f32⟩
  | 27 => ⟨S8192x2x512, .f32⟩
  | 28 => ⟨S8192x2x1, .f32⟩
  | 29 => ⟨S_, .f32⟩
  | 30 => ⟨S8192x2x1, .f32⟩
  | 31 => ⟨S8192x2x1, .f32⟩
  | 32 => ⟨S_, .f32⟩
  | 33 => ⟨S8192x2, .f32⟩
  | 34 => ⟨S8192x2x512, .f32⟩
  | 35 => ⟨S8192x2x512, .f32⟩
  | 36 => ⟨S8192x2x512, .f32⟩
  | 37 => ⟨S8192x2x512, .f32⟩
  | 38 => ⟨S8192x2x512, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x16x64, .f32⟩
  | 47 => ⟨S8192x16x64, .f32⟩
  | 48 => ⟨S_, .f32⟩
  | 49 => ⟨S16, .f32⟩
  | 50 => ⟨S1x16x1, .f32⟩
  | 51 => ⟨S8192x16x64, .f32⟩
  | 52 => ⟨S8192x16x64, .f32⟩
  | 53 => ⟨S_, .f32⟩
  | 54 => ⟨S16, .f32⟩
  | 55 => ⟨S16x1, .f32⟩
  | 56 => ⟨S_, .f32⟩
  | 57 => ⟨S16, .f32⟩
  | 58 => ⟨S64x128x2x8x64, .f32⟩
  | 59 => ⟨S64x128x2x8x64, .f32⟩
  | 60 => ⟨S_, .f32⟩
  | 61 => ⟨S64x128x2x8, .f32⟩
  | 62 => ⟨S64x128x2x8x1, .f32⟩
  | 63 => ⟨S64x128x2x8x64, .f32⟩
  | 64 => ⟨S64x128x2x8x64, .f32⟩
  | 65 => ⟨S_, .f32⟩
  | 66 => ⟨S64x128x2x8, .f32⟩
  | 67 => ⟨S64x2x8x64x128, .f32⟩
  | 68 => ⟨S64x2x128x128, .f32⟩
  | 69 => ⟨S64x128x2x128, .f32⟩
  | 70 => ⟨S64x2x8x64x128, .f32⟩
  | 71 => ⟨S2x8x64x128, .f32⟩
  | 72 => ⟨S2x8x64x128, .f32⟩
  | 73 => ⟨S_, .f32⟩
  | 74 => ⟨S65x2x8x64x128, .f32⟩
  | 75 => ⟨S2x8x64x128x65, .f32⟩
  | 76 => ⟨S2x8x65x65, .f32⟩
  | 77 => ⟨S2x8x64x128x65, .f32⟩
  | 78 => ⟨S65x2x8x64x128, .f32⟩
  | 79 => ⟨S1x2x8x64x128, .f32⟩
  | 80 => ⟨S64x2x8x64x128, .f32⟩
  | 81 => ⟨S2x8x65x65, .f32⟩
  | 82 => ⟨S_, .f32⟩
  | 83 => ⟨S2x8x65x65, .f32⟩
  | 84 => ⟨S2x8x65x65, .f32⟩
  | 85 => ⟨S_, .f32⟩
  | 86 => ⟨S2x8x65, .f32⟩
  | 87 => ⟨S2x8x65x1, .f32⟩
  | 88 => ⟨S2x8x65x65, .f32⟩
  | 89 => ⟨S_, .f32⟩
  | 90 => ⟨S2x8x65, .f32⟩
  | 91 => ⟨S2x8x1x65, .f32⟩
  | 92 => ⟨S_, .f32⟩
  | 93 => ⟨S2x8x65, .f32⟩
  | 94 => ⟨S_, .f32⟩
  | 95 => ⟨S2x8x65, .f32⟩
  | 96 => ⟨S2x8x65, .f32⟩
  | 97 => ⟨S_, .f32⟩
  | 98 => ⟨S_, .f32⟩
  | 99 => ⟨S2x8x65, .f32⟩
  | 100 => ⟨S2x8x1, .f32⟩
  | 101 => ⟨S2x8x64, .f32⟩
  | 102 => ⟨S2x8x64x1, .f32⟩
  | 103 => ⟨S_, .f32⟩
  | 104 => ⟨S2x8x64x128, .f32⟩
  | 105 => ⟨S2x8x64x128, .f32⟩
  | 106 => ⟨S64x2x128x128, .f32⟩
  | 107 => ⟨S64x128x2x128, .f32⟩
  | 108 => ⟨S64x2x8x64x128, .f32⟩
  | 109 => ⟨S64x128x2x8x64, .f32⟩
  | 110 => ⟨S64x128x2x8x64, .f32⟩
  | 111 => ⟨S_, .f32⟩
  | 112 => ⟨S64x128x2x8, .f32⟩
  | 113 => ⟨S64x128x2x8x1, .f32⟩
  | 114 => ⟨S64x128x2x8x64, .f32⟩
  | 115 => ⟨S64x128x2x8x64, .f32⟩
  | 116 => ⟨S_, .f32⟩
  | 117 => ⟨S64x128x2x8, .f32⟩
  | 118 => ⟨S2x8x64x128, .f32⟩
  | 119 => ⟨S2x8x64x128, .f32⟩
  | 120 => ⟨S_, .f32⟩
  | 121 => ⟨S2x8x64, .f32⟩
  | 122 => ⟨S2x8x64x1, .f32⟩
  | 123 => ⟨S2x8x64x128, .f32⟩
  | 124 => ⟨S2x8x64x128, .f32⟩
  | 125 => ⟨S_, .f32⟩
  | 126 => ⟨S2x8x64x128, .f32⟩
  | 127 => ⟨S2x8x64x128, .f32⟩
  | _ => ⟨S8192x4624, .f32⟩

abbrev hbmTy0_3 (i : Nat) : BufTy := match i % 128 with
  | 0 => ⟨S64x2x8x64x128, .f32⟩
  | 1 => ⟨S64x2x8x128x128, .f32⟩
  | 2 => ⟨S2x8x64x128x128, .f32⟩
  | 3 => ⟨S64x2x8x64x128, .f32⟩
  | 4 => ⟨S64x128x2x8x64, .f32⟩
  | 5 => ⟨S64x128x2x8x64, .f32⟩
  | 6 => ⟨S2x8x64x128x128, .f32⟩
  | 7 => ⟨S2x8x64x128x128, .f32⟩
  | 8 => ⟨S2x8x64x128x128, .f32⟩
  | 9 => ⟨S_, .f32⟩
  | 10 => ⟨S2x64x128x128, .f32⟩
  | 11 => ⟨S2x1x64x128x128, .f32⟩
  | 12 => ⟨S_, .f32⟩
  | 13 => ⟨S2x64x128x128, .f32⟩
  | 14 => ⟨S2x64x128x128, .f32⟩
  | 15 => ⟨S64x128x2x128, .f32⟩
  | 16 => ⟨S64x128x2x128, .f32⟩
  | 17 => ⟨S2x64x128x128, .f32⟩
  | 18 => ⟨S64x128x2x128, .f32⟩
  | 19 => ⟨S64x128x2x128, .f32⟩
  | 20 => ⟨S2x8x64x128x128, .f32⟩
  | 21 => ⟨S_, .f32⟩
  | 22 => ⟨S2x8x64x128x128, .f32⟩
  | 23 => ⟨S2x8x64x128x128, .f32⟩
  | 24 => ⟨S_, .f32⟩
  | 25 => ⟨S2x8x64x128, .f32⟩
  | 26 => ⟨S2x8x64x128x1, .f32⟩
  | 27 => ⟨S2x8x64x128x128, .f32⟩
  | 28 => ⟨S_, .f32⟩
  | 29 => ⟨S2x8x64x128, .f32⟩
  | 30 => ⟨S2x8x64x1x128, .f32⟩
  | 31 => ⟨S_, .f32⟩
  | 32 => ⟨S2x8x64x128, .f32⟩
  | 33 => ⟨S2x8x64x128, .f32⟩
  | 34 => ⟨S_, .f32⟩
  | 35 => ⟨S2x8x64x128, .f32⟩
  | 36 => ⟨S2x8x64x128, .f32⟩
  | 37 => ⟨S_, .f32⟩
  | 38 => ⟨S_, .f32⟩
  | 39 => ⟨S2x8x64x128, .f32⟩
  | 40 => ⟨S8192x2x128, .f32⟩
  | 41 => ⟨S8192x2x128, .f32⟩
  | 42 => ⟨S64x128x2x8, .f32⟩
  | 43 => ⟨S8192x16, .f32⟩
  | 44 => ⟨S8192x16, .f32⟩
  | 45 => ⟨S_, .f32⟩
  | 46 => ⟨S16, .f32⟩
  | 47 => ⟨S1x16, .f32⟩
  | 48 => ⟨S8192x16, .f32⟩
  | 49 => ⟨S8192x16, .f32⟩
  | 50 => ⟨S_, .f32⟩
  | 51 => ⟨S16, .f32⟩
  | 52 => ⟨S8192x16x64, .f32⟩
  | 53 => ⟨S8192x16x64, .f32⟩
  | 54 => ⟨S_, .f32⟩
  | 55 => ⟨S8192x16, .f32⟩
  | 56 => ⟨S8192x16x1, .f32⟩
  | 57 => ⟨S8192x16x64, .f32⟩
  | 58 => ⟨S8192x16x64, .f32⟩
  | 59 => ⟨S8192x16x64, .f32⟩
  | 60 => ⟨S_, .f32⟩
  | 61 => ⟨S8192x16, .f32⟩
  | 62 => ⟨S8192x16, .f32⟩
  | 63 => ⟨S16, .f32⟩
  | 64 => ⟨S16, .f32⟩
  | 65 => ⟨S8192x16, .f32⟩
  | 66 => ⟨S_, .f32⟩
  | 67 => ⟨S16, .f32⟩
  | 68 => ⟨S1x16, .f32⟩
  | 69 => ⟨S_, .f32⟩
  | 70 => ⟨S16, .f32⟩
  | 71 => ⟨S8192x256, .f32⟩
  | 72 => ⟨S8192x256, .f32⟩
  | 73 => ⟨S8192x1024, .f32⟩
  | 74 => ⟨S8192x1536, .f32⟩
  | 75 => ⟨S8192x1536, .f32⟩
  | 76 => ⟨S8192x1536, .f32⟩
  | 77 => ⟨S8192x1536, .f32⟩
  | 78 => ⟨S8192x1536, .f32⟩
  | 79 => ⟨S_, .f32⟩
  | 80 => ⟨S1536, .f32⟩
  | 81 => ⟨S1x1536, .f32⟩
  | 82 => ⟨S_, .f32⟩
  | 83 => ⟨S1536, .f32⟩
  | 84 => ⟨S8192x1536, .f32⟩
  | 85 => ⟨S_, .f32⟩
  | 86 => ⟨S1536, .f32⟩
  | 87 => ⟨S1x1536, .f32⟩
  | 88 => ⟨S8192x1536, .f32⟩
  | 89 => ⟨S8192x1536, .f32⟩
  | 90 => ⟨S_, .f32⟩
  | 91 => ⟨S1536, .f32⟩
  | 92 => ⟨S1x1536, .f32⟩
  | 93 => ⟨S_, .f32⟩
  | 94 => ⟨S4x1536, .f32⟩
  | 95 => ⟨S_, .f32⟩
  | 96 => ⟨S8195x1536, .f32⟩
  | 97 => ⟨S8192x1536, .f32⟩
  | 98 => ⟨S_, .f32⟩
  | 99 => ⟨S1536, .f32⟩
  | 100 => ⟨S1x1536, .f32⟩
  | 101 => ⟨S8192x1536, .f32⟩
  | 102 => ⟨S8192x1536, .f32⟩
  | 103 => ⟨S_, .f32⟩
  | 104 => ⟨S1536, .f32⟩
  | 105 => ⟨S1x1536, .f32⟩
  | 106 => ⟨S_, .f32⟩
  | 107 => ⟨S4x1536, .f32⟩
  | 108 => ⟨S4x1536, .f32⟩
  | 109 => ⟨S_, .f32⟩
  | 110 => ⟨S8195x1536, .f32⟩
  | 111 => ⟨S8195x1536, .f32⟩
  | 112 => ⟨S8192x1536, .f32⟩
  | 113 => ⟨S_, .f32⟩
  | 114 => ⟨S1536, .f32⟩
  | 115 => ⟨S1x1536, .f32⟩
  | 116 => ⟨S8192x1536, .f32⟩
  | 117 => ⟨S8192x1536, .f32⟩
  | 118 => ⟨S_, .f32⟩
  | 119 => ⟨S1536, .f32⟩
  | 120 => ⟨S1x1536, .f32⟩
  | 121 => ⟨S_, .f32⟩
  | 122 => ⟨S4x1536, .f32⟩
  | 123 => ⟨S4x1536, .f32⟩
  | 124 => ⟨S_, .f32⟩
  | 125 => ⟨S8195x1536, .f32⟩
  | 126 => ⟨S8195x1536, .f32⟩
  | 127 => ⟨S8192x1536, .f32⟩
  | _ => ⟨S8192x4624, .f32⟩

abbrev hbmTy0_4 (i : Nat) : BufTy := match i % 128 with
  | 0 => ⟨S_, .f32⟩
  | 1 => ⟨S1536, .f32⟩
  | 2 => ⟨S1x1536, .f32⟩
  | 3 => ⟨S8192x1536, .f32⟩
  | 4 => ⟨S8192x1536, .f32⟩
  | 5 => ⟨S_, .f32⟩
  | 6 => ⟨S1536, .f32⟩
  | 7 => ⟨S1x1536, .f32⟩
  | 8 => ⟨S_, .f32⟩
  | 9 => ⟨S4x1536, .f32⟩
  | 10 => ⟨S4x1536, .f32⟩
  | 11 => ⟨S_, .f32⟩
  | 12 => ⟨S8195x1536, .f32⟩
  | 13 => ⟨S8195x1536, .f32⟩
  | 14 => ⟨S3x1536, .f32⟩
  | 15 => ⟨S8192x1536, .f32⟩
  | 16 => ⟨S1x1024, .f32⟩
  | 17 => ⟨S1x16, .f32⟩
  | 18 => ⟨S1x16, .f32⟩
  | 19 => ⟨S1x16, .f32⟩
  | 20 => ⟨S1x1536, .f32⟩
  | 21 => ⟨S8192x2560, .f32⟩
  | 22 => ⟨S8192x2560, .bf16⟩
  | _ => ⟨S8192x4624, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x4624, .f32⟩

abbrev bufTy : (tb : Table) → Fin (tcTables nBuf tb) → BufTy
  | .hbm, ⟨i, _⟩ => hbmTy i
  | _, _ => ⟨S8192x4624, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v41_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v41_1 : Ref sig .tc := ⟨.hbm, 62, rfl⟩
abbrev main_v41_0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_v51_0 : Ref sig .tc := ⟨.hbm, 86, rfl⟩
abbrev main_call1_cst_0 : Ref sig .tc := ⟨.hbm, 87, rfl⟩
abbrev main_call1_v13 : Ref sig .tc := ⟨.hbm, 88, rfl⟩
abbrev main_call1_v14 : Ref sig .tc := ⟨.hbm, 89, rfl⟩
abbrev main_call1_cst_1 : Ref sig .tc := ⟨.hbm, 90, rfl⟩
abbrev main_call1_v15 : Ref sig .tc := ⟨.hbm, 91, rfl⟩
abbrev main_call1_v16 : Ref sig .tc := ⟨.hbm, 92, rfl⟩
abbrev main_call1_cst_2 : Ref sig .tc := ⟨.hbm, 93, rfl⟩
abbrev main_call1_v17 : Ref sig .tc := ⟨.hbm, 94, rfl⟩
abbrev main_call1_v18 : Ref sig .tc := ⟨.hbm, 95, rfl⟩
abbrev main_call1_cst_3 : Ref sig .tc := ⟨.hbm, 96, rfl⟩
abbrev main_call1_v19 : Ref sig .tc := ⟨.hbm, 97, rfl⟩
abbrev main_call1_v20 : Ref sig .tc := ⟨.hbm, 98, rfl⟩
abbrev main_call1_v21 : Ref sig .tc := ⟨.hbm, 99, rfl⟩
abbrev main_v51_1 : Ref sig .tc := ⟨.hbm, 100, rfl⟩
abbrev main_call1_cst_4 : Ref sig .tc := ⟨.hbm, 101, rfl⟩
abbrev main_call1_cst_5 : Ref sig .tc := ⟨.hbm, 102, rfl⟩
abbrev main_call1_v23 : Ref sig .tc := ⟨.hbm, 103, rfl⟩
abbrev main_call1_cst_6 : Ref sig .tc := ⟨.hbm, 104, rfl⟩
abbrev main_call1_cst_7 : Ref sig .tc := ⟨.hbm, 105, rfl⟩
abbrev main_call1_v24 : Ref sig .tc := ⟨.hbm, 106, rfl⟩
abbrev main_call1_cst_8 : Ref sig .tc := ⟨.hbm, 107, rfl⟩
abbrev main_call1_v25 : Ref sig .tc := ⟨.hbm, 108, rfl⟩
abbrev main_call1_v26 : Ref sig .tc := ⟨.hbm, 109, rfl⟩
abbrev main_call1_cst_9 : Ref sig .tc := ⟨.hbm, 110, rfl⟩
abbrev main_call1_v27 : Ref sig .tc := ⟨.hbm, 111, rfl⟩
abbrev main_call1_v28 : Ref sig .tc := ⟨.hbm, 112, rfl⟩
abbrev main_call1_v29 : Ref sig .tc := ⟨.hbm, 113, rfl⟩
abbrev main_call1_v30 : Ref sig .tc := ⟨.hbm, 114, rfl⟩
abbrev main_call1_v31 : Ref sig .tc := ⟨.hbm, 115, rfl⟩
abbrev main_call1_cst_10 : Ref sig .tc := ⟨.hbm, 116, rfl⟩
abbrev main_call1_v32 : Ref sig .tc := ⟨.hbm, 117, rfl⟩
abbrev main_v51_2 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_call2_call0_cst : Ref sig .tc := ⟨.hbm, 132, rfl⟩
abbrev main_call2_call0_v0 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_c : Ref sig .tc := ⟨.hbm, 140, rfl⟩
abbrev main_v71 : Ref sig .tc := ⟨.hbm, 141, rfl⟩
abbrev main_call3_v0 : Ref sig .tc := ⟨.hbm, 142, rfl⟩
abbrev main_call3_c : Ref sig .tc := ⟨.hbm, 143, rfl⟩
abbrev main_call3_v1 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_c_0 : Ref sig .tc := ⟨.hbm, 148, rfl⟩
abbrev main_call3_v5 : Ref sig .tc := ⟨.hbm, 149, rfl⟩
abbrev main_v72 : Ref sig .tc := ⟨.hbm, 150, rfl⟩
abbrev main_cst_1 : Ref sig .tc := ⟨.hbm, 151, rfl⟩
abbrev main_call4_v0 : Ref sig .tc := ⟨.hbm, 152, rfl⟩
abbrev main_v73_1 : Ref sig .tc := ⟨.hbm, 153, rfl⟩
abbrev main_call4_v2 : Ref sig .tc := ⟨.hbm, 154, rfl⟩
abbrev main_v73_0 : Ref sig .tc := ⟨.hbm, 155, rfl⟩
abbrev main_call4_cst : Ref sig .tc := ⟨.hbm, 156, rfl⟩
abbrev main_v73_2 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_cst_2 : Ref sig .tc := ⟨.hbm, 177, rfl⟩
abbrev main_v93 : Ref sig .tc := ⟨.hbm, 178, rfl⟩
abbrev main_v94 : Ref sig .tc := ⟨.hbm, 179, rfl⟩
abbrev main_cst_3 : Ref sig .tc := ⟨.hbm, 180, rfl⟩
abbrev main_v95 : Ref sig .tc := ⟨.hbm, 181, rfl⟩
abbrev main_call5_call0_cst : Ref sig .tc := ⟨.hbm, 182, rfl⟩
abbrev main_call5_call0_v0 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_c_4 : Ref sig .tc := ⟨.hbm, 190, rfl⟩
abbrev main_v102 : Ref sig .tc := ⟨.hbm, 191, rfl⟩
abbrev main_call6_v0 : Ref sig .tc := ⟨.hbm, 192, rfl⟩
abbrev main_call6_c : Ref sig .tc := ⟨.hbm, 193, rfl⟩
abbrev main_call6_v1 : Ref sig .tc := ⟨.hbm, 194, rfl⟩
abbrev main_call6_v2 : Ref sig .tc := ⟨.hbm, 195, rfl⟩
abbrev main_call6_v3 : Ref sig .tc := ⟨.hbm, 196, rfl⟩
abbrev main_call6_v4 : Ref sig .tc := ⟨.hbm, 197, rfl⟩
abbrev main_call6_c_0 : Ref sig .tc := ⟨.hbm, 198, rfl⟩
abbrev main_call6_v5 : Ref sig .tc := ⟨.hbm, 199, rfl⟩
abbrev main_v103 : Ref sig .tc := ⟨.hbm, 200, rfl⟩
abbrev main_cst_5 : Ref sig .tc := ⟨.hbm, 201, rfl⟩
abbrev main_call7_v0 : Ref sig .tc := ⟨.hbm, 202, rfl⟩
abbrev main_v104_1 : Ref sig .tc := ⟨.hbm, 203, rfl⟩
abbrev main_call7_v2 : Ref sig .tc := ⟨.hbm, 204, rfl⟩
abbrev main_v104_0 : Ref sig .tc := ⟨.hbm, 205, rfl⟩
abbrev main_call7_cst : Ref sig .tc := ⟨.hbm, 206, rfl⟩
abbrev main_v104_2 : Ref sig .tc := ⟨.hbm, 207, rfl⟩
abbrev main_v105 : Ref sig .tc := ⟨.hbm, 208, rfl⟩
abbrev main_v106 : Ref sig .tc := ⟨.hbm, 209, rfl⟩
abbrev main_cst_6 : Ref sig .tc := ⟨.hbm, 210, rfl⟩
abbrev main_v107 : Ref sig .tc := ⟨.hbm, 211, rfl⟩
abbrev main_v108 : Ref sig .tc := ⟨.hbm, 212, rfl⟩
abbrev main_cst_7 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_call8_v0 : Ref sig .tc := ⟨.hbm, 233, rfl⟩
abbrev main_call8_v1 : Ref sig .tc := ⟨.hbm, 234, rfl⟩
abbrev main_call8_cst : Ref sig .tc := ⟨.hbm, 235, rfl⟩
abbrev main_call8_v2 : Ref sig .tc := ⟨.hbm, 236, rfl⟩
abbrev main_call8_v3 : Ref sig .tc := ⟨.hbm, 237, rfl⟩
abbrev main_call8_cst_0 : Ref sig .tc := ⟨.hbm, 238, rfl⟩
abbrev main_call8_v4 : Ref sig .tc := ⟨.hbm, 239, rfl⟩
abbrev main_v128_2 : Ref sig .tc := ⟨.hbm, 240, rfl⟩
abbrev main_call8_cst_1 : Ref sig .tc := ⟨.hbm, 241, rfl⟩
abbrev main_call8_v6 : Ref sig .tc := ⟨.hbm, 242, rfl⟩
abbrev main_call8_v7 : Ref sig .tc := ⟨.hbm, 243, rfl⟩
abbrev main_v128_1 : Ref sig .tc := ⟨.hbm, 244, rfl⟩
abbrev main_v128_0 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_cst_8 : Ref sig .tc := ⟨.hbm, 249, rfl⟩
abbrev main_v132 : Ref sig .tc := ⟨.hbm, 250, rfl⟩
abbrev main_v133 : Ref sig .tc := ⟨.hbm, 251, rfl⟩
abbrev main_cst_9 : Ref sig .tc := ⟨.hbm, 252, rfl⟩
abbrev main_v134 : Ref sig .tc := ⟨.hbm, 253, rfl⟩
abbrev main_v135 : Ref sig .tc := ⟨.hbm, 254, rfl⟩
abbrev main_cst_10 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_cst_11 : Ref sig .tc := ⟨.hbm, 260, rfl⟩
abbrev main_v140 : Ref sig .tc := ⟨.hbm, 261, rfl⟩
abbrev main_v141 : Ref sig .tc := ⟨.hbm, 262, rfl⟩
abbrev main_v142 : Ref sig .tc := ⟨.hbm, 263, rfl⟩
abbrev main_v143 : Ref sig .tc := ⟨.hbm, 264, rfl⟩
abbrev main_v144 : Ref sig .tc := ⟨.hbm, 265, rfl⟩
abbrev main_v145 : Ref sig .tc := ⟨.hbm, 266, rfl⟩
abbrev main_v146 : Ref sig .tc := ⟨.hbm, 267, rfl⟩
abbrev main_v147 : Ref sig .tc := ⟨.hbm, 268, rfl⟩
abbrev main_v148 : Ref sig .tc := ⟨.hbm, 269, rfl⟩
abbrev main_cst_12 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩
abbrev main_v152 : Ref sig .tc := ⟨.hbm, 274, rfl⟩
abbrev main_cst_13 : Ref sig .tc := ⟨.hbm, 275, rfl⟩
abbrev main_v153 : Ref sig .tc := ⟨.hbm, 276, rfl⟩
abbrev main_v154 : Ref sig .tc := ⟨.hbm, 277, rfl⟩
abbrev main_v155 : Ref sig .tc := ⟨.hbm, 278, rfl⟩
abbrev main_cst_14 : Ref sig .tc := ⟨.hbm, 279, rfl⟩
abbrev main_v156 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_v160 : Ref sig .tc := ⟨.hbm, 284, rfl⟩
abbrev main_cst_15 : Ref sig .tc := ⟨.hbm, 285, rfl⟩
abbrev main_v161 : Ref sig .tc := ⟨.hbm, 286, rfl⟩
abbrev main_v162 : Ref sig .tc := ⟨.hbm, 287, rfl⟩
abbrev main_cst_16 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_v166 : Ref sig .tc := ⟨.hbm, 292, rfl⟩
abbrev main_v167 : Ref sig .tc := ⟨.hbm, 293, rfl⟩
abbrev main_v168 : Ref sig .tc := ⟨.hbm, 294, rfl⟩
abbrev main_v169 : Ref sig .tc := ⟨.hbm, 295, rfl⟩
abbrev main_v170 : Ref sig .tc := ⟨.hbm, 296, rfl⟩
abbrev main_v171 : Ref sig .tc := ⟨.hbm, 297, rfl⟩
abbrev main_call9_v0 : Ref sig .tc := ⟨.hbm, 298, rfl⟩
abbrev main_call9_v1 : Ref sig .tc := ⟨.hbm, 299, rfl⟩
abbrev main_call9_v2 : Ref sig .tc := ⟨.hbm, 300, rfl⟩
abbrev main_v172 : Ref sig .tc := ⟨.hbm, 301, rfl⟩
abbrev main_v173 : Ref sig .tc := ⟨.hbm, 302, rfl⟩
abbrev main_v174 : Ref sig .tc := ⟨.hbm, 303, rfl⟩
abbrev main_cst_17 : Ref sig .tc := ⟨.hbm, 304, rfl⟩
abbrev main_v175 : Ref sig .tc := ⟨.hbm, 305, rfl⟩
abbrev main_v176 : Ref sig .tc := ⟨.hbm, 306, rfl⟩
abbrev main_v177 : Ref sig .tc := ⟨.hbm, 307, rfl⟩
abbrev main_v178 : Ref sig .tc := ⟨.hbm, 308, rfl⟩
abbrev main_cst_18 : Ref sig .tc := ⟨.hbm, 309, rfl⟩
abbrev main_v179 : Ref sig .tc := ⟨.hbm, 310, rfl⟩
abbrev main_v180 : Ref sig .tc := ⟨.hbm, 311, rfl⟩
abbrev main_cst_19 : Ref sig .tc := ⟨.hbm, 312, rfl⟩
abbrev main_v181 : Ref sig .tc := ⟨.hbm, 313, rfl⟩
abbrev main_v182 : Ref sig .tc := ⟨.hbm, 314, rfl⟩
abbrev main_v183 : Ref sig .tc := ⟨.hbm, 315, rfl⟩
abbrev main_cst_20 : Ref sig .tc := ⟨.hbm, 316, rfl⟩
abbrev main_v184 : Ref sig .tc := ⟨.hbm, 317, rfl⟩
abbrev main_v185 : Ref sig .tc := ⟨.hbm, 318, rfl⟩
abbrev main_v186 : Ref sig .tc := ⟨.hbm, 319, rfl⟩
abbrev main_v187 : Ref sig .tc := ⟨.hbm, 320, rfl⟩
abbrev main_cst_21 : Ref sig .tc := ⟨.hbm, 321, rfl⟩
abbrev main_v188 : Ref sig .tc := ⟨.hbm, 322, rfl⟩
abbrev main_v189 : Ref sig .tc := ⟨.hbm, 323, rfl⟩
abbrev main_v190 : Ref sig .tc := ⟨.hbm, 324, rfl⟩
abbrev main_v191 : Ref sig .tc := ⟨.hbm, 325, rfl⟩
abbrev main_v192 : Ref sig .tc := ⟨.hbm, 326, rfl⟩
abbrev main_v193 : Ref sig .tc := ⟨.hbm, 327, rfl⟩
abbrev main_v194 : Ref sig .tc := ⟨.hbm, 328, rfl⟩
abbrev main_cst_22 : Ref sig .tc := ⟨.hbm, 329, rfl⟩
abbrev main_v195 : Ref sig .tc := ⟨.hbm, 330, rfl⟩
abbrev main_v196 : Ref sig .tc := ⟨.hbm, 331, rfl⟩
abbrev main_v197 : Ref sig .tc := ⟨.hbm, 332, rfl⟩
abbrev main_v198 : Ref sig .tc := ⟨.hbm, 333, rfl⟩
abbrev main_v199 : Ref sig .tc := ⟨.hbm, 334, rfl⟩
abbrev main_v200 : Ref sig .tc := ⟨.hbm, 335, rfl⟩
abbrev main_v201 : Ref sig .tc := ⟨.hbm, 336, rfl⟩
abbrev main_v202 : Ref sig .tc := ⟨.hbm, 337, rfl⟩
abbrev main_call10_cst : Ref sig .tc := ⟨.hbm, 338, rfl⟩
abbrev main_call10_v0 : Ref sig .tc := ⟨.hbm, 339, rfl⟩
abbrev main_v203 : Ref sig .tc := ⟨.hbm, 340, rfl⟩
abbrev main_cst_23 : Ref sig .tc := ⟨.hbm, 341, rfl⟩
abbrev main_v204 : Ref sig .tc := ⟨.hbm, 342, rfl⟩
abbrev main_v205 : Ref sig .tc := ⟨.hbm, 343, rfl⟩
abbrev main_v206 : Ref sig .tc := ⟨.hbm, 344, rfl⟩
abbrev main_cst_24 : Ref sig .tc := ⟨.hbm, 345, rfl⟩
abbrev main_v207 : Ref sig .tc := ⟨.hbm, 346, rfl⟩
abbrev main_v208 : Ref sig .tc := ⟨.hbm, 347, rfl⟩
abbrev main_cst_25 : Ref sig .tc := ⟨.hbm, 348, rfl⟩
abbrev main_v209 : Ref sig .tc := ⟨.hbm, 349, rfl⟩
abbrev main_cst_26 : Ref sig .tc := ⟨.hbm, 350, rfl⟩
abbrev main_v210 : Ref sig .tc := ⟨.hbm, 351, rfl⟩
abbrev main_v211 : Ref sig .tc := ⟨.hbm, 352, rfl⟩
abbrev main_call11_call0_cst : Ref sig .tc := ⟨.hbm, 353, rfl⟩
abbrev main_call11_call0_v0 : Ref sig .tc := ⟨.hbm, 354, rfl⟩
abbrev main_v212 : Ref sig .tc := ⟨.hbm, 355, rfl⟩
abbrev main_v213 : Ref sig .tc := ⟨.hbm, 356, rfl⟩
abbrev main_v214 : Ref sig .tc := ⟨.hbm, 357, rfl⟩
abbrev main_v215 : Ref sig .tc := ⟨.hbm, 358, rfl⟩
abbrev main_cst_27 : Ref sig .tc := ⟨.hbm, 359, rfl⟩
abbrev main_v216 : Ref sig .tc := ⟨.hbm, 360, rfl⟩
abbrev main_v217 : Ref sig .tc := ⟨.hbm, 361, rfl⟩
abbrev main_v218 : Ref sig .tc := ⟨.hbm, 362, rfl⟩
abbrev main_v219 : Ref sig .tc := ⟨.hbm, 363, rfl⟩
abbrev main_v220 : Ref sig .tc := ⟨.hbm, 364, rfl⟩
abbrev main_v221 : Ref sig .tc := ⟨.hbm, 365, rfl⟩
abbrev main_v222 : Ref sig .tc := ⟨.hbm, 366, rfl⟩
abbrev main_cst_28 : Ref sig .tc := ⟨.hbm, 367, rfl⟩
abbrev main_v223 : Ref sig .tc := ⟨.hbm, 368, rfl⟩
abbrev main_v224 : Ref sig .tc := ⟨.hbm, 369, rfl⟩
abbrev main_v225 : Ref sig .tc := ⟨.hbm, 370, rfl⟩
abbrev main_v226 : Ref sig .tc := ⟨.hbm, 371, rfl⟩
abbrev main_cst_29 : Ref sig .tc := ⟨.hbm, 372, rfl⟩
abbrev main_v227 : Ref sig .tc := ⟨.hbm, 373, rfl⟩
abbrev main_v228 : Ref sig .tc := ⟨.hbm, 374, rfl⟩
abbrev main_v229 : Ref sig .tc := ⟨.hbm, 375, rfl⟩
abbrev main_cst_30 : Ref sig .tc := ⟨.hbm, 376, rfl⟩
abbrev main_v230 : Ref sig .tc := ⟨.hbm, 377, rfl⟩
abbrev main_v231 : Ref sig .tc := ⟨.hbm, 378, rfl⟩
abbrev main_v232 : Ref sig .tc := ⟨.hbm, 379, rfl⟩
abbrev main_v233 : Ref sig .tc := ⟨.hbm, 380, rfl⟩
abbrev main_cst_31 : Ref sig .tc := ⟨.hbm, 381, rfl⟩
abbrev main_v234 : Ref sig .tc := ⟨.hbm, 382, rfl⟩
abbrev main_v235 : Ref sig .tc := ⟨.hbm, 383, rfl⟩
abbrev main_v236 : Ref sig .tc := ⟨.hbm, 384, rfl⟩
abbrev main_v237 : Ref sig .tc := ⟨.hbm, 385, rfl⟩
abbrev main_v238 : Ref sig .tc := ⟨.hbm, 386, rfl⟩
abbrev main_v239 : Ref sig .tc := ⟨.hbm, 387, rfl⟩
abbrev main_v240 : Ref sig .tc := ⟨.hbm, 388, rfl⟩
abbrev main_v241 : Ref sig .tc := ⟨.hbm, 389, rfl⟩
abbrev main_v242 : Ref sig .tc := ⟨.hbm, 390, rfl⟩
abbrev main_v243 : Ref sig .tc := ⟨.hbm, 391, rfl⟩
abbrev main_v244 : Ref sig .tc := ⟨.hbm, 392, rfl⟩
abbrev main_cst_32 : Ref sig .tc := ⟨.hbm, 393, rfl⟩
abbrev main_v245 : Ref sig .tc := ⟨.hbm, 394, rfl⟩
abbrev main_v246 : Ref sig .tc := ⟨.hbm, 395, rfl⟩
abbrev main_cst_33 : Ref sig .tc := ⟨.hbm, 396, rfl⟩
abbrev main_v247 : Ref sig .tc := ⟨.hbm, 397, rfl⟩
abbrev main_v248 : Ref sig .tc := ⟨.hbm, 398, rfl⟩
abbrev main_v249 : Ref sig .tc := ⟨.hbm, 399, rfl⟩
abbrev main_v250 : Ref sig .tc := ⟨.hbm, 400, rfl⟩
abbrev main_v251 : Ref sig .tc := ⟨.hbm, 401, rfl⟩
abbrev main_v252 : Ref sig .tc := ⟨.hbm, 402, rfl⟩
abbrev main_v253 : Ref sig .tc := ⟨.hbm, 403, rfl⟩
abbrev main_v254 : Ref sig .tc := ⟨.hbm, 404, rfl⟩
abbrev main_call12_cst : Ref sig .tc := ⟨.hbm, 405, rfl⟩
abbrev main_call12_v0 : Ref sig .tc := ⟨.hbm, 406, rfl⟩
abbrev main_v255 : Ref sig .tc := ⟨.hbm, 407, rfl⟩
abbrev main_cst_34 : Ref sig .tc := ⟨.hbm, 408, rfl⟩
abbrev main_v256 : Ref sig .tc := ⟨.hbm, 409, rfl⟩
abbrev main_v257 : Ref sig .tc := ⟨.hbm, 410, rfl⟩
abbrev main_v258 : Ref sig .tc := ⟨.hbm, 411, rfl⟩
abbrev main_cst_35 : Ref sig .tc := ⟨.hbm, 412, rfl⟩
abbrev main_v259 : Ref sig .tc := ⟨.hbm, 413, rfl⟩
abbrev main_v260 : Ref sig .tc := ⟨.hbm, 414, rfl⟩
abbrev main_cst_36 : Ref sig .tc := ⟨.hbm, 415, rfl⟩
abbrev main_v261 : Ref sig .tc := ⟨.hbm, 416, rfl⟩
abbrev main_v262 : Ref sig .tc := ⟨.hbm, 417, rfl⟩
abbrev main_cst_37 : Ref sig .tc := ⟨.hbm, 418, rfl⟩
abbrev main_v263 : Ref sig .tc := ⟨.hbm, 419, rfl⟩
abbrev main_v264 : Ref sig .tc := ⟨.hbm, 420, rfl⟩
abbrev main_call13_call0_cst : Ref sig .tc := ⟨.hbm, 421, rfl⟩
abbrev main_call13_call0_v0 : Ref sig .tc := ⟨.hbm, 422, rfl⟩
abbrev main_v265 : Ref sig .tc := ⟨.hbm, 423, rfl⟩
abbrev main_v266 : Ref sig .tc := ⟨.hbm, 424, rfl⟩
abbrev main_v267 : Ref sig .tc := ⟨.hbm, 425, rfl⟩
abbrev main_v268 : Ref sig .tc := ⟨.hbm, 426, rfl⟩
abbrev main_v269 : Ref sig .tc := ⟨.hbm, 427, rfl⟩
abbrev main_v270 : Ref sig .tc := ⟨.hbm, 428, rfl⟩
abbrev main_cst_38 : Ref sig .tc := ⟨.hbm, 429, rfl⟩
abbrev main_v271 : Ref sig .tc := ⟨.hbm, 430, rfl⟩
abbrev main_v272 : Ref sig .tc := ⟨.hbm, 431, rfl⟩
abbrev main_v273 : Ref sig .tc := ⟨.hbm, 432, rfl⟩
abbrev main_v274 : Ref sig .tc := ⟨.hbm, 433, rfl⟩
abbrev main_cst_39 : Ref sig .tc := ⟨.hbm, 434, rfl⟩
abbrev main_v275 : Ref sig .tc := ⟨.hbm, 435, rfl⟩
abbrev main_v276 : Ref sig .tc := ⟨.hbm, 436, rfl⟩
abbrev main_v277 : Ref sig .tc := ⟨.hbm, 437, rfl⟩
abbrev main_cst_40 : Ref sig .tc := ⟨.hbm, 438, rfl⟩
abbrev main_v278 : Ref sig .tc := ⟨.hbm, 439, rfl⟩
abbrev main_v279 : Ref sig .tc := ⟨.hbm, 440, rfl⟩
abbrev main_v280 : Ref sig .tc := ⟨.hbm, 441, rfl⟩
abbrev main_v281 : Ref sig .tc := ⟨.hbm, 442, rfl⟩
abbrev main_v282 : Ref sig .tc := ⟨.hbm, 443, rfl⟩
abbrev main_cst_41 : Ref sig .tc := ⟨.hbm, 444, rfl⟩
abbrev main_v283 : Ref sig .tc := ⟨.hbm, 445, rfl⟩
abbrev main_v284 : Ref sig .tc := ⟨.hbm, 446, rfl⟩
abbrev main_v285 : Ref sig .tc := ⟨.hbm, 447, rfl⟩
abbrev main_v286 : Ref sig .tc := ⟨.hbm, 448, rfl⟩
abbrev main_v287 : Ref sig .tc := ⟨.hbm, 449, rfl⟩
abbrev main_cst_42 : Ref sig .tc := ⟨.hbm, 450, rfl⟩
abbrev main_v288 : Ref sig .tc := ⟨.hbm, 451, rfl⟩
abbrev main_v289 : Ref sig .tc := ⟨.hbm, 452, rfl⟩
abbrev main_cst_43 : Ref sig .tc := ⟨.hbm, 453, rfl⟩
abbrev main_v290 : Ref sig .tc := ⟨.hbm, 454, rfl⟩
abbrev main_v291 : Ref sig .tc := ⟨.hbm, 455, rfl⟩
abbrev main_v292 : Ref sig .tc := ⟨.hbm, 456, rfl⟩
abbrev main_v293 : Ref sig .tc := ⟨.hbm, 457, rfl⟩
abbrev main_v294 : Ref sig .tc := ⟨.hbm, 458, rfl⟩
abbrev main_call15_v0 : Ref sig .tc := ⟨.hbm, 459, rfl⟩
abbrev main_call15_v1 : Ref sig .tc := ⟨.hbm, 460, rfl⟩
abbrev main_call15_v2 : Ref sig .tc := ⟨.hbm, 461, rfl⟩
abbrev main_v295 : Ref sig .tc := ⟨.hbm, 462, rfl⟩
abbrev main_cst_44 : Ref sig .tc := ⟨.hbm, 463, rfl⟩
abbrev main_v296 : Ref sig .tc := ⟨.hbm, 464, rfl⟩
abbrev main_v297 : Ref sig .tc := ⟨.hbm, 465, rfl⟩
abbrev main_cst_45 : Ref sig .tc := ⟨.hbm, 466, rfl⟩
abbrev main_v298 : Ref sig .tc := ⟨.hbm, 467, rfl⟩
abbrev main_v299 : Ref sig .tc := ⟨.hbm, 468, rfl⟩
abbrev main_cst_46 : Ref sig .tc := ⟨.hbm, 469, rfl⟩
abbrev main_v300 : Ref sig .tc := ⟨.hbm, 470, rfl⟩
abbrev main_v301 : Ref sig .tc := ⟨.hbm, 471, rfl⟩
abbrev main_v302 : Ref sig .tc := ⟨.hbm, 472, rfl⟩
abbrev main_v303 : Ref sig .tc := ⟨.hbm, 473, rfl⟩
abbrev main_cst_47 : Ref sig .tc := ⟨.hbm, 474, rfl⟩
abbrev main_v304 : Ref sig .tc := ⟨.hbm, 475, rfl⟩
abbrev main_v305 : Ref sig .tc := ⟨.hbm, 476, rfl⟩
abbrev main_cst_48 : Ref sig .tc := ⟨.hbm, 477, rfl⟩
abbrev main_v306 : Ref sig .tc := ⟨.hbm, 478, rfl⟩
abbrev main_cst_49 : Ref sig .tc := ⟨.hbm, 479, rfl⟩
abbrev main_v307 : Ref sig .tc := ⟨.hbm, 480, rfl⟩
abbrev main_v308 : Ref sig .tc := ⟨.hbm, 481, rfl⟩
abbrev main_cst_50 : Ref sig .tc := ⟨.hbm, 482, rfl⟩
abbrev main_v309 : Ref sig .tc := ⟨.hbm, 483, rfl⟩
abbrev main_v310 : Ref sig .tc := ⟨.hbm, 484, rfl⟩
abbrev main_v311 : Ref sig .tc := ⟨.hbm, 485, rfl⟩
abbrev main_v312 : Ref sig .tc := ⟨.hbm, 486, rfl⟩
abbrev main_cst_51 : Ref sig .tc := ⟨.hbm, 487, rfl⟩
abbrev main_v313 : Ref sig .tc := ⟨.hbm, 488, rfl⟩
abbrev main_v314 : Ref sig .tc := ⟨.hbm, 489, rfl⟩
abbrev main_cst_52 : Ref sig .tc := ⟨.hbm, 490, rfl⟩
abbrev main_v315 : Ref sig .tc := ⟨.hbm, 491, rfl⟩
abbrev main_v316 : Ref sig .tc := ⟨.hbm, 492, rfl⟩
abbrev main_cst_53 : Ref sig .tc := ⟨.hbm, 493, rfl⟩
abbrev main_v317 : Ref sig .tc := ⟨.hbm, 494, rfl⟩
abbrev main_v318 : Ref sig .tc := ⟨.hbm, 495, rfl⟩
abbrev main_v319 : Ref sig .tc := ⟨.hbm, 496, rfl⟩
abbrev main_cst_54 : Ref sig .tc := ⟨.hbm, 497, rfl⟩
abbrev main_v320 : Ref sig .tc := ⟨.hbm, 498, rfl⟩
abbrev main_v321 : Ref sig .tc := ⟨.hbm, 499, rfl⟩
abbrev main_v322 : Ref sig .tc := ⟨.hbm, 500, rfl⟩
abbrev main_v323 : Ref sig .tc := ⟨.hbm, 501, rfl⟩
abbrev main_cst_55 : Ref sig .tc := ⟨.hbm, 502, rfl⟩
abbrev main_v324 : Ref sig .tc := ⟨.hbm, 503, rfl⟩
abbrev main_v325 : Ref sig .tc := ⟨.hbm, 504, rfl⟩
abbrev main_cst_56 : Ref sig .tc := ⟨.hbm, 505, rfl⟩
abbrev main_v326 : Ref sig .tc := ⟨.hbm, 506, rfl⟩
abbrev main_v327 : Ref sig .tc := ⟨.hbm, 507, rfl⟩
abbrev main_cst_57 : Ref sig .tc := ⟨.hbm, 508, rfl⟩
abbrev main_v328 : Ref sig .tc := ⟨.hbm, 509, rfl⟩
abbrev main_v329 : Ref sig .tc := ⟨.hbm, 510, rfl⟩
abbrev main_v330 : Ref sig .tc := ⟨.hbm, 511, rfl⟩
abbrev main_cst_58 : Ref sig .tc := ⟨.hbm, 512, rfl⟩
abbrev main_v331 : Ref sig .tc := ⟨.hbm, 513, rfl⟩
abbrev main_v332 : Ref sig .tc := ⟨.hbm, 514, rfl⟩
abbrev main_v333 : Ref sig .tc := ⟨.hbm, 515, rfl⟩
abbrev main_v334 : Ref sig .tc := ⟨.hbm, 516, rfl⟩
abbrev main_cst_59 : Ref sig .tc := ⟨.hbm, 517, rfl⟩
abbrev main_v335 : Ref sig .tc := ⟨.hbm, 518, rfl⟩
abbrev main_v336 : Ref sig .tc := ⟨.hbm, 519, rfl⟩
abbrev main_cst_60 : Ref sig .tc := ⟨.hbm, 520, rfl⟩
abbrev main_v337 : Ref sig .tc := ⟨.hbm, 521, rfl⟩
abbrev main_v338 : Ref sig .tc := ⟨.hbm, 522, rfl⟩
abbrev main_cst_61 : Ref sig .tc := ⟨.hbm, 523, rfl⟩
abbrev main_v339 : Ref sig .tc := ⟨.hbm, 524, rfl⟩
abbrev main_v340 : Ref sig .tc := ⟨.hbm, 525, rfl⟩
abbrev main_v341 : Ref sig .tc := ⟨.hbm, 526, rfl⟩
abbrev main_v342 : Ref sig .tc := ⟨.hbm, 527, rfl⟩
abbrev main_v343 : Ref sig .tc := ⟨.hbm, 528, rfl⟩
abbrev main_v344 : Ref sig .tc := ⟨.hbm, 529, rfl⟩
abbrev main_v345 : Ref sig .tc := ⟨.hbm, 530, rfl⟩
abbrev main_v346 : Ref sig .tc := ⟨.hbm, 531, rfl⟩
abbrev main_v347 : Ref sig .tc := ⟨.hbm, 532, rfl⟩
abbrev main_v348 : Ref sig .tc := ⟨.hbm, 533, rfl⟩
abbrev main_v349 : Ref sig .tc := ⟨.hbm, 534, rfl⟩

abbrev nD : Nat := 1
abbrev τ : Topo := Topo.v7x

variable {F : FTy → Type} [FloatOps F]
-- ==== Kernel4.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S2048x1024 : Shape := ⟨2, ![2048, 1024]⟩
abbrev S8x256x1024 : Shape := ⟨3, ![8, 256, 1024]⟩
abbrev S8x128x1024 : Shape := ⟨3, ![8, 128, 1024]⟩
abbrev S8x384x1024 : Shape := ⟨3, ![8, 384, 1024]⟩
abbrev S1024x256 : Shape := ⟨2, ![1024, 256]⟩
abbrev S1x1 : Shape := ⟨2, ![1, 1]⟩
abbrev S512x1024 : Shape := ⟨2, ![512, 1024]⟩
abbrev S512x256 : Shape := ⟨2, ![512, 256]⟩
abbrev S9 : Shape := ⟨1, ![9]⟩
abbrev S1 : Shape := ⟨1, ![1]⟩
abbrev S_ : Shape := ⟨0, ![]⟩
abbrev S128x1024 : Shape := ⟨2, ![128, 1024]⟩
abbrev S1x128x1024 : Shape := ⟨3, ![1, 128, 1024]⟩
abbrev S512 : Shape := ⟨1, ![512]⟩
abbrev S512x1 : Shape := ⟨2, ![512, 1]⟩
abbrev S1x1x1 : Shape := ⟨3, ![1, 1, 1]⟩
abbrev S1024 : Shape := ⟨1, ![1024]⟩

abbrev nBuf : Space → Nat
  | .hbm => 23
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1x1024, .f32⟩
  | .hbm, ⟨4, _⟩ => ⟨S1024x1024, .f32⟩
  | .hbm, ⟨5, _⟩ => ⟨S1x1024, .f32⟩
  | .hbm, ⟨6, _⟩ => ⟨S256x1024, .f32⟩
  | .hbm, ⟨7, _⟩ => ⟨S1x1024, .f32⟩
  | .hbm, ⟨8, _⟩ => ⟨S2048x1024, .f32⟩
  | .hbm, ⟨9, _⟩ => ⟨S2048x1024, .bf16⟩
  | .hbm, ⟨10, _⟩ => ⟨S8x256x1024, .bf16⟩
  | .hbm, ⟨11, _⟩ => ⟨S1024x1024, .bf16⟩
  | .hbm, ⟨12, _⟩ => ⟨S8x128x1024, .bf16⟩
  | .hbm, ⟨13, _⟩ => ⟨S8x384x1024, .bf16⟩
  | .hbm, ⟨14, _⟩ => ⟨S1024x256, .f32⟩
  | .hbm, ⟨15, _⟩ => ⟨S1024x256, .bf16⟩
  | .hbm, ⟨16, _⟩ => ⟨S8192x1024, .f32⟩
  | .hbm, ⟨17, _⟩ => ⟨S1x1, .f32⟩
  | .hbm, ⟨18, _⟩ => ⟨S1024x1024, .f32⟩
  | .hbm, ⟨19, _⟩ => ⟨S256x1024, .f32⟩
  | .hbm, ⟨20, _⟩ => ⟨S1x1024, .f32⟩
  | .hbm, ⟨21, _⟩ => ⟨S1x1024, .f32⟩
  | .hbm, ⟨22, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1, .f32⟩
  | .local _ .vmem, ⟨12, _⟩ => ⟨S1024x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S8192x1024 : Shape := ⟨2, ![8192, 1024]⟩
abbrev S8192x256 : Shape := ⟨2, ![8192, 256]⟩
abbrev S1x1024 : Shape := ⟨2, ![1, 1024]⟩
abbrev S1024x1024 : Shape := ⟨2, ![1024, 1024]⟩
abbrev S256x1024 : Shape := ⟨2, ![256, 1024]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x256 : Shape := ⟨2, ![1024, 256]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S1x1024, .f32⟩
  | 4 => ⟨S1024x1024, .f32⟩
  | 5 => ⟨S1x1024, .f32⟩
  | 6 => ⟨S256x1024, .f32⟩
  | 7 => ⟨S1x1024, .f32⟩
  | 8 => ⟨S2048x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192, .f32⟩
  | 72 => ⟨S_, .f32⟩
  | 73 => ⟨S8192, .f32⟩
  | 74 => ⟨S8192, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S8192, .f32⟩
  | 83 => ⟨S_, .f32⟩
  | 84 => ⟨S8192, .f32⟩
  | 85 => ⟨S8192, .f32⟩
  | 86 => ⟨S8192x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S8192x1024, .f32⟩
  | 95 => ⟨S_, .f32⟩
  | 96 => ⟨S8192, .f32⟩
  | 97 => ⟨S8192x1, .f32⟩
  | 98 => ⟨S8192x1024, .f32⟩
  | 99 => ⟨S8192x1024, .f32⟩
  | 100 => ⟨S8192x1, .f32⟩
  | 101 => ⟨S_, .f32⟩
  | 102 => ⟨S8192x1, .f32⟩
  | 103 => ⟨S8192x1, .f32⟩
  | 104 => ⟨S_, .f32⟩
  | 105 => ⟨S8192, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S1024x256, .f32⟩
  | 114 => ⟨S256x1024, .f32⟩
  | 115 => ⟨S8192x1024, .f32⟩
  | 116 => ⟨S_, .f32⟩
  | 117 => ⟨S1024, .f32⟩
  | 118 => ⟨S1x1024, .f32⟩
  | 119 => ⟨S1024x1024, .f32⟩
  | 120 => ⟨S1024x1024, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S8192, .f32⟩
  | 3 => ⟨S8192x1, .f32⟩
  | 4 => ⟨S8192x1024, .f32⟩
  | 5 => ⟨S8192x1024, .f32⟩
  | 6 => ⟨S8192x1024, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_cst_14 : Ref sig .tc := ⟨.hbm, 77, rfl⟩
abbrev main_v53 : Ref sig .tc := ⟨.hbm, 78, rfl⟩
abbrev main_cst_15 : Ref sig .tc := ⟨.hbm, 79, rfl⟩
abbrev main_cst_16 : Ref sig .tc := ⟨.hbm, 80, rfl⟩
abbrev main_v54 : Ref sig .tc := ⟨.hbm, 81, rfl⟩
abbrev main_v55 : Ref sig .tc := ⟨.hbm, 82, rfl⟩
abbrev main_cst_17 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_18 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_19 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_20 : Ref sig .tc := ⟨.hbm, 101, rfl⟩
abbrev main_v71 : Ref sig .tc := ⟨.hbm, 102, rfl⟩
abbrev main_v72 : Ref sig .tc := ⟨.hbm, 103, rfl⟩
abbrev main_cst_21 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_22 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_23 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_24 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_25 : Ref sig .tc := ⟨.hbm, 136, rfl⟩
abbrev main_v101 : Ref sig .tc := ⟨.hbm, 137, rfl⟩
abbrev main_v102 : Ref sig .tc := ⟨.hbm, 138, rfl⟩
abbrev main_cst_26 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x4624 : Shape := ⟨2, ![1024, 4624]⟩
abbrev S8192x4624 : Shape := ⟨2, ![8192, 4624]⟩
abbrev S4624x1024 : Shape := ⟨2, ![4624, 1024]⟩
abbrev S8x578x1024 : Shape := ⟨3, ![8, 578, 1024]⟩
abbrev S_ : Shape := ⟨0, ![]⟩
abbrev S8x14x1024 : Shape := ⟨3, ![8, 14, 1024]⟩
abbrev S8x592x1024 : Shape := ⟨3, ![8, 592, 1024]⟩
abbrev S8x591872 : Shape := ⟨2, ![8, 591872]⟩
abbrev S8192x2048 : Shape := ⟨2, ![8192, 2048]⟩
abbrev S8192x2576 : Shape := ⟨2, ![8192, 2576]⟩
abbrev S8192x112 : Shape := ⟨2, ![8192, 112]⟩
abbrev S8192x2688 : Shape := ⟨2, ![8192, 2688]⟩
abbrev S256x1024 : Shape := ⟨2, ![256, 1024]⟩
abbrev S256x2048 : Shape := ⟨2, ![256, 2048]⟩
abbrev S256x2688 : Shape := ⟨2, ![256, 2688]⟩
abbrev S1 : Shape := ⟨1, ![1]⟩
abbrev S2048x1024 : Shape := ⟨2, ![2048, 1024]⟩
abbrev S256x2560 : Shape := ⟨2, ![256, 2560]⟩
abbrev S2560x1024 : Shape := ⟨2, ![2560, 1024]⟩
abbrev S256x16 : Shape := ⟨2, ![256, 16]⟩
abbrev S16x1024 : Shape := ⟨2, ![16, 1024]⟩
abbrev S256 : Shape := ⟨1, ![256]⟩
abbrev S256x1 : Shape := ⟨2, ![256, 1]⟩
abbrev S1024 : Shape := ⟨1, ![1024]⟩

abbrev nBuf : Space → Nat
  | .hbm => 23
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4624, .f32⟩
  | .hbm, ⟨3, _⟩ => ⟨S8192x1024, .f32⟩
  | .hbm, ⟨4, _⟩ => ⟨S8192x4624, .f32⟩
  | .hbm, ⟨5, _⟩ => ⟨S4624x1024, .f32⟩
  | .hbm, ⟨6, _⟩ => ⟨S4624x1024, .bf16⟩
  | .hbm, ⟨7, _⟩ => ⟨S8x578x1024, .bf16⟩
  | .hbm, ⟨8, _⟩ => ⟨S_, .bf16⟩
  | .hbm, ⟨9, _⟩ => ⟨S8x14x1024, .bf16⟩
  | .hbm, ⟨10, _⟩ => ⟨S8x592x1024, .bf16⟩
  | .hbm, ⟨11, _⟩ => ⟨S8x578x1024, .bf16⟩
  | .hbm, ⟨12, _⟩ => ⟨S8x591872, .bf16⟩
  | .hbm, ⟨13, _⟩ => ⟨S4624x1024, .bf16⟩
  | .hbm, ⟨14, _⟩ => ⟨S8192x2048, .f32⟩
  | .hbm, ⟨15, _⟩ => ⟨S8192x2048, .bf16⟩
  | .hbm, ⟨16, _⟩ => ⟨S8192x2576, .f32⟩
  | .hbm, ⟨17, _⟩ => ⟨S_, .f32⟩
  | .hbm, ⟨18, _⟩ => ⟨S8192x112, .f32⟩
  | .hbm, ⟨19, _⟩ => ⟨S8192x2688, .f32⟩
  | .hbm, ⟨20, _⟩ => ⟨S8192x2688, .bf16⟩
  | .hbm, ⟨21, _⟩ => ⟨S8192x1024, .f32⟩
  | .hbm, ⟨22, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .bf16⟩
  | .local _ .vmem, ⟨5, _⟩ => ⟨S256x2048, .bf16⟩
  | .local _ .vmem, ⟨6, _⟩ => ⟨S256x2688, .bf16⟩
  | .local _ .vmem, ⟨7, _⟩ => ⟨S256x2688, .bf16⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S4624x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8192x1024 : Shape := ⟨2, ![8192, 1024]⟩
abbrev S1x1024 : Shape := ⟨2, ![1, 1024]⟩
abbrev S1024x4624 : Shape := ⟨2, ![1024, 4624]⟩
abbrev S8192x4624 : Shape := ⟨2, ![8192, 4624]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4624, .f32⟩
  | .hbm, ⟨3, _⟩ => ⟨S8192x1024, .f32⟩
  | .hbm, ⟨4, _⟩ => ⟨S8192x4624, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4624, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel6.lean ====
abbrev S8192x4624 : Shape := ⟨2, ![8192, 4624]⟩
abbrev S1x1024 : Shape := ⟨2, ![1, 1024]⟩
abbrev S1x8x128x128 : Shape := ⟨4, ![1, 8, 128, 128]⟩
abbrev S1x8x128 : Shape := ⟨3, ![1, 8, 128]⟩
abbrev S8192x3072 : Shape := ⟨2, ![8192, 3072]⟩
abbrev S8192x16 : Shape := ⟨2, ![8192, 16]⟩
abbrev S_ : Shape := ⟨0, ![]⟩
abbrev S8192x112 : Shape := ⟨2, ![8192, 112]⟩
abbrev S8192x3200 : Shape := ⟨2, ![8192, 3200]⟩
abbrev S8x128x128 : Shape := ⟨3, ![8, 128, 128]⟩
abbrev S8x128 : Shape := ⟨2, ![8, 128]⟩
abbrev S128x8 : Shape := ⟨2, ![128, 8]⟩
abbrev S8192x1024 : Shape := ⟨2, ![8192, 1024]⟩
abbrev S512x1024 : Shape := ⟨2, ![512, 1024]⟩
abbrev S1x128x128 : Shape := ⟨3, ![1, 128, 128]⟩
abbrev S128x128 : Shape := ⟨2, ![128, 128]⟩
abbrev S128x1024 : Shape := ⟨2, ![128, 1024]⟩
abbrev S128 : Shape := ⟨1, ![128]⟩
abbrev S128x1 : Shape := ⟨2, ![128, 1]⟩

abbrev nBuf : Space → Nat
  | .hbm => 15
  | .vmem => 11
  | .smem => 0
  | _ => 0

abbrev bufTy : (tb : Table) → Fin (tcTables nBuf tb) → BufTy
  | .hbm, ⟨0, _⟩ => ⟨S8192x4624, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1x1024, .f32⟩
  | .hbm, ⟨6, _⟩ => ⟨S8192x3072, .f32⟩
  | .hbm, ⟨7, _⟩ => ⟨S8192x16, .f32⟩
  | .hbm, ⟨8, _⟩ => ⟨S_, .f32⟩
  | .hbm, ⟨9, _⟩ => ⟨S8192x112, .f32⟩
  | .hbm, ⟨10, _⟩ => ⟨S8192x3200, .f32⟩
  | .hbm, ⟨11, _⟩ => ⟨S8x128x128, .f32⟩
  | .hbm, ⟨12, _⟩ => ⟨S8x128, .f32⟩
  | .hbm, ⟨13, _⟩ => ⟨S128x8, .f32⟩
  | .hbm, ⟨14, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | _, _ => ⟨S8192x4624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8192x4624 : Shape := ⟨2, ![8192, 4624]⟩
abbrev S1x1024 : Shape := ⟨2, ![1, 1024]⟩
abbrev S1x8x128x128 : Shape := ⟨4, ![1, 8, 128, 128]⟩
abbrev S1x8x128 : Shape := ⟨3, ![1, 8, 128]⟩
abbrev S8192x1024 : Shape := ⟨2, ![8192, 1024]⟩
abbrev S_ : Shape := ⟨0, ![]⟩
abbrev S8x128x128 : Shape := ⟨3, ![8, 128, 128]⟩
abbrev S8x128 : Shape := ⟨2, ![8, 128]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S8x64x128x128 : Shape := ⟨4, ![8, 64, 128, 128]⟩
abbrev S128x8 : Shape := ⟨2, ![128, 8]⟩
abbrev S1x128x8x1 : Shape := ⟨4, ![1, 128, 8, 1]⟩

abbrev nBuf : Space → Nat
  | .hbm => 93
  | .vmem => 0
  | .smem => 0
  | _ => 0

abbrev bufTy : (tb : Table) → Fin (tcTables nBuf tb) → BufTy
  | .hbm, ⟨0, _⟩ => ⟨S8192x4624, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8x128x128, .f32⟩
  | .hbm, ⟨27, _⟩ => ⟨S8x128, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S64x128x8x128, .f32⟩
  | .hbm, ⟨54, _⟩ => ⟨S_, .i1⟩
  | .hbm, ⟨55, _⟩ => ⟨S128x128, .i1⟩
  | .hbm, ⟨56, _⟩ => ⟨S128x128, .i32⟩
  | .hbm, ⟨57, _⟩ => ⟨S_, .i32⟩
  | .hbm, ⟨58, _⟩ => ⟨S128x128, .i32⟩
  | .hbm, ⟨59, _⟩ => ⟨S128x128, .i32⟩
  | .hbm, ⟨60, _⟩ => ⟨S128x128, .i32⟩
  | .hbm, ⟨61, _⟩ => ⟨S128x128, .i1⟩
  | .hbm, ⟨62, _⟩ => ⟨S_, .i1⟩
  | .hbm, ⟨63, _⟩ => ⟨S128x128, .i1⟩
  | .hbm, ⟨64, _⟩ => ⟨S128x128, .i1⟩
  | .hbm, ⟨65, _⟩ => ⟨S_, .f32⟩
  | .hbm, ⟨66, _⟩ => ⟨S8x128x128, .f32⟩
  | .hbm, ⟨67, _⟩ => ⟨S8x128x128, .i1⟩
  | .hbm, ⟨68, _⟩ => ⟨S8x128x128, .f32⟩
  | .hbm, ⟨69, _⟩ => ⟨S8x64x128x128, .f32⟩
  | .hbm, ⟨70, _⟩ => ⟨S64x128x8x128, .f32⟩
  | .hbm, ⟨71, _⟩ => ⟨S128x8, .f32⟩
  | .hbm, ⟨72, _⟩ => ⟨S1x128x8x1, .f32⟩
  | .hbm, ⟨73, _⟩ => ⟨S64x128x8x128, .f32⟩
  | .hbm, ⟨74, _⟩ => ⟨S64x128x8x128, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .bf16⟩
  | _, _ => ⟨S8192x4624, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c : Ref sig .tc := ⟨.hbm, 54, rfl⟩
abbrev main_v39 : Ref sig .tc := ⟨.hbm, 55, rfl⟩
abbrev main_call0_v0 : Ref sig .tc := ⟨.hbm, 56, rfl⟩
abbrev main_call0_c : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c_0 : Ref sig .tc := ⟨.hbm, 62, rfl⟩
abbrev main_call0_v5 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_call1_v0 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩

abbrev nD : Nat := 1
abbrev τ : Topo := Topo.v7x

variable {F : FTy → Type} [FloatOps F]
-- ==== Kernel7.lean ====
abbrev S8192x4624 : Shape := ⟨2, ![8192, 4624]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S8192x3072 : Shape := ⟨2, ![8192, 3072]⟩
abbrev S8192x16 : Shape := ⟨2, ![8192, 16]⟩
abbrev S_ : Shape := ⟨0, ![]⟩
abbrev S8192x112 : Shape := ⟨2, ![8192, 112]⟩
abbrev S8192x3200 : Shape := ⟨2, ![8192, 3200]⟩
abbrev S8x1536 : Shape := ⟨2, ![8, 1536]⟩
abbrev S8192x1536 : Shape := ⟨2, ![8192, 1536]⟩
abbrev S8200x1536 : Shape := ⟨2, ![8200, 1536]⟩
abbrev S8192x1024 : Shape := ⟨2, ![8192, 1024]⟩
abbrev S512x1024 : Shape := ⟨2, ![512, 1024]⟩
abbrev S512x1536 : Shape := ⟨2, ![512, 1536]⟩
abbrev S512x128 : Shape := ⟨2, ![512, 128]⟩
abbrev S128x1024 : Shape := ⟨2, ![128, 1024]⟩
abbrev S128x1536 : Shape := ⟨2, ![128, 1536]⟩
abbrev S128x16 : Shape := ⟨2, ![128, 16]⟩
abbrev S128x128 : Shape := ⟨2, ![128, 128]⟩
abbrev S16x1024 : Shape := ⟨2, ![16, 1024]⟩
abbrev S16x128 : Shape := ⟨2, ![16, 128]⟩
abbrev S128x1 : Shape := ⟨2, ![128, 1]⟩
abbrev S1x128 : Shape := ⟨2, ![1, 128]⟩
abbrev S128x64 : Shape := ⟨2, ![128, 64]⟩
abbrev S128x512 : Shape := ⟨2, ![128, 512]⟩
abbrev S128 : Shape := ⟨1, ![128]⟩

abbrev nBuf : Space → Nat
  | .hbm => 39
  | .vmem => 15
  | .smem => 0
  | _ => 0

abbrev bufTy : (tb : Table) → Fin (tcTables nBuf tb) → BufTy
  | .hbm, ⟨0, _⟩ => ⟨S8192x4624, .f32⟩
  | .hbm, ⟨1, _⟩ => ⟨S4x1536, .f32⟩
  | .hbm, ⟨2, _⟩ => ⟨S1x1536, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x1024, .f32⟩
  | .hbm, ⟨7, _⟩ => ⟨S8192x3072, .f32⟩
  | .hbm, ⟨8, _⟩ => ⟨S8192x16, .f32⟩
  | .hbm, ⟨9, _⟩ => ⟨S_, .f32⟩
  | .hbm, ⟨10, _⟩ => ⟨S8192x112, .f32⟩
  | .hbm, ⟨11, _⟩ => ⟨S8192x3200, .f32⟩
  | .hbm, ⟨12, _⟩ => ⟨S_, .f32⟩
  | .hbm, ⟨13, _⟩ => ⟨S8x1536, .f32⟩
  | .hbm, ⟨14, _⟩ => ⟨S8192x1536, .f32⟩
  | .hbm, ⟨15, _⟩ => ⟨S8200x1536, .f32⟩
  | .hbm, ⟨16, _⟩ => ⟨S1x1536, .f32⟩
  | .hbm, ⟨17, _⟩ => ⟨S8192x1536, .f32⟩
  | .hbm, ⟨18, _⟩ => ⟨S8192x1536, .f32⟩
  | .hbm, ⟨19, _⟩ => ⟨S8192x1536, .f32⟩
  | .hbm, ⟨20, _⟩ => ⟨S8192x1536, .f32⟩
  | .hbm, ⟨21, _⟩ => ⟨S8192x1536, .f32⟩
  | .hbm, ⟨22, _⟩ => ⟨S1x1536, .f32⟩
  | .hbm, ⟨23, _⟩ => ⟨S8192x1536, .f32⟩
  | .hbm, ⟨24, _⟩ => ⟨S8192x1536, .f32⟩
  | .hbm, ⟨25, _⟩ => ⟨S8192x1536, .f32⟩
  | .hbm, ⟨26, _⟩ => ⟨S8192x1536, .f32⟩
  | .hbm, ⟨27, _⟩ => ⟨S1x1536, .f32⟩
  | .hbm, ⟨28, _⟩ => ⟨S8192x1536, .f32⟩
  | .hbm, ⟨29, _⟩ => ⟨S8192x1536, .f32⟩
  | .hbm, ⟨30, _⟩ => ⟨S8192x1536, .f32⟩
  | .hbm, ⟨31, _⟩ => ⟨S8192x1536, .f32⟩
  | .hbm, ⟨32, _⟩ => ⟨S1x1536, .f32⟩
  | .hbm, ⟨33, _⟩ => ⟨S8192x1536, .f32⟩
  | .hbm, ⟨34, _⟩ => ⟨S8192x1536, .f32⟩
  | .hbm, ⟨35, _⟩ => ⟨S8192x1536, .f32⟩
  | .hbm, ⟨36, _⟩ => ⟨S8192x1536, .f32⟩
  | .hbm, ⟨37, _⟩ => ⟨S8192x1024, .bf16⟩
  | .hbm, ⟨38, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1536, .f32⟩
  | .local _ .vmem, ⟨3, _⟩ => ⟨S512x1536, .f32⟩
  | .local _ .vmem, ⟨4, _⟩ => ⟨S512x128, .f32⟩
  | .local _ .vmem, ⟨5, _⟩ => ⟨S512x128, .f32⟩
  | .local _ .vmem, ⟨6, _⟩ => ⟨S1x16, .f32⟩
  | .local _ .vmem, ⟨7, _⟩ => ⟨S1x16, .f32⟩
  | .local _ .vmem, ⟨8, _⟩ => ⟨S1x16, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S128x1024, .f32⟩
  | _, _ => ⟨S8192x4624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8192x4624 : Shape := ⟨2, ![8192, 4624]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S8192x1024 : Shape := ⟨2, ![8192, 1024]⟩
abbrev S8192x1536 : Shape := ⟨2, ![8192, 1536]⟩
abbrev S8192x16 : Shape := ⟨2, ![8192, 16]⟩
abbrev S1536 : Shape := ⟨1, ![1536]⟩
abbrev S16 : Shape := ⟨1, ![16]⟩
abbrev S1024 : Shape := ⟨1, ![1024]⟩
abbrev S_ : Shape := ⟨0, ![]⟩
abbrev S3x1536 : Shape := ⟨2, ![3, 1536]⟩
abbrev S8195x1536 : Shape := ⟨2, ![8195, 1536]⟩
abbrev S8192x256 : Shape := ⟨2, ![8192, 256]⟩
abbrev S8192x16x64 : Shape := ⟨3, ![8192, 16, 64]⟩
abbrev S8192x2x128 : Shape := ⟨3, ![8192, 2, 128]⟩
abbrev S8192x16x1 : Shape := ⟨3, ![8192, 16, 1]⟩
abbrev S64x128x2x8x64 : Shape := ⟨5, ![64, 128, 2, 8, 64]⟩
abbrev S64x128x2x8 : Shape := ⟨4, ![64, 128, 2, 8]⟩
abbrev S2x8x64x128 : Shape := ⟨4, ![2, 8, 64, 128]⟩
abbrev S64x128x2x128 : Shape := ⟨4, ![64, 128, 2, 128]⟩
abbrev S2x8x64x128x1 : Shape := ⟨5, ![2, 8, 64, 128, 1]⟩
abbrev S2x8x64x1x128 : Shape := ⟨5, ![2, 8, 64, 1, 128]⟩
abbrev S2x8x64x128x128 : Shape := ⟨5, ![2, 8, 64, 128, 128]⟩
abbrev S128x128 : Shape := ⟨2, ![128, 128]⟩
abbrev S2x64x128x128 : Shape := ⟨4, ![2, 64, 128, 128]⟩
abbrev S2x1x64x128x128 : Shape := ⟨5, ![2, 1, 64, 128, 128]⟩
abbrev S64x2x8x64x128 : Shape := ⟨5, ![64, 2, 8, 64, 128]⟩
abbrev S2x8x64x1 : Shape := ⟨4, ![2, 8, 64, 1]⟩
abbrev S64x128x2x8x1 : Shape := ⟨5, ![64, 128, 2, 8, 1]⟩
abbrev S2x8x64 : Shape := ⟨3, ![2, 8, 64]⟩
abbrev S2x8x1 : Shape := ⟨3, ![2, 8, 1]⟩
abbrev S2x8x65 : Shape := ⟨3, ![2, 8, 65]⟩
abbrev S2x8x65x1 : Shape := ⟨4, ![2, 8, 65, 1]⟩
abbrev S2x8x1x65 : Shape := ⟨4, ![2, 8, 1, 65]⟩
abbrev S2x8x65x65 : Shape := ⟨4, ![2, 8, 65, 65]⟩
abbrev S65x65 : Shape := ⟨2, ![65, 65]⟩
abbrev S1x2x8x64x128 : Shape := ⟨5, ![1, 2, 8, 64, 128]⟩
abbrev S65x2x8x64x128 : Shape := ⟨5, ![65, 2, 8, 64, 128]⟩
abbrev S2x8x64x128x65 : Shape := ⟨5, ![2, 8, 64, 128, 65]⟩
abbrev S16x1 : Shape := ⟨2, ![16, 1]⟩
abbrev S1x16x1 : Shape := ⟨3, ![1, 16, 1]⟩
abbrev S8192x2x512 : Shape := ⟨3, ![8192, 2, 512]⟩
abbrev S8192x2 : Shape := ⟨2, ![8192, 2]⟩
abbrev S8192x2x1 : Shape := ⟨3, ![8192, 2, 1]⟩

abbrev nBuf : Space → Nat
  | .hbm => 217
  | .vmem => 0
  | .smem => 0
  | _ => 0

abbrev hbmTy0_0 (i : Nat) : BufTy := match i % 128 with
  | 0 => ⟨S8192x4624, .f32⟩
  | 1 => ⟨S4x1536, .f32⟩
  | 2 => ⟨S1x1536, .f32⟩
  | 3 => ⟨S1x16, .f32⟩
  | 4 => ⟨S1x16, .f32⟩
  | 5 => ⟨S1x16, .f32⟩
  | 6 => ⟨S1x1024, .f32⟩
  | 7 => ⟨S8192x1024, .f32⟩
  | 8 => ⟨S8192x1536, .f32⟩
  | 9 => ⟨S8192x16, .f32⟩
  | 10 => ⟨S1536, .f32⟩
  | 11 => ⟨S16, .f32⟩
  | 12 => ⟨S16, .f32⟩
  | 13 => ⟨S16, .f32⟩
  | 14 => ⟨S1024, .f32⟩
  | 15 => ⟨S_, .f32⟩
  | 16 => ⟨S3x1536, .f32⟩
  | 17 => ⟨S8195x1536, .f32⟩
  | 18 => ⟨S8192x1536, .f32⟩
  | 19 => ⟨S1x1536, .f32⟩
  | 20 => ⟨S1536, .f32⟩
  | 21 => ⟨S1x1536, .f32⟩
  | 22 => ⟨S8192x1536, .f32⟩
  | 23 => ⟨S8192x1536, .f32⟩
  | 24 => ⟨S8192x1536, .f32⟩
  | 25 => ⟨S1x1536, .f32⟩
  | 26 => ⟨S1536, .f32⟩
  | 27 => ⟨S1x1536, .f32⟩
  | 28 => ⟨S8192x1536, .f32⟩
  | 29 => ⟨S8192x1536, .f32⟩
  | 30 => ⟨S8192x1536, .f32⟩
  | 31 => ⟨S8192x1536, .f32⟩
  | 32 => ⟨S1x1536, .f32⟩
  | 33 => ⟨S1536, .f32⟩
  | 34 => ⟨S1x1536, .f32⟩
  | 35 => ⟨S8192x1536, .f32⟩
  | 36 => ⟨S8192x1536, .f32⟩
  | 37 => ⟨S8192x1536, .f32⟩
  | 38 => ⟨S8192x1536, .f32⟩
  | 39 => ⟨S1x1536, .f32⟩
  | 40 => ⟨S1536, .f32⟩
  | 41 => ⟨S1x1536, .f32⟩
  | 42 => ⟨S8192x1536, .f32⟩
  | 43 => ⟨S8192x1536, .f32⟩
  | 44 => ⟨S8192x1536, .f32⟩
  | 45 => ⟨S1x1536, .f32⟩
  | 46 => ⟨S8192x1536, .f32⟩
  | 47 => ⟨S8192x1536, .f32⟩
  | 48 => ⟨S8192x1536, .f32⟩
  | 49 => ⟨S8192x1536, .f32⟩
  | 50 => ⟨S_, .f32⟩
  | 51 => ⟨S8192x1536, .f32⟩
  | 52 => ⟨S8192x1536, .f32⟩
  | 53 => ⟨S_, .f32⟩
  | 54 => ⟨S8192x1536, .f32⟩
  | 55 => ⟨S8192x1536, .f32⟩
  | 56 => ⟨S8192x1536, .f32⟩
  | 57 => ⟨S8192x1024, .f32⟩
  | 58 => ⟨S8192x256, .f32⟩
  | 59 => ⟨S8192x256, .f32⟩
  | 60 => ⟨S8192x16x64, .f32⟩
  | 61 => ⟨S8192x2x128, .f32⟩
  | 62 => ⟨S8192x2x128, .f32⟩
  | 63 => ⟨S1x16, .f32⟩
  | 64 => ⟨S8192x16, .f32⟩
  | 65 => ⟨S8192x16, .f32⟩
  | 66 => ⟨S_, .f32⟩
  | 67 => ⟨S8192x16, .f32⟩
  | 68 => ⟨S8192x16, .f32⟩
  | 69 => ⟨S8192x16, .f32⟩
  | 70 => ⟨S8192x16, .f32⟩
  | 71 => ⟨S8192x16, .i1⟩
  | 72 => ⟨S8192x16, .f32⟩
  | 73 => ⟨S8192x16, .f32⟩
  | 74 => ⟨S8192x16, .f32⟩
  | 75 => ⟨S8192x16, .f32⟩
  | 76 => ⟨S8192x16, .f32⟩
  | 77 => ⟨S8192x16, .f32⟩
  | 78 => ⟨S8192x16, .f32⟩
  | 79 => ⟨S8192x16, .f32⟩
  | 80 => ⟨S16, .f32⟩
  | 81 => ⟨S16, .f32⟩
  | 82 => ⟨S8192x16x1, .f32⟩
  | 83 => ⟨S8192x16x64, .f32⟩
  | 84 => ⟨S8192x16x64, .f32⟩
  | 85 => ⟨S64x128x2x8x64, .f32⟩
  | 86 => ⟨S1x16, .f32⟩
  | 87 => ⟨S8192x16, .f32⟩
  | 88 => ⟨S8192x16, .f32⟩
  | 89 => ⟨S64x128x2x8, .f32⟩
  | 90 => ⟨S2x8x64x128, .f32⟩
  | 91 => ⟨S64x128x2x128, .f32⟩
  | 92 => ⟨S64x128x2x128, .f32⟩
  | 93 => ⟨S_, .f32⟩
  | 94 => ⟨S_, .f32⟩
  | 95 => ⟨S2x8x64x128, .f32⟩
  | 96 => ⟨S2x8x64x128x1, .f32⟩
  | 97 => ⟨S2x8x64x1x128, .f32⟩
  | 98 => ⟨S2x8x64x128x128, .f32⟩
  | 99 => ⟨S2x8x64x128x128, .f32⟩
  | 100 => ⟨S2x8x64x128x128, .f32⟩
  | 101 => ⟨S_, .i1⟩
  | 102 => ⟨S128x128, .i1⟩
  | 103 => ⟨S128x128, .i32⟩
  | 104 => ⟨S_, .i32⟩
  | 105 => ⟨S128x128, .i32⟩
  | 106 => ⟨S128x128, .i32⟩
  | 107 => ⟨S128x128, .i32⟩
  | 108 => ⟨S128x128, .i1⟩
  | 109 => ⟨S_, .i1⟩
  | 110 => ⟨S128x128, .i1⟩
  | 111 => ⟨S128x128, .i1⟩
  | 112 => ⟨S_, .f32⟩
  | 113 => ⟨S_, .f32⟩
  | 114 => ⟨S2x8x64x128x128, .i1⟩
  | 115 => ⟨S2x8x64x128x128, .f32⟩
  | 116 => ⟨S2x8x64x128x128, .f32⟩
  | 117 => ⟨S2x8x64x128x128, .f32⟩
  | 118 => ⟨S2x64x128x128, .f32⟩
  | 119 => ⟨S2x1x64x128x128, .f32⟩
  | 120 => ⟨S2x8x64x128x128, .f32⟩
  | 121 => ⟨S2x8x64x128x128, .f32⟩
  | 122 => ⟨S64x2x8x64x128, .f32⟩
  | 123 => ⟨S64x128x2x8x64, .f32⟩
  | 124 => ⟨S2x8x64x1, .f32⟩
  | 125 => ⟨S2x8x64x128, .f32⟩
  | 126 => ⟨S2x8x64x128, .f32⟩
  | 127 => ⟨S2x8x64x128, .f32⟩
  | _ => ⟨S8192x4624, .f32⟩

abbrev hbmTy0_1 (i : Nat) : BufTy := match i % 128 with
  | 0 => ⟨S64x128x2x8, .f32⟩
  | 1 => ⟨S64x128x2x8x1, .f32⟩
  | 2 => ⟨S64x128x2x8x64, .f32⟩
  | 3 => ⟨S64x128x2x8x64, .f32⟩
  | 4 => ⟨S64x2x8x64x128, .f32⟩
  | 5 => ⟨S2x8x64x1, .f32⟩
  | 6 => ⟨S2x8x64, .f32⟩
  | 7 => ⟨S2x8x1, .f32⟩
  | 8 => ⟨S_, .f32⟩
  | 9 => ⟨S2x8x1, .f32⟩
  | 10 => ⟨S2x8x65, .f32⟩
  | 11 => ⟨S_, .f32⟩
  | 12 => ⟨S_, .f32⟩
  | 13 => ⟨S2x8x65, .f32⟩
  | 14 => ⟨S2x8x65x1, .f32⟩
  | 15 => ⟨S2x8x1x65, .f32⟩
  | 16 => ⟨S2x8x65x65, .f32⟩
  | 17 => ⟨S2x8x65x65, .f32⟩
  | 18 => ⟨S2x8x65x65, .f32⟩
  | 19 => ⟨S_, .i1⟩
  | 20 => ⟨S65x65, .i1⟩
  | 21 => ⟨S65x65, .i32⟩
  | 22 => ⟨S_, .i32⟩
  | 23 => ⟨S65x65, .i32⟩
  | 24 => ⟨S65x65, .i32⟩
  | 25 => ⟨S65x65, .i32⟩
  | 26 => ⟨S65x65, .i1⟩
  | 27 => ⟨S_, .i1⟩
  | 28 => ⟨S65x65, .i1⟩
  | 29 => ⟨S65x65, .i1⟩
  | 30 => ⟨S_, .f32⟩
  | 31 => ⟨S_, .f32⟩
  | 32 => ⟨S2x8x65x65, .i1⟩
  | 33 => ⟨S2x8x65x65, .f32⟩
  | 34 => ⟨S2x8x65x65, .f32⟩
  | 35 => ⟨S2x8x65x65, .f32⟩
  | 36 => ⟨S1x2x8x64x128, .f32⟩
  | 37 => ⟨S_, .f32⟩
  | 38 => ⟨S1x2x8x64x128, .f32⟩
  | 39 => ⟨S65x2x8x64x128, .f32⟩
  | 40 => ⟨S2x8x64x128x65, .f32⟩
  | 41 => ⟨S65x2x8x64x128, .f32⟩
  | 42 => ⟨S64x2x8x64x128, .f32⟩
  | 43 => ⟨S2x8x64x128, .f32⟩
  | 44 => ⟨S64x128x2x8, .f32⟩
  | 45 => ⟨S64x2x8x64x128, .f32⟩
  | 46 => ⟨S64x128x2x8x64, .f32⟩
  | 47 => ⟨S64x128x2x8x1, .f32⟩
  | 48 => ⟨S64x128x2x8x64, .f32⟩
  | 49 => ⟨S64x128x2x8x64, .f32⟩
  | 50 => ⟨S64x128x2x8x64, .f32⟩
  | 51 => ⟨S8192x16x64, .f32⟩
  | 52 => ⟨S16x1, .f32⟩
  | 53 => ⟨S1x16x1, .f32⟩
  | 54 => ⟨S8192x16x64, .f32⟩
  | 55 => ⟨S8192x16x64, .f32⟩
  | 56 => ⟨S8192x16x64, .f32⟩
  | 57 => ⟨S8192x1024, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S8192x1024, .f32⟩
  | 67 => ⟨S8192x1024, .f32⟩
  | 68 => ⟨S8192x2x512, .f32⟩
  | 69 => ⟨S8192x2x512, .f32⟩
  | 70 => ⟨S_, .f32⟩
  | 71 => ⟨S8192x2, .f32⟩
  | 72 => ⟨S8192x2x1, .f32⟩
  | 73 => ⟨S_, .f32⟩
  | 74 => ⟨S8192x2x1, .f32⟩
  | 75 => ⟨S8192x2x1, .f32⟩
  | 76 => ⟨S_, .f32⟩
  | 77 => ⟨S8192x2x1, .f32⟩
  | 78 => ⟨S8192x2x1, .f32⟩
  | 79 => ⟨S8192x2x1, .f32⟩
  | 80 => ⟨S8192x2x512, .f32⟩
  | 81 => ⟨S8192x2x512, .f32⟩
  | 82 => ⟨S8192x1024, .f32⟩
  | 83 => ⟨S1x1024, .f32⟩
  | 84 => ⟨S8192x1024, .f32⟩
  | 85 => ⟨S8192x1024, .f32⟩
  | 86 => ⟨S8192x1024, .bf16⟩
  | 87 => ⟨S64x128x2x8x64, .f32⟩
  | 88 => ⟨S8192x1024, .f32⟩
  | _ => ⟨S8192x4624, .f32⟩

abbrev hbmTy (i : Nat) : BufTy := match i / 128 with
  | 0 => hbmTy0_0 i
  | 1 => hbmTy0_1 i
  | _ => ⟨S8192x4624, .f32⟩

abbrev bufTy : (tb : Table) → Fin (tcTables nBuf tb) → BufTy
  | .hbm, ⟨i, _⟩ => hbmTy i
  | _, _ => ⟨S8192x4624, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call2_call0_cst : Ref sig .tc := ⟨.hbm, 93, rfl⟩
abbrev main_call2_call0_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c : Ref sig .tc := ⟨.hbm, 101, rfl⟩
abbrev main_v70 : Ref sig .tc := ⟨.hbm, 102, rfl⟩
abbrev main_call3_v0 : Ref sig .tc := ⟨.hbm, 103, rfl⟩
abbrev main_call3_c : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_c_0 : Ref sig .tc := ⟨.hbm, 109, rfl⟩
abbrev main_call3_v5 : Ref sig .tc := ⟨.hbm, 110, rfl⟩
abbrev main_v71 : Ref sig .tc := ⟨.hbm, 111, rfl⟩
abbrev main_cst_0 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_1 : Ref sig .tc := ⟨.hbm, 136, rfl⟩
abbrev main_v92 : Ref sig .tc := ⟨.hbm, 137, rfl⟩
abbrev main_v93 : Ref sig .tc := ⟨.hbm, 138, rfl⟩
abbrev main_call5_call0_cst : Ref sig .tc := ⟨.hbm, 139, rfl⟩
abbrev main_call5_call0_v0 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_c_2 : Ref sig .tc := ⟨.hbm, 147, rfl⟩
abbrev main_v100 : Ref sig .tc := ⟨.hbm, 148, rfl⟩
abbrev main_call6_v0 : Ref sig .tc := ⟨.hbm, 149, rfl⟩
abbrev main_call6_c : Ref sig .tc := ⟨.hbm, 150, rfl⟩
abbrev main_call6_v1 : Ref sig .tc := ⟨.hbm, 151, rfl⟩
abbrev main_call6_v2 : Ref sig .tc := ⟨.hbm, 152, rfl⟩
abbrev main_call6_v3 : Ref sig .tc := ⟨.hbm, 153, rfl⟩
abbrev main_call6_v4 : Ref sig .tc := ⟨.hbm, 154, rfl⟩
abbrev main_call6_c_0 : Ref sig .tc := ⟨.hbm, 155, rfl⟩
abbrev main_call6_v5 : Ref sig .tc := ⟨.hbm, 156, rfl⟩
abbrev main_v101 : Ref sig .tc := ⟨.hbm, 157, rfl⟩
abbrev main_cst_3 : Ref sig .tc := ⟨.hbm, 158, rfl⟩
abbrev main_call7_v0 : Ref sig .tc := ⟨.hbm, 159, rfl⟩
abbrev main_call7_v1 : Ref sig .tc := ⟨.hbm, 160, rfl⟩
abbrev main_call7_v2 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_cst_4 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_call8_v0 : Ref sig .tc := ⟨.hbm, 186, rfl⟩
abbrev main_call8_v1 : Ref sig .tc := ⟨.hbm, 187, rfl⟩
abbrev main_call8_cst : Ref sig .tc := ⟨.hbm, 188, rfl⟩
abbrev main_call8_v2 : Ref sig .tc := ⟨.hbm, 189, rfl⟩
abbrev main_call8_v3 : Ref sig .tc := ⟨.hbm, 190, rfl⟩
abbrev main_call8_cst_0 : Ref sig .tc := ⟨.hbm, 191, rfl⟩
abbrev main_call8_v4 : Ref sig .tc := ⟨.hbm, 192, rfl⟩
abbrev main_call8_v5 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_cst_5 : Ref sig .tc := ⟨.hbm, 198, rfl⟩
abbrev main_v129 : Ref sig .tc := ⟨.hbm, 199, rfl⟩
abbrev main_v130 : Ref sig .tc := ⟨.hbm, 200, rfl⟩
abbrev main_cst_6 : Ref sig .tc := ⟨.hbm, 201, rfl⟩
abbrev main_v131 : Ref sig .tc := ⟨.hbm, 202, rfl⟩
abbrev main_v132 : Ref sig .tc := ⟨.hbm, 203, rfl⟩
abbrev main_cst_7 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩

abbrev nD : Nat := 1
abbrev τ : Topo := Topo.v7x

variable {F : FTy → Type} [FloatOps F]
-- ==== Kernel8.lean ====
abbrev S8192x1024 : Shape := ⟨2, ![8192, 1024]⟩
abbrev S8192x2816 : Shape := ⟨2, ![8192, 2816]⟩
abbrev S2816x1024 : Shape := ⟨2, ![2816, 1024]⟩
abbrev S2048x1024 : Shape := ⟨2, ![2048, 1024]⟩
abbrev S2048x1408 : Shape := ⟨2, ![2048, 1408]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S2816x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8x144x1024 : Shape := ⟨3, ![8, 144, 1024]⟩
abbrev S144x1024 : Shape := ⟨2, ![144, 1024]⟩
abbrev S1x144x1024 : Shape := ⟨3, ![1, 144, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S144x1024, .f32⟩
  | .hbm, ⟨5, _⟩ => ⟨S144x1024, .f32⟩
  | .hbm, ⟨6, _⟩ => ⟨S144x1024, .f32⟩
  | .hbm, ⟨7, _⟩ => ⟨S144x1024, .f32⟩
  | .local _ .vmem, ⟨0, _⟩ => ⟨S8x144x1024, .f32⟩
  | .local _ .vmem, ⟨1, _⟩ => ⟨S144x1024, .f32⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .f32⟩
  | _, _ => ⟨S8x144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x144x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S144x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S144x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S144x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S144x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S144x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S144x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S144x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S8x144x1024 : Shape := ⟨3, ![8, 144, 1024]⟩
abbrev S144x1024 : Shape := ⟨2, ![144, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S_, .f32⟩
  | .hbm, ⟨5, _⟩ => ⟨S144x1024, .f32⟩
  | .hbm, ⟨6, _⟩ => ⟨S_, .f32⟩
  | .hbm, ⟨7, _⟩ => ⟨S144x1024, .f32⟩
  | .hbm, ⟨8, _⟩ => ⟨S144x1024, .f32⟩
  | .hbm, ⟨9, _⟩ => ⟨S_, .f32⟩
  | .hbm, ⟨10, _⟩ => ⟨S144x1024, .f32⟩
  | .hbm, ⟨11, _⟩ => ⟨S144x1024, .f32⟩
  | .hbm, ⟨12, _⟩ => ⟨S144x1024, .f32⟩
  | .hbm, ⟨13, _⟩ => ⟨S_, .f32⟩
  | .hbm, ⟨14, _⟩ => ⟨S144x1024, .f32⟩
  | .hbm, ⟨15, _⟩ => ⟨S144x1024, .f32⟩
  | .hbm, ⟨16, _⟩ => ⟨S144x1024, .f32⟩
  | .hbm, ⟨17, _⟩ => ⟨S_, .f32⟩
  | .hbm, ⟨18, _⟩ => ⟨S144x1024, .f32⟩
  | .hbm, ⟨19, _⟩ => ⟨S144x1024, .f32⟩
  | .hbm, ⟨20, _⟩ => ⟨S144x1024, .f32⟩
  | .hbm, ⟨21, _⟩ => ⟨S_, .f32⟩
  | .hbm, ⟨22, _⟩ => ⟨S144x1024, .f32⟩
  | .hbm, ⟨23, _⟩ => ⟨S144x1024, .f32⟩
  | .hbm, ⟨24, _⟩ => ⟨S_, .f32⟩
  | .hbm, ⟨25, _⟩ => ⟨S144x1024, .f32⟩
  | .hbm, ⟨26, _⟩ => ⟨S144x1024, .f32⟩
  | .hbm, ⟨27, _⟩ => ⟨S144x1024, .f32⟩
  | .hbm, ⟨28, _⟩ => ⟨S_, .f32⟩
  | .hbm, ⟨29, _⟩ => ⟨S144x1024, .f32⟩
  | .hbm, ⟨30, _⟩ => ⟨S144x1024, .f32⟩
  | .hbm, ⟨31, _⟩ => ⟨S144x1024, .f32⟩
  | .hbm, ⟨32, _⟩ => ⟨S_, .f32⟩
  | .hbm, ⟨33, _⟩ => ⟨S144x1024, .f32⟩
  | .hbm, ⟨34, _⟩ => ⟨S144x1024, .f32⟩
  | .hbm, ⟨35, _⟩ => ⟨S144x1024, .f32⟩
  | .hbm, ⟨36, _⟩ => ⟨S_, .f32⟩
  | .hbm, ⟨37, _⟩ => ⟨S144x1024, .f32⟩
  | .hbm, ⟨38, _⟩ => ⟨S144x1024, .f32⟩
  | _, _ => ⟨S8x144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S_ : Shape := ⟨0, ![]⟩
abbrev S256 : Shape := ⟨1, ![256]⟩
abbrev S256x1 : Shape := ⟨2, ![256, 1]⟩
abbrev S1536x1024 : Shape := ⟨2, ![1536, 1024]⟩
abbrev S256x1536 : Shape := ⟨2, ![256, 1536]⟩
abbrev S1280x1024 : Shape := ⟨2, ![1280, 1024]⟩
abbrev S256x1280 : Shape := ⟨2, ![256, 1280]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S8192x1024, .f32⟩
  | .hbm, ⟨11, _⟩ => ⟨S8192x1024, .bf16⟩
  | .hbm, ⟨12, _⟩ => ⟨S8192x2816, .bf16⟩
  | .hbm, ⟨13, _⟩ => ⟨S8192x2816, .bf16⟩
  | .hbm, ⟨14, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S2816x1024, .bf16⟩
  | .local _ .vmem, ⟨14, _⟩ => ⟨S2816x1024, .bf16⟩
  | .local _ .vmem, ⟨15, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S8192x2816, .bf16⟩
  | .hbm, ⟨39, _⟩ => ⟨S8192x2816, .bf16⟩
  | .hbm, ⟨40, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Proof.Staged.lean ====
/-
  Facts shared by the kernels that stage their weights at the first grid point: reading back a store that covers its buffer,
  and a value carried from point to point.
-/
module

public import Idealize.ShloMosaic.Lib.Pipeline.Value
public import Idealize.ShloMosaic.Lib.ValueIdx

@[expose] public section

namespace Cert

open Idealize.ShloMosaic Idealize.ShloMosaic.ValueIdx

/-- Reading back one store that covers the whole buffer gives what was stored. -/
theorem read_whole {F : FTy → Type} [FloatOps F] {sig : RefSig} {S : Shape} {e : EltTy} (v : View sig .tc .vmem S e) (f : v.ty.Contents (Elt F)) {off : Fin S.rank → ℕ}
    (h : off = fun _ => 0) (inb : ∀ a, off a + S.size a ≤ S.size a) (w : S.Idx → Elt F e) :
    v.read (Elt F) (v.writes (Elt F) f [⟨Rect.unit off S.size inb, w⟩]) = w :=
  (View.read_writes_eq_canon v f [⟨Rect.unit off S.size inb, w⟩]
    fun y => ⟨_, List.mem_singleton_self _, View.mem_set_unit_zero h inb y⟩).trans (View.canon_unit_zero h inb w)

theorem zero2 : (![0, 0] : Fin 2 → ℕ) = fun _ => 0 := funext fun a => by fin_cases a <;> rfl

/-- A value carried through the points up to `n`: each point applies its function, the first to the starting value. -/
def sumTo {N : ℕ} {α : Type} (f : Fin N → α → α) (z : α) : (n : ℕ) → n < N → α
  | 0, h => f ⟨0, h⟩ z
  | n + 1, h => f ⟨n + 1, h⟩ (sumTo f z n (Nat.lt_of_succ_lt h))

theorem sumTo_first {N : ℕ} {α : Type} (f : Fin N → α → α) (z : α) (t : Fin N) (h : t.val = 0) : sumTo f z t.val t.isLt = f t z := by
  obtain ⟨n, hn⟩ := t
  cases n with
  | zero => rfl
  | succ n => exact absurd h (Nat.succ_ne_zero n)

theorem sumTo_next {N : ℕ} {α : Type} (f : Fin N → α → α) (z : α) (t : Fin N) (h : t.val ≠ 0) :
    sumTo f z t.val t.isLt = f t (sumTo f z (t.val - 1) (Nat.lt_of_le_of_lt (Nat.sub_le _ _) t.isLt)) := by
  obtain ⟨n, hn⟩ := t
  cases n with
  | zero => exact absurd rfl h
  | succ n => rfl

end Cert
-- ==== Proof.FfnRun.lean ====
/-
  One grid point of the feed-forward backward kernel, after the weights are in scratch memory: what the body leaves in
  its four outputs, written out as functions of the blocks it reads, and the proof that it does.
-/
module

public import proofs.«01_k».proof.Proof.Gen.KernelIdeal.Frame.Runs
public import proofs.«01_k».proof.Proof.Staged

@[expose] public section

set_option maxRecDepth 16384

noncomputable section

namespace Cert.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- Core `c` owns the whole buffer `a`, which holds `v`. -/
abbrev has (c : Dev nD) {sp : Space} {S : Shape} {e : EltTy} (a : Memref sig .tc sp S e) (v : S.Idx → Elt F e) : sProp 𝕄 := owns (c : Thread nD τ) a fullShare v

/-! ## The column blocks of the wide arrays and the row blocks of the weights -/

abbrev cols0 : Rect S256x2816 := Rect.unit (s := S256x2816) ![0, 0] S256x1024.size inb_S256x2816_S256x1024_0_0
abbrev cols1 : Rect S256x2816 := Rect.unit (s := S256x2816) ![0, 1024] S256x1024.size inb_S256x2816_S256x1024_0_1024
abbrev cols2 : Rect S256x2816 := Rect.unit (s := S256x2816) ![0, 2048] S256x768.size inb_S256x2816_S256x768_0_2048
abbrev rows0 : Rect S2816x1024 := Rect.unit (s := S2816x1024) ![0, 0] S1024x1024.size inb_S2816x1024_S1024x1024_0_0
abbrev rows1 : Rect S2816x1024 := Rect.unit (s := S2816x1024) ![1024, 0] S1024x1024.size inb_S2816x1024_S1024x1024_1024_0
abbrev rows2 : Rect S2816x1024 := Rect.unit (s := S2816x1024) ![2048, 0] S768x1024.size inb_S2816x1024_S768x1024_2048_0

section Values

variable (h g : Vec F S256x1024 .f32) (a b : Vec F S256x2816 .bf16) (w : Vec F S1x1024 .f32) (wg wu wd : Vec F S2816x1024 .bf16)
  (acc : Vec F S1x1024 .f32)

/-- The gradient of the gate's product, first block of columns. -/
def da0 : Vec F S256x1024 .bf16 :=
  k0_pay16 (k0_pay11 (View.ld a cols0)) (k0_pay12 (View.ld a cols0)) (k0_pay15 g (View.ld b cols0) (View.ld wd rows0)) (Scalar.ofBits .f32 0x3F800000#32)
/-- … second block of columns, -/
def da1 : Vec F S256x1024 .bf16 := k0_pay22 (k0_pay9 g) (View.ld a cols1) (View.ld b cols1) (View.ld wd rows1)
/-- … third block of columns. -/
def da2 : Vec F S256x768 .bf16 := k0_pay27 (k0_pay9 g) (View.ld a cols2) (View.ld b cols2) (View.ld wd rows2)
/-- The gradient of the other product, first block of columns, -/
def db0 : Vec F S256x1024 .bf16 := k0_pay14 g (View.ld a cols0) (View.ld wd rows0)
/-- … second block of columns, -/
def db1 : Vec F S256x1024 .bf16 := k0_pay21 (k0_pay9 g) (View.ld a cols1) (View.ld wd rows1)
/-- … third block of columns. -/
def db2 : Vec F S256x768 .bf16 := k0_pay26 (k0_pay9 g) (View.ld a cols2) (View.ld wd rows2)

/-- The gradient of the normalised rows: what the first block of columns gives, -/
def dn0 : Vec F S256x1024 .f32 :=
  k0_pay17 k0_pay10 (k0_pay11 (View.ld a cols0)) (k0_pay12 (View.ld a cols0)) (db0 g a wd) (k0_pay15 g (View.ld b cols0) (View.ld wd rows0))
    (Scalar.ofBits .f32 0x3F800000#32) (View.ld wg rows0) (View.ld wu rows0)
/-- … all but the last product, -/
def dn1 : Vec F S256x1024 .f32 :=
  k0_pay28 (k0_pay9 g) (dn0 g a b wg wu wd) (db1 g a wd) (da1 g a b wd) (View.ld wg rows1) (View.ld wu rows1) (View.ld a cols2) (View.ld b cols2)
    (View.ld wd rows2) (View.ld wg rows2)
/-- … the last product. -/
def dn2 : Vec F S256x1024 .f32 := k0_pay29 (k0_pay9 g) (View.ld a cols2) (View.ld wd rows2) (View.ld wu rows2)

/-- The block of the input's gradient. -/
def outH : Vec F S256x1024 .f32 := k0_pay2 g h w (k0_pay6 h) (k0_pay7 h) (dn1 g a b wg wu wd) (dn2 g a wu wd)
/-- The block of the gate's gradient. -/
def outA : Vec F S256x2816 .bf16 := View.canon [⟨cols2, da2 g a b wd⟩, ⟨cols1, da1 g a b wd⟩, ⟨cols0, da0 g a b wd⟩]
/-- The block of the other product's gradient. -/
def outB : Vec F S256x2816 .bf16 := View.canon [⟨cols2, db2 g a wd⟩, ⟨cols1, db1 g a wd⟩, ⟨cols0, db0 g a wd⟩]
/-- The scale's gradient so far. -/
def outW : Vec F S1x1024 .f32 := k0_pay3 (k0_pay8 h) (dn1 g a b wg wu wd) (dn2 g a wu wd) acc

end Values

/-- Three column blocks cover the wide array. -/
theorem cols_cover (p2 : Vec F S256x768 .bf16) (p1 p0 : Vec F S256x1024 .bf16) (y : S256x2816.Idx) :
    ∃ q ∈ ([⟨cols2, p2⟩, ⟨cols1, p1⟩, ⟨cols0, p0⟩] : List (View.Piece (Elt F) S256x2816 .bf16)), y ∈ q.1.set :=
  View.cover_of_tiledBy [⟨cols2, p2⟩, ⟨cols1, p1⟩, ⟨cols0, p0⟩] ![256, 256] (by sl_kernel_rfl) y

/-- Rows `r` to `r + 352` of block `k` of a packed array, as a matrix. -/
def block (X : Vec F S8x1056x1024 .bf16) (k r : ℕ) (hk : ∀ d, ![k, r, 0] d + S1x352x1024.size d ≤ S8x1056x1024.size d) :
    Vec F S352x1024 .bf16 :=
  shapeCast S352x1024 (View.ld X (Rect.unit (s := S8x1056x1024) ![k, r, 0] S1x352x1024.size hk)) squeezes_S1x352x1024_S352x1024.numel_eq

/-- The rows `r` to `r + 352` of all eight blocks, one block under the other. -/
def stacked (X : Vec F S8x1056x1024 .bf16) (r : ℕ) (hr : r + 352 ≤ 1056) : Vec F S2816x1024 .bf16 := fun y =>
  X (ix3 ⟨(y 0).val / 352, by have : (y 0).val < 2816 := (y 0).isLt; omega⟩ ⟨r + (y 0).val % 352, by omega⟩ (y 1))

/-- A block is the matching rows of the stack. -/
theorem block_apply (X : Vec F S8x1056x1024 .bf16) (k r : ℕ) (hk) (hr : r + 352 ≤ 1056) (x : S352x1024.Idx) (y : S2816x1024.Idx)
    (h0 : (y 0).val = 352 * k + (x 0).val) (h1 : (y 1).val = (x 1).val) : block X k r hk x = stacked X r hr y := by
  have hx : (x 0).val < 352 := (x 0).isLt
  unfold block stacked
  refine (shapeCast_apply _ _ x (ix3 (0 : Fin 1) (x 0 : Fin 352) (x 1 : Fin 1024)) (by rw [Shape.rowMajor_val_three, Shape.rowMajor_val_two]; simp [ix3])).trans ?_
  refine congrArg X (funext fun a => Fin.ext ?_)
  match a with
  | ⟨0, _⟩ => show k + 1 * 0 = (y 0).val / 352; omega
  | ⟨1, _⟩ => show r + 1 * (x 0).val = r + (y 0).val % 352; omega
  | ⟨2, _⟩ => show 0 + 1 * (x 1).val = (y 1).val; omega

/-- Eight row blocks written one under the other, the last first. -/
abbrev rowPieces (p : Fin 8 → Vec F S352x1024 .bf16) : List (View.Piece (Elt F) S2816x1024 .bf16) :=
  [⟨Rect.unit (s := S2816x1024) ![2464, 0] S352x1024.size inb_S2816x1024_S352x1024_2464_0, p 7⟩,
        ⟨Rect.unit (s := S2816x1024) ![2112, 0] S352x1024.size inb_S2816x1024_S352x1024_2112_0, p 6⟩,
        ⟨Rect.unit (s := S2816x1024) ![1760, 0] S352x1024.size inb_S2816x1024_S352x1024_1760_0, p 5⟩,
        ⟨Rect.unit (s := S2816x1024) ![1408, 0] S352x1024.size inb_S2816x1024_S352x1024_1408_0, p 4⟩,
        ⟨Rect.unit (s := S2816x1024) ![1056, 0] S352x1024.size inb_S2816x1024_S352x1024_1056_0, p 3⟩,
        ⟨Rect.unit (s := S2816x1024) ![704, 0] S352x1024.size inb_S2816x1024_S352x1024_704_0, p 2⟩,
        ⟨Rect.unit (s := S2816x1024) ![352, 0] S352x1024.size inb_S2816x1024_S352x1024_352_0, p 1⟩,
        ⟨Rect.unit (s := S2816x1024) ![0, 0] S352x1024.size inb_S2816x1024_S352x1024_0_0, p 0⟩]

theorem rowPieces_cover (p : Fin 8 → Vec F S352x1024 .bf16) (y : S2816x1024.Idx) : ∃ q ∈ rowPieces p, y ∈ q.1.set :=
  View.cover_of_tiledL (rowPieces p) S352x1024.size (by sl_kernel_rfl) y

/-- The eight blocks written into their places, whatever was there before, make the stack. -/
theorem read_stacked (v : View sig .tc .vmem S2816x1024 .bf16) (f : v.ty.Contents (Elt F)) (X : Vec F S8x1056x1024 .bf16) (r : ℕ) (hr : r + 352 ≤ 1056)
    (p : Fin 8 → Vec F S352x1024 .bf16) (hk : ∀ k : Fin 8, ∀ d, ![k.val, r, 0] d + S1x352x1024.size d ≤ S8x1056x1024.size d)
    (hp : ∀ k, p k = block X k.val r (hk k)) :
    v.read (Elt F) (v.writes (Elt F) f (rowPieces p)) = stacked X r hr := by
  refine (View.read_writes_eq_canon v f _ (rowPieces_cover p)).trans ?_
  funext y
  refine View.canon_apply_of_pieces _ _ ?_ y (rowPieces_cover p y)
  intro q hq
  simp only [List.mem_cons, List.not_mem_nil, or_false] at hq
  rcases hq with rfl | rfl | rfl | rfl | rfl | rfl | rfl | rfl <;> intro x <;> refine (congrFun (hp _) x).trans (block_apply X _ r _ hr x _ ?_ (show 0 + 1 * (x 1).val = _ by omega))
  · show 2464 + 1 * (x 0).val = 352 * 7 + (x 0).val; omega
  · show 2112 + 1 * (x 0).val = 352 * 6 + (x 0).val; omega
  · show 1760 + 1 * (x 0).val = 352 * 5 + (x 0).val; omega
  · show 1408 + 1 * (x 0).val = 352 * 4 + (x 0).val; omega
  · show 1056 + 1 * (x 0).val = 352 * 3 + (x 0).val; omega
  · show 704 + 1 * (x 0).val = 352 * 2 + (x 0).val; omega
  · show 352 + 1 * (x 0).val = 352 * 1 + (x 0).val; omega
  · show 0 + 1 * (x 0).val = 352 * 0 + (x 0).val; omega

section Program

variable (c : Dev nD) (i j : grid0.Coords)
  (a1 : Memref sig .tc .vmem S256x1024 .f32) (h1 : a1.IsWhole) (a2 : Memref sig .tc .vmem S256x1024 .f32) (h2 : a2.IsWhole)
  (a3 : Memref sig .tc .vmem S256x2816 .bf16) (h3 : a3.IsWhole) (a4 : Memref sig .tc .vmem S256x2816 .bf16) (h4 : a4.IsWhole)
  (a5 : Memref sig .tc .vmem S1x1024 .f32) (h5 : a5.IsWhole)
  (a6 : Memref sig .tc .hbm S8x1056x1024 .bf16) (h6 : a6.IsWhole) (a7 : Memref sig .tc .hbm S8x1056x1024 .bf16) (h7 : a7.IsWhole)
  (a8 : Memref sig .tc .hbm S8x1056x1024 .bf16) (h8 : a8.IsWhole)
  (a9 : Memref sig .tc .vmem S256x1024 .f32) (h9 : a9.IsWhole) (a10 : Memref sig .tc .vmem S256x2816 .bf16) (h10 : a10.IsWhole)
  (a11 : Memref sig .tc .vmem S256x2816 .bf16) (h11 : a11.IsWhole) (a12 : Memref sig .tc .vmem S1x1024 .f32) (h12 : a12.IsWhole)
  (a13 : Memref sig .tc .vmem S2816x1024 .bf16) (h13 : a13.IsWhole) (a14 : Memref sig .tc .vmem S2816x1024 .bf16) (h14 : a14.IsWhole)
  (a15 : Memref sig .tc .vmem S2816x1024 .bf16) (h15 : a15.IsWhole) (s : DmaSems sig S24)

/-- Waiting for one row block of the third matrix: semaphore `q`, block `k` of the packed array, rows from `r`. -/
abbrev await (q k r : ℕ) (hq : ∀ d, ![q] d + S1.size d ≤ S24.size d)
    (hk : ∀ d, ![k, 704, 0] d + S1x352x1024.size d ≤ S8x1056x1024.size d) (hr : ∀ d, ![r, 0] d + S352x1024.size d ≤ S2816x1024.size d)
    (wk : (Rect.unit (s := S8x1056x1024) ![k, 704, 0] S1x352x1024.size hk).WholeWords (EltTy.packing .bf16))
    (wr : (Rect.unit (s := S2816x1024) ![r, 0] S352x1024.size hr).WholeWords (EltTy.packing .bf16)) :
    Prog (TpuEff nD τ sig (Elt F) Λ₀ .tc) PUnit :=
  Prog.lift (.waitDma2 ((s.slice (Rect.unit (s := S24) ![q] S1.size hq)).squeeze S_ squeezes_S1_S_).sem
    ((a8.slice (Rect.unit (s := S8x1056x1024) ![k, 704, 0] S1x352x1024.size hk) (fun _ => rfl)).squeeze S352x1024 squeezes_S1x352x1024_S352x1024)
    (a15.slice (Rect.unit (s := S2816x1024) ![r, 0] S352x1024.size hr) (fun _ => rfl))
    ((h8.wordExact_slice rfl _ wk).reshape _ _) (h15.wordExact_slice rfl _ wr))

/-- What the first point does before the computation: the copies are started, the sum over rows of the last output is
    cleared, and every copy is waited for. -/
def stage : Prog (TpuEff nD τ sig (Elt F) Λ₀ .tc) PUnit := do
  k0_part1 i a1 h1 a2 h2 a3 h3 a4 h4 a5 h5 a6 h6 a7 h7 a8 h8 a9 h9 a10 h10 a11 h11 a12 h12 a13 h13 a14 h14 a15 h15 s
  k0_part2 i a1 h1 a2 h2 a3 h3 a4 h4 a5 h5 a6 h6 a7 h7 a8 h8 a9 h9 a10 h10 a11 h11 a12 h12 a13 h13 a14 h14 a15 h15 s
  k0_part3 i a1 h1 a2 h2 a3 h3 a4 h4 a5 h5 a6 h6 a7 h7 a8 h8 a9 h9 a10 h10 a11 h11 a12 h12 a13 h13 a14 h14 a15 h15 s
  k0_part4 i a1 h1 a2 h2 a3 h3 a4 h4 a5 h5 a6 h6 a7 h7 a8 h8 a9 h9 a10 h10 a11 h11 a12 h12 a13 h13 a14 h14 a15 h15 s
  k0_part5 i a1 h1 a2 h2 a3 h3 a4 h4 a5 h5 a6 h6 a7 h7 a8 h8 a9 h9 a10 h10 a11 h11 a12 h12 a13 h13 a14 h14 a15 h15 s
  k0_part6 i a1 h1 a2 h2 a3 h3 a4 h4 a5 h5 a6 h6 a7 h7 a8 h8 a9 h9 a10 h10 a11 h11 a12 h12 a13 h13 a14 h14 a15 h15 s
  k0_part7 i a1 h1 a2 h2 a3 h3 a4 h4 a5 h5 a6 h6 a7 h7 a8 h8 a9 h9 a10 h10 a11 h11 a12 h12 a13 h13 a14 h14 a15 h15 s
  k0_part8 i a1 h1 a2 h2 a3 h3 a4 h4 a5 h5 a6 h6 a7 h7 a8 h8 a9 h9 a10 h10 a11 h11 a12 h12 a13 h13 a14 h14 a15 h15 s
  k0_part9 i a1 h1 a2 h2 a3 h3 a4 h4 a5 h5 a6 h6 a7 h7 a8 h8 a9 h9 a10 h10 a11 h11 a12 h12 a13 h13 a14 h14 a15 h15 s
  await a8 h8 a15 h15 s 20 4 1408 inb_S24_S1_20 inb_S8x1056x1024_S1x352x1024_4_704_0 inb_S2816x1024_S352x1024_1408_0
    wordsbf16_S8x1056x1024_S1x352x1024_4_704_0 wordsbf16_S2816x1024_S352x1024_1408_0
  await a8 h8 a15 h15 s 21 5 1760 inb_S24_S1_21 inb_S8x1056x1024_S1x352x1024_5_704_0 inb_S2816x1024_S352x1024_1760_0
    wordsbf16_S8x1056x1024_S1x352x1024_5_704_0 wordsbf16_S2816x1024_S352x1024_1760_0
  await a8 h8 a15 h15 s 22 6 2112 inb_S24_S1_22 inb_S8x1056x1024_S1x352x1024_6_704_0 inb_S2816x1024_S352x1024_2112_0
    wordsbf16_S8x1056x1024_S1x352x1024_6_704_0 wordsbf16_S2816x1024_S352x1024_2112_0
  await a8 h8 a15 h15 s 23 7 2464 inb_S24_S1_23 inb_S8x1056x1024_S1x352x1024_7_704_0 inb_S2816x1024_S352x1024_2464_0
    wordsbf16_S8x1056x1024_S1x352x1024_7_704_0 wordsbf16_S2816x1024_S352x1024_2464_0

/-- At the first point the body is the staging followed by the body of any other point. -/
theorem body_first (hi : cond0_0 i) (hj : ¬cond0_0 j) :
    cc0_ffn1_dgrad (F := F) i a1 h1 a2 h2 a3 h3 a4 h4 a5 h5 a6 h6 a7 h7 a8 h8 a9 h9 a10 h10 a11 h11 a12 h12 a13 h13 a14 h14 a15 h15 s
      = stage i a1 h1 a2 h2 a3 h3 a4 h4 a5 h5 a6 h6 a7 h7 a8 h8 a9 h9 a10 h10 a11 h11 a12 h12 a13 h13 a14 h14 a15 h15 s >>= fun _ => cc0_ffn1_dgrad j a1 h1 a2 h2 a3 h3 a4 h4 a5 h5 a6 h6 a7 h7 a8 h8 a9 h9 a10 h10 a11 h11 a12 h12 a13 h13 a14 h14 a15 h15 s := by
  simp only [cc0_ffn1_dgrad_eq_skeleton]; unfold cc0_ffn1_dgrad_skel
  simp only [k0_part10_eq_skeleton]; unfold k0_part10_skel
  dsimp only
  rw [dif_pos hi, dif_neg hj]
  rfl

set_option sl_exec.dmaWindow true in
set_option sl_exec.dmaWindowSet true in
set_option maxHeartbeats 1600000 in
/-- The staging of the first point leaves the three matrices' row blocks in scratch memory and the last output at zero. -/
theorem stage_run (hi : cond0_0 i)
    (fg : HbBuf0 (F := F) c hbM0_0) (fu : HbBuf0 (F := F) c hbM0_1) (fd : HbBuf0 (F := F) c hbM0_2) (W : Waits sig Unit) (K : PUnit → sProp 𝕄) :
    iprop((∃ d, has c a12 d) ∗ (∃ d, has c a13 d) ∗ (∃ d, has c a14 d) ∗ (∃ d, has c a15 d)
        ∗ Pipeline.ownSems0 (Ix := Unit) (Name := ℕ) (U := Pipeline.UD sig nD τ) (Lvl := ℕ) (Val := Elt F) (τ := τ) osem0 c
        ∗ hbPt0 c hbM0_0 fg ∗ hbPt0 c hbM0_1 fu ∗ hbPt0 c hbM0_2 fd ∗ owes (c : Thread nD τ) 0 W
        ∗ (iprop(has c a12 k0_pay4
            ∗ has c a13 (stacked fg 0 (by decide))
            ∗ has c a14 (stacked fu 352 (by decide))
            ∗ has c a15 (stacked fd 704 (by decide))
            ∗ Pipeline.ownSems0 (Ix := Unit) (Name := ℕ) (U := Pipeline.UD sig nD τ) (Lvl := ℕ) (Val := Elt F) (τ := τ) osem0 c
            ∗ hbPt0 c hbM0_0 fg ∗ hbPt0 c hbM0_1 fu ∗ hbPt0 c hbM0_2 fd ∗ (∃ W', owes (c : Thread nD τ) 0 W')) -∗ K ⟨⟩))
      ⊢ wp frame (wpE (defs₀ (F := F)) Variants.none c none) Set.univ (stage i a1 h1 a2 h2 a3 h3 a4 h4 a5 h5 (Memref.whole main_v8) (Memref.isWhole_whole _) (Memref.whole main_v15) (Memref.isWhole_whole _) (Memref.whole main_v22) (Memref.isWhole_whole _) a9 h9 a10 h10 a11 h11 a12 h12 a13 h13 a14 h14 a15 h15 cc0_scratch3) K := by
  rw [ownSems00_eq]
  unfold stage
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold has owns
  iintro ⟨⟨%d12, %f12, -, H12⟩, ⟨%d13, %f13, -, H13⟩, ⟨%d14, %f14, -, H14⟩, ⟨%d15, %f15, -, H15⟩, ⟨Q0, Q1, Q2, Q3, Q4, Q5, Q6, Q7, Q8, Q9, Q10, Q11, Q12, Q13, Q14, Q15, Q16, Q17, Q18, Q19, Q20, Q21, Q22, Q23⟩, Hg, Hu, Hd, HW, Hk⟩
  sl_exec
  sl_step
  iapply Hk
  isplitl [H12]; · iexists _; iframe H12; ipureintro; exact read_whole _ _ zero2 _ _
  isplitl [H13]; · iexists _; iframe H13; ipureintro; exact read_stacked _ _ _ 0 (by decide) ![_, _, _, _, _, _, _, _] (by decide) (by intro k; fin_cases k <;> rfl)
  isplitl [H14]; · iexists _; iframe H14; ipureintro; exact read_stacked _ _ _ 352 (by decide) ![_, _, _, _, _, _, _, _] (by decide) (by intro k; fin_cases k <;> rfl)
  isplitl [H15]; · iexists _; iframe H15; ipureintro; exact read_stacked _ _ _ 704 (by decide) ![_, _, _, _, _, _, _, _] (by decide) (by intro k; fin_cases k <;> rfl)
  iframe Q0 Q1 Q2 Q3 Q4 Q5 Q6 Q7 Q8 Q9 Q10 Q11 Q12 Q13 Q14 Q15 Q16 Q17 Q18 Q19 Q20 Q21 Q22 Q23 Hg Hu Hd
  iexists _; iexact HW

set_option maxHeartbeats 1600000 in
/-- The body at a point where nothing is staged: it leaves the four outputs at the functions above and everything it
    reads as it was. -/
theorem point_run (hi : ¬cond0_0 i)
    (h g : Vec F S256x1024 .f32) (a b : Vec F S256x2816 .bf16) (w : Vec F S1x1024 .f32) (wg wu wd : Vec F S2816x1024 .bf16)
    (acc : Vec F S1x1024 .f32) (K : PUnit → sProp 𝕄) :
    iprop(has c a1 h ∗ has c a2 g ∗ has c a3 a ∗ has c a4 b ∗ has c a5 w ∗ has c a13 wg ∗ has c a14 wu ∗ has c a15 wd ∗ has c a12 acc
        ∗ (∃ d, has c a9 d) ∗ (∃ d, has c a10 d) ∗ (∃ d, has c a11 d)
        ∗ (iprop(has c a1 h ∗ has c a2 g ∗ has c a3 a ∗ has c a4 b ∗ has c a5 w ∗ has c a13 wg ∗ has c a14 wu ∗ has c a15 wd ∗ has c a12 (outW h g a b wg wu wd acc)
            ∗ has c a9 (outH h g a b w wg wu wd) ∗ has c a10 (outA g a b wd) ∗ has c a11 (outB g a wd)) -∗ K ⟨⟩))
      ⊢ wp frame (wpE (defs₀ (F := F)) Variants.none c none) Set.univ (cc0_ffn1_dgrad i a1 h1 a2 h2 a3 h3 a4 h4 a5 h5 a6 h6 a7 h7 a8 h8 a9 h9 a10 h10 a11 h11 a12 h12 a13 h13 a14 h14 a15 h15 s) K := by
  simp only [cc0_ffn1_dgrad_eq_skeleton]; unfold cc0_ffn1_dgrad_skel
  simp only [k0_part10_eq_skeleton, k0_part11_eq_skeleton, k0_part12_eq_skeleton]
  unfold has owns
  iintro ⟨⟨%f1, %e1, H1⟩, ⟨%f2, %e2, H2⟩, ⟨%f3, %e3, H3⟩, ⟨%f4, %e4, H4⟩, ⟨%f5, %e5, H5⟩, ⟨%f13, %e13, H13⟩, ⟨%f14, %e14, H14⟩, ⟨%f15, %e15, H15⟩, ⟨%f12, %e12, H12⟩, ⟨%d9, %f9, -, H9⟩, ⟨%d10, %f10, -, H10⟩, ⟨%d11, %f11, -, H11⟩, Hk⟩
  obtain rfl := h1.eq_unread e1; obtain rfl := h2.eq_unread e2; obtain rfl := h3.eq_unread e3; obtain rfl := h4.eq_unread e4; obtain rfl := h5.eq_unread e5; obtain rfl := h13.eq_unread e13; obtain rfl := h14.eq_unread e14; obtain rfl := h15.eq_unread e15; obtain rfl := h12.eq_unread e12
  sl_exec (disch := first | sl_exact hi)
  sl_step
  iapply Hk
  isplitl [H1]; rotate_left
  isplitl [H2]; rotate_left
  isplitl [H3]; rotate_left
  isplitl [H4]; rotate_left
  isplitl [H5]; rotate_left
  isplitl [H13]; rotate_left
  isplitl [H14]; rotate_left
  isplitl [H15]; rotate_left
  isplitl [H12]; rotate_left
  isplitl [H9]; rotate_left
  isplitl [H10]; rotate_left
  all_goals
    iexists _; isplitr
    swap; · iassumption
    ipureintro
  all_goals first | with_reducible exact Memref.IsWhole.read_unread ‹_› _ | refine (read_whole _ _ zero2 _ _).trans ?_ | refine (View.read_writes_eq_canon _ _ _ (cols_cover _ _ _)).trans ?_
  all_goals
    sl_unfold_words
    simp only [outW, outH, outA, outB, dn1, dn2, dn0, da0, da1, da2, db0, db1, db2, View.readAt_eq_ld, h1.read_unread, h2.read_unread, h3.read_unread,
      h4.read_unread, h5.read_unread, h13.read_unread, h14.read_unread, h15.read_unread, h12.read_unread, View.ld_unit_zero (S := S256x1024) zero2, View.ld_unit_zero (S := S1x1024) zero2]

end Program

end Cert.Ffn
end
-- ==== Proof.FfnFrame.lean ====
/-
  The whole run of the feed-forward backward kernel: the invariant between grid points (the weights stay in scratch
  memory, the scale's gradient is summed), the body's obligation at every point, and that the arguments end unchanged.
-/
module

public import proofs.«01_k».proof.Proof.FfnRun
public import Idealize.ShloMosaic.Lib.Claim

@[expose] public section

set_option maxRecDepth 16384

noncomputable section

namespace Cert.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD) (t : Fin cfg0.N)

/-! ## What the points leave -/

/-- The weights as the staging lays them into scratch memory: the gate's, -/
def gateW : Vec F S2816x1024 .bf16 := stacked (V m c main_v8) 0 (by decide)
/-- … the other product's, -/
def upW : Vec F S2816x1024 .bf16 := stacked (V m c main_v15) 352 (by decide)
/-- … the last product's. -/
def downW : Vec F S2816x1024 .bf16 := stacked (V m c main_v22) 704 (by decide)

/-- The scale's gradient, summed over the points up to `n`. -/
def sumW : (n : ℕ) → n < cfg0.N → Vec F S1x1024 .f32 := sumTo (fun t => outW (iblk m c 0 t) (iblk m c 1 t) (iblk m c 2 t) (iblk m c 3 t) (gateW m c) (upW m c) (downW m c)) k0_pay4

theorem sumW_first (h : t.val = 0) :
    sumW m c t.val t.isLt = outW (iblk m c 0 t) (iblk m c 1 t) (iblk m c 2 t) (iblk m c 3 t) (gateW m c) (upW m c) (downW m c) k0_pay4 :=
  sumTo_first _ _ t h

theorem sumW_next (h : t.val ≠ 0) :
    sumW m c t.val t.isLt = outW (iblk m c 0 t) (iblk m c 1 t) (iblk m c 2 t) (iblk m c 3 t) (gateW m c) (upW m c) (downW m c) (sumW m c (t.val - 1) (Nat.lt_of_le_of_lt (Nat.sub_le _ _) t.isLt)) :=
  sumTo_next _ _ t h

/-! ## The invariant and the proof data -/

/-- The parts of the invariant that no point changes: the generator's register, the copies' semaphores at zero, the
    packed weights. -/
def rest : sProp 𝕄 :=
  iprop((∃ r, prngReg c r) ∗ Pipeline.ownSems0 (Ix := Unit) (Name := ℕ) (U := Pipeline.UD sig nD τ) (Lvl := ℕ) (Val := Elt F) (τ := τ) osem0 c
    ∗ hbPt0 c hbM0_0 (V m c main_v8) ∗ hbPt0 c hbM0_1 (V m c main_v15) ∗ hbPt0 c hbM0_2 (V m c main_v22))

theorem launch_eq :
    (Pipeline.ΦD osem0 spec0 H0 (V m) c : sProp 𝕄)
      = iprop(iprop((∃ d, has c scM0_0 d) ∗ (∃ d, has c scM0_1 d)
          ∗ (∃ d, has c scM0_2 d)) ∗ rest m c) := by
  rw [PhiD0_eq]; unfold rest; rw [ownSems00_eq]

/-- Before the first point the scratch memory holds anything, later the three weights. -/
def inv : ℕ → sProp 𝕄
  | 0 => Pipeline.ΦD osem0 spec0 H0 (V m) c
  | _ + 1 => iprop(iprop(has c scM0_0 (gateW m c) ∗ has c scM0_1 (upW m c)
      ∗ has c scM0_2 (downW m c)) ∗ rest m c)

theorem inv_pos (n : ℕ) (h : n ≠ 0) :
    inv m c n = iprop(iprop(has c scM0_0 (gateW m c) ∗ has c scM0_1 (upW m c)
      ∗ has c scM0_2 (downW m c)) ∗ rest m c) := by
  cases n with
  | zero => exact absurd rfl h
  | succ n => rfl

/-- The proof data of the pipeline: the inputs' blocks stay, the outputs are the functions of one point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t) (gateW m c) (upW m c) (downW m c)
    | ⟨6, _⟩ => outA (iblk m c 1 t) (iblk m c 2 t) (iblk m c 3 t) (downW m c)
    | ⟨7, _⟩ => outB (iblk m c 1 t) (iblk m c 2 t) (downW m c)
    | ⟨8, _⟩ => sumW m c t.val t.isLt
  Φ t := inv m c t.val
  q _ := fullShare
  owed _ := 0

theorem A_eq (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = outH (iblk m c 0 t) (iblk m c 1 t) (iblk m c 2 t) (iblk m c 3 t) (iblk m c 4 t) (gateW m c) (upW m c) (downW m c) := by dsimp only [dats]
theorem after_6 : (dats m 0 c).after 6 t = outA (iblk m c 1 t) (iblk m c 2 t) (iblk m c 3 t) (downW m c) := by dsimp only [dats]
theorem after_7 : (dats m 0 c).after 7 t = outB (iblk m c 1 t) (iblk m c 2 t) (downW m c) := by dsimp only [dats]
theorem after_8 : (dats m 0 c).after 8 t = sumW m c t.val t.isLt := by dsimp only [dats]

theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d

/-- The summed output's buffer holds, at a later point, what the point before left. -/
theorem before_8 (h : t.val ≠ 0) (d) :
    (dats m 0 c).before 8 t d = sumW m c (t.val - 1) (Nat.lt_of_le_of_lt (Nat.sub_le _ _) t.isLt) := by
  have hN : t.val < 32 := lt_of_lt_of_eq t.isLt (show cfg0.N = 32 from N_0)
  rw [Dat.before_out_kept _ 8 rfl t (by omega) (Bool.eq_false_iff.mpr fun h => by have := (flush0_8 _).mp h; dsimp only at this; omega)
    (fun _ => rfl) (fun _ _ => rfl)]
  dsimp only [dats]

/-! ## One point -/

/-- What the body is called with at point `t`, window by window, -/
def pre : sProp 𝕄 :=
  iprop((dats m 0 c).Φ t.castSucc ∗ (dats m 0 c).owesAt () t.castSucc
    ∗ (∃ d, has c (ms0_0 t) ((dats m 0 c).before 0 t d))
    ∗ (∃ d, has c (ms0_1 t) ((dats m 0 c).before 1 t d))
    ∗ (∃ d, has c (ms0_2 t) ((dats m 0 c).before 2 t d))
    ∗ (∃ d, has c (ms0_3 t) ((dats m 0 c).before 3 t d))
    ∗ (∃ d, has c (ms0_4 t) ((dats m 0 c).before 4 t d))
    ∗ (∃ d, has c (ms0_5 t) ((dats m 0 c).before 5 t d))
    ∗ (∃ d, has c (ms0_6 t) ((dats m 0 c).before 6 t d))
    ∗ (∃ d, has c (ms0_7 t) ((dats m 0 c).before 7 t d))
    ∗ (∃ d, has c (ms0_8 t) ((dats m 0 c).before 8 t d)))

/-- and what it returns. -/
def post : sProp 𝕄 :=
  iprop((dats m 0 c).Φ t.succ ∗ (dats m 0 c).owesAt () t.succ
    ∗ has c (ms0_0 t) ((dats m 0 c).after 0 t)
    ∗ has c (ms0_1 t) ((dats m 0 c).after 1 t)
    ∗ has c (ms0_2 t) ((dats m 0 c).after 2 t)
    ∗ has c (ms0_3 t) ((dats m 0 c).after 3 t)
    ∗ has c (ms0_4 t) ((dats m 0 c).after 4 t)
    ∗ has c (ms0_5 t) ((dats m 0 c).after 5 t)
    ∗ has c (ms0_6 t) ((dats m 0 c).after 6 t)
    ∗ has c (ms0_7 t) ((dats m 0 c).after 7 t)
    ∗ has c (ms0_8 t) ((dats m 0 c).after 8 t))

set_option maxHeartbeats 1600000 in
/-- The body at any point takes the one to the other. -/
theorem point :
    pre m c t ⊢ wp frame (wpE (defs₀ (F := F)) Variants.none c none) Set.univ (bodyAt0 t) (fun _ => post m c t) := by
  have hN : cfg0.N = 32 := N_0
  have ht : t.val < 32 := lt_of_lt_of_eq t.isLt hN
  unfold pre post bodyAt0
  simp only [before_0, before_1, before_2, before_3, before_4]
  rw [show (dats m 0 c).Φ t.succ = inv m c (t.val + 1) from rfl, show (dats m 0 c).Φ t.castSucc = inv m c t.val from rfl, inv_pos m c (t.val + 1) (Nat.succ_ne_zero _),
    after_0, after_1, after_2, after_3, after_4, after_5, after_6, after_7, after_8]
  unfold Dat.owesAt Pipeline.owesWithin
  rw [show (dats m 0 c).owed t.castSucc = 0 from rfl, show (dats m 0 c).owed t.succ = 0 from rfl]
  have run := fun (j : grid0.Coords) (hj : ¬cond0_0 j) => point_run (F := F) c j (ms0_0 t) (hs0_0 t) (ms0_1 t) (hs0_1 t) (ms0_2 t) (hs0_2 t) (ms0_3 t) (hs0_3 t) (ms0_4 t) (hs0_4 t) (Memref.whole main_v8) (Memref.isWhole_whole _) (Memref.whole main_v15) (Memref.isWhole_whole _) (Memref.whole main_v22) (Memref.isWhole_whole _) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) cc0_scratch3 hj
  by_cases hz : t.val = 0
  · rw [show inv m c t.val = Pipeline.ΦD osem0 spec0 H0 (V m) c from by rw [hz]; rfl, launch_eq, sumW_first m c t hz]
    obtain ⟨j, hj⟩ : ∃ j : grid0.Coords, ¬cond0_0 j := ⟨grid0.coords (⟨1, by omega⟩ : Fin cfg0.N), fun h => by
      have := (hcond0_0 _).mp h; dsimp only at this; omega⟩
    rw [body_first (grid0.coords t) j (hi := (hcond0_0 t).mpr (by omega)) (hj := hj), wp_bind]
    unfold rest
    iintro ⟨⟨⟨S0, S1, S2⟩, Hg, Hq, G0, G1, G2⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (stage_run c (grid0.coords t) (hi := (hcond0_0 t).mpr (by omega)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (V m c main_v8) (V m c main_v15) (V m c main_v22) W _)
    isplitl [H8]; · iexists _; iexact H8
    iframe S0 S1 S2 Hq G0 G1 G2 HW
    iintro ⟨H8, S0, S1, S2, Hq, G0, G1, G2, ⟨%W', HW⟩⟩
    iapply (run j hj)
    iframe H0 H1 H2 H3 H4 S0 S1 S2 H8
    isplitl [H5]; · iexists _; iexact H5
    isplitl [H6]; · iexists _; iexact H6
    isplitl [H7]; · iexists _; iexact H7
    iintro ⟨H0, H1, H2, H3, H4, S0, S1, S2, H8, H5, H6, H7⟩
    iframe S0 S1 S2 Hg Hq G0 G1 G2 H0 H1 H2 H3 H4 H5 H6 H7 H8
    iexists W'; iframe HW; ipureintro; exact fun _ _ => Or.inl trivial
  · rw [inv_pos m c _ hz, sumW_next m c t hz]
    simp only [before_8 m c t hz]
    iintro ⟨⟨⟨S0, S1, S2⟩, R⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run (grid0.coords t) (fun h => hz (by have := (hcond0_0 t).mp h; omega)))
    iframe H0 H1 H2 H3 H4 S0 S1 S2 H8
    isplitl [H5]; · iexists _; iexact H5
    isplitl [H6]; · iexists _; iexact H6
    isplitl [H7]; · iexists _; iexact H7
    iintro ⟨H0, H1, H2, H3, H4, S0, S1, S2, H8, H5, H6, H7⟩
    iframe S0 S1 S2 R H0 H1 H2 H3 H4 H5 H6 H7 H8
    iexists W; iframe HW; ipureintro; exact fun _ _ => Or.inl trivial

theorem row (t : Fin cfg0.N) : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row]
  exact triple_restated (point m c t) rfl .rfl fun _ => .rfl

theorem hin : Pipeline.ΦD osem0 spec0 H0 (V m) c ⊢ (dats m 0 c).Φ 0 := by
  rw [show (dats m 0 c).Φ 0 = inv m c 0 from rfl]
  exact Idealize.SL.BI.Entails.refl _

theorem hout : (dats m 0 c).Φ (Fin.last cfg0.N) ⊢ Pipeline.ΦD osem0 spec0 H0 (V m) c := by
  rw [show (dats m 0 c).Φ (Fin.last cfg0.N) = inv m c cfg0.N from rfl, inv_pos m c _ (by have : cfg0.N = 32 := N_0; omega), launch_eq]
  iintro ⟨⟨S0, S1, S2⟩, R⟩
  isplitl [S0 S1 S2]
  · isplitl [S0]; · iexists _; iexact S0
    isplitl [S1]; · iexists _; iexact S1
    iexists _; iexact S2
  iexact R

/-! ## The run -/

-- the library's run is applied by unifying its conclusion, which unfolds plain definitions in a metavariable's type
set_option backward.isDefEq.respectTransparency.types false in
/-- Every execution ends with the pipeline's arrays as the proof data says and every semaphore at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The arguments end unchanged and the semaphores at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Ffn
end
-- ==== Proof.Reals.lean ====
/-
  Facts about the extended reals: which values are real numbers, and the one law of the backward passes that needs it.
-/
module

public import Idealize.ShloMosaic.PureOps.Ideal
public import Idealize.ShloMosaic.PureOps.Ideal.Laws

@[expose] public section

namespace Cert.Reals

open Idealize.ShloMosaic

/-- Neither infinity. -/
def Real' (x : EReal) : Prop := ∃ r : ℝ, x = (r : EReal)

theorem real_mul {x y : EReal} (hx : Real' x) (hy : Real' y) : Real' (x * y) := by
  obtain ⟨a, rfl⟩ := hx; obtain ⟨b, rfl⟩ := hy; exact ⟨a * b, (EReal.coe_mul a b).symm⟩

theorem real_add {x y : EReal} (hx : Real' x) (hy : Real' y) : Real' (x + y) := by
  obtain ⟨a, rfl⟩ := hx; obtain ⟨b, rfl⟩ := hy; exact ⟨a + b, (EReal.coe_add a b).symm⟩

theorem real_sum {ι : Type*} (s : Finset ι) (f : ι → EReal) (h : ∀ i, Real' (f i)) : Real' (∑ i ∈ s, f i) := by
  classical
  induction s using Finset.induction_on with
  | empty => exact ⟨0, by simp⟩
  | insert i s hi ih => rw [Finset.sum_insert hi]; exact real_add (h i) ih

theorem half_real : Real' (Ideal.ofBits .f32 0x3F000000#32) := ⟨1 / 2, by simp [Ideal.ofBits, Ideal.ieee]; norm_num [← EReal.coe_mul]⟩

theorem one_bits : Ideal.ofBits .f32 0x3F800000#32 = 1 := by simp [Ideal.ofBits, Ideal.ieee]; norm_num [← EReal.coe_mul]

theorem width_bits : Ideal.ofBits .f32 0x44800000#32 = ((1024 : ℝ) : EReal) := by
  simp [Ideal.ofBits, Ideal.ieee]; norm_num [← EReal.coe_mul]

/-- The small number added to a mean square is positive. -/
theorem eps_pos : ∃ e : ℝ, 0 < e ∧ Ideal.ofBits .f32 0x358637BD#32 = (e : EReal) := by
  refine ⟨8796093 * (2 ^ 43)⁻¹, by positivity, ?_⟩
  simp [Ideal.ofBits, Ideal.ieee]

/-- A square is not negative. -/
theorem sq_nonneg (x : EReal) : 0 ≤ x * x := by
  induction x with
  | bot => simp
  | top => simp
  | coe r => rw [← EReal.coe_mul]; exact_mod_cast mul_self_nonneg r

/-- The gradient of `a * logistic a`, as the kernel and as the reference write it. -/
theorem silu_grad (a : EReal) {u : EReal} (hu : Real' u) :
    u * (Ideal.logistic a * (1 + a * (1 - Ideal.logistic a)))
      = u * Ideal.logistic a + a * u * (Ideal.logistic a * (1 - Ideal.logistic a)) := by
  obtain ⟨r, rfl⟩ := hu
  induction a with
  | bot => simp
  | top => have h : (1 : EReal) - 1 = 0 := by rw [← EReal.coe_one, ← EReal.coe_sub]; simp
           simp [h]
  | coe a =>
    rw [Ideal.logistic_coe]
    norm_cast
    ring_nf

/-- An entry of a row divided by the row's root mean square is a real number, whatever the row. -/
theorem scaled_real {n : ℕ} (f : Fin n → EReal) (k : Fin n) {N e : ℝ} (hN : 0 < N) (he : 0 < e) :
    Real' (f k * Ideal.rsqrt (Ideal.div (∑ i, f i * f i) (N : EReal) + (e : EReal))) := by
  by_cases h : ∀ i, Real' (f i)
  · obtain ⟨S, hS⟩ := real_sum Finset.univ (fun i => f i * f i) fun i => real_mul (h i) (h i)
    have h0 : 0 ≤ S := EReal.coe_nonneg.mp (hS ▸ Finset.sum_nonneg fun i _ => sq_nonneg (f i))
    have hp : 0 < S * N⁻¹ + e := by positivity
    have hq : Ideal.div (∑ i, f i * f i) (N : EReal) + (e : EReal) = ((S * N⁻¹ + e : ℝ) : EReal) := by
      rw [hS, Ideal.div, if_neg (by exact_mod_cast hN.ne'), ← EReal.coe_inv, ← EReal.coe_mul, ← EReal.coe_add]
    rw [hq]
    refine real_mul (h k) ⟨(Real.sqrt (S * N⁻¹ + e))⁻¹, ?_⟩
    show (if _ then _ else if _ then _ else _) = _
    rw [if_neg hp.not_gt, if_neg hp.ne']
  · obtain ⟨i, hi⟩ := not_forall.mp h
    have hii : f i * f i = ⊤ := by
      generalize f i = x at hi
      induction x with
      | bot => rfl
      | top => rfl
      | coe r => exact absurd ⟨r, rfl⟩ hi
    have hs : (∑ i, f i * f i) = ⊤ :=
      top_le_iff.mp (hii ▸ Finset.single_le_sum (f := fun i => f i * f i) (fun j _ => sq_nonneg (f j)) (Finset.mem_univ i))
    have hq : Ideal.div (∑ i, f i * f i) (N : EReal) + (e : EReal) = ⊤ := by
      rw [hs, Ideal.div, if_neg (by exact_mod_cast hN.ne'), ← EReal.coe_inv, EReal.top_mul_coe_of_pos (by positivity), EReal.top_add_coe]
    rw [hq]
    exact ⟨0, by show f k * 0 = _; simp⟩

end Cert.Reals
end
-- ==== Proof.FfnPoint.lean ====
/-
  One point of the feed-forward backward kernel, read over the extended reals: every value it computes at a row of its block
  is the reference's value at that row of the whole array.
-/
module

public import proofs.«01_k».proof.Proof.FfnRun
public import proofs.«01_k».proof.Proof.Gen.ReferenceIdeal.Read
public import Idealize.ShloMosaic.Lib.Pointwise
public import proofs.«01_k».proof.Proof.Reals

@[expose] public section

namespace Cert.Ffn

open Cert.KernelIdeal Cert.KernelIdeal.Gen
open Cert.ReferenceIdeal.Read Cert.Reals
open Idealize.ShloMosaic Idealize.ShloMosaic.TcCoe

/-- Row `r` of block `t`. -/
def rowOf (t : Fin 32) (r : Fin 256) : Fin 8192 := ⟨256 * t.val + r.val, by omega⟩

/-- Block `t` of 256 rows. -/
def tile {n : ℕ} {e : EltTy} (t : Fin 32) (X : Vec Ideal ⟨2, ![8192, n]⟩ e) : Vec Ideal ⟨2, ![256, n]⟩ e :=
  fun y => X (ix2 (rowOf t (y 0)) (y 1))

/-- The transpose of a matrix. -/
def turned (w : Vec Ideal S1024x2816 .f32) : Vec Ideal S2816x1024 .bf16 := fun y => w (ix2 (y 1) (y 0))

variable (x0 x5 : Vec Ideal S8192x1024 .f32) (x1 : Vec Ideal S1x1024 .f32) (x2 x3 : Vec Ideal S1024x2816 .f32) (x4 : Vec Ideal S2816x1024 .f32)
  (t : Fin 32)

theorem scale_eq (r : Fin 256) :
    k0_pay6 (F := Ideal) (tile t x0) (ix2 r 0) = val_main_v7 (F := Ideal) x0 (ix2 (rowOf t r) 0) := by
  pointwise [k0_pay6, k0_pay5, val_main_v7, val_main_v6, val_main_v5, val_main_v4, val_main_v3, val_main_v2, val_main_v1, val_main_v0, val_main_cst, val_main_cst_0, val_main_cst_1, tile]

theorem slope_eq (r : Fin 256) (j : Fin 1) :
    k0_pay7 (F := Ideal) (tile t x0) (ix2 r j) = val_main_v10 (F := Ideal) x0 (ix2 (rowOf t r) j) := by
  obtain rfl : j = 0 := Subsingleton.elim _ _
  pointwise [k0_pay7, k0_pay6, k0_pay5, val_main_v10, val_main_v9, val_main_cst_2, val_main_v8, val_main_v7, val_main_v6, val_main_v5, val_main_v4, val_main_v3, val_main_v2, val_main_v1, val_main_v0, val_main_cst, val_main_cst_0, val_main_cst_1, tile]

/-- The columns of the three chunks the kernel works in. -/
abbrev c0 (j : Fin 1024) : Fin 2816 := ⟨j.val, by omega⟩
abbrev c1 (j : Fin 1024) : Fin 2816 := ⟨1024 + j.val, by omega⟩
abbrev c2 (j : Fin 768) : Fin 2816 := ⟨2048 + j.val, by omega⟩

/-- A sum over all columns is the sum over the three chunks. -/
theorem sum_cols (f : Fin 2816 → EReal) : ∑ i, f i = ∑ j, f (c0 j) + ∑ j, f (c1 j) + ∑ j, f (c2 j) := by
  rw [show (∑ i, f i) = ∑ i : Fin (1024 + 1024 + 768), f i from rfl, Fin.sum_univ_add, Fin.sum_univ_add]
  rfl

/-- The products with the gate matrix and with the up matrix. -/
noncomputable abbrev gate : Vec Ideal S8192x2816 .bf16 := val_main_v15 (F := Ideal) x0 x1 x2
noncomputable abbrev up : Vec Ideal S8192x2816 .bf16 := val_main_v16 (F := Ideal) x0 x1 x3

/-- The reference's sigmoid is the logistic function. -/
theorem sig_eq (i : S8192x2816.Idx) : val_main_v17_2 (F := Ideal) x0 x1 x2 i = Ideal.logistic (gate x0 x1 x2 i) := by
  pointwise [val_main_v17_2, val_main_call0_v4, val_main_call0_v3, val_main_call0_v2, val_main_call0_v1, val_main_call0_v0, val_main_call0_cst, val_main_call0_cst_0]
  rfl

/-- Half the cotangent, through the last matrix. -/
theorem cot_eq (i : Fin 8192) (j : Fin 2816) :
    val_main_v26 (F := Ideal) x4 x5 (ix2 i j) = ∑ k : Fin 1024, Ideal.ofBits .f32 0x3F000000#32 * x5 (ix2 i k) * x4 (ix2 j k) := by
  pointwise [val_main_v26, val_main_v25, val_main_v24, val_main_v23, val_main_cst_4]
  done

section Cols

variable (r : Fin 256)

theorem db0_eq (j : Fin 1024) :
    db0 (F := Ideal) (tile t x5) (tile t (gate x0 x1 x2)) x4 (ix2 r j) = val_main_v27 (F := Ideal) x0 x1 x2 x4 x5 (ix2 (rowOf t r) (c0 j)) := by
  pointwise [db0, k0_pay14, k0_pay13, k0_pay12, k0_pay11, k0_pay10, k0_pay9, val_main_v27, cot_eq, val_main_v17_0, sig_eq, tile]
  exact mul_comm _ _
theorem db1_eq (j : Fin 1024) :
    db1 (F := Ideal) (tile t x5) (tile t (gate x0 x1 x2)) x4 (ix2 r j) = val_main_v27 (F := Ideal) x0 x1 x2 x4 x5 (ix2 (rowOf t r) (c1 j)) := by
  pointwise [db1, k0_pay21, k0_pay20, k0_pay19, k0_pay18, k0_pay10, k0_pay9, val_main_v27, cot_eq, val_main_v17_0, sig_eq, tile]
  exact mul_comm _ _
theorem db2_eq (j : Fin 768) :
    db2 (F := Ideal) (tile t x5) (tile t (gate x0 x1 x2)) x4 (ix2 r j) = val_main_v27 (F := Ideal) x0 x1 x2 x4 x5 (ix2 (rowOf t r) (c2 j)) := by
  pointwise [db2, k0_pay26, k0_pay25, k0_pay24, k0_pay23, k0_pay9, val_main_v27, cot_eq, val_main_v17_0, sig_eq, tile]
  exact mul_comm _ _

variable (hu : ∀ i, Real' (val_main_v28 (F := Ideal) x0 x1 x3 x4 x5 i))
include hu

theorem da_eq (i : S8192x2816.Idx) :
    val_main_v29 (F := Ideal) x0 x1 x2 x3 x4 x5 i
      = val_main_v28 (F := Ideal) x0 x1 x3 x4 x5 i * (Ideal.logistic (gate x0 x1 x2 i) * (1 + gate x0 x1 x2 i * (1 - Ideal.logistic (gate x0 x1 x2 i)))) := by
  refine Eq.trans ?_ (silu_grad (gate x0 x1 x2 i) (hu i)).symm
  pointwise [val_main_v29, val_main_call1_v0, val_main_call1_v1, val_main_call1_v2, val_main_v17_1, val_main_call0_v7, val_main_call0_v6, val_main_call0_cst_1, sig_eq]
  done

theorem da0_eq (j : Fin 1024) :
    da0 (F := Ideal) (tile t x5) (tile t (gate x0 x1 x2)) (tile t (up x0 x1 x3)) x4 (ix2 r j)
      = val_main_v29 (F := Ideal) x0 x1 x2 x3 x4 x5 (ix2 (rowOf t r) (c0 j)) := by
  rw [da_eq _ _ _ _ _ _ hu]
  pointwise [da0, k0_pay16, k0_pay15, k0_pay14, k0_pay13, k0_pay12, k0_pay11, k0_pay10, k0_pay9, val_main_v28, cot_eq, tile]
  done
theorem da1_eq (j : Fin 1024) :
    da1 (F := Ideal) (tile t x5) (tile t (gate x0 x1 x2)) (tile t (up x0 x1 x3)) x4 (ix2 r j)
      = val_main_v29 (F := Ideal) x0 x1 x2 x3 x4 x5 (ix2 (rowOf t r) (c1 j)) := by
  rw [da_eq _ _ _ _ _ _ hu]
  pointwise [da1, k0_pay22, k0_pay20, k0_pay19, k0_pay18, k0_pay10, k0_pay9, val_main_v28, cot_eq, tile]
  done
theorem da2_eq (j : Fin 768) :
    da2 (F := Ideal) (tile t x5) (tile t (gate x0 x1 x2)) (tile t (up x0 x1 x3)) x4 (ix2 r j)
      = val_main_v29 (F := Ideal) x0 x1 x2 x3 x4 x5 (ix2 (rowOf t r) (c2 j)) := by
  rw [da_eq _ _ _ _ _ _ hu]
  pointwise [da2, k0_pay27, k0_pay25, k0_pay24, k0_pay23, k0_pay9, val_main_v28, cot_eq, tile]
  done

/-- The gradient at the normalised rows: three blocks of columns, one product with each matrix. -/
theorem dn_eq (k : Fin 1024) :
    dn1 (F := Ideal) (tile t x5) (tile t (gate x0 x1 x2)) (tile t (up x0 x1 x3)) (turned x2) (turned x3) x4 (ix2 r k)
        + dn2 (F := Ideal) (tile t x5) (tile t (gate x0 x1 x2)) (turned x3) x4 (ix2 r k)
      = val_main_v32 (F := Ideal) x0 x1 x2 x3 x4 x5 (ix2 (rowOf t r) k) := by
  have ea0 := da0_eq x0 x5 x1 x2 x3 x4 t r hu
  have ea1 := da1_eq x0 x5 x1 x2 x3 x4 t r hu
  have ea2 := da2_eq x0 x5 x1 x2 x3 x4 t r hu
  have eb0 := db0_eq x0 x5 x1 x2 x4 t r
  have eb1 := db1_eq x0 x5 x1 x2 x4 t r
  have eb2 := db2_eq x0 x5 x1 x2 x4 t r
  unfold dn1 dn2 dn0
  have h1 : (Scalar.ofBits .f32 0x3F800000#32 : Ideal .f32) = 1 := one_bits
  unfold da0 at ea0; rw [h1] at ea0; unfold da2 at ea2; unfold db2 at eb2
  pointwise [turned, k0_pay28, k0_pay29, k0_pay17, k0_pay10, ea0, ea1, ea2, eb0, eb1, eb2, val_main_v32, val_main_v31, val_main_v30]
  rw [sum_cols, sum_cols]
  simp only [c0, c1, c2]
  abel

/-- The block of the input's gradient. -/
theorem outH_eq (k : Fin 1024) :
    outH (F := Ideal) (tile t x0) (tile t x5) (tile t (gate x0 x1 x2)) (tile t (up x0 x1 x3)) x1
        (turned x2) (turned x3) x4 (ix2 r k)
      = val_main_v52 (F := Ideal) x0 x1 x2 x3 x4 x5 (ix2 (rowOf t r) k) := by
  have hn := dn_eq x0 x5 x1 x2 x3 x4 t r hu
  unfold outH
  pointwise [k0_pay2, k0_pay1, hn, scale_eq, slope_eq, val_main_v52, val_main_v51, val_main_v50, val_main_v49, val_main_v48, val_main_v47, val_main_v46,
    val_main_v45, val_main_v44, val_main_v43, val_main_v42, val_main_v41, val_main_v40, val_main_v39, val_main_v38, val_main_v37, val_main_v36, val_main_cst_6, val_main_cst_7, val_main_cst_8, tile]
  simp only [add_assoc]

/-- The sum over the block's rows that the last output adds up. -/
theorem outW_eq (acc : Vec Ideal S1x1024 .f32) (k : Fin 1024) :
    outW (F := Ideal) (tile t x0) (tile t x5) (tile t (gate x0 x1 x2)) (tile t (up x0 x1 x3))
        (turned x2) (turned x3) x4 acc (ix2 0 k)
      = acc (ix2 0 k) + ∑ r, val_main_v33 (F := Ideal) x0 x1 x2 x3 x4 x5 (ix2 (rowOf t r) k) := by
  have hn := fun r => dn_eq x0 x5 x1 x2 x3 x4 t r hu
  unfold outW
  pointwise [k0_pay3, k0_pay1, k0_pay8, hn, scale_eq, val_main_v33, val_main_v12, val_main_v11, tile]
  done

end Cols

theorem emb_cols0 (x : S256x1024.Idx) : cols0.emb x = ix2 (x 0) (c0 (x 1)) :=
  funext fun d => Fin.ext (by match d with | ⟨0, _⟩ => show 0 + 1 * (x 0).val = (x 0).val; omega | ⟨1, _⟩ => show 0 + 1 * (x 1).val = (x 1).val; omega)
theorem emb_cols1 (x : S256x1024.Idx) : cols1.emb x = ix2 (x 0) (c1 (x 1)) :=
  funext fun d => Fin.ext (by match d with | ⟨0, _⟩ => show 0 + 1 * (x 0).val = (x 0).val; omega | ⟨1, _⟩ => show 1024 + 1 * (x 1).val = 1024 + (x 1).val; omega)
theorem emb_cols2 (x : S256x768.Idx) : cols2.emb x = ix2 (x 0) (c2 (x 1)) :=
  funext fun d => Fin.ext (by match d with | ⟨0, _⟩ => show 0 + 1 * (x 0).val = (x 0).val; omega | ⟨1, _⟩ => show 2048 + 1 * (x 1).val = 2048 + (x 1).val; omega)

/-- A block stored in three pieces is the array whose columns the pieces are. -/
theorem three_pieces (G : Vec Ideal S256x2816 .bf16) (p2 : Vec Ideal S256x768 .bf16) (p1 p0 : Vec Ideal S256x1024 .bf16)
    (e2 : ∀ r j, p2 (ix2 r j) = G (ix2 r (c2 j))) (e1 : ∀ r j, p1 (ix2 r j) = G (ix2 r (c1 j))) (e0 : ∀ r j, p0 (ix2 r j) = G (ix2 r (c0 j))) :
    View.canon [⟨cols2, p2⟩, ⟨cols1, p1⟩, ⟨cols0, p0⟩] = G := by
  funext y
  refine View.canon_apply_of_pieces (Val := Elt Ideal) G [⟨cols2, p2⟩, ⟨cols1, p1⟩, ⟨cols0, p0⟩] ?_ y (cols_cover p2 p1 p0 y)
  intro p hp x
  rcases List.mem_cons.mp hp with rfl | hp
  · exact (congrArg p2 (eq_ix2 x)).trans ((e2 _ _).trans (congrArg G (emb_cols2 x).symm))
  rcases List.mem_cons.mp hp with rfl | hp
  · exact (congrArg p1 (eq_ix2 x)).trans ((e1 _ _).trans (congrArg G (emb_cols1 x).symm))
  rcases List.mem_cons.mp hp with rfl | hp
  · exact (congrArg p0 (eq_ix2 x)).trans ((e0 _ _).trans (congrArg G (emb_cols0 x).symm))
  exact absurd hp List.not_mem_nil

/-- The blocks of the two column gradients, whole. -/
theorem outA_eq (hu : ∀ i, Real' (val_main_v28 (F := Ideal) x0 x1 x3 x4 x5 i)) :
    outA (F := Ideal) (tile t x5) (tile t (gate x0 x1 x2)) (tile t (up x0 x1 x3)) x4 = tile t (val_main_v29 (F := Ideal) x0 x1 x2 x3 x4 x5) :=
  three_pieces _ _ _ _ (fun r j => da2_eq x0 x5 x1 x2 x3 x4 t r hu j) (fun r j => da1_eq x0 x5 x1 x2 x3 x4 t r hu j) (fun r j => da0_eq x0 x5 x1 x2 x3 x4 t r hu j)

theorem outB_eq :
    outB (F := Ideal) (tile t x5) (tile t (gate x0 x1 x2)) x4 = tile t (val_main_v27 (F := Ideal) x0 x1 x2 x4 x5) :=
  three_pieces _ _ _ _ (fun r j => db2_eq x0 x5 x1 x2 x4 t r j) (fun r j => db1_eq x0 x5 x1 x2 x4 t r j) (fun r j => db0_eq x0 x5 x1 x2 x4 t r j)

/-- The gradient at the up product is a real number where the scale, the two matrices and the cotangent are. -/
theorem cot_real (h1 : ∀ i, Real' (x1 i)) (h3 : ∀ i, Real' (x3 i)) (h4 : ∀ i, Real' (x4 i)) (h5 : ∀ i, Real' (x5 i)) (i : S8192x2816.Idx) :
    Real' (val_main_v28 (F := Ideal) x0 x1 x3 x4 x5 i) := by
  have hb : ∀ (a : Fin 8192) (b : Fin 2816), Real' (val_main_v16 (F := Ideal) x0 x1 x3 (ix2 a b)) := by
    intro a b
    pointwise [val_main_v16, val_main_v14, val_main_v13, val_main_v12, val_main_v11, val_main_v7, val_main_v6, val_main_v5, val_main_v4, val_main_v3, val_main_v2, val_main_v1, val_main_v0, val_main_cst, val_main_cst_0, val_main_cst_1]
    obtain ⟨e, he, h⟩ := eps_pos
    rw [width_bits, h]
    exact real_sum _ _ fun k => real_mul (real_mul (scaled_real (fun k => x0 (ix2 a k)) k (by norm_num) he) (h1 _)) (h3 _)
  have hd : ∀ (a : Fin 8192) (b : Fin 2816), Real' (val_main_v26 (F := Ideal) x4 x5 (ix2 a b)) := by
    intro a b
    rw [cot_eq]
    exact real_sum _ _ fun k => real_mul (real_mul half_real (h5 _)) (h4 _)
  rw [show i = ix2 (i 0) (i 1) from eq_ix2 i]
  exact real_mul (hd (i 0) (i 1)) (hb (i 0) (i 1))

end Cert.Ffn
end
-- ==== Proof.FfnHost.lean ====
/-
  What the host operations before the feed-forward backward kernel leave in the arrays its windows and copies read.
-/
module

public import proofs.«01_k».proof.Proof.FfnFrame
public import proofs.«01_k».proof.Proof.FfnPoint
public import Idealize.ShloMosaic.Lib.StableHlo.RunRead

@[expose] public section

set_option maxRecDepth 16384

namespace Cert.Ffn

open Cert.KernelIdeal Cert.KernelIdeal.Gen
open Cert.ReferenceIdeal.Read Cert.Reals
open Idealize.ShloMosaic Idealize.ShloMosaic.TcCoe

variable (m : (ℓ : Loc nD τ sig) → Buf (Elt Ideal) ℓ) (c : Dev nD)

theorem V_gate : V m c main_v36 = gate (m (c, main_arg0)) (m (c, main_arg1)) (m (c, main_arg2)) := by
  unfold V
  after_reads_simp
  rfl

theorem V_up : V m c main_v38 = up (m (c, main_arg0)) (m (c, main_arg1)) (m (c, main_arg3)) := by
  unfold V
  after_reads_simp
  rfl

/-- Three arrays of eight blocks, block beside block. -/
def beside (X Y Z : Vec Ideal S8x352x1024 .bf16) : Vec Ideal S8x1056x1024 .bf16 :=
  concatenate S8x1056x1024 1 [⟨S8x352x1024, X⟩, ⟨S8x352x1024, Y⟩, ⟨S8x352x1024, Z⟩] concatenates_S8x352x1024_S8x352x1024_S8x352x1024_S8x1056x1024_d1

/-- Three matrices, each cut in eight blocks of rows, block beside block. -/
def packed (A B D : Vec Ideal S2816x1024 .bf16) : Vec Ideal S8x1056x1024 .bf16 :=
  beside (shapeCast S8x352x1024 A shapeCasts_S2816x1024_S8x352x1024) (shapeCast S8x352x1024 B shapeCasts_S2816x1024_S8x352x1024) (shapeCast S8x352x1024 D shapeCasts_S2816x1024_S8x352x1024)

theorem turned_eq (w : Vec Ideal S1024x2816 .f32) :
    (truncf (F := Ideal) .bf16 (transpose S2816x1024 [1, 0] w transposes_S1024x2816_S2816x1024_1_0 : FVec Ideal S2816x1024 .f32) bitsLt_bf16_f32 : Vec Ideal S2816x1024 .bf16) = turned w := by
  suffices H : ∀ (a : Fin 2816) (b : Fin 1024), (truncf (F := Ideal) .bf16 (transpose S2816x1024 [1, 0] w transposes_S1024x2816_S2816x1024_1_0 : FVec Ideal S2816x1024 .f32) bitsLt_bf16_f32 : Vec Ideal S2816x1024 .bf16) (ix2 a b) = turned w (ix2 a b) by
    funext y; rw [show y = ix2 (y 0) (y 1) from eq_ix2 y]; exact H _ _
  intro a b
  pointwise [turned]

theorem V_packed0 : V m c main_v8 = packed (turned (m (c, main_arg2))) (turned (m (c, main_arg3))) (m (c, main_arg4)) := by
  unfold V
  after_reads_simp
  change beside (StableHlo.upto hostOps0 (fun b => m (c, b)) 8 (Proc.tc.devRef main_v3)) (StableHlo.upto hostOps0 (fun b => m (c, b)) 8 (Proc.tc.devRef main_v5))
    (StableHlo.upto hostOps0 (fun b => m (c, b)) 8 (Proc.tc.devRef main_v7)) = beside _ _ _
  congr 1
  · exact congrArg (fun z => shapeCast S8x352x1024 z shapeCasts_S2816x1024_S8x352x1024) (turned_eq _)
  · exact congrArg (fun z => shapeCast S8x352x1024 z shapeCasts_S2816x1024_S8x352x1024) (turned_eq _)

theorem V_packed1 : V m c main_v15 = packed (turned (m (c, main_arg2))) (turned (m (c, main_arg3))) (m (c, main_arg4)) := by
  unfold V
  after_reads_simp
  change beside (StableHlo.upto hostOps0 (fun b => m (c, b)) 15 (Proc.tc.devRef main_v10)) (StableHlo.upto hostOps0 (fun b => m (c, b)) 15 (Proc.tc.devRef main_v12))
    (StableHlo.upto hostOps0 (fun b => m (c, b)) 15 (Proc.tc.devRef main_v14)) = beside _ _ _
  congr 1
  · exact congrArg (fun z => shapeCast S8x352x1024 z shapeCasts_S2816x1024_S8x352x1024) (turned_eq _)
  · exact congrArg (fun z => shapeCast S8x352x1024 z shapeCasts_S2816x1024_S8x352x1024) (turned_eq _)

theorem V_packed2 : V m c main_v22 = packed (turned (m (c, main_arg2))) (turned (m (c, main_arg3))) (m (c, main_arg4)) := by
  unfold V
  after_reads_simp
  change beside (StableHlo.upto hostOps0 (fun b => m (c, b)) 22 (Proc.tc.devRef main_v17)) (StableHlo.upto hostOps0 (fun b => m (c, b)) 22 (Proc.tc.devRef main_v19))
    (StableHlo.upto hostOps0 (fun b => m (c, b)) 22 (Proc.tc.devRef main_v21)) = beside _ _ _
  congr 1
  · exact congrArg (fun z => shapeCast S8x352x1024 z shapeCasts_S2816x1024_S8x352x1024) (turned_eq _)
  · exact congrArg (fun z => shapeCast S8x352x1024 z shapeCasts_S2816x1024_S8x352x1024) (turned_eq _)

theorem stacked0 (A B D : Vec Ideal S2816x1024 .bf16) (h) : stacked (packed A B D) 0 h = A := by
  suffices H : ∀ (a : Fin 2816) (b : Fin 1024), stacked (packed A B D) 0 h (ix2 a b) = A (ix2 a b) by
    funext y; rw [show y = ix2 (y 0) (y 1) from eq_ix2 y]; exact H _ _
  intro a b
  have ha : a.val % 352 < 352 := Nat.mod_lt _ (by decide)
  unfold stacked packed beside
  pointwise
  rw [dif_pos ha]
theorem stacked1 (A B D : Vec Ideal S2816x1024 .bf16) (h) : stacked (packed A B D) 352 h = B := by
  suffices H : ∀ (a : Fin 2816) (b : Fin 1024), stacked (packed A B D) 352 h (ix2 a b) = B (ix2 a b) by
    funext y; rw [show y = ix2 (y 0) (y 1) from eq_ix2 y]; exact H _ _
  intro a b
  have ha : a.val % 352 < 352 := Nat.mod_lt _ (by decide)
  unfold stacked packed beside
  pointwise
  rw [dif_pos ha]
theorem stacked2 (A B D : Vec Ideal S2816x1024 .bf16) (h) : stacked (packed A B D) 704 h = D := by
  suffices H : ∀ (a : Fin 2816) (b : Fin 1024), stacked (packed A B D) 704 h (ix2 a b) = D (ix2 a b) by
    funext y; rw [show y = ix2 (y 0) (y 1) from eq_ix2 y]; exact H _ _
  intro a b
  have ha : a.val % 352 < 352 := Nat.mod_lt _ (by decide)
  unfold stacked packed beside
  pointwise
  rw [dif_neg (by omega), dif_neg (by omega)]

theorem gateW_eq : gateW m c = turned (m (c, main_arg2)) := by unfold gateW; rw [V_packed0]; exact stacked0 _ _ _ _
theorem upW_eq : upW m c = turned (m (c, main_arg3)) := by unfold upW; rw [V_packed1]; exact stacked1 _ _ _ _
theorem downW_eq : downW m c = m (c, main_arg4) := by unfold downW; rw [V_packed2]; exact stacked2 _ _ _ _

end Cert.Ffn
end
-- ==== Proof.FfnValue.lean ====
/-
  The four arrays the feed-forward backward kernel leaves, in the reference's own terms.
-/
module

public import proofs.«01_k».proof.Proof.FfnHost
public import Idealize.ShloMosaic.Lib.Pipeline.ValueKit
public import Idealize.ShloMosaic.Lib.Pointwise

@[expose] public section

set_option maxRecDepth 16384

namespace Cert.Ffn

open Cert.KernelIdeal Cert.KernelIdeal.Gen
open Cert.ReferenceIdeal.Read Cert.Reals
open Idealize.ShloMosaic Idealize.ShloMosaic.TcCoe

variable (m : (ℓ : Loc nD τ sig) → Buf (Elt Ideal) ℓ) (c : Dev nD)

/-- A grid point as the number of its tile of rows. -/
def pt (t : Fin cfg0.N) : Fin 32 := ⟨t.val, Nat.lt_of_lt_of_eq t.isLt N_0⟩

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)

theorem small (t : Fin cfg0.N) : t.val < 32 := Nat.lt_of_lt_of_eq t.isLt N_0

/-! ## What the windows hand the body -/

theorem block_h (t : Fin cfg0.N) : iblk m c 0 t = tile (pt t) (m (c, main_arg0)) := by
  funext y
  blk_simp [iblk, at0]
  rw [V_main_arg0]
  unfold tile
  blk_ext [at0, rowOf, pt]

theorem block_dout (t : Fin cfg0.N) : iblk m c 1 t = tile (pt t) (m (c, main_arg5)) := by
  funext y
  blk_simp [iblk, at1]
  rw [V_main_arg5]
  unfold tile
  blk_ext [at1, rowOf, pt]

theorem block_gate (t : Fin cfg0.N) :
    iblk m c 2 t = tile (pt t) (gate (m (c, main_arg0)) (m (c, main_arg1)) (m (c, main_arg2))) := by
  funext y
  blk_simp [iblk, at2]
  rw [V_gate]
  unfold tile
  blk_ext [at2, rowOf, pt]

theorem block_up (t : Fin cfg0.N) :
    iblk m c 3 t = tile (pt t) (up (m (c, main_arg0)) (m (c, main_arg1)) (m (c, main_arg3))) := by
  funext y
  blk_simp [iblk, at3]
  rw [V_up]
  unfold tile
  blk_ext [at3, rowOf, pt]

theorem block_norm (t : Fin cfg0.N) : iblk m c 4 t = m (c, main_arg1) := by
  funext y
  blk_simp [iblk, at4]
  rw [V_main_arg1]
  congr 1
  blk_ext [at4]

section Repeated

/-! ## The reference's second copy of the same gradients -/

variable (x0 x5 : Vec Ideal S8192x1024 .f32) (x1 : Vec Ideal S1x1024 .f32) (x2 x3 : Vec Ideal S1024x2816 .f32) (x4 : Vec Ideal S2816x1024 .f32)

theorem half_again : val_main_v73 (F := Ideal) x5 = val_main_v25 (F := Ideal) x5 := by
  suffices H : ∀ (a : Fin 8192) (b : Fin 1024), val_main_v73 (F := Ideal) x5 (ix2 a b) = val_main_v25 (F := Ideal) x5 (ix2 a b) by
    funext y; rw [show y = ix2 (y 0) (y 1) from eq_ix2 y]; exact H _ _
  intro a b
  pointwise [val_main_v73, val_main_v72, val_main_cst_13, val_main_v25, val_main_v24, val_main_v23, val_main_cst_4]

theorem cot_again : val_main_v74 (F := Ideal) x4 x5 = val_main_v26 (F := Ideal) x4 x5 := by
  unfold val_main_v74 val_main_v26
  rw [half_again]

theorem norm_again : val_main_v64 (F := Ideal) x0 x1 = val_main_v14 (F := Ideal) x0 x1 := rfl

theorem gate_again : val_main_v65 (F := Ideal) x0 x1 x2 = gate x0 x1 x2 := by
  unfold val_main_v65 gate val_main_v15
  rw [norm_again]

theorem up_again : val_main_v66 (F := Ideal) x0 x1 x3 = up x0 x1 x3 := by
  unfold val_main_v66 up val_main_v16
  rw [norm_again]

theorem db_again : val_main_v79 (F := Ideal) x0 x1 x2 x4 x5 = val_main_v27 (F := Ideal) x0 x1 x2 x4 x5 := by
  have h : val_main_v67_0 (F := Ideal) x0 x1 x2 = val_main_v17_0 (F := Ideal) x0 x1 x2 := by rfl
  unfold val_main_v79 val_main_v75 val_main_v27
  rw [cot_again, h]
  rfl

theorem du_again : val_main_v76 (F := Ideal) x0 x1 x3 x4 x5 = val_main_v28 (F := Ideal) x0 x1 x3 x4 x5 := by
  unfold val_main_v76 val_main_v28
  rw [cot_again, up_again]

theorem da_again : val_main_v78 (F := Ideal) x0 x1 x2 x3 x4 x5 = val_main_v29 (F := Ideal) x0 x1 x2 x3 x4 x5 := by
  have h : val_main_v67_1 (F := Ideal) x0 x1 x2 = val_main_v17_1 (F := Ideal) x0 x1 x2 := by rfl
  have h' : val_main_v67_2 (F := Ideal) x0 x1 x2 = val_main_v17_2 (F := Ideal) x0 x1 x2 := by rfl
  unfold val_main_v78 val_main_v77 val_main_call3_v2 val_main_call3_v1 val_main_call3_v0 val_main_v29 val_main_call1_v2 val_main_call1_v1 val_main_call1_v0
  rw [du_again, h, h', gate_again]
  rfl

end Repeated

/-! ## What the run leaves -/

/-- The gradient at the up product is a real number everywhere. -/
def UpReal : Prop :=
  ∀ i, Real' (val_main_v28 (F := Ideal) (m (c, main_arg0)) (m (c, main_arg1)) (m (c, main_arg3)) (m (c, main_arg4)) (m (c, main_arg5)) i)

variable (hu : UpReal m c)
include hu

theorem array_h : (dats m 0 c).arrAt 5 cfg0.N
    = val_main_v52 (F := Ideal) (m (c, main_arg0)) (m (c, main_arg1)) (m (c, main_arg2)) (m (c, main_arg3)) (m (c, main_arg4)) (m (c, main_arg5)) := by
  refine (dats m 0 c).arrAt_eq_of_covers 5 _ (by decide +kernel) fun t hf y => ?_
  blk_simp
  rw [after_5, block_h, block_dout, block_gate, block_up, block_norm, gateW_eq, upW_eq, downW_eq]
  refine (congrArg _ (eq_ix2 (n0 := 256) (n1 := 1024) y)).trans ((outH_eq _ _ _ _ _ _ (pt t) (y 0) hu (y 1)).trans (congrArg _ ?_))
  blk_ext [at5, rowOf, pt]

theorem array_a : (dats m 0 c).arrAt 6 cfg0.N
    = val_main_v29 (F := Ideal) (m (c, main_arg0)) (m (c, main_arg1)) (m (c, main_arg2)) (m (c, main_arg3)) (m (c, main_arg4)) (m (c, main_arg5)) := by
  refine (dats m 0 c).arrAt_eq_of_covers 6 _ (by decide +kernel) fun t hf y => ?_
  blk_simp
  rw [after_6, block_dout, block_gate, block_up, downW_eq, outA_eq _ _ _ _ _ _ (pt t) hu]
  unfold tile
  blk_ext [at6, rowOf, pt]

omit hu in
theorem array_b : (dats m 0 c).arrAt 7 cfg0.N
    = val_main_v27 (F := Ideal) (m (c, main_arg0)) (m (c, main_arg1)) (m (c, main_arg2)) (m (c, main_arg4)) (m (c, main_arg5)) := by
  refine (dats m 0 c).arrAt_eq_of_covers 7 _ (by decide +kernel) fun t hf y => ?_
  blk_simp
  rw [after_7, block_dout, block_gate, downW_eq, outB_eq]
  unfold tile
  blk_ext [at7, rowOf, pt]

/-- The terms one grid point adds to the gradient of the norm's scale. -/
noncomputable def added (t : Fin cfg0.N) (k : Fin 1024) : EReal :=
  ∑ r, val_main_v33 (F := Ideal) (m (c, main_arg0)) (m (c, main_arg1)) (m (c, main_arg2)) (m (c, main_arg3)) (m (c, main_arg4)) (m (c, main_arg5)) (ix2 (rowOf (pt t) r) k)

theorem sum_first (t : Fin cfg0.N) (h : t.val = 0) (k : Fin 1024) :
    sumW m c t.val t.isLt (ix2 0 k) = 0 + added m c t k := by
  rw [sumW_first m c t h, block_h, block_dout, block_gate, block_up, gateW_eq, upW_eq, downW_eq]
  refine (outW_eq _ _ _ _ _ _ (pt t) hu _ k).trans (congrArg (· + added m c t k) ?_)
  pointwise [k0_pay4]

theorem sum_next (t : Fin cfg0.N) (h : t.val ≠ 0) (k : Fin 1024) :
    sumW m c t.val t.isLt (ix2 0 k) = sumW m c (t.val - 1) (Nat.lt_of_le_of_lt (Nat.sub_le _ _) t.isLt) (ix2 0 k) + added m c t k := by
  rw [sumW_next m c t h, block_h, block_dout, block_gate, block_up, gateW_eq, upW_eq, downW_eq]
  exact outW_eq _ _ _ _ _ _ (pt t) hu _ k

/-- After the last point the running sum is the sum over all rows. -/
theorem sum_last (k : Fin 1024) :
    sumW m c 31 (by rw [show cfg0.N = 32 from N_0]; decide) (ix2 0 k)
      = ∑ i : Fin 8192, val_main_v33 (F := Ideal) (m (c, main_arg0)) (m (c, main_arg1)) (m (c, main_arg2)) (m (c, main_arg3)) (m (c, main_arg4)) (m (c, main_arg5)) (ix2 i k) := by
  have h := Pipeline.eq_sum_fin_of_reset_step_apply_last (fun n hn k => sumW m c n hn (ix2 0 k)) 32 (fun _ => 0) (added m c)
    (fun t h k => sum_first m c hu t (by have := small t; omega) k) (fun t h k => sum_next m c hu t (by have := small t; omega) k)
    (Nat.le_of_eq N_0) ⟨31, by rw [show cfg0.N = 32 from N_0]; decide⟩ N_0.symm k
  refine h.trans ((zero_add _).trans ?_)
  unfold added
  refine Fin.sum_mul_add_congr (S := 32) (n := 256) (fun s r hl => ?_)
  congr 1
  blk_ext [rowOf, pt]

theorem array_w : (dats m 0 c).arrAt 8 cfg0.N
    = val_main_v35 (F := Ideal) (m (c, main_arg0)) (m (c, main_arg1)) (m (c, main_arg2)) (m (c, main_arg3)) (m (c, main_arg4)) (m (c, main_arg5)) := by
  refine (dats m 0 c).arrAt_eq_of_after_last 8 ⟨31, by rw [show cfg0.N = 32 from N_0]; decide⟩ (by decide +kernel) _ fun j => ?_
  blk_simp
  refine (congrFun (after_8 m c ⟨31, by rw [show cfg0.N = 32 from N_0]; decide⟩) _).trans ?_
  change sumW m c 31 (by rw [show cfg0.N = 32 from N_0]; decide) j = _
  suffices H : ∀ k : Fin 1024, sumW m c 31 (by rw [show cfg0.N = 32 from N_0]; decide) (ix2 0 k)
      = val_main_v35 (F := Ideal) (m (c, main_arg0)) (m (c, main_arg1)) (m (c, main_arg2)) (m (c, main_arg3)) (m (c, main_arg4)) (m (c, main_arg5)) (ix2 0 k) by
    have e : j = ix2 (0 : Fin 1) (j 1) := (eq_ix2 (n0 := 1) (n1 := 1024) j).trans (congrArg (fun a => ix2 a (j 1)) (Subsingleton.elim (α := Fin 1) (j 0) 0))
    rw [e]
    exact H (j 1)
  intro k
  rw [sum_last m c hu k]
  symm
  pointwise [val_main_v35, val_main_v34, val_main_cst_5]

end Cert.Ffn
-- ==== Proof.FfnPre.lean ====
/-
  What the precondition says: the norm's scale, the up and down matrices and the cotangent hold real numbers.
-/
module

public import proofs.«01_k».proof.Proof.Gen.Pre_finite
public import proofs.«01_k».proof.Proof.FfnValue
public import Idealize.ShloMosaic.Lib.ReduceAll

@[expose] public section

set_option maxRecDepth 16384

namespace Cert.Ffn

open Cert.KernelIdeal Cert.KernelIdeal.Gen
open Cert.ReferenceIdeal.Read Cert.Reals
open Idealize.ShloMosaic Idealize.ShloMosaic.TcCoe

theorem top_bits : Ideal.ofBits .f32 0x7F800000#32 = ⊤ := by simp [Ideal.ofBits, Ideal.ieee]

/-- An extended real whose absolute value is below infinity is a real number. -/
theorem real_of_below (x : EReal) (h : Ideal.cmp .olt (max x (-x)) (Ideal.ofBits .f32 0x7F800000#32) = 1#1) : Real' x := by
  rw [top_bits] at h
  have hb : ∀ b : Bool, BitVec.ofBool b = 1#1 → b = true := by decide
  have hlt : max x (-x) < ⊤ := of_decide_eq_true (hb _ h)
  rw [max_lt_iff] at hlt
  refine ⟨x.toReal, (EReal.coe_toReal (ne_of_lt hlt.1) ?_).symm⟩
  rintro rfl
  exact absurd hlt.2 (by simp)

/-- Both of two conditions hold where their conjunction does. -/
theorem both {a b : BitVec 1} (h : a &&& b = 1#1) : a = 1#1 ∧ b = 1#1 := by
  revert a b; decide

variable (x0 x5 : Vec Ideal S8192x1024 .f32) (x1 : Vec Ideal S1x1024 .f32) (x2 x3 : Vec Ideal S1024x2816 .f32) (x4 : Vec Ideal S2816x1024 .f32)

theorem reals_of_pre (h : Cert.Pre_finite.fn (F := Ideal) x0 x1 x2 x3 x4 x5 = fun _ => 1#1) :
    (∀ i, Real' (x1 i)) ∧ (∀ i, Real' (x3 i)) ∧ (∀ i, Real' (x4 i)) ∧ (∀ i, Real' (x5 i)) := by
  have e := congrFun h (fun a => a.elim0)
  simp only [Cert.Pre_finite.fn, Cert.Pre_finite.fn_part1] at e
  obtain ⟨e, e5⟩ := both e
  obtain ⟨e, e4⟩ := both e
  obtain ⟨e1, e3⟩ := both e
  haveI : Subsingleton Cert.Pre_finite.S_.Idx := ⟨fun a b => funext fun d => d.elim0⟩
  exact ⟨fun i => real_of_below _ (Host.reduce_andi_all _ _ _ _ _ e1 i), fun i => real_of_below _ (Host.reduce_andi_all _ _ _ _ _ e3 i),
    fun i => real_of_below _ (Host.reduce_andi_all _ _ _ _ _ e4 i), fun i => real_of_below _ (Host.reduce_andi_all _ _ _ _ _ e5 i)⟩

end Cert.Ffn
-- ==== Proof.FfnClaim.lean ====
/-
  The claims about the feed-forward backward kernel: its frames, its reference's frame, and that its four results are the
  reference's.
-/
module

public import proofs.«01_k».proof.Defs
public import proofs.«01_k».proof.Proof.Gen.ReferenceIdeal.Run
public import proofs.«01_k».proof.Proof.Gen.Kernel
public import proofs.«01_k».proof.Proof.FfnPre
public import Idealize.ShloMosaic.Lib.Claim

@[expose] public section

namespace Cert.Ffn

open Idealize.ShloMosaic Idealize.ShloMosaic.TcCoe
open Idealize.SL Idealize.SL.Sem
open Cert.ReferenceIdeal.Read

set_option maxHeartbeats 1600000 in
/-- The printed kernel and the one printed for reading over the extended reals are the same text, label by label. -/
theorem defs₀_same {F : FTy → Type} [FloatOps F] : Cert.Kernel.defs₀ (F := F) = Cert.KernelIdeal.defs₀ (F := F) :=
  congrArg Defs.onTc (funext fun l => funext fun a => by
    match l, a with
    | 0, (t, s) => rfl
    | ⟨_ + 1, h⟩, _ => exact absurd h (Nat.not_lt.2 (Nat.le_add_left _ _)))

set_option maxHeartbeats 1600000 in
theorem defs_same {F : FTy → Type} [FloatOps F] : Cert.Kernel.defs (F := F) = Cert.KernelIdeal.defs (F := F) :=
  congrArg (Pipeline.defs (Cert.KernelIdeal.pcfgs (F := F))) defs₀_same

set_option maxHeartbeats 1600000 in
theorem quiescent_kernel : Cert.quiescent_Kernel (hKernel := Cert.Kernel.Gen.facts) := fun m ρ _ => by
  have h := frame_ideal (F := Bits) m ρ
  rw [← defs_same] at h
  exact h

theorem quiescent_ideal : Cert.quiescent_KernelIdeal (hKernelIdeal := Cert.KernelIdeal.Gen.facts) := fun m ρ _ => frame_ideal m ρ

theorem quiescent_reference : Cert.quiescent_ReferenceIdeal (hReferenceIdeal := Cert.ReferenceIdeal.Gen.facts) :=
  fun m ρ _ => (θ_run Cert.ReferenceIdeal.defs _ _).mono
    (fun r h => ⟨fun c => (h c).2.2.2.2, sem_eq_zero_of_no_sems (by decide) r.2⟩)
    (Cert.ReferenceIdeal.Value.run m ρ)

theorem quiescent_ideal_pre : Cert.quiescent_KernelIdeal_pre_finite (hKernelIdeal := Cert.KernelIdeal.Gen.facts) (hPre_finite := Cert.Pre_finite.Gen.facts) :=
  fun m ρ _ => frame_ideal m ρ

theorem quiescent_reference_pre : Cert.quiescent_ReferenceIdeal_pre_finite (hReferenceIdeal := Cert.ReferenceIdeal.Gen.facts) (hPre_finite := Cert.Pre_finite.Gen.facts) :=
  fun m ρ _ => quiescent_reference m ρ trivial

section Kernel

open Cert.KernelIdeal Cert.KernelIdeal.Gen

variable (m : (ℓ : Loc nD τ sig) → Buf (Elt Ideal) ℓ) (ρ : Dev nD → PrngReg)

/-- The kernel's run: its four results in the reference's terms, its arguments unchanged. -/
theorem run_kernel (hu : ∀ c, UpReal m c) : θ_run defs (onTc (τ := τ) (main (F := Ideal))) ⟨m, fun _ => 0, ρ⟩ (fun r => ∀ c : Dev nD,
      r.2.mem ((c.tc : Thread nD τ).loc main_v39_0) = val_main_v52 (F := Ideal) (m (c, main_arg0)) (m (c, main_arg1)) (m (c, main_arg2)) (m (c, main_arg3)) (m (c, main_arg4)) (m (c, main_arg5))
      ∧ r.2.mem ((c.tc : Thread nD τ).loc main_v39_1) = val_main_v78 (F := Ideal) (m (c, main_arg0)) (m (c, main_arg1)) (m (c, main_arg2)) (m (c, main_arg3)) (m (c, main_arg4)) (m (c, main_arg5))
      ∧ r.2.mem ((c.tc : Thread nD τ).loc main_v39_2) = val_main_v79 (F := Ideal) (m (c, main_arg0)) (m (c, main_arg1)) (m (c, main_arg2)) (m (c, main_arg4)) (m (c, main_arg5))
      ∧ r.2.mem ((c.tc : Thread nD τ).loc main_v39_3) = val_main_v35 (F := Ideal) (m (c, main_arg0)) (m (c, main_arg1)) (m (c, main_arg2)) (m (c, main_arg3)) (m (c, main_arg4)) (m (c, main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h.1.1.out_eq c 5).trans (array_h m c (hu c)), (h.1.1.out_eq c 6).trans ((array_a m c (hu c)).trans (da_again _ _ _ _ _ _).symm),
      (h.1.1.out_eq c 7).trans ((array_b m c).trans (db_again _ _ _ _ _).symm), (h.1.1.out_eq c 8).trans (array_w m c (hu c)), h.2.1 c⟩)
    (θ_run_and (run m ρ) (frame_ideal m ρ))

end Kernel

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨_, _, _, _, run_kernel m g fun c => ?_, (θ_run Cert.ReferenceIdeal.defs _ _).mono (fun r h c => ?_) (Cert.ReferenceIdeal.Value.run m' g')⟩
  · obtain ⟨h1, h3, h4, h5⟩ := reals_of_pre _ _ _ _ _ _ (hpre c)
    exact cot_real _ _ _ _ _ h1 h3 h4 h5
  · obtain ⟨r0, r1, r2, r3, rest⟩ := h c
    obtain ⟨a0, a1, a2, a3, a4, a5⟩ := hargs c
    refine ⟨r0.trans ((val_main_v52_eq m' c).trans ?_), r1.trans ((val_main_v78_eq m' c).trans ?_), r2.trans ((val_main_v79_eq _ _ _ _ _).trans ?_),
      r3.trans ((val_main_v35_eq m' c).trans ?_), rest⟩
    · rw [a0, a1, a2, a3, a4, a5]
    · rw [a0, a1, a2, a3, a4, a5]
    · rw [a0, a1, a2, a4, a5]
    · rw [a0, a1, a2, a3, a4, a5]

end Cert.Ffn
-- ==== Proof.GmPoint.lean ====
/-
  One chunk of the spatial-gating backward kernel, read over the extended reals: every value it computes at a row of its
  chunk is the reference's value at that row of the whole array.
-/
module

public import proofs.«01_k».proof.Proof.Gen.Kernel2Ideal.Skeleton
public import proofs.«01_k».proof.Proof.Gen.Reference2Ideal.Read
public import Idealize.ShloMosaic.Lib.Pointwise

@[expose] public section

namespace Cert.Gm

open Cert.Kernel2Ideal Cert.Kernel2Ideal.Gen
open Cert.Reference2Ideal.Read
open Idealize.ShloMosaic Idealize.ShloMosaic.TcCoe

/-- Row `r` of chunk `t`. -/
def rowOf (t : Fin 64) (r : Fin 128) : Fin 8192 := ⟨t.val * 128 + r.val, by omega⟩

/-- Column `d` of head `h`. -/
def colOf (h : Fin 8) (d : Fin 128) : Fin 1024 := ⟨h.val * 128 + d.val, by omega⟩

/-- Chunk `t` of 128 rows. -/
def chunk {n : ℕ} {e : EltTy} (t : Fin 64) (X : Vec Ideal ⟨2, ![8192, n]⟩ e) : Vec Ideal ⟨2, ![128, n]⟩ e :=
  fun y => X (ix2 (rowOf t (y 0)) (y 1))

/-- The columns of head `h` in chunk `t`. -/
def headOf {e : EltTy} (t : Fin 64) (h : Fin 8) (X : Vec Ideal S8192x1024 e) : Vec Ideal S128x128 e :=
  fun y => X (ix2 (rowOf t (y 0)) (colOf h (y 1)))

/-- The mixing matrix of head `h`. -/
def slab {e : EltTy} (h : Fin 8) (W : Vec Ideal S8x128x128 e) : Vec Ideal S128x128 e :=
  fun y => W (ix3 h (y 0) (y 1))

/-- Two matrices which agree at every pair of indices are equal. -/
theorem ext2 (a b : ℕ) {α : Type} {X Y : (⟨2, ![a, b]⟩ : Shape).Idx → α} (h : ∀ (i : Fin a) (j : Fin b), X (ix2 i j) = Y (ix2 i j)) : X = Y := by
  funext y
  rw [show y = ix2 (y 0) (y 1) from eq_ix2 y]
  exact h _ _

variable (x0 : Vec Ideal S8192x4624 .f32) (x1 : Vec Ideal S8192x1024 .f32) (x2 x3 x6 : Vec Ideal S1x1024 .f32)
  (x4 : Vec Ideal S1x8x128x128 .f32) (x5 : Vec Ideal S1x8x128 .f32) (t : Fin 64)

/-! ## The two GELUs and the layer norm -/

theorem gelu_u : k0_pay24 (F := Ideal) (chunk t (val_main_v0 (F := Ideal) x0)) = chunk t (val_main_v11 (F := Ideal) x0) := by
  refine ext2 128 1024 fun i j => ?_
  pointwise [k0_pay24, k0_pay23, k0_pay21, k0_pay20, val_main_v11, val_main_v7, val_main_v6, val_main_v5, val_main_v4, val_main_v3, val_main_v2,
    val_main_cst, val_main_cst_0, chunk, neg_mul, Ideal.erfc_neg, Ideal.erf_def]

theorem centre : k0_pay29 (F := Ideal) (chunk t (val_main_v1 (F := Ideal) x0)) = chunk t (val_main_v29 (F := Ideal) x0) := by
  refine ext2 128 1024 fun i j => ?_
  pointwise [k0_pay29, k0_pay28, k0_pay26, k0_pay25, val_main_v29, val_main_v28, val_main_v27, val_main_v26, val_main_v25, val_main_v24,
    val_main_v21, val_main_v17, val_main_v16, val_main_v15, val_main_v14, val_main_v13, val_main_v12,
    val_main_cst_1, val_main_cst_2, val_main_cst_3, val_main_cst_4, chunk, neg_mul, Ideal.erfc_neg, Ideal.erf_def]

theorem norm_ln : k0_pay31 (F := Ideal) (chunk t (val_main_v1 (F := Ideal) x0)) = chunk t (val_main_v37 (F := Ideal) x0) := by
  refine ext2 128 1 fun i j => ?_
  unfold k0_pay31 k0_pay30
  rw [centre]
  pointwise [val_main_v37, val_main_v36, val_main_v35, val_main_v34, val_main_v33, val_main_v32, val_main_v31, val_main_v30,
    val_main_cst_5, val_main_cst_6, val_main_cst_7, chunk]

theorem norm_v : k0_pay35 (F := Ideal) x2 x3 (chunk t (val_main_v29 (F := Ideal) x0)) (chunk t (val_main_v37 (F := Ideal) x0))
    = chunk t (val_main_v46 (F := Ideal) x0 x2 x3) := by
  refine ext2 128 1024 fun i j => ?_
  pointwise [k0_pay35, k0_pay34, val_main_v46, val_main_v45, val_main_v44, val_main_v43, val_main_v42, val_main_v41, chunk]

/-! ## What the reference computes for one head of one chunk -/

theorem row_div (r : Fin 128) : (rowOf t r).val / 128 = t.val := by simp only [rowOf]; omega
theorem row_mod (r : Fin 128) : (rowOf t r).val % 128 = r.val := by simp only [rowOf]; omega
theorem col_div (h : Fin 8) (d : Fin 128) : (colOf h d).val / 128 = h.val := by simp only [colOf]; omega

theorem mixed_at (h : Fin 8) (r d : Fin 128) :
    val_main_v58 (F := Ideal) x0 x2 x3 x4 x5 (ix2 (rowOf t r) (colOf h d))
      = (∑ s : Fin 128, val_main_v51_0 (F := Ideal) x4 (ix3 h r s) * val_main_v46 (F := Ideal) x0 x2 x3 (ix2 (rowOf t s) (colOf h d)))
        + val_main_v54 (F := Ideal) x5 (ix2 r h) := by
  pointwise [val_main_v58, val_main_v57, val_main_v56, val_main_v55, val_main_v53, val_main_v52, val_main_v47]
  simp only [row_div, row_mod, col_div]
  exact congrArg (· + _) (Finset.sum_congr rfl fun s _ => mul_comm _ _)

theorem dvn_at (h : Fin 8) (s d : Fin 128) :
    val_main_v106 (F := Ideal) x0 x1 x2 x3 x4 x5 x6 (ix2 (rowOf t s) (colOf h d))
      = ∑ r : Fin 128, val_main_v94 (F := Ideal) x0 x1 x2 x3 x4 x5 x6 (ix2 (rowOf t r) (colOf h d)) * val_main_v51_0 (F := Ideal) x4 (ix3 h r s) := by
  pointwise [val_main_v106, val_main_v104, val_main_v103, val_main_v101, val_main_v96]
  simp only [row_div, row_mod, col_div]
  rfl

theorem dw_at (h : Fin 8) (r s : Fin 128) :
    val_main_v102 (F := Ideal) x0 x1 x2 x3 x4 x5 x6 (ix3 h r s)
      = ∑ t : Fin 64, ∑ d : Fin 128, val_main_v94 (F := Ideal) x0 x1 x2 x3 x4 x5 x6 (ix2 (rowOf t r) (colOf h d))
          * val_main_v46 (F := Ideal) x0 x2 x3 (ix2 (rowOf t s) (colOf h d)) := by
  pointwise [val_main_v102, val_main_v101, val_main_v96, val_main_v47]
  rfl

/-- A sum over the first and the last of four axes. -/
theorem sum_outer {a b c d : ℕ} (h : (⟨4, ![a, b, c, d]⟩ : Shape).ReducesTo [0, 3] ⟨2, ![b, c]⟩)
    (x : (⟨4, ![a, b, c, d]⟩ : Shape).Idx → EReal) (z : EReal) (p : Fin b) (q : Fin c) :
    Ideal.hostReduceAdd h x z (ix2 p q) = z + ∑ i : Fin a, ∑ k : Fin d, x (ix4 i p q k) := by
  have h1 : ∀ i, (h.drop i 0).val = (i 1).val := fun i => rfl
  have h2 : ∀ i, (h.drop i 1).val = (i 2).val := fun i => rfl
  unfold Ideal.hostReduceAdd
  congr 1
  rw [← Finset.sum_product']
  refine Finset.sum_nbij' (fun i => (i 0, i 3)) (fun z => ix4 z.1 p q z.2) (fun i _ => Finset.mem_univ _) (fun z _ => ?_) (fun i hi => ?_)
    (fun z _ => rfl) (fun i hi => ?_)
  · refine Finset.mem_filter.2 ⟨Finset.mem_univ _, funext fun e => Fin.ext ?_⟩
    match e with
    | ⟨0, _⟩ => exact h1 _
    | ⟨1, _⟩ => exact h2 _
  all_goals
    have e := (Finset.mem_filter.1 hi).2
    have e1 : i 1 = p := Fin.ext ((h1 i).symm.trans (congrArg (fun j => (j 0).val) e))
    have e2 : i 2 = q := Fin.ext ((h2 i).symm.trans (congrArg (fun j => (j 1).val) e))
    have e3 : ix4 (i 0) p q (i 3) = i := by rw [← e1, ← e2]; exact (eq_ix4 i).symm
  · exact e3
  · exact congrArg x e3.symm

theorem dbs_at (h : Fin 8) (r : Fin 128) :
    val_main_v164 (F := Ideal) x0 x1 x2 x3 x4 x5 x6 (ix2 r h)
      = ∑ t : Fin 64, ∑ d : Fin 128, val_main_v94 (F := Ideal) x0 x1 x2 x3 x4 x5 x6 (ix2 (rowOf t r) (colOf h d)) := by
  pointwise [val_main_v164, val_main_v163, val_main_v136, val_main_v100, val_main_v99]
  rw [sum_outer]
  pointwise [val_main_v98, val_main_v97, val_main_v96, val_main_cst_18, val_main_cst_19]
  rw [sum_outer]
  pointwise
  rw [Fin.sum_univ_one, Fin.sum_univ_one]
  rfl

end Cert.Gm
-- ==== Proof.GmHeads.lean ====
/-
  The eight heads of one chunk of the spatial-gating backward kernel: the masked mixing matrices, the mixed values and the
  gated values, each equal to the reference's.
-/
module

public import proofs.«01_k».proof.Proof.GmPoint

@[expose] public section

namespace Cert.Gm

open Cert.Kernel2Ideal Cert.Kernel2Ideal.Gen
open Cert.Reference2Ideal.Read
open Idealize.ShloMosaic Idealize.ShloMosaic.TcCoe

variable (x0 : Vec Ideal S8192x4624 .f32) (x1 : Vec Ideal S8192x1024 .f32) (x2 x3 x6 : Vec Ideal S1x1024 .f32)
  (x4 : Vec Ideal S1x8x128x128 .f32) (x5 : Vec Ideal S1x8x128 .f32) (t : Fin 64)

/-- The mixing matrices of the heads, the causal ones, and the biases turned as the kernel has them. -/
noncomputable abbrev mixers : Vec Ideal S8x128x128 .f32 := val_main_v22 (F := Ideal) x4
noncomputable abbrev causal : Vec Ideal S8x128x128 .f32 := val_main_v51_0 (F := Ideal) x4
noncomputable abbrev biases : Vec Ideal S128x8 .f32 := val_main_v54 (F := Ideal) x5
noncomputable abbrev normed : Vec Ideal S8192x1024 .f32 := val_main_v46 (F := Ideal) x0 x2 x3
noncomputable abbrev mixed : Vec Ideal S8192x1024 .f32 := val_main_v58 (F := Ideal) x0 x2 x3 x4 x5

theorem pick (b : BitVec 1) : Scalar.select b 1#1 0#1 = b := by
  revert b
  decide

theorem masked (h : Fin 8) (r s : Fin 128) :
    Scalar.select (k0_pay36 (ix2 r s)) (mixers x4 (ix3 h r s)) (0 : EReal) = causal x4 (ix3 h r s) := by
  pointwise [causal, mixers, k0_pay36, val_main_v51_0, val_main_v51_1, val_main_v50, val_main_v49, val_main_v48, val_main_c, val_main_call0_v4, val_main_call0_v2, val_main_call0_v0,
    val_main_call0_v1, val_main_call0_c, val_main_call0_v3, val_main_call0_v5, val_main_call0_c_0, val_main_cst_9, pick, IntOp.addi, BitVec.add_zero]

/-- The causal part of one head's mixing matrix. -/
theorem mask_eq (h : Fin 8) : select k0_pay36 (slab h (mixers x4)) (broadcast S128x128 (Scalar.ofBits (F := Ideal) .f32 0x00000000#32)) = slab h (causal x4) := by
  refine ext2 128 128 fun r s => ?_
  pointwise [slab]
  exact masked x4 h r s

theorem lhs0 : k0_pay37 (F := Ideal) (slab 0 (mixers x4)) = slab 0 (causal x4) := mask_eq x4 0
theorem lhs1 : k0_pay40 (F := Ideal) (slab 1 (mixers x4)) = slab 1 (causal x4) := mask_eq x4 1
theorem lhs2 : k0_pay43 (F := Ideal) (slab 2 (mixers x4)) = slab 2 (causal x4) := mask_eq x4 2
theorem lhs3 : k0_pay46 (F := Ideal) (slab 3 (mixers x4)) = slab 3 (causal x4) := mask_eq x4 3
theorem lhs4 : k0_pay49 (F := Ideal) (slab 4 (mixers x4)) = slab 4 (causal x4) := mask_eq x4 4
theorem lhs5 : k0_pay53 (F := Ideal) (slab 5 (mixers x4)) k0_pay36 = slab 5 (causal x4) := mask_eq x4 5
theorem lhs6 : k0_pay55 (F := Ideal) (slab 6 (mixers x4)) k0_pay36 = slab 6 (causal x4) := mask_eq x4 6
theorem lhs7 : k0_pay57 (F := Ideal) (slab 7 (mixers x4)) k0_pay36 = slab 7 (causal x4) := mask_eq x4 7

/-- One head's columns of a chunk. -/
theorem cut_eq (X : Vec Ideal S8192x1024 .f32) (h : Fin 8) (hs) :
    extractStridedSlice S128x128 ![0, h.val * 128] (chunk t X : FVec Ideal S128x1024 .f32) hs = headOf t h X := by
  refine ext2 128 128 fun r s => ?_
  pointwise [chunk, headOf]
  rfl

section Rhs

variable (hn : k0_pay35 (F := Ideal) x2 x3 (chunk t (val_main_v29 (F := Ideal) x0)) (chunk t (val_main_v37 (F := Ideal) x0)) = chunk t (normed x0 x2 x3))
include hn

theorem rhs0 : k0_pay38 (F := Ideal) x2 x3 (chunk t (val_main_v29 (F := Ideal) x0)) (chunk t (val_main_v37 (F := Ideal) x0)) = headOf t 0 (normed x0 x2 x3) := by
  unfold k0_pay38
  rw [hn]
  exact cut_eq t (normed x0 x2 x3) 0 slices_S128x1024_o0_0_S128x128
theorem rhs1 : k0_pay41 (F := Ideal) x2 x3 (chunk t (val_main_v29 (F := Ideal) x0)) (chunk t (val_main_v37 (F := Ideal) x0)) = headOf t 1 (normed x0 x2 x3) := by
  unfold k0_pay41
  rw [hn]
  exact cut_eq t (normed x0 x2 x3) 1 slices_S128x1024_o0_128_S128x128
theorem rhs2 : k0_pay44 (F := Ideal) x2 x3 (chunk t (val_main_v29 (F := Ideal) x0)) (chunk t (val_main_v37 (F := Ideal) x0)) = headOf t 2 (normed x0 x2 x3) := by
  unfold k0_pay44
  rw [hn]
  exact cut_eq t (normed x0 x2 x3) 2 slices_S128x1024_o0_256_S128x128
theorem rhs3 : k0_pay47 (F := Ideal) x2 x3 (chunk t (val_main_v29 (F := Ideal) x0)) (chunk t (val_main_v37 (F := Ideal) x0)) = headOf t 3 (normed x0 x2 x3) := by
  unfold k0_pay47
  rw [hn]
  exact cut_eq t (normed x0 x2 x3) 3 slices_S128x1024_o0_384_S128x128
theorem rhs4 : k0_pay50 (F := Ideal) x2 x3 (chunk t (val_main_v29 (F := Ideal) x0)) (chunk t (val_main_v37 (F := Ideal) x0)) = headOf t 4 (normed x0 x2 x3) := by
  unfold k0_pay50
  rw [hn]
  exact cut_eq t (normed x0 x2 x3) 4 slices_S128x1024_o0_512_S128x128

end Rhs

theorem rhs5 (X : Vec Ideal S8192x1024 .f32) : k0_pay54 (F := Ideal) (chunk t X) = headOf t 5 X := cut_eq t X 5 slices_S128x1024_o0_640_S128x128
theorem rhs6 (X : Vec Ideal S8192x1024 .f32) : k0_pay56 (F := Ideal) (chunk t X) = headOf t 6 X := cut_eq t X 6 slices_S128x1024_o0_768_S128x128
theorem rhs7 (X : Vec Ideal S8192x1024 .f32) : k0_pay58 (F := Ideal) (chunk t X) = headOf t 7 X := cut_eq t X 7 slices_S128x1024_o0_896_S128x128

/-- One head's mixing: the causal matrix times the normed columns, plus the head's bias. -/
theorem mix_eq (h : Fin 8) (hs) :
    (addf (matmul (F := Ideal) (φ₁ := .bf16) (φ₂ := .bf16) dot_S128x128_S128x128_S128x128_1_0_0_1_n_n none (slab h (causal x4)) (headOf t h (normed x0 x2 x3)) (constant S128x128 .f32 0x00000000#32))
        (broadcastTo S128x128 (extractStridedSlice S128x1 ![0, h.val] (biases x5) hs) broadcasts_S128x1_S128x128) : FVec Ideal S128x128 .f32)
      = headOf t h (mixed x0 x2 x3 x4 x5) := by
  refine ext2 128 128 fun r d => Eq.trans ?_ (mixed_at x0 x2 x3 x4 x5 t h r d).symm
  pointwise [slab, headOf]
  done

theorem head0 : k0_pay39 (F := Ideal) (slab 0 (mixers x4)) x2 x3 (biases x5) (chunk t (val_main_v29 (F := Ideal) x0)) (chunk t (val_main_v37 (F := Ideal) x0))
    = headOf t 0 (mixed x0 x2 x3 x4 x5) := by
  unfold k0_pay39
  rw [lhs0, rhs0 _ _ _ _ (norm_v _ _ _ _)]
  exact mix_eq x0 x2 x3 x4 x5 t 0 slices_S128x8_o0_0_S128x1
theorem head1 : k0_pay42 (F := Ideal) (slab 1 (mixers x4)) x2 x3 (biases x5) (chunk t (val_main_v29 (F := Ideal) x0)) (chunk t (val_main_v37 (F := Ideal) x0))
    = headOf t 1 (mixed x0 x2 x3 x4 x5) := by
  unfold k0_pay42
  rw [lhs1, rhs1 _ _ _ _ (norm_v _ _ _ _)]
  exact mix_eq x0 x2 x3 x4 x5 t 1 slices_S128x8_o0_1_S128x1
theorem head2 : k0_pay45 (F := Ideal) (slab 2 (mixers x4)) x2 x3 (biases x5) (chunk t (val_main_v29 (F := Ideal) x0)) (chunk t (val_main_v37 (F := Ideal) x0))
    = headOf t 2 (mixed x0 x2 x3 x4 x5) := by
  unfold k0_pay45
  rw [lhs2, rhs2 _ _ _ _ (norm_v _ _ _ _)]
  exact mix_eq x0 x2 x3 x4 x5 t 2 slices_S128x8_o0_2_S128x1
theorem head3 : k0_pay48 (F := Ideal) (slab 3 (mixers x4)) x2 x3 (biases x5) (chunk t (val_main_v29 (F := Ideal) x0)) (chunk t (val_main_v37 (F := Ideal) x0))
    = headOf t 3 (mixed x0 x2 x3 x4 x5) := by
  unfold k0_pay48
  rw [lhs3, rhs3 _ _ _ _ (norm_v _ _ _ _)]
  exact mix_eq x0 x2 x3 x4 x5 t 3 slices_S128x8_o0_3_S128x1

theorem join_heads (X : Vec Ideal S8192x1024 .f32) :
    concatenate S128x1024 1 [⟨S128x128, headOf t 0 X⟩, ⟨S128x128, headOf t 1 X⟩, ⟨S128x128, headOf t 2 X⟩, ⟨S128x128, headOf t 3 X⟩, ⟨S128x128, headOf t 4 X⟩,
      ⟨S128x128, headOf t 5 X⟩, ⟨S128x128, headOf t 6 X⟩, ⟨S128x128, headOf t 7 X⟩] concatenates_S128x128_S128x128_S128x128_S128x128_S128x128_S128x128_S128x128_S128x128_S128x1024_d1 = chunk t X := by
  refine ext2 128 1024 fun r j => ?_
  pointwise [headOf, chunk]
  split_ifs
  all_goals exact congrArg (fun k => X (ix2 (rowOf t r) k)) (Fin.ext (by simp only [colOf, Fin.isValue, Fin.val_ofNat]; omega))

/-- The mixed values of the chunk, all heads side by side. -/
theorem mixed_eq : k0_pay59 (F := Ideal) (slab 5 (mixers x4)) (slab 6 (mixers x4)) (slab 7 (mixers x4)) (biases x5) (chunk t (normed x0 x2 x3)) k0_pay36
      (headOf t 0 (mixed x0 x2 x3 x4 x5)) (headOf t 1 (mixed x0 x2 x3 x4 x5)) (headOf t 2 (mixed x0 x2 x3 x4 x5)) (headOf t 3 (mixed x0 x2 x3 x4 x5))
      (slab 4 (causal x4)) (headOf t 4 (normed x0 x2 x3)) = chunk t (mixed x0 x2 x3 x4 x5) := by
  unfold k0_pay59
  rw [lhs5, lhs6, lhs7, rhs5, rhs6, rhs7, ← join_heads]
  have e4 := mix_eq x0 x2 x3 x4 x5 t 4 slices_S128x8_o0_4_S128x1
  have e5 := mix_eq x0 x2 x3 x4 x5 t 5 slices_S128x8_o0_5_S128x1
  have e6 := mix_eq x0 x2 x3 x4 x5 t 6 slices_S128x8_o0_6_S128x1
  have e7 := mix_eq x0 x2 x3 x4 x5 t 7 slices_S128x8_o0_7_S128x1
  rw [← e4, ← e5, ← e6, ← e7]
  rfl

end Cert.Gm
-- ==== Proof.GmGrad.lean ====
/-
  The gradients of one chunk of the spatial-gating backward kernel: through the last norm, the gate, the heads, the layer
  norm and the two GELUs, each equal to the reference's.
-/
module

public import proofs.«01_k».proof.Proof.GmHeads

@[expose] public section

namespace Cert.Gm

open Cert.Kernel2Ideal Cert.Kernel2Ideal.Gen
open Cert.Reference2Ideal.Read
open Idealize.ShloMosaic Idealize.ShloMosaic.TcCoe

variable (x0 : Vec Ideal S8192x4624 .f32) (x1 : Vec Ideal S8192x1024 .f32) (x2 x3 x6 : Vec Ideal S1x1024 .f32)
  (x4 : Vec Ideal S1x8x128x128 .f32) (x5 : Vec Ideal S1x8x128 .f32) (t : Fin 64)

noncomputable abbrev gated : Vec Ideal S8192x1024 .f32 := val_main_v59 (F := Ideal) x0 x2 x3 x4 x5
noncomputable abbrev scale : Vec Ideal ⟨2, ![8192, 1]⟩ .f32 := val_main_v67 (F := Ideal) x0 x2 x3 x4 x5
noncomputable abbrev slope : Vec Ideal ⟨2, ![8192, 1]⟩ .f32 := val_main_v70 (F := Ideal) x0 x2 x3 x4 x5
/-- The gradients at the gated values, at the mixed values and at the normed values. -/
noncomputable abbrev dgated : Vec Ideal S8192x1024 .f32 := val_main_v93 (F := Ideal) x0 x1 x2 x3 x4 x5 x6
noncomputable abbrev dmixed : Vec Ideal S8192x1024 .f32 := val_main_v94 (F := Ideal) x0 x1 x2 x3 x4 x5 x6
noncomputable abbrev dnormed : Vec Ideal S8192x1024 .f32 := val_main_v106 (F := Ideal) x0 x1 x2 x3 x4 x5 x6

section Gate

variable {v14 v16 v18 : Vec Ideal S128x128 .f32} {v26 : Vec Ideal S128x8 .f32} {v74 : Vec Ideal S128x1024 .f32} {v77 : IVec S128x128 1}
  {v86 v95 v104 v113 v115 v116 : Vec Ideal S128x128 .f32}
  (hm : k0_pay59 (F := Ideal) v14 v16 v18 v26 v74 v77 v86 v95 v104 v113 v115 v116 = chunk t (mixed x0 x2 x3 x4 x5))
include hm

theorem gate_eq : k0_pay60 (F := Ideal) v14 v16 v18 v26 (chunk t (val_main_v11 (F := Ideal) x0)) v74 v77 v86 v95 v104 v113 v115 v116
    = chunk t (gated x0 x2 x3 x4 x5) := by
  unfold k0_pay60
  rw [hm]
  refine ext2 128 1024 fun i j => ?_
  pointwise [gated, mixed, chunk, val_main_v59]

theorem var_eq : k0_pay61 (F := Ideal) v14 v16 v18 v26 (chunk t (val_main_v11 (F := Ideal) x0)) v74 v77 v86 v95 v104 v113 v115 v116
    = chunk t (val_main_v66 (F := Ideal) x0 x2 x3 x4 x5) := by
  unfold k0_pay61
  rw [gate_eq x0 x2 x3 x4 x5 t hm]
  refine ext2 128 1 fun i j => ?_
  pointwise [gated, chunk, val_main_v66, val_main_v65, val_main_v64, val_main_v63, val_main_v62, val_main_v61, val_main_v60, val_main_cst_10, val_main_cst_11, val_main_cst_12]

theorem scale_eq : k0_pay62 (F := Ideal) v14 v16 v18 v26 (chunk t (val_main_v11 (F := Ideal) x0)) v74 v77 v86 v95 v104 v113 v115 v116
    = chunk t (scale x0 x2 x3 x4 x5) := by
  unfold k0_pay62
  rw [var_eq x0 x2 x3 x4 x5 t hm]
  refine ext2 128 1 fun i j => ?_
  pointwise [scale, chunk, val_main_v67]

theorem slope_eq : k0_pay63 (F := Ideal) v14 v16 v18 v26 (chunk t (val_main_v11 (F := Ideal) x0)) v74 v77 v86 v95 v104 v113 v115 v116
    = chunk t (slope x0 x2 x3 x4 x5) := by
  unfold k0_pay63
  rw [var_eq x0 x2 x3 x4 x5 t hm, scale_eq x0 x2 x3 x4 x5 t hm]
  refine ext2 128 1 fun i j => ?_
  pointwise [scale, slope, chunk, val_main_v70, val_main_v69, val_main_v68, val_main_cst_13]

theorem rms_eq : k0_pay64 (F := Ideal) v14 v16 v18 v26 (chunk t (val_main_v11 (F := Ideal) x0)) v74 v77 v86 v95 v104 v113 v115 v116
    = chunk t (val_main_v72 (F := Ideal) x0 x2 x3 x4 x5) := by
  unfold k0_pay64
  rw [gate_eq x0 x2 x3 x4 x5 t hm, scale_eq x0 x2 x3 x4 x5 t hm]
  refine ext2 128 1024 fun i j => ?_
  pointwise [scale, gated, chunk, val_main_v72, val_main_v71]

end Gate

/-- A chunk's share of the gradient of the last norm's weight. -/
theorem dog_eq (k : Fin 1024) :
    k0_pay65 (F := Ideal) (chunk t (val_main_v72 (F := Ideal) x0 x2 x3 x4 x5)) (chunk t x1) (ix2 0 k)
      = ∑ r : Fin 128, val_main_v75 (F := Ideal) x0 x1 x2 x3 x4 x5 (ix2 (rowOf t r) k) := by
  pointwise [k0_pay65, chunk, val_main_v75]

theorem dgate_eq : k0_pay66 (F := Ideal) x6 (chunk t (gated x0 x2 x3 x4 x5)) (chunk t (scale x0 x2 x3 x4 x5)) (chunk t (slope x0 x2 x3 x4 x5)) (chunk t x1)
    = chunk t (dgated x0 x1 x2 x3 x6 x4 x5) := by
  refine ext2 128 1024 fun i j => ?_
  pointwise [k0_pay66, chunk, dgated, gated, scale, slope, val_main_v93, val_main_v92, val_main_v91, val_main_v90, val_main_v89, val_main_v88, val_main_v87, val_main_v86,
    val_main_v85, val_main_v84, val_main_v83, val_main_v82, val_main_v81, val_main_v80, val_main_v79, val_main_v78, val_main_cst_15, val_main_cst_16, val_main_cst_17]

theorem dmix_eq : k0_pay67 (F := Ideal) x6 (chunk t (val_main_v11 (F := Ideal) x0)) (chunk t (gated x0 x2 x3 x4 x5)) (chunk t (scale x0 x2 x3 x4 x5))
      (chunk t (slope x0 x2 x3 x4 x5)) (chunk t x1) = chunk t (dmixed x0 x1 x2 x3 x6 x4 x5) := by
  unfold k0_pay67
  rw [dgate_eq]
  refine ext2 128 1024 fun i j => ?_
  pointwise [dgated, dmixed, chunk, val_main_v94]

theorem dug_eq : k0_pay68 (F := Ideal) x6 (chunk t (mixed x0 x2 x3 x4 x5)) (chunk t (gated x0 x2 x3 x4 x5)) (chunk t (scale x0 x2 x3 x4 x5))
      (chunk t (slope x0 x2 x3 x4 x5)) (chunk t x1) = chunk t (val_main_v95 (F := Ideal) x0 x1 x2 x3 x4 x5 x6) := by
  unfold k0_pay68
  rw [dgate_eq]
  refine ext2 128 1024 fun i j => ?_
  pointwise [dgated, mixed, chunk, val_main_v95]

/-! ## The gradient at the mixed values, head by head -/

section Heads

variable {v27 : Vec Ideal S1x1024 .f32} {v39 v151 v165 : Vec Ideal S128x1024 .f32} {v159 v162 : Vec Ideal S128x1 .f32} (X : Vec Ideal S8192x1024 .f32)
  (hd : k0_pay67 (F := Ideal) v27 v39 v151 v159 v162 v165 = chunk t X)
include hd

theorem dmix0 : k0_pay69 (F := Ideal) v27 v39 v151 v159 v162 v165 = headOf t 0 X := by
  unfold k0_pay69
  rw [hd]
  exact cut_eq t X 0 slices_S128x1024_o0_0_S128x128
theorem dmix1 : k0_pay70 (F := Ideal) v27 v39 v151 v159 v162 v165 = headOf t 1 X := by
  unfold k0_pay70
  rw [hd]
  exact cut_eq t X 1 slices_S128x1024_o0_128_S128x128
theorem dmix2 : k0_pay71 (F := Ideal) v27 v39 v151 v159 v162 v165 = headOf t 2 X := by
  unfold k0_pay71
  rw [hd]
  exact cut_eq t X 2 slices_S128x1024_o0_256_S128x128
theorem dmix3 : k0_pay72 (F := Ideal) v27 v39 v151 v159 v162 v165 = headOf t 3 X := by
  unfold k0_pay72
  rw [hd]
  exact cut_eq t X 3 slices_S128x1024_o0_384_S128x128
theorem dmix4 : k0_pay73 (F := Ideal) v27 v39 v151 v159 v162 v165 = headOf t 4 X := by
  unfold k0_pay73
  rw [hd]
  exact cut_eq t X 4 slices_S128x1024_o0_512_S128x128
theorem dmix5 : k0_pay74 (F := Ideal) v27 v39 v151 v159 v162 v165 = headOf t 5 X := by
  unfold k0_pay74
  rw [hd]
  exact cut_eq t X 5 slices_S128x1024_o0_640_S128x128
theorem dmix6 : k0_pay75 (F := Ideal) v27 v39 v151 v159 v162 v165 = headOf t 6 X := by
  unfold k0_pay75
  rw [hd]
  exact cut_eq t X 6 slices_S128x1024_o0_768_S128x128
theorem dmix7 : k0_pay76 (F := Ideal) v27 v39 v151 v159 v162 v165 = headOf t 7 X := by
  unfold k0_pay76
  rw [hd]
  exact cut_eq t X 7 slices_S128x1024_o0_896_S128x128

end Heads

/-! ## The gradient of the biases -/

/-- The rows of every head summed over the head's columns. -/
noncomputable def headSums (X : Vec Ideal S8192x1024 .f32) : Vec Ideal S128x8 .f32 := fun y => ∑ d : Fin 128, X (ix2 (rowOf t (y 0)) (colOf (y 1) d))

theorem dbs_eq (X : Vec Ideal S8192x1024 .f32) {v27 : Vec Ideal S1x1024 .f32} {v39 v151 v165 : Vec Ideal S128x1024 .f32} {v159 v162 : Vec Ideal S128x1 .f32}
    (hd : k0_pay67 (F := Ideal) v27 v39 v151 v159 v162 v165 = chunk t X) :
    k0_pay93 (F := Ideal) (headOf t 0 X) (headOf t 1 X) (k0_pay88 (F := Ideal) (headOf t 2 X) (headOf t 3 X) (k0_pay84 (F := Ideal) (headOf t 4 X) (headOf t 5 X)
      (k0_pay77 (F := Ideal) v27 v39 v151 v159 v162 v165) (k0_pay80 (F := Ideal) v27 v39 v151 v159 v162 v165))) = headSums t X := by
  unfold k0_pay77 k0_pay80
  rw [dmix6 t X hd, dmix7 t X hd]
  refine ext2 128 8 fun r h => ?_
  fin_cases h <;> pointwise [k0_pay93, k0_pay88, k0_pay84, headSums, headOf]

end Cert.Gm
-- ==== Proof.GmBack.lean ====
/-
  The rest of one chunk of the spatial-gating backward kernel: the gradient at the mixing matrices, and the gradient at the
  normed values carried back through the layer norm and the two GELUs, each equal to the reference's.
-/
module

public import proofs.«01_k».proof.Proof.GmGrad

@[expose] public section

namespace Cert.Gm

open Cert.Kernel2Ideal Cert.Kernel2Ideal.Gen
open Cert.Reference2Ideal.Read
open Idealize.ShloMosaic Idealize.ShloMosaic.TcCoe

variable (x0 : Vec Ideal S8192x4624 .f32) (x1 : Vec Ideal S8192x1024 .f32) (x2 x3 x6 : Vec Ideal S1x1024 .f32)
  (x4 : Vec Ideal S1x8x128x128 .f32) (x5 : Vec Ideal S1x8x128 .f32) (t : Fin 64)

/-! ## The gradient at the mixing matrices -/

/-- One chunk's share of the gradient at the mixing matrix of head `h`, above the diagonal left out. -/
noncomputable def pairs (h : Fin 8) (X Y : Vec Ideal S8192x1024 .f32) : Vec Ideal S128x128 .f32 := fun y =>
  Scalar.select (k0_pay36 y) (∑ d : Fin 128, X (ix2 (rowOf t (y 0)) (colOf h d)) * Y (ix2 (rowOf t (y 1)) (colOf h d))) (0 : EReal)

theorem pairs_eq (h : Fin 8) (X Y : Vec Ideal S8192x1024 .f32) :
    (select k0_pay36 (matmul (F := Ideal) (φ₁ := .f32) (φ₂ := .bf16) dot_S128x128_S128x128_S128x128_1_1_0_0_n_n none (headOf t h X) (headOf t h Y) (constant S128x128 .f32 0x00000000#32))
      (broadcast S128x128 (Scalar.ofBits (F := Ideal) .f32 0x00000000#32)) : FVec Ideal S128x128 .f32) = pairs t h X Y := by
  refine ext2 128 128 fun r s => ?_
  pointwise [headOf, pairs]

theorem dw1 (X Y : Vec Ideal S8192x1024 .f32) : k0_pay92 (F := Ideal) k0_pay36 (headOf t 1 Y) (headOf t 1 X) = pairs t 1 X Y := pairs_eq t 1 X Y
theorem dw3 (X Y : Vec Ideal S8192x1024 .f32) : k0_pay87 (F := Ideal) k0_pay36 (headOf t 3 Y) (headOf t 3 X) = pairs t 3 X Y := pairs_eq t 3 X Y
theorem dw4 (X Y : Vec Ideal S8192x1024 .f32) : k0_pay85 (F := Ideal) k0_pay36 (headOf t 4 Y) (headOf t 4 X) = pairs t 4 X Y := pairs_eq t 4 X Y
theorem dw5 (X Y : Vec Ideal S8192x1024 .f32) : k0_pay83 (F := Ideal) k0_pay36 (headOf t 5 Y) (headOf t 5 X) = pairs t 5 X Y := pairs_eq t 5 X Y
theorem dw6 (X Y : Vec Ideal S8192x1024 .f32) : k0_pay81 (F := Ideal) k0_pay36 (headOf t 6 Y) (headOf t 6 X) = pairs t 6 X Y := pairs_eq t 6 X Y
theorem dw0 (X Y : Vec Ideal S8192x1024 .f32) : k0_pay96 (F := Ideal) k0_pay36 (k0_pay94 (F := Ideal) (headOf t 0 Y) (headOf t 0 X)) (Scalar.ofBits .f32 0x00000000#32) = pairs t 0 X Y := pairs_eq t 0 X Y
theorem dw2 (X Y : Vec Ideal S8192x1024 .f32) : k0_pay91 (F := Ideal) k0_pay36 (k0_pay90 (F := Ideal) (headOf t 2 Y) (headOf t 2 X)) = pairs t 2 X Y := pairs_eq t 2 X Y
theorem dw7 (X Y : Vec Ideal S8192x1024 .f32) {v27 : Vec Ideal S1x1024 .f32} {v39 v151 v165 : Vec Ideal S128x1024 .f32} {v159 v162 : Vec Ideal S128x1 .f32}
    (hd : k0_pay67 (F := Ideal) v27 v39 v151 v159 v162 v165 = chunk t X) :
    k0_pay79 (F := Ideal) v27 v39 k0_pay36 (headOf t 7 Y) v151 v159 v162 v165 = pairs t 7 X Y := by
  unfold k0_pay79
  rw [dmix7 t X hd]
  exact pairs_eq t 7 X Y

/-! ## The gradient at the normed values -/

/-- A chunk's columns of one head, with zeros in the columns of the others. -/
noncomputable def alone (h : Fin 8) (X : Vec Ideal S8192x1024 .f32) : Vec Ideal S128x1024 .f32 := fun y =>
  if (y 1).val / 128 = h.val then X (ix2 (rowOf t (y 0)) (y 1)) else (0 : EReal)

/-- The eight heads together are the whole chunk. -/
theorem together (X : Vec Ideal S8192x1024 .f32) (r : Fin 128) (j : Fin 1024) :
    alone t 7 X (ix2 r j) + alone t 6 X (ix2 r j) + alone t 5 X (ix2 r j) + alone t 4 X (ix2 r j) + alone t 3 X (ix2 r j) + alone t 2 X (ix2 r j)
      + alone t 1 X (ix2 r j) + alone t 0 X (ix2 r j) = chunk t X (ix2 r j) := by
  obtain ⟨h, hj⟩ : ∃ h : Fin 8, j.val / 128 = h.val := ⟨⟨j.val / 128, by omega⟩, rfl⟩
  have e : ∀ g : Fin 8, alone t g X (ix2 r j) = if h = g then X (ix2 (rowOf t r) j) else (0 : EReal) := fun g => by
    change (if j.val / 128 = g.val then X (ix2 (rowOf t r) j) else (0 : EReal)) = _
    rw [hj]
    exact if_congr Fin.ext_iff.symm rfl rfl
  simp only [e]
  fin_cases h <;> simp [chunk]

/-- The gradient at one head's columns: the causal matrix turned, times the gradient at the mixed values. -/
theorem back_eq (h : Fin 8) :
    (transpose S128x128 [1, 0] (matmul (F := Ideal) (φ₁ := .f32) (φ₂ := .bf16) dot_S128x128_S128x128_S128x128_0_0_1_1_n_n none (headOf t h (dmixed x0 x1 x2 x3 x6 x4 x5)) (slab h (causal x4))
      (constant S128x128 .f32 0x00000000#32)) transposes_S128x128_p1_0_S128x128 : FVec Ideal S128x128 .f32) = headOf t h (dnormed x0 x1 x2 x3 x6 x4 x5) := by
  refine ext2 128 128 fun s d => Eq.trans ?_ (dvn_at x0 x1 x2 x3 x6 x4 x5 t h s d).symm
  pointwise [slab, headOf]
  done

theorem pad0 (X : Vec Ideal S8192x1024 .f32) : concatenate S128x1024 1 [⟨S128x128, headOf t 0 X⟩, ⟨S128x896, (broadcast S128x896 (Scalar.ofBits (F := Ideal) .f32 0x00000000#32))⟩] concatenates_S128x128_S128x896_S128x1024_d1 = alone t 0 X := by
  refine ext2 128 1024 fun r j => ?_
  pointwise [headOf, alone]
  repeat' split
  all_goals first | rfl | omega | exact congrArg (fun k => X (ix2 (rowOf t r) k)) (Fin.ext (by change _ * 128 + _ = _; simp only [Fin.isValue, Fin.val_ofNat]; omega))

theorem pad1 (X : Vec Ideal S8192x1024 .f32) : concatenate S128x1024 1 [⟨S128x256, concatenate S128x256 1 [⟨S128x128, (broadcast S128x128 (Scalar.ofBits (F := Ideal) .f32 0x00000000#32))⟩, ⟨S128x128, headOf t 1 X⟩] concatenates_S128x128_S128x128_S128x256_d1⟩, ⟨S128x768, (broadcast S128x768 (Scalar.ofBits (F := Ideal) .f32 0x00000000#32))⟩] concatenates_S128x256_S128x768_S128x1024_d1 = alone t 1 X := by
  refine ext2 128 1024 fun r j => ?_
  pointwise [headOf, alone]
  repeat' split
  all_goals first | rfl | omega | exact congrArg (fun k => X (ix2 (rowOf t r) k)) (Fin.ext (by change _ * 128 + _ = _; simp only [Fin.isValue, Fin.val_ofNat]; omega))

theorem pad2 (X : Vec Ideal S8192x1024 .f32) : concatenate S128x1024 1 [⟨S128x384, concatenate S128x384 1 [⟨S128x256, (broadcast S128x256 (Scalar.ofBits (F := Ideal) .f32 0x00000000#32))⟩, ⟨S128x128, headOf t 2 X⟩] concatenates_S128x256_S128x128_S128x384_d1⟩, ⟨S128x640, (broadcast S128x640 (Scalar.ofBits (F := Ideal) .f32 0x00000000#32))⟩] concatenates_S128x384_S128x640_S128x1024_d1 = alone t 2 X := by
  refine ext2 128 1024 fun r j => ?_
  pointwise [headOf, alone]
  repeat' split
  all_goals first | rfl | omega | exact congrArg (fun k => X (ix2 (rowOf t r) k)) (Fin.ext (by change _ * 128 + _ = _; simp only [Fin.isValue, Fin.val_ofNat]; omega))

theorem pad3 (X : Vec Ideal S8192x1024 .f32) : concatenate S128x1024 1 [⟨S128x512, concatenate S128x512 1 [⟨S128x384, (broadcast S128x384 (Scalar.ofBits (F := Ideal) .f32 0x00000000#32))⟩, ⟨S128x128, headOf t 3 X⟩] concatenates_S128x384_S128x128_S128x512_d1⟩, ⟨S128x512, (broadcast S128x512 (Scalar.ofBits (F := Ideal) .f32 0x00000000#32))⟩] concatenates_S128x512_S128x512_S128x1024_d1 = alone t 3 X := by
  refine ext2 128 1024 fun r j => ?_
  pointwise [headOf, alone]
  repeat' split
  all_goals first | rfl | omega | exact congrArg (fun k => X (ix2 (rowOf t r) k)) (Fin.ext (by change _ * 128 + _ = _; simp only [Fin.isValue, Fin.val_ofNat]; omega))

theorem pad4 (X : Vec Ideal S8192x1024 .f32) : concatenate S128x1024 1 [⟨S128x640, concatenate S128x640 1 [⟨S128x512, (broadcast S128x512 (Scalar.ofBits (F := Ideal) .f32 0x00000000#32))⟩, ⟨S128x128, headOf t 4 X⟩] concatenates_S128x512_S128x128_S128x640_d1⟩, ⟨S128x384, (broadcast S128x384 (Scalar.ofBits (F := Ideal) .f32 0x00000000#32))⟩] concatenates_S128x640_S128x384_S128x1024_d1 = alone t 4 X := by
  refine ext2 128 1024 fun r j => ?_
  pointwise [headOf, alone]
  repeat' split
  all_goals first | rfl | omega | exact congrArg (fun k => X (ix2 (rowOf t r) k)) (Fin.ext (by change _ * 128 + _ = _; simp only [Fin.isValue, Fin.val_ofNat]; omega))

theorem pad5 (X : Vec Ideal S8192x1024 .f32) : concatenate S128x1024 1 [⟨S128x768, concatenate S128x768 1 [⟨S128x640, (broadcast S128x640 (Scalar.ofBits (F := Ideal) .f32 0x00000000#32))⟩, ⟨S128x128, headOf t 5 X⟩] concatenates_S128x640_S128x128_S128x768_d1⟩, ⟨S128x256, (broadcast S128x256 (Scalar.ofBits (F := Ideal) .f32 0x00000000#32))⟩] concatenates_S128x768_S128x256_S128x1024_d1 = alone t 5 X := by
  refine ext2 128 1024 fun r j => ?_
  pointwise [headOf, alone]
  repeat' split
  all_goals first | rfl | omega | exact congrArg (fun k => X (ix2 (rowOf t r) k)) (Fin.ext (by change _ * 128 + _ = _; simp only [Fin.isValue, Fin.val_ofNat]; omega))

theorem pad6 (X : Vec Ideal S8192x1024 .f32) : concatenate S128x1024 1 [⟨S128x896, concatenate S128x896 1 [⟨S128x768, (broadcast S128x768 (Scalar.ofBits (F := Ideal) .f32 0x00000000#32))⟩, ⟨S128x128, headOf t 6 X⟩] concatenates_S128x768_S128x128_S128x896_d1⟩, ⟨S128x128, (broadcast S128x128 (Scalar.ofBits (F := Ideal) .f32 0x00000000#32))⟩] concatenates_S128x896_S128x128_S128x1024_d1 = alone t 6 X := by
  refine ext2 128 1024 fun r j => ?_
  pointwise [headOf, alone]
  repeat' split
  all_goals first | rfl | omega | exact congrArg (fun k => X (ix2 (rowOf t r) k)) (Fin.ext (by change _ * 128 + _ = _; simp only [Fin.isValue, Fin.val_ofNat]; omega))

theorem pad7 (X : Vec Ideal S8192x1024 .f32) : concatenate S128x1024 1 [⟨S128x896, (broadcast S128x896 (Scalar.ofBits (F := Ideal) .f32 0x00000000#32))⟩, ⟨S128x128, headOf t 7 X⟩] concatenates_S128x896_S128x128_S128x1024_d1 = alone t 7 X := by
  refine ext2 128 1024 fun r j => ?_
  pointwise [headOf, alone]
  repeat' split
  all_goals first | rfl | omega | exact congrArg (fun k => X (ix2 (rowOf t r) k)) (Fin.ext (by change _ * 128 + _ = _; simp only [Fin.isValue, Fin.val_ofNat]; omega))

section Sum

variable {v27 : Vec Ideal S1x1024 .f32} {v39 v151 v165 : Vec Ideal S128x1024 .f32} {v159 v162 : Vec Ideal S128x1 .f32}

theorem sum7 (hd : k0_pay67 (F := Ideal) v27 v39 v151 v159 v162 v165 = chunk t (dmixed x0 x1 x2 x3 x6 x4 x5)) :
    k0_pay78 (F := Ideal) v27 v39 (slab 7 (causal x4)) v151 v159 v162 v165 = alone t 7 (dnormed x0 x1 x2 x3 x6 x4 x5) := by
  unfold k0_pay78
  rw [dmix7 t _ hd, ← pad7, ← back_eq]
  rfl

theorem sum56 (V : Vec Ideal S128x1024 .f32) : k0_pay82 (F := Ideal) (slab 5 (causal x4)) (slab 6 (causal x4)) (headOf t 5 (dmixed x0 x1 x2 x3 x6 x4 x5))
      (headOf t 6 (dmixed x0 x1 x2 x3 x6 x4 x5)) V
    = addf (F := Ideal) (φ := .f32) (addf (F := Ideal) (φ := .f32) V (alone t 6 (dnormed x0 x1 x2 x3 x6 x4 x5))) (alone t 5 (dnormed x0 x1 x2 x3 x6 x4 x5)) := by
  unfold k0_pay82
  rw [← pad6, ← pad5, ← back_eq x0 x1 x2 x3 x6 x4 x5 t 6, ← back_eq x0 x1 x2 x3 x6 x4 x5 t 5]
  rfl

theorem sum34 (V : Vec Ideal S128x1024 .f32) : k0_pay86 (F := Ideal) (slab 3 (causal x4)) (slab 4 (causal x4)) (headOf t 3 (dmixed x0 x1 x2 x3 x6 x4 x5))
      (headOf t 4 (dmixed x0 x1 x2 x3 x6 x4 x5)) V
    = addf (F := Ideal) (φ := .f32) (addf (F := Ideal) (φ := .f32) V (alone t 4 (dnormed x0 x1 x2 x3 x6 x4 x5))) (alone t 3 (dnormed x0 x1 x2 x3 x6 x4 x5)) := by
  unfold k0_pay86
  rw [← pad4, ← pad3, ← back_eq x0 x1 x2 x3 x6 x4 x5 t 4, ← back_eq x0 x1 x2 x3 x6 x4 x5 t 3]
  rfl

theorem sum012 (V : Vec Ideal S128x1024 .f32) : k0_pay95 (F := Ideal) (slab 0 (causal x4)) (slab 1 (causal x4)) (headOf t 0 (dmixed x0 x1 x2 x3 x6 x4 x5))
      (headOf t 1 (dmixed x0 x1 x2 x3 x6 x4 x5)) V (k0_pay89 (F := Ideal) (slab 2 (causal x4)) (headOf t 2 (dmixed x0 x1 x2 x3 x6 x4 x5)))
    = addf (F := Ideal) (φ := .f32) (addf (F := Ideal) (φ := .f32) (addf (F := Ideal) (φ := .f32) V (alone t 2 (dnormed x0 x1 x2 x3 x6 x4 x5))) (alone t 1 (dnormed x0 x1 x2 x3 x6 x4 x5)))
        (alone t 0 (dnormed x0 x1 x2 x3 x6 x4 x5)) := by
  unfold k0_pay95 k0_pay89
  rw [← pad2, ← pad1, ← pad0, ← back_eq x0 x1 x2 x3 x6 x4 x5 t 2, ← back_eq x0 x1 x2 x3 x6 x4 x5 t 1, ← back_eq x0 x1 x2 x3 x6 x4 x5 t 0]
  rfl

/-- The gradient at the normed values of the chunk, the heads summed one after another. -/
theorem dvn_eq (hd : k0_pay67 (F := Ideal) v27 v39 v151 v159 v162 v165 = chunk t (dmixed x0 x1 x2 x3 x6 x4 x5)) :
    k0_pay95 (F := Ideal) (slab 0 (causal x4)) (slab 1 (causal x4)) (headOf t 0 (dmixed x0 x1 x2 x3 x6 x4 x5)) (headOf t 1 (dmixed x0 x1 x2 x3 x6 x4 x5))
      (k0_pay86 (F := Ideal) (slab 3 (causal x4)) (slab 4 (causal x4)) (headOf t 3 (dmixed x0 x1 x2 x3 x6 x4 x5)) (headOf t 4 (dmixed x0 x1 x2 x3 x6 x4 x5))
        (k0_pay82 (F := Ideal) (slab 5 (causal x4)) (slab 6 (causal x4)) (headOf t 5 (dmixed x0 x1 x2 x3 x6 x4 x5)) (headOf t 6 (dmixed x0 x1 x2 x3 x6 x4 x5))
          (k0_pay78 (F := Ideal) v27 v39 (slab 7 (causal x4)) v151 v159 v162 v165)))
      (k0_pay89 (F := Ideal) (slab 2 (causal x4)) (headOf t 2 (dmixed x0 x1 x2 x3 x6 x4 x5)))
    = chunk t (dnormed x0 x1 x2 x3 x6 x4 x5) := by
  rw [sum012, sum34, sum56, sum7 x0 x1 x2 x3 x6 x4 x5 t hd]
  exact ext2 128 1024 fun r j => together t _ r j

end Sum

/-! ## Back through the layer norm and the two GELUs -/

/-- A chunk's shares of the gradients of the layer norm's bias and weight. -/
theorem dlb_eq (k : Fin 1024) : k0_pay97 (F := Ideal) (chunk t (dnormed x0 x1 x2 x3 x6 x4 x5)) (ix2 0 k)
    = ∑ r : Fin 128, dnormed x0 x1 x2 x3 x6 x4 x5 (ix2 (rowOf t r) k) := by
  pointwise [k0_pay97, chunk]

theorem dlg_eq (k : Fin 1024) : k0_pay98 (F := Ideal) (k0_pay34 (F := Ideal) (chunk t (val_main_v29 (F := Ideal) x0)) (chunk t (val_main_v37 (F := Ideal) x0)))
      (chunk t (dnormed x0 x1 x2 x3 x6 x4 x5)) (ix2 0 k)
    = ∑ r : Fin 128, val_main_v109 (F := Ideal) x0 x1 x2 x3 x4 x5 x6 (ix2 (rowOf t r) k) := by
  pointwise [k0_pay98, k0_pay34, chunk, dnormed, val_main_v109, val_main_v42, val_main_v41]

theorem slope_ln : k0_pay33 (F := Ideal) (k0_pay32 (F := Ideal) (chunk t (val_main_v1 (F := Ideal) x0))) = chunk t (val_main_v40 (F := Ideal) x0) := by
  have hv : k0_pay30 (F := Ideal) (chunk t (val_main_v1 (F := Ideal) x0)) = chunk t (val_main_v36 (F := Ideal) x0) := by
    unfold k0_pay30
    rw [centre]
    refine ext2 128 1 fun i j => ?_
    pointwise [chunk, val_main_v36, val_main_v35, val_main_v34, val_main_v33, val_main_v32, val_main_v31, val_main_v30, val_main_cst_5, val_main_cst_6, val_main_cst_7]
  unfold k0_pay32
  rw [norm_ln, hv]
  refine ext2 128 1 fun i j => ?_
  pointwise [k0_pay33, chunk, val_main_v40, val_main_v39, val_main_v38, val_main_cst_8]

/-- The two halves of the GELU at `v`, and the Gaussian in its slope. -/
theorem half_v : k0_pay25 (F := Ideal) (chunk t (val_main_v1 (F := Ideal) x0)) = chunk t (val_main_v13 (F := Ideal) x0) := by
  refine ext2 128 1024 fun i j => ?_
  pointwise [k0_pay25, chunk, val_main_v13, val_main_v12, val_main_cst_1]
theorem bell_v : k0_pay27 (F := Ideal) (chunk t (val_main_v1 (F := Ideal) x0)) = chunk t (val_main_v20 (F := Ideal) x0) := by
  refine ext2 128 1024 fun i j => ?_
  pointwise [k0_pay27, k0_pay26, chunk, val_main_v20, val_main_v19, val_main_v18, val_main_v16, val_main_v15, val_main_v14, val_main_cst_2, neg_mul, mul_neg, neg_neg, zero_sub, sub_eq_add_neg, zero_add]
theorem tail_v : k0_pay28 (F := Ideal) (chunk t (val_main_v1 (F := Ideal) x0)) = chunk t (val_main_v17 (F := Ideal) x0) := by
  refine ext2 128 1024 fun i j => ?_
  pointwise [k0_pay28, k0_pay26, chunk, val_main_v17, val_main_v16, val_main_v15, val_main_v14, val_main_cst_2, neg_mul, Ideal.erfc_neg, Ideal.erf_def]
theorem half_u : k0_pay20 (F := Ideal) (chunk t (val_main_v0 (F := Ideal) x0)) = chunk t (val_main_v3 (F := Ideal) x0) := by
  refine ext2 128 1024 fun i j => ?_
  pointwise [k0_pay20, chunk, val_main_v3, val_main_v2, val_main_cst]
theorem bell_u : k0_pay22 (F := Ideal) (chunk t (val_main_v0 (F := Ideal) x0)) = chunk t (val_main_v10 (F := Ideal) x0) := by
  refine ext2 128 1024 fun i j => ?_
  pointwise [k0_pay22, k0_pay21, chunk, val_main_v10, val_main_v9, val_main_v8, val_main_v6, val_main_v5, val_main_v4, val_main_cst_0, neg_mul, mul_neg, neg_neg, zero_sub, sub_eq_add_neg, zero_add]
theorem tail_u : k0_pay23 (F := Ideal) (chunk t (val_main_v0 (F := Ideal) x0)) = chunk t (val_main_v7 (F := Ideal) x0) := by
  refine ext2 128 1024 fun i j => ?_
  pointwise [k0_pay23, k0_pay21, chunk, val_main_v7, val_main_v6, val_main_v5, val_main_v4, val_main_cst_0, neg_mul, Ideal.erfc_neg, Ideal.erf_def]

/-- The negated constant of the reference is the negation of the kernel's. -/
theorem neg_const : Ideal.ofBits .f32 0xBF906EBB#32 = -Ideal.ofBits .f32 0x3F906EBB#32 := by
  simp [Ideal.ofBits, Ideal.ieee, -EReal.coe_mul, ← EReal.coe_neg]

theorem dv_eq : k0_pay104 (F := Ideal) (k0_pay99 (F := Ideal) x2 (chunk t (val_main_v13 (F := Ideal) x0)) (chunk t (val_main_v20 (F := Ideal) x0)) (chunk t (val_main_v17 (F := Ideal) x0))
      (chunk t (val_main_v29 (F := Ideal) x0)) (chunk t (val_main_v37 (F := Ideal) x0)) (chunk t (val_main_v40 (F := Ideal) x0)) (chunk t (dnormed x0 x1 x2 x3 x6 x4 x5)))
    = (chunk t (val_main_v148 (F := Ideal) x0 x1 x2 x3 x4 x5 x6) : Vec Ideal S128x1024 .f32) := by
  refine ext2 128 1024 fun i j => ?_
  pointwise [k0_pay104, k0_pay99, chunk, dnormed, val_main_v148, val_main_v147, val_main_v146, val_main_v145, val_main_v144, val_main_v143, val_main_v142, val_main_v141, val_main_v140, val_main_v139, val_main_v138,
    val_main_v135, val_main_v134, val_main_v133, val_main_v132, val_main_v131, val_main_v130, val_main_v129, val_main_v128, val_main_v127, val_main_v126, val_main_v125, val_main_v124, val_main_v123,
    val_main_v122, val_main_v121, val_main_v120, val_main_v119, val_main_v118, val_main_v117, val_main_v116, val_main_v115, val_main_v114, val_main_v113, val_main_v112,
    val_main_cst_22, val_main_cst_23, val_main_cst_24, val_main_cst_25, val_main_cst_26, val_main_cst_27, val_main_cst_28, val_main_cst_29, val_main_cst_30, neg_const, neg_mul, neg_neg, sub_eq_add_neg, zero_add]

theorem du_eq : k0_pay103 (F := Ideal) (chunk t (val_main_v10 (F := Ideal) x0))
      (k0_pay100 (F := Ideal) (chunk t (val_main_v3 (F := Ideal) x0)) (chunk t (val_main_v95 (F := Ideal) x0 x1 x2 x3 x4 x5 x6)))
      (k0_pay101 (F := Ideal) (chunk t (val_main_v7 (F := Ideal) x0)) (chunk t (val_main_v95 (F := Ideal) x0 x1 x2 x3 x4 x5 x6))) (k0_pay102 (F := Ideal))
    = (chunk t (val_main_v159 (F := Ideal) x0 x1 x2 x3 x4 x5 x6) : Vec Ideal S128x1024 .f32) := by
  refine ext2 128 1024 fun i j => ?_
  pointwise [k0_pay103, k0_pay102, k0_pay101, k0_pay100, chunk, val_main_v159, val_main_v158, val_main_v157, val_main_v156, val_main_v155, val_main_v154, val_main_v153, val_main_v152, val_main_v151, val_main_v150,
    val_main_v149, val_main_cst_31, val_main_cst_32, val_main_cst_33, neg_const, neg_mul, neg_neg]

end Cert.Gm
-- ==== Proof.GmHost.lean ====
/-
  What the host part of the spatial-gating backward program hands its kernel, and what the kernel's windows hand its body at
  each point, in the reference's terms.
-/
module

public import proofs.«01_k».proof.Proof.Gen.Kernel2Ideal.Value
public import proofs.«01_k».proof.Proof.GmBack
public import Idealize.ShloMosaic.Lib.Pipeline.ValueKit
public import Idealize.ShloMosaic.Lib.StableHlo.RunRead

@[expose] public section

set_option maxRecDepth 16384

namespace Cert.Gm

open Cert.Kernel2Ideal Cert.Kernel2Ideal.Gen
open Cert.Reference2Ideal.Read
open Idealize.ShloMosaic Idealize.ShloMosaic.TcCoe

variable (m : (ℓ : Loc nD τ sig) → Buf (Elt Ideal) ℓ) (c : Dev nD)

/-- A grid point as the number of its chunk. -/
def pt (t : Fin cfg0.N) : Fin 64 := ⟨t.val, Nat.lt_of_lt_of_eq t.isLt N_0⟩

theorem at0 : ∀ t : Fin cfg0.N, win0_0.index t = ![t.val, 0] := (by decide +kernel : ∀ t : Fin grid0.N, _)
theorem at1 : ∀ t : Fin cfg0.N, win0_1.index t = ![t.val, 1] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![t.val, 0] := (by decide +kernel : ∀ t : Fin grid0.N, _)

/-- The kept columns: the first 3072, the last 16, and zeros. -/
theorem kept_at (a : Fin 8192) (b : Fin 3200) (hb : b.val < 3072) :
    V m c main_v3 (ix2 a b) = m (c, main_arg0) (ix2 a ⟨b.val, by omega⟩) := by
  unfold V
  after_reads_simp
  pointwise
  rw [dif_pos hb]
  after_reads_simp
  pointwise

theorem V_mixers : V m c main_v4 = mixers (m (c, main_arg4)) := by
  unfold V
  after_reads_simp
  rfl

theorem V_biases : V m c main_v6 = biases (m (c, main_arg5)) := by
  unfold V
  after_reads_simp
  rfl

theorem block_u (t : Fin cfg0.N) : X0_0 m c t = chunk (pt t) (val_main_v0 (F := Ideal) (m (c, main_arg0))) := by
  refine ext2 128 1024 fun i j => ?_
  unfold X0_0 Pipeline.Window.fill
  rw [dif_pos (moved0_0 t _)]
  blk_simp [iblk, at0]
  refine (congrArg (V m c main_v3) (?_ : _ = ix2 (rowOf (pt t) i) ⟨j.val, by omega⟩)).trans ((kept_at m c _ _ (by change j.val < _; omega)).trans ?_)
  · blk_ext [at0, rowOf, pt]
  · unfold chunk
    pointwise [val_main_v0]

theorem block_v (t : Fin cfg0.N) : X0_1 m c t = chunk (pt t) (val_main_v1 (F := Ideal) (m (c, main_arg0))) := by
  refine ext2 128 1024 fun i j => ?_
  unfold X0_1 Pipeline.Window.fill
  rw [dif_pos (moved0_1 t _)]
  blk_simp [iblk, at1]
  refine (congrArg (V m c main_v3) (?_ : _ = ix2 (rowOf (pt t) i) ⟨1024 + j.val, by omega⟩)).trans
    ((kept_at m c _ _ (by change 1024 + j.val < _; omega)).trans ?_)
  · blk_ext [at1, rowOf, pt]
  · unfold chunk
    pointwise [val_main_v1]

theorem block_dy (t : Fin cfg0.N) : iblk m c 2 t = chunk (pt t) (m (c, main_arg1)) := by
  funext y
  blk_simp [iblk, at2]
  rw [V_main_arg1]
  unfold chunk
  blk_ext [at2, rowOf, pt]

theorem block_g (t : Fin cfg0.N) : iblk m c 3 t = m (c, main_arg2) := by
  funext y
  blk_simp [iblk, at3]
  rw [V_main_arg2]
  congr 1
  blk_ext [at3]

theorem block_b (t : Fin cfg0.N) : iblk m c 4 t = m (c, main_arg3) := by
  funext y
  blk_simp [iblk, at4]
  rw [V_main_arg3]
  congr 1
  blk_ext [at4]

theorem block_w (t : Fin cfg0.N) : iblk m c 5 t = mixers (m (c, main_arg4)) := by
  funext y
  blk_simp [iblk, at5]
  rw [V_mixers]
  congr 1
  blk_ext [at5]

theorem block_bs (t : Fin cfg0.N) : iblk m c 6 t = biases (m (c, main_arg5)) := by
  funext y
  blk_simp [iblk, at6]
  rw [V_biases]
  congr 1
  blk_ext [at6]

theorem block_og (t : Fin cfg0.N) : iblk m c 7 t = m (c, main_arg6) := by
  funext y
  blk_simp [iblk, at7]
  rw [V_main_arg6]
  congr 1
  blk_ext [at7]

/-- A leading axis of one dropped. -/
theorem drop_at (X : Vec Ideal S1x128x128 .f32) (i j : Fin 128) : shapeCast S128x128 X shapeCasts_S1x128x128_S128x128 (ix2 i j) = X (ix3 0 i j) := by
  pointwise

/-- The body's load of one head's matrix, its leading axis dropped. -/
theorem slab_eq (h : Fin 8) (W : Vec Ideal S8x128x128 .f32)
    (inb : ∀ a, (![h.val, 0, 0] : Fin 3 → ℕ) a + S1x128x128.size a ≤ S8x128x128.size a) :
    shapeCast S128x128 (View.ld W (Rect.unit ![h.val, 0, 0] S1x128x128.size inb)) shapeCasts_S1x128x128_S128x128 = slab h W := by
  refine ext2 128 128 fun i j => (drop_at _ i j).trans ?_
  refine congrArg W (?_ : _ = ix3 h i j)
  blk_ext
  all_goals exact (Rect.idx_unit_val _ _ _ _ _).trans (by simp)

section Heads

variable (W : Vec Ideal S8x128x128 .f32)

theorem slab0 : k0_pay9 (F := Ideal) (View.ld W (Rect.unit ![0, 0, 0] ![1, 128, 128] inb_S8x128x128_S1x128x128_0_0_0)) = slab 0 W := slab_eq 0 W _
theorem slab1 : k0_pay10 (F := Ideal) (View.ld W (Rect.unit ![1, 0, 0] ![1, 128, 128] inb_S8x128x128_S1x128x128_1_0_0)) = slab 1 W := slab_eq 1 W _
theorem slab2 : k0_pay11 (F := Ideal) (View.ld W (Rect.unit ![2, 0, 0] ![1, 128, 128] inb_S8x128x128_S1x128x128_2_0_0)) = slab 2 W := slab_eq 2 W _
theorem slab3 : k0_pay12 (F := Ideal) (View.ld W (Rect.unit ![3, 0, 0] ![1, 128, 128] inb_S8x128x128_S1x128x128_3_0_0)) = slab 3 W := slab_eq 3 W _
theorem slab4 : k0_pay13 (F := Ideal) (View.ld W (Rect.unit ![4, 0, 0] ![1, 128, 128] inb_S8x128x128_S1x128x128_4_0_0)) = slab 4 W := slab_eq 4 W _
theorem slab5 : k0_pay14 (F := Ideal) (View.ld W (Rect.unit ![5, 0, 0] ![1, 128, 128] inb_S8x128x128_S1x128x128_5_0_0)) = slab 5 W := slab_eq 5 W _
theorem slab6 : k0_pay15 (F := Ideal) (View.ld W (Rect.unit ![6, 0, 0] ![1, 128, 128] inb_S8x128x128_S1x128x128_6_0_0)) = slab 6 W := slab_eq 6 W _
theorem slab7 : k0_pay16 (F := Ideal) (View.ld W (Rect.unit ![7, 0, 0] ![1, 128, 128] inb_S8x128x128_S1x128x128_7_0_0)) = slab 7 W := slab_eq 7 W _

end Heads

theorem keep_u (X : FVec Ideal S128x1024 .f32) : k0_pay17 X = X := by
  refine ext2 128 1024 fun i j => ?_
  pointwise [k0_pay17]

theorem keep_v (X : FVec Ideal S128x1024 .f32) : k0_pay18 X = X := by
  refine ext2 128 1024 fun i j => ?_
  pointwise [k0_pay18]

theorem keep_bs (X : FVec Ideal S128x8 .f32) : k0_pay19 X = X := by
  refine ext2 128 8 fun i j => ?_
  pointwise [k0_pay19]

/-- Rounding is the identity over the extended reals. -/
theorem keep_low (X : FVec Ideal S128x128 .f32) : (k0_pay51 X : S128x128.Idx → EReal) = X := rfl
theorem keep_low' (X : FVec Ideal S128x128 .f32) : (k0_pay52 X : S128x128.Idx → EReal) = X := rfl

end Cert.Gm
-- ==== Proof.GmValue.lean ====
/-
  What the kernel of the spatial-gating backward program leaves in its blocks after each point: the gradient at its two
  inputs, chunk by chunk, and the five running sums.
-/
module

public import proofs.«01_k».proof.Proof.GmHost

@[expose] public section

set_option maxRecDepth 16384

namespace Cert.Gm

open Cert.Kernel2Ideal Cert.Kernel2Ideal.Gen
open Cert.Reference2Ideal.Read
open Idealize.ShloMosaic Idealize.ShloMosaic.TcCoe

/-! ## The stack of eight matrices: what one store or one load does -/

section Stack

variable (k : ℕ) (inb : ∀ a, (![k, 0, 0] : Fin 3 → ℕ) a + (![1, 128, 128] : Fin 3 → ℕ) a ≤ S8x128x128.size a)
  (w : (Rect.unit (s := S8x128x128) ![k, 0, 0] ![1, 128, 128] inb).shape.Idx → EReal) (L : List (View.Piece (Elt Ideal) S8x128x128 .f32))

theorem emb_at (x : (Rect.unit (s := S8x128x128) ![k, 0, 0] ![1, 128, 128] inb).shape.Idx) (a : Fin 3) :
    ((Rect.unit (s := S8x128x128) ![k, 0, 0] ![1, 128, 128] inb).idx x a).val = (![k, 0, 0] : Fin 3 → ℕ) a + (x a).val :=
  Rect.idx_unit_val _ _ _ _ _

include inb in
theorem small_k : k < 8 := by
  have h := inb 0
  change k + 1 ≤ 8 at h
  omega

theorem place (i j : Fin 128) : (Rect.unit (s := S8x128x128) ![k, 0, 0] ![1, 128, 128] inb).idx (ix3 0 i j) = ix3 ⟨k, small_k k inb⟩ i j := by
  funext a
  refine Fin.ext ((emb_at k inb _ a).trans ?_)
  fin_cases a <;> simp

/-- The last store, read where it was made. -/
theorem canon_hit (h : Fin 8) (i j : Fin 128) (hk : h.val = k) :
    View.canon ((⟨Rect.unit (s := S8x128x128) ![k, 0, 0] ![1, 128, 128] inb, w⟩ : View.Piece (Elt Ideal) S8x128x128 .f32) :: L) (ix3 h i j) = w (ix3 0 i j) := by
  have e : h = ⟨k, small_k k inb⟩ := Fin.ext hk
  rw [e, ← place k inb i j]
  exact View.canon_cons_emb (Val := Elt Ideal) _ w L _

/-- The last store, read elsewhere. -/
theorem canon_miss (h : Fin 8) (i j : Fin 128) (hk : h.val ≠ k) :
    View.canon ((⟨Rect.unit (s := S8x128x128) ![k, 0, 0] ![1, 128, 128] inb, w⟩ : View.Piece (Elt Ideal) S8x128x128 .f32) :: L) (ix3 h i j)
      = View.canon L (ix3 h i j) := by
  refine View.canon_cons_of_not_mem (Val := Elt Ideal) _ L fun hm => hk ?_
  obtain ⟨x, hx⟩ := (Rect.unit (s := S8x128x128) ![k, 0, 0] ![1, 128, 128] inb).exists_idx_of_mem hm
  have h0 := (congrArg Fin.val (congrFun hx 0)).symm.trans (emb_at k inb x 0)
  have hx0 : (x 0).val < 1 := (x 0).isLt
  change h.val = k + (x 0).val at h0
  omega

/-- A load of one matrix of the stack. -/
theorem load_at (X : Vec Ideal S8x128x128 .f32) (i j : Fin 128) :
    View.ld X (Rect.unit (s := S8x128x128) ![k, 0, 0] ![1, 128, 128] inb) (ix3 0 i j) = X (ix3 ⟨k, small_k k inb⟩ i j) :=
  congrArg X (place k inb i j)

/-- A load of one matrix of the stack after stores to it. -/
theorem reload_at (t : Fin cfg0.N) (i j : Fin 128) :
    (ms0_11 t).view.readCov (Val := Elt Ideal) L (Rect.unit (s := S8x128x128) ![k, 0, 0] ![1, 128, 128] inb).toLoadRect (ix3 0 i j)
      = View.canon L (ix3 ⟨k, small_k k inb⟩ i j) := by
  rw [View.readCov_eq_canon']
  exact congrArg (View.canon (Val := Elt Ideal) L) (place k inb i j)

end Stack

theorem add1 (P : FVec Ideal S128x128 .f32) (X : Vec Ideal S1x128x128 .f32) (i j : Fin 128) : k0_pay111 (F := Ideal) P X (ix3 0 i j) = X (ix3 0 i j) + P (ix2 i j) := by
  pointwise [k0_pay111]
theorem add2 (P : FVec Ideal S128x128 .f32) (X : Vec Ideal S1x128x128 .f32) (i j : Fin 128) : k0_pay112 (F := Ideal) P X (ix3 0 i j) = X (ix3 0 i j) + P (ix2 i j) := by
  pointwise [k0_pay112]
theorem add3 (P : FVec Ideal S128x128 .f32) (X : Vec Ideal S1x128x128 .f32) (i j : Fin 128) : k0_pay113 (F := Ideal) P X (ix3 0 i j) = X (ix3 0 i j) + P (ix2 i j) := by
  pointwise [k0_pay113]
theorem add4 (P : FVec Ideal S128x128 .f32) (X : Vec Ideal S1x128x128 .f32) (i j : Fin 128) : k0_pay114 (F := Ideal) P X (ix3 0 i j) = X (ix3 0 i j) + P (ix2 i j) := by
  pointwise [k0_pay114]
theorem add5 (P : FVec Ideal S128x128 .f32) (X : Vec Ideal S1x128x128 .f32) (i j : Fin 128) : k0_pay1 (F := Ideal) P X (ix3 0 i j) = X (ix3 0 i j) + P (ix2 i j) := by
  pointwise [k0_pay1]
theorem add6 (P : FVec Ideal S128x128 .f32) (X : Vec Ideal S1x128x128 .f32) (i j : Fin 128) : k0_pay2 (F := Ideal) P X (ix3 0 i j) = X (ix3 0 i j) + P (ix2 i j) := by
  pointwise [k0_pay2]
theorem add7 (P : FVec Ideal S128x128 .f32) (X : Vec Ideal S1x128x128 .f32) (i j : Fin 128) : k0_pay3 (F := Ideal) P X (ix3 0 i j) = X (ix3 0 i j) + P (ix2 i j) := by
  pointwise [k0_pay3]
theorem add0 (P : FVec Ideal S128x128 .f32) (X : Vec Ideal S1x128x128 .f32) (i j : Fin 128) :
    k0_pay110 (F := Ideal) P (k0_pay109 (F := Ideal) X) (ix3 0 i j) = X (ix3 0 i j) + P (ix2 i j) := by
  pointwise [k0_pay110, k0_pay109]

theorem acc_lg (P : FVec Ideal S1x1024 .f32) (X : Vec Ideal S1x1024 .f32) (k : Fin 1024) : k0_pay105 (F := Ideal) P X (ix2 0 k) = X (ix2 0 k) + P (ix2 0 k) := by
  pointwise [k0_pay105]
theorem acc_lb (P : FVec Ideal S1x1024 .f32) (X : Vec Ideal S1x1024 .f32) (k : Fin 1024) : k0_pay106 (F := Ideal) P X (ix2 0 k) = X (ix2 0 k) + P (ix2 0 k) := by
  pointwise [k0_pay106]
theorem acc_bs (P : FVec Ideal S128x8 .f32) (X : Vec Ideal S128x8 .f32) (i : Fin 128) (j : Fin 8) : k0_pay107 (F := Ideal) P X (ix2 i j) = X (ix2 i j) + P (ix2 i j) := by
  pointwise [k0_pay107]
theorem acc_og (P : FVec Ideal S1x1024 .f32) (X : Vec Ideal S1x1024 .f32) (k : Fin 1024) : k0_pay108 (F := Ideal) P X (ix2 0 k) = X (ix2 0 k) + P (ix2 0 k) := by
  pointwise [k0_pay108]

/-- The sums start from zero. -/
theorem zero_lg (k : Fin 1024) : k0_pay4 (F := Ideal) (ix2 0 k) = (0 : EReal) := by
  pointwise [k0_pay4]
theorem zero_lb (k : Fin 1024) : k0_pay5 (F := Ideal) (ix2 0 k) = (0 : EReal) := by
  pointwise [k0_pay5]
theorem zero_bs (i : Fin 128) (j : Fin 8) : k0_pay7 (F := Ideal) (ix2 i j) = (0 : EReal) := by
  pointwise [k0_pay7]
theorem zero_og (k : Fin 1024) : k0_pay8 (F := Ideal) (ix2 0 k) = (0 : EReal) := by
  pointwise [k0_pay8]

theorem canon_start (h : Fin 8) (i j : Fin 128) :
    View.canon ([⟨Rect.unit (s := S8x128x128) ![0, 0, 0] ![8, 128, 128] inb_S8x128x128_S8x128x128_0_0_0, k0_pay6 (F := Ideal)⟩] : List (View.Piece (Elt Ideal) S8x128x128 .f32)) (ix3 h i j)
      = (0 : EReal) := by
  refine (congrFun (View.canon_unit_zero (Val := Elt Ideal) (S := S8x128x128) (e := .f32) (by decide) inb_S8x128x128_S8x128x128_0_0_0 (k0_pay6 (F := Ideal))) (ix3 h i j)).trans ?_
  pointwise [k0_pay6]

variable (m : (ℓ : Loc nD τ sig) → Buf (Elt Ideal) ℓ) (c : Dev nD)

/-! ## One chunk's shares of the five sums -/

noncomputable def lgShare (s : Fin 64) (k : Fin 1024) : EReal := ∑ r : Fin 128, val_main_v109 (F := Ideal) (m (c, main_arg0)) (m (c, main_arg1)) (m (c, main_arg2)) (m (c, main_arg3)) (m (c, main_arg4)) (m (c, main_arg5)) (m (c, main_arg6)) (ix2 (rowOf s r) k)
noncomputable def lbShare (s : Fin 64) (k : Fin 1024) : EReal := ∑ r : Fin 128, dnormed (m (c, main_arg0)) (m (c, main_arg1)) (m (c, main_arg2)) (m (c, main_arg3)) (m (c, main_arg6)) (m (c, main_arg4)) (m (c, main_arg5)) (ix2 (rowOf s r) k)
noncomputable def wShare (s : Fin 64) (y : S8x128x128.Idx) : EReal := pairs s (y 0) (dmixed (m (c, main_arg0)) (m (c, main_arg1)) (m (c, main_arg2)) (m (c, main_arg3)) (m (c, main_arg6)) (m (c, main_arg4)) (m (c, main_arg5))) (normed (m (c, main_arg0)) (m (c, main_arg2)) (m (c, main_arg3))) (ix2 (y 1) (y 2))
noncomputable def bsShare (s : Fin 64) (y : S128x8.Idx) : EReal := headSums s (dmixed (m (c, main_arg0)) (m (c, main_arg1)) (m (c, main_arg2)) (m (c, main_arg3)) (m (c, main_arg6)) (m (c, main_arg4)) (m (c, main_arg5))) y
noncomputable def ogShare (s : Fin 64) (k : Fin 1024) : EReal := ∑ r : Fin 128, val_main_v75 (F := Ideal) (m (c, main_arg0)) (m (c, main_arg1)) (m (c, main_arg2)) (m (c, main_arg3)) (m (c, main_arg4)) (m (c, main_arg5)) (ix2 (rowOf s r) k)

/-- The two halves of the columns: the gradients at the gate's two inputs. -/
theorem halves (t : Fin 64) (x0 : Vec Ideal S8192x4624 .f32) (x1 : Vec Ideal S8192x1024 .f32) (x2 x3 x6 : Vec Ideal S1x1024 .f32)
    (x4 : Vec Ideal S1x8x128x128 .f32) (x5 : Vec Ideal S1x8x128 .f32) :
    View.canon (Val := Elt Ideal) (s := S128x2048) (e := .bf16)
      [⟨Rect.unit ![0, 1024] ![128, 1024] inb_S128x2048_S128x1024_0_1024, chunk t (val_main_v148 (F := Ideal) x0 x1 x2 x3 x4 x5 x6)⟩,
        ⟨Rect.unit ![0, 0] ![128, 1024] inb_S128x2048_S128x1024_0_0, chunk t (val_main_v159 (F := Ideal) x0 x1 x2 x3 x4 x5 x6)⟩]
      = chunk t (val_main_v161 (F := Ideal) x0 x1 x2 x3 x4 x5 x6) := by
  refine ext2 128 2048 fun i j => ?_
  canon_tiles x h
  all_goals
    obtain ⟨a, b, rfl⟩ : ∃ (a : Fin 128) (b : Fin 1024), x = ix2 a b := ⟨x 0, x 1, eq_ix2 x⟩
    obtain rfl : i = a := Fin.ext h0
    pointwise [chunk, val_main_v161, val_main_v160]
  · change j.val = 1024 + b.val at h1
    rw [dif_neg (by omega)]
    exact congrArg (fun k => val_main_v148 (F := Ideal) x0 x1 x2 x3 x4 x5 x6 (ix2 (rowOf t i) k)) (Fin.ext (by change b.val = j.val - 1024; omega))
  · change j.val = b.val at h1
    rw [dif_pos (by omega)]
    exact congrArg (fun k => val_main_v159 (F := Ideal) x0 x1 x2 x3 x4 x5 x6 (ix2 (rowOf t i) k)) (Fin.ext h1.symm)

theorem point_next (t : Fin cfg0.N) (h : ¬t.val % 64 = 0) :
    (outsAt0 m c t.val t.isLt).1 = chunk (pt t) (val_main_v161 (F := Ideal) (m (c, main_arg0)) (m (c, main_arg1)) (m (c, main_arg2)) (m (c, main_arg3)) (m (c, main_arg4)) (m (c, main_arg5)) (m (c, main_arg6)))
    ∧ (∀ k : Fin 1024, (outsAt0 m c t.val t.isLt).2.1 (ix2 0 k) = (outsAt0 m c (t.val - 1) (Nat.lt_of_le_of_lt (Nat.sub_le _ _) t.isLt)).2.1 (ix2 0 k) + lgShare m c (pt t) k)
    ∧ (∀ k : Fin 1024, (outsAt0 m c t.val t.isLt).2.2.1 (ix2 0 k) = (outsAt0 m c (t.val - 1) (Nat.lt_of_le_of_lt (Nat.sub_le _ _) t.isLt)).2.2.1 (ix2 0 k) + lbShare m c (pt t) k)
    ∧ (∀ y : S8x128x128.Idx, (outsAt0 m c t.val t.isLt).2.2.2.1 y = (outsAt0 m c (t.val - 1) (Nat.lt_of_le_of_lt (Nat.sub_le _ _) t.isLt)).2.2.2.1 y + wShare m c (pt t) y)
    ∧ (∀ y : S128x8.Idx, (outsAt0 m c t.val t.isLt).2.2.2.2.1 y = (outsAt0 m c (t.val - 1) (Nat.lt_of_le_of_lt (Nat.sub_le _ _) t.isLt)).2.2.2.2.1 y + bsShare m c (pt t) y)
    ∧ (∀ k : Fin 1024, (outsAt0 m c t.val t.isLt).2.2.2.2.2 (ix2 0 k) = (outsAt0 m c (t.val - 1) (Nat.lt_of_le_of_lt (Nat.sub_le _ _) t.isLt)).2.2.2.2.2 (ix2 0 k) + ogShare m c (pt t) k) := by
  rw [outsAt0_B m c t h]
  refine ⟨?_, fun k => ?_, fun k => ?_, fun y => ?_, fun y => ?_, fun k => ?_⟩
  all_goals frame_out
  all_goals simp only [block_u, block_v, block_dy, block_g, block_b, block_w, block_bs, block_og, slab0, slab1, slab2, slab3, slab4, slab5, slab6, slab7, keep_u, keep_v, keep_bs, keep_low, keep_low', keep_low, keep_low',
    gelu_u, centre, norm_ln, norm_v, slope_ln, half_u, half_v, bell_u, bell_v, tail_u, tail_v, lhs0, lhs1, lhs2, lhs3, lhs4, lhs5, lhs6, lhs7,
    rhs0 _ _ _ _ (norm_v _ _ _ _), rhs1 _ _ _ _ (norm_v _ _ _ _), rhs2 _ _ _ _ (norm_v _ _ _ _), rhs3 _ _ _ _ (norm_v _ _ _ _), rhs4 _ _ _ _ (norm_v _ _ _ _), rhs5, rhs6, rhs7,
    head0, head1, head2, head3, mixed_eq, gate_eq _ _ _ _ _ _ (mixed_eq _ _ _ _ _ _), scale_eq _ _ _ _ _ _ (mixed_eq _ _ _ _ _ _), slope_eq _ _ _ _ _ _ (mixed_eq _ _ _ _ _ _), rms_eq _ _ _ _ _ _ (mixed_eq _ _ _ _ _ _),
    dmix_eq, dug_eq, dmix0 _ _ (dmix_eq _ _ _ _ _ _ _ _), dmix1 _ _ (dmix_eq _ _ _ _ _ _ _ _), dmix2 _ _ (dmix_eq _ _ _ _ _ _ _ _), dmix3 _ _ (dmix_eq _ _ _ _ _ _ _ _), dmix4 _ _ (dmix_eq _ _ _ _ _ _ _ _), dmix5 _ _ (dmix_eq _ _ _ _ _ _ _ _), dmix6 _ _ (dmix_eq _ _ _ _ _ _ _ _), dmix7 _ _ (dmix_eq _ _ _ _ _ _ _ _),
    dbs_eq _ _ (dmix_eq _ _ _ _ _ _ _ _), dw0, dw1, dw2, dw3, dw4, dw5, dw6, dw7 _ _ _ (dmix_eq _ _ _ _ _ _ _ _), dvn_eq _ _ _ _ _ _ _ _ (dmix_eq _ _ _ _ _ _ _ _), dv_eq, du_eq]
  · exact halves (pt t) _ _ _ _ _ _ _
  · exact (acc_lg _ _ k).trans (congrArg (_ + ·) (dlg_eq _ _ _ _ _ _ _ (pt t) k))
  · exact (acc_lb _ _ k).trans (congrArg (_ + ·) (dlb_eq _ _ _ _ _ _ _ (pt t) k))
  · obtain ⟨h, i, j, rfl⟩ : ∃ (h : Fin 8) (i j : Fin 128), y = ix3 h i j := ⟨y 0, y 1, y 2, eq_ix3 y⟩
    change _ = _ + pairs (pt t) h _ _ (ix2 i j)
    fin_cases h
    all_goals
      simp (disch := decide) only [canon_hit, canon_miss, add0, add1, add2, add3, add4, add5, add6, add7, load_at, reload_at]
      exact congrArg₂ (· + ·) (load_at _ _ _ i j) rfl
  · obtain ⟨i, j, rfl⟩ : ∃ (i : Fin 128) (j : Fin 8), y = ix2 i j := ⟨y 0, y 1, eq_ix2 y⟩
    exact acc_bs _ _ i j
  · exact (acc_og _ _ k).trans (congrArg (_ + ·) (dog_eq _ _ _ _ _ _ (pt t) k))

theorem point_first (t : Fin cfg0.N) (h : t.val % 64 = 0) :
    (outsAt0 m c t.val t.isLt).1 = chunk (pt t) (val_main_v161 (F := Ideal) (m (c, main_arg0)) (m (c, main_arg1)) (m (c, main_arg2)) (m (c, main_arg3)) (m (c, main_arg4)) (m (c, main_arg5)) (m (c, main_arg6)))
    ∧ (∀ k : Fin 1024, (outsAt0 m c t.val t.isLt).2.1 (ix2 0 k) = (0 : EReal) + lgShare m c (pt t) k)
    ∧ (∀ k : Fin 1024, (outsAt0 m c t.val t.isLt).2.2.1 (ix2 0 k) = (0 : EReal) + lbShare m c (pt t) k)
    ∧ (∀ y : S8x128x128.Idx, (outsAt0 m c t.val t.isLt).2.2.2.1 y = (0 : EReal) + wShare m c (pt t) y)
    ∧ (∀ y : S128x8.Idx, (outsAt0 m c t.val t.isLt).2.2.2.2.1 y = (0 : EReal) + bsShare m c (pt t) y)
    ∧ (∀ k : Fin 1024, (outsAt0 m c t.val t.isLt).2.2.2.2.2 (ix2 0 k) = (0 : EReal) + ogShare m c (pt t) k) := by
  rw [outsAt0_A m c t h]
  refine ⟨?_, fun k => ?_, fun k => ?_, fun y => ?_, fun y => ?_, fun k => ?_⟩
  all_goals frame_out
  all_goals simp only [block_u, block_v, block_dy, block_g, block_b, block_w, block_bs, block_og, slab0, slab1, slab2, slab3, slab4, slab5, slab6, slab7, keep_u, keep_v, keep_bs, keep_low, keep_low', keep_low, keep_low',
    gelu_u, centre, norm_ln, norm_v, slope_ln, half_u, half_v, bell_u, bell_v, tail_u, tail_v, lhs0, lhs1, lhs2, lhs3, lhs4, lhs5, lhs6, lhs7,
    rhs0 _ _ _ _ (norm_v _ _ _ _), rhs1 _ _ _ _ (norm_v _ _ _ _), rhs2 _ _ _ _ (norm_v _ _ _ _), rhs3 _ _ _ _ (norm_v _ _ _ _), rhs4 _ _ _ _ (norm_v _ _ _ _), rhs5, rhs6, rhs7,
    head0, head1, head2, head3, mixed_eq, gate_eq _ _ _ _ _ _ (mixed_eq _ _ _ _ _ _), scale_eq _ _ _ _ _ _ (mixed_eq _ _ _ _ _ _), slope_eq _ _ _ _ _ _ (mixed_eq _ _ _ _ _ _), rms_eq _ _ _ _ _ _ (mixed_eq _ _ _ _ _ _),
    dmix_eq, dug_eq, dmix0 _ _ (dmix_eq _ _ _ _ _ _ _ _), dmix1 _ _ (dmix_eq _ _ _ _ _ _ _ _), dmix2 _ _ (dmix_eq _ _ _ _ _ _ _ _), dmix3 _ _ (dmix_eq _ _ _ _ _ _ _ _), dmix4 _ _ (dmix_eq _ _ _ _ _ _ _ _), dmix5 _ _ (dmix_eq _ _ _ _ _ _ _ _), dmix6 _ _ (dmix_eq _ _ _ _ _ _ _ _), dmix7 _ _ (dmix_eq _ _ _ _ _ _ _ _),
    dbs_eq _ _ (dmix_eq _ _ _ _ _ _ _ _), dw0, dw1, dw2, dw3, dw4, dw5, dw6, dw7 _ _ _ (dmix_eq _ _ _ _ _ _ _ _), dvn_eq _ _ _ _ _ _ _ _ (dmix_eq _ _ _ _ _ _ _ _), dv_eq, du_eq]
  · exact halves (pt t) _ _ _ _ _ _ _
  · exact (acc_lg _ _ k).trans (congrArg₂ (· + ·) (zero_lg k) (dlg_eq _ _ _ _ _ _ _ (pt t) k))
  · exact (acc_lb _ _ k).trans (congrArg₂ (· + ·) (zero_lb k) (dlb_eq _ _ _ _ _ _ _ (pt t) k))
  · obtain ⟨h, i, j, rfl⟩ : ∃ (h : Fin 8) (i j : Fin 128), y = ix3 h i j := ⟨y 0, y 1, y 2, eq_ix3 y⟩
    change _ = _ + pairs (pt t) h _ _ (ix2 i j)
    fin_cases h
    all_goals
      simp (disch := decide) only [canon_hit, canon_miss, add0, add1, add2, add3, add4, add5, add6, add7, load_at, reload_at, canon_start]
      rfl
  · obtain ⟨i, j, rfl⟩ : ∃ (i : Fin 128) (j : Fin 8), y = ix2 i j := ⟨y 0, y 1, eq_ix2 y⟩
    exact (acc_bs _ _ i j).trans (congrArg (· + _) (zero_bs i j))
  · exact (acc_og _ _ k).trans (congrArg₂ (· + ·) (zero_og k) (dog_eq _ _ _ _ _ _ (pt t) k))

end Cert.Gm
-- ==== Proof.GmSum.lean ====
/-
  The six results of the spatial-gating backward kernel as whole arrays, in the reference's terms.
-/
module

public import proofs.«01_k».proof.Proof.GmValue

@[expose] public section

set_option maxRecDepth 16384

namespace Cert.Gm

open Cert.Kernel2Ideal Cert.Kernel2Ideal.Gen
open Cert.Reference2Ideal.Read
open Idealize.ShloMosaic Idealize.ShloMosaic.TcCoe

/-- A sum which starts at the first point and is added to at every other ends as the sum over all chunks. -/
theorem total {ι : Type} (f : (n : ℕ) → n < cfg0.N → ι → EReal) (share : Fin 64 → ι → EReal)
    (h0 : ∀ t : Fin cfg0.N, t.val % 64 = 0 → ∀ i, f t.val t.isLt i = 0 + share (pt t) i)
    (hs : ∀ t : Fin cfg0.N, ¬t.val % 64 = 0 → ∀ i, f t.val t.isLt i = f (t.val - 1) (Nat.lt_of_le_of_lt (Nat.sub_le _ _) t.isLt) i + share (pt t) i) (t : Fin cfg0.N) (ht : t.val + 1 = cfg0.N) (i : ι) :
    f t.val t.isLt i = ∑ s : Fin 64, share s i := by
  have h := Pipeline.eq_sum_fin_of_reset_step_apply_last f 64 (fun _ => 0) (fun t => share (pt t)) h0 hs (Nat.le_of_eq N_0) t ht i
  refine h.trans ((zero_add _).trans ?_)
  exact Fintype.sum_equiv (finCongr N_0) _ _ fun t => rfl

section Sums

variable (x0 : Vec Ideal S8192x4624 .f32) (x1 : Vec Ideal S8192x1024 .f32) (x2 x3 x6 : Vec Ideal S1x1024 .f32)
  (x4 : Vec Ideal S1x8x128x128 .f32) (x5 : Vec Ideal S1x8x128 .f32)

theorem val_main_v111_sum (k : Fin 1024) : val_main_v111 (F := Ideal) x0 x1 x2 x3 x4 x5 x6 (ix2 0 k) = ∑ i : Fin 8192, val_main_v109 (F := Ideal) x0 x1 x2 x3 x4 x5 x6 (ix2 i k) := by
  pointwise [val_main_v111, val_main_v110, val_main_cst_21]
theorem val_main_v108_sum (k : Fin 1024) : val_main_v108 (F := Ideal) x0 x1 x2 x3 x4 x5 x6 (ix2 0 k) = ∑ i : Fin 8192, val_main_v106 (F := Ideal) x0 x1 x2 x3 x4 x5 x6 (ix2 i k) := by
  pointwise [val_main_v108, val_main_v107, val_main_cst_20]
theorem val_main_v77_sum (k : Fin 1024) : val_main_v77 (F := Ideal) x0 x1 x2 x3 x4 x5 (ix2 0 k) = ∑ i : Fin 8192, val_main_v75 (F := Ideal) x0 x1 x2 x3 x4 x5 (ix2 i k) := by
  pointwise [val_main_v77, val_main_v76, val_main_cst_14]

/-- A choice between a sum and zero is the sum of the choices. -/
theorem select_sum {n : ℕ} (b : BitVec 1) (f : Fin n → EReal) : Scalar.select b (∑ s, f s) (0 : EReal) = ∑ s, Scalar.select b (f s) 0 := by
  obtain rfl | rfl : b = 0#1 ∨ b = 1#1 := by
    revert b
    decide
  · simp [Scalar.select]
  · simp [Scalar.select]

theorem mask_at (h : Fin 8) (r s : Fin 128) : val_main_v51_1 (F := Ideal) (ix3 h r s) = k0_pay36 (ix2 r s) := by
  pointwise [k0_pay36, val_main_v51_1, val_main_v49, val_main_v48, val_main_c, val_main_call0_v4, val_main_call0_v2, val_main_call0_v0,
    val_main_call0_v1, val_main_call0_c, val_main_call0_v3, val_main_call0_v5, val_main_call0_c_0, pick, IntOp.addi, BitVec.add_zero]

theorem matrices_sum (h : Fin 8) (r s : Fin 128) : val_main_v162 (F := Ideal) x0 x1 x2 x3 x4 x5 x6 (ix3 h r s)
    = ∑ t : Fin 64, pairs t h (dmixed x0 x1 x2 x3 x6 x4 x5) (normed x0 x2 x3) (ix2 r s) := by
  pointwise [val_main_v162, val_main_v137, val_main_v105, val_main_call2_v0, val_main_cst_19]
  rw [mask_at, dw_at]
  have z : val_main_call2_cst (F := Ideal) ix0 = (0 : EReal) := by pointwise [val_main_call2_cst]
  rw [z]
  exact select_sum (k0_pay36 (ix2 r s)) fun t : Fin 64 => ∑ d : Fin 128, val_main_v94 (F := Ideal) x0 x1 x2 x3 x4 x5 x6 (ix2 (rowOf t r) (colOf h d))
    * val_main_v46 (F := Ideal) x0 x2 x3 (ix2 (rowOf t s) (colOf h d))

end Sums

variable (m : (ℓ : Loc nD τ sig) → Buf (Elt Ideal) ℓ) (c : Dev nD)

/-- The gradient at the two inputs of the gate, side by side. -/
theorem array_duv : (dats m 0 c).arrAt 8 cfg0.N = val_main_v161 (F := Ideal) (m (c, main_arg0)) (m (c, main_arg1)) (m (c, main_arg2)) (m (c, main_arg3)) (m (c, main_arg4)) (m (c, main_arg5)) (m (c, main_arg6)) := by
  refine (dats m 0 c).arrAt_eq_of_covers 8 _ (by decide +kernel) fun t hf y => ?_
  blk_simp
  refine (congrFun (after0_8 m c t) _).trans ?_
  have e : (outsAt0 m c t.val t.isLt).1 = chunk (pt t) (val_main_v161 (F := Ideal) (m (c, main_arg0)) (m (c, main_arg1)) (m (c, main_arg2)) (m (c, main_arg3)) (m (c, main_arg4)) (m (c, main_arg5)) (m (c, main_arg6))) := by
    by_cases h : t.val % 64 = 0
    · exact (point_first m c t h).1
    · exact (point_next m c t h).1
  rw [e]
  unfold chunk
  blk_ext [at8, rowOf, pt]

theorem last_lg (t : Fin cfg0.N) (ht : t.val + 1 = cfg0.N) (y : S1x1024.Idx) :
    (dats m 0 c).after 9 t y = val_main_v111 (F := Ideal) (m (c, main_arg0)) (m (c, main_arg1)) (m (c, main_arg2)) (m (c, main_arg3)) (m (c, main_arg4)) (m (c, main_arg5)) (m (c, main_arg6)) y := by
  obtain ⟨k, rfl⟩ : ∃ k : Fin 1024, y = ix2 0 k := ⟨y 1, (eq_ix2 y).trans (congrArg (fun a => ix2 a (y 1)) (Subsingleton.elim (α := Fin 1) (y 0) 0))⟩
  refine (congrFun (after0_9 m c t) _).trans ?_
  refine (total (fun n hn k => (outsAt0 m c n hn).2.1 (ix2 0 k)) (lgShare m c) (fun t h k => (point_first m c t h).2.1 k) (fun t h k => (point_next m c t h).2.1 k) t ht k).trans ?_
  refine Eq.trans ?_ (val_main_v111_sum _ _ _ _ _ _ _ k).symm
  refine Fin.sum_mul_add_congr (S := 64) (n := 128) (fun s r hl => ?_)
  exact congrArg (val_main_v109 (F := Ideal) (m (c, main_arg0)) (m (c, main_arg1)) (m (c, main_arg2)) (m (c, main_arg3)) (m (c, main_arg4)) (m (c, main_arg5)) (m (c, main_arg6))) (congrArg (fun a => ix2 a k) (by blk_ext [rowOf, pt]))

/-- The gradient of the layer norm's weight. -/
theorem array_lg : (dats m 0 c).arrAt 9 cfg0.N = val_main_v111 (F := Ideal) (m (c, main_arg0)) (m (c, main_arg1)) (m (c, main_arg2)) (m (c, main_arg3)) (m (c, main_arg4)) (m (c, main_arg5)) (m (c, main_arg6)) := by
  refine (dats m 0 c).arrAt_eq_of_after_last 9 ⟨63, by rw [show cfg0.N = 64 from N_0]; decide⟩ (by decide +kernel) _ fun j => ?_
  refine (cast_eq _ _).trans ((last_lg m c ⟨63, by rw [show cfg0.N = 64 from N_0]; decide⟩ N_0.symm _).trans (congrArg (val_main_v111 (F := Ideal) (m (c, main_arg0)) (m (c, main_arg1)) (m (c, main_arg2)) (m (c, main_arg3)) (m (c, main_arg4)) (m (c, main_arg5)) (m (c, main_arg6))) ?_))
  blk_ext []

theorem last_lb (t : Fin cfg0.N) (ht : t.val + 1 = cfg0.N) (y : S1x1024.Idx) :
    (dats m 0 c).after 10 t y = val_main_v108 (F := Ideal) (m (c, main_arg0)) (m (c, main_arg1)) (m (c, main_arg2)) (m (c, main_arg3)) (m (c, main_arg4)) (m (c, main_arg5)) (m (c, main_arg6)) y := by
  obtain ⟨k, rfl⟩ : ∃ k : Fin 1024, y = ix2 0 k := ⟨y 1, (eq_ix2 y).trans (congrArg (fun a => ix2 a (y 1)) (Subsingleton.elim (α := Fin 1) (y 0) 0))⟩
  refine (congrFun (after0_10 m c t) _).trans ?_
  refine (total (fun n hn k => (outsAt0 m c n hn).2.2.1 (ix2 0 k)) (lbShare m c) (fun t h k => (point_first m c t h).2.2.1 k) (fun t h k => (point_next m c t h).2.2.1 k) t ht k).trans ?_
  refine Eq.trans ?_ (val_main_v108_sum _ _ _ _ _ _ _ k).symm
  refine Fin.sum_mul_add_congr (S := 64) (n := 128) (fun s r hl => ?_)
  exact congrArg (val_main_v106 (F := Ideal) (m (c, main_arg0)) (m (c, main_arg1)) (m (c, main_arg2)) (m (c, main_arg3)) (m (c, main_arg4)) (m (c, main_arg5)) (m (c, main_arg6))) (congrArg (fun a => ix2 a k) (by blk_ext [rowOf, pt]))

/-- The gradient of the layer norm's bias. -/
theorem array_lb : (dats m 0 c).arrAt 10 cfg0.N = val_main_v108 (F := Ideal) (m (c, main_arg0)) (m (c, main_arg1)) (m (c, main_arg2)) (m (c, main_arg3)) (m (c, main_arg4)) (m (c, main_arg5)) (m (c, main_arg6)) := by
  refine (dats m 0 c).arrAt_eq_of_after_last 10 ⟨63, by rw [show cfg0.N = 64 from N_0]; decide⟩ (by decide +kernel) _ fun j => ?_
  refine (cast_eq _ _).trans ((last_lb m c ⟨63, by rw [show cfg0.N = 64 from N_0]; decide⟩ N_0.symm _).trans (congrArg (val_main_v108 (F := Ideal) (m (c, main_arg0)) (m (c, main_arg1)) (m (c, main_arg2)) (m (c, main_arg3)) (m (c, main_arg4)) (m (c, main_arg5)) (m (c, main_arg6))) ?_))
  blk_ext []

theorem last_w (t : Fin cfg0.N) (ht : t.val + 1 = cfg0.N) (y : S8x128x128.Idx) :
    (dats m 0 c).after 11 t y = val_main_v162 (F := Ideal) (m (c, main_arg0)) (m (c, main_arg1)) (m (c, main_arg2)) (m (c, main_arg3)) (m (c, main_arg4)) (m (c, main_arg5)) (m (c, main_arg6)) y := by
  refine (congrFun (after0_11 m c t) _).trans ?_
  refine (total (fun n hn y => (outsAt0 m c n hn).2.2.2.1 y) (wShare m c) (fun t h y => (point_first m c t h).2.2.2.1 y) (fun t h y => (point_next m c t h).2.2.2.1 y) t ht y).trans ?_
  obtain ⟨h, r, s, rfl⟩ : ∃ (h : Fin 8) (r s : Fin 128), y = ix3 h r s := ⟨y 0, y 1, y 2, eq_ix3 y⟩
  exact (matrices_sum _ _ _ _ _ _ _ h r s).symm

/-- The gradient of the mixing matrices. -/
theorem array_w : (dats m 0 c).arrAt 11 cfg0.N = val_main_v162 (F := Ideal) (m (c, main_arg0)) (m (c, main_arg1)) (m (c, main_arg2)) (m (c, main_arg3)) (m (c, main_arg4)) (m (c, main_arg5)) (m (c, main_arg6)) := by
  refine (dats m 0 c).arrAt_eq_of_after_last 11 ⟨63, by rw [show cfg0.N = 64 from N_0]; decide⟩ (by decide +kernel) _ fun j => ?_
  refine (cast_eq _ _).trans ((last_w m c ⟨63, by rw [show cfg0.N = 64 from N_0]; decide⟩ N_0.symm _).trans (congrArg (val_main_v162 (F := Ideal) (m (c, main_arg0)) (m (c, main_arg1)) (m (c, main_arg2)) (m (c, main_arg3)) (m (c, main_arg4)) (m (c, main_arg5)) (m (c, main_arg6))) ?_))
  blk_ext []

theorem last_bs (t : Fin cfg0.N) (ht : t.val + 1 = cfg0.N) (y : S128x8.Idx) :
    (dats m 0 c).after 12 t y = val_main_v164 (F := Ideal) (m (c, main_arg0)) (m (c, main_arg1)) (m (c, main_arg2)) (m (c, main_arg3)) (m (c, main_arg4)) (m (c, main_arg5)) (m (c, main_arg6)) y := by
  refine (congrFun (after0_12 m c t) _).trans ?_
  refine (total (fun n hn y => (outsAt0 m c n hn).2.2.2.2.1 y) (bsShare m c) (fun t h y => (point_first m c t h).2.2.2.2.1 y) (fun t h y => (point_next m c t h).2.2.2.2.1 y) t ht y).trans ?_
  obtain ⟨r, h, rfl⟩ : ∃ (r : Fin 128) (h : Fin 8), y = ix2 r h := ⟨y 0, y 1, eq_ix2 y⟩
  exact (dbs_at _ _ _ _ _ _ _ h r).symm

/-- The gradient of the biases. -/
theorem array_bs : (dats m 0 c).arrAt 12 cfg0.N = val_main_v164 (F := Ideal) (m (c, main_arg0)) (m (c, main_arg1)) (m (c, main_arg2)) (m (c, main_arg3)) (m (c, main_arg4)) (m (c, main_arg5)) (m (c, main_arg6)) := by
  refine (dats m 0 c).arrAt_eq_of_after_last 12 ⟨63, by rw [show cfg0.N = 64 from N_0]; decide⟩ (by decide +kernel) _ fun j => ?_
  refine (cast_eq _ _).trans ((last_bs m c ⟨63, by rw [show cfg0.N = 64 from N_0]; decide⟩ N_0.symm _).trans (congrArg (val_main_v164 (F := Ideal) (m (c, main_arg0)) (m (c, main_arg1)) (m (c, main_arg2)) (m (c, main_arg3)) (m (c, main_arg4)) (m (c, main_arg5)) (m (c, main_arg6))) ?_))
  blk_ext []

theorem last_og (t : Fin cfg0.N) (ht : t.val + 1 = cfg0.N) (y : S1x1024.Idx) :
    (dats m 0 c).after 13 t y = val_main_v77 (F := Ideal) (m (c, main_arg0)) (m (c, main_arg1)) (m (c, main_arg2)) (m (c, main_arg3)) (m (c, main_arg4)) (m (c, main_arg5)) y := by
  obtain ⟨k, rfl⟩ : ∃ k : Fin 1024, y = ix2 0 k := ⟨y 1, (eq_ix2 y).trans (congrArg (fun a => ix2 a (y 1)) (Subsingleton.elim (α := Fin 1) (y 0) 0))⟩
  refine (congrFun (after0_13 m c t) _).trans ?_
  refine (total (fun n hn k => (outsAt0 m c n hn).2.2.2.2.2 (ix2 0 k)) (ogShare m c) (fun t h k => (point_first m c t h).2.2.2.2.2 k) (fun t h k => (point_next m c t h).2.2.2.2.2 k) t ht k).trans ?_
  refine Eq.trans ?_ (val_main_v77_sum _ _ _ _ _ _ k).symm
  refine Fin.sum_mul_add_congr (S := 64) (n := 128) (fun s r hl => ?_)
  exact congrArg (val_main_v75 (F := Ideal) (m (c, main_arg0)) (m (c, main_arg1)) (m (c, main_arg2)) (m (c, main_arg3)) (m (c, main_arg4)) (m (c, main_arg5))) (congrArg (fun a => ix2 a k) (by blk_ext [rowOf, pt]))

/-- The gradient of the last norm's weight. -/
theorem array_og : (dats m 0 c).arrAt 13 cfg0.N = val_main_v77 (F := Ideal) (m (c, main_arg0)) (m (c, main_arg1)) (m (c, main_arg2)) (m (c, main_arg3)) (m (c, main_arg4)) (m (c, main_arg5)) := by
  refine (dats m 0 c).arrAt_eq_of_after_last 13 ⟨63, by rw [show cfg0.N = 64 from N_0]; decide⟩ (by decide +kernel) _ fun j => ?_
  refine (cast_eq _ _).trans ((last_og m c ⟨63, by rw [show cfg0.N = 64 from N_0]; decide⟩ N_0.symm _).trans (congrArg (val_main_v77 (F := Ideal) (m (c, main_arg0)) (m (c, main_arg1)) (m (c, main_arg2)) (m (c, main_arg3)) (m (c, main_arg4)) (m (c, main_arg5))) ?_))
  blk_ext []

end Cert.Gm
-- ==== Proof.GmClaim.lean ====
/-
  The claims about the spatial-gating backward kernel: its frames, its reference's frame, and that its six results are the
  reference's, with no condition on the arguments.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel2Ideal.Value
public import proofs.«01_k».proof.Proof.GmSum
public import Idealize.ShloMosaic.Lib.Claim

@[expose] public section

namespace Cert.Gm

open Idealize.ShloMosaic Idealize.ShloMosaic.TcCoe
open Idealize.SL Idealize.SL.Sem
open Cert.Reference2Ideal.Read

theorem quiescent_kernel : Cert.quiescent_Kernel2 (hKernel2 := Cert.Kernel2.Gen.facts) := fun m ρ _ => Cert.Kernel2.Gen.frame m ρ

theorem quiescent_ideal : Cert.quiescent_Kernel2Ideal (hKernel2Ideal := Cert.Kernel2Ideal.Gen.facts) := fun m ρ _ => Cert.Kernel2Ideal.Gen.frame m ρ

theorem quiescent_reference : Cert.quiescent_Reference2Ideal (hReference2Ideal := Cert.Reference2Ideal.Gen.facts) :=
  fun m ρ _ => (θ_run Cert.Reference2Ideal.defs _ _).mono
    (fun r h => ⟨fun c => (h c).2.2.2.2.2.2, sem_eq_zero_of_no_sems (by decide) r.2⟩)
    (Cert.Reference2Ideal.Value.run m ρ)

section Kernel

open Cert.Kernel2Ideal Cert.Kernel2Ideal.Gen

variable (m : (ℓ : Loc nD τ sig) → Buf (Elt Ideal) ℓ) (ρ : Dev nD → PrngReg)

/-- The kernel's run: its six results in the reference's terms, its arguments unchanged. -/
theorem run_kernel : θ_run defs (onTc (τ := τ) (main (F := Ideal))) ⟨m, fun _ => 0, ρ⟩ (fun r => ∀ c : Dev nD,
      r.2.mem ((c.tc : Thread nD τ).loc main_v7_0) = val_main_v161 (F := Ideal) (m (c, main_arg0)) (m (c, main_arg1)) (m (c, main_arg2)) (m (c, main_arg3)) (m (c, main_arg4)) (m (c, main_arg5)) (m (c, main_arg6))
      ∧ r.2.mem ((c.tc : Thread nD τ).loc main_v7_1) = val_main_v111 (F := Ideal) (m (c, main_arg0)) (m (c, main_arg1)) (m (c, main_arg2)) (m (c, main_arg3)) (m (c, main_arg4)) (m (c, main_arg5)) (m (c, main_arg6))
      ∧ r.2.mem ((c.tc : Thread nD τ).loc main_v7_2) = val_main_v108 (F := Ideal) (m (c, main_arg0)) (m (c, main_arg1)) (m (c, main_arg2)) (m (c, main_arg3)) (m (c, main_arg4)) (m (c, main_arg5)) (m (c, main_arg6))
      ∧ r.2.mem ((c.tc : Thread nD τ).loc main_v7_3) = val_main_v162 (F := Ideal) (m (c, main_arg0)) (m (c, main_arg1)) (m (c, main_arg2)) (m (c, main_arg3)) (m (c, main_arg4)) (m (c, main_arg5)) (m (c, main_arg6))
      ∧ r.2.mem ((c.tc : Thread nD τ).loc main_v7_4) = val_main_v164 (F := Ideal) (m (c, main_arg0)) (m (c, main_arg1)) (m (c, main_arg2)) (m (c, main_arg3)) (m (c, main_arg4)) (m (c, main_arg5)) (m (c, main_arg6))
      ∧ r.2.mem ((c.tc : Thread nD τ).loc main_v7_5) = val_main_v77 (F := Ideal) (m (c, main_arg0)) (m (c, main_arg1)) (m (c, main_arg2)) (m (c, main_arg3)) (m (c, main_arg4)) (m (c, main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c =>
    let ⟨h0, h1, h2, h3, h4, h5, rest⟩ := h c
    ⟨h0.trans (array_duv m c), h1.trans (array_lg m c), h2.trans (array_lb m c), h3.trans (array_w m c), h4.trans (array_bs m c),
      h5.trans (array_og m c), rest⟩) (Cert.Kernel2Ideal.Value.run_blocks m ρ)

end Kernel

theorem algebraic : Cert.algebraic_Kernel2Ideal_Reference2Ideal (hKernel2Ideal := Cert.Kernel2Ideal.Gen.facts)
    (hReference2Ideal := Cert.Reference2Ideal.Gen.facts) := by
  intro m g m' g' _ hargs
  refine ⟨_, _, _, _, _, _, run_kernel m g, (θ_run Cert.Reference2Ideal.defs _ _).mono (fun r h c => ?_) (Cert.Reference2Ideal.Value.run m' g')⟩
  obtain ⟨r0, r1, r2, r3, r4, r5, rest⟩ := h c
  obtain ⟨a0, a1, a2, a3, a4, a5, a6⟩ := hargs c
  have e0 : StableHlo.launchContents m' c (Proc.devRef .tc Cert.Reference2Ideal.main_arg0) = m (c, Cert.Kernel2Ideal.main_arg0) := a0
  have e1 : StableHlo.launchContents m' c (Proc.devRef .tc Cert.Reference2Ideal.main_arg1) = m (c, Cert.Kernel2Ideal.main_arg1) := a1
  have e2 : StableHlo.launchContents m' c (Proc.devRef .tc Cert.Reference2Ideal.main_arg2) = m (c, Cert.Kernel2Ideal.main_arg2) := a2
  have e3 : StableHlo.launchContents m' c (Proc.devRef .tc Cert.Reference2Ideal.main_arg3) = m (c, Cert.Kernel2Ideal.main_arg3) := a3
  have e4 : StableHlo.launchContents m' c (Proc.devRef .tc Cert.Reference2Ideal.main_arg4) = m (c, Cert.Kernel2Ideal.main_arg4) := a4
  have e5 : StableHlo.launchContents m' c (Proc.devRef .tc Cert.Reference2Ideal.main_arg5) = m (c, Cert.Kernel2Ideal.main_arg5) := a5
  have e6 : StableHlo.launchContents m' c (Proc.devRef .tc Cert.Reference2Ideal.main_arg6) = m (c, Cert.Kernel2Ideal.main_arg6) := a6
  refine ⟨r0.trans ((val_main_v161_eq (StableHlo.launchContents m' c)).trans ?_), r1.trans ((val_main_v111_eq (StableHlo.launchContents m' c)).trans ?_), r2.trans ((val_main_v108_eq (StableHlo.launchContents m' c)).trans ?_),
    r3.trans ((val_main_v162_eq (StableHlo.launchContents m' c)).trans ?_), r4.trans ((val_main_v164_eq (StableHlo.launchContents m' c)).trans ?_), r5.trans ((val_main_v77_eq (StableHlo.launchContents m' c)).trans ?_), rest⟩
  · rw [e0, e1, e2, e3, e4, e5, e6]
  · rw [e0, e1, e2, e3, e4, e5, e6]
  · rw [e0, e1, e2, e3, e4, e5, e6]
  · rw [e0, e1, e2, e3, e4, e5, e6]
  · rw [e0, e1, e2, e3, e4, e5, e6]
  · rw [e0, e1, e2, e3, e4, e5]

end Cert.Gm
-- ==== Proof.SsdScan.lean ====
/-
  Running sums and finite values over the extended reals: jnp's cumulative sum of the last axis, and which operations keep
  an entry finite.
-/
module

public import Idealize.ShloMosaic.PureOps.Ideal
public import Idealize.ShloMosaic.Lib.Pointwise

@[expose] public section

namespace Cert.Ssd

open Idealize.ShloMosaic

/-! ## The cumulative sum -/

theorem foldl_sum {n : ℕ} (g : Fin n → EReal) (v : EReal) : (List.finRange n).foldl (fun r q => r + g q) v = v + ∑ q, g q := by
  have h : ∀ (L : List (Fin n)) (v : EReal), L.foldl (fun r q => r + g q) v = v + (L.map g).sum := fun L => by
    induction L with
    | nil => intro v; simp
    | cons q L ih => intro v; rw [List.foldl_cons, ih, List.map_cons, List.sum_cons, add_assoc]
  rw [h, Fin.sum_univ_def]

/-- A window that ends at `l` and is cut off at the start sums the entries up to `l`. -/
theorem window_sum {k : ℕ} (f g : Fin (k + 1) → EReal) (l : Fin (k + 1))
    (hg : ∀ q : Fin (k + 1), g q = if h : k ≤ l.val + q.val then f ⟨l.val + q.val - k, by omega⟩ else 0) :
    ∑ q, g q = ∑ s, if s ≤ l then f s else 0 := by
  refine Fintype.sum_equiv
    ⟨fun q => if h : k ≤ l.val + q.val then ⟨l.val + q.val - k, by omega⟩ else ⟨l.val + q.val + 1, by omega⟩,
     fun s => if h : s.val ≤ l.val then ⟨s.val + k - l.val, by omega⟩ else ⟨s.val - l.val - 1, by omega⟩, ?_, ?_⟩ _ _ fun q => ?_
  · intro q
    refine Fin.ext ?_
    dsimp only
    split_ifs with h1 h2 h2 <;> dsimp only at h2 ⊢ <;> omega
  · intro s
    refine Fin.ext ?_
    dsimp only
    split_ifs with h1 h2 h2 <;> dsimp only at h2 ⊢ <;> omega
  · rw [hg]
    simp only [Equiv.coe_fn_mk]
    by_cases h : k ≤ l.val + q.val
    · rw [dif_pos h, dif_pos h, if_pos (by rw [Fin.le_def]; dsimp only; omega)]
    · rw [dif_neg h, dif_neg h, if_neg (by rw [Fin.le_def]; dsimp only; omega)]

theorem cumsum4 {a b c k : ℕ} (x : (⟨4, ![a, b, c, k + 1]⟩ : Shape).Idx → EReal)
    (h : (⟨4, ![a, b, c, k + 1]⟩ : Shape).ReduceWindows ![1, 1, 1, k + 1] ![1, 1, 1, 1] ![0, 0, 0, k] ![0, 0, 0, 0] ⟨4, ![a, b, c, k + 1]⟩)
    (i : Fin a) (j : Fin b) (t : Fin c) (l : Fin (k + 1)) :
    Ideal.hostReduceWindowAdd ![1, 1, 1, k + 1] ![1, 1, 1, 1] ![0, 0, 0, k] ![0, 0, 0, 0] h x 0 (ix4 i j t l)
      = ∑ s, if s ≤ l then x (ix4 i j t s) else 0 := by
  unfold Ideal.hostReduceWindowAdd Host.reduceWindow
  refine (foldl_sum _ _).trans ?_
  rw [zero_add]
  let W : Shape := ⟨4, ![1, 1, 1, k + 1]⟩
  refine (Equiv.sum_comp W.rowMajor _).symm.trans ?_
  refine (sum_idx4 _).trans ?_
  simp only [Finset.univ_unique, Finset.sum_singleton, W, Equiv.symm_apply_apply]
  refine window_sum (fun s => x (ix4 i j t s)) _ l fun q => ?_
  by_cases hq : k ≤ l.val + q.val
  · rw [dif_pos hq, dif_pos]
    · refine congrArg x (funext fun e => Fin.ext ?_)
      fin_cases e
      · change i.val * 1 + 0 - 0 = i.val; omega
      · change j.val * 1 + 0 - 0 = j.val; omega
      · change t.val * 1 + 0 - 0 = t.val; omega
      · change l.val * 1 + q.val - k = l.val + q.val - k; omega
    · intro e
      fin_cases e
      · change 0 ≤ i.val * 1 + 0 ∧ i.val * 1 + 0 - 0 < a; omega
      · change 0 ≤ j.val * 1 + 0 ∧ j.val * 1 + 0 - 0 < b; omega
      · change 0 ≤ t.val * 1 + 0 ∧ t.val * 1 + 0 - 0 < c; omega
      · change k ≤ l.val * 1 + q.val ∧ l.val * 1 + q.val - k < k + 1; omega
  · rw [dif_neg hq, dif_neg]
    intro hall
    have h3 : k ≤ l.val * 1 + q.val := (hall 3).1
    omega

theorem cumsum3 {a b k : ℕ} (x : (⟨3, ![a, b, k + 1]⟩ : Shape).Idx → EReal)
    (h : (⟨3, ![a, b, k + 1]⟩ : Shape).ReduceWindows ![1, 1, k + 1] ![1, 1, 1] ![0, 0, k] ![0, 0, 0] ⟨3, ![a, b, k + 1]⟩)
    (i : Fin a) (j : Fin b) (l : Fin (k + 1)) :
    Ideal.hostReduceWindowAdd ![1, 1, k + 1] ![1, 1, 1] ![0, 0, k] ![0, 0, 0] h x 0 (ix3 i j l)
      = ∑ s, if s ≤ l then x (ix3 i j s) else 0 := by
  unfold Ideal.hostReduceWindowAdd Host.reduceWindow
  refine (foldl_sum _ _).trans ?_
  rw [zero_add]
  let W : Shape := ⟨3, ![1, 1, k + 1]⟩
  refine (Equiv.sum_comp W.rowMajor _).symm.trans ?_
  refine (sum_idx3 _).trans ?_
  simp only [Finset.univ_unique, Finset.sum_singleton, W, Equiv.symm_apply_apply]
  refine window_sum (fun s => x (ix3 i j s)) _ l fun q => ?_
  by_cases hq : k ≤ l.val + q.val
  · rw [dif_pos hq, dif_pos]
    · refine congrArg x (funext fun e => Fin.ext ?_)
      fin_cases e
      · change i.val * 1 + 0 - 0 = i.val; omega
      · change j.val * 1 + 0 - 0 = j.val; omega
      · change l.val * 1 + q.val - k = l.val + q.val - k; omega
    · intro e
      fin_cases e
      · change 0 ≤ i.val * 1 + 0 ∧ i.val * 1 + 0 - 0 < a; omega
      · change 0 ≤ j.val * 1 + 0 ∧ j.val * 1 + 0 - 0 < b; omega
      · change k ≤ l.val * 1 + q.val ∧ l.val * 1 + q.val - k < k + 1; omega
  · rw [dif_neg hq, dif_neg]
    intro hall
    have h2 : k ≤ l.val * 1 + q.val := (hall 2).1
    omega

/-! ## Finite entries -/

/-- An entry that is a real number. -/
def IsReal (x : EReal) : Prop := ∃ r : ℝ, x = r

theorem IsReal.zero : IsReal 0 := ⟨0, rfl⟩
theorem IsReal.one : IsReal 1 := ⟨1, rfl⟩
theorem IsReal.add {x y : EReal} : IsReal x → IsReal y → IsReal (x + y) := by
  rintro ⟨a, rfl⟩ ⟨b, rfl⟩
  exact ⟨a + b, (EReal.coe_add a b).symm⟩
theorem IsReal.sub {x y : EReal} : IsReal x → IsReal y → IsReal (x - y) := by
  rintro ⟨a, rfl⟩ ⟨b, rfl⟩
  exact ⟨a - b, (EReal.coe_sub a b).symm⟩
theorem IsReal.neg {x : EReal} : IsReal x → IsReal (-x) := by
  rintro ⟨a, rfl⟩
  exact ⟨-a, (EReal.coe_neg a).symm⟩
theorem IsReal.mul {x y : EReal} : IsReal x → IsReal y → IsReal (x * y) := by
  rintro ⟨a, rfl⟩ ⟨b, rfl⟩
  exact ⟨a * b, (EReal.coe_mul a b).symm⟩
theorem IsReal.max {x y : EReal} (hx : IsReal x) (hy : IsReal y) : IsReal (max x y) := by
  rcases max_choice x y with h | h <;> rw [h] <;> assumption
theorem IsReal.exp {x : EReal} : IsReal x → IsReal (Ideal.exp x) := by
  rintro ⟨a, rfl⟩
  exact ⟨_, Ideal.exp_coe a⟩
theorem IsReal.log1p_exp {x : EReal} : IsReal x → IsReal (Ideal.log1p (Ideal.exp x)) := by
  rintro ⟨a, rfl⟩
  have h : (1 : EReal) + ((Real.exp a : ℝ) : EReal) = ((1 + Real.exp a : ℝ) : EReal) := by rw [EReal.coe_add, EReal.coe_one]
  rw [Ideal.exp_coe, Ideal.log1p, h, Ideal.log_coe, if_neg (not_le.mpr (by positivity))]
  exact ⟨_, rfl⟩
theorem IsReal.sum {ι : Type} (s : Finset ι) (f : ι → EReal) (h : ∀ i, IsReal (f i)) : IsReal (∑ i ∈ s, f i) := by
  classical
  induction s using Finset.induction_on with
  | empty => exact ⟨0, by simp⟩
  | insert i s hi ih => rw [Finset.sum_insert hi]; exact (h i).add ih

theorem IsReal.sub_self {x : EReal} : IsReal x → x - x = 0 := by
  rintro ⟨a, rfl⟩
  rw [← EReal.coe_sub, _root_.sub_self]
  rfl

/-- An entry below infinity in absolute value is a real number. -/
theorem IsReal.of_abs {x : EReal} (h : Max.max x (-x) < ⊤) : IsReal x := by
  induction x using EReal.rec with
  | bot => exact absurd h (by simp)
  | top => exact absurd h (by simp)
  | coe r => exact ⟨r, rfl⟩

/-- A real factor which is not negative distributes over every sum. -/
theorem add_mul_real {x y f : EReal} (hf : IsReal f) (h0 : 0 ≤ f) : (x + y) * f = x * f + y * f := by
  obtain ⟨r, rfl⟩ := hf
  exact EReal.right_distrib_of_nonneg_of_ne_top h0 (EReal.coe_ne_top r) x y

theorem exp_nonneg (x : EReal) : 0 ≤ Ideal.exp x := by
  induction x using EReal.rec with
  | bot => exact le_rfl
  | top => exact le_top
  | coe r => rw [Ideal.exp_coe]; exact_mod_cast (Real.exp_pos r).le

theorem exp_add_real {x y : EReal} : IsReal x → IsReal y → Ideal.exp (x + y) = Ideal.exp x * Ideal.exp y := by
  rintro ⟨a, rfl⟩ ⟨b, rfl⟩
  rw [← EReal.coe_add, Ideal.exp_coe, Ideal.exp_coe, Ideal.exp_coe, Real.exp_add, EReal.coe_mul]

theorem sum_mul_real {ι : Type} (s : Finset ι) (g : ι → EReal) {f : EReal} (hf : IsReal f) (h0 : 0 ≤ f) : (∑ i ∈ s, g i) * f = ∑ i ∈ s, g i * f := by
  classical
  induction s using Finset.induction_on with
  | empty => simp
  | insert i s hi ih => rw [Finset.sum_insert hi, Finset.sum_insert hi, add_mul_real hf h0, ih]

end Cert.Ssd
-- ==== Proof.SsdPoint.lean ====
/-
  The pieces of one chunk of the state-space forward kernel, read over the extended reals: the running sums of the decay
  rates, and the spreading of a head's value over the head's columns.
-/
module

public import proofs.«01_k».proof.Proof.Gen.Kernel7Ideal.Skeleton
public import proofs.«01_k».proof.Proof.Gen.Reference7Ideal.Read
public import proofs.«01_k».proof.Proof.GmPoint
public import proofs.«01_k».proof.Proof.SsdScan

@[expose] public section

set_option maxRecDepth 16384

namespace Cert.Ssd

open Cert.Kernel7Ideal Cert.Kernel7Ideal.Gen
open Cert.Reference7Ideal.Read
open Cert.Gm (ext2 chunk rowOf)
open Idealize.ShloMosaic Idealize.ShloMosaic.TcCoe

/-! ## Masks -/

theorem not_after : ∀ l s : Fin 128, IntOp.cmpi CmpIPredicate.sge (BitVec.ofNat 32 l.val) (BitVec.ofNat 32 s.val) = if s ≤ l then 1#1 else 0#1 := by
  decide +kernel

theorem not_before : ∀ s l : Fin 128, IntOp.cmpi CmpIPredicate.sle (BitVec.ofNat 32 s.val) (BitVec.ofNat 32 l.val) = if s ≤ l then 1#1 else 0#1 := by
  decide +kernel

theorem not_after_chunk : ∀ l s : Fin 65, IntOp.cmpi CmpIPredicate.sge (BitVec.ofNat 32 l.val) (BitVec.ofNat 32 s.val) = if s ≤ l then 1#1 else 0#1 := by
  decide +kernel

theorem of_bit (P : Prop) [Decidable P] : FloatOps.sitofp (F := Ideal) FTy.f32 (BitVec.setWidth 32 (if P then 1#1 else 0#1)) = if P then (1 : EReal) else 0 := by
  split_ifs
  · show (((BitVec.setWidth 32 1#1).toInt : ℝ) : EReal) = 1
    norm_num
  · show (((BitVec.setWidth 32 0#1).toInt : ℝ) : EReal) = 0
    norm_num

theorem select_bit {P : Prop} [Decidable P] (a b : EReal) : Scalar.select (if P then 1#1 else 0#1) a b = if P then a else b := by
  split_ifs <;> rfl

/-- The rows of ones at each head's own 64 columns. -/
noncomputable def owner : FVec Ideal S16x1024 .bf16 := k0_pay11 (iota .tc S16x1024 32 [1] iota_S16x1024_d1_w32) k0_pay8 k0_pay9 k0_pay10

theorem head_of_col : ∀ j : Fin 1024, Scalar.select
            (IntOp.andi
              (IntOp.cmpi CmpIPredicate.ne
                (IntOp.subi (BitVec.setWidth 32 (IntOp.cmpi CmpIPredicate.sgt (BitVec.ofNat 32 j.val) 0#32))
                  (BitVec.setWidth 32 (IntOp.cmpi CmpIPredicate.slt (BitVec.ofNat 32 j.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 j.val) 64#32) 0#32))
            (IntOp.subi (IntOp.divsi ArithUnit.vector (BitVec.ofNat 32 j.val) 64#32) 1#32)
            (IntOp.divsi ArithUnit.vector (BitVec.ofNat 32 j.val) 64#32) = BitVec.ofNat 32 (j.val / 64) := by
  decide +kernel

theorem same_head : ∀ a b : Fin 16, IntOp.cmpi CmpIPredicate.eq (BitVec.ofNat 32 a.val) (BitVec.ofNat 32 b.val) = if a = b then 1#1 else 0#1 := by
  decide +kernel

/-- The head of a column. -/
def headOf (j : Fin 1024) : Fin 16 := ⟨j.val / 64, by omega⟩

theorem owner_at (h : Fin 16) (j : Fin 1024) : owner (ix2 h j) = if headOf j = h then 1 else 0 := by
  pointwise [owner, k0_pay11, k0_pay8, k0_pay9, k0_pay10]
  rw [head_of_col, ← of_bit, ← same_head]
  rfl

/-! ## A head's value at each of its columns -/

/-- Row `l`'s value of the head of column `j`. -/
def spread {n : ℕ} (X : FVec Ideal ⟨2, ![n, 16]⟩ .f32) : FVec Ideal ⟨2, ![n, 1024]⟩ .f32 := fun y => X (ix2 (y 0) (headOf (y 1)))

theorem pick_sum (f : Fin 16 → EReal) (j : Fin 1024) : ∑ h, f h * owner (ix2 h j) = f (headOf j) := by
  simp only [owner_at]
  simp

theorem three_parts {n : ℕ} (X : FVec Ideal ⟨2, ![n, 16]⟩ .f32) (hX : ∀ l h, IsReal (X (ix2 l h))) (l : Fin n) (j : Fin 1024) :
    ∑ h, X (ix2 l h) * owner (ix2 h j) + ∑ h, (X (ix2 l h) - X (ix2 l h)) * owner (ix2 h j)
      + ∑ h, (X (ix2 l h) - X (ix2 l h) - (X (ix2 l h) - X (ix2 l h))) * owner (ix2 h j) = spread X (ix2 l j) := by
  rw [pick_sum (fun h => X (ix2 l h)), pick_sum (fun h => X (ix2 l h) - X (ix2 l h)), pick_sum (fun h => X (ix2 l h) - X (ix2 l h) - (X (ix2 l h) - X (ix2 l h)))]
  rw [(hX l (headOf j)).sub_self, sub_zero, add_zero, add_zero]
  rfl

theorem spread_steps (X : FVec Ideal S128x16 .f32) (hX : ∀ l h, IsReal (X (ix2 l h))) : k0_pay20 owner X = spread X := by
  refine ext2 128 1024 fun l j => Eq.trans ?_ (three_parts X hX l j)
  pointwise [k0_pay20]

theorem spread_decay (X : FVec Ideal S128x16 .f32) (hX : ∀ l h, IsReal (X (ix2 l h))) : k0_pay21 owner X = spread (exp X) := by
  refine ext2 128 1024 fun l j => Eq.trans ?_ (three_parts (exp X) (fun l h => (hX l h).exp) l j)
  pointwise [k0_pay21]

theorem spread_skip (X : FVec Ideal S1x16 .f32) (hX : ∀ l h, IsReal (X (ix2 l h))) : k0_pay28 X owner = spread X := by
  refine ext2 1 1024 fun l j => Eq.trans ?_ (three_parts X hX l j)
  pointwise [k0_pay28]

theorem spread_whole (X : FVec Ideal S1x16 .f32) (hX : ∀ l h, IsReal (X (ix2 l h))) : k0_pay27 owner X = spread (exp X) := by
  refine ext2 1 1024 fun l j => Eq.trans ?_ (three_parts (exp X) (fun l h => (hX l h).exp) l j)
  pointwise [k0_pay27]

theorem spread_left (Y : FVec Ideal S128x16 .f32) (A B : FVec Ideal S128x1024 .f32) (hY : ∀ l h, IsReal (k0_pay22 Y (ix2 l h))) :
    k0_pay30 owner A B (k0_pay23 Y) (k0_pay25 Y) (k0_pay26 Y) = mulf (k0_pay29 A B) (spread (k0_pay22 Y)) := by
  refine ext2 128 1024 fun l j => ?_
  have e := three_parts (k0_pay22 Y) hY l j
  pointwise [k0_pay30, k0_pay23, k0_pay25, k0_pay26, k0_pay24]
  exact congrArg (_ * ·) e

/-! ## Running sums -/

/-- The running sums of the columns. -/
noncomputable def running (X : FVec Ideal S128x16 .f32) : FVec Ideal S128x16 .f32 := fun y => ∑ s : Fin 128, if s ≤ y 0 then X (ix2 s (y 1)) else 0

theorem running_real (X : FVec Ideal S128x16 .f32) (hX : ∀ l h, IsReal (X (ix2 l h))) (l : Fin 128) (h : Fin 16) : IsReal (running X (ix2 l h)) :=
  IsReal.sum _ _ fun s => by
    split_ifs
    · exact hX s h
    · exact IsReal.zero

theorem masked_sum (f : Fin 128 → EReal) (l : Fin 128) : ∑ s, f s * (if s ≤ l then (1 : EReal) else 0) = ∑ s, if s ≤ l then f s else 0 :=
  Finset.sum_congr rfl fun s _ => by
    split_ifs
    · exact mul_one _
    · exact mul_zero _

theorem three_sums (X : FVec Ideal S128x16 .f32) (hX : ∀ l h, IsReal (X (ix2 l h))) (l : Fin 128) (h : Fin 16) :
    ∑ s : Fin 128, X (ix2 s h) * (if s ≤ l then (1 : EReal) else 0) + ∑ s : Fin 128, (X (ix2 s h) - X (ix2 s h)) * (if s ≤ l then (1 : EReal) else 0)
      + ∑ s : Fin 128, (X (ix2 s h) - X (ix2 s h) - (X (ix2 s h) - X (ix2 s h))) * (if s ≤ l then (1 : EReal) else 0) = running X (ix2 l h) := by
  have z (s : Fin 128) : X (ix2 s h) - X (ix2 s h) = 0 := (hX s h).sub_self
  simp only [z, sub_zero, zero_mul, Finset.sum_const_zero, add_zero]
  exact masked_sum (fun s => X (ix2 s h)) l

theorem running_rows (a : FVec Ideal S128x16 .f32) (b d : Vec Ideal S1x16 .f32) (hX : ∀ l h, IsReal (k0_pay15 a b d (ix2 l h))) :
    k0_pay16 a b d k0_pay7 = running (k0_pay15 a b d) := by
  refine ext2 128 16 fun l h => Eq.trans ?_ (three_sums _ hX l h)
  generalize he : k0_pay15 a b d = X
  pointwise [k0_pay16, k0_pay7]
  rw [he]
  simp only [not_after, of_bit, mul_comm]

theorem running_cols (X : FVec Ideal S128x16 .f32) (hX : ∀ l h, IsReal (X (ix2 l h))) :
    k0_pay18 X (k0_pay17 (iota .tc S128x128 32 [0] iota_S128x128_d0_w32) (iota .tc S128x128 32 [1] iota_S128x128_d1_w32)) = fun y => running X (ix2 (y 1) (y 0)) := by
  refine ext2 16 128 fun h l => Eq.trans ?_ (three_sums X hX l h)
  pointwise [k0_pay18, k0_pay17]
  simp only [not_before, of_bit]

end Cert.Ssd
-- ==== Proof.SsdChunk.lean ====
/-
  One chunk of the state-space forward kernel as a function of its rows and of the state entering it.
-/
module

public import proofs.«01_k».proof.Proof.SsdPoint

@[expose] public section

set_option maxRecDepth 16384

namespace Cert.Ssd

open Cert.Kernel7Ideal Cert.Kernel7Ideal.Gen
open Cert.Gm (ext2 chunk rowOf)
open Idealize.ShloMosaic Idealize.ShloMosaic.TcCoe

/-! ## The part within the chunk -/

/-- One head: its decayed inner products times its columns. -/
noncomputable def headY (B : FVec Ideal S128x128 .f32) (R : FVec Ideal S128x16 .f32) (Q : FVec Ideal S16x128 .f32) (X : FVec Ideal S128x1024 .f32) (o p : ℕ)
    (h1 : S128x16.Slices ![0, p] S128x1) (h2 : S16x128.Slices ![p, 0] S1x128) (h3 : S128x1024.Slices ![0, o] S128x64) : FVec Ideal S128x64 .f32 :=
  matmul dot_S128x128_S128x64_S128x64_1_0_0_1_n_n none
    (truncf .bf16 (mulf B (exp (select k0_pay7
      (subf (broadcastTo S128x128 (extractStridedSlice S128x1 ![0, p] R h1) broadcasts_S128x1_S128x128)
        (broadcastTo S128x128 (extractStridedSlice S1x128 ![p, 0] Q h2) broadcasts_S1x128_S128x128))
      (broadcast S128x128 (Scalar.ofBits (F := Ideal) .f32 0xFF800000#32))))) bitsLt_bf16_f32)
    (truncf .bf16 (extractStridedSlice S128x64 ![0, o] X h3) bitsLt_bf16_f32) (constant S128x64 .f32 0x00000000#32)

/-- The sixteen heads side by side; the first eight share one group's inner products, the others the other's. -/
noncomputable def heads (B B' : FVec Ideal S128x128 .f32) (R : FVec Ideal S128x16 .f32) (Q : FVec Ideal S16x128 .f32) (X : FVec Ideal S128x1024 .f32) : FVec Ideal S128x1024 .f32 :=
  concatenate S128x1024 1 [
    ⟨S128x64, headY B R Q X 0 0 slices_S128x16_o0_0_S128x1 slices_S16x128_o0_0_S1x128 slices_S128x1024_o0_0_S128x64⟩,
    ⟨S128x64, headY B R Q X 64 1 slices_S128x16_o0_1_S128x1 slices_S16x128_o1_0_S1x128 slices_S128x1024_o0_64_S128x64⟩,
    ⟨S128x64, headY B R Q X 128 2 slices_S128x16_o0_2_S128x1 slices_S16x128_o2_0_S1x128 slices_S128x1024_o0_128_S128x64⟩,
    ⟨S128x64, headY B R Q X 192 3 slices_S128x16_o0_3_S128x1 slices_S16x128_o3_0_S1x128 slices_S128x1024_o0_192_S128x64⟩,
    ⟨S128x64, headY B R Q X 256 4 slices_S128x16_o0_4_S128x1 slices_S16x128_o4_0_S1x128 slices_S128x1024_o0_256_S128x64⟩,
    ⟨S128x64, headY B R Q X 320 5 slices_S128x16_o0_5_S128x1 slices_S16x128_o5_0_S1x128 slices_S128x1024_o0_320_S128x64⟩,
    ⟨S128x64, headY B R Q X 384 6 slices_S128x16_o0_6_S128x1 slices_S16x128_o6_0_S1x128 slices_S128x1024_o0_384_S128x64⟩,
    ⟨S128x64, headY B R Q X 448 7 slices_S128x16_o0_7_S128x1 slices_S16x128_o7_0_S1x128 slices_S128x1024_o0_448_S128x64⟩,
    ⟨S128x64, headY B' R Q X 512 8 slices_S128x16_o0_8_S128x1 slices_S16x128_o8_0_S1x128 slices_S128x1024_o0_512_S128x64⟩,
    ⟨S128x64, headY B' R Q X 576 9 slices_S128x16_o0_9_S128x1 slices_S16x128_o9_0_S1x128 slices_S128x1024_o0_576_S128x64⟩,
    ⟨S128x64, headY B' R Q X 640 10 slices_S128x16_o0_10_S128x1 slices_S16x128_o10_0_S1x128 slices_S128x1024_o0_640_S128x64⟩,
    ⟨S128x64, headY B' R Q X 704 11 slices_S128x16_o0_11_S128x1 slices_S16x128_o11_0_S1x128 slices_S128x1024_o0_704_S128x64⟩,
    ⟨S128x64, headY B' R Q X 768 12 slices_S128x16_o0_12_S128x1 slices_S16x128_o12_0_S1x128 slices_S128x1024_o0_768_S128x64⟩,
    ⟨S128x64, headY B' R Q X 832 13 slices_S128x16_o0_13_S128x1 slices_S16x128_o13_0_S1x128 slices_S128x1024_o0_832_S128x64⟩,
    ⟨S128x64, headY B' R Q X 896 14 slices_S128x16_o0_14_S128x1 slices_S16x128_o14_0_S1x128 slices_S128x1024_o0_896_S128x64⟩,
    ⟨S128x64, headY B' R Q X 960 15 slices_S128x16_o0_15_S128x1 slices_S16x128_o15_0_S1x128 slices_S128x1024_o0_960_S128x64⟩]
    concatenates_S128x64_S128x64_S128x64_S128x64_S128x64_S128x64_S128x64_S128x64_S128x64_S128x64_S128x64_S128x64_S128x64_S128x64_S128x64_S128x64_S128x1024_d1

/-- A row's decayed inner product. -/
noncomputable def inner (B : FVec Ideal S128x128 .f32) (R : FVec Ideal S128x16 .f32) (X : FVec Ideal S128x1024 .f32) (l : Fin 128) (j : Fin 1024) : EReal :=
  ∑ s : Fin 128, B (ix2 l s) * Ideal.exp (if s ≤ l then R (ix2 l (headOf j)) - R (ix2 s (headOf j)) else ⊥) * X (ix2 s j)

theorem least_bits : Ideal.ofBits .f32 0xFF800000#32 = ⊥ := by simp [Ideal.ofBits, Ideal.ieee]

theorem headY_at (B : FVec Ideal S128x128 .f32) (R : FVec Ideal S128x16 .f32) (X : FVec Ideal S128x1024 .f32) (h : Fin 16) (h1 h2 h3) (l : Fin 128) (q : Fin 64) :
    headY B R (fun y => R (ix2 (y 1) (y 0))) X (h.val * 64) h.val h1 h2 h3 (ix2 l q) = inner B R X l ⟨h.val * 64 + q.val, by omega⟩ := by
  pointwise [headY, k0_pay7]
  refine Finset.sum_congr rfl fun s _ => ?_
  have e : headOf ⟨h.val * 64 + q.val, by omega⟩ = h := Fin.ext (by simp only [headOf]; omega)
  rw [not_after, select_bit, least_bits, e]

/-- Sixteen columns of blocks, each a part of the same tile, are that tile. -/
theorem join (Y : FVec Ideal S128x1024 .f32) (f : Fin 16 → FVec Ideal S128x64 .f32)
    (hf : ∀ (h : Fin 16) (l : Fin 128) (q : Fin 64), f h (ix2 l q) = Y (ix2 l ⟨h.val * 64 + q.val, by omega⟩)) :
    concatenate S128x1024 1 [⟨S128x64, f 0⟩, ⟨S128x64, f 1⟩, ⟨S128x64, f 2⟩, ⟨S128x64, f 3⟩, ⟨S128x64, f 4⟩, ⟨S128x64, f 5⟩, ⟨S128x64, f 6⟩, ⟨S128x64, f 7⟩,
      ⟨S128x64, f 8⟩, ⟨S128x64, f 9⟩, ⟨S128x64, f 10⟩, ⟨S128x64, f 11⟩, ⟨S128x64, f 12⟩, ⟨S128x64, f 13⟩, ⟨S128x64, f 14⟩, ⟨S128x64, f 15⟩]
      concatenates_S128x64_S128x64_S128x64_S128x64_S128x64_S128x64_S128x64_S128x64_S128x64_S128x64_S128x64_S128x64_S128x64_S128x64_S128x64_S128x64_S128x1024_d1 = Y := by
  refine ext2 128 1024 fun l j => ?_
  refine (concatenate_ofFn_apply (t := S128x1024) 1 f
    concatenates_S128x64_S128x64_S128x64_S128x64_S128x64_S128x64_S128x64_S128x64_S128x64_S128x64_S128x64_S128x64_S128x64_S128x64_S128x64_S128x64_S128x1024_d1
    rfl 64 rfl (ix2 l j) (headOf j) rfl (ix2 l ⟨j.val % 64, by omega⟩) rfl fun b hb => ?_).trans ?_
  · fin_cases b
    · rfl
    · exact absurd rfl hb
  · rw [hf]
    exact congrArg (fun i => Y (ix2 l i)) (Fin.ext (by simp only [headOf]; omega))

/-- Two groups of 512 columns side by side. -/
noncomputable def pair (A B : FVec Ideal S128x512 .f32) : FVec Ideal S128x1024 .f32 :=
  concatenate S128x1024 1 [⟨S128x512, A⟩, ⟨S128x512, B⟩] concatenates_S128x512_S128x512_S128x1024_d1

theorem pair_at (A B : FVec Ideal S128x512 .f32) (Y : FVec Ideal S128x1024 .f32) (hA : ∀ l q, A (ix2 l q) = Y (ix2 l ⟨q.val, by omega⟩))
    (hB : ∀ l q, B (ix2 l q) = Y (ix2 l ⟨512 + q.val, by omega⟩)) : pair A B = Y := by
  refine ext2 128 1024 fun l j => ?_
  pointwise [pair]
  split_ifs
  · rw [hA]
  · rw [hB]
    exact congrArg (fun i => Y (ix2 l i)) (Fin.ext (by simp; omega))
  · exact absurd rfl ‹_›

/-- The group of a column. -/
def groupOf (j : Fin 1024) : Fin 2 := ⟨j.val / 512, by omega⟩

/-- A group's columns of the second and of the third part of a row. -/
def colB (g : Fin 2) (n : Fin 128) : Fin 1536 := ⟨1024 + (g.val * 128 + n.val), by omega⟩
def colC (g : Fin 2) (n : Fin 128) : Fin 1536 := ⟨1280 + (g.val * 128 + n.val), by omega⟩

/-- The inner products of a group's two parts of the rows. -/
noncomputable def product (C : FVec Ideal S128x1536 .f32) (g : Fin 2) (l s : Fin 128) : EReal :=
  ∑ n : Fin 128, C (ix2 l (colC g n)) * C (ix2 s (colB g n))

noncomputable def products (C : FVec Ideal S128x1536 .f32) (g : Fin 2) : FVec Ideal S128x128 .f32 := fun y => product C g (y 0) (y 1)

theorem products_first (C : FVec Ideal S128x1536 .f32) : k0_pay33 C = products C 0 := by
  refine ext2 128 128 fun l s => ?_
  pointwise [k0_pay33, k0_pay32, k0_pay31, products, product]
  exact Finset.sum_congr rfl fun n _ => congrArg₂ _ (congrArg (fun i => C (ix2 l i)) (Fin.ext (by simp [colC]))) (congrArg (fun i => C (ix2 s i)) (Fin.ext (by simp [colB])))

theorem products_second (C : FVec Ideal S128x1536 .f32) :
    k0_pay50 (k0_pay48 C) (k0_pay49 C) (constant S128x128 .f32 0x00000000#32) = products C 1 := by
  refine ext2 128 128 fun l s => ?_
  pointwise [k0_pay50, k0_pay49, k0_pay48, products, product]
  exact Finset.sum_congr rfl fun n _ => congrArg₂ _ (congrArg (fun i => C (ix2 l i)) (Fin.ext (by simp [colC]; omega))) (congrArg (fun i => C (ix2 s i)) (Fin.ext (by simp [colB]; omega)))

/-- A chunk's own part, at every row and column. -/
noncomputable def innerCol (C : FVec Ideal S128x1536 .f32) (R : FVec Ideal S128x16 .f32) (X : FVec Ideal S128x1024 .f32) (l : Fin 128) (j : Fin 1024) : EReal :=
  inner (products C (groupOf j)) R X l j

noncomputable def innerAll (C : FVec Ideal S128x1536 .f32) (R : FVec Ideal S128x16 .f32) (X : FVec Ideal S128x1024 .f32) : FVec Ideal S128x1024 .f32 := fun y =>
  innerCol C R X (y 0) (y 1)

/-- A head's columns of a tile. -/
def colH (h : Fin 16) (q : Fin 64) : Fin 1024 := ⟨h.val * 64 + q.val, by omega⟩

def cut (h : Fin 16) (Y : FVec Ideal S128x1024 .f32) : FVec Ideal S128x64 .f32 := fun y => Y (ix2 (y 0) (colH h (y 1)))

theorem heads_eq (C : FVec Ideal S128x1536 .f32) (R : FVec Ideal S128x16 .f32) (X : FVec Ideal S128x1024 .f32) :
    heads (k0_pay33 C) (k0_pay50 (k0_pay48 C) (k0_pay49 C) (constant S128x128 .f32 0x00000000#32)) R (fun y => R (ix2 (y 1) (y 0))) X = innerAll C R X := by
  rw [products_first, products_second]
  refine Eq.trans ?_ (join (innerAll C R X) (fun h => cut h (innerAll C R X)) fun _ _ _ => rfl)
  have e0 (h : Fin 16) (hh : h.val < 8) (h1 h2 h3) : headY (products C 0) R (fun y => R (ix2 (y 1) (y 0))) X (h.val * 64) h.val h1 h2 h3 = cut h (innerAll C R X) := by
    refine ext2 128 64 fun l q => (headY_at _ R X h h1 h2 h3 l q).trans ?_
    have d : groupOf (colH h q) = 0 := Fin.ext (by simp only [groupOf, colH]; show _ = 0; omega)
    show _ = inner (products C (groupOf (colH h q))) R X l (colH h q)
    rw [d]
    rfl
  have e1 (h : Fin 16) (hh : 8 ≤ h.val) (h1 h2 h3) : headY (products C 1) R (fun y => R (ix2 (y 1) (y 0))) X (h.val * 64) h.val h1 h2 h3 = cut h (innerAll C R X) := by
    refine ext2 128 64 fun l q => (headY_at _ R X h h1 h2 h3 l q).trans ?_
    have d : groupOf (colH h q) = 1 := Fin.ext (by simp only [groupOf, colH]; show _ = 1; omega)
    show _ = inner (products C (groupOf (colH h q))) R X l (colH h q)
    rw [d]
    rfl
  unfold heads
  rw [← e0 0 (by decide) slices_S128x16_o0_0_S128x1 slices_S16x128_o0_0_S1x128 slices_S128x1024_o0_0_S128x64,
    ← e0 1 (by decide) slices_S128x16_o0_1_S128x1 slices_S16x128_o1_0_S1x128 slices_S128x1024_o0_64_S128x64,
    ← e0 2 (by decide) slices_S128x16_o0_2_S128x1 slices_S16x128_o2_0_S1x128 slices_S128x1024_o0_128_S128x64,
    ← e0 3 (by decide) slices_S128x16_o0_3_S128x1 slices_S16x128_o3_0_S1x128 slices_S128x1024_o0_192_S128x64,
    ← e0 4 (by decide) slices_S128x16_o0_4_S128x1 slices_S16x128_o4_0_S1x128 slices_S128x1024_o0_256_S128x64,
    ← e0 5 (by decide) slices_S128x16_o0_5_S128x1 slices_S16x128_o5_0_S1x128 slices_S128x1024_o0_320_S128x64,
    ← e0 6 (by decide) slices_S128x16_o0_6_S128x1 slices_S16x128_o6_0_S1x128 slices_S128x1024_o0_384_S128x64,
    ← e0 7 (by decide) slices_S128x16_o0_7_S128x1 slices_S16x128_o7_0_S1x128 slices_S128x1024_o0_448_S128x64,
    ← e1 8 (by decide) slices_S128x16_o0_8_S128x1 slices_S16x128_o8_0_S1x128 slices_S128x1024_o0_512_S128x64,
    ← e1 9 (by decide) slices_S128x16_o0_9_S128x1 slices_S16x128_o9_0_S1x128 slices_S128x1024_o0_576_S128x64,
    ← e1 10 (by decide) slices_S128x16_o0_10_S128x1 slices_S16x128_o10_0_S1x128 slices_S128x1024_o0_640_S128x64,
    ← e1 11 (by decide) slices_S128x16_o0_11_S128x1 slices_S16x128_o11_0_S1x128 slices_S128x1024_o0_704_S128x64,
    ← e1 12 (by decide) slices_S128x16_o0_12_S128x1 slices_S16x128_o12_0_S1x128 slices_S128x1024_o0_768_S128x64,
    ← e1 13 (by decide) slices_S128x16_o0_13_S128x1 slices_S16x128_o13_0_S1x128 slices_S128x1024_o0_832_S128x64,
    ← e1 14 (by decide) slices_S128x16_o0_14_S128x1 slices_S16x128_o14_0_S1x128 slices_S128x1024_o0_896_S128x64,
    ← e1 15 (by decide) slices_S128x16_o0_15_S128x1 slices_S16x128_o15_0_S1x128 slices_S128x1024_o0_960_S128x64]
  rfl

/-! ## The part from the entering state, and the state left behind -/

/-- What the entering state gives each row. -/
noncomputable def fromState (S : FVec Ideal S128x1024 .f32) (C : FVec Ideal S128x1536 .f32) : FVec Ideal S128x1024 .f32 :=
  pair (k0_pay47 S (k0_pay32 C)) (matmul dot_S128x128_S128x512_S128x512_1_0_0_1_n_n none (k0_pay49 C)
    (truncf .bf16 (extractStridedSlice S128x512 ![0, 512] S slices_S128x1024_o0_512_S128x512) bitsLt_bf16_f32) (constant S128x512 .f32 0x00000000#32))

/-- What the entering state gives row `l` at column `j`. -/
noncomputable def given (S : FVec Ideal S128x1024 .f32) (C : FVec Ideal S128x1536 .f32) (l : Fin 128) (j : Fin 1024) : EReal :=
  ∑ n : Fin 128, C (ix2 l (colC (groupOf j) n)) * S (ix2 n j)

theorem fromState_eq (S : FVec Ideal S128x1024 .f32) (C : FVec Ideal S128x1536 .f32) : fromState S C = fun y => given S C (y 0) (y 1) := by
  refine pair_at _ _ _ (fun l q => ?_) (fun l q => ?_)
  · pointwise [k0_pay47, k0_pay32]
    have d : groupOf ⟨q.val, by omega⟩ = 0 := Fin.ext (by simp only [groupOf]; show _ = 0; omega)
    show _ = ∑ n : Fin 128, C (ix2 l (colC (groupOf ⟨q.val, by omega⟩) n)) * S (ix2 n ⟨q.val, by omega⟩)
    rw [d]
    exact Finset.sum_congr rfl fun n _ => congrArg₂ _ (congrArg (fun i => C (ix2 l i)) (Fin.ext (by simp [colC]))) rfl
  · pointwise [k0_pay49]
    have d : groupOf ⟨512 + q.val, by omega⟩ = 1 := Fin.ext (by simp only [groupOf]; show _ = 1; omega)
    show _ = ∑ n : Fin 128, C (ix2 l (colC (groupOf ⟨512 + q.val, by omega⟩) n)) * S (ix2 n ⟨512 + q.val, by omega⟩)
    rw [d]
    exact Finset.sum_congr rfl fun n _ => congrArg₂ _ (congrArg (fun i => C (ix2 l i)) (Fin.ext (by simp [colC]; omega))) rfl

/-- What a chunk's rows add to the state. -/
noncomputable def addition (W : FVec Ideal S128x1024 .f32) (C : FVec Ideal S128x1536 .f32) (n : Fin 128) (j : Fin 1024) : EReal :=
  ∑ s : Fin 128, C (ix2 s (colB (groupOf j) n)) * W (ix2 s j)

theorem additions (W : FVec Ideal S128x1024 .f32) (C : FVec Ideal S128x1536 .f32) :
    pair (k0_pay46 W (k0_pay31 C)) (matmul dot_S128x128_S128x512_S128x512_0_0_1_1_n_n none (k0_pay48 C)
      (truncf .bf16 (extractStridedSlice S128x512 ![0, 512] W slices_S128x1024_o0_512_S128x512) bitsLt_bf16_f32) (constant S128x512 .f32 0x00000000#32))
      = fun y => addition W C (y 0) (y 1) := by
  refine pair_at _ _ _ (fun n q => ?_) (fun n q => ?_)
  · pointwise [k0_pay46, k0_pay31]
    have d : groupOf ⟨q.val, by omega⟩ = 0 := Fin.ext (by simp only [groupOf]; show _ = 0; omega)
    show _ = ∑ s : Fin 128, C (ix2 s (colB (groupOf ⟨q.val, by omega⟩) n)) * W (ix2 s ⟨q.val, by omega⟩)
    rw [d]
    exact Finset.sum_congr rfl fun s _ => congrArg₂ _ (congrArg (fun i => C (ix2 s i)) (Fin.ext (by simp [colB]))) rfl
  · pointwise [k0_pay48]
    have d : groupOf ⟨512 + q.val, by omega⟩ = 1 := Fin.ext (by simp only [groupOf]; show _ = 1; omega)
    show _ = ∑ s : Fin 128, C (ix2 s (colB (groupOf ⟨512 + q.val, by omega⟩) n)) * W (ix2 s ⟨512 + q.val, by omega⟩)
    rw [d]
    exact Finset.sum_congr rfl fun s _ => congrArg₂ _ (congrArg (fun i => C (ix2 s i)) (Fin.ext (by simp [colB]; omega))) rfl

/-- The state a chunk leaves: what entered, decayed, plus what its own rows add. -/
theorem leaving_eq (S W : FVec Ideal S128x1024 .f32) (C : FVec Ideal S128x1536 .f32) (D : FVec Ideal S1x1024 .f32) :
    k0_pay62 S D W (k0_pay46 W (k0_pay31 C)) (k0_pay48 C) = fun y => S y * D (ix2 0 (y 1)) + addition W C (y 0) (y 1) := by
  refine Eq.trans (b := addf (mulf S (broadcastTo S128x1024 D broadcasts_S1x1024_S128x1024)) (fun y => addition W C (y 0) (y 1))) ?_ ?_
  · rw [← additions]
    rfl
  · refine ext2 128 1024 fun n j => ?_
    pointwise

end Cert.Ssd
-- ==== Proof.SsdState.lean ====
/-
  A state carried from step to step, written as one sum over all earlier steps: the sum obeys the step-by-step rule.
-/
module

public import proofs.«01_k».proof.Proof.SsdScan

@[expose] public section

namespace Cert.Ssd

open Idealize.ShloMosaic

variable {n : ℕ} (w u : Fin (n + 1) → EReal)

/-- The running sum up to and including step `z`. -/
noncomputable def upTo (z : Fin (n + 1)) : EReal := ∑ y, if y ≤ z then u y else 0

/-- How much of what was added at `y` is left at `z`. -/
noncomputable def left (z y : Fin (n + 1)) : EReal := Ideal.exp (if y ≤ z then upTo u z - upTo u y else ⊥)

/-- The state at `z`. -/
noncomputable def carried (z : Fin (n + 1)) : EReal := ∑ y, w y * left u z y

theorem exp_bot : Ideal.exp ⊥ = 0 := rfl

theorem exp_zero' : Ideal.exp 0 = 1 := by
  show ((Real.exp 0 : ℝ) : EReal) = 1
  rw [Real.exp_zero]
  rfl

theorem upTo_real (hu : ∀ y, IsReal (u y)) (z : Fin (n + 1)) : IsReal (upTo u z) :=
  IsReal.sum _ _ fun y => by
    split_ifs
    · exact hu y
    · exact IsReal.zero

theorem upTo_succ (z z' : Fin (n + 1)) (h : z'.val = z.val + 1) : upTo u z' = upTo u z + u z' := by
  unfold upTo
  rw [← Finset.sum_ite_eq' Finset.univ z' u |>.trans (if_pos (Finset.mem_univ _)), ← Finset.sum_add_distrib]
  refine Finset.sum_congr rfl fun y _ => ?_
  by_cases h1 : y ≤ z
  · have h2 : y ≤ z' := by rw [Fin.le_def] at *; omega
    have h3 : ¬ y = z' := by rintro rfl; rw [Fin.le_def] at h1; omega
    rw [if_pos h1, if_pos h2, if_neg h3, add_zero]
  · by_cases h3 : y = z'
    · rw [if_neg h1, if_pos h3, if_pos (le_of_eq h3), zero_add]
    · have h2 : ¬ y ≤ z' := by
        intro h2
        rw [Fin.le_def] at *
        exact h3 (Fin.ext (by omega))
      rw [if_neg h1, if_neg h2, if_neg h3, add_zero]

theorem left_self (hu : ∀ y, IsReal (u y)) (z : Fin (n + 1)) : left u z z = 1 := by
  unfold left
  rw [if_pos le_rfl, (upTo_real u hu z).sub_self, exp_zero']

theorem left_later (z y : Fin (n + 1)) (h : ¬ y ≤ z) : left u z y = 0 := by
  unfold left
  rw [if_neg h, exp_bot]

theorem left_succ (hu : ∀ y, IsReal (u y)) (z z' y : Fin (n + 1)) (h : z'.val = z.val + 1) (hy : y ≤ z) :
    left u z' y = left u z y * Ideal.exp (u z') := by
  have h2 : y ≤ z' := by rw [Fin.le_def] at *; omega
  unfold left
  rw [if_pos h2, if_pos hy, ← exp_add_real ((upTo_real u hu z).sub (upTo_real u hu y)) (hu z'), upTo_succ u z z' h]
  obtain ⟨a, ha⟩ := upTo_real u hu z
  obtain ⟨b, hb⟩ := upTo_real u hu y
  obtain ⟨d, hd⟩ := hu z'
  rw [ha, hb, hd]
  norm_cast
  congr 2
  ring

theorem carried_succ (hu : ∀ y, IsReal (u y)) (z z' : Fin (n + 1)) (h : z'.val = z.val + 1) :
    carried w u z' = carried w u z * Ideal.exp (u z') + w z' := by
  unfold carried
  rw [sum_mul_real _ _ (hu z').exp (exp_nonneg _), ← Finset.sum_ite_eq' Finset.univ z' w |>.trans (if_pos (Finset.mem_univ _)), ← Finset.sum_add_distrib]
  refine Finset.sum_congr rfl fun y _ => ?_
  by_cases h1 : y ≤ z
  · have h3 : ¬ y = z' := by rintro rfl; rw [Fin.le_def] at h1; omega
    rw [left_succ u hu z z' y h h1, if_neg h3, add_zero, mul_assoc]
  · rw [left_later u z y h1]
    by_cases h3 : y = z'
    · rw [if_pos h3, h3, left_self u hu, mul_one, mul_zero, zero_mul, zero_add]
    · have h2 : ¬ y ≤ z' := by
        intro h2
        rw [Fin.le_def] at *
        exact h3 (Fin.ext (by omega))
      rw [left_later u z' y h2, if_neg h3, mul_zero, zero_mul, add_zero]

theorem carried_zero (hu : ∀ y, IsReal (u y)) (h0 : w 0 = 0) : carried w u 0 = 0 := by
  unfold carried
  refine Finset.sum_eq_zero fun y _ => ?_
  by_cases h : y = 0
  · rw [h, h0, zero_mul]
  · rw [left_later u 0 y (fun hy => h (Fin.le_zero_iff.mp hy)), mul_zero]

end Cert.Ssd
-- ==== Proof.SsdRef.lean ====
/-
  The reference of the state-space forward call, read at one entry of one chunk.
-/
module

public import proofs.«01_k».proof.Proof.SsdPoint
public import proofs.«01_k».proof.Proof.SsdState
public import proofs.«01_k».proof.Proof.GmHeads

@[expose] public section

set_option maxRecDepth 16384

namespace Cert.Ssd

open Cert.Reference7Ideal Cert.Reference7Ideal.Gen Cert.Reference7Ideal.Read
open Cert.Gm (ext2 chunk rowOf row_div row_mod pick)
open Idealize.ShloMosaic Idealize.ShloMosaic.TcCoe

variable (x0 : Vec Ideal S8192x4624 .f32) (x1 : Vec Ideal S4x1536 .f32) (x2 : Vec Ideal S1x1536 .f32) (x3 x4 x5 : Vec Ideal S1x16 .f32)
  (x6 : Vec Ideal S1x1024 .f32) (c : Fin 64)

/-- The head `k` of group `g`. -/
def hd (g : Fin 2) (k : Fin 8) : Fin 16 := ⟨g.val * 8 + k.val, by omega⟩

/-- The convolved and gated columns of a chunk. -/
noncomputable def cols : FVec Ideal ⟨2, ![128, 1536]⟩ .f32 := chunk c (val_main_v40 (F := Ideal) x0 x1 x2)

/-- The step sizes of a chunk. -/
noncomputable def steps : FVec Ideal ⟨2, ![128, 16]⟩ .f32 := chunk c (val_main_v50 (F := Ideal) x0 x3)

/-- The decay rates of a chunk. -/
noncomputable def rates : FVec Ideal ⟨2, ![128, 16]⟩ .f32 := chunk c (val_main_v59 (F := Ideal) x0 x3 x4)

theorem rates_at (g : Fin 2) (k : Fin 8) (l : Fin 128) :
    val_main_v61 (F := Ideal) x0 x3 x4 (ix4 g k c l) = rates x0 x3 x4 c (ix2 l (hd g k)) := by
  pointwise [val_main_v61, val_main_v60, rates, chunk]
  rfl

theorem sums_at (g : Fin 2) (k : Fin 8) (l : Fin 128) :
    val_main_v64 (F := Ideal) x0 x3 x4 (ix4 g k c l) = running (rates x0 x3 x4 c) (ix2 l (hd g k)) := by
  unfold val_main_v64
  rw [show (val_main_call2_call0_v0 (F := Ideal)) = fun _ => 0 from by funext i; pointwise [val_main_call2_call0_v0, val_main_call2_call0_cst]]
  refine (cumsum4 (val_main_v61 (F := Ideal) x0 x3 x4) reduceWindows_S2x8x64x128_S2x8x64x128_w1s1p0_0_w1s1p0_0_w1s1p0_0_w128s1p127_0 g k c l).trans (Finset.sum_congr rfl fun s _ => ?_)
  rw [rates_at]
  rfl

theorem head_of (j : Fin 1024) (h1 h2) : hd ⟨j.val / 512, h1⟩ ⟨j.val / 64 % 8, h2⟩ = headOf j :=
  Fin.ext (by simp only [hd, headOf]; omega)

theorem least : id (constant (F := Ideal) S_ .f32 0xFF800000#32) ix0 = (⊥ : EReal) := by
  simp [constant, Ideal.ofBits, Ideal.ieee]

theorem decay_at (g : Fin 2) (k : Fin 8) (l s : Fin 128) :
    val_main_v73 (F := Ideal) x0 x3 x4 (ix5 g k c l s)
      = Ideal.exp (if s ≤ l then running (rates x0 x3 x4 c) (ix2 l (hd g k)) - running (rates x0 x3 x4 c) (ix2 s (hd g k)) else ⊥) := by
  pointwise [val_main_v65, val_main_v66, val_main_v67, val_main_v68, val_main_v69, val_main_c, val_main_v70, val_main_call3_v0, val_main_call3_c,
    val_main_call3_v1, val_main_call3_v2, val_main_call3_v3, val_main_call3_v4, val_main_call3_c_0, val_main_call3_v5, val_main_v71,
    val_main_cst_0, val_main_call4_v0, val_main_call4_v1, val_main_call4_v2, val_main_v72, val_main_v73]
  rw [sums_at, sums_at]
  rw [IntOp.addi, BitVec.add_zero, not_after, pick, least, select_bit]

theorem inner_at (j : Fin 1024) (l : Fin 128) :
    val_main_v79 (F := Ideal) x0 x1 x2 x3 x4 (ix5 c l ⟨j.val / 512, by omega⟩ ⟨j.val / 64 % 8, by omega⟩ ⟨j.val % 64, by omega⟩)
      = ∑ s : Fin 128, cols x0 x1 x2 c (ix2 s ⟨j.val, by omega⟩) * steps x0 x3 c (ix2 s (headOf j))
          * ((∑ n : Fin 128, cols x0 x1 x2 c (ix2 l ⟨1280 + (j.val / 512 * 128 + n.val), by omega⟩) * cols x0 x1 x2 c (ix2 s ⟨1024 + (j.val / 512 * 128 + n.val), by omega⟩))
            * Ideal.exp (if s ≤ l then running (rates x0 x3 x4 c) (ix2 l (headOf j)) - running (rates x0 x3 x4 c) (ix2 s (headOf j)) else ⊥)) := by
  pointwise [val_main_v74, val_main_v75, val_main_v76, val_main_v77, val_main_v78, val_main_v79, val_main_v41, val_main_v42, val_main_v43,
    val_main_v44, val_main_v45, val_main_v46, val_main_v53, val_main_v54, val_main_v55, val_main_v56, val_main_v62, val_main_v63]
  refine Finset.sum_congr rfl fun s _ => ?_
  rw [decay_at, ← head_of j (by omega) (by omega)]
  rfl

theorem added_at (j : Fin 1024) (n : Fin 128) :
    val_main_v88 (F := Ideal) x0 x1 x2 x3 x4 (ix5 c ⟨j.val / 512, by omega⟩ ⟨j.val / 64 % 8, by omega⟩ ⟨j.val % 64, by omega⟩ n)
      = ∑ s : Fin 128, cols x0 x1 x2 c (ix2 s ⟨j.val, by omega⟩) * steps x0 x3 c (ix2 s (headOf j))
          * Ideal.exp (running (rates x0 x3 x4 c) (ix2 127 (headOf j)) - running (rates x0 x3 x4 c) (ix2 s (headOf j)))
          * cols x0 x1 x2 c (ix2 s ⟨1024 + (j.val / 512 * 128 + n.val), by omega⟩) := by
  pointwise [val_main_v80, val_main_v81, val_main_v82, val_main_v83, val_main_v84, val_main_v85, val_main_v86, val_main_v87, val_main_v88,
    val_main_v41, val_main_v42, val_main_v43, val_main_v44, val_main_v45, val_main_v46, val_main_v53, val_main_v54, val_main_v55,
    val_main_v56, val_main_v62, val_main_v63]
  refine Finset.sum_congr rfl fun s _ => ?_
  rw [sums_at, sums_at, ← head_of j (by omega) (by omega)]
  rfl

/-! ## The states entering the chunks -/

/-- What a chunk's decay adds to the running sum before the chunk after it. -/
noncomputable def gaps (g : Fin 2) (k : Fin 8) (z : Fin 65) : EReal :=
  if h : z.val < 1 then 0 else running (rates x0 x3 x4 ⟨z.val - 1, by omega⟩) (ix2 127 (hd g k))

theorem gaps_at (g : Fin 2) (k : Fin 8) (z : Fin 65) : val_main_v93 (F := Ideal) x0 x3 x4 (ix3 g k z) = gaps x0 x3 x4 g k z := by
  pointwise [val_main_v89, val_main_v90, val_main_v91, val_main_cst_1, val_main_v92, val_main_v93]
  refine dite_congr rfl (fun _ => rfl) fun h => ?_
  refine Eq.trans ?_ (sums_at x0 x3 x4 ⟨z.val - 1, by omega⟩ g k 127)
  first | rfl | exact if_neg (fun e => absurd e (by decide)) | simp

theorem totals_at (g : Fin 2) (k : Fin 8) (z : Fin 65) : val_main_v94 (F := Ideal) x0 x3 x4 (ix3 g k z) = upTo (gaps x0 x3 x4 g k) z := by
  unfold val_main_v94
  rw [show (val_main_call5_call0_v0 (F := Ideal)) = fun _ => 0 from by funext i; pointwise [val_main_call5_call0_v0, val_main_call5_call0_cst]]
  refine (cumsum3 (val_main_v93 (F := Ideal) x0 x3 x4) reduceWindows_S2x8x65_S2x8x65_w1s1p0_0_w1s1p0_0_w65s1p64_0 g k z).trans (Finset.sum_congr rfl fun s _ => ?_)
  rw [gaps_at]

theorem carry_at (g : Fin 2) (k : Fin 8) (z z' : Fin 65) :
    val_main_v103 (F := Ideal) x0 x3 x4 (ix4 g k z z') = left (gaps x0 x3 x4 g k) z z' := by
  pointwise [val_main_v95, val_main_v96, val_main_v97, val_main_v98, val_main_v99, val_main_c_2, val_main_v100, val_main_call6_v0, val_main_call6_c,
    val_main_call6_v1, val_main_call6_v2, val_main_call6_v3, val_main_call6_v4, val_main_call6_c_0, val_main_call6_v5, val_main_v101,
    val_main_cst_3, val_main_call7_v0, val_main_call7_v1, val_main_call7_v2, val_main_v102, val_main_v103]
  rw [totals_at, totals_at, IntOp.addi, BitVec.add_zero, not_after_chunk, pick, least, select_bit]
  rfl

/-- What a chunk adds to the state at row `n` and column `j`; nothing before the first. -/
noncomputable def adds (n : Fin 128) (j : Fin 1024) (z : Fin 65) : EReal :=
  if h : z.val < 1 then 0 else val_main_v88 (F := Ideal) x0 x1 x2 x3 x4
    (ix5 ⟨z.val - 1, by omega⟩ ⟨j.val / 512, by omega⟩ ⟨j.val / 64 % 8, by omega⟩ ⟨j.val % 64, by omega⟩ n)

theorem adds_at (n : Fin 128) (j : Fin 1024) (z : Fin 65) :
    val_main_v106 (F := Ideal) x0 x1 x2 x3 x4 (ix5 z ⟨j.val / 512, by omega⟩ ⟨j.val / 64 % 8, by omega⟩ ⟨j.val % 64, by omega⟩ n) = adds x0 x1 x2 x3 x4 n j z := by
  pointwise [val_main_cst_4, val_main_v105, val_main_v106]
  rfl

/-- A column's gaps are its head's. -/
noncomputable def columnGaps (j : Fin 1024) : Fin 65 → EReal := gaps x0 x3 x4 ⟨j.val / 512, by omega⟩ ⟨j.val / 64 % 8, by omega⟩

/-- The state entering chunk `z` (64 is after the last). -/
noncomputable def entering (z : Fin 65) : FVec Ideal ⟨2, ![128, 1024]⟩ .f32 := fun y =>
  carried (adds x0 x1 x2 x3 x4 (y 0) (y 1)) (columnGaps x0 x3 x4 (y 1)) z

theorem state_at (j : Fin 1024) (n : Fin 128) :
    val_main_v109 (F := Ideal) x0 x1 x2 x3 x4 (ix5 c ⟨j.val / 512, by omega⟩ ⟨j.val / 64 % 8, by omega⟩ ⟨j.val % 64, by omega⟩ n)
      = entering x0 x1 x2 x3 x4 ⟨c.val, by omega⟩ (ix2 n j) := by
  pointwise [val_main_v107, val_main_v108, val_main_v109]
  show _ = ∑ z, adds x0 x1 x2 x3 x4 n j z * left (columnGaps x0 x3 x4 j) ⟨c.val, by omega⟩ z
  refine Finset.sum_congr rfl fun z _ => ?_
  rw [adds_at, carry_at]
  rfl

theorem entering_eq : chunk c (val_main_v144 (F := Ideal) x0 x1 x2 x3 x4) = entering x0 x1 x2 x3 x4 ⟨c.val, by omega⟩ := by
  refine ext2 128 1024 fun n j => ?_
  pointwise [val_main_v143, val_main_v144, chunk, rowOf, row_div, row_mod]
  exact state_at x0 x1 x2 x3 x4 c j n

theorem carried_part (j : Fin 1024) (l : Fin 128) :
    val_main_v116 (F := Ideal) x0 x1 x2 x3 x4 (ix5 c l ⟨j.val / 512, by omega⟩ ⟨j.val / 64 % 8, by omega⟩ ⟨j.val % 64, by omega⟩)
      = (∑ n : Fin 128, entering x0 x1 x2 x3 x4 ⟨c.val, by omega⟩ (ix2 n j) * cols x0 x1 x2 c (ix2 l ⟨1280 + (j.val / 512 * 128 + n.val), by omega⟩))
        * Ideal.exp (running (rates x0 x3 x4 c) (ix2 l (headOf j))) := by
  pointwise [val_main_v110, val_main_v111, val_main_v112, val_main_v113, val_main_v114, val_main_v115, val_main_v116, val_main_v43, val_main_v46,
    val_main_v63]
  rw [sums_at, ← head_of j (by omega) (by omega)]
  refine congrArg (· * _) (Finset.sum_congr rfl fun n _ => ?_)
  rw [state_at]
  rfl

theorem gaps_real (h : ∀ c l h, IsReal (rates x0 x3 x4 c (ix2 l h))) (g : Fin 2) (k : Fin 8) (z : Fin 65) : IsReal (gaps x0 x3 x4 g k z) := by
  unfold gaps
  split_ifs
  · exact IsReal.zero
  · exact running_real _ (h _) _ _

theorem entering_first (h : ∀ c l h, IsReal (rates x0 x3 x4 c (ix2 l h))) : entering x0 x1 x2 x3 x4 0 = fun _ => 0 :=
  funext fun _ => carried_zero _ _ (gaps_real x0 x3 x4 h _ _) rfl

theorem entering_next (h : ∀ c l h, IsReal (rates x0 x3 x4 c (ix2 l h))) (n : Fin 128) (j : Fin 1024) :
    entering x0 x1 x2 x3 x4 ⟨c.val + 1, by omega⟩ (ix2 n j)
      = entering x0 x1 x2 x3 x4 ⟨c.val, by omega⟩ (ix2 n j) * Ideal.exp (running (rates x0 x3 x4 c) (ix2 127 (headOf j)))
        + ∑ s : Fin 128, cols x0 x1 x2 c (ix2 s ⟨j.val, by omega⟩) * steps x0 x3 c (ix2 s (headOf j))
          * Ideal.exp (running (rates x0 x3 x4 c) (ix2 127 (headOf j)) - running (rates x0 x3 x4 c) (ix2 s (headOf j)))
          * cols x0 x1 x2 c (ix2 s ⟨1024 + (j.val / 512 * 128 + n.val), by omega⟩) := by
  rw [← added_at x0 x1 x2 x3 x4 c j n, ← head_of j (by omega) (by omega)]
  exact carried_succ _ _ (gaps_real x0 x3 x4 h _ _) ⟨c.val, by omega⟩ ⟨c.val + 1, by omega⟩ rfl

end Cert.Ssd
-- ==== Proof.SsdWhole.lean ====
/-
  One chunk of the state-space forward kernel against the reference: its output rows and the state it leaves.
-/
module

public import proofs.«01_k».proof.Proof.SsdChunk
public import proofs.«01_k».proof.Proof.SsdRef

@[expose] public section

set_option maxRecDepth 16384

namespace Cert.Ssd

open Cert.Kernel7Ideal Cert.Kernel7Ideal.Gen
open Cert.Reference7Ideal.Read
open Cert.Gm (ext2 chunk rowOf row_div row_mod pick)
open Idealize.ShloMosaic Idealize.ShloMosaic.TcCoe

/-! ## Gate and group norm -/

/-- A group of 512 columns over its root mean square. -/
noncomputable def overRms (Y : FVec Ideal S128x1024 .f32) (o : ℕ) (h : S128x1024.Slices ![0, o] S128x512) : FVec Ideal S128x512 .f32 :=
  mulf (extractStridedSlice S128x512 ![0, o] Y h) (broadcastTo S128x512
    (rsqrt (addf (divf (shapeCast S128x1 (multiReduction .add [1] S128 (mulf (extractStridedSlice S128x512 ![0, o] Y h) (extractStridedSlice S128x512 ![0, o] Y h))
        0x00000000#32 reduces_S128x512_S128 (.inl rfl) rfl) shapeCasts_S128_S128x1) (broadcast S128x1 (Scalar.ofBits (F := Ideal) .f32 0x44000000#32)))
      (broadcast S128x1 (Scalar.ofBits (F := Ideal) .f32 0x358637BD#32)))) broadcasts_S128x1_S128x512)

/-- A chunk's rows gated, normed by groups and scaled. -/
noncomputable def finish (Y Z : FVec Ideal S128x1024 .f32) (g : Vec Ideal S1x1024 .f32) : FVec Ideal S128x1024 .bf16 :=
  truncf .bf16 (mulf (pair (overRms (mulf Y (mulf Z (logistic Z))) 0 slices_S128x1024_o0_0_S128x512)
    (overRms (mulf Y (mulf Z (logistic Z))) 512 slices_S128x1024_o0_512_S128x512)) (broadcastTo S128x1024 g broadcasts_S1x1024_S128x1024)) bitsLt_bf16_f32

/-- The columns of a column's group. -/
def colG (g : Fin 2) (q : Fin 512) : Fin 1024 := ⟨g.val * 512 + q.val, by omega⟩

/-- One entry over the root mean square of its group. -/
noncomputable def rmsAt (Y : FVec Ideal S128x1024 .f32) (l : Fin 128) (j : Fin 1024) : EReal :=
  Y (ix2 l j) * Ideal.rsqrt (Ideal.div (∑ q : Fin 512, Y (ix2 l (colG (groupOf j) q)) * Y (ix2 l (colG (groupOf j) q))) (Ideal.ofBits .f32 0x44000000#32)
    + Ideal.ofBits .f32 0x358637BD#32)

theorem norms_eq (Y : FVec Ideal S128x1024 .f32) :
    pair (overRms Y 0 slices_S128x1024_o0_0_S128x512) (overRms Y 512 slices_S128x1024_o0_512_S128x512) = fun y => rmsAt Y (y 0) (y 1) := by
  refine pair_at _ _ _ (fun l q => ?_) (fun l q => ?_)
  · have d : groupOf ⟨q.val, by omega⟩ = 0 := Fin.ext (by simp only [groupOf]; show _ = 0; omega)
    show _ = rmsAt Y l ⟨q.val, by omega⟩
    unfold rmsAt
    rw [d]
    have f (q : Fin 512) : colG 0 q = ⟨q.val, by omega⟩ := Fin.ext (by simp [colG])
    simp only [f]
    pointwise [overRms]
  · have d : groupOf ⟨512 + q.val, by omega⟩ = 1 := Fin.ext (by simp only [groupOf]; show _ = 1; omega)
    show _ = rmsAt Y l ⟨512 + q.val, by omega⟩
    unfold rmsAt
    rw [d]
    have f (q : Fin 512) : colG 1 q = ⟨512 + q.val, by omega⟩ := Fin.ext (by simp [colG])
    simp only [f]
    pointwise [overRms]

/-! ## The chunk -/

/-- What a chunk gives before the gate. -/
noncomputable def total (X : FVec Ideal S128x1536 .f32) (D : FVec Ideal S128x16 .f32) (b a s : Vec Ideal S1x16 .f32) (S : FVec Ideal S128x1024 .f32) : FVec Ideal S128x1024 .f32 :=
  addf (addf (heads (k0_pay33 (k0_pay12 X)) (k0_pay50 (k0_pay48 (k0_pay12 X)) (k0_pay49 (k0_pay12 X)) (constant S128x128 .f32 0x00000000#32))
      (k0_pay16 D b a k0_pay7)
      (k0_pay18 (k0_pay15 D b a) (k0_pay17 (iota .tc S128x128 32 [0] iota_S128x128_d0_w32) (iota .tc S128x128 32 [1] iota_S128x128_d1_w32)))
      (k0_pay29 (k0_pay13 X) (k0_pay20 owner (k0_pay14 D b))))
    (mulf (fromState S (k0_pay12 X)) (k0_pay21 owner (k0_pay16 D b a k0_pay7))))
    (mulf (k0_pay13 X) (broadcastTo S128x1024 (k0_pay28 s owner) broadcasts_S1x1024_S128x1024))

/-- A chunk's own columns, weighted by what is left of them at the chunk's end. -/
noncomputable def weighted (X : FVec Ideal S128x1536 .f32) (D : FVec Ideal S128x16 .f32) (b a : Vec Ideal S1x16 .f32) : FVec Ideal S128x1024 .f32 :=
  k0_pay30 owner (k0_pay13 X) (k0_pay20 owner (k0_pay14 D b)) (k0_pay23 (k0_pay16 D b a k0_pay7)) (k0_pay25 (k0_pay16 D b a k0_pay7)) (k0_pay26 (k0_pay16 D b a k0_pay7))

/-- The state a chunk leaves. -/
noncomputable def leaving (X : FVec Ideal S128x1536 .f32) (D : FVec Ideal S128x16 .f32) (b a : Vec Ideal S1x16 .f32) (S : FVec Ideal S128x1024 .f32) : FVec Ideal S128x1024 .f32 :=
  k0_pay62 S (k0_pay27 owner (k0_pay19 (k0_pay16 D b a k0_pay7))) (weighted X D b a) (k0_pay46 (weighted X D b a) (k0_pay31 (k0_pay12 X))) (k0_pay48 (k0_pay12 X))

variable (x0 : Vec Ideal S8192x4624 .f32) (x1 : Vec Ideal S4x1536 .f32) (x2 : Vec Ideal S1x1536 .f32) (x3 x4 x5 : Vec Ideal S1x16 .f32)
  (x6 : Vec Ideal S1x1024 .f32) (c : Fin 64)

theorem cols_eq : k0_pay12 (chunk c (val_main_v39 (F := Ideal) x0 x1 x2)) = cols x0 x1 x2 c := by
  refine ext2 128 1536 fun l j => ?_
  pointwise [k0_pay12, cols, chunk, val_main_call0_v0, val_main_call0_v1, val_main_call0_cst, val_main_call0_v2, val_main_call0_v3, val_main_call0_cst_0, val_main_call0_v4,
    val_main_call0_v5, val_main_v40]
  rfl

theorem steps_eq : k0_pay14 (chunk c (val_main_v2 (F := Ideal) x0)) x3 = steps x0 x3 c := by
  refine ext2 128 16 fun l j => ?_
  pointwise [k0_pay14, steps, chunk, zero_sub, val_main_v4, val_main_v47, val_main_v48, val_main_v49, val_main_call1_cst, val_main_call1_v0, val_main_call1_v1, val_main_call1_v2,
    val_main_call1_v3, val_main_call1_v4, val_main_call1_v5, val_main_call1_v6, val_main_call1_v7, val_main_call1_v8, val_main_call1_v9,
    val_main_call1_v10, val_main_call1_v11, val_main_v50]

theorem rates_eq : k0_pay15 (chunk c (val_main_v2 (F := Ideal) x0)) x3 x4 = rates x0 x3 x4 c := by
  unfold k0_pay15
  rw [steps_eq]
  refine ext2 128 16 fun l j => ?_
  pointwise [steps, rates, chunk, zero_sub, val_main_v5, val_main_v51, val_main_v52, val_main_v57, val_main_v58, val_main_v59]

/-- The first 1024 columns of a row. -/
def first (C : FVec Ideal S128x1536 .f32) : FVec Ideal S128x1024 .f32 := fun y => C (ix2 (y 0) (Fin.castLE (by decide) (y 1)))

theorem first_eq : k0_pay13 (chunk c (val_main_v39 (F := Ideal) x0 x1 x2)) = first (cols x0 x1 x2 c) := by
  unfold k0_pay13
  rw [cols_eq]
  refine ext2 128 1024 fun l j => ?_
  pointwise [first]
  rfl

/-! ## Every value the spreading meets is a real number -/

theorem abs_real {x : EReal} (h : IsReal x) : IsReal (FloatOps.absf (F := Ideal) (φ := .f32) x) := h.max h.neg

theorem steps_real (h2 : ∀ r h, IsReal (val_main_v2 (F := Ideal) x0 (ix2 r h))) (h3 : ∀ h, IsReal (x3 (ix2 0 h))) (l : Fin 128) (h : Fin 16) :
    IsReal (steps x0 x3 c (ix2 l h)) := by
  pointwise [steps, chunk, val_main_v4, val_main_v47, val_main_v48, val_main_v49, val_main_call1_cst, val_main_call1_v0, val_main_call1_v1, val_main_call1_v2,
    val_main_call1_v3, val_main_call1_v4, val_main_call1_v5, val_main_call1_v6, val_main_call1_v7, val_main_call1_v8, val_main_call1_v9,
    val_main_call1_v10, val_main_call1_v11, val_main_v50]
  have hs := (h2 (rowOf c l) h).add (h3 h)
  rw [if_neg (not_not.mpr rfl)]
  exact (hs.max IsReal.zero).add (IsReal.log1p_exp (abs_real hs).neg)

theorem rates_real (h2 : ∀ r h, IsReal (val_main_v2 (F := Ideal) x0 (ix2 r h))) (h3 : ∀ h, IsReal (x3 (ix2 0 h))) (h4 : ∀ h, IsReal (x4 (ix2 0 h)))
    (l : Fin 128) (h : Fin 16) : IsReal (rates x0 x3 x4 c (ix2 l h)) := by
  have e := steps_real x0 x3 c h2 h3 l h
  pointwise [steps, chunk] at e
  pointwise [rates, chunk, val_main_v5, val_main_v51, val_main_v52, val_main_v57, val_main_v58, val_main_v59]
  exact e.mul (h4 h).exp.neg

theorem total_eq (h2 : ∀ r h, IsReal (val_main_v2 (F := Ideal) x0 (ix2 r h))) (h3 : ∀ h, IsReal (x3 (ix2 0 h))) (h4 : ∀ h, IsReal (x4 (ix2 0 h)))
    (h5 : ∀ h, IsReal (x5 (ix2 0 h))) :
    total (chunk c (val_main_v39 (F := Ideal) x0 x1 x2)) (chunk c (val_main_v2 (F := Ideal) x0)) x3 x4 x5 (entering x0 x1 x2 x3 x4 ⟨c.val, by omega⟩)
      = chunk c (val_main_v124 (F := Ideal) x0 x1 x2 x3 x4 x5) := by
  have hr := rates_real x0 x3 x4 c h2 h3 h4
  have hk : k0_pay28 x5 owner = spread x5 := spread_skip x5 fun l h => by rw [Subsingleton.elim l 0]; exact h5 h
  unfold total
  rw [running_rows _ _ _ (by rw [rates_eq]; exact hr), rates_eq, running_cols _ hr, cols_eq, heads_eq, fromState_eq, steps_eq, spread_steps _ (steps_real x0 x3 c h2 h3),
    spread_decay _ (fun l h => running_real _ hr l h), first_eq, hk]
  refine ext2 128 1024 fun l j => ?_
  have e := inner_at x0 x1 x2 x3 x4 c j l
  have f := carried_part x0 x1 x2 x3 x4 c j l
  pointwise [chunk, spread, innerAll, innerCol, inner, products, product, given, k0_pay29, val_main_v6, val_main_v41, val_main_v44, val_main_v117, val_main_v118, val_main_v119, val_main_v120, val_main_v121, val_main_v122,
    val_main_v123, val_main_v124]
  have g : j.val / 64 / 8 = j.val / 512 := by omega
  simp only [row_div, row_mod, g]
  rw [e, f]
  refine congrArg₂ (· + ·) (congrArg₂ (· + ·) (Finset.sum_congr rfl fun s _ => mul_comm _ _) (congrArg (· * _) (Finset.sum_congr rfl fun n _ => mul_comm _ _))) rfl

theorem leaving_next (h2 : ∀ r h, IsReal (val_main_v2 (F := Ideal) x0 (ix2 r h))) (h3 : ∀ h, IsReal (x3 (ix2 0 h))) (h4 : ∀ h, IsReal (x4 (ix2 0 h))) :
    leaving (chunk c (val_main_v39 (F := Ideal) x0 x1 x2)) (chunk c (val_main_v2 (F := Ideal) x0)) x3 x4 (entering x0 x1 x2 x3 x4 ⟨c.val, by omega⟩)
      = entering x0 x1 x2 x3 x4 ⟨c.val + 1, by omega⟩ := by
  have hr := rates_real x0 x3 x4 c h2 h3 h4
  have hr' (l : Fin 128) (h : Fin 16) := running_real _ hr l h
  have hl (l : Fin 128) (h : Fin 16) : IsReal (k0_pay22 (running (rates x0 x3 x4 c)) (ix2 l h)) := by
    pointwise [k0_pay22, k0_pay19]
    exact ((hr' 127 h).sub (hr' l h)).exp
  unfold leaving weighted
  rw [running_rows _ _ _ (by rw [rates_eq]; exact hr), rates_eq, leaving_eq, spread_left _ _ _ hl, cols_eq, first_eq, steps_eq, spread_steps _ (steps_real x0 x3 c h2 h3),
    spread_whole _ (fun l h => by pointwise [k0_pay19]; exact hr' 127 h)]
  refine ext2 128 1024 fun n j => ?_
  rw [entering_next x0 x1 x2 x3 x4 c (fun c => rates_real x0 x3 x4 c h2 h3 h4) n j]
  pointwise [spread, addition, k0_pay19, k0_pay22, k0_pay29, first]
  exact congrArg (_ + ·) (Finset.sum_congr rfl fun s _ => mul_comm _ _)

theorem finish_eq (Y : FVec Ideal S128x1024 .f32) (hY : Y = chunk c (val_main_v124 (F := Ideal) x0 x1 x2 x3 x4 x5)) :
    finish Y (chunk c (val_main_v0 (F := Ideal) x0)) x6 = chunk c (val_main_v142 (F := Ideal) x0 x1 x2 x3 x4 x5 x6) := by
  subst hY
  unfold finish
  rw [norms_eq]
  refine ext2 128 1024 fun l j => ?_
  pointwise [rmsAt, chunk, val_main_v7, val_main_call8_v0, val_main_call8_v1, val_main_call8_cst, val_main_call8_v2, val_main_call8_v3, val_main_call8_cst_0,
    val_main_call8_v4, val_main_call8_v5, val_main_v125, val_main_v126, val_main_v127, val_main_v128, val_main_cst_5, val_main_v129,
    val_main_v130, val_main_cst_6, val_main_v131, val_main_v132, val_main_cst_7, val_main_v133, val_main_v134, val_main_v135, val_main_v136,
    val_main_v137, val_main_v138, val_main_v139, val_main_v140, val_main_v141, val_main_v142, val_main_cst_5, val_main_cst_6,
    val_main_cst_7]
  rfl

end Cert.Ssd
-- ==== Proof.SsdBackRef.lean ====
/-
  The derivative of the recurrence as the reference computes it, chunk by chunk: the forward values it starts from are the
  forward reference's.
-/
module

public import proofs.«01_k».proof.Proof.Gen.Reference3Ideal.Read
public import proofs.«01_k».proof.Proof.SsdWhole

@[expose] public section

set_option maxRecDepth 16384

namespace Cert.SsdBack

open Cert.Reference3Ideal Cert.Reference3Ideal.Gen Cert.Reference3Ideal.Read
open Cert.Gm (ext2 chunk rowOf row_div row_mod pick)
open Cert.Ssd (IsReal running headOf hd cols steps rates entering left upTo carried columnGaps gaps)
open Idealize.ShloMosaic Idealize.ShloMosaic.TcCoe

variable (x0 : Vec Ideal S8192x4624 .f32) (x1 : Vec Ideal S8192x1024 .f32) (x2 : Vec Ideal S4x1536 .f32) (x3 : Vec Ideal S1x1536 .f32) (x4 x5 x6 : Vec Ideal S1x16 .f32)
  (x7 : Vec Ideal S1x1024 .f32) (c : Fin 64)

/-! ## The forward values -/

theorem b_conv : val_main_v40 (F := Ideal) x0 x2 x3 = Cert.Reference7Ideal.Read.val_main_v39 (F := Ideal) x0 x2 x3 := rfl

theorem b_cols : val_main_v41_0 (F := Ideal) x0 x2 x3 = Cert.Reference7Ideal.Read.val_main_v40 (F := Ideal) x0 x2 x3 := rfl

theorem b_steps : val_main_v51_0 (F := Ideal) x0 x4 = Cert.Reference7Ideal.Read.val_main_v50 (F := Ideal) x0 x4 := rfl

theorem b_sums : val_main_v65 (F := Ideal) x0 x4 x5 = Cert.Reference7Ideal.Read.val_main_v64 (F := Ideal) x0 x4 x5 := rfl

theorem b_decay : val_main_v74 (F := Ideal) x0 x4 x5 = Cert.Reference7Ideal.Read.val_main_v73 (F := Ideal) x0 x4 x5 := rfl

theorem b_carry : val_main_v105 (F := Ideal) x0 x4 x5 = Cert.Reference7Ideal.Read.val_main_v103 (F := Ideal) x0 x4 x5 := rfl

theorem b_state : val_main_v112 (F := Ideal) x0 x2 x3 x4 x5 = Cert.Reference7Ideal.Read.val_main_v109 (F := Ideal) x0 x2 x3 x4 x5 := rfl

theorem b_total : val_main_v127 (F := Ideal) x0 x2 x3 x4 x5 x6 = Cert.Reference7Ideal.Read.val_main_v124 (F := Ideal) x0 x2 x3 x4 x5 x6 := rfl

end Cert.SsdBack
-- ==== Proof.SsdBackSums.lean ====
/-
  The sums of the derivative of the recurrence, as the reference computes them, chunk by chunk.
-/
module

public import proofs.«01_k».proof.Proof.SsdBackRef

@[expose] public section

set_option maxRecDepth 16384

namespace Cert.SsdBack

open Cert.Reference3Ideal Cert.Reference3Ideal.Gen Cert.Reference3Ideal.Read
open Cert.Gm (ext2 chunk rowOf row_div row_mod pick)
open Cert.Ssd (IsReal running headOf hd cols steps rates entering left upTo carried columnGaps gaps colB colC groupOf head_of)
open Idealize.ShloMosaic Idealize.ShloMosaic.TcCoe

variable (x0 : Vec Ideal S8192x4624 .f32) (x1 : Vec Ideal S8192x1024 .f32) (x2 : Vec Ideal S4x1536 .f32) (x3 : Vec Ideal S1x1536 .f32) (x4 x5 x6 : Vec Ideal S1x16 .f32)
  (x7 : Vec Ideal S1x1024 .f32) (c : Fin 64)

/-- The gradient of a chunk's rows before the gate. -/
noncomputable def grads : FVec Ideal ⟨2, ![128, 1024]⟩ .f32 := chunk c (val_main_v171 (F := Ideal) x0 x1 x2 x3 x4 x5 x6 x7)

/-- A column by its group, its head in the group and its place in the head. -/
def col (g : Fin 2) (k : Fin 8) (p : Fin 64) : Fin 1024 := ⟨(g.val * 8 + k.val) * 64 + p.val, by omega⟩

theorem headOf_col (g : Fin 2) (k : Fin 8) (p : Fin 64) : headOf (col g k p) = hd g k := Fin.ext (by simp only [headOf, col, hd]; omega)

theorem col_self (j : Fin 1024) (h1 h2 h3) : col ⟨j.val / 512, h1⟩ ⟨j.val / 64 % 8, h2⟩ ⟨j.val % 64, h3⟩ = j := Fin.ext (by simp only [col]; omega)

theorem grads_at (l : Fin 128) (g : Fin 2) (k : Fin 8) (p : Fin 64) :
    val_main_v182 (F := Ideal) x0 x1 x2 x3 x4 x5 x6 x7 (ix5 c l g k p) = grads x0 x1 x2 x3 x4 x5 x6 x7 c (ix2 l (col g k p)) := by
  pointwise [val_main_v182, val_main_v173, grads, chunk]
  rfl

theorem grads_col (l : Fin 128) (j : Fin 1024) (h1 h2 h3) :
    val_main_v182 (F := Ideal) x0 x1 x2 x3 x4 x5 x6 x7 (ix5 c l ⟨j.val / 512, h1⟩ ⟨j.val / 64 % 8, h2⟩ ⟨j.val % 64, h3⟩)
      = grads x0 x1 x2 x3 x4 x5 x6 x7 c (ix2 l j) := by
  rw [grads_at, col_self]

/-- The columns by the step sizes. -/
noncomputable def stepped : FVec Ideal ⟨2, ![128, 1024]⟩ .f32 := fun y =>
  cols x0 x2 x3 c (ix2 (y 0) (Fin.castLE (by decide) (y 1 : Fin 1024))) * steps x0 x4 c (ix2 (y 0) (headOf (y 1)))

theorem stepped_at (l : Fin 128) (g : Fin 2) (k : Fin 8) (p : Fin 64) :
    val_main_v57 (F := Ideal) x0 x2 x3 x4 (ix5 c l g k p) = stepped x0 x2 x3 x4 c (ix2 l (col g k p)) := by
  pointwise [val_main_v57, val_main_v56, val_main_v55, val_main_v54, val_main_v45, val_main_v42, stepped]
  rw [headOf_col]
  rfl

theorem second_at (l : Fin 128) (g : Fin 2) (n : Fin 128) :
    val_main_v63 (F := Ideal) x0 x2 x3 (ix4 c l g n) = cols x0 x2 x3 c (ix2 l (colB g n)) := by
  pointwise [val_main_v63, val_main_v46, val_main_v43]
  rfl

theorem third_at (l : Fin 128) (g : Fin 2) (n : Fin 128) :
    val_main_v64 (F := Ideal) x0 x2 x3 (ix4 c l g n) = cols x0 x2 x3 c (ix2 l (colC g n)) := by
  pointwise [val_main_v64, val_main_v47, val_main_v44]
  rfl

theorem sums_at (g : Fin 2) (k : Fin 8) (l : Fin 128) :
    val_main_v65 (F := Ideal) x0 x4 x5 (ix4 g k c l) = running (rates x0 x4 x5 c) (ix2 l (hd g k)) := by
  rw [b_sums]
  exact Cert.Ssd.sums_at x0 x4 x5 c g k l

/-- What the rows of a chunk give the gradient of the state entering it. -/
noncomputable def given (n : Fin 128) (j : Fin 1024) : EReal :=
  ∑ l : Fin 128, grads x0 x1 x2 x3 x4 x5 x6 x7 c (ix2 l j) * Ideal.exp (running (rates x0 x4 x5 c) (ix2 l (headOf j))) * cols x0 x2 x3 c (ix2 l (colC (groupOf j) n))

theorem given_at (j : Fin 1024) (n : Fin 128) (h1 h2 h3) :
    val_main_v192 (F := Ideal) x0 x1 x2 x3 x4 x5 x6 x7 (ix5 c ⟨j.val / 512, h1⟩ ⟨j.val / 64 % 8, h2⟩ ⟨j.val % 64, h3⟩ n)
      = given x0 x1 x2 x3 x4 x5 x6 x7 c n j := by
  pointwise [val_main_v192, val_main_v189, val_main_v187, val_main_v186, val_main_v117, val_main_v114, val_main_v113]
  refine Finset.sum_congr rfl fun l _ => ?_
  rw [grads_col, sums_at, third_at, head_of]
  rfl

/-! ## The gradient of the states -/

/-- What chunk `z` gives the gradient of the state entering it; nothing after the last. -/
noncomputable def parts (n : Fin 128) (j : Fin 1024) (z : Fin 65) : EReal :=
  if h : z.val < 64 then given x0 x1 x2 x3 x4 x5 x6 x7 ⟨z.val, h⟩ n j else 0

theorem parts_within (n : Fin 128) (j : Fin 1024) (z : Fin 65) (h : z.val < 64) :
    parts x0 x1 x2 x3 x4 x5 x6 x7 n j z = given x0 x1 x2 x3 x4 x5 x6 x7 ⟨z.val, h⟩ n j := by
  unfold parts
  rw [dif_pos h]

theorem parts_after (n : Fin 128) (j : Fin 1024) (z : Fin 65) (h : ¬z.val < 64) : parts x0 x1 x2 x3 x4 x5 x6 x7 n j z = 0 := by
  unfold parts
  rw [dif_neg h]

theorem parts_at (j : Fin 1024) (n : Fin 128) (z : Fin 65) (h1 h2 h3) :
    val_main_v196 (F := Ideal) x0 x1 x2 x3 x4 x5 x6 x7 (ix5 ⟨j.val / 512, h1⟩ ⟨j.val / 64 % 8, h2⟩ ⟨j.val % 64, h3⟩ n z) = parts x0 x1 x2 x3 x4 x5 x6 x7 n j z := by
  pointwise [val_main_v196, val_main_v195, val_main_cst_22]
  by_cases h : z.val < 64
  · refine Eq.trans ?_ (parts_within x0 x1 x2 x3 x4 x5 x6 x7 n j z h).symm
    refine Eq.trans (dif_pos ⟨h, h1, h2, h3⟩) ?_
    exact given_at x0 x1 x2 x3 x4 x5 x6 x7 ⟨z.val, h⟩ j n h1 h2 h3
  · refine Eq.trans ?_ (parts_after x0 x1 x2 x3 x4 x5 x6 x7 n j z h).symm
    exact dif_neg fun e => h e.1

/-- The gradient of the state entering chunk `z` (64 is after the last). -/
noncomputable def back (z : Fin 65) : FVec Ideal ⟨2, ![128, 1024]⟩ .f32 := fun y =>
  ∑ w, parts x0 x1 x2 x3 x4 x5 x6 x7 (y 0) (y 1) w * left (columnGaps x0 x4 x5 (y 1)) w z

theorem back_at (j : Fin 1024) (n : Fin 128) (h1 h2 h3) :
    val_main_v201 (F := Ideal) x0 x1 x2 x3 x4 x5 x6 x7 (ix5 c ⟨j.val / 512, h1⟩ ⟨j.val / 64 % 8, h2⟩ ⟨j.val % 64, h3⟩ n)
      = back x0 x1 x2 x3 x4 x5 x6 x7 ⟨c.val + 1, by omega⟩ (ix2 n j) := by
  pointwise [val_main_v201, val_main_v199, val_main_v198]
  refine Finset.sum_congr rfl fun w _ => ?_
  rw [parts_at, b_carry, Cert.Ssd.carry_at, show (⟨1 + c.val, by omega⟩ : Fin 65) = ⟨c.val + 1, by omega⟩ from Fin.ext (Nat.add_comm _ _)]
  rfl

theorem col_group (g : Fin 2) (k : Fin 8) (p : Fin 64) (h) : (⟨(col g k p).val / 512, h⟩ : Fin 2) = g := Fin.ext (by simp only [col]; omega)
theorem col_head (g : Fin 2) (k : Fin 8) (p : Fin 64) (h) : (⟨(col g k p).val / 64 % 8, h⟩ : Fin 8) = k := Fin.ext (by simp only [col]; omega)
theorem col_place (g : Fin 2) (k : Fin 8) (p : Fin 64) (h) : (⟨(col g k p).val % 64, h⟩ : Fin 64) = p := Fin.ext (by simp only [col]; omega)

theorem back_col (g : Fin 2) (k : Fin 8) (p : Fin 64) (n : Fin 128) :
    val_main_v201 (F := Ideal) x0 x1 x2 x3 x4 x5 x6 x7 (ix5 c g k p n) = back x0 x1 x2 x3 x4 x5 x6 x7 ⟨c.val + 1, by omega⟩ (ix2 n (col g k p)) := by
  have e := back_at x0 x1 x2 x3 x4 x5 x6 x7 c (col g k p) n (by simp only [col]; omega) (by omega) (by omega)
  rwa [col_group, col_head, col_place] at e

theorem state_col (g : Fin 2) (k : Fin 8) (p : Fin 64) (n : Fin 128) :
    val_main_v112 (F := Ideal) x0 x2 x3 x4 x5 (ix5 c g k p n) = entering x0 x2 x3 x4 x5 ⟨c.val, by omega⟩ (ix2 n (col g k p)) := by
  have e := Cert.Ssd.state_at x0 x2 x3 x4 x5 c (col g k p) n
  rw [col_group, col_head, col_place] at e
  rw [b_state, e]

theorem left_pred {n : ℕ} (u : Fin (n + 1) → EReal) (hu : ∀ y, IsReal (u y)) (z z' w : Fin (n + 1)) (h : z'.val = z.val + 1) (hw : z' ≤ w) :
    left u w z = left u w z' * Ideal.exp (u z') := by
  have h2 : z ≤ w := by rw [Fin.le_def] at *; omega
  unfold left
  rw [if_pos h2, if_pos hw, ← Cert.Ssd.exp_add_real ((Cert.Ssd.upTo_real u hu w).sub (Cert.Ssd.upTo_real u hu z')) (hu z'), Cert.Ssd.upTo_succ u z z' h]
  obtain ⟨a, ha⟩ := Cert.Ssd.upTo_real u hu w
  obtain ⟨b, hb⟩ := Cert.Ssd.upTo_real u hu z
  obtain ⟨d, hd⟩ := hu z'
  rw [ha, hb, hd]
  norm_cast
  congr 2
  ring

/-- A sum weighted by what is left, from the step after: the step's own part is added. -/
theorem weighted_pred {n : ℕ} (w u : Fin (n + 1) → EReal) (hu : ∀ y, IsReal (u y)) (z z' : Fin (n + 1)) (h : z'.val = z.val + 1) :
    ∑ y, w y * left u y z = w z + (∑ y, w y * left u y z') * Ideal.exp (u z') := by
  rw [Cert.Ssd.sum_mul_real _ _ (hu z').exp (Cert.Ssd.exp_nonneg _), ← Finset.sum_ite_eq' Finset.univ z w |>.trans (if_pos (Finset.mem_univ _)), ← Finset.sum_add_distrib]
  refine Finset.sum_congr rfl fun y _ => ?_
  by_cases h1 : z' ≤ y
  · have h3 : ¬ y = z := by rintro rfl; rw [Fin.le_def] at h1; omega
    rw [left_pred u hu z z' y h h1, if_neg h3, zero_add, mul_assoc]
  · rw [Cert.Ssd.left_later u y z' h1]
    by_cases h3 : y = z
    · rw [if_pos h3, h3, Cert.Ssd.left_self u hu, mul_one, mul_zero, zero_mul, add_zero]
    · have h2 : ¬ z ≤ y := by
        intro h2
        rw [Fin.le_def] at *
        exact h3 (Fin.ext (by omega))
      rw [Cert.Ssd.left_later u y z h2, if_neg h3, mul_zero, zero_mul, add_zero]

/-- The last state has no gradient. -/
theorem back_last : back x0 x1 x2 x3 x4 x5 x6 x7 ⟨64, by omega⟩ = fun _ => 0 := by
  funext y
  refine Finset.sum_eq_zero fun w _ => ?_
  by_cases h : w.val < 64
  · rw [Cert.Ssd.left_later _ _ _ (fun e => by rw [Fin.le_def] at e; change 64 ≤ w.val at e; omega), mul_zero]
  · unfold parts
    rw [dif_neg h, zero_mul]

theorem back_step (h : ∀ c l h, IsReal (rates x0 x4 x5 c (ix2 l h))) (n : Fin 128) (j : Fin 1024) :
    back x0 x1 x2 x3 x4 x5 x6 x7 ⟨c.val, by omega⟩ (ix2 n j) = given x0 x1 x2 x3 x4 x5 x6 x7 c n j
      + back x0 x1 x2 x3 x4 x5 x6 x7 ⟨c.val + 1, by omega⟩ (ix2 n j) * Ideal.exp (running (rates x0 x4 x5 c) (ix2 127 (headOf j))) := by
  refine (weighted_pred _ _ (Cert.Ssd.gaps_real x0 x4 x5 h _ _) ⟨c.val, by omega⟩ ⟨c.val + 1, by omega⟩ rfl).trans (congrArg₂ (· + ·) ?_ (congrArg (_ * ·) ?_))
  · exact dif_pos c.isLt
  · rw [← head_of j (by omega) (by omega)]
    rfl

/-! ## The gradients of a chunk's own sums -/

/-- The decay from row `s` to row `l` of a chunk. -/
noncomputable def decay (l s : Fin 128) (h : Fin 16) : EReal :=
  Ideal.exp (if s ≤ l then running (rates x0 x4 x5 c) (ix2 l h) - running (rates x0 x4 x5 c) (ix2 s h) else ⊥)

/-- The product of the third part of row `l` and the second of row `s`. -/
noncomputable def score (g : Fin 2) (l s : Fin 128) : EReal :=
  ∑ n : Fin 128, cols x0 x2 x3 c (ix2 l (colC g n)) * cols x0 x2 x3 c (ix2 s (colB g n))

/-- The gradient of the stepped columns. -/
noncomputable def gradStepped (l : Fin 128) (j : Fin 1024) : EReal :=
  (∑ n : Fin 128, back x0 x1 x2 x3 x4 x5 x6 x7 ⟨c.val + 1, by omega⟩ (ix2 n j) * cols x0 x2 x3 c (ix2 l (colB (groupOf j) n)))
      * Ideal.exp (running (rates x0 x4 x5 c) (ix2 127 (headOf j)) - running (rates x0 x4 x5 c) (ix2 l (headOf j)))
    + ∑ s : Fin 128, grads x0 x1 x2 x3 x4 x5 x6 x7 c (ix2 s j) * (score x0 x2 x3 c (groupOf j) s l * decay x0 x4 x5 c s l (headOf j))

theorem gradStepped_at (j : Fin 1024) (l : Fin 128) (h1 h2 h3) :
    val_main_v241 (F := Ideal) x0 x1 x2 x3 x4 x5 x6 x7 (ix5 c l ⟨j.val / 512, h1⟩ ⟨j.val / 64 % 8, h2⟩ ⟨j.val % 64, h3⟩)
      = gradStepped x0 x1 x2 x3 x4 x5 x6 x7 c l j := by
  pointwise [val_main_v241, val_main_v226, val_main_v225, val_main_v221, val_main_v220, val_main_v86, val_main_v85, val_main_v84, val_main_v83, val_main_v82, val_main_v81,
    val_main_v240, val_main_v239, val_main_v236, val_main_v78, val_main_v77, val_main_v76, val_main_v75]
  refine congrArg₂ (· + ·) (congrArg₂ (· * ·) (Finset.sum_congr rfl fun n _ => ?_) ?_) (Finset.sum_congr rfl fun s _ => ?_)
  · rw [back_at, second_at]
    rfl
  · rw [sums_at, sums_at, head_of]
  · rw [grads_col, b_decay, Cert.Ssd.decay_at, head_of]
    refine congrArg₂ (· * ·) rfl (congrArg₂ (· * ·) (Finset.sum_congr rfl fun n _ => ?_) rfl)
    rw [third_at, second_at]
    rfl

/-- The gradient of a group's inner products. -/
noncomputable def gradScore (g : Fin 2) (l s : Fin 128) : EReal :=
  ∑ k : Fin 8, (∑ p : Fin 64, grads x0 x1 x2 x3 x4 x5 x6 x7 c (ix2 l (col g k p)) * stepped x0 x2 x3 x4 c (ix2 s (col g k p))) * decay x0 x4 x5 c l s (hd g k)

theorem gradScore_at (g : Fin 2) (l s : Fin 128) :
    val_main_v247 (F := Ideal) x0 x1 x2 x3 x4 x5 x6 x7 (ix4 g c l s) = gradScore x0 x1 x2 x3 x4 x5 x6 x7 c g l s := by
  pointwise [val_main_v247, val_main_v246, val_main_v245, val_main_v244, val_main_v238, val_main_v237, val_main_v236, val_main_cst_32, val_main_cst_33]
  simp only [Finset.univ_unique, Finset.sum_singleton]
  refine Finset.sum_congr rfl fun k _ => ?_
  rw [b_decay, Cert.Ssd.decay_at]
  refine congrArg (· * _) (Finset.sum_congr rfl fun p _ => ?_)
  rw [grads_at, stepped_at]

/-- The gradient of the second parts. -/
noncomputable def gradSecond (l : Fin 128) (g : Fin 2) (n : Fin 128) : EReal :=
  (∑ k : Fin 8, ∑ p : Fin 64, back x0 x1 x2 x3 x4 x5 x6 x7 ⟨c.val + 1, by omega⟩ (ix2 n (col g k p)) * (stepped x0 x2 x3 x4 c (ix2 l (col g k p))
      * Ideal.exp (running (rates x0 x4 x5 c) (ix2 127 (hd g k)) - running (rates x0 x4 x5 c) (ix2 l (hd g k)))))
    + ∑ s : Fin 128, gradScore x0 x1 x2 x3 x4 x5 x6 x7 c g s l * cols x0 x2 x3 c (ix2 s (colC g n))

theorem gradSecond_at (l : Fin 128) (g : Fin 2) (n : Fin 128) :
    val_main_v250 (F := Ideal) x0 x1 x2 x3 x4 x5 x6 x7 (ix4 c l g n) = gradSecond x0 x1 x2 x3 x4 x5 x6 x7 c l g n := by
  pointwise [val_main_v250, val_main_v249, val_main_v248, val_main_v219, val_main_v218, val_main_v88, val_main_v87, val_main_v86, val_main_v85, val_main_v84, val_main_v83,
    val_main_v82, val_main_v81]
  refine congrArg₂ (· + ·) (Finset.sum_congr rfl fun k _ => Finset.sum_congr rfl fun p _ => ?_) (Finset.sum_congr rfl fun s _ => ?_)
  · rw [back_col, stepped_at, sums_at, sums_at]
  · rw [gradScore_at, third_at]

/-- The gradient of the third parts. -/
noncomputable def gradThird (l : Fin 128) (g : Fin 2) (n : Fin 128) : EReal :=
  (∑ k : Fin 8, ∑ p : Fin 64, grads x0 x1 x2 x3 x4 x5 x6 x7 c (ix2 l (col g k p)) * Ideal.exp (running (rates x0 x4 x5 c) (ix2 l (hd g k)))
      * entering x0 x2 x3 x4 x5 ⟨c.val, by omega⟩ (ix2 n (col g k p)))
    + ∑ s : Fin 128, gradScore x0 x1 x2 x3 x4 x5 x6 x7 c g l s * cols x0 x2 x3 c (ix2 s (colB g n))

theorem gradThird_at (l : Fin 128) (g : Fin 2) (n : Fin 128) :
    val_main_v253 (F := Ideal) x0 x1 x2 x3 x4 x5 x6 x7 (ix4 c l g n) = gradThird x0 x1 x2 x3 x4 x5 x6 x7 c l g n := by
  pointwise [val_main_v253, val_main_v252, val_main_v251, val_main_v191, val_main_v190, val_main_v189, val_main_v187, val_main_v186, val_main_v117, val_main_v114, val_main_v113]
  refine congrArg₂ (· + ·) (Finset.sum_congr rfl fun k _ => Finset.sum_congr rfl fun p _ => ?_) (Finset.sum_congr rfl fun s _ => ?_)
  · rw [grads_at, state_col, sums_at]
  · rw [gradScore_at, second_at]

/-! ## The gradient of the convolved columns -/

/-- The gradient of the gated columns of a chunk. -/
noncomputable def gradCols : FVec Ideal ⟨2, ![128, 1536]⟩ .f32 := chunk c (val_main_v294 (F := Ideal) x0 x1 x2 x3 x4 x5 x6 x7)

theorem gradCols_first (l : Fin 128) (j : Fin 1024) :
    gradCols x0 x1 x2 x3 x4 x5 x6 x7 c (ix2 l ⟨j.val, by omega⟩)
      = grads x0 x1 x2 x3 x4 x5 x6 x7 c (ix2 l j) * x6 (ix2 0 (headOf j)) + gradStepped x0 x1 x2 x3 x4 x5 x6 x7 c l j * steps x0 x4 c (ix2 l (headOf j)) := by
  pointwise [gradCols, chunk, rowOf, val_main_v294, val_main_v293, val_main_v282, val_main_v281, val_main_v280, val_main_v276, val_main_v178, val_main_v177, val_main_v173,
    val_main_v123, val_main_v122, val_main_v54, val_main_v6]
  have e : j.val / 64 / 8 = j.val / 512 := by omega
  simp only [e]
  rw [gradStepped_at]
  rfl

theorem gradCols_second (l : Fin 128) (g : Fin 2) (n : Fin 128) :
    gradCols x0 x1 x2 x3 x4 x5 x6 x7 c (ix2 l (colB g n)) = gradSecond x0 x1 x2 x3 x4 x5 x6 x7 c l g n := by
  pointwise [gradCols, chunk, rowOf, colB, val_main_v294, val_main_v292, val_main_v267]
  rw [dif_pos (by omega)]
  exact gradSecond_at x0 x1 x2 x3 x4 x5 x6 x7 c l g n

theorem gradCols_third (l : Fin 128) (g : Fin 2) (n : Fin 128) :
    gradCols x0 x1 x2 x3 x4 x5 x6 x7 c (ix2 l (colC g n)) = gradThird x0 x1 x2 x3 x4 x5 x6 x7 c l g n := by
  pointwise [gradCols, chunk, rowOf, colC, val_main_v294, val_main_v291, val_main_v266]
  rw [dif_neg (by omega), dif_neg (by omega), ← gradThird_at x0 x1 x2 x3 x4 x5 x6 x7 c l g n]
  refine congrArg₂ (fun a b => val_main_v253 (F := Ideal) x0 x1 x2 x3 x4 x5 x6 x7 (ix4 c l a b)) (Fin.ext ?_) (Fin.ext ?_)
  · change (1280 + (g.val * 128 + n.val) - 1024 - 256) / 128 = g.val
    omega
  · change (1280 + (g.val * 128 + n.val) - 1024 - 256) % 128 = n.val
    omega

end Cert.SsdBack
-- ==== Proof.SsdBackChunk.lean ====
/-
  The sums of the state-space backward kernel over one chunk: the gradients of its inner products,
  of its stepped columns and of the states, from the gradients of its rows.
-/
module

public import proofs.«01_k».proof.Proof.SsdBackSums
public import proofs.«01_k».proof.Proof.SsdWhole
public import proofs.«01_k».proof.Proof.Gen.Kernel3Ideal.Frame

@[expose] public section

set_option maxRecDepth 16384

namespace Cert.SsdBack

open Cert.Kernel3Ideal Cert.Kernel3Ideal.Gen
open Cert.Gm (ext2)
open Cert.Ssd (headOf hd groupOf colB colC pair pair_at not_after select_bit least_bits)
open Idealize.ShloMosaic Idealize.ShloMosaic.TcCoe

/-! ## One head -/

/-- The decay between the rows of a chunk, for one head. -/
noncomputable def drop (R : FVec Ideal S128x16 .f32) (Q : FVec Ideal S16x128 .f32) (p : ℕ) (h1 : S128x16.Slices ![0, p] S128x1) (h2 : S16x128.Slices ![p, 0] S1x128) :
    FVec Ideal S128x128 .f32 :=
  exp (select k0_pay15 (subf (broadcastTo S128x128 (extractStridedSlice S128x1 ![0, p] R h1) broadcasts_S128x1_S128x128)
      (broadcastTo S128x128 (extractStridedSlice S1x128 ![p, 0] Q h2) broadcasts_S1x128_S128x128))
    (broadcast S128x128 (Scalar.ofBits (F := Ideal) .f32 0xFF800000#32)))

/-- The decay as a function of the running sums. -/
noncomputable def dropAt (R : FVec Ideal S128x16 .f32) (h : Fin 16) (l s : Fin 128) : EReal :=
  Ideal.exp (if s ≤ l then R (ix2 l h) - R (ix2 s h) else ⊥)

theorem drop_at (R : FVec Ideal S128x16 .f32) (h : Fin 16) (h1 h2) (l s : Fin 128) :
    drop R (fun y => R (ix2 (y 1) (y 0))) h.val h1 h2 (ix2 l s) = dropAt R h l s := by
  pointwise [drop, k0_pay15, dropAt]
  rw [not_after, select_bit, least_bits]

/-- What one head gives the gradient of its group's inner products. -/
noncomputable def headScore (G X : FVec Ideal S128x1024 .f32) (R : FVec Ideal S128x16 .f32) (Q : FVec Ideal S16x128 .f32) (o p : ℕ)
    (h1 : S128x16.Slices ![0, p] S128x1) (h2 : S16x128.Slices ![p, 0] S1x128) (h3 : S128x1024.Slices ![0, o] S128x64) : FVec Ideal S128x128 .f32 :=
  mulf (extf .f32 (truncf .bf16 (matmul dot_S128x64_S128x64_S128x128_1_1_0_0_n_n none (extractStridedSlice S128x64 ![0, o] G h3)
    (truncf .bf16 (extractStridedSlice S128x64 ![0, o] X h3) bitsLt_bf16_f32) (constant S128x128 .f32 0x00000000#32)) bitsLt_bf16_f32) bitsLt_bf16_f32) (drop R Q p h1 h2)

theorem headScore_at (G X : FVec Ideal S128x1024 .f32) (R : FVec Ideal S128x16 .f32) (h : Fin 16) (h1 h2 h3) (l s : Fin 128) :
    headScore G X R (fun y => R (ix2 (y 1) (y 0))) (h.val * 64) h.val h1 h2 h3 (ix2 l s)
      = (∑ p : Fin 64, G (ix2 l ⟨h.val * 64 + p.val, by omega⟩) * X (ix2 s ⟨h.val * 64 + p.val, by omega⟩)) * dropAt R h l s := by
  pointwise [headScore, drop_at]

/-- What one head gives the gradient of its stepped columns. -/
noncomputable def headCols (B : FVec Ideal S128x128 .f32) (G : FVec Ideal S128x1024 .f32) (R : FVec Ideal S128x16 .f32) (Q : FVec Ideal S16x128 .f32) (o p : ℕ)
    (h1 : S128x16.Slices ![0, p] S128x1) (h2 : S16x128.Slices ![p, 0] S1x128) (h3 : S128x1024.Slices ![0, o] S128x64) : FVec Ideal S128x64 .f32 :=
  extf .f32 (truncf .bf16 (transpose S128x64 [1, 0] (matmul dot_S128x64_S128x128_S64x128_0_0_1_1_n_n none (extractStridedSlice S128x64 ![0, o] G h3)
    (truncf .bf16 (mulf B (drop R Q p h1 h2)) bitsLt_bf16_f32) (constant S64x128 .f32 0x00000000#32)) transposes_S64x128_p1_0_S128x64) bitsLt_bf16_f32) bitsLt_bf16_f32

theorem headCols_at (B : FVec Ideal S128x128 .f32) (G : FVec Ideal S128x1024 .f32) (R : FVec Ideal S128x16 .f32) (h : Fin 16) (h1 h2 h3) (l : Fin 128) (q : Fin 64) :
    headCols B G R (fun y => R (ix2 (y 1) (y 0))) (h.val * 64) h.val h1 h2 h3 (ix2 l q)
      = ∑ s : Fin 128, G (ix2 s ⟨h.val * 64 + q.val, by omega⟩) * (B (ix2 s l) * dropAt R h s l) := by
  pointwise [headCols, drop_at]

/-! ## A head's columns among all -/

theorem no_bits : Ideal.ofBits .f32 0x00000000#32 = 0 := by simp [Ideal.ofBits, Ideal.ieee]

/-- A head's columns in their place, zeros around them. -/
noncomputable def place (a b : ℕ) (f : FVec Ideal S128x64 .f32) (h1 : Shape.Concatenates [⟨2, ![128, a]⟩, S128x64] ⟨2, ![128, a + 64]⟩ 1)
    (h2 : Shape.Concatenates [⟨2, ![128, a + 64]⟩, ⟨2, ![128, b]⟩] S128x1024 1) : FVec Ideal S128x1024 .f32 :=
  concatenate S128x1024 1 [⟨⟨2, ![128, a + 64]⟩, concatenate ⟨2, ![128, a + 64]⟩ 1 [⟨⟨2, ![128, a]⟩, broadcast ⟨2, ![128, a]⟩ (Scalar.ofBits (F := Ideal) .f32 0x00000000#32)⟩,
    ⟨S128x64, f⟩] h1⟩, ⟨⟨2, ![128, b]⟩, broadcast ⟨2, ![128, b]⟩ (Scalar.ofBits (F := Ideal) .f32 0x00000000#32)⟩] h2

theorem place_at (a b : ℕ) (f : FVec Ideal S128x64 .f32) (h : Fin 16) (ha : a = h.val * 64) (h1 h2) (l : Fin 128) (j : Fin 1024) :
    place a b f h1 h2 (ix2 l j) = if headOf j = h then f (ix2 l ⟨j.val % 64, by omega⟩) else 0 := by
  pointwise [place]
  change (if h : j.val < a + 64 then if h : j.val < a then (0 : EReal) else f (ix2 l ⟨j.val - a, by omega⟩) else 0) = _
  subst ha
  by_cases e : headOf j = h
  · have e' : j.val / 64 = h.val := congrArg Fin.val e
    rw [if_pos e, dif_pos (by omega), dif_neg (by omega)]
    exact congrArg (fun i => f (ix2 l i)) (Fin.ext (by change j.val - h.val * 64 = j.val % 64; omega))
  · have e' : ¬j.val / 64 = h.val := fun w => e (Fin.ext w)
    rw [if_neg e]
    split_ifs
    · rfl
    · omega
    · rfl

/-- The first head's columns and the last one's in their places. -/
noncomputable def placeFirst (f : FVec Ideal S128x64 .f32) : FVec Ideal S128x1024 .f32 :=
  concatenate S128x1024 1 [⟨S128x64, f⟩, ⟨S128x960, broadcast S128x960 (Scalar.ofBits (F := Ideal) .f32 0x00000000#32)⟩] concatenates_S128x64_S128x960_S128x1024_d1
noncomputable def placeLast (f : FVec Ideal S128x64 .f32) : FVec Ideal S128x1024 .f32 :=
  concatenate S128x1024 1 [⟨S128x960, broadcast S128x960 (Scalar.ofBits (F := Ideal) .f32 0x00000000#32)⟩, ⟨S128x64, f⟩] concatenates_S128x960_S128x64_S128x1024_d1

theorem place_first (f : FVec Ideal S128x64 .f32) (l : Fin 128) (j : Fin 1024) : placeFirst f (ix2 l j)
      = if headOf j = 0 then f (ix2 l ⟨j.val % 64, by omega⟩) else 0 := by
  pointwise [placeFirst]
  by_cases e : j.val < 64
  · rw [dif_pos e, if_pos (Fin.ext (by change j.val / 64 = 0; omega))]
    exact congrArg (fun i => f (ix2 l i)) (Fin.ext (by change j.val = j.val % 64; omega))
  · rw [dif_neg e, if_neg fun w => e (by have w' : j.val / 64 = 0 := congrArg Fin.val w; omega)]

theorem place_last (f : FVec Ideal S128x64 .f32) (l : Fin 128) (j : Fin 1024) : placeLast f (ix2 l j)
      = if headOf j = 15 then f (ix2 l ⟨j.val % 64, by omega⟩) else 0 := by
  pointwise [placeLast]
  by_cases e : j.val < 960
  · rw [dif_pos e, if_neg fun w => by have w' : j.val / 64 = 15 := congrArg Fin.val w; omega]
  · rw [dif_neg e, if_pos (Fin.ext (by change j.val / 64 = 15; omega))]
    exact congrArg (fun i => f (ix2 l i)) (Fin.ext (by change j.val - 960 = j.val % 64; omega))

/-- Sixteen heads' columns, each in its place, summed from the last to the first. -/
noncomputable def sixteen (f : Fin 16 → FVec Ideal S128x64 .f32) : FVec Ideal S128x1024 .f32 :=
  addf (addf (addf (addf (addf (addf (addf (addf (addf (addf (addf (addf (addf (addf (addf
    (placeLast (f 15))
    (place 896 64 (f 14) concatenates_S128x896_S128x64_S128x960_d1 concatenates_S128x960_S128x64_S128x1024_d1))
    (place 832 128 (f 13) concatenates_S128x832_S128x64_S128x896_d1 concatenates_S128x896_S128x128_S128x1024_d1))
    (place 768 192 (f 12) concatenates_S128x768_S128x64_S128x832_d1 concatenates_S128x832_S128x192_S128x1024_d1))
    (place 704 256 (f 11) concatenates_S128x704_S128x64_S128x768_d1 concatenates_S128x768_S128x256_S128x1024_d1))
    (place 640 320 (f 10) concatenates_S128x640_S128x64_S128x704_d1 concatenates_S128x704_S128x320_S128x1024_d1))
    (place 576 384 (f 9) concatenates_S128x576_S128x64_S128x640_d1 concatenates_S128x640_S128x384_S128x1024_d1))
    (place 512 448 (f 8) concatenates_S128x512_S128x64_S128x576_d1 concatenates_S128x576_S128x448_S128x1024_d1))
    (place 448 512 (f 7) concatenates_S128x448_S128x64_S128x512_d1 concatenates_S128x512_S128x512_S128x1024_d1))
    (place 384 576 (f 6) concatenates_S128x384_S128x64_S128x448_d1 concatenates_S128x448_S128x576_S128x1024_d1))
    (place 320 640 (f 5) concatenates_S128x320_S128x64_S128x384_d1 concatenates_S128x384_S128x640_S128x1024_d1))
    (place 256 704 (f 4) concatenates_S128x256_S128x64_S128x320_d1 concatenates_S128x320_S128x704_S128x1024_d1))
    (place 192 768 (f 3) concatenates_S128x192_S128x64_S128x256_d1 concatenates_S128x256_S128x768_S128x1024_d1))
    (place 128 832 (f 2) concatenates_S128x128_S128x64_S128x192_d1 concatenates_S128x192_S128x832_S128x1024_d1))
    (place 64 896 (f 1) concatenates_S128x64_S128x64_S128x128_d1 concatenates_S128x128_S128x896_S128x1024_d1))
    (placeFirst (f 0))

theorem one_of_sixteen (f : Fin 16 → EReal) (k : Fin 16) : (if k = 15 then f 15 else 0) + (if k = 14 then f 14 else 0) + (if k = 13 then f 13 else 0)
    + (if k = 12 then f 12 else 0) + (if k = 11 then f 11 else 0) + (if k = 10 then f 10 else 0) + (if k = 9 then f 9 else 0) + (if k = 8 then f 8 else 0)
    + (if k = 7 then f 7 else 0) + (if k = 6 then f 6 else 0) + (if k = 5 then f 5 else 0) + (if k = 4 then f 4 else 0) + (if k = 3 then f 3 else 0)
    + (if k = 2 then f 2 else 0) + (if k = 1 then f 1 else 0) + (if k = 0 then f 0 else 0) = f k := by
  fin_cases k <;> simp

theorem sixteen_at (f : Fin 16 → FVec Ideal S128x64 .f32) (l : Fin 128) (j : Fin 1024) : sixteen f (ix2 l j) = f (headOf j) (ix2 l ⟨j.val % 64, by omega⟩) := by
  refine Eq.trans ?_ (one_of_sixteen (fun h => f h (ix2 l ⟨j.val % 64, by omega⟩)) (headOf j))
  unfold sixteen
  pointwise
  rw [place_first, place_last, place_at 896 64 _ 14 rfl, place_at 832 128 _ 13 rfl, place_at 768 192 _ 12 rfl, place_at 704 256 _ 11 rfl, place_at 640 320 _ 10 rfl, place_at 576 384 _ 9 rfl,
    place_at 512 448 _ 8 rfl, place_at 448 512 _ 7 rfl, place_at 384 576 _ 6 rfl, place_at 320 640 _ 5 rfl, place_at 256 704 _ 4 rfl, place_at 192 768 _ 3 rfl,
    place_at 128 832 _ 2 rfl, place_at 64 896 _ 1 rfl]

/-- Eight heads summed from the last to the first. -/
theorem eight (f : Fin 8 → EReal) : f 7 + f 6 + f 5 + f 4 + f 3 + f 2 + f 1 + f 0 = ∑ k, f k := by
  rw [Fin.sum_univ_eight]
  ac_rfl

/-- A sum over a group's columns is one over its heads and their places. -/
theorem by_heads (f : Fin 512 → EReal) : ∑ q, f q = ∑ k : Fin 8, ∑ p : Fin 64, f ⟨k.val * 64 + p.val, by omega⟩ := by
  rw [← Fintype.sum_prod_type']
  refine (Fintype.sum_equiv finProdFinEquiv (fun x : Fin 8 × Fin 64 => f ⟨x.1.val * 64 + x.2.val, by omega⟩) f fun x => congrArg f (Fin.ext ?_)).symm
  change x.1.val * 64 + x.2.val = x.2.val + 64 * x.1.val
  omega

/-! ## The slices -/

theorem cut_row (h : Fin 16) : S128x16.Slices ![0, h.val] S128x1 := by
  fin_cases h
  exacts [slices_S128x16_o0_0_S128x1, slices_S128x16_o0_1_S128x1, slices_S128x16_o0_2_S128x1, slices_S128x16_o0_3_S128x1, slices_S128x16_o0_4_S128x1, slices_S128x16_o0_5_S128x1,
    slices_S128x16_o0_6_S128x1, slices_S128x16_o0_7_S128x1, slices_S128x16_o0_8_S128x1, slices_S128x16_o0_9_S128x1, slices_S128x16_o0_10_S128x1, slices_S128x16_o0_11_S128x1,
    slices_S128x16_o0_12_S128x1, slices_S128x16_o0_13_S128x1, slices_S128x16_o0_14_S128x1, slices_S128x16_o0_15_S128x1]

theorem cut_col (h : Fin 16) : S16x128.Slices ![h.val, 0] S1x128 := by
  fin_cases h
  exacts [slices_S16x128_o0_0_S1x128, slices_S16x128_o1_0_S1x128, slices_S16x128_o2_0_S1x128, slices_S16x128_o3_0_S1x128, slices_S16x128_o4_0_S1x128, slices_S16x128_o5_0_S1x128,
    slices_S16x128_o6_0_S1x128, slices_S16x128_o7_0_S1x128, slices_S16x128_o8_0_S1x128, slices_S16x128_o9_0_S1x128, slices_S16x128_o10_0_S1x128, slices_S16x128_o11_0_S1x128,
    slices_S16x128_o12_0_S1x128, slices_S16x128_o13_0_S1x128, slices_S16x128_o14_0_S1x128, slices_S16x128_o15_0_S1x128]

theorem cut_head (h : Fin 16) : S128x1024.Slices ![0, h.val * 64] S128x64 := by
  fin_cases h
  exacts [slices_S128x1024_o0_0_S128x64, slices_S128x1024_o0_64_S128x64, slices_S128x1024_o0_128_S128x64, slices_S128x1024_o0_192_S128x64, slices_S128x1024_o0_256_S128x64,
    slices_S128x1024_o0_320_S128x64, slices_S128x1024_o0_384_S128x64, slices_S128x1024_o0_448_S128x64, slices_S128x1024_o0_512_S128x64, slices_S128x1024_o0_576_S128x64,
    slices_S128x1024_o0_640_S128x64, slices_S128x1024_o0_704_S128x64, slices_S128x1024_o0_768_S128x64, slices_S128x1024_o0_832_S128x64, slices_S128x1024_o0_896_S128x64,
    slices_S128x1024_o0_960_S128x64]

theorem cut_half (g : Fin 2) : S128x1024.Slices ![0, g.val * 512] S128x512 := by
  fin_cases g
  exacts [slices_S128x1024_o0_0_S128x512, slices_S128x1024_o0_512_S128x512]

theorem cut_second (g : Fin 2) : S128x1536.Slices ![0, 1024 + g.val * 128] S128x128 := by
  fin_cases g
  exacts [slices_S128x1536_o0_1024_S128x128, slices_S128x1536_o0_1152_S128x128]

theorem cut_third (g : Fin 2) : S128x1536.Slices ![0, 1280 + g.val * 128] S128x128 := by
  fin_cases g
  exacts [slices_S128x1536_o0_1280_S128x128, slices_S128x1536_o0_1408_S128x128]

/-! ## The sums of a group -/

/-- A group's second parts of the rows, and its third parts. -/
noncomputable def second (C : FVec Ideal S128x1536 .f32) (g : Fin 2) : FVec Ideal S128x128 .bf16 :=
  truncf .bf16 (extractStridedSlice S128x128 ![0, 1024 + g.val * 128] C (cut_second g)) bitsLt_bf16_f32
noncomputable def third (C : FVec Ideal S128x1536 .f32) (g : Fin 2) : FVec Ideal S128x128 .bf16 :=
  truncf .bf16 (extractStridedSlice S128x128 ![0, 1280 + g.val * 128] C (cut_third g)) bitsLt_bf16_f32

theorem second_col (C : FVec Ideal S128x1536 .f32) (g : Fin 2) (l n : Fin 128) : second C g (ix2 l n) = C (ix2 l (colB g n)) := by
  pointwise [second]
  exact congrArg (fun i => C (ix2 l i)) (Fin.ext (by simp only [colB]; omega))

theorem third_col (C : FVec Ideal S128x1536 .f32) (g : Fin 2) (l n : Fin 128) : third C g (ix2 l n) = C (ix2 l (colC g n)) := by
  pointwise [third]
  exact congrArg (fun i => C (ix2 l i)) (Fin.ext (by simp only [colC]; omega))

/-- A group's inner products. -/
noncomputable def inners (C : FVec Ideal S128x1536 .f32) (g : Fin 2) : FVec Ideal S128x128 .f32 :=
  matmul dot_S128x128_S128x128_S128x128_1_1_0_0_n_n none (third C g) (second C g) (constant S128x128 .f32 0x00000000#32)

theorem inners_at (C : FVec Ideal S128x1536 .f32) (g : Fin 2) (l s : Fin 128) : inners C g (ix2 l s) = ∑ n : Fin 128, C (ix2 l (colC g n)) * C (ix2 s (colB g n)) := by
  pointwise [inners]
  exact Finset.sum_congr rfl fun n _ => congrArg₂ _ (third_col C g l n) (second_col C g s n)

section Sums

variable (C : FVec Ideal S128x1536 .f32) (G G' X T S dS : FVec Ideal S128x1024 .f32) (R : FVec Ideal S128x16 .f32) (Q : FVec Ideal S16x128 .f32)

/-- The gradient of a group's inner products: its heads summed from the last to the first. -/
noncomputable def scoreGrad (g : Fin 2) : FVec Ideal S128x128 .f32 :=
  addf (addf (addf (addf (addf (addf (addf
    (headScore G X R Q ((hd g 7).val * 64) (hd g 7).val (cut_row _) (cut_col _) (cut_head _))
    (headScore G X R Q ((hd g 6).val * 64) (hd g 6).val (cut_row _) (cut_col _) (cut_head _)))
    (headScore G X R Q ((hd g 5).val * 64) (hd g 5).val (cut_row _) (cut_col _) (cut_head _)))
    (headScore G X R Q ((hd g 4).val * 64) (hd g 4).val (cut_row _) (cut_col _) (cut_head _)))
    (headScore G X R Q ((hd g 3).val * 64) (hd g 3).val (cut_row _) (cut_col _) (cut_head _)))
    (headScore G X R Q ((hd g 2).val * 64) (hd g 2).val (cut_row _) (cut_col _) (cut_head _)))
    (headScore G X R Q ((hd g 1).val * 64) (hd g 1).val (cut_row _) (cut_col _) (cut_head _)))
    (headScore G X R Q ((hd g 0).val * 64) (hd g 0).val (cut_row _) (cut_col _) (cut_head _))

theorem scoreGrad_at (g : Fin 2) (l s : Fin 128) : scoreGrad G X R (fun y => R (ix2 (y 1) (y 0))) g (ix2 l s)
    = ∑ k : Fin 8, (∑ p : Fin 64, G (ix2 l (col g k p)) * X (ix2 s (col g k p))) * dropAt R (hd g k) l s := by
  refine Eq.trans ?_ (eight _)
  unfold scoreGrad
  pointwise [headScore_at]
  rfl

/-- The gradient of the stepped columns through the chunk's own rows. -/
noncomputable def colsGrad : FVec Ideal S128x1024 .f32 :=
  sixteen fun h => headCols (inners C ⟨h.val / 8, by omega⟩) G R Q (h.val * 64) h.val (cut_row h) (cut_col h) (cut_head h)

theorem colsGrad_at (l : Fin 128) (j : Fin 1024) : colsGrad C G R (fun y => R (ix2 (y 1) (y 0))) (ix2 l j)
    = ∑ s : Fin 128, G (ix2 s j) * (inners C (groupOf j) (ix2 s l) * dropAt R (headOf j) s l) := by
  unfold colsGrad
  rw [sixteen_at, headCols_at]
  have e : (⟨(headOf j).val * 64 + j.val % 64, by omega⟩ : Fin 1024) = j := Fin.ext (by simp only [headOf]; omega)
  have f : (⟨(headOf j).val / 8, by omega⟩ : Fin 2) = groupOf j := Fin.ext (by simp only [headOf, groupOf]; omega)
  simp only [e, f]

/-- The gradient of a group's third parts. -/
noncomputable def thirdGrad (g : Fin 2) : FVec Ideal S128x128 .bf16 :=
  addf (truncf .bf16 (matmul dot_S128x512_S128x512_S128x128_1_1_0_0_n_n none (extractStridedSlice S128x512 ![0, g.val * 512] G' (cut_half g))
      (truncf .bf16 (extractStridedSlice S128x512 ![0, g.val * 512] S (cut_half g)) bitsLt_bf16_f32) (constant S128x128 .f32 0x00000000#32)) bitsLt_bf16_f32)
    (truncf .bf16 (matmul dot_S128x128_S128x128_S128x128_1_0_0_1_n_n none (scoreGrad G X R Q g) (second C g) (constant S128x128 .f32 0x00000000#32)) bitsLt_bf16_f32)

theorem thirdGrad_at (g : Fin 2) (l n : Fin 128) : thirdGrad C G G' X S R (fun y => R (ix2 (y 1) (y 0))) g (ix2 l n)
    = (∑ k : Fin 8, ∑ p : Fin 64, G' (ix2 l (col g k p)) * S (ix2 n (col g k p)))
      + ∑ s : Fin 128, scoreGrad G X R (fun y => R (ix2 (y 1) (y 0))) g (ix2 l s) * C (ix2 s (colB g n)) := by
  pointwise [thirdGrad, second_col]
  refine congrArg (· + _) ((by_heads _).trans (Finset.sum_congr rfl fun k _ => Finset.sum_congr rfl fun p _ => ?_))
  have e : (⟨g.val * 512 + (k.val * 64 + p.val), by omega⟩ : Fin 1024) = col g k p := Fin.ext (by simp only [col]; omega)
  simp only [e]

/-- The gradient of a group's second parts. -/
noncomputable def secondGrad (g : Fin 2) : FVec Ideal S128x128 .bf16 :=
  addf (truncf .bf16 (transpose S128x128 [1, 0] (matmul dot_S128x512_S128x512_S128x128_1_1_0_0_n_n none (extractStridedSlice S128x512 ![0, g.val * 512] dS (cut_half g))
      (truncf .bf16 (extractStridedSlice S128x512 ![0, g.val * 512] T (cut_half g)) bitsLt_bf16_f32) (constant S128x128 .f32 0x00000000#32)) transposes_S128x128_p1_0_S128x128) bitsLt_bf16_f32)
    (truncf .bf16 (matmul dot_S128x128_S128x128_S128x128_0_0_1_1_n_n none (scoreGrad G X R Q g) (third C g) (constant S128x128 .f32 0x00000000#32)) bitsLt_bf16_f32)

theorem secondGrad_at (g : Fin 2) (l n : Fin 128) : secondGrad C G X T dS R (fun y => R (ix2 (y 1) (y 0))) g (ix2 l n)
    = (∑ k : Fin 8, ∑ p : Fin 64, dS (ix2 n (col g k p)) * T (ix2 l (col g k p)))
      + ∑ s : Fin 128, scoreGrad G X R (fun y => R (ix2 (y 1) (y 0))) g (ix2 s l) * C (ix2 s (colC g n)) := by
  pointwise [secondGrad, third_col]
  refine congrArg (· + _) ((by_heads _).trans (Finset.sum_congr rfl fun k _ => Finset.sum_congr rfl fun p _ => ?_))
  have e : (⟨g.val * 512 + (k.val * 64 + p.val), by omega⟩ : Fin 1024) = col g k p := Fin.ext (by simp only [col]; omega)
  simp only [e]

/-! ## The sums over the states -/

/-- Two groups of columns, each among zeros, summed. -/
noncomputable def both (f : Fin 2 → FVec Ideal S128x512 .f32) (Y : FVec Ideal S128x1024 .f32) : FVec Ideal S128x1024 .f32 :=
  addf (addf Y (pair (broadcast S128x512 (Scalar.ofBits (F := Ideal) .f32 0x00000000#32)) (f 1))) (pair (f 0) (broadcast S128x512 (Scalar.ofBits (F := Ideal) .f32 0x00000000#32)))

theorem both_at (f : Fin 2 → FVec Ideal S128x512 .f32) (Y : FVec Ideal S128x1024 .f32) (l : Fin 128) (j : Fin 1024) :
    both f Y (ix2 l j) = Y (ix2 l j) + f (groupOf j) (ix2 l ⟨j.val % 512, by omega⟩) := by
  pointwise [both, pair]
  by_cases e : j.val < 512
  · have d : groupOf j = 0 := Fin.ext (by change j.val / 512 = 0; omega)
    rw [dif_pos e, dif_pos e, d, add_zero]
    exact congrArg (fun i => Y (ix2 l j) + f 0 (ix2 l i)) (Fin.ext (by change j.val = j.val % 512; omega))
  · have d : groupOf j = 1 := Fin.ext (by change j.val / 512 = 1; omega)
    rw [dif_neg e, dif_neg e, d, add_zero]
    exact congrArg (fun i => Y (ix2 l j) + f 1 (ix2 l i)) (Fin.ext (by change j.val - 512 = j.val % 512; omega))

theorem col_of_half (j : Fin 1024) (h : (groupOf j).val * 512 + j.val % 512 < 1024) : (⟨(groupOf j).val * 512 + j.val % 512, h⟩ : Fin 1024) = j :=
  Fin.ext (by simp only [groupOf]; omega)

/-- What the gradient of the state a chunk leaves gives its columns. -/
noncomputable def fromLater (g : Fin 2) : FVec Ideal S128x512 .f32 :=
  extf .f32 (truncf .bf16 (transpose S128x512 [1, 0] (matmul dot_S128x512_S128x128_S512x128_0_1_1_0_n_n none (extractStridedSlice S128x512 ![0, g.val * 512] dS (cut_half g))
    (second C g) (constant S512x128 .f32 0x00000000#32)) transposes_S512x128_p1_0_S128x512) bitsLt_bf16_f32) bitsLt_bf16_f32

theorem fromLater_at (l : Fin 128) (j : Fin 1024) : fromLater C dS (groupOf j) (ix2 l ⟨j.val % 512, by omega⟩) = ∑ n : Fin 128, dS (ix2 n j) * C (ix2 l (colB (groupOf j) n)) := by
  pointwise [fromLater, second_col]
  simp only [col_of_half]

/-- What a chunk's rows give the gradient of the state entering it. -/
noncomputable def toState (g : Fin 2) : FVec Ideal S128x512 .f32 :=
  extf .f32 (truncf .bf16 (transpose S128x512 [1, 0] (matmul dot_S128x512_S128x128_S512x128_0_0_1_1_n_n none (extractStridedSlice S128x512 ![0, g.val * 512] G' (cut_half g))
    (third C g) (constant S512x128 .f32 0x00000000#32)) transposes_S512x128_p1_0_S128x512) bitsLt_bf16_f32) bitsLt_bf16_f32

theorem toState_at (n : Fin 128) (j : Fin 1024) : toState C G' (groupOf j) (ix2 n ⟨j.val % 512, by omega⟩) = ∑ l : Fin 128, G' (ix2 l j) * C (ix2 l (colC (groupOf j) n)) := by
  pointwise [toState, third_col]
  simp only [col_of_half]

end Sums

end Cert.SsdBack
-- ==== Proof.SsdBackColumns.lean ====
/-
  The gradients one chunk of the state-space backward kernel computes: through the gate and the
  group norm, then of its columns and of the state entering it.
-/
module

public import proofs.«01_k».proof.Proof.SsdBackChunk

@[expose] public section

set_option maxRecDepth 16384

namespace Cert.SsdBack

open Cert.Kernel3Ideal Cert.Kernel3Ideal.Gen
open Cert.Gm (ext2)
open Cert.Ssd (headOf hd groupOf colB colC pair pair_at colG spread)
open Idealize.ShloMosaic Idealize.ShloMosaic.TcCoe

/-! ## The columns -/

section Columns

variable (C : FVec Ideal S128x1536 .f32) (G G' X T S dS L W : FVec Ideal S128x1024 .f32) (K E : FVec Ideal S1x1024 .f32) (R : FVec Ideal S128x16 .f32) (Q : FVec Ideal S16x128 .f32)

/-- What the gradient of the state a chunk leaves gives its columns, both groups. -/
noncomputable def laterCols : FVec Ideal S128x1024 .f32 :=
  addf (pair (broadcast S128x512 (Scalar.ofBits (F := Ideal) .f32 0x00000000#32)) (fromLater C dS 1))
    (pair (fromLater C dS 0) (broadcast S128x512 (Scalar.ofBits (F := Ideal) .f32 0x00000000#32)))

theorem laterCols_at (l : Fin 128) (j : Fin 1024) : laterCols C dS (ix2 l j) = ∑ n : Fin 128, dS (ix2 n j) * C (ix2 l (colB (groupOf j) n)) := by
  refine Eq.trans ?_ (fromLater_at C dS l j)
  have e := both_at (fromLater C dS) (fun _ => 0) l j
  rw [zero_add] at e
  rw [← e]
  pointwise [both, laterCols]

/-- The gradient of the first part of the rows. -/
noncomputable def firstGrad : FVec Ideal S128x1024 .f32 :=
  addf (mulf G (broadcastTo S128x1024 K broadcasts_S1x1024_S128x1024)) (mulf (addf (colsGrad C G R Q) (mulf (laterCols C dS) L)) W)

theorem firstGrad_at (l : Fin 128) (j : Fin 1024) : firstGrad C G dS L W K R (fun y => R (ix2 (y 1) (y 0))) (ix2 l j)
    = G (ix2 l j) * K (ix2 0 j) + ((∑ s : Fin 128, G (ix2 s j) * (inners C (groupOf j) (ix2 s l) * dropAt R (headOf j) s l))
      + (∑ n : Fin 128, dS (ix2 n j) * C (ix2 l (colB (groupOf j) n))) * L (ix2 l j)) * W (ix2 l j) := by
  pointwise [firstGrad, colsGrad_at, laterCols_at]

/-- Columns between zeros. -/
noncomputable def mid (a b : ℕ) (f : FVec Ideal S128x128 .f32) (h1 : Shape.Concatenates [⟨2, ![128, a]⟩, S128x128] ⟨2, ![128, a + 128]⟩ 1)
    (h2 : Shape.Concatenates [⟨2, ![128, a + 128]⟩, ⟨2, ![128, b]⟩] S128x1536 1) : FVec Ideal S128x1536 .f32 :=
  concatenate S128x1536 1 [⟨⟨2, ![128, a + 128]⟩, concatenate ⟨2, ![128, a + 128]⟩ 1 [⟨⟨2, ![128, a]⟩, broadcast ⟨2, ![128, a]⟩ (Scalar.ofBits (F := Ideal) .f32 0x00000000#32)⟩,
    ⟨S128x128, f⟩] h1⟩, ⟨⟨2, ![128, b]⟩, broadcast ⟨2, ![128, b]⟩ (Scalar.ofBits (F := Ideal) .f32 0x00000000#32)⟩] h2

theorem mid_at (a b : ℕ) (f : FVec Ideal S128x128 .f32) (h1 h2) (l : Fin 128) (j : Fin 1536) :
    mid a b f h1 h2 (ix2 l j) = if h : a ≤ j.val ∧ j.val < a + 128 then f (ix2 l ⟨j.val - a, by omega⟩) else 0 := by
  pointwise [mid]
  change (if h : j.val < a + 128 then if h : j.val < a then (0 : EReal) else f (ix2 l ⟨j.val - a, by omega⟩) else 0) = _
  by_cases e : j.val < a + 128
  · by_cases e' : j.val < a
    · rw [dif_pos e, dif_pos e', dif_neg (by omega)]
    · rw [dif_pos e, dif_neg e', dif_pos (by omega)]
  · rw [dif_neg e, dif_neg (by omega)]

/-- Columns after zeros, and columns before zeros. -/
noncomputable def atEnd (f : FVec Ideal S128x128 .f32) : FVec Ideal S128x1536 .f32 :=
  concatenate S128x1536 1 [⟨S128x1408, broadcast S128x1408 (Scalar.ofBits (F := Ideal) .f32 0x00000000#32)⟩, ⟨S128x128, f⟩] concatenates_S128x1408_S128x128_S128x1536_d1
noncomputable def atStart (f : FVec Ideal S128x1024 .f32) : FVec Ideal S128x1536 .f32 :=
  concatenate S128x1536 1 [⟨S128x1024, f⟩, ⟨S128x512, broadcast S128x512 (Scalar.ofBits (F := Ideal) .f32 0x00000000#32)⟩] concatenates_S128x1024_S128x512_S128x1536_d1

theorem atEnd_at (f : FVec Ideal S128x128 .f32) (l : Fin 128) (j : Fin 1536) : atEnd f (ix2 l j) = if h : 1408 ≤ j.val then f (ix2 l ⟨j.val - 1408, by omega⟩) else 0 := by
  pointwise [atEnd]
  by_cases e : j.val < 1408
  · rw [dif_pos e, dif_neg (by omega)]
  · rw [dif_neg e, dif_pos (by omega)]

theorem atStart_at (f : FVec Ideal S128x1024 .f32) (l : Fin 128) (j : Fin 1536) : atStart f (ix2 l j) = if h : j.val < 1024 then f (ix2 l ⟨j.val, h⟩) else 0 := by
  pointwise [atStart]

/-- The three parts of the rows side by side, as the kernel sums them. -/
noncomputable def joined (A : FVec Ideal S128x1024 .f32) (B D : Fin 2 → FVec Ideal S128x128 .f32) : FVec Ideal S128x1536 .f32 :=
  addf (addf (addf (addf (atEnd (D 1)) (mid 1152 256 (B 1) concatenates_S128x1152_S128x128_S128x1280_d1 concatenates_S128x1280_S128x256_S128x1536_d1))
    (mid 1280 128 (D 0) concatenates_S128x1280_S128x128_S128x1408_d1 concatenates_S128x1408_S128x128_S128x1536_d1))
    (mid 1024 384 (B 0) concatenates_S128x1024_S128x128_S128x1152_d1 concatenates_S128x1152_S128x384_S128x1536_d1)) (atStart A)

theorem joined_sum (A : FVec Ideal S128x1024 .f32) (B D : Fin 2 → FVec Ideal S128x128 .f32) (l : Fin 128) (j : Fin 1536) : joined A B D (ix2 l j)
    = (if h : 1408 ≤ j.val then D 1 (ix2 l ⟨j.val - 1408, by omega⟩) else 0)
      + (if h : 1152 ≤ j.val ∧ j.val < 1152 + 128 then B 1 (ix2 l ⟨j.val - 1152, by omega⟩) else 0)
      + (if h : 1280 ≤ j.val ∧ j.val < 1280 + 128 then D 0 (ix2 l ⟨j.val - 1280, by omega⟩) else 0)
      + (if h : 1024 ≤ j.val ∧ j.val < 1024 + 128 then B 0 (ix2 l ⟨j.val - 1024, by omega⟩) else 0)
      + (if h : j.val < 1024 then A (ix2 l ⟨j.val, h⟩) else 0) := by
  unfold joined
  pointwise
  rw [atEnd_at, mid_at, mid_at, mid_at, atStart_at]

theorem joined_first (A : FVec Ideal S128x1024 .f32) (B D : Fin 2 → FVec Ideal S128x128 .f32) (l : Fin 128) (j : Fin 1024) :
    joined A B D (ix2 l ⟨j.val, by omega⟩) = A (ix2 l j) := by
  rw [joined_sum, dif_neg (by dsimp only; omega), dif_neg (by dsimp only; omega), dif_neg (by dsimp only; omega), dif_neg (by dsimp only; omega), dif_pos j.isLt]
  simp only [zero_add]

theorem joined_second (A : FVec Ideal S128x1024 .f32) (B D : Fin 2 → FVec Ideal S128x128 .f32) (l : Fin 128) (g : Fin 2) (n : Fin 128) :
    joined A B D (ix2 l (colB g n)) = B g (ix2 l n) := by
  rw [joined_sum]
  fin_cases g
  · rw [dif_neg (by simp [colB] <;> omega), dif_neg (by simp [colB] <;> omega), dif_neg (by simp [colB] <;> omega), dif_pos (by simp [colB] <;> omega), dif_neg (by simp [colB] <;> omega)]
    simp only [zero_add, add_zero]
    exact congrArg (fun i => B 0 (ix2 l i)) (Fin.ext (by simp [colB]))
  · rw [dif_neg (by simp [colB] <;> omega), dif_pos (by simp [colB] <;> omega), dif_neg (by simp [colB] <;> omega), dif_neg (by simp [colB] <;> omega), dif_neg (by simp [colB] <;> omega)]
    simp only [zero_add, add_zero]
    exact congrArg (fun i => B 1 (ix2 l i)) (Fin.ext (by simp [colB]; omega))

theorem joined_third (A : FVec Ideal S128x1024 .f32) (B D : Fin 2 → FVec Ideal S128x128 .f32) (l : Fin 128) (g : Fin 2) (n : Fin 128) :
    joined A B D (ix2 l (colC g n)) = D g (ix2 l n) := by
  rw [joined_sum]
  fin_cases g
  · rw [dif_neg (by simp [colC] <;> omega), dif_neg (by simp [colC] <;> omega), dif_pos (by simp [colC] <;> omega), dif_neg (by simp [colC] <;> omega), dif_neg (by simp [colC] <;> omega)]
    simp only [zero_add, add_zero]
    exact congrArg (fun i => D 0 (ix2 l i)) (Fin.ext (by simp [colC]))
  · rw [dif_pos (by simp [colC] <;> omega), dif_neg (by simp [colC] <;> omega), dif_neg (by simp [colC] <;> omega), dif_neg (by simp [colC] <;> omega), dif_neg (by simp [colC] <;> omega)]
    simp only [zero_add, add_zero]
    exact congrArg (fun i => D 1 (ix2 l i)) (Fin.ext (by simp [colC]; omega))

/-- The gradient of a chunk's columns. -/
noncomputable def allGrad : FVec Ideal S128x1536 .f32 :=
  joined (firstGrad C G dS L W K R Q) (fun g => extf .f32 (secondGrad C G X T dS R Q g) bitsLt_bf16_f32) (fun g => extf .f32 (thirdGrad C G G' X S R Q g) bitsLt_bf16_f32)

/-- The gradient of the columns before their activation. -/
noncomputable def convGrad (V A : FVec Ideal S128x1536 .f32) : FVec Ideal S128x1536 .f32 :=
  addf (mulf A (logistic V)) (mulf (mulf V A) (mulf (logistic V) (subf (broadcast S128x1536 (Scalar.ofBits (F := Ideal) .f32 0x3F800000#32)) (logistic V))))

/-- The gradient of the state entering a chunk. -/
noncomputable def stateGrad : FVec Ideal S128x1024 .f32 :=
  both (toState C G') (mulf dS (broadcastTo S128x1024 E broadcasts_S1x1024_S128x1024))

theorem stateGrad_at (n : Fin 128) (j : Fin 1024) : stateGrad C G' dS E (ix2 n j)
    = dS (ix2 n j) * E (ix2 0 j) + ∑ l : Fin 128, G' (ix2 l j) * C (ix2 l (colC (groupOf j) n)) := by
  unfold stateGrad
  rw [both_at, toState_at]
  refine congrArg (· + _) ?_
  pointwise

end Columns

/-! ## The gate and the group norm -/

/-- The mean square of a group's columns, and the group norm's derivative. -/
noncomputable def meanSq (Y : FVec Ideal S128x512 .f32) : FVec Ideal S128x1 .f32 :=
  addf (divf (shapeCast S128x1 (multiReduction .add [1] S128 (mulf Y Y) 0x00000000#32 reduces_S128x512_S128 (.inl rfl) rfl) shapeCasts_S128_S128x1)
    (broadcast S128x1 (Scalar.ofBits (F := Ideal) .f32 0x44000000#32))) (broadcast S128x1 (Scalar.ofBits (F := Ideal) .f32 0x358637BD#32))

noncomputable def pull (Y N : FVec Ideal S128x512 .f32) : FVec Ideal S128x512 .f32 :=
  broadcastTo S128x512 (shapeCast S128x1 (multiReduction .add [1] S128 (divf (mulf
    (shapeCast S128x1 (multiReduction .add [1] S128 (mulf Y N) 0x00000000#32 reduces_S128x512_S128 (.inl rfl) rfl) shapeCasts_S128_S128x1)
    (mulf (broadcast S128x1 (Scalar.ofBits (F := Ideal) .f32 0xBF000000#32)) (divf (rsqrt (meanSq Y)) (meanSq Y))))
    (broadcast S128x1 (Scalar.ofBits (F := Ideal) .f32 0x44000000#32))) 0x00000000#32 reduces_S128x1_S128 (.inl rfl) rfl) shapeCasts_S128_S128x1) broadcasts_S128x1_S128x512

noncomputable def halfGrad (Y N : FVec Ideal S128x512 .f32) : FVec Ideal S128x512 .f32 :=
  addf (addf (mulf N (broadcastTo S128x512 (rsqrt (meanSq Y)) broadcasts_S128x1_S128x512)) (mulf Y (pull Y N))) (mulf (pull Y N) Y)

/-- The group norm's derivative, both groups. -/
noncomputable def normGrad (Y N : FVec Ideal S128x1024 .f32) : FVec Ideal S128x1024 .f32 :=
  addf (pair (broadcast S128x512 (Scalar.ofBits (F := Ideal) .f32 0x00000000#32)) (halfGrad (extractStridedSlice S128x512 ![0, 512] Y slices_S128x1024_o0_512_S128x512)
      (extractStridedSlice S128x512 ![0, 512] N slices_S128x1024_o0_512_S128x512)))
    (pair (halfGrad (extractStridedSlice S128x512 ![0, 0] Y slices_S128x1024_o0_0_S128x512) (extractStridedSlice S128x512 ![0, 0] N slices_S128x1024_o0_0_S128x512))
      (broadcast S128x512 (Scalar.ofBits (F := Ideal) .f32 0x00000000#32)))

/-- A group of a tile's columns. -/
noncomputable def half (Y : FVec Ideal S128x1024 .f32) (g : Fin 2) : FVec Ideal S128x512 .f32 := fun y => Y (ix2 (y 0) (colG g (y 1)))

theorem normGrad_at (Y N : FVec Ideal S128x1024 .f32) (l : Fin 128) (j : Fin 1024) :
    normGrad Y N (ix2 l j) = halfGrad (half Y (groupOf j)) (half N (groupOf j)) (ix2 l ⟨j.val % 512, by omega⟩) := by
  have e0 (Z : FVec Ideal S128x1024 .f32) : extractStridedSlice S128x512 ![0, 0] Z slices_S128x1024_o0_0_S128x512 = half Z 0 := by
    refine ext2 128 512 fun l q => ?_
    pointwise [half]
    exact congrArg (fun i => Z (ix2 l i)) (Fin.ext (by simp [colG]))
  have e1 (Z : FVec Ideal S128x1024 .f32) : extractStridedSlice S128x512 ![0, 512] Z slices_S128x1024_o0_512_S128x512 = half Z 1 := by
    refine ext2 128 512 fun l q => ?_
    pointwise [half]
    exact congrArg (fun i => Z (ix2 l i)) (Fin.ext (by simp [colG]))
  have e := both_at (fun g => halfGrad (half Y g) (half N g)) (fun _ => 0) l j
  rw [zero_add] at e
  refine Eq.trans ?_ e
  unfold normGrad both
  rw [e0, e0, e1, e1]
  pointwise

end Cert.SsdBack
-- ==== Proof.SsdBackWhole.lean ====
/-
  One chunk of the state-space backward kernel against the reference.
-/
module

public import proofs.«01_k».proof.Proof.SsdBackColumns

@[expose] public section

set_option maxRecDepth 16384

namespace Cert.SsdBack

open Cert.Reference3Ideal Cert.Reference3Ideal.Gen Cert.Reference3Ideal.Read
open Cert.Gm (ext2 chunk rowOf row_div row_mod pick)
open Cert.Ssd (IsReal running headOf hd cols steps rates entering groupOf colB colC colG spread pair overRms norms_eq rmsAt)
open Idealize.ShloMosaic Idealize.ShloMosaic.TcCoe

variable (x0 : Vec Ideal S8192x4624 .f32) (x1 : Vec Ideal S8192x1024 .f32) (x2 : Vec Ideal S4x1536 .f32) (x3 : Vec Ideal S1x1536 .f32) (x4 x5 x6 : Vec Ideal S1x16 .f32)
  (x7 : Vec Ideal S1x1024 .f32) (c : Fin 64)

/-! ## The columns -/

/-- The stepped columns, weighted by what is left of them at the chunk's end. -/
noncomputable def leftOver : FVec Ideal ⟨2, ![128, 16]⟩ .f32 := fun y =>
  Ideal.exp (running (rates x0 x4 x5 c) (ix2 127 (y 1)) - running (rates x0 x4 x5 c) (ix2 (y 0) (y 1)))

theorem scores_eq (l s : Fin 128) (g : Fin 2) :
    scoreGrad (grads x0 x1 x2 x3 x4 x5 x6 x7 c) (stepped x0 x2 x3 x4 c) (running (rates x0 x4 x5 c)) (fun y => running (rates x0 x4 x5 c) (ix2 (y 1) (y 0))) g (ix2 l s)
      = gradScore x0 x1 x2 x3 x4 x5 x6 x7 c g l s :=
  scoreGrad_at _ _ _ g l s

theorem columns_eq : allGrad (cols x0 x2 x3 c) (grads x0 x1 x2 x3 x4 x5 x6 x7 c)
    (mulf (grads x0 x1 x2 x3 x4 x5 x6 x7 c) (spread (exp (running (rates x0 x4 x5 c))))) (stepped x0 x2 x3 x4 c)
    (mulf (stepped x0 x2 x3 x4 c) (spread (leftOver x0 x4 x5 c))) (entering x0 x2 x3 x4 x5 ⟨c.val, by omega⟩) (back x0 x1 x2 x3 x4 x5 x6 x7 ⟨c.val + 1, by omega⟩)
    (spread (leftOver x0 x4 x5 c)) (spread (steps x0 x4 c)) (spread x6) (running (rates x0 x4 x5 c)) (fun y => running (rates x0 x4 x5 c) (ix2 (y 1) (y 0)))
      = gradCols x0 x1 x2 x3 x4 x5 x6 x7 c := by
  refine ext2 128 1536 fun l j => ?_
  unfold allGrad
  by_cases h : j.val < 1024
  · refine (joined_first _ _ _ l ⟨j.val, h⟩).trans (Eq.trans ?_ (gradCols_first x0 x1 x2 x3 x4 x5 x6 x7 c l ⟨j.val, h⟩).symm)
    rw [firstGrad_at]
    refine congrArg₂ (· + ·) rfl (congrArg (· * _) ((add_comm _ _).trans (congrArg₂ (· + ·) rfl (Finset.sum_congr rfl fun s _ => ?_))))
    rw [inners_at]
    rfl
  by_cases h' : j.val < 1280
  · obtain ⟨g, n, rfl⟩ : ∃ g n, j = colB g n := ⟨⟨(j.val - 1024) / 128, by omega⟩, ⟨(j.val - 1024) % 128, by omega⟩, Fin.ext (by simp only [colB]; omega)⟩
    rw [joined_second, gradCols_second]
    refine (secondGrad_at _ _ _ _ _ _ g l n).trans (congrArg₂ (· + ·) (Finset.sum_congr rfl fun k _ => Finset.sum_congr rfl fun p _ => ?_) (Finset.sum_congr rfl fun s _ => ?_))
    · refine congrArg (_ * ·) ?_
      pointwise [spread, leftOver]
      rw [headOf_col]
    · rw [scores_eq]
  · obtain ⟨g, n, rfl⟩ : ∃ g n, j = colC g n := ⟨⟨(j.val - 1280) / 128, by omega⟩, ⟨(j.val - 1280) % 128, by omega⟩, Fin.ext (by simp only [colC]; omega)⟩
    rw [joined_third, gradCols_third]
    refine (thirdGrad_at _ _ _ _ _ _ g l n).trans (congrArg₂ (· + ·) (Finset.sum_congr rfl fun k _ => Finset.sum_congr rfl fun p _ => ?_) (Finset.sum_congr rfl fun s _ => ?_))
    · refine congrArg (· * _) ?_
      pointwise [spread]
      rw [headOf_col]
    · rw [scores_eq]

theorem states_eq (h : ∀ c l h, IsReal (rates x0 x4 x5 c (ix2 l h))) :
    stateGrad (cols x0 x2 x3 c) (mulf (grads x0 x1 x2 x3 x4 x5 x6 x7 c) (spread (exp (running (rates x0 x4 x5 c))))) (back x0 x1 x2 x3 x4 x5 x6 x7 ⟨c.val + 1, by omega⟩)
      (fun y => Ideal.exp (running (rates x0 x4 x5 c) (ix2 127 (headOf (y 1))))) = back x0 x1 x2 x3 x4 x5 x6 x7 ⟨c.val, by omega⟩ := by
  refine ext2 128 1024 fun n j => ?_
  rw [back_step x0 x1 x2 x3 x4 x5 x6 x7 c h n j, stateGrad_at, add_comm]
  refine congrArg₂ (· + ·) (Finset.sum_congr rfl fun l _ => congrArg (· * _) ?_) rfl
  pointwise [spread]

theorem conv_eq : convGrad (chunk c (val_main_v40 (F := Ideal) x0 x2 x3)) (gradCols x0 x1 x2 x3 x4 x5 x6 x7 c) = chunk c (val_main_v295 (F := Ideal) x0 x1 x2 x3 x4 x5 x6 x7) := by
  refine ext2 128 1536 fun l j => ?_
  pointwise [convGrad, gradCols, chunk, val_main_v295, val_main_call15_v0, val_main_call15_v1, val_main_call15_v2, val_main_v41_2, val_main_v41_1, val_main_call0_v0, val_main_call0_v1,
    val_main_call0_v2, val_main_call0_v3, val_main_call0_v4, val_main_call0_v6, val_main_call0_v7, val_main_call0_cst, val_main_call0_cst_0, val_main_call0_cst_1]
  rfl

/-! ## The gate and the group norm -/

theorem gate_columns (j : Fin 1024) (h) : colG (groupOf j) ⟨j.val % 512, h⟩ = j := Fin.ext (by simp only [groupOf, colG]; omega)

theorem norm_eq : normGrad (chunk c (val_main_v129 (F := Ideal) x0 x2 x3 x4 x5 x6)) (mulf (chunk c x1) (broadcastTo _ x7 Cert.Kernel3Ideal.Gen.broadcasts_S1x1024_S128x1024))
    = chunk c (val_main_v169 (F := Ideal) x0 x1 x2 x3 x4 x5 x6 x7) := by
  refine ext2 128 1024 fun l j => ?_
  rw [normGrad_at]
  pointwise [halfGrad, meanSq, pull, half, chunk, gate_columns, val_main_v7, val_main_v130, val_main_v131, val_main_v132, val_main_v133, val_main_v134, val_main_v135, val_main_v136,
    val_main_v137, val_main_v138, val_main_v139, val_main_v140, val_main_v141, val_main_v145, val_main_v151, val_main_v152, val_main_v154, val_main_v155, val_main_v156,
    val_main_v157, val_main_v158, val_main_v159, val_main_v160, val_main_v161, val_main_v162, val_main_v163, val_main_v164, val_main_v165, val_main_v166, val_main_v167,
    val_main_v168, val_main_v169, val_main_cst_8, val_main_cst_9, val_main_cst_10, val_main_cst_11, val_main_cst_12, val_main_cst_13, val_main_cst_14, val_main_cst_15, val_main_cst_16]
  rfl

/-- The gate of a chunk. -/
noncomputable def gate (Z : FVec Ideal ⟨2, ![128, 1024]⟩ .f32) : FVec Ideal ⟨2, ![128, 1024]⟩ .f32 := mulf Z (logistic Z)

theorem gated_eq : mulf (chunk c (val_main_v127 (F := Ideal) x0 x2 x3 x4 x5 x6)) (gate (chunk c (val_main_v0 (F := Ideal) x0))) = chunk c (val_main_v129 (F := Ideal) x0 x2 x3 x4 x5 x6) := by
  refine ext2 128 1024 fun l j => ?_
  pointwise [gate, chunk, val_main_v129, val_main_v128_0, val_main_v128_2, val_main_call8_v0, val_main_call8_v1, val_main_call8_v2, val_main_call8_v3, val_main_call8_v4,
    val_main_call8_cst, val_main_call8_cst_0]
  rfl

theorem grads_eq : mulf (chunk c (val_main_v169 (F := Ideal) x0 x1 x2 x3 x4 x5 x6 x7)) (gate (chunk c (val_main_v0 (F := Ideal) x0))) = grads x0 x1 x2 x3 x4 x5 x6 x7 c := by
  refine ext2 128 1024 fun l j => ?_
  pointwise [gate, grads, chunk, val_main_v171, val_main_v128_0, val_main_v128_2, val_main_call8_v0, val_main_call8_v1, val_main_call8_v2, val_main_call8_v3, val_main_call8_v4,
    val_main_call8_cst, val_main_call8_cst_0]
  rfl

theorem normed_eq : pair (overRms (chunk c (val_main_v129 (F := Ideal) x0 x2 x3 x4 x5 x6)) 0 Cert.Kernel7Ideal.Gen.slices_S128x1024_o0_0_S128x512)
    (overRms (chunk c (val_main_v129 (F := Ideal) x0 x2 x3 x4 x5 x6)) 512 Cert.Kernel7Ideal.Gen.slices_S128x1024_o0_512_S128x512) = chunk c (val_main_v144 (F := Ideal) x0 x2 x3 x4 x5 x6) := by
  rw [norms_eq]
  refine ext2 128 1024 fun l j => ?_
  pointwise [rmsAt, chunk, val_main_v130, val_main_v131, val_main_v132, val_main_v133, val_main_v134, val_main_v135, val_main_v136, val_main_v137, val_main_v138, val_main_v142,
    val_main_v143, val_main_v144, val_main_cst_8, val_main_cst_9, val_main_cst_10]
  rfl

/-- A sum over all rows is one over the chunks and their rows. -/
theorem by_chunks (f : Fin 8192 → EReal) : ∑ r, f r = ∑ c : Fin 64, ∑ l : Fin 128, f (rowOf c l) := by
  rw [← Fintype.sum_prod_type']
  refine (Fintype.sum_equiv finProdFinEquiv (fun x : Fin 64 × Fin 128 => f (rowOf x.1 x.2)) f fun x => congrArg f (Fin.ext ?_)).symm
  change x.1.val * 128 + x.2.val = x.2.val + 128 * x.1.val
  omega

/-- What a chunk gives the gradient of the scale. -/
noncomputable def scaleGrad (Y D : FVec Ideal ⟨2, ![128, 1024]⟩ .f32) : FVec Ideal ⟨2, ![1, 1024]⟩ .f32 := fun y => ∑ l : Fin 128, Y (ix2 l (y 1)) * D (ix2 l (y 1))

theorem scale_at (j : Fin 1024) : val_main_v343 (F := Ideal) x0 x1 x2 x3 x4 x5 x6 (ix2 0 j)
    = ∑ c : Fin 64, scaleGrad (chunk c (val_main_v144 (F := Ideal) x0 x2 x3 x4 x5 x6)) (chunk c x1) (ix2 0 j) := by
  pointwise [scaleGrad, chunk, val_main_v343, val_main_v153, val_main_v150, val_main_v149, val_main_v148, val_main_cst_12, val_main_cst_13]
  simp only [Finset.univ_unique, Finset.sum_singleton]
  exact by_chunks fun r => val_main_v144 (F := Ideal) x0 x2 x3 x4 x5 x6 (ix2 r j) * x1 (ix2 r j)

end Cert.SsdBack
-- ==== Proof.SsdBackPoint.lean ====
/-
  What the body of the state-space gradient kernel makes of one chunk: the gradient of the rows the
  convolution gives, and the gradient of the state entering the chunk.
-/
module

public import proofs.«01_k».proof.Proof.SsdBackWhole

@[expose] public section

set_option maxRecDepth 16384

namespace Cert.SsdBack

open Cert.Kernel7Ideal Cert.Kernel7Ideal.Gen
open Cert.Reference3Ideal.Read
open Cert.Gm (ext2 chunk rowOf)
open Cert.Ssd (IsReal total spread owner running headOf steps rates cols entering overRms pair running_rows running_cols running_real rates_eq rates_real cols_eq steps_eq steps_real
  spread_steps spread_decay spread_skip spread_whole three_parts first_eq total_eq)
open Idealize.ShloMosaic Idealize.ShloMosaic.TcCoe

section Body

variable (X : FVec Ideal S128x1536 .f32) (Z : FVec Ideal S128x1024 .f32) (D : FVec Ideal S128x16 .f32) (b a s : Vec Ideal S1x16 .f32) (g : Vec Ideal S1x1024 .f32)
  (S dY dS : FVec Ideal S128x1024 .f32)

/-- The running sums of the rates, as rows and as columns. -/
noncomputable def sumsOf : FVec Ideal S128x16 .f32 := k0_pay16 D b a k0_pay7
noncomputable def sumsAcross : FVec Ideal S16x128 .f32 :=
  k0_pay18 (k0_pay15 D b a) (k0_pay17 (iota .tc S128x128 32 [0] iota_S128x128_d0_w32) (iota .tc S128x128 32 [1] iota_S128x128_d1_w32))

/-- The steps over the columns of their heads. -/
noncomputable def stepsOf : FVec Ideal S128x1024 .f32 := k0_pay20 owner (k0_pay14 D b)

/-- What is left of a row at the chunk's end, over the columns of the heads. -/
noncomputable def leftOf (R : FVec Ideal S128x16 .f32) : FVec Ideal S128x1024 .f32 :=
  addf (addf (matmul dot_S128x16_S16x1024_S128x1024_1_0_0_1_n_n none (k0_pay23 R) owner (constant S128x1024 .f32 0x00000000#32))
    (matmul dot_S128x16_S16x1024_S128x1024_1_0_0_1_n_n none (k0_pay25 R) owner (constant S128x1024 .f32 0x00000000#32)))
    (matmul dot_S128x16_S16x1024_S128x1024_1_0_0_1_n_n none (k0_pay26 R) owner (constant S128x1024 .f32 0x00000000#32))

/-- What is left of the state over a chunk. -/
noncomputable def wholeOf (R : FVec Ideal S128x16 .f32) : FVec Ideal S1x1024 .f32 := k0_pay27 owner (k0_pay19 R)

/-- The chunk's columns times the steps. -/
noncomputable def steppedOf : FVec Ideal S128x1024 .f32 := k0_pay29 (k0_pay13 X) (stepsOf D b)

/-- The gradient of the recurrence's rows. -/
noncomputable def gradsOf : FVec Ideal S128x1024 .f32 :=
  mulf (normGrad (mulf (total X D b a s S) (gate Z)) (mulf dY (broadcastTo S128x1024 g broadcasts_S1x1024_S128x1024))) (gate Z)

/-- … times the decay since the chunk's start. -/
noncomputable def decayedOf (G : FVec Ideal S128x1024 .f32) : FVec Ideal S128x1024 .f32 := mulf G (k0_pay21 owner (sumsOf D b a))

/-- The gradient of what the convolution gives. -/
noncomputable def convOf (G : FVec Ideal S128x1024 .f32) : FVec Ideal S128x1536 .f32 :=
  convGrad X (allGrad (k0_pay12 X) G (decayedOf D b a G) (steppedOf X D b) (mulf (steppedOf X D b) (leftOf (sumsOf D b a))) S dS (leftOf (sumsOf D b a)) (stepsOf D b)
    (k0_pay28 s owner) (sumsOf D b a) (sumsAcross D b a))

/-- The gradient of the state entering the chunk. -/
noncomputable def stateOf (G : FVec Ideal S128x1024 .f32) : FVec Ideal S128x1024 .f32 :=
  stateGrad (k0_pay12 X) (decayedOf D b a G) dS (wholeOf (sumsOf D b a))

/-- What the chunk gives the gradient of the scale. -/
noncomputable def scaleOf : FVec Ideal S1x1024 .f32 :=
  scaleGrad (pair (overRms (mulf (total X D b a s S) (gate Z)) 0 slices_S128x1024_o0_0_S128x512)
    (overRms (mulf (total X D b a s S) (gate Z)) 512 slices_S128x1024_o0_512_S128x512)) dY

end Body

theorem left_spread (R : FVec Ideal S128x16 .f32) (hR : ∀ l h, IsReal (k0_pay22 R (ix2 l h))) : leftOf R = spread (k0_pay22 R) := by
  refine ext2 128 1024 fun l j => Eq.trans ?_ (three_parts (k0_pay22 R) hR l j)
  unfold leftOf
  pointwise [k0_pay23, k0_pay25, k0_pay26, k0_pay24]

variable (x0 : Vec Ideal S8192x4624 .f32) (x1 : Vec Ideal S8192x1024 .f32) (x2 : Vec Ideal S4x1536 .f32) (x3 : Vec Ideal S1x1536 .f32) (x4 x5 x6 : Vec Ideal S1x16 .f32)
  (x7 : Vec Ideal S1x1024 .f32) (c : Fin 64)

variable (h2 : ∀ r h, IsReal (Cert.Reference7Ideal.Read.val_main_v2 (F := Ideal) x0 (ix2 r h))) (h4 : ∀ h, IsReal (x4 (ix2 0 h))) (h5 : ∀ h, IsReal (x5 (ix2 0 h)))
  (h6 : ∀ h, IsReal (x6 (ix2 0 h)))

include h2 h4 h5 in
theorem sums_eq : sumsOf (chunk c (Cert.Reference7Ideal.Read.val_main_v2 (F := Ideal) x0)) x4 x5 = running (rates x0 x4 x5 c) := by
  unfold sumsOf
  rw [running_rows _ _ _ (by rw [rates_eq]; exact rates_real x0 x4 x5 c h2 h4 h5), rates_eq]

include h2 h4 h5 in
theorem across_eq : sumsAcross (chunk c (Cert.Reference7Ideal.Read.val_main_v2 (F := Ideal) x0)) x4 x5 = fun y => running (rates x0 x4 x5 c) (ix2 (y 1) (y 0)) := by
  unfold sumsAcross
  rw [rates_eq, running_cols _ (rates_real x0 x4 x5 c h2 h4 h5)]

include h2 h4 h5 in
theorem left_eq : leftOf (running (rates x0 x4 x5 c)) = spread (leftOver x0 x4 x5 c) := by
  have hr' (l : Fin 128) (h : Fin 16) := running_real _ (rates_real x0 x4 x5 c h2 h4 h5) l h
  have hl (l : Fin 128) (h : Fin 16) : IsReal (k0_pay22 (running (rates x0 x4 x5 c)) (ix2 l h)) := by
    pointwise [k0_pay22, k0_pay19]
    exact ((hr' 127 h).sub (hr' l h)).exp
  rw [left_spread _ hl]
  refine ext2 128 1024 fun l j => ?_
  pointwise [spread, leftOver, k0_pay22, k0_pay19]

include h2 h4 h5 in
theorem whole_eq : wholeOf (running (rates x0 x4 x5 c)) = fun y => Ideal.exp (running (rates x0 x4 x5 c) (ix2 127 (headOf (y 1)))) := by
  unfold wholeOf
  rw [spread_whole _ (fun l h => by pointwise [k0_pay19]; exact running_real _ (rates_real x0 x4 x5 c h2 h4 h5) 127 h)]
  refine ext2 1 1024 fun l j => ?_
  pointwise [spread, k0_pay19]

include h2 h4 in
theorem stepped_eq : steppedOf (chunk c (val_main_v40 (F := Ideal) x0 x2 x3)) (chunk c (Cert.Reference7Ideal.Read.val_main_v2 (F := Ideal) x0)) x4 = stepped x0 x2 x3 x4 c := by
  unfold steppedOf stepsOf
  rw [b_conv, first_eq, steps_eq, spread_steps _ (steps_real x0 x4 c h2 h4)]
  refine ext2 128 1024 fun l j => ?_
  pointwise [k0_pay29, stepped, spread, Cert.Ssd.first]

include h2 h4 h5 h6 in
theorem grads_of : gradsOf (chunk c (val_main_v40 (F := Ideal) x0 x2 x3)) (chunk c (val_main_v0 (F := Ideal) x0)) (chunk c (Cert.Reference7Ideal.Read.val_main_v2 (F := Ideal) x0))
    x4 x5 x6 x7 (entering x0 x2 x3 x4 x5 ⟨c.val, by omega⟩) (chunk c x1) = grads x0 x1 x2 x3 x4 x5 x6 x7 c := by
  unfold gradsOf
  rw [b_conv, total_eq x0 x2 x3 x4 x5 x6 c h2 h4 h5 h6, ← b_total, gated_eq]
  refine (congrArg (fun N => mulf N _) (norm_eq x0 x1 x2 x3 x4 x5 x6 x7 c)).trans (grads_eq x0 x1 x2 x3 x4 x5 x6 x7 c)

include h2 h4 h5 h6 in
theorem conv_of : convOf (chunk c (val_main_v40 (F := Ideal) x0 x2 x3)) (chunk c (Cert.Reference7Ideal.Read.val_main_v2 (F := Ideal) x0)) x4 x5 x6
    (entering x0 x2 x3 x4 x5 ⟨c.val, by omega⟩) (back x0 x1 x2 x3 x4 x5 x6 x7 ⟨c.val + 1, by omega⟩) (grads x0 x1 x2 x3 x4 x5 x6 x7 c)
      = chunk c (val_main_v295 (F := Ideal) x0 x1 x2 x3 x4 x5 x6 x7) := by
  have hr := rates_real x0 x4 x5 c h2 h4 h5
  have hk : k0_pay28 x6 owner = spread x6 := spread_skip x6 fun l h => by rw [Subsingleton.elim l 0]; exact h6 h
  unfold convOf decayedOf
  rw [sums_eq x0 x4 x5 c h2 h4 h5, across_eq x0 x4 x5 c h2 h4 h5, left_eq x0 x4 x5 c h2 h4 h5, stepped_eq x0 x2 x3 x4 c h2 h4, hk,
    spread_decay _ (fun l h => running_real _ hr l h)]
  unfold stepsOf
  rw [steps_eq, spread_steps _ (steps_real x0 x4 c h2 h4)]
  refine Eq.trans ?_ (conv_eq x0 x1 x2 x3 x4 x5 x6 x7 c)
  rw [← columns_eq, b_conv, cols_eq]

include h2 h4 h5 in
theorem state_of : stateOf (chunk c (val_main_v40 (F := Ideal) x0 x2 x3)) (chunk c (Cert.Reference7Ideal.Read.val_main_v2 (F := Ideal) x0)) x4 x5
    (back x0 x1 x2 x3 x4 x5 x6 x7 ⟨c.val + 1, by omega⟩) (grads x0 x1 x2 x3 x4 x5 x6 x7 c) = back x0 x1 x2 x3 x4 x5 x6 x7 ⟨c.val, by omega⟩ := by
  have hr := rates_real x0 x4 x5 c h2 h4 h5
  unfold stateOf decayedOf
  rw [sums_eq x0 x4 x5 c h2 h4 h5, whole_eq x0 x4 x5 c h2 h4 h5, spread_decay _ (fun l h => running_real _ hr l h), b_conv, cols_eq]
  exact states_eq x0 x1 x2 x3 x4 x5 x6 x7 c fun c => rates_real x0 x4 x5 c h2 h4 h5

include h2 h4 h5 h6 in
theorem scale_of : scaleOf (chunk c (val_main_v40 (F := Ideal) x0 x2 x3)) (chunk c (val_main_v0 (F := Ideal) x0)) (chunk c (Cert.Reference7Ideal.Read.val_main_v2 (F := Ideal) x0))
    x4 x5 x6 (entering x0 x2 x3 x4 x5 ⟨c.val, by omega⟩) (chunk c x1) = scaleGrad (chunk c (val_main_v144 (F := Ideal) x0 x2 x3 x4 x5 x6)) (chunk c x1) := by
  unfold scaleOf
  rw [b_conv, total_eq x0 x2 x3 x4 x5 x6 c h2 h4 h5 h6, ← b_total, gated_eq, normed_eq]

end Cert.SsdBack
-- ==== Proof.SsdInput.lean ====
/-
  The arguments of the state-space forward kernel as its points read them.
-/
module

public import proofs.«01_k».proof.Proof.Gen.Kernel7Ideal.Value
public import proofs.«01_k».proof.Proof.Gen.Reference7Ideal.Read
public import proofs.«01_k».proof.Proof.GmPoint
public import Idealize.ShloMosaic.Lib.Pipeline.ValueKit
public import Idealize.ShloMosaic.Lib.StableHlo.RunRead

@[expose] public section

set_option maxRecDepth 16384

namespace Cert.Ssd

open Cert.Kernel7Ideal Cert.Kernel7Ideal.Gen
open Cert.Reference7Ideal.Read
open Cert.Gm (ext2 chunk rowOf)
open Idealize.ShloMosaic Idealize.ShloMosaic.TcCoe

variable (m : (ℓ : Loc nD τ sig) → Buf (Elt Ideal) ℓ) (c : Dev nD)

/-- Row `r` of the 512 rows of point `t`, and chunk `k` of its four. -/
def fourRow (t : Fin cfg0.N) (r : Fin 512) : Fin 8192 := ⟨t.val * 512 + r.val, by have := Nat.lt_of_lt_of_eq t.isLt N_0; omega⟩
def fourth (t : Fin cfg0.N) (k : Fin 4) : Fin 64 := ⟨t.val * 4 + k.val, by have := Nat.lt_of_lt_of_eq t.isLt N_0; omega⟩

/-- The 512 rows of point `t`. -/
def four {n : ℕ} {e : EltTy} (t : Fin cfg0.N) (X : Vec Ideal ⟨2, ![8192, n]⟩ e) : Vec Ideal ⟨2, ![512, n]⟩ e :=
  fun y => X (ix2 (fourRow t (y 0)) (y 1))

theorem at0 : ∀ t : Fin cfg0.N, win0_0.index t = ![t.val, 2] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 24] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)

/-- The columns the gate reads are the argument's own. -/
theorem kept_at (a : Fin 8192) (b : Fin 3200) (hb : b.val < 3072) :
    V m c main_v3 (ix2 a b) = m (c, main_arg0) (ix2 a ⟨b.val, by omega⟩) := by
  unfold V
  after_reads_simp
  pointwise
  rw [dif_pos hb]
  after_reads_simp
  pointwise

/-- After them come the sixteen columns of the step sizes. -/
theorem steps_at (a : Fin 8192) (b : Fin 3200) (hb : 3072 ≤ b.val) (hb' : b.val < 3088) :
    V m c main_v3 (ix2 a b) = m (c, main_arg0) (ix2 a ⟨4608 + (b.val - 3072), by omega⟩) := by
  unfold V
  after_reads_simp
  pointwise
  rw [dif_neg (by omega), dif_pos (by omega)]
  after_reads_simp
  pointwise

/-- The bias may be added first or last. -/
theorem four_taps (b w p q r : EReal) {e e' f f' g g' h h' : EReal} (h0 : e = e') (h1 : f = f') (h2 : g = g') (h3 : h = h') :
    b + w * e + p * f + q * g + r * h = e' * w + f' * p + g' * q + h' * r + b := by
  subst h0 h1 h2 h3
  rw [mul_comm w, mul_comm p, mul_comm q, mul_comm r, add_comm _ b, ← add_assoc, ← add_assoc, ← add_assoc]

theorem V_conv : V m c main_v27 = val_main_v39 (F := Ideal) (m (c, main_arg0)) (m (c, main_arg1)) (m (c, main_arg2)) := by
  unfold V
  after_reads_simp
  refine ext2 8192 1536 fun i j => ?_
  pointwise [val_main_v8, val_main_v9, val_main_v10, val_main_v11, val_main_v12, val_main_v13, val_main_v14, val_main_v15, val_main_v16,
    val_main_v17, val_main_v18, val_main_v19, val_main_v20, val_main_v21, val_main_v22, val_main_v23, val_main_v24, val_main_v25,
    val_main_v26, val_main_v27, val_main_v28, val_main_v29, val_main_v30, val_main_v31, val_main_v32, val_main_v33, val_main_v34,
    val_main_v35, val_main_v36, val_main_v37, val_main_v38, val_main_v39, val_main_v1, val_main_v3]
  refine four_taps _ _ _ _ _ ?_ ?_ ?_ ?_
  · by_cases h : i.val < 3
    · rw [dif_pos (by omega), dif_pos h]
      after_reads_simp
      pointwise [val_main_cst]
    · rw [dif_neg (by omega), dif_neg h]
      after_reads_simp
      pointwise
      congr 2; exact Fin.ext (by change 5 + i.val - 8 = i.val - 3; omega)
  · by_cases h : 1 + i.val < 3
    · rw [dif_pos (by omega), dif_pos h]
      after_reads_simp
      pointwise [val_main_cst]
    · rw [dif_neg (by omega), dif_neg h]
      after_reads_simp
      pointwise
      congr 2; exact Fin.ext (by change 6 + i.val - 8 = 1 + i.val - 3; omega)
  · by_cases h : 2 + i.val < 3
    · rw [dif_pos (by omega), dif_pos h]
      after_reads_simp
      pointwise [val_main_cst]
    · rw [dif_neg (by omega), dif_neg h]
      after_reads_simp
      pointwise
      congr 2; exact Fin.ext (by change 7 + i.val - 8 = 2 + i.val - 3; omega)
  · after_reads_simp
    pointwise

theorem block_z (t : Fin cfg0.N) : X0_0 m c t = four t (val_main_v0 (F := Ideal) (m (c, main_arg0))) := by
  refine ext2 512 1024 fun i j => ?_
  unfold X0_0 Pipeline.Window.fill
  rw [dif_pos (moved0_0 t _)]
  blk_simp [iblk, at0]
  refine (congrArg (V m c main_v3) (?_ : _ = ix2 (fourRow t i) ⟨2048 + j.val, by omega⟩)).trans
    ((kept_at m c _ _ (by change 2048 + j.val < _; omega)).trans ?_)
  · blk_ext [at0, fourRow]
  · unfold four
    pointwise [val_main_v0]

theorem block_xc (t : Fin cfg0.N) : iblk m c 1 t = four t (val_main_v39 (F := Ideal) (m (c, main_arg0)) (m (c, main_arg1)) (m (c, main_arg2))) := by
  refine ext2 512 1536 fun i j => ?_
  blk_simp [iblk, at1]
  rw [V_conv]
  unfold four
  congr 1
  blk_ext [at1, fourRow]

theorem block_dt (t : Fin cfg0.N) (i : Fin 512) (j : Fin 128) (hj : j.val < 16) :
    iblk m c 2 t (ix2 i j) = four t (val_main_v2 (F := Ideal) (m (c, main_arg0))) (ix2 i ⟨j.val, hj⟩) := by
  blk_simp [iblk, at2]
  refine (congrArg (V m c main_v3) (?_ : _ = ix2 (fourRow t i) ⟨3072 + j.val, by omega⟩)).trans
    ((steps_at m c _ _ (by change _ ≤ 3072 + j.val; omega) (by change 3072 + j.val < _; omega)).trans ?_)
  · blk_ext [at2, fourRow]
  · unfold four
    pointwise [val_main_v2]

theorem block_b (t : Fin cfg0.N) : iblk m c 3 t = m (c, main_arg3) := by
  funext y
  blk_simp [iblk, at3]
  rw [V_main_arg3]
  congr 1
  blk_ext [at3]

theorem block_a (t : Fin cfg0.N) : iblk m c 4 t = m (c, main_arg4) := by
  funext y
  blk_simp [iblk, at4]
  rw [V_main_arg4]
  congr 1
  blk_ext [at4]

theorem block_s (t : Fin cfg0.N) : iblk m c 5 t = m (c, main_arg5) := by
  funext y
  blk_simp [iblk, at5]
  rw [V_main_arg5]
  congr 1
  blk_ext [at5]

theorem block_g (t : Fin cfg0.N) : iblk m c 6 t = m (c, main_arg6) := by
  funext y
  blk_simp [iblk, at6]
  rw [V_main_arg6]
  congr 1
  blk_ext [at6]

end Cert.Ssd
-- ==== Proof.SsdBackInput.lean ====
/-
  What the host hands the state-space gradient kernel, and which rows a point reads: the points go
  through the chunks from the last to the first.
-/
module

public import proofs.«01_k».proof.Proof.SsdBackRef
public import proofs.«01_k».proof.Proof.SsdInput
public import proofs.«01_k».proof.Proof.Gen.Kernel3Ideal.Frame

@[expose] public section

set_option maxRecDepth 16384

namespace Cert.SsdBack

open Cert.Kernel3Ideal Cert.Kernel3Ideal.Gen
open Cert.Gm (ext2 chunk rowOf)
open Cert.Ssd (four_taps)
open Idealize.ShloMosaic Idealize.ShloMosaic.TcCoe

variable (m : (ℓ : Loc nD τ sig) → Buf (Elt Ideal) ℓ) (c : Dev nD)

/-- The chunk of a point. -/
def turn (t : Fin cfg0.N) : Fin 64 := ⟨63 - t.val, by omega⟩

theorem at0 : ∀ t : Fin cfg0.N, win0_0.index t = ![63 - t.val, 2] := (by decide +kernel : ∀ t : Fin grid0.N, _)
theorem at1 : ∀ t : Fin cfg0.N, win0_1.index t = ![63 - t.val, 0] := (by decide +kernel : ∀ t : Fin grid0.N, _)
theorem at2 : ∀ t : Fin cfg0.N, win0_2.index t = ![63 - t.val, 0] := (by decide +kernel : ∀ t : Fin grid0.N, _)
theorem at3 : ∀ t : Fin cfg0.N, win0_3.index t = ![63 - t.val, 24] := (by decide +kernel : ∀ t : Fin grid0.N, _)
theorem at4 : ∀ t : Fin cfg0.N, win0_4.index t = ![63 - t.val, 0] := (by decide +kernel : ∀ t : Fin grid0.N, _)
theorem at5 : ∀ t : Fin cfg0.N, win0_5.index t = ![63 - t.val, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)

/-- The columns the gate reads are the argument's own. -/
theorem kept_at (a : Fin 8192) (b : Fin 3200) (hb : b.val < 3072) :
    V m c main_v3 (ix2 a b) = m (c, main_arg0) (ix2 a ⟨b.val, by omega⟩) := by
  unfold V
  after_reads_simp
  pointwise
  rw [dif_pos hb]
  after_reads_simp
  pointwise

/-- After them come the sixteen columns of the step sizes. -/
theorem steps_at (a : Fin 8192) (b : Fin 3200) (hb : 3072 ≤ b.val) (hb' : b.val < 3088) :
    V m c main_v3 (ix2 a b) = m (c, main_arg0) (ix2 a ⟨4608 + (b.val - 3072), by omega⟩) := by
  unfold V
  after_reads_simp
  pointwise
  rw [dif_neg (by omega), dif_pos (by omega)]
  after_reads_simp
  pointwise

theorem V_conv : V m c main_v27 = Cert.Reference7Ideal.Read.val_main_v39 (F := Ideal) (m (c, main_arg0)) (m (c, main_arg2)) (m (c, main_arg3)) := by
  unfold V
  after_reads_simp
  refine ext2 8192 1536 fun i j => ?_
  pointwise [Cert.Reference7Ideal.Read.val_main_v8, Cert.Reference7Ideal.Read.val_main_v9, Cert.Reference7Ideal.Read.val_main_v10,
    Cert.Reference7Ideal.Read.val_main_v11, Cert.Reference7Ideal.Read.val_main_v12, Cert.Reference7Ideal.Read.val_main_v13,
    Cert.Reference7Ideal.Read.val_main_v14, Cert.Reference7Ideal.Read.val_main_v15, Cert.Reference7Ideal.Read.val_main_v16,
    Cert.Reference7Ideal.Read.val_main_v17, Cert.Reference7Ideal.Read.val_main_v18, Cert.Reference7Ideal.Read.val_main_v19,
    Cert.Reference7Ideal.Read.val_main_v20, Cert.Reference7Ideal.Read.val_main_v21, Cert.Reference7Ideal.Read.val_main_v22,
    Cert.Reference7Ideal.Read.val_main_v23, Cert.Reference7Ideal.Read.val_main_v24, Cert.Reference7Ideal.Read.val_main_v25,
    Cert.Reference7Ideal.Read.val_main_v26, Cert.Reference7Ideal.Read.val_main_v27, Cert.Reference7Ideal.Read.val_main_v28,
    Cert.Reference7Ideal.Read.val_main_v29, Cert.Reference7Ideal.Read.val_main_v30, Cert.Reference7Ideal.Read.val_main_v31,
    Cert.Reference7Ideal.Read.val_main_v32, Cert.Reference7Ideal.Read.val_main_v33, Cert.Reference7Ideal.Read.val_main_v34,
    Cert.Reference7Ideal.Read.val_main_v35, Cert.Reference7Ideal.Read.val_main_v36, Cert.Reference7Ideal.Read.val_main_v37,
    Cert.Reference7Ideal.Read.val_main_v38, Cert.Reference7Ideal.Read.val_main_v39, Cert.Reference7Ideal.Read.val_main_v1,
    Cert.Reference7Ideal.Read.val_main_v3]
  refine four_taps _ _ _ _ _ ?_ ?_ ?_ ?_
  · by_cases h : i.val < 3
    · rw [dif_pos (by omega), dif_pos h]
      after_reads_simp
      pointwise [Cert.Reference7Ideal.Read.val_main_cst]
    · rw [dif_neg (by omega), dif_neg h]
      after_reads_simp
      pointwise
      congr 2; exact Fin.ext (by change 5 + i.val - 8 = i.val - 3; omega)
  · by_cases h : 1 + i.val < 3
    · rw [dif_pos (by omega), dif_pos h]
      after_reads_simp
      pointwise [Cert.Reference7Ideal.Read.val_main_cst]
    · rw [dif_neg (by omega), dif_neg h]
      after_reads_simp
      pointwise
      congr 2; exact Fin.ext (by change 6 + i.val - 8 = 1 + i.val - 3; omega)
  · by_cases h : 2 + i.val < 3
    · rw [dif_pos (by omega), dif_pos h]
      after_reads_simp
      pointwise [Cert.Reference7Ideal.Read.val_main_cst]
    · rw [dif_neg (by omega), dif_neg h]
      after_reads_simp
      pointwise
      congr 2; exact Fin.ext (by change 7 + i.val - 8 = 2 + i.val - 3; omega)
  · after_reads_simp
    pointwise

/-- What the host holds in a buffer after its first `n` operations. -/
noncomputable abbrev held (n : ℕ) :=
  StableHlo.upto (List.flatten [hostOps0, hostOps0_1, hostOps0_2, hostOps0_3, hostOps0_4, hostOps0_5, hostOps0_6, hostOps0_7, hostOps0_8, hostOps0_9, hostOps0_10,
    hostOps0_11, hostOps0_12]) (fun b => m (c, b)) n

theorem held_ends : held m c 92 (Proc.tc.devRef main_v63) = Cert.Reference7Ideal.Read.val_main_v90 (F := Ideal) (m (c, main_arg0)) (m (c, main_arg4)) (m (c, main_arg5)) := by
  after_reads_simp
  rfl

theorem held_first : held m c 92 (Proc.tc.devRef main_v65) = Cert.Reference7Ideal.Read.val_main_v92 (F := Ideal) := by
  after_reads_simp
  rfl

theorem held_zero : held m c 121 (Proc.tc.devRef main_v78) = Cert.Reference7Ideal.Read.val_main_v105 (F := Ideal) := by
  after_reads_simp
  rfl

theorem held_parts : held m c 121 (Proc.tc.devRef main_v61)
    = Cert.Reference7Ideal.Read.val_main_v88 (F := Ideal) (m (c, main_arg0)) (m (c, main_arg2)) (m (c, main_arg3)) (m (c, main_arg4)) (m (c, main_arg5)) := by
  suffices h : V m c main_v27 = Cert.Reference7Ideal.Read.val_main_v39 (F := Ideal) (m (c, main_arg0)) (m (c, main_arg2)) (m (c, main_arg3)) →
      held m c 121 (Proc.tc.devRef main_v61)
        = Cert.Reference7Ideal.Read.val_main_v88 (F := Ideal) (m (c, main_arg0)) (m (c, main_arg2)) (m (c, main_arg3)) (m (c, main_arg4)) (m (c, main_arg5))
    from h (V_conv m c)
  unfold V
  after_reads_simp
  intro e
  rw [e]
  unfold Cert.Reference7Ideal.Read.val_main_v88 Cert.Reference7Ideal.Read.val_main_v62 Cert.Reference7Ideal.Read.val_main_v45
  rw [shapeCast_comp]
  refine congrArg₂ (fun a b => Host.dotGeneral dot_S64x128x2x8x64_S64x128x2x128_S64x2x8x64x128_1_1_34_3_02_02 none a b) ?_ ?_
  · refine congrArg₂ mulf ?_ ?_
    · rfl
    · rfl
  · rfl

/-- The states entering the chunks, which the host computes by the same scan as the reference. -/
theorem V_states : V m c main_v84 = Cert.Reference7Ideal.Read.val_main_v144 (F := Ideal) (m (c, main_arg0)) (m (c, main_arg2)) (m (c, main_arg3)) (m (c, main_arg4)) (m (c, main_arg5)) := by
  have e1 := held_ends m c
  have e2 := held_first m c
  have e3 := held_zero m c
  have e4 := held_parts m c
  unfold held at e1 e2 e3 e4
  unfold V
  after_reads_simp
  rw [e1, e2, e3, e4]
  rfl

/-- The columns the convolution reads. -/
theorem V_given : V m c main_v85 = Cert.Reference7Ideal.Read.val_main_v1 (F := Ideal) (m (c, main_arg0)) := by
  unfold V
  after_reads_simp
  refine ext2 8192 1536 fun i j => ?_
  pointwise [Cert.Reference7Ideal.Read.val_main_v1]

theorem block_z (t : Fin cfg0.N) : X0_0 m c t = chunk (turn t) (Cert.Reference7Ideal.Read.val_main_v0 (F := Ideal) (m (c, main_arg0))) := by
  refine ext2 128 1024 fun i j => ?_
  unfold X0_0 Pipeline.Window.fill
  rw [dif_pos (moved0_0 t _)]
  blk_simp [iblk, at0]
  refine (congrArg (V m c main_v3) (?_ : _ = ix2 (rowOf (turn t) i) ⟨2048 + j.val, by omega⟩)).trans
    ((kept_at m c _ _ (by change 2048 + j.val < _; omega)).trans ?_)
  · blk_ext [at0, rowOf, turn]
  · unfold chunk
    pointwise [Cert.Reference7Ideal.Read.val_main_v0]

theorem block_given (t : Fin cfg0.N) : iblk m c 1 t = chunk (turn t) (Cert.Reference7Ideal.Read.val_main_v1 (F := Ideal) (m (c, main_arg0))) := by
  refine ext2 128 1536 fun i j => ?_
  blk_simp [iblk, at1]
  rw [V_given]
  unfold chunk
  congr 1
  blk_ext [at1, rowOf, turn]

theorem block_xc (t : Fin cfg0.N) : iblk m c 2 t = chunk (turn t) (Cert.Reference3Ideal.Read.val_main_v40 (F := Ideal) (m (c, main_arg0)) (m (c, main_arg2)) (m (c, main_arg3))) := by
  refine ext2 128 1536 fun i j => ?_
  blk_simp [iblk, at2]
  rw [V_conv, b_conv]
  unfold chunk
  congr 1
  blk_ext [at2, rowOf, turn]

theorem block_dt (t : Fin cfg0.N) (i : Fin 128) (j : Fin 128) (hj : j.val < 16) :
    iblk m c 3 t (ix2 i j) = chunk (turn t) (Cert.Reference7Ideal.Read.val_main_v2 (F := Ideal) (m (c, main_arg0))) (ix2 i ⟨j.val, hj⟩) := by
  blk_simp [iblk, at3]
  refine (congrArg (V m c main_v3) (?_ : _ = ix2 (rowOf (turn t) i) ⟨3072 + j.val, by omega⟩)).trans
    ((steps_at m c _ _ (by change _ ≤ 3072 + j.val; omega) (by change 3072 + j.val < _; omega)).trans ?_)
  · blk_ext [at3, rowOf, turn]
  · unfold chunk
    pointwise [Cert.Reference7Ideal.Read.val_main_v2]

theorem block_dy (t : Fin cfg0.N) : iblk m c 4 t = chunk (turn t) (m (c, main_arg1)) := by
  refine ext2 128 1024 fun i j => ?_
  blk_simp [iblk, at4]
  rw [V_main_arg1]
  unfold chunk
  congr 1
  blk_ext [at4, rowOf, turn]

theorem block_state (t : Fin cfg0.N) : iblk m c 5 t = chunk (turn t) (Cert.Reference7Ideal.Read.val_main_v144 (F := Ideal) (m (c, main_arg0)) (m (c, main_arg2)) (m (c, main_arg3)) (m (c, main_arg4)) (m (c, main_arg5))) := by
  refine ext2 128 1024 fun i j => ?_
  blk_simp [iblk, at5]
  rw [V_states]
  unfold chunk
  congr 1
  blk_ext [at5, rowOf, turn]

theorem block_w (t : Fin cfg0.N) : iblk m c 6 t = m (c, main_arg2) := by
  funext y
  blk_simp [iblk, at6]
  rw [V_main_arg2]
  congr 1
  blk_ext [at6]

theorem block_b (t : Fin cfg0.N) : iblk m c 7 t = m (c, main_arg4) := by
  funext y
  blk_simp [iblk, at7]
  rw [V_main_arg4]
  congr 1
  blk_ext [at7]

theorem block_a (t : Fin cfg0.N) : iblk m c 8 t = m (c, main_arg5) := by
  funext y
  blk_simp [iblk, at8]
  rw [V_main_arg5]
  congr 1
  blk_ext [at8]

theorem block_s (t : Fin cfg0.N) : iblk m c 9 t = m (c, main_arg6) := by
  funext y
  blk_simp [iblk, at9]
  rw [V_main_arg6]
  congr 1
  blk_ext [at9]

theorem block_g (t : Fin cfg0.N) : iblk m c 10 t = m (c, main_arg7) := by
  funext y
  blk_simp [iblk, at10]
  rw [V_main_arg7]
  congr 1
  blk_ext [at10]

end Cert.SsdBack
-- ==== Proof.SsdBackValue.lean ====
/-
  The points of the state-space gradient kernel. They go from the last chunk to the first; each hands
  the gradient of its entering state, and the first rows of the gradient of what the convolution
  gives, to the next, and adds what it has to the sums of the weights' gradients.
-/
module

public import proofs.«01_k».proof.Proof.SsdBackPoint
public import proofs.«01_k».proof.Proof.SsdBackInput

@[expose] public section

set_option maxRecDepth 16384

namespace Cert.SsdBack

open Cert.Kernel3Ideal Cert.Kernel3Ideal.Gen
open Cert.Gm (ext2 chunk rowOf)
open Cert.Ssd (IsReal entering_eq)
open Idealize.ShloMosaic Idealize.ShloMosaic.TcCoe

variable (m : (ℓ : Loc nD τ sig) → Buf (Elt Ideal) ℓ) (c : Dev nD) (t : Fin cfg0.N)

/-- Every entry the step sizes and rates are made of is a real number. -/
structure Reals : Prop where
  h2 : ∀ r h, IsReal (Cert.Reference7Ideal.Read.val_main_v2 (F := Ideal) (m (c, main_arg0)) (ix2 r h))
  h4 : ∀ h, IsReal (m (c, main_arg4) (ix2 0 h))
  h5 : ∀ h, IsReal (m (c, main_arg5) (ix2 0 h))
  h6 : ∀ h, IsReal (m (c, main_arg6) (ix2 0 h))

/-! ## The loads -/

theorem same_cols (X : FVec Ideal S128x1536 .f32) : k0_pay11 X = X := by
  refine ext2 128 1536 fun i j => ?_
  pointwise [k0_pay11]

theorem same_gate (X : FVec Ideal S128x1024 .f32) : k0_pay12 X = X := by
  refine ext2 128 1024 fun i j => ?_
  pointwise [k0_pay12]

theorem same_state (X : FVec Ideal S128x1024 .f32) : k0_pay14 X = X := by
  refine ext2 128 1024 fun i j => ?_
  pointwise [k0_pay14]

theorem load_steps : k0_pay13 (View.ld (iblk m c 3 t) (Rect.unit (s := S128x128) ![0, 0] S128x16.size inb_S128x128_S128x16_0_0))
    = chunk (turn t) (Cert.Reference7Ideal.Read.val_main_v2 (F := Ideal) (m (c, main_arg0))) := by
  refine ext2 128 16 fun i j => ?_
  pointwise [k0_pay13]
  exact block_dt m c t i ⟨j.val, by omega⟩ j.isLt

/-! ## One chunk as the body computes it -/

/-- What the body computes of the rows it loads. -/
noncomputable abbrev pointCols := k0_pay11 (chunk (turn t) (Cert.Reference3Ideal.Read.val_main_v40 (F := Ideal) (m (c, main_arg0)) (m (c, main_arg2)) (m (c, main_arg3))))
noncomputable abbrev pointGate := k0_pay12 (chunk (turn t) (Cert.Reference7Ideal.Read.val_main_v0 (F := Ideal) (m (c, main_arg0))))
noncomputable abbrev pointSteps := k0_pay13 (View.ld (iblk m c 3 t) (Rect.unit (s := S128x128) ![0, 0] S128x16.size inb_S128x128_S128x16_0_0))
noncomputable abbrev pointState := k0_pay14 (chunk (turn t)
  (Cert.Reference7Ideal.Read.val_main_v144 (F := Ideal) (m (c, main_arg0)) (m (c, main_arg2)) (m (c, main_arg3)) (m (c, main_arg4)) (m (c, main_arg5))))
noncomputable abbrev pointGrads := gradsOf (pointCols m c t) (pointGate m c t) (pointSteps m c t) (m (c, main_arg4)) (m (c, main_arg5)) (m (c, main_arg6)) (m (c, main_arg7))
  (pointState m c t) (chunk (turn t) (m (c, main_arg1)))

/-- The gradients of what device `c` is given: of the carried state, and of what the convolution gives. -/
noncomputable abbrev carry (z : Fin 65) := back (m (c, main_arg0)) (m (c, main_arg1)) (m (c, main_arg2)) (m (c, main_arg3)) (m (c, main_arg4)) (m (c, main_arg5)) (m (c, main_arg6)) (m (c, main_arg7)) z
noncomputable abbrev convRows := Cert.Reference3Ideal.Read.val_main_v295 (F := Ideal) (m (c, main_arg0)) (m (c, main_arg1)) (m (c, main_arg2)) (m (c, main_arg3)) (m (c, main_arg4)) (m (c, main_arg5)) (m (c, main_arg6)) (m (c, main_arg7))
noncomputable abbrev normed := Cert.Reference3Ideal.Read.val_main_v144 (F := Ideal) (m (c, main_arg0)) (m (c, main_arg2)) (m (c, main_arg3)) (m (c, main_arg4)) (m (c, main_arg5)) (m (c, main_arg6))

/-- The chunk's number and the next one's. -/
def here : Fin 65 := ⟨(turn t).val, by have := (turn t).isLt; omega⟩
def after : Fin 65 := ⟨(turn t).val + 1, by have := (turn t).isLt; omega⟩

theorem point_grads (H : Reals m c) : pointGrads m c t = grads (m (c, main_arg0)) (m (c, main_arg1)) (m (c, main_arg2)) (m (c, main_arg3)) (m (c, main_arg4)) (m (c, main_arg5)) (m (c, main_arg6)) (m (c, main_arg7)) (turn t) := by
  unfold pointGrads pointCols pointGate pointSteps pointState
  rw [same_cols, same_gate, load_steps, same_state, entering_eq]
  exact grads_of _ _ _ _ _ _ _ _ _ H.h2 H.h4 H.h5 H.h6

theorem point_state (H : Reals m c) (P : FVec Ideal S128x1024 .f32) (hP : P = carry m c (after t)) :
    k0_pay306 (stateOf (pointCols m c t) (pointSteps m c t) (m (c, main_arg4)) (m (c, main_arg5)) (shapeCast S128x1024 P shapeCasts_S128x1024_S128x1024) (pointGrads m c t))
      = carry m c (here t) := by
  rw [point_grads m c t H]
  unfold pointCols pointSteps k0_pay306
  rw [same_cols, load_steps, shapeCast_self, shapeCast_self, hP]
  exact state_of _ _ _ _ _ _ _ _ _ H.h2 H.h4 H.h5

theorem point_conv (H : Reals m c) (P : FVec Ideal S128x1024 .f32) (hP : P = carry m c (after t)) :
    convOf (pointCols m c t) (pointSteps m c t) (m (c, main_arg4)) (m (c, main_arg5)) (m (c, main_arg6)) (pointState m c t)
        (shapeCast S128x1024 P shapeCasts_S128x1024_S128x1024) (pointGrads m c t)
      = chunk (turn t) (convRows m c) := by
  rw [point_grads m c t H]
  unfold pointCols pointSteps pointState
  rw [same_cols, load_steps, shapeCast_self, hP, same_state, entering_eq]
  exact conv_of _ _ _ _ _ _ _ _ _ H.h2 H.h4 H.h5 H.h6

theorem state_B (H : Reals m c) (h0 h1 : ¬t.val % 64 = 0) (h2 : ¬t.val % 64 = 63)
    (hS : (outsAt0 m c (t.val - 1) (Nat.lt_of_le_of_lt (Nat.sub_le _ _) t.isLt)).2.2.2.2.2.2.2.2.1 = carry m c (after t)) : (outsAt0 m c t.val t.isLt).2.2.2.2.2.2.2.2.1 = carry m c (here t) := by
  have e := point_state m c t H _ (((Memref.isWhole_whole cc0_scratch1).read_unread (Val := Elt Ideal) _).trans hS)
  rw [outsAt0_B m c t h0 h1 h2]
  dsimp only
  frame_out
  simp only [block_z, block_xc, block_b, block_a, block_s, block_g, block_w, block_dy, block_state]
  exact e

end Cert.SsdBack
-- ==== Proof.SsdBackWeights.lean ====
/-
  The gradients of the convolution's weights and bias: sums over all rows, chunk by chunk.
-/
module

public import proofs.«01_k».proof.Proof.SsdBackWhole

@[expose] public section

set_option maxRecDepth 16384

namespace Cert.SsdBack

open Cert.Reference3Ideal Cert.Reference3Ideal.Gen Cert.Reference3Ideal.Read
open Cert.Gm (ext2 chunk rowOf)
open Idealize.ShloMosaic Idealize.ShloMosaic.TcCoe

variable (x0 : Vec Ideal S8192x4624 .f32) (x1 : Vec Ideal S8192x1024 .f32) (x2 : Vec Ideal S4x1536 .f32) (x3 : Vec Ideal S1x1536 .f32) (x4 x5 x6 : Vec Ideal S1x16 .f32)
  (x7 : Vec Ideal S1x1024 .f32)

/-- Row `n` of an array, or zero after its last. -/
noncomputable def rowOr (D : FVec Ideal ⟨2, ![8192, 1536]⟩ .f32) (n : ℕ) (j : Fin 1536) : EReal := if h : n < 8192 then D (ix2 ⟨n, h⟩ j) else 0

theorem bias_at (j : Fin 1536) : val_main_v347 (F := Ideal) x0 x1 x2 x3 x4 x5 x6 x7 (ix2 0 j)
    = ∑ c : Fin 64, ∑ l : Fin 128, val_main_v295 (F := Ideal) x0 x1 x2 x3 x4 x5 x6 x7 (ix2 (rowOf c l) j) := by
  pointwise [val_main_v347, val_main_v298, val_main_v297, val_main_v296, val_main_cst_44, val_main_cst_45]
  simp only [Finset.univ_unique, Finset.sum_singleton]
  exact by_chunks fun r => val_main_v295 (F := Ideal) x0 x1 x2 x3 x4 x5 x6 x7 (ix2 r j)

/-- A sum over the rows with the earlier array `s` rows behind is one with the later array `s` rows ahead. -/
theorem behind_ahead (s u : ℕ) (X D : ℕ → EReal) :
    (∑ n ∈ Finset.range (s + u), (if n < s then 0 else X (n - s)) * D n) = ∑ n ∈ Finset.range (s + u), (if n + s < s + u then D (n + s) else 0) * X n := by
  rw [Finset.sum_range_add, Nat.add_comm s u, Finset.sum_range_add, Finset.sum_eq_zero (s := Finset.range s) (fun n hn => by
    rw [if_pos (Finset.mem_range.1 hn), zero_mul]), zero_add, Finset.sum_eq_zero (s := Finset.range s) (fun n _ => by
    rw [if_neg (by omega), zero_mul]), add_zero]
  refine Finset.sum_congr rfl fun n hn => ?_
  rw [if_neg (by omega), if_pos (by have := Finset.mem_range.1 hn; omega), Nat.add_sub_cancel_left, Nat.add_comm s n, mul_comm]

theorem weights_at (k : Fin 4) (j : Fin 1536) : val_main_v338 (F := Ideal) x0 x1 x2 x3 x4 x5 x6 x7 (ix2 k j)
    = ∑ r : Fin 8192, (if h : k.val + r.val < 3 then 0 else val_main_v1 (F := Ideal) x0 (ix2 ⟨k.val + r.val - 3, by omega⟩ j))
        * val_main_v295 (F := Ideal) x0 x1 x2 x3 x4 x5 x6 x7 (ix2 r j) := by
  fin_cases k
  all_goals
    pointwise [val_main_v338, val_main_v337, val_main_v336, val_main_v335, val_main_v332, val_main_v331, val_main_v330, val_main_v327, val_main_v326, val_main_v325,
      val_main_v324, val_main_v321, val_main_v320, val_main_v319, val_main_v316, val_main_v315, val_main_v314, val_main_v313, val_main_v310, val_main_v309, val_main_v308,
      val_main_v306, val_main_v305, val_main_v304, val_main_v301, val_main_v300, val_main_v299, val_main_cst_46, val_main_cst_47, val_main_cst_48, val_main_cst_50,
      val_main_cst_51, val_main_cst_52, val_main_cst_54, val_main_cst_55, val_main_cst_56, val_main_cst_58, val_main_cst_59, val_main_cst_60,
      val_main_v11, val_main_v17, val_main_v24, val_main_v31, val_main_v9, val_main_v8, val_main_cst]
    simp only [Finset.univ_unique, Finset.sum_singleton]

/-- One term of a weight's gradient: the convolution's gradient `3 - k` rows ahead times the row it was weighed with. -/
noncomputable def tap (X D : FVec Ideal ⟨2, ![8192, 1536]⟩ .f32) (j : Fin 1536) (k : ℕ) (c : Fin 64) (l : Fin 128) : EReal :=
  rowOr D (c.val * 128 + l.val + (3 - k)) j * X (ix2 (rowOf c l) j)

theorem weights_chunks (k : Fin 4) (j : Fin 1536) : val_main_v338 (F := Ideal) x0 x1 x2 x3 x4 x5 x6 x7 (ix2 k j)
    = ∑ c : Fin 64, ∑ l : Fin 128, tap (val_main_v1 (F := Ideal) x0) (val_main_v295 (F := Ideal) x0 x1 x2 x3 x4 x5 x6 x7) j k.val c l := by
  rw [weights_at]
  set X := val_main_v1 (F := Ideal) x0
  set D := val_main_v295 (F := Ideal) x0 x1 x2 x3 x4 x5 x6 x7
  have hk := k.isLt
  have e := behind_ahead (3 - k.val) (8192 - (3 - k.val)) (fun n => rowOr X n j) (fun n => rowOr D n j)
  rw [Nat.add_sub_cancel' (show 3 - k.val ≤ 8192 by omega), Finset.sum_range, Finset.sum_range] at e
  refine Eq.trans (Finset.sum_congr rfl fun r _ => ?_) (e.trans (Eq.trans (Finset.sum_congr rfl fun r _ => ?_)
    (by_chunks fun r => rowOr D (r.val + (3 - k.val)) j * X (ix2 r j))))
  · have hr := r.isLt
    have ed : rowOr D r.val j = D (ix2 r j) := dif_pos hr
    rw [ed]
    congr 1
    by_cases h : k.val + r.val < 3
    · rw [dif_pos h, if_pos (by omega)]
    · rw [dif_neg h, if_neg (by omega)]
      refine Eq.trans ?_ (dif_pos (show r.val - (3 - k.val) < 8192 by omega)).symm
      congr 2
      apply Fin.ext
      show k.val + r.val - 3 = r.val - (3 - k.val)
      omega
  · have hr := r.isLt
    have ex : rowOr X r.val j = X (ix2 r j) := dif_pos hr
    rw [ex]
    congr 1
    by_cases h : r.val + (3 - k.val) < 8192
    · rw [if_pos h]
    · rw [if_neg h]
      unfold rowOr
      rw [dif_neg h]

/-- The rows of a chunk, taken eight at a time. -/
theorem rows_by_eight (f : Fin 128 → EReal) : ∑ q : Fin 8, ∑ a : Fin 16, f ⟨a.val * 8 + q.val, by omega⟩ = ∑ l, f l := by
  rw [Finset.sum_comm, ← Fintype.sum_prod_type']
  exact Fintype.sum_equiv (finProdFinEquiv.trans (finCongr (show 16 * 8 = 128 from rfl))) _ f fun p => congrArg f (Fin.ext (by
    simp [finProdFinEquiv]; omega))

/-- The sum over the chunks met in the first `n` points, which go from the last chunk to the first. -/
noncomputable def sofar (f : Fin 64 → EReal) (n : ℕ) : EReal := ∑ s ∈ Finset.range n, f ⟨63 - s, by omega⟩

theorem sofar_zero (f : Fin 64 → EReal) : sofar f 0 = 0 := Finset.sum_range_zero _

theorem sofar_succ (f : Fin 64 → EReal) (n : ℕ) : sofar f (n + 1) = sofar f n + f ⟨63 - n, by omega⟩ := Finset.sum_range_succ _ _

theorem sofar_all (f : Fin 64 → EReal) : sofar f 64 = ∑ c, f c := by
  unfold sofar
  rw [Finset.sum_range]
  exact Fintype.sum_equiv Fin.revPerm _ f fun p => congrArg f (Fin.ext (by simp))

end Cert.SsdBack
-- ==== Proof.SsdBackTaps.lean ====
/-
  The scratch rows of the state-space gradient kernel: a chunk of the convolution's gradient with the
  first rows of the next chunk's under it, and the running sums of the weights' gradients.
-/
module

public import proofs.«01_k».proof.Proof.SsdBackWeights
public import proofs.«01_k».proof.Proof.SsdBackInput
public import Idealize.ShloMosaic.Lib.WritesUnit

@[expose] public section

set_option maxRecDepth 16384

namespace Cert.SsdBack

open Cert.Kernel3Ideal Cert.Kernel3Ideal.Gen
open Cert.Gm (ext2 chunk rowOf)
open Idealize.ShloMosaic Idealize.ShloMosaic.TcCoe

variable (D : FVec Ideal ⟨2, ![8192, 1536]⟩ .f32) (tt : Fin 64)

/-- The rows of a chunk, `s` rows ahead. -/
noncomputable def ahead (s : ℕ) : FVec Ideal ⟨2, ![128, 1536]⟩ .f32 := fun y => rowOr D (tt.val * 128 + (y 0).val + s) (y 1)

theorem ahead_at (s : ℕ) (l : Fin 128) (j : Fin 1536) : ahead D tt s (ix2 l j) = rowOr D (tt.val * 128 + l.val + s) j := rfl

theorem rowOr_in (n : ℕ) (hn : n < 8192) (j : Fin 1536) : rowOr D n j = D (ix2 ⟨n, hn⟩ j) := dif_pos hn

theorem chunk_rowOr (l : Fin 128) (j : Fin 1536) : chunk (n := 1536) (e := .f32) tt D (ix2 l j) = rowOr D (tt.val * 128 + l.val) j := by
  rw [rowOr_in D _ (by omega)]
  rfl

/-! ## The sums of sixteen groups of eight rows -/

theorem tap_first (x : Vec Ideal S128x1536 .bf16) (V : Vec Ideal S128x1536 .f32) (A : Vec Ideal S1x8x1536 .f32) (q : Fin 8) (j : Fin 1536) :
    k0_pay315 (k0_pay314 (F := Ideal) x V A) (ix3 0 q j)
      = A (ix3 0 q j) + ∑ a : Fin 16, V (ix2 ⟨a.val * 8 + q.val, by omega⟩ j) * x (ix2 ⟨a.val * 8 + q.val, by omega⟩ j) := by
  pointwise [k0_pay315, k0_pay314, k0_pay312]

theorem tap_second (x : Vec Ideal S128x1536 .bf16) (V : Vec Ideal S128x1536 .f32) (A : Vec Ideal S1x8x1536 .f32) (q : Fin 8) (j : Fin 1536) :
    k0_pay316 (F := Ideal) (k0_pay312 x) V A (ix3 0 q j)
      = A (ix3 0 q j) + ∑ a : Fin 16, V (ix2 ⟨a.val * 8 + q.val, by omega⟩ j) * x (ix2 ⟨a.val * 8 + q.val, by omega⟩ j) := by
  pointwise [k0_pay316, k0_pay312]

theorem tap_third (x : Vec Ideal S128x1536 .bf16) (V : Vec Ideal S128x1536 .f32) (A : Vec Ideal S1x8x1536 .f32) (q : Fin 8) (j : Fin 1536) :
    k0_pay318 (F := Ideal) (k0_pay312 x) V A (ix3 0 q j)
      = A (ix3 0 q j) + ∑ a : Fin 16, V (ix2 ⟨a.val * 8 + q.val, by omega⟩ j) * x (ix2 ⟨a.val * 8 + q.val, by omega⟩ j) := by
  pointwise [k0_pay318, k0_pay312]

theorem tap_last (x : Vec Ideal S128x1536 .bf16) (V : Vec Ideal S128x1536 .f32) (A : Vec Ideal S1x8x1536 .f32) (q : Fin 8) (j : Fin 1536) :
    k0_pay320 (F := Ideal) (k0_pay312 x) V A (ix3 0 q j)
      = A (ix3 0 q j) + ∑ a : Fin 16, V (ix2 ⟨a.val * 8 + q.val, by omega⟩ j) * x (ix2 ⟨a.val * 8 + q.val, by omega⟩ j) := by
  pointwise [k0_pay320, k0_pay312]

theorem bias_rows (W : FVec Ideal S128x1536 .f32) (Y : Vec Ideal S8x1536 .f32) (q : Fin 8) (j : Fin 1536) :
    k0_pay321 (F := Ideal) W Y (ix2 q j) = Y (ix2 q j) + ∑ a : Fin 16, W (ix2 ⟨a.val * 8 + q.val, by omega⟩ j) := by
  pointwise [k0_pay321]

theorem weights_out (Y : Vec Ideal S4x8x1536 .f32) (k : Fin 4) (j : Fin 1536) : k0_pay322 (F := Ideal) Y (ix2 k j) = ∑ q : Fin 8, Y (ix3 k q j) := by
  pointwise [k0_pay322]

theorem bias_out (Y : Vec Ideal S8x1536 .f32) (j : Fin 1536) : k0_pay323 (F := Ideal) Y (ix2 0 j) = ∑ q : Fin 8, Y (ix2 q j) := by
  pointwise [k0_pay323]

/-! ## The chunk's rows and those under them -/

/-- The chunk's rows as they are stored. -/
noncomputable abbrev top : View.Piece (Elt Ideal) S136x1536 .f32 := ⟨Rect.unit ![0, 0] ![128, 1536] inb_S136x1536_S128x1536_0_0, k0_pay311 (F := Ideal) (chunk (n := 1536) (e := .f32) tt D)⟩

theorem top_read (f : (View.whole cc0_scratch0).ty.Contents (Elt Ideal)) (L : List (View.Piece (Elt Ideal) S136x1536 .f32)) (r : ℕ) (hr : r < 128) (j : Fin 1536) :
    (View.whole cc0_scratch0).read (Elt Ideal) ((View.whole cc0_scratch0).writes (Elt Ideal) f (top D tt :: L)) (ix2 ⟨r, by omega⟩ j) = rowOr D (tt.val * 128 + r) j := by
  rw [View.read_writes_cons_unit_of_mem _ _ _ _ _ _ (ix2 (⟨r, hr⟩ : Fin 128) j) rfl (by intro a; fin_cases a <;> simp)]
  refine Eq.trans ?_ (chunk_rowOr D tt ⟨r, hr⟩ j)
  pointwise [k0_pay311]

theorem under_read (f : (View.whole cc0_scratch0).ty.Contents (Elt Ideal)) (L : List (View.Piece (Elt Ideal) S136x1536 .f32)) (r : ℕ) (hr : 128 ≤ r) (hr' : r < 136) (j : Fin 1536) :
    (View.whole cc0_scratch0).read (Elt Ideal) ((View.whole cc0_scratch0).writes (Elt Ideal) f (top D tt :: L)) (ix2 ⟨r, hr'⟩ j)
      = (View.whole cc0_scratch0).read (Elt Ideal) ((View.whole cc0_scratch0).writes (Elt Ideal) f L) (ix2 ⟨r, hr'⟩ j) := by
  rw [View.read_writes_cons_unit_of_not_mem _ _ _ _ _ _ rfl 0 (Or.inr (by simpa using hr))]

theorem ext_rows (f : (View.whole cc0_scratch0).ty.Contents (Elt Ideal)) (L : List (View.Piece (Elt Ideal) S136x1536 .f32))
    (hL : ∀ (i : ℕ) (hi : i < 8) (j : Fin 1536), (View.whole cc0_scratch0).read (Elt Ideal) ((View.whole cc0_scratch0).writes (Elt Ideal) f L) (ix2 ⟨128 + i, by omega⟩ j) = rowOr D (tt.val * 128 + 128 + i) j)
    (s : ℕ) (hs : s < 8) (inb : ∀ a, (![s, 0] : Fin 2 → ℕ) a + (![128, 1536] : Fin 2 → ℕ) a ≤ S136x1536.size a) :
    View.ld ((View.whole cc0_scratch0).read (Elt Ideal) ((View.whole cc0_scratch0).writes (Elt Ideal) f (top D tt :: L))) (Rect.unit ![s, 0] ![128, 1536] inb)
      = ahead D tt s := by
  refine ext2 128 1536 fun l j => ?_
  rw [ahead_at]
  have e : (Rect.unit (s := S136x1536) ![s, 0] ![128, 1536] inb).idx (ix2 l j) = ix2 ⟨s + l.val, by omega⟩ j := by
    funext a
    apply Fin.ext
    rw [Rect.idx_unit_val]
    fin_cases a <;> simp
  show (View.whole cc0_scratch0).read (Elt Ideal) ((View.whole cc0_scratch0).writes (Elt Ideal) f (top D tt :: L)) ((Rect.unit (s := S136x1536) ![s, 0] ![128, 1536] inb).idx (ix2 l j)) = _
  rw [e]
  by_cases h : s + l.val < 128
  · rw [top_read D tt f L _ h]
    congr 1
    omega
  · obtain ⟨i, hi⟩ : ∃ i, s + l.val = 128 + i := ⟨s + l.val - 128, by omega⟩
    rw [under_read D tt f L _ (by omega)]
    have := hL i (by omega) j
    simp only [hi]
    rw [this]
    congr 1
    omega

theorem first_load (L : List (View.Piece (Elt Ideal) S136x1536 .f32)) (i : Fin 8) (j : Fin 1536) :
    ((View.whole cc0_scratch0).readCov (Val := Elt Ideal) (top D tt :: L) (Rect.unit (s := S136x1536) ![0, 0] ![8, 1536] inb_S136x1536_S8x1536_0_0).toLoadRect : Vec Ideal S8x1536 .f32) (ix2 i j)
      = rowOr D (tt.val * 128 + i.val) j := by
  refine Eq.trans ?_ (top_read D tt (View.whole cc0_scratch0).junk L i.val (by omega) j)
  show (View.whole cc0_scratch0).read (Elt Ideal) ((View.whole cc0_scratch0).writes (Elt Ideal) (View.whole cc0_scratch0).junk (top D tt :: L)) ((Rect.unit (s := S136x1536) ![0, 0] ![8, 1536] inb_S136x1536_S8x1536_0_0).idx (ix2 i j)) = _
  refine congrArg ((View.whole cc0_scratch0).read (Elt Ideal) ((View.whole cc0_scratch0).writes (Elt Ideal) (View.whole cc0_scratch0).junk (top D tt :: L))) ?_
  funext a
  apply Fin.ext
  rw [Rect.idx_unit_val]
  fin_cases a <;> simp

theorem first_rows (w : Vec Ideal S8x1536 .f32) (hw : ∀ (i : Fin 8) (j : Fin 1536), w (ix2 i j) = rowOr D (tt.val * 128 + i.val) j)
    (M : List (View.Piece (Elt Ideal) S136x1536 .f32)) (i : ℕ) (hi : i < 8) (j : Fin 1536) :
    View.canon ((⟨Rect.unit ![128, 0] ![8, 1536] inb_S136x1536_S8x1536_128_0, k0_pay324 (F := Ideal) w⟩ : View.Piece (Elt Ideal) S136x1536 .f32) :: M)
      (ix2 ⟨128 + i, by omega⟩ j) = rowOr D (tt.val * 128 + i) j := by
  rw [← View.read_writes_junk_apply_eq_canon (View.whole cc0_scratch0),
    View.read_writes_cons_unit_of_mem _ _ _ _ _ _ (ix2 (⟨i, hi⟩ : Fin 8) j) rfl (by intro a; fin_cases a <;> simp)]
  unfold k0_pay324
  rw [shapeCast_self]
  exact hw ⟨i, hi⟩ j

/-- The zero rows under the last chunk. -/
theorem under_last (i : ℕ) (hi : i < 8) (j : Fin 1536) :
    (View.whole cc0_scratch0).read (Elt Ideal) ((View.whole cc0_scratch0).writes (Elt Ideal) (View.whole cc0_scratch0).junk
      [(⟨Rect.unit ![128, 0] ![8, 1536] inb_S136x1536_S8x1536_128_0, k0_pay7 (F := Ideal)⟩ : View.Piece (Elt Ideal) S136x1536 .f32)]) (ix2 ⟨128 + i, by omega⟩ j) = (0 : EReal) := by
  rw [View.read_writes_cons_unit_of_mem _ _ _ _ _ _ (ix2 (⟨i, hi⟩ : Fin 8) j) rfl (by intro a; fin_cases a <;> simp)]
  pointwise [k0_pay7]

/-! ## The running sums of the weights -/

/-- One weight's running sums as they are stored. -/
noncomputable abbrev row (k : ℕ) (inb : ∀ a, (![k, 0, 0] : Fin 3 → ℕ) a + (![1, 8, 1536] : Fin 3 → ℕ) a ≤ S4x8x1536.size a) (w : Vec Ideal S1x8x1536 .f32) : View.Piece (Elt Ideal) S4x8x1536 .f32 :=
  ⟨Rect.unit ![k, 0, 0] ![1, 8, 1536] inb, w⟩

theorem row_read (f : (View.whole cc0_scratch2).ty.Contents (Elt Ideal)) (k : ℕ) (hk : k < 4) (inb) (w : Vec Ideal S1x8x1536 .f32) (L : List (View.Piece (Elt Ideal) S4x8x1536 .f32)) (q : Fin 8) (j : Fin 1536) :
    (View.whole cc0_scratch2).read (Elt Ideal) ((View.whole cc0_scratch2).writes (Elt Ideal) f (row k inb w :: L)) (ix3 ⟨k, hk⟩ q j) = w (ix3 0 q j) := by
  rw [View.read_writes_cons_unit_of_mem _ _ _ _ _ _ (ix3 (0 : Fin 1) q j) rfl (by intro a; fin_cases a <;> simp)]

theorem row_skip (f : (View.whole cc0_scratch2).ty.Contents (Elt Ideal)) (k : ℕ) (k' : Fin 4) (hk : k ≠ k'.val) (inb) (w : Vec Ideal S1x8x1536 .f32) (L : List (View.Piece (Elt Ideal) S4x8x1536 .f32)) (q : Fin 8) (j : Fin 1536) :
    (View.whole cc0_scratch2).read (Elt Ideal) ((View.whole cc0_scratch2).writes (Elt Ideal) f (row k inb w :: L)) (ix3 k' q j)
      = (View.whole cc0_scratch2).read (Elt Ideal) ((View.whole cc0_scratch2).writes (Elt Ideal) f L) (ix3 k' q j) := by
  rw [View.read_writes_cons_unit_of_not_mem _ _ _ _ _ _ rfl 0 (by
    rcases Nat.lt_or_gt_of_ne hk with h | h
    · exact Or.inr (by simp; omega)
    · exact Or.inl (by simpa using h))]

theorem row_at (k : ℕ) (hk : k < 4) (inb : ∀ a, (![k, 0, 0] : Fin 3 → ℕ) a + (![1, 8, 1536] : Fin 3 → ℕ) a ≤ S4x8x1536.size a) (q : Fin 8) (j : Fin 1536) :
    (Rect.unit (s := S4x8x1536) ![k, 0, 0] ![1, 8, 1536] inb).idx (ix3 (0 : Fin 1) q j) = ix3 ⟨k, hk⟩ q j := by
  funext a
  apply Fin.ext
  rw [Rect.idx_unit_val]
  fin_cases a <;> simp

theorem rows_canon (w0 w1 w2 w3 : Vec Ideal S1x8x1536 .f32) (L : List (View.Piece (Elt Ideal) S4x8x1536 .f32)) (G : Fin 4 → Fin 8 → Fin 1536 → EReal)
    (e0 : ∀ q j, w0 (ix3 0 q j) = G 0 q j) (e1 : ∀ q j, w1 (ix3 0 q j) = G 1 q j) (e2 : ∀ q j, w2 (ix3 0 q j) = G 2 q j) (e3 : ∀ q j, w3 (ix3 0 q j) = G 3 q j)
    (k : Fin 4) (q : Fin 8) (j : Fin 1536) :
    View.canon (row 3 inb_S4x8x1536_S1x8x1536_3_0_0 w3 :: row 2 inb_S4x8x1536_S1x8x1536_2_0_0 w2 :: row 1 inb_S4x8x1536_S1x8x1536_1_0_0 w1 :: row 0 inb_S4x8x1536_S1x8x1536_0_0_0 w0 :: L)
      (ix3 k q j) = G k q j := by
  rw [← View.read_writes_junk_apply_eq_canon (View.whole cc0_scratch2)]
  have hk : k = 0 ∨ k = 1 ∨ k = 2 ∨ k = 3 := by omega
  rcases hk with rfl | rfl | rfl | rfl
  · rw [row_skip _ 3 0 (by decide), row_skip _ 2 0 (by decide), row_skip _ 1 0 (by decide)]
    exact (row_read _ 0 (by omega) _ _ _ q j).trans (e0 q j)
  · rw [row_skip _ 3 1 (by decide), row_skip _ 2 1 (by decide)]
    exact (row_read _ 1 (by omega) _ _ _ q j).trans (e1 q j)
  · rw [row_skip _ 3 2 (by decide)]
    exact (row_read _ 2 (by omega) _ _ _ q j).trans (e2 q j)
  · exact (row_read _ 3 (by omega) _ _ _ q j).trans (e3 q j)

/-- The zeros the sums begin with. -/
noncomputable abbrev zeros : View.Piece (Elt Ideal) S4x8x1536 .f32 := ⟨Rect.unit ![0, 0, 0] ![4, 8, 1536] inb_S4x8x1536_S4x8x1536_0_0_0, k0_pay9 (F := Ideal)⟩

theorem zeros_read (f : (View.whole cc0_scratch2).ty.Contents (Elt Ideal)) (k : Fin 4) (q : Fin 8) (j : Fin 1536) :
    (View.whole cc0_scratch2).read (Elt Ideal) ((View.whole cc0_scratch2).writes (Elt Ideal) f [zeros]) (ix3 k q j) = (0 : EReal) := by
  rw [View.read_writes_cons_unit_of_mem _ _ _ _ _ _ (ix3 k q j) rfl (by intro a; fin_cases a <;> simp)]
  pointwise [k0_pay9]

end Cert.SsdBack
-- ==== Proof.SsdBackSteps.lean ====
/-
  The points of the state-space gradient kernel, one after another: what the scratch rows and the
  norm's weights hold after each.
-/
module

public import proofs.«01_k».proof.Proof.SsdBackValue
public import proofs.«01_k».proof.Proof.SsdBackTaps

@[expose] public section

set_option maxRecDepth 16384

namespace Cert.SsdBack

open Cert.Kernel3Ideal Cert.Kernel3Ideal.Gen
open Cert.Gm (ext2 chunk rowOf)
open Cert.Ssd (IsReal entering_eq)
open Idealize.ShloMosaic Idealize.ShloMosaic.TcCoe

variable (m : (ℓ : Loc nD τ sig) → Buf (Elt Ideal) ℓ) (c : Dev nD) (t : Fin cfg0.N)

/-! ## What the sums add up -/

/-- The rows the convolution weighs. -/
noncomputable abbrev convIn := Cert.Reference7Ideal.Read.val_main_v1 (F := Ideal) (m (c, main_arg0))

/-- What a chunk adds to the running sums: of the weights, of the bias, of the norm's weights. -/
noncomputable def addTap (k : ℕ) (q : Fin 8) (j : Fin 1536) (g : Fin 64) : EReal := ∑ a : Fin 16, tap (convIn m c) (convRows m c) j k g ⟨a.val * 8 + q.val, by omega⟩
noncomputable def addBias (q : Fin 8) (j : Fin 1536) (g : Fin 64) : EReal := ∑ a : Fin 16, convRows m c (ix2 (rowOf g ⟨a.val * 8 + q.val, by omega⟩) j)
noncomputable def addScale (j : Fin 1024) (g : Fin 64) : EReal := scaleGrad (chunk g (normed m c)) (chunk g (m (c, main_arg1))) (ix2 0 j)

/-- What the point before leaves, or what the first point begins with. -/
structure Before (S0 : Vec Ideal S136x1536 .f32) (S2 : Vec Ideal S4x8x1536 .f32) (S3 : Vec Ideal S8x1536 .f32) (O : Vec Ideal S1x1024 .f32) (n : ℕ) (tt : ℕ) : Prop where
  under : ∀ (i : ℕ) (hi : i < 8) (j : Fin 1536), S0 (ix2 ⟨128 + i, by omega⟩ j) = rowOr (convRows m c) (tt * 128 + i) j
  taps : ∀ (k : Fin 4) (q : Fin 8) (j : Fin 1536), S2 (ix3 k q j) = sofar (addTap m c k.val q j) n
  bias : ∀ (q : Fin 8) (j : Fin 1536), S3 (ix2 q j) = sofar (addBias m c q j) n
  scale : ∀ j : Fin 1024, O (ix2 0 j) = sofar (addScale m c j) n

theorem sofar_step (f : Fin 64 → EReal) (A B : EReal) (hA : A = sofar f t.val) (hB : B = f (turn t)) : A + B = sofar f (t.val + 1) := by
  rw [hA, hB, sofar_succ]
  rfl

theorem tap_step (k : ℕ) (q : Fin 8) (j : Fin 1536) (A : EReal) (V : Vec Ideal S128x1536 .f32) (hA : A = sofar (addTap m c k q j) t.val)
    (hV : V = ahead (convRows m c) (turn t) (3 - k)) :
    A + ∑ a : Fin 16, V (ix2 ⟨a.val * 8 + q.val, by omega⟩ j) * chunk (turn t) (convIn m c) (ix2 ⟨a.val * 8 + q.val, by omega⟩ j) = sofar (addTap m c k q j) (t.val + 1) := by
  refine sofar_step t _ _ _ hA ?_
  rw [hV]
  rfl

theorem ahead_none (D : FVec Ideal ⟨2, ![8192, 1536]⟩ .f32) (tt : Fin 64) : chunk (n := 1536) (e := .f32) tt D = ahead D tt 0 :=
  ext2 128 1536 fun l j => chunk_rowOr D tt l j

theorem top_all (D : FVec Ideal ⟨2, ![8192, 1536]⟩ .f32) (tt : Fin 64) (L : List (View.Piece (Elt Ideal) S136x1536 .f32)) :
    ((View.whole cc0_scratch0).readCov (Val := Elt Ideal) (top D tt :: L) (Rect.unit (s := S136x1536) ![0, 0] ![128, 1536] inb_S136x1536_S128x1536_0_0).toLoadRect : Vec Ideal S128x1536 .f32)
      = ahead D tt 0 := by
  refine ext2 128 1536 fun l j => ?_
  refine Eq.trans ?_ (top_read D tt (View.whole cc0_scratch0).junk L l.val l.isLt j)
  show (View.whole cc0_scratch0).read (Elt Ideal) ((View.whole cc0_scratch0).writes (Elt Ideal) (View.whole cc0_scratch0).junk (top D tt :: L)) ((Rect.unit (s := S136x1536) ![0, 0] ![128, 1536] inb_S136x1536_S128x1536_0_0).idx (ix2 l j)) = _
  refine congrArg ((View.whole cc0_scratch0).read (Elt Ideal) ((View.whole cc0_scratch0).writes (Elt Ideal) (View.whole cc0_scratch0).junk (top D tt :: L))) ?_
  funext a
  apply Fin.ext
  rw [Rect.idx_unit_val]
  fin_cases a <;> simp

theorem held_row (S : Vec Ideal S4x8x1536 .f32) (k : ℕ) (hk : k < 4) (inb : ∀ a, (![k, 0, 0] : Fin 3 → ℕ) a + (![1, 8, 1536] : Fin 3 → ℕ) a ≤ S4x8x1536.size a) (q : Fin 8) (j : Fin 1536) :
    (View.ld ((View.whole cc0_scratch2).read (Elt Ideal) ((Memref.isWhole_whole cc0_scratch2).unread S)) (Rect.unit (s := S4x8x1536) ![k, 0, 0] ![1, 8, 1536] inb) : Vec Ideal S1x8x1536 .f32) (ix3 0 q j)
      = S (ix3 ⟨k, hk⟩ q j) := by
  show (View.whole cc0_scratch2).read (Elt Ideal) ((Memref.isWhole_whole cc0_scratch2).unread S) ((Rect.unit (s := S4x8x1536) ![k, 0, 0] ![1, 8, 1536] inb).idx (ix3 (0 : Fin 1) q j)) = _
  rw [row_at k hk]
  exact congrFun ((Memref.isWhole_whole cc0_scratch2).read_unread (Val := Elt Ideal) S) _

theorem under_held (tt n : ℕ) (S0 S2 S3 O) (h : Before m c S0 S2 S3 O n (tt + 1)) (i : ℕ) (hi : i < 8) (j : Fin 1536) :
    (View.whole cc0_scratch0).read (Elt Ideal) ((View.whole cc0_scratch0).writes (Elt Ideal) ((Memref.isWhole_whole cc0_scratch0).unread S0) []) (ix2 ⟨128 + i, by omega⟩ j)
      = rowOr (convRows m c) (tt * 128 + 128 + i) j := by
  refine (congrFun ((Memref.isWhole_whole cc0_scratch0).read_unread (Val := Elt Ideal) S0) _).trans ((h.under i hi j).trans ?_)
  congr 1
  omega

/-! ## A point between the first and the last -/

theorem rows_B (H : Reals m c) (h0 h1 : ¬t.val % 64 = 0) (h2 : ¬t.val % 64 = 63)
    (hS : (outsAt0 m c (t.val - 1) (Nat.lt_of_le_of_lt (Nat.sub_le _ _) t.isLt)).2.2.2.2.2.2.2.2.1 = carry m c (after t)) (i : ℕ) (hi : i < 8) (j : Fin 1536) :
    (outsAt0 m c t.val t.isLt).2.2.2.2.2.2.2.1 (ix2 ⟨128 + i, by omega⟩ j) = rowOr (convRows m c) ((turn t).val * 128 + i) j := by
  have e := point_conv m c t H _ (((Memref.isWhole_whole cc0_scratch1).read_unread (Val := Elt Ideal) _).trans hS)
  rw [outsAt0_B m c t h0 h1 h2]
  dsimp only
  frame_out
  simp only [block_z, block_xc, block_b, block_a, block_s, block_g, block_w, block_dy, block_state, block_given]
  generalize hW : k0_pay305 (F := Ideal) _ _ _ _ _ = W
  have eW : W = chunk (turn t) (convRows m c) := hW.symm.trans e
  clear hW
  subst eW
  exact first_rows _ _ _ (first_load _ _ _) _ i hi j

theorem taps_B (H : Reals m c) (h0 h1 : ¬t.val % 64 = 0) (h2 : ¬t.val % 64 = 63) (O)
    (hS : (outsAt0 m c (t.val - 1) (Nat.lt_of_le_of_lt (Nat.sub_le _ _) t.isLt)).2.2.2.2.2.2.2.2.1 = carry m c (after t))
    (hB : Before m c (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.2.1
      (outsAt0 m c (t.val - 1) (Nat.lt_of_le_of_lt (Nat.sub_le _ _) t.isLt)).2.2.2.2.2.2.2.2.2.2 O t.val ((turn t).val + 1)) (k : Fin 4) (q : Fin 8) (j : Fin 1536) :
    (outsAt0 m c t.val t.isLt).2.2.2.2.2.2.2.2.2.1 (ix3 k q j) = sofar (addTap m c k.val q j) (t.val + 1) := by
  have e := point_conv m c t H _ (((Memref.isWhole_whole cc0_scratch1).read_unread (Val := Elt Ideal) _).trans hS)
  have eU := ext_rows (convRows m c) (turn t) _ [] (under_held m c _ _ _ _ _ _ hB)
  have eT := hB.taps
  rw [outsAt0_B m c t h0 h1 h2]
  dsimp only
  frame_out
  simp only [block_z, block_xc, block_b, block_a, block_s, block_g, block_w, block_dy, block_state, block_given]
  generalize hW : k0_pay305 (F := Ideal) _ _ _ _ _ = W
  have eW : W = chunk (turn t) (convRows m c) := hW.symm.trans e
  clear hW
  subst eW
  refine rows_canon _ _ _ _ _ (fun k q j => sofar (addTap m c k.val q j) (t.val + 1)) ?_ ?_ ?_ ?_ k q j
  · exact fun q j => (tap_first _ _ _ q j).trans (tap_step m c t 0 q j _ _ ((held_row _ 0 (by omega) _ q j).trans (eT 0 q j)) (eU 3 (by omega) _))
  · exact fun q j => (tap_second _ _ _ q j).trans (tap_step m c t 1 q j _ _ ((held_row _ 1 (by omega) _ q j).trans (eT 1 q j)) (eU 2 (by omega) _))
  · exact fun q j => (tap_third _ _ _ q j).trans (tap_step m c t 2 q j _ _ ((held_row _ 2 (by omega) _ q j).trans (eT 2 q j)) (eU 1 (by omega) _))
  · exact fun q j => (tap_last _ _ _ q j).trans (tap_step m c t 3 q j _ _ ((held_row _ 3 (by omega) _ q j).trans (eT 3 q j)) (top_all _ _ _))

theorem bias_B (H : Reals m c) (h0 h1 : ¬t.val % 64 = 0) (h2 : ¬t.val % 64 = 63)
    (hS : (outsAt0 m c (t.val - 1) (Nat.lt_of_le_of_lt (Nat.sub_le _ _) t.isLt)).2.2.2.2.2.2.2.2.1 = carry m c (after t))
    (q : Fin 8) (j : Fin 1536) (hB : (outsAt0 m c (t.val - 1) (Nat.lt_of_le_of_lt (Nat.sub_le _ _) t.isLt)).2.2.2.2.2.2.2.2.2.2 (ix2 q j) = sofar (addBias m c q j) t.val) :
    (outsAt0 m c t.val t.isLt).2.2.2.2.2.2.2.2.2.2 (ix2 q j) = sofar (addBias m c q j) (t.val + 1) := by
  have e := point_conv m c t H _ (((Memref.isWhole_whole cc0_scratch1).read_unread (Val := Elt Ideal) _).trans hS)
  rw [outsAt0_B m c t h0 h1 h2]
  dsimp only
  frame_out
  simp only [block_z, block_xc, block_b, block_a, block_s, block_g, block_w, block_dy, block_state, block_given]
  generalize hW : k0_pay305 (F := Ideal) _ _ _ _ _ = W
  have eW : W = chunk (turn t) (convRows m c) := hW.symm.trans e
  clear hW
  subst eW
  exact (bias_rows _ _ q j).trans (sofar_step t _ _ _ ((congrFun ((Memref.isWhole_whole cc0_scratch3).read_unread (Val := Elt Ideal) _) _).trans hB) rfl)

/-- The sum over a chunk's rows as the body computes it. -/
noncomputable def scaleSum (Y D : FVec Ideal S128x1024 .f32) : FVec Ideal S1x1024 .f32 :=
  shapeCast S1x1024 (multiReduction .add [0] S1024 (mulf Y D) 0x00000000#32 reduces_S128x1024_S1024 (.inl rfl) rfl) shapeCasts_S1024_S1x1024

theorem scaleSum_eq (Y D : FVec Ideal S128x1024 .f32) : scaleSum Y D = scaleGrad Y D := by
  refine ext2 1 1024 fun i j => ?_
  pointwise [scaleSum, scaleGrad]

/-- What the body sums: the normed rows times the cotangent's. -/
noncomputable abbrev pointGated := mulf (Cert.Ssd.total (pointCols m c t) (pointSteps m c t) (m (c, main_arg4)) (m (c, main_arg5)) (m (c, main_arg6)) (pointState m c t)) (gate (pointGate m c t))
noncomputable abbrev pointNormed := Cert.Ssd.pair (Cert.Ssd.overRms (pointGated m c t) 0 slices_S128x1024_o0_0_S128x512) (Cert.Ssd.overRms (pointGated m c t) 512 slices_S128x1024_o0_512_S128x512)

theorem point_scale (H : Reals m c) :
    scaleSum (pointNormed m c t) (chunk (turn t) (m (c, main_arg1))) = scaleGrad (chunk (turn t) (normed m c)) (chunk (turn t) (m (c, main_arg1))) := by
  rw [scaleSum_eq]
  show scaleOf (pointCols m c t) (pointGate m c t) (pointSteps m c t) (m (c, main_arg4)) (m (c, main_arg5)) (m (c, main_arg6)) (pointState m c t) (chunk (turn t) (m (c, main_arg1))) = _
  unfold pointCols pointGate pointSteps pointState
  rw [same_cols, same_gate, load_steps, same_state, entering_eq]
  exact scale_of _ _ _ _ _ _ _ _ H.h2 H.h4 H.h5 H.h6

theorem scale_B (H : Reals m c) (h0 h1 : ¬t.val % 64 = 0) (h2 : ¬t.val % 64 = 63) (j : Fin 1024)
    (hB : (outsAt0 m c (t.val - 1) (Nat.lt_of_le_of_lt (Nat.sub_le _ _) t.isLt)).2.2.2.2.2.2.1 (ix2 0 j) = sofar (addScale m c j) t.val) :
    (outsAt0 m c t.val t.isLt).2.2.2.2.2.2.1 (ix2 0 j) = sofar (addScale m c j) (t.val + 1) := by
  have e := point_scale m c t H
  rw [outsAt0_B m c t h0 h1 h2]
  dsimp only
  frame_out
  simp only [block_z, block_xc, block_b, block_a, block_s, block_g, block_w, block_dy, block_state, block_given]
  generalize hW : k0_pay149 (F := Ideal) _ _ _ _ = W
  have eW : W = scaleGrad (chunk (turn t) (normed m c)) (chunk (turn t) (m (c, main_arg1))) := hW.symm.trans e
  clear hW
  subst eW
  pointwise [k0_pay310]
  exact sofar_step t _ _ _ hB rfl

/-! ## The first point -/

theorem zero_state (h : t.val = 0) : k0_pay8 (F := Ideal) = carry m c (after t) := by
  have e : after t = ⟨64, by omega⟩ := Fin.ext (show 63 - t.val + 1 = 64 by omega)
  rw [e]
  unfold carry
  rw [back_last]
  refine ext2 128 1024 fun i j => ?_
  pointwise [k0_pay8]

theorem first_t (h0 : t.val % 64 = 0) : t.val = 0 := by
  have hN : t.val < 64 := lt_of_lt_of_eq t.isLt N_0
  omega

theorem state_A (H : Reals m c) (h0 h1 : t.val % 64 = 0) (h2 : ¬t.val % 64 = 63) : (outsAt0 m c t.val t.isLt).2.2.2.2.2.2.2.2.1 = carry m c (here t) := by
  have e := point_state m c t H _ (zero_state m c t (first_t t h0))
  rw [outsAt0_A m c t h0 h1 h2]
  dsimp only
  frame_out
  simp only [block_z, block_xc, block_b, block_a, block_s, block_g, block_w, block_dy, block_state]
  exact e

theorem rows_A (H : Reals m c) (h0 h1 : t.val % 64 = 0) (h2 : ¬t.val % 64 = 63) (i : ℕ) (hi : i < 8) (j : Fin 1536) :
    (outsAt0 m c t.val t.isLt).2.2.2.2.2.2.2.1 (ix2 ⟨128 + i, by omega⟩ j) = rowOr (convRows m c) ((turn t).val * 128 + i) j := by
  have e := point_conv m c t H _ (zero_state m c t (first_t t h0))
  rw [outsAt0_A m c t h0 h1 h2]
  dsimp only
  frame_out
  simp only [block_z, block_xc, block_b, block_a, block_s, block_g, block_w, block_dy, block_state, block_given]
  generalize hW : k0_pay305 (F := Ideal) _ _ _ _ _ = W
  have eW : W = chunk (turn t) (convRows m c) := hW.symm.trans e
  clear hW
  subst eW
  exact first_rows _ _ _ (first_load _ _ _) _ i hi j

theorem cov_row (L : List (View.Piece (Elt Ideal) S4x8x1536 .f32)) (k : ℕ) (hk : k < 4) (inb : ∀ a, (![k, 0, 0] : Fin 3 → ℕ) a + (![1, 8, 1536] : Fin 3 → ℕ) a ≤ S4x8x1536.size a)
    (q : Fin 8) (j : Fin 1536) :
    ((View.whole cc0_scratch2).readCov (Val := Elt Ideal) L (Rect.unit (s := S4x8x1536) ![k, 0, 0] ![1, 8, 1536] inb).toLoadRect : Vec Ideal S1x8x1536 .f32) (ix3 0 q j)
      = (View.whole cc0_scratch2).read (Elt Ideal) ((View.whole cc0_scratch2).writes (Elt Ideal) (View.whole cc0_scratch2).junk L) (ix3 ⟨k, hk⟩ q j) := by
  show (View.whole cc0_scratch2).read (Elt Ideal) ((View.whole cc0_scratch2).writes (Elt Ideal) (View.whole cc0_scratch2).junk L) ((Rect.unit (s := S4x8x1536) ![k, 0, 0] ![1, 8, 1536] inb).idx (ix3 (0 : Fin 1) q j)) = _
  rw [row_at k hk]

theorem taps_A (H : Reals m c) (h0 h1 : t.val % 64 = 0) (h2 : ¬t.val % 64 = 63) (k : Fin 4) (q : Fin 8) (j : Fin 1536) :
    (outsAt0 m c t.val t.isLt).2.2.2.2.2.2.2.2.2.1 (ix3 k q j) = sofar (addTap m c k.val q j) (t.val + 1) := by
  have e := point_conv m c t H _ (zero_state m c t (first_t t h0))
  have ht := first_t t h0
  have eU := ext_rows (convRows m c) (turn t) (View.whole cc0_scratch0).junk [(⟨Rect.unit ![128, 0] ![8, 1536] inb_S136x1536_S8x1536_128_0, k0_pay7 (F := Ideal)⟩ : View.Piece (Elt Ideal) S136x1536 .f32)]
    (fun i hi j => (under_last i hi j).trans (by
      unfold rowOr
      rw [dif_neg]
      show ¬(63 - t.val) * 128 + 128 + i < 8192
      omega))
  have eZ : ∀ f : Fin 64 → EReal, (0 : EReal) = sofar f t.val := fun f => by rw [ht, sofar_zero]
  rw [outsAt0_A m c t h0 h1 h2]
  dsimp only
  frame_out
  simp only [block_z, block_xc, block_b, block_a, block_s, block_g, block_w, block_dy, block_state, block_given]
  generalize hW : k0_pay305 (F := Ideal) _ _ _ _ _ = W
  have eW : W = chunk (turn t) (convRows m c) := hW.symm.trans e
  clear hW
  subst eW
  refine rows_canon _ _ _ _ _ (fun k q j => sofar (addTap m c k.val q j) (t.val + 1)) ?_ ?_ ?_ ?_ k q j
  · exact fun q j => (tap_first _ _ _ q j).trans (tap_step m c t 0 q j _ _ (((cov_row _ 0 (by omega) _ q j).trans (zeros_read _ 0 q j)).trans (eZ _)) (eU 3 (by omega) _))
  · exact fun q j => (tap_second _ _ _ q j).trans (tap_step m c t 1 q j _ _ (((cov_row _ 1 (by omega) _ q j).trans
      ((row_skip _ 0 1 (by decide) _ _ _ q j).trans (zeros_read _ 1 q j))).trans (eZ _)) (eU 2 (by omega) _))
  · exact fun q j => (tap_third _ _ _ q j).trans (tap_step m c t 2 q j _ _ (((cov_row _ 2 (by omega) _ q j).trans
      ((row_skip _ 1 2 (by decide) _ _ _ q j).trans ((row_skip _ 0 2 (by decide) _ _ _ q j).trans (zeros_read _ 2 q j)))).trans (eZ _)) (eU 1 (by omega) _))
  · exact fun q j => (tap_last _ _ _ q j).trans (tap_step m c t 3 q j _ _ (((cov_row _ 3 (by omega) _ q j).trans
      ((row_skip _ 2 3 (by decide) _ _ _ q j).trans ((row_skip _ 1 3 (by decide) _ _ _ q j).trans ((row_skip _ 0 3 (by decide) _ _ _ q j).trans (zeros_read _ 3 q j))))).trans (eZ _)) (top_all _ _ _))

theorem bias_A (H : Reals m c) (h0 h1 : t.val % 64 = 0) (h2 : ¬t.val % 64 = 63) (q : Fin 8) (j : Fin 1536) :
    (outsAt0 m c t.val t.isLt).2.2.2.2.2.2.2.2.2.2 (ix2 q j) = sofar (addBias m c q j) (t.val + 1) := by
  have e := point_conv m c t H _ (zero_state m c t (first_t t h0))
  have ht := first_t t h0
  rw [outsAt0_A m c t h0 h1 h2]
  dsimp only
  frame_out
  simp only [block_z, block_xc, block_b, block_a, block_s, block_g, block_w, block_dy, block_state, block_given]
  generalize hW : k0_pay305 (F := Ideal) _ _ _ _ _ = W
  have eW : W = chunk (turn t) (convRows m c) := hW.symm.trans e
  clear hW
  subst eW
  refine (bias_rows _ _ q j).trans (sofar_step t _ _ _ ?_ rfl)
  rw [ht, sofar_zero]
  pointwise [k0_pay10]

theorem scale_A (H : Reals m c) (h0 h1 : t.val % 64 = 0) (h2 : ¬t.val % 64 = 63) (j : Fin 1024) :
    (outsAt0 m c t.val t.isLt).2.2.2.2.2.2.1 (ix2 0 j) = sofar (addScale m c j) (t.val + 1) := by
  have e := point_scale m c t H
  have ht := first_t t h0
  rw [outsAt0_A m c t h0 h1 h2]
  dsimp only
  frame_out
  simp only [block_z, block_xc, block_b, block_a, block_s, block_g, block_w, block_dy, block_state, block_given]
  generalize hW : k0_pay149 (F := Ideal) _ _ _ _ = W
  have eW : W = scaleGrad (chunk (turn t) (normed m c)) (chunk (turn t) (m (c, main_arg1))) := hW.symm.trans e
  clear hW
  subst eW
  have eZ : k0_pay6 (F := Ideal) (ix2 0 j) = sofar (addScale m c j) t.val := by
    rw [ht, sofar_zero]
    pointwise [k0_pay6]
  pointwise [k0_pay310]
  exact sofar_step t _ _ _ eZ rfl

/-! ## The last point -/

theorem rows_out (w0 w1 w2 w3 : Vec Ideal S1x8x1536 .f32) (L : List (View.Piece (Elt Ideal) S4x8x1536 .f32)) (G : Fin 4 → Fin 8 → Fin 1536 → EReal)
    (e0 : ∀ q j, w0 (ix3 0 q j) = G 0 q j) (e1 : ∀ q j, w1 (ix3 0 q j) = G 1 q j) (e2 : ∀ q j, w2 (ix3 0 q j) = G 2 q j) (e3 : ∀ q j, w3 (ix3 0 q j) = G 3 q j)
    (k : Fin 4) (j : Fin 1536) :
    k0_pay322 (F := Ideal) ((View.whole cc0_scratch2).readCov (Val := Elt Ideal) (row 3 inb_S4x8x1536_S1x8x1536_3_0_0 w3 :: row 2 inb_S4x8x1536_S1x8x1536_2_0_0 w2 ::
        row 1 inb_S4x8x1536_S1x8x1536_1_0_0 w1 :: row 0 inb_S4x8x1536_S1x8x1536_0_0_0 w0 :: L) (Rect.unit (s := S4x8x1536) ![0, 0, 0] ![4, 8, 1536] inb_S4x8x1536_S4x8x1536_0_0_0).toLoadRect : Vec Ideal S4x8x1536 .f32)
      (ix2 k j) = ∑ q : Fin 8, G k q j := by
  refine (weights_out _ k j).trans (Finset.sum_congr rfl fun q _ => Eq.trans ?_ (rows_canon w0 w1 w2 w3 L G e0 e1 e2 e3 k q j))
  rw [← View.read_writes_junk_apply_eq_canon (View.whole cc0_scratch2)]
  refine congrArg ((View.whole cc0_scratch2).read (Elt Ideal) ((View.whole cc0_scratch2).writes (Elt Ideal) (View.whole cc0_scratch2).junk _)) ?_
  funext a
  apply Fin.ext
  refine (Rect.idx_unit_val (s := S4x8x1536) (off := ![0, 0, 0]) (size := ![4, 8, 1536]) _ (ix3 k q j) a).trans ?_
  fin_cases a <;> simp

theorem taps_C (H : Reals m c) (h0 h1 : ¬t.val % 64 = 0) (h2 : t.val % 64 = 63) (O)
    (hS : (outsAt0 m c (t.val - 1) (Nat.lt_of_le_of_lt (Nat.sub_le _ _) t.isLt)).2.2.2.2.2.2.2.2.1 = carry m c (after t))
    (hB : Before m c (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.2.1
      (outsAt0 m c (t.val - 1) (Nat.lt_of_le_of_lt (Nat.sub_le _ _) t.isLt)).2.2.2.2.2.2.2.2.2.2 O t.val ((turn t).val + 1)) (k : Fin 4) (j : Fin 1536) :
    (outsAt0 m c t.val t.isLt).2.1 (ix2 k j) = ∑ q : Fin 8, sofar (addTap m c k.val q j) (t.val + 1) := by
  have e := point_conv m c t H _ (((Memref.isWhole_whole cc0_scratch1).read_unread (Val := Elt Ideal) _).trans hS)
  have eU := ext_rows (convRows m c) (turn t) _ [] (under_held m c _ _ _ _ _ _ hB)
  have eT := hB.taps
  rw [outsAt0_C m c t h0 h1 h2]
  dsimp only
  frame_out
  simp only [block_z, block_xc, block_b, block_a, block_s, block_g, block_w, block_dy, block_state, block_given]
  generalize hW : k0_pay305 (F := Ideal) _ _ _ _ _ = W
  have eW : W = chunk (turn t) (convRows m c) := hW.symm.trans e
  clear hW
  subst eW
  refine rows_out _ _ _ _ _ (fun k q j => sofar (addTap m c k.val q j) (t.val + 1)) ?_ ?_ ?_ ?_ k j
  · exact fun q j => (tap_first _ _ _ q j).trans (tap_step m c t 0 q j _ _ ((held_row _ 0 (by omega) _ q j).trans (eT 0 q j)) (eU 3 (by omega) _))
  · exact fun q j => (tap_second _ _ _ q j).trans (tap_step m c t 1 q j _ _ ((held_row _ 1 (by omega) _ q j).trans (eT 1 q j)) (eU 2 (by omega) _))
  · exact fun q j => (tap_third _ _ _ q j).trans (tap_step m c t 2 q j _ _ ((held_row _ 2 (by omega) _ q j).trans (eT 2 q j)) (eU 1 (by omega) _))
  · exact fun q j => (tap_last _ _ _ q j).trans (tap_step m c t 3 q j _ _ ((held_row _ 3 (by omega) _ q j).trans (eT 3 q j)) (top_all _ _ _))

theorem bias_C (H : Reals m c) (h0 h1 : ¬t.val % 64 = 0) (h2 : t.val % 64 = 63)
    (hS : (outsAt0 m c (t.val - 1) (Nat.lt_of_le_of_lt (Nat.sub_le _ _) t.isLt)).2.2.2.2.2.2.2.2.1 = carry m c (after t))
    (hB : ∀ q j, (outsAt0 m c (t.val - 1) (Nat.lt_of_le_of_lt (Nat.sub_le _ _) t.isLt)).2.2.2.2.2.2.2.2.2.2 (ix2 q j) = sofar (addBias m c q j) t.val) (j : Fin 1536) :
    (outsAt0 m c t.val t.isLt).2.2.1 (ix2 0 j) = ∑ q : Fin 8, sofar (addBias m c q j) (t.val + 1) := by
  have e := point_conv m c t H _ (((Memref.isWhole_whole cc0_scratch1).read_unread (Val := Elt Ideal) _).trans hS)
  rw [outsAt0_C m c t h0 h1 h2]
  dsimp only
  frame_out
  simp only [block_z, block_xc, block_b, block_a, block_s, block_g, block_w, block_dy, block_state, block_given]
  generalize hW : k0_pay305 (F := Ideal) _ _ _ _ _ = W
  have eW : W = chunk (turn t) (convRows m c) := hW.symm.trans e
  clear hW
  subst eW
  refine (bias_out _ j).trans (Finset.sum_congr rfl fun q _ => ?_)
  exact (bias_rows _ _ q j).trans (sofar_step t _ _ _ ((congrFun ((Memref.isWhole_whole cc0_scratch3).read_unread (Val := Elt Ideal) _) _).trans (hB q j)) rfl)

theorem scale_C (H : Reals m c) (h0 h1 : ¬t.val % 64 = 0) (h2 : t.val % 64 = 63) (j : Fin 1024)
    (hB : (outsAt0 m c (t.val - 1) (Nat.lt_of_le_of_lt (Nat.sub_le _ _) t.isLt)).2.2.2.2.2.2.1 (ix2 0 j) = sofar (addScale m c j) t.val) :
    (outsAt0 m c t.val t.isLt).2.2.2.2.2.2.1 (ix2 0 j) = sofar (addScale m c j) (t.val + 1) := by
  have e := point_scale m c t H
  rw [outsAt0_C m c t h0 h1 h2]
  dsimp only
  frame_out
  simp only [block_z, block_xc, block_b, block_a, block_s, block_g, block_w, block_dy, block_state, block_given]
  generalize hW : k0_pay149 (F := Ideal) _ _ _ _ = W
  have eW : W = scaleGrad (chunk (turn t) (normed m c)) (chunk (turn t) (m (c, main_arg1))) := hW.symm.trans e
  clear hW
  subst eW
  pointwise [k0_pay310]
  exact sofar_step t _ _ _ hB rfl

end Cert.SsdBack
-- ==== Proof.SsdBackRows.lean ====
/-
  The gradients of the rows the recurrence is given: of the gate's columns, and of the columns the
  convolution weighs, which take the gradients of the four rows from their own on.
-/
module

public import proofs.«01_k».proof.Proof.SsdBackPoint
public import proofs.«01_k».proof.Proof.SsdBackTaps

@[expose] public section

set_option maxRecDepth 16384

namespace Cert.SsdBack

open Cert.Kernel3Ideal Cert.Kernel3Ideal.Gen
open Cert.Reference3Ideal.Read
open Cert.Gm (ext2 chunk rowOf)
open Cert.Ssd (IsReal total entering total_eq)
open Idealize.ShloMosaic Idealize.ShloMosaic.TcCoe

variable (x0 : Vec Ideal S8192x4624 .f32) (x1 : Vec Ideal S8192x1024 .f32) (x2 : Vec Ideal S4x1536 .f32) (x3 : Vec Ideal S1x1536 .f32) (x4 x5 x6 : Vec Ideal S1x16 .f32)
  (x7 : Vec Ideal S1x1024 .f32) (c : Fin 64)

/-! ## The gate's columns -/

/-- The gradient of the gate's columns, from what is gated and the gradient of the gated. -/
noncomputable def gateGrad (T N Z : FVec Ideal S128x1024 .f32) : FVec Ideal S128x1024 .f32 :=
  addf (mulf (mulf T N) (logistic Z)) (mulf (mulf Z (mulf T N)) (mulf (logistic Z) (subf (broadcast S128x1024 (Scalar.ofBits (F := Ideal) .f32 0x3f800000#32)) (logistic Z))))

theorem gate_eq : gateGrad (chunk c (val_main_v127 (F := Ideal) x0 x2 x3 x4 x5 x6)) (chunk c (val_main_v169 (F := Ideal) x0 x1 x2 x3 x4 x5 x6 x7)) (chunk c (val_main_v0 (F := Ideal) x0))
    = chunk c (val_main_v172 (F := Ideal) x0 x1 x2 x3 x4 x5 x6 x7) := by
  refine ext2 128 1024 fun l j => ?_
  pointwise [gateGrad, chunk, val_main_v172, val_main_v170, val_main_call9_v0, val_main_call9_v1, val_main_call9_v2, val_main_v128_1, val_main_v128_2, val_main_call8_v0, val_main_call8_v1,
    val_main_call8_v2, val_main_call8_v3, val_main_call8_v4, val_main_call8_v6, val_main_call8_v7, val_main_call8_cst, val_main_call8_cst_0, val_main_call8_cst_1]
  rfl

/-- The gradient of the gate's columns as the body computes it of the rows it loads. -/
noncomputable def gateOf (X : FVec Ideal S128x1536 .f32) (Z : FVec Ideal S128x1024 .f32) (D : FVec Ideal S128x16 .f32) (b a s : Vec Ideal S1x16 .f32) (g : Vec Ideal S1x1024 .f32)
    (S dY : FVec Ideal S128x1024 .f32) : FVec Ideal S128x1024 .f32 :=
  gateGrad (total X D b a s S) (normGrad (mulf (total X D b a s S) (gate Z)) (mulf dY (broadcastTo S128x1024 g broadcasts_S1x1024_S128x1024))) Z

theorem gate_of (h2 : ∀ r h, IsReal (Cert.Reference7Ideal.Read.val_main_v2 (F := Ideal) x0 (ix2 r h))) (h4 : ∀ h, IsReal (x4 (ix2 0 h))) (h5 : ∀ h, IsReal (x5 (ix2 0 h)))
    (h6 : ∀ h, IsReal (x6 (ix2 0 h))) :
    gateOf (chunk c (val_main_v40 (F := Ideal) x0 x2 x3)) (chunk c (val_main_v0 (F := Ideal) x0)) (chunk c (Cert.Reference7Ideal.Read.val_main_v2 (F := Ideal) x0))
      x4 x5 x6 x7 (entering x0 x2 x3 x4 x5 ⟨c.val, by omega⟩) (chunk c x1) = chunk c (val_main_v172 (F := Ideal) x0 x1 x2 x3 x4 x5 x6 x7) := by
  unfold gateOf
  rw [b_conv, total_eq x0 x2 x3 x4 x5 x6 c h2 h4 h5 h6, ← b_total, gated_eq]
  refine (congrArg (fun N => gateGrad _ N _) (norm_eq x0 x1 x2 x3 x4 x5 x6 x7 c)).trans (gate_eq x0 x1 x2 x3 x4 x5 x6 x7 c)

/-! ## The columns the convolution weighs -/

theorem turned (p q r s : EReal) : p + q + r + s = s + r + q + p := by ac_rfl

/-- Four rows' gradients, weighed. -/
theorem weighed (W : Vec Ideal S4x1536 .f32) (A3 A2 A1 A0 : Vec Ideal S128x1536 .f32) (l : Fin 128) (j : Fin 1536) :
    k0_pay326 (F := Ideal) (k0_pay317 W (k0_pay313 W A3) A2 A1) (k0_pay319 W A0) (ix2 l j)
      = ((A0 (ix2 l j) * W (ix2 3 j) + A1 (ix2 l j) * W (ix2 2 j)) + A2 (ix2 l j) * W (ix2 1 j)) + A3 (ix2 l j) * W (ix2 0 j) := by
  pointwise [k0_pay326, k0_pay317, k0_pay313, k0_pay319]
  rw [mul_comm (A0 _), mul_comm (A1 _), mul_comm (A2 _), mul_comm (A3 _)]
  exact turned _ _ _ _

/-- A row's gradient past the last row adds nothing. -/
theorem past (D : FVec Ideal S8192x1536 .f32) (P : Prop) [Decidable P] (i : P → Fin 8192) (n : ℕ) (j : Fin 1536) (w : EReal) (hP : P ↔ n < 8192) (hi : ∀ h, (i h).val = n) :
    (if h : P then D (ix2 (i h) j) * w else 0) = rowOr D n j * w := by
  unfold rowOr
  by_cases h : n < 8192
  · rw [dif_pos h, dif_pos (hP.mpr h)]
    exact congrArg (fun r => D (ix2 r j) * w) (Fin.ext (hi _))
  · rw [dif_neg h, dif_neg (mt hP.mp h), zero_mul]

theorem weighed_rows (l : Fin 128) (j : Fin 1536) : val_main_v342 (F := Ideal) x0 x1 x2 x3 x4 x5 x6 x7 (ix2 (rowOf c l) j)
    = ((rowOr (val_main_v295 (F := Ideal) x0 x1 x2 x3 x4 x5 x6 x7) (c.val * 128 + l.val) j * x2 (ix2 3 j)
        + rowOr (val_main_v295 (F := Ideal) x0 x1 x2 x3 x4 x5 x6 x7) (c.val * 128 + l.val + 1) j * x2 (ix2 2 j))
        + rowOr (val_main_v295 (F := Ideal) x0 x1 x2 x3 x4 x5 x6 x7) (c.val * 128 + l.val + 2) j * x2 (ix2 1 j))
        + rowOr (val_main_v295 (F := Ideal) x0 x1 x2 x3 x4 x5 x6 x7) (c.val * 128 + l.val + 3) j * x2 (ix2 0 j) := by
  pointwise [rowOf, val_main_v342, val_main_v340, val_main_v329, val_main_v318, val_main_v307, val_main_v303, val_main_v302, val_main_v317, val_main_v312, val_main_v311, val_main_v328,
    val_main_v323, val_main_v322, val_main_v339, val_main_v334, val_main_v333, val_main_v34, val_main_v33, val_main_v32, val_main_v27, val_main_v26, val_main_v25, val_main_v20, val_main_v19,
    val_main_v18, val_main_v14, val_main_v13, val_main_v12, val_main_cst_49, val_main_cst_53, val_main_cst_57, val_main_cst_61]
  refine congrArg₂ (· + ·) (congrArg₂ (· + ·) (congrArg₂ (· + ·) ?_ ?_) ?_) ?_
  · exact past _ _ _ _ _ _ Iff.rfl fun _ => rfl
  · exact past _ _ _ _ _ _ (by omega) fun _ => show 3 + (c.val * 128 + l.val) - 2 = _ by omega
  · exact past _ _ _ _ _ _ (by omega) fun _ => show 3 + (c.val * 128 + l.val) - 1 = _ by omega
  · exact past _ _ _ _ _ _ (by omega) fun _ => show 3 + (c.val * 128 + l.val) = _ by omega

end Cert.SsdBack
-- ==== Proof.SsdBackOut.lean ====
/-
  The rows of gradients the points of the state-space gradient kernel leave: the gate's columns and
  the columns the convolution weighs.
-/
module

public import proofs.«01_k».proof.Proof.SsdBackSteps
public import proofs.«01_k».proof.Proof.SsdBackRows

@[expose] public section

set_option maxRecDepth 16384

namespace Cert.SsdBack

open Cert.Kernel3Ideal Cert.Kernel3Ideal.Gen
open Cert.Gm (ext2 chunk rowOf)
open Cert.Ssd (IsReal entering_eq)
open Idealize.ShloMosaic Idealize.ShloMosaic.TcCoe

/-! ## The parts of a row -/

/-- Some of a row's columns as they are stored. -/
noncomputable abbrev part (o n : ℕ) (inb : ∀ a, (![0, o] : Fin 2 → ℕ) a + (![128, n] : Fin 2 → ℕ) a ≤ S128x2688.size a) (w : Vec Ideal ⟨2, ![128, n]⟩ .bf16) : View.Piece (Elt Ideal) S128x2688 .bf16 :=
  ⟨Rect.unit ![0, o] ![128, n] inb, w⟩

section Parts

variable (w1 : Vec Ideal S128x1024 .bf16) (w2 : Vec Ideal S128x1536 .bf16) (w3 : Vec Ideal S128x128 .bf16) (l : Fin 128)

theorem gate_part (j : Fin 1024) : View.canon [part 2560 128 inb_S128x2688_S128x128_0_2560 w3, part 1024 1536 inb_S128x2688_S128x1536_0_1024 w2, part 0 1024 inb_S128x2688_S128x1024_0_0 w1]
    (ix2 l ⟨j.val, by omega⟩) = w1 (ix2 l j) := by
  rw [← View.read_writes_junk_apply_eq_canon VO0_11, View.read_writes_cons_unit_of_not_mem _ _ _ _ _ _ rfl 1 (Or.inl (by simp; omega)),
    View.read_writes_cons_unit_of_not_mem _ _ _ _ _ _ rfl 1 (Or.inl (by simp)),
    View.read_writes_cons_unit_of_mem _ _ _ _ _ _ (ix2 l j) rfl (by intro a; fin_cases a <;> simp)]

theorem conv_part (j : Fin 1536) : View.canon [part 2560 128 inb_S128x2688_S128x128_0_2560 w3, part 1024 1536 inb_S128x2688_S128x1536_0_1024 w2, part 0 1024 inb_S128x2688_S128x1024_0_0 w1]
    (ix2 l ⟨1024 + j.val, by omega⟩) = w2 (ix2 l j) := by
  rw [← View.read_writes_junk_apply_eq_canon VO0_11, View.read_writes_cons_unit_of_not_mem _ _ _ _ _ _ rfl 1 (Or.inl (by simp; omega)),
    View.read_writes_cons_unit_of_mem _ _ _ _ _ _ (ix2 l j) rfl (by intro a; fin_cases a <;> simp)]

end Parts

variable (m : (ℓ : Loc nD τ sig) → Buf (Elt Ideal) ℓ) (c : Dev nD) (t : Fin cfg0.N)

/-- The reference's gradients of the gate's columns and of those the convolution weighs. -/
noncomputable abbrev gateRows := Cert.Reference3Ideal.Read.val_main_v172 (F := Ideal) (m (c, main_arg0)) (m (c, main_arg1)) (m (c, main_arg2)) (m (c, main_arg3)) (m (c, main_arg4)) (m (c, main_arg5)) (m (c, main_arg6)) (m (c, main_arg7))
noncomputable abbrev weighedRows := Cert.Reference3Ideal.Read.val_main_v342 (F := Ideal) (m (c, main_arg0)) (m (c, main_arg1)) (m (c, main_arg2)) (m (c, main_arg3)) (m (c, main_arg4)) (m (c, main_arg5)) (m (c, main_arg6)) (m (c, main_arg7))

theorem point_gate (H : Reals m c) : gateOf (pointCols m c t) (pointGate m c t) (pointSteps m c t) (m (c, main_arg4)) (m (c, main_arg5)) (m (c, main_arg6)) (m (c, main_arg7))
    (pointState m c t) (chunk (turn t) (m (c, main_arg1))) = chunk (turn t) (gateRows m c) := by
  unfold pointCols pointGate pointSteps pointState
  rw [same_cols, same_gate, load_steps, same_state, entering_eq]
  exact gate_of _ _ _ _ _ _ _ _ _ H.h2 H.h4 H.h5 H.h6

theorem stored_gate (D : Vec Ideal S8192x1024 .bf16) (tt : Fin 64) (l : Fin 128) (j : Fin 1024) : k0_pay325 (F := Ideal) (chunk (n := 1024) (e := .f32) tt D) (ix2 l j) = D (ix2 (rowOf tt l) j) := by
  pointwise [k0_pay325, chunk]

theorem point_weighed (A3 A2 A1 A0 : Vec Ideal S128x1536 .f32) (e3 : A3 = ahead (convRows m c) (turn t) 3) (e2 : A2 = ahead (convRows m c) (turn t) 2)
    (e1 : A1 = ahead (convRows m c) (turn t) 1) (e0 : A0 = ahead (convRows m c) (turn t) 0) (l : Fin 128) (j : Fin 1536) :
    k0_pay326 (F := Ideal) (k0_pay317 (m (c, main_arg2)) (k0_pay313 (m (c, main_arg2)) A3) A2 A1) (k0_pay319 (m (c, main_arg2)) A0) (ix2 l j) = weighedRows m c (ix2 (rowOf (turn t) l) j) := by
  rw [weighed, e3, e2, e1, e0, ahead_at, ahead_at, ahead_at, ahead_at, Nat.add_zero]
  exact (weighed_rows (m (c, main_arg0)) (m (c, main_arg1)) (m (c, main_arg2)) (m (c, main_arg3)) (m (c, main_arg4)) (m (c, main_arg5)) (m (c, main_arg6)) (m (c, main_arg7)) (turn t) l j).symm

/-- What point `t` leaves of the two. -/
structure Rows (O : Vec Ideal S128x2688 .bf16) : Prop where
  gate : ∀ (l : Fin 128) (j : Fin 1024), O (ix2 l ⟨j.val, by omega⟩) = gateRows m c (ix2 (rowOf (turn t) l) j)
  conv : ∀ (l : Fin 128) (j : Fin 1536), O (ix2 l ⟨1024 + j.val, by omega⟩) = weighedRows m c (ix2 (rowOf (turn t) l) j)

theorem out_B (H : Reals m c) (h0 h1 : ¬t.val % 64 = 0) (h2 : ¬t.val % 64 = 63) (O)
    (hS : (outsAt0 m c (t.val - 1) (Nat.lt_of_le_of_lt (Nat.sub_le _ _) t.isLt)).2.2.2.2.2.2.2.2.1 = carry m c (after t))
    (hB : Before m c (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.2.1
      (outsAt0 m c (t.val - 1) (Nat.lt_of_le_of_lt (Nat.sub_le _ _) t.isLt)).2.2.2.2.2.2.2.2.2.2 O t.val ((turn t).val + 1)) :
    Rows m c t (outsAt0 m c t.val t.isLt).1 := by
  have e := point_conv m c t H _ (((Memref.isWhole_whole cc0_scratch1).read_unread (Val := Elt Ideal) _).trans hS)
  have eU := ext_rows (convRows m c) (turn t) _ [] (under_held m c _ _ _ _ _ _ hB)
  have eG := point_gate m c t H
  rw [outsAt0_B m c t h0 h1 h2]
  dsimp only
  frame_out
  simp only [block_z, block_xc, block_b, block_a, block_s, block_g, block_w, block_dy, block_state, block_given]
  generalize hW : k0_pay305 (F := Ideal) _ _ _ _ _ = W
  have eW : W = chunk (turn t) (convRows m c) := hW.symm.trans e
  clear hW
  subst eW
  generalize hN : k0_pay156 (F := Ideal) _ _ _ _ _ _ _ _ _ _ = N
  have eN : N = chunk (turn t) (gateRows m c) := hN.symm.trans eG
  clear hN
  subst eN
  constructor
  · exact fun l j => (gate_part _ _ _ l j).trans (stored_gate (gateRows m c) (turn t) l j)
  · exact fun l j => (conv_part _ _ _ l j).trans (point_weighed m c t _ _ _ _ (eU 3 (by omega) _) (eU 2 (by omega) _) (eU 1 (by omega) _) (top_all _ _ _) l j)

theorem out_C (H : Reals m c) (h0 h1 : ¬t.val % 64 = 0) (h2 : t.val % 64 = 63) (O)
    (hS : (outsAt0 m c (t.val - 1) (Nat.lt_of_le_of_lt (Nat.sub_le _ _) t.isLt)).2.2.2.2.2.2.2.2.1 = carry m c (after t))
    (hB : Before m c (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.2.1
      (outsAt0 m c (t.val - 1) (Nat.lt_of_le_of_lt (Nat.sub_le _ _) t.isLt)).2.2.2.2.2.2.2.2.2.2 O t.val ((turn t).val + 1)) :
    Rows m c t (outsAt0 m c t.val t.isLt).1 := by
  have e := point_conv m c t H _ (((Memref.isWhole_whole cc0_scratch1).read_unread (Val := Elt Ideal) _).trans hS)
  have eU := ext_rows (convRows m c) (turn t) _ [] (under_held m c _ _ _ _ _ _ hB)
  have eG := point_gate m c t H
  rw [outsAt0_C m c t h0 h1 h2]
  dsimp only
  frame_out
  simp only [block_z, block_xc, block_b, block_a, block_s, block_g, block_w, block_dy, block_state, block_given]
  generalize hW : k0_pay305 (F := Ideal) _ _ _ _ _ = W
  have eW : W = chunk (turn t) (convRows m c) := hW.symm.trans e
  clear hW
  subst eW
  generalize hN : k0_pay156 (F := Ideal) _ _ _ _ _ _ _ _ _ _ = N
  have eN : N = chunk (turn t) (gateRows m c) := hN.symm.trans eG
  clear hN
  subst eN
  constructor
  · exact fun l j => (gate_part _ _ _ l j).trans (stored_gate (gateRows m c) (turn t) l j)
  · exact fun l j => (conv_part _ _ _ l j).trans (point_weighed m c t _ _ _ _ (eU 3 (by omega) _) (eU 2 (by omega) _) (eU 1 (by omega) _) (top_all _ _ _) l j)

theorem out_A (H : Reals m c) (h0 h1 : t.val % 64 = 0) (h2 : ¬t.val % 64 = 63) : Rows m c t (outsAt0 m c t.val t.isLt).1 := by
  have e := point_conv m c t H _ (zero_state m c t (first_t t h0))
  have ht := first_t t h0
  have eU := ext_rows (convRows m c) (turn t) (View.whole cc0_scratch0).junk [(⟨Rect.unit ![128, 0] ![8, 1536] inb_S136x1536_S8x1536_128_0, k0_pay7 (F := Ideal)⟩ : View.Piece (Elt Ideal) S136x1536 .f32)]
    (fun i hi j => (under_last i hi j).trans (by
      unfold rowOr
      rw [dif_neg]
      show ¬(63 - t.val) * 128 + 128 + i < 8192
      omega))
  have eG := point_gate m c t H
  rw [outsAt0_A m c t h0 h1 h2]
  dsimp only
  frame_out
  simp only [block_z, block_xc, block_b, block_a, block_s, block_g, block_w, block_dy, block_state, block_given]
  generalize hW : k0_pay305 (F := Ideal) _ _ _ _ _ = W
  have eW : W = chunk (turn t) (convRows m c) := hW.symm.trans e
  clear hW
  subst eW
  generalize hN : k0_pay156 (F := Ideal) _ _ _ _ _ _ _ _ _ _ = N
  have eN : N = chunk (turn t) (gateRows m c) := hN.symm.trans eG
  clear hN
  subst eN
  constructor
  · exact fun l j => (gate_part _ _ _ l j).trans (stored_gate (gateRows m c) (turn t) l j)
  · exact fun l j => (conv_part _ _ _ l j).trans (point_weighed m c t _ _ _ _ (eU 3 (by omega) _) (eU 2 (by omega) _) (eU 1 (by omega) _) (top_all _ _ _) l j)

end Cert.SsdBack
-- ==== Proof.SsdFwdValue.lean ====
/-
  The points of the state-space forward kernel. A point takes four chunks one after another; each
  hands the state it leaves to the next, and the last to the next point.
-/
module

public import proofs.«01_k».proof.Proof.SsdInput
public import proofs.«01_k».proof.Proof.SsdWhole

@[expose] public section

set_option maxRecDepth 16384

namespace Cert.Ssd

open Cert.Kernel7Ideal Cert.Kernel7Ideal.Gen
open Cert.Reference7Ideal.Read
open Cert.Gm (ext2 chunk rowOf)
open Idealize.ShloMosaic Idealize.ShloMosaic.TcCoe

/-! ## The loads -/

theorem same_cols (X : FVec Ideal S128x1536 .f32) : k0_pay4 X = X := by
  refine ext2 128 1536 fun i j => ?_
  pointwise [k0_pay4]

theorem same_gate (X : FVec Ideal S128x1024 .f32) : k0_pay5 X = X := by
  refine ext2 128 1024 fun i j => ?_
  pointwise [k0_pay5]

theorem same_steps (X : FVec Ideal S128x16 .f32) : k0_pay6 X = X := by
  refine ext2 128 16 fun i j => ?_
  pointwise [k0_pay6]

theorem same_state (X : FVec Ideal S128x1024 .f32) : k0_pay64 X = X := by
  refine ext2 128 1024 fun i j => ?_
  pointwise [k0_pay64]

/-- Where a load of the rows of chunk `k` reads. -/
theorem row_load {n w : ℕ} (k : Fin 4) (inb : ∀ a, (![k.val * 128, 0] : Fin 2 → ℕ) a + (⟨2, ![128, w]⟩ : Shape).size a ≤ (⟨2, ![512, n]⟩ : Shape).size a)
    (i : Fin 128) (j : Fin w) (hw : w ≤ n) :
    (Rect.unit (s := ⟨2, ![512, n]⟩) ![k.val * 128, 0] (⟨2, ![128, w]⟩ : Shape).size inb).idx (ix2 i j) = ix2 ⟨k.val * 128 + i.val, by omega⟩ (Fin.castLE hw j) := by
  refine (eq_ix2 _).trans (congrArg₂ ix2 (Fin.ext ?_) (Fin.ext ?_))
  · exact Rect.idx_unit_val (s := ⟨2, ![512, n]⟩) ![k.val * 128, 0] _ inb (ix2 i j) 0
  · refine (Rect.idx_unit_val (s := ⟨2, ![512, n]⟩) ![k.val * 128, 0] _ inb (ix2 i j) 1).trans ?_
    change 0 + j.val = j.val
    omega

/-- A row of chunk `k` of a point, among all rows. -/
theorem row_four (t : Fin cfg0.N) (k : Fin 4) (i : Fin 128) (h : k.val * 128 + i.val < 512) : fourRow t ⟨k.val * 128 + i.val, h⟩ = rowOf (fourth t k) i := by
  refine Fin.ext ?_
  change t.val * 512 + (k.val * 128 + i.val) = (t.val * 4 + k.val) * 128 + i.val
  omega

variable (t : Fin cfg0.N) (k : Fin 4)

theorem load_cols (X : Vec Ideal S8192x1536 .f32) (inb : ∀ a, (![k.val * 128, 0] : Fin 2 → ℕ) a + S128x1536.size a ≤ S512x1536.size a) :
    k0_pay4 (View.ld (four t X) (Rect.unit (s := S512x1536) ![k.val * 128, 0] S128x1536.size inb)) = chunk (fourth t k) X := by
  refine (same_cols _).trans (ext2 128 1536 fun i j => ?_)
  refine (congrArg (four t X) (row_load k inb i j (Nat.le_refl _))).trans (congrArg X ?_)
  exact congrArg₂ ix2 (row_four t k i _) rfl

theorem load_gate (X : Vec Ideal S8192x1024 .f32) (inb : ∀ a, (![k.val * 128, 0] : Fin 2 → ℕ) a + S128x1024.size a ≤ S512x1024.size a) :
    k0_pay5 (View.ld (four t X) (Rect.unit (s := S512x1024) ![k.val * 128, 0] S128x1024.size inb)) = chunk (fourth t k) X := by
  refine (same_gate _).trans (ext2 128 1024 fun i j => ?_)
  refine (congrArg (four t X) (row_load k inb i j (Nat.le_refl _))).trans (congrArg X ?_)
  exact congrArg₂ ix2 (row_four t k i _) rfl

theorem load_steps (B : Vec Ideal S512x128 .f32) (X : Vec Ideal S8192x16 .f32)
    (hB : ∀ (i : Fin 512) (j : Fin 128) (hj : j.val < 16), B (ix2 i j) = four t X (ix2 i ⟨j.val, hj⟩))
    (inb : ∀ a, (![k.val * 128, 0] : Fin 2 → ℕ) a + S128x16.size a ≤ S512x128.size a) :
    k0_pay6 (View.ld B (Rect.unit (s := S512x128) ![k.val * 128, 0] S128x16.size inb)) = chunk (fourth t k) X := by
  refine (same_steps _).trans (ext2 128 16 fun i j => ?_)
  refine (congrArg B (row_load k inb i j (by decide))).trans ((hB _ _ j.isLt).trans (congrArg X ?_))
  exact congrArg₂ ix2 (row_four t k i _) rfl

/-! ## One of the four chunks as the body computes it -/

variable (x0 : Vec Ideal S8192x4624 .f32) (x1 : Vec Ideal S4x1536 .f32) (x2 : Vec Ideal S1x1536 .f32) (x3 x4 x5 : Vec Ideal S1x16 .f32)
  (x6 : Vec Ideal S1x1024 .f32)

variable (h2 : ∀ r h, IsReal (val_main_v2 (F := Ideal) x0 (ix2 r h))) (h3 : ∀ h, IsReal (x3 (ix2 0 h))) (h4 : ∀ h, IsReal (x4 (ix2 0 h)))
  (h5 : ∀ h, IsReal (x5 (ix2 0 h)))
  (B : Vec Ideal S512x128 .f32)
  (hB : ∀ (i : Fin 512) (j : Fin 128) (hj : j.val < 16), B (ix2 i j) = four t (val_main_v2 (F := Ideal) x0) (ix2 i ⟨j.val, hj⟩))

include h2 h3 h4 hB in
theorem body_state (inb : ∀ a, (![k.val * 128, 0] : Fin 2 → ℕ) a + S128x1536.size a ≤ S512x1536.size a)
    (inb' : ∀ a, (![k.val * 128, 0] : Fin 2 → ℕ) a + S128x16.size a ≤ S512x128.size a) (S : FVec Ideal S128x1024 .f32)
    (n n' : Fin 65) (hn : n.val = t.val * 4 + k.val) (hn' : n'.val = t.val * 4 + k.val + 1)
    (hS : S = entering x0 x1 x2 x3 x4 n) :
    k0_pay64 (leaving (k0_pay4 (View.ld (four t (val_main_v39 (F := Ideal) x0 x1 x2)) (Rect.unit (s := S512x1536) ![k.val * 128, 0] S128x1536.size inb)))
        (k0_pay6 (View.ld B (Rect.unit (s := S512x128) ![k.val * 128, 0] S128x16.size inb'))) x3 x4 S) = entering x0 x1 x2 x3 x4 n' := by
  rw [same_state, load_cols, load_steps t k B _ hB, hS]
  have e : n = ⟨(fourth t k).val, by have := (fourth t k).isLt; omega⟩ := Fin.ext hn
  have e' : n' = ⟨(fourth t k).val + 1, by have := (fourth t k).isLt; omega⟩ := Fin.ext hn'
  rw [e, e']
  exact leaving_next x0 x1 x2 x3 x4 (fourth t k) h2 h3 h4

include h2 h3 h4 h5 hB in
theorem body_rows (inb : ∀ a, (![k.val * 128, 0] : Fin 2 → ℕ) a + S128x1536.size a ≤ S512x1536.size a)
    (inb' : ∀ a, (![k.val * 128, 0] : Fin 2 → ℕ) a + S128x16.size a ≤ S512x128.size a)
    (inb'' : ∀ a, (![k.val * 128, 0] : Fin 2 → ℕ) a + S128x1024.size a ≤ S512x1024.size a) (S : FVec Ideal S128x1024 .f32)
    (n : Fin 65) (hn : n.val = t.val * 4 + k.val) (hS : S = entering x0 x1 x2 x3 x4 n) :
    finish (total (k0_pay4 (View.ld (four t (val_main_v39 (F := Ideal) x0 x1 x2)) (Rect.unit (s := S512x1536) ![k.val * 128, 0] S128x1536.size inb)))
        (k0_pay6 (View.ld B (Rect.unit (s := S512x128) ![k.val * 128, 0] S128x16.size inb'))) x3 x4 x5 S)
        (k0_pay5 (View.ld (four t (val_main_v0 (F := Ideal) x0)) (Rect.unit (s := S512x1024) ![k.val * 128, 0] S128x1024.size inb''))) x6
      = chunk (fourth t k) (val_main_v142 (F := Ideal) x0 x1 x2 x3 x4 x5 x6) := by
  rw [load_cols, load_gate, load_steps t k B _ hB, hS]
  have e : n = ⟨(fourth t k).val, by have := (fourth t k).isLt; omega⟩ := Fin.ext hn
  rw [e]
  exact finish_eq x0 x1 x2 x3 x4 x5 x6 (fourth t k) _ (total_eq x0 x1 x2 x3 x4 x5 (fourth t k) h2 h3 h4 h5)

/-- A place of a chunk as a place of its point's rows. -/
theorem place {e : EltTy} (X : Vec Ideal ⟨2, ![8192, 1024]⟩ e) (i : Fin 512) (j : Fin 1024) (a : Fin 128) (b : Fin 1024)
    (h0 : i.val = k.val * 128 + a.val) (h1 : j.val = b.val) : chunk (fourth t k) X (ix2 a b) = four t X (ix2 i j) := by
  refine congrArg X (congrArg₂ ix2 (Fin.ext ?_) (Fin.ext h1.symm))
  change (t.val * 4 + k.val) * 128 + a.val = t.val * 512 + i.val
  omega

/-! ## The points -/

variable (m : (ℓ : Loc nD τ sig) → Buf (Elt Ideal) ℓ) (c : Dev nD)

/-- The state entering chunk `n` of what device `c` is given. -/
noncomputable abbrev carry (n : Fin 65) : FVec Ideal S128x1024 .f32 :=
  entering (m (c, main_arg0)) (m (c, main_arg1)) (m (c, main_arg2)) (m (c, main_arg3)) (m (c, main_arg4)) n

/-- Every entry the step sizes and rates are made of is a real number. -/
structure Reals : Prop where
  h2 : ∀ r h, IsReal (val_main_v2 (F := Ideal) (m (c, main_arg0)) (ix2 r h))
  h3 : ∀ h, IsReal (m (c, main_arg3) (ix2 0 h))
  h4 : ∀ h, IsReal (m (c, main_arg4) (ix2 0 h))
  h5 : ∀ h, IsReal (m (c, main_arg5) (ix2 0 h))

/-- The chunk numbers of a point, the next point's first among them. -/
def nth (k : Fin 5) : Fin 65 := ⟨t.val * 4 + k.val, by have := Nat.lt_of_lt_of_eq t.isLt N_0; omega⟩

/-- The state the first chunk of all enters with. -/
theorem zero_state (H : Reals m c) (hc : t.val % 16 = 0) : k0_pay3 (F := Ideal) = carry m c (nth t 0) := by
  have e : nth t 0 = 0 := Fin.ext (by have := Nat.lt_of_lt_of_eq t.isLt N_0; change t.val * 4 + 0 = 0; omega)
  rw [e]
  refine Eq.trans (ext2 128 1024 fun i j => ?_) (entering_first _ _ _ _ _ fun c' l h => rates_real _ _ _ c' H.h2 H.h3 H.h4 l h).symm
  pointwise [k0_pay3]

/-- The state after a chunk of the point, from the state before it. -/
theorem hand_on (H : Reals m c) (inb : ∀ a, (![k.val * 128, 0] : Fin 2 → ℕ) a + S128x1536.size a ≤ S512x1536.size a)
    (inb' : ∀ a, (![k.val * 128, 0] : Fin 2 → ℕ) a + S128x16.size a ≤ S512x128.size a) (S : FVec Ideal S128x1024 .f32)
    (hS : S = carry m c (nth t k.castSucc)) :
    k0_pay64 (leaving (k0_pay4 (View.ld (four t (val_main_v39 (F := Ideal) (m (c, main_arg0)) (m (c, main_arg1)) (m (c, main_arg2)))) (Rect.unit (s := S512x1536) ![k.val * 128, 0] S128x1536.size inb)))
        (k0_pay6 (View.ld (iblk m c 2 t) (Rect.unit (s := S512x128) ![k.val * 128, 0] S128x16.size inb'))) (m (c, main_arg3)) (m (c, main_arg4)) S)
      = carry m c (nth t k.succ) :=
  body_state t k _ _ _ _ _ H.h2 H.h3 H.h4 _ (block_dt m c t) inb inb' S _ _ rfl rfl hS

/-- The rows of a chunk, from the state before it. -/
theorem rows_of (H : Reals m c) (inb : ∀ a, (![k.val * 128, 0] : Fin 2 → ℕ) a + S128x1536.size a ≤ S512x1536.size a)
    (inb' : ∀ a, (![k.val * 128, 0] : Fin 2 → ℕ) a + S128x16.size a ≤ S512x128.size a)
    (inb'' : ∀ a, (![k.val * 128, 0] : Fin 2 → ℕ) a + S128x1024.size a ≤ S512x1024.size a) (S : FVec Ideal S128x1024 .f32)
    (hS : S = carry m c (nth t k.castSucc)) :
    finish (total (k0_pay4 (View.ld (four t (val_main_v39 (F := Ideal) (m (c, main_arg0)) (m (c, main_arg1)) (m (c, main_arg2)))) (Rect.unit (s := S512x1536) ![k.val * 128, 0] S128x1536.size inb)))
        (k0_pay6 (View.ld (iblk m c 2 t) (Rect.unit (s := S512x128) ![k.val * 128, 0] S128x16.size inb'))) (m (c, main_arg3)) (m (c, main_arg4)) (m (c, main_arg5)) S)
        (k0_pay5 (View.ld (four t (val_main_v0 (F := Ideal) (m (c, main_arg0)))) (Rect.unit (s := S512x1024) ![k.val * 128, 0] S128x1024.size inb''))) (m (c, main_arg6))
      = chunk (fourth t k) (val_main_v142 (F := Ideal) (m (c, main_arg0)) (m (c, main_arg1)) (m (c, main_arg2)) (m (c, main_arg3)) (m (c, main_arg4)) (m (c, main_arg5)) (m (c, main_arg6))) :=
  body_rows t k _ _ _ _ _ _ _ H.h2 H.h3 H.h4 H.h5 _ (block_dt m c t) inb inb' inb'' S _ rfl hS

/-- The states entering the chunks of the point, as the reference has them. -/
theorem state_of (S : FVec Ideal S128x1024 .f32) (hS : S = carry m c (nth t k.castSucc)) :
    S = chunk (fourth t k) (val_main_v144 (F := Ideal) (m (c, main_arg0)) (m (c, main_arg1)) (m (c, main_arg2)) (m (c, main_arg3)) (m (c, main_arg4))) :=
  hS.trans (entering_eq _ _ _ _ _ (fourth t k)).symm

theorem kept_A (H : Reals m c) (hc : t.val % 16 = 0) : (outsAt0 m c t.val t.isLt).2.2 = carry m c (nth t 4) := by
  have e0 := (zero_state t m c H hc)
  have e1 := hand_on t 0 m c H inb_S512x1536_S128x1536_0_0 inb_S512x128_S128x16_0_0 _ e0
  have e2 := hand_on t 1 m c H inb_S512x1536_S128x1536_128_0 inb_S512x128_S128x16_128_0 _ e1
  have e3 := hand_on t 2 m c H inb_S512x1536_S128x1536_256_0 inb_S512x128_S128x16_256_0 _ e2
  have e4 := hand_on t 3 m c H inb_S512x1536_S128x1536_384_0 inb_S512x128_S128x16_384_0 _ e3
  rw [outsAt0_A m c t hc]
  dsimp only
  frame_out
  simp only [block_z, block_xc, block_b, block_a, block_s, block_g]
  exact e4

theorem states_A (H : Reals m c) (hc : t.val % 16 = 0) : (outsAt0 m c t.val t.isLt).2.1
    = four t (val_main_v144 (F := Ideal) (m (c, main_arg0)) (m (c, main_arg1)) (m (c, main_arg2)) (m (c, main_arg3)) (m (c, main_arg4))) := by
  have e0 := (zero_state t m c H hc)
  have e1 := hand_on t 0 m c H inb_S512x1536_S128x1536_0_0 inb_S512x128_S128x16_0_0 _ e0
  have e2 := hand_on t 1 m c H inb_S512x1536_S128x1536_128_0 inb_S512x128_S128x16_128_0 _ e1
  have e3 := hand_on t 2 m c H inb_S512x1536_S128x1536_256_0 inb_S512x128_S128x16_256_0 _ e2
  rw [outsAt0_A m c t hc]
  dsimp only
  frame_out
  simp only [block_z, block_xc, block_b, block_a, block_s, block_g]
  refine ext2 512 1024 fun i j => ?_
  canon_tiles x h
  all_goals
    obtain ⟨a, b, rfl⟩ : ∃ (a : Fin 128) (b : Fin 1024), x = ix2 a b := ⟨x 0, x 1, eq_ix2 x⟩
  · exact (congrFun (state_of t 3 m c _ e3) (ix2 a b)).trans (place t 3 _ i j a b h0 h1)
  · exact (congrFun (state_of t 2 m c _ e2) (ix2 a b)).trans (place t 2 _ i j a b h0 h1)
  · exact (congrFun (state_of t 1 m c _ e1) (ix2 a b)).trans (place t 1 _ i j a b h0 h1)
  · exact (congrFun (state_of t 0 m c _ e0) (ix2 a b)).trans (place t 0 _ i j a b (h0.trans (Nat.zero_add _).symm) h1)

theorem rows_A (H : Reals m c) (hc : t.val % 16 = 0) : (outsAt0 m c t.val t.isLt).1
    = four t (val_main_v142 (F := Ideal) (m (c, main_arg0)) (m (c, main_arg1)) (m (c, main_arg2)) (m (c, main_arg3)) (m (c, main_arg4)) (m (c, main_arg5)) (m (c, main_arg6))) := by
  have e0 := (zero_state t m c H hc)
  have e1 := hand_on t 0 m c H inb_S512x1536_S128x1536_0_0 inb_S512x128_S128x16_0_0 _ e0
  have e2 := hand_on t 1 m c H inb_S512x1536_S128x1536_128_0 inb_S512x128_S128x16_128_0 _ e1
  have e3 := hand_on t 2 m c H inb_S512x1536_S128x1536_256_0 inb_S512x128_S128x16_256_0 _ e2
  rw [outsAt0_A m c t hc]
  dsimp only
  frame_out
  simp only [block_z, block_xc, block_b, block_a, block_s, block_g]
  refine ext2 512 1024 fun i j => ?_
  canon_tiles x h
  all_goals
    obtain ⟨a, b, rfl⟩ : ∃ (a : Fin 128) (b : Fin 1024), x = ix2 a b := ⟨x 0, x 1, eq_ix2 x⟩
  · exact (congrFun (rows_of t 3 m c H inb_S512x1536_S128x1536_384_0 inb_S512x128_S128x16_384_0 inb_S512x1024_S128x1024_384_0 _ e3) (ix2 a b)).trans (place t 3 _ i j a b h0 h1)
  · exact (congrFun (rows_of t 2 m c H inb_S512x1536_S128x1536_256_0 inb_S512x128_S128x16_256_0 inb_S512x1024_S128x1024_256_0 _ e2) (ix2 a b)).trans (place t 2 _ i j a b h0 h1)
  · exact (congrFun (rows_of t 1 m c H inb_S512x1536_S128x1536_128_0 inb_S512x128_S128x16_128_0 inb_S512x1024_S128x1024_128_0 _ e1) (ix2 a b)).trans (place t 1 _ i j a b h0 h1)
  · exact (congrFun (rows_of t 0 m c H inb_S512x1536_S128x1536_0_0 inb_S512x128_S128x16_0_0 inb_S512x1024_S128x1024_0_0 _ e0) (ix2 a b)).trans (place t 0 _ i j a b (h0.trans (Nat.zero_add _).symm) h1)

theorem kept_B (H : Reals m c) (hc : ¬t.val % 16 = 0)
    (hS : (outsAt0 m c (t.val - 1) (Nat.lt_of_le_of_lt (Nat.sub_le _ _) t.isLt)).2.2 = carry m c (nth t 0)) : (outsAt0 m c t.val t.isLt).2.2 = carry m c (nth t 4) := by
  have e0 := ((Memref.isWhole_whole cc0_scratch0).read_unread (Val := Elt Ideal) _).trans hS
  have e1 := hand_on t 0 m c H inb_S512x1536_S128x1536_0_0 inb_S512x128_S128x16_0_0 _ e0
  have e2 := hand_on t 1 m c H inb_S512x1536_S128x1536_128_0 inb_S512x128_S128x16_128_0 _ e1
  have e3 := hand_on t 2 m c H inb_S512x1536_S128x1536_256_0 inb_S512x128_S128x16_256_0 _ e2
  have e4 := hand_on t 3 m c H inb_S512x1536_S128x1536_384_0 inb_S512x128_S128x16_384_0 _ e3
  rw [outsAt0_B m c t hc]
  dsimp only
  frame_out
  simp only [block_z, block_xc, block_b, block_a, block_s, block_g]
  exact e4

theorem states_B (H : Reals m c) (hc : ¬t.val % 16 = 0)
    (hS : (outsAt0 m c (t.val - 1) (Nat.lt_of_le_of_lt (Nat.sub_le _ _) t.isLt)).2.2 = carry m c (nth t 0)) : (outsAt0 m c t.val t.isLt).2.1
    = four t (val_main_v144 (F := Ideal) (m (c, main_arg0)) (m (c, main_arg1)) (m (c, main_arg2)) (m (c, main_arg3)) (m (c, main_arg4))) := by
  have e0 := ((Memref.isWhole_whole cc0_scratch0).read_unread (Val := Elt Ideal) _).trans hS
  have e1 := hand_on t 0 m c H inb_S512x1536_S128x1536_0_0 inb_S512x128_S128x16_0_0 _ e0
  have e2 := hand_on t 1 m c H inb_S512x1536_S128x1536_128_0 inb_S512x128_S128x16_128_0 _ e1
  have e3 := hand_on t 2 m c H inb_S512x1536_S128x1536_256_0 inb_S512x128_S128x16_256_0 _ e2
  rw [outsAt0_B m c t hc]
  dsimp only
  frame_out
  simp only [block_z, block_xc, block_b, block_a, block_s, block_g]
  refine ext2 512 1024 fun i j => ?_
  canon_tiles x h
  all_goals
    obtain ⟨a, b, rfl⟩ : ∃ (a : Fin 128) (b : Fin 1024), x = ix2 a b := ⟨x 0, x 1, eq_ix2 x⟩
  · exact (congrFun (state_of t 3 m c _ e3) (ix2 a b)).trans (place t 3 _ i j a b h0 h1)
  · exact (congrFun (state_of t 2 m c _ e2) (ix2 a b)).trans (place t 2 _ i j a b h0 h1)
  · exact (congrFun (state_of t 1 m c _ e1) (ix2 a b)).trans (place t 1 _ i j a b h0 h1)
  · exact (congrFun (state_of t 0 m c _ e0) (ix2 a b)).trans (place t 0 _ i j a b (h0.trans (Nat.zero_add _).symm) h1)

theorem rows_B (H : Reals m c) (hc : ¬t.val % 16 = 0)
    (hS : (outsAt0 m c (t.val - 1) (Nat.lt_of_le_of_lt (Nat.sub_le _ _) t.isLt)).2.2 = carry m c (nth t 0)) : (outsAt0 m c t.val t.isLt).1
    = four t (val_main_v142 (F := Ideal) (m (c, main_arg0)) (m (c, main_arg1)) (m (c, main_arg2)) (m (c, main_arg3)) (m (c, main_arg4)) (m (c, main_arg5)) (m (c, main_arg6))) := by
  have e0 := ((Memref.isWhole_whole cc0_scratch0).read_unread (Val := Elt Ideal) _).trans hS
  have e1 := hand_on t 0 m c H inb_S512x1536_S128x1536_0_0 inb_S512x128_S128x16_0_0 _ e0
  have e2 := hand_on t 1 m c H inb_S512x1536_S128x1536_128_0 inb_S512x128_S128x16_128_0 _ e1
  have e3 := hand_on t 2 m c H inb_S512x1536_S128x1536_256_0 inb_S512x128_S128x16_256_0 _ e2
  rw [outsAt0_B m c t hc]
  dsimp only
  frame_out
  simp only [block_z, block_xc, block_b, block_a, block_s, block_g]
  refine ext2 512 1024 fun i j => ?_
  canon_tiles x h
  all_goals
    obtain ⟨a, b, rfl⟩ : ∃ (a : Fin 128) (b : Fin 1024), x = ix2 a b := ⟨x 0, x 1, eq_ix2 x⟩
  · exact (congrFun (rows_of t 3 m c H inb_S512x1536_S128x1536_384_0 inb_S512x128_S128x16_384_0 inb_S512x1024_S128x1024_384_0 _ e3) (ix2 a b)).trans (place t 3 _ i j a b h0 h1)
  · exact (congrFun (rows_of t 2 m c H inb_S512x1536_S128x1536_256_0 inb_S512x128_S128x16_256_0 inb_S512x1024_S128x1024_256_0 _ e2) (ix2 a b)).trans (place t 2 _ i j a b h0 h1)
  · exact (congrFun (rows_of t 1 m c H inb_S512x1536_S128x1536_128_0 inb_S512x128_S128x16_128_0 inb_S512x1024_S128x1024_128_0 _ e1) (ix2 a b)).trans (place t 1 _ i j a b h0 h1)
  · exact (congrFun (rows_of t 0 m c H inb_S512x1536_S128x1536_0_0 inb_S512x128_S128x16_0_0 inb_S512x1024_S128x1024_0_0 _ e0) (ix2 a b)).trans (place t 0 _ i j a b (h0.trans (Nat.zero_add _).symm) h1)

end Cert.Ssd
-- ==== Proof.SsdFwdClaim.lean ====
/-
  The claims about the recurrence's forward kernel: its frames, its reference's frame, and that its rows and the states
  entering its chunks are the reference's wherever the step sizes, rates and skips are made of real numbers.
-/
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Pre_finite7
public import proofs.«01_k».proof.Proof.SsdFwdValue
public import Idealize.ShloMosaic.Lib.ReduceAll
public import Idealize.ShloMosaic.Lib.Claim

@[expose] public section

set_option maxRecDepth 16384

namespace Cert.SsdFwd

open Idealize.ShloMosaic Idealize.ShloMosaic.TcCoe
open Idealize.SL Idealize.SL.Sem
open Cert.Kernel7Ideal Cert.Kernel7Ideal.Gen
open Cert.Reference7Ideal.Read
open Cert.Ssd

/-! ## All points -/

section Points

variable (m : (ℓ : Loc nD τ sig) → Buf (Elt Ideal) ℓ) (c : Dev nD)

/-- Every point leaves the state that enters the next point's first chunk. -/
theorem kept (H : Reals m c) : ∀ (n : ℕ) (hn : n < cfg0.N), (outsAt0 m c n hn).2.2 = carry m c (nth ⟨n, hn⟩ 4)
  | 0, hn => kept_A ⟨0, hn⟩ m c H rfl
  | n + 1, hn => by
    have hN := Nat.lt_of_lt_of_eq hn N_0
    refine kept_B ⟨n + 1, hn⟩ m c H (by change ¬(n + 1) % 16 = 0; omega) ((kept H n (Nat.lt_of_succ_lt hn)).trans (congrArg (carry m c) (Fin.ext ?_)))
    change n * 4 + 4 = (n + 1) * 4 + 0
    omega

/-- What a point that is not the first finds. -/
theorem found (H : Reals m c) (t : Fin cfg0.N) (hc : ¬t.val % 16 = 0) :
    (outsAt0 m c (t.val - 1) (Nat.lt_of_le_of_lt (Nat.sub_le _ _) t.isLt)).2.2 = carry m c (nth t 0) := by
  refine (kept m c H _ _).trans (congrArg (carry m c) (Fin.ext ?_))
  change (t.val - 1) * 4 + 4 = t.val * 4 + 0
  have : t.val ≠ 0 := fun h => hc (by rw [h])
  omega

theorem rows_eq (H : Reals m c) (t : Fin cfg0.N) : (outsAt0 m c t.val t.isLt).1
    = four t (val_main_v142 (F := Ideal) (m (c, main_arg0)) (m (c, main_arg1)) (m (c, main_arg2)) (m (c, main_arg3)) (m (c, main_arg4)) (m (c, main_arg5)) (m (c, main_arg6))) := by
  by_cases hc : t.val % 16 = 0
  · exact rows_A t m c H hc
  · exact rows_B t m c H hc (found m c H t hc)

theorem states_eq (H : Reals m c) (t : Fin cfg0.N) : (outsAt0 m c t.val t.isLt).2.1
    = four t (val_main_v144 (F := Ideal) (m (c, main_arg0)) (m (c, main_arg1)) (m (c, main_arg2)) (m (c, main_arg3)) (m (c, main_arg4))) := by
  by_cases hc : t.val % 16 = 0
  · exact states_A t m c H hc
  · exact states_B t m c H hc (found m c H t hc)

/-- The rows. -/
theorem array_rows (H : Reals m c) : (dats m 0 c).arrAt 7 cfg0.N
    = val_main_v142 (F := Ideal) (m (c, main_arg0)) (m (c, main_arg1)) (m (c, main_arg2)) (m (c, main_arg3)) (m (c, main_arg4)) (m (c, main_arg5)) (m (c, main_arg6)) := by
  refine (dats m 0 c).arrAt_eq_of_covers 7 _ (by decide +kernel) fun t hf y => ?_
  blk_simp
  refine (congrFun (after0_7 m c t) _).trans ?_
  rw [rows_eq m c H]
  unfold four
  blk_ext [at7, fourRow]

/-- The states entering the chunks. -/
theorem array_states (H : Reals m c) : (dats m 0 c).arrAt 8 cfg0.N
    = val_main_v144 (F := Ideal) (m (c, main_arg0)) (m (c, main_arg1)) (m (c, main_arg2)) (m (c, main_arg3)) (m (c, main_arg4)) := by
  refine (dats m 0 c).arrAt_eq_of_covers 8 _ (by decide +kernel) fun t hf y => ?_
  blk_simp
  refine (congrFun (after0_8 m c t) _).trans ?_
  rw [states_eq m c H]
  unfold four
  blk_ext [at8, fourRow]

end Points

/-! ## The precondition -/

/-- An extended real whose absolute value is below infinity is a real number. -/
theorem real_below (x : EReal) (h : Ideal.cmp .olt (max x (-x)) (Ideal.ofBits .f32 0x7F800000#32) = 1#1) : IsReal x := by
  rw [show Ideal.ofBits .f32 0x7F800000#32 = ⊤ by simp [Ideal.ofBits, Ideal.ieee]] at h
  have hb : ∀ b : Bool, BitVec.ofBool b = 1#1 → b = true := by decide
  have hlt : max x (-x) < ⊤ := of_decide_eq_true (hb _ h)
  rw [max_lt_iff] at hlt
  refine ⟨x.toReal, (EReal.coe_toReal (ne_of_lt hlt.1) ?_).symm⟩
  rintro rfl
  exact absurd hlt.2 (by simp)

theorem both_hold {a b : BitVec 1} (h : a &&& b = 1#1) : a = 1#1 ∧ b = 1#1 := by
  revert a b; decide

theorem reals (m : (ℓ : Loc nD τ sig) → Buf (Elt Ideal) ℓ) (c : Dev nD)
    (h : Cert.Pre_finite7.fn (F := Ideal) (m (c, main_arg0)) (m (c, main_arg1)) (m (c, main_arg2)) (m (c, main_arg3)) (m (c, main_arg4)) (m (c, main_arg5)) (m (c, main_arg6)) = fun _ => 1#1) :
    Reals m c := by
  have e := congrFun h (fun a => a.elim0)
  simp only [Cert.Pre_finite7.fn, Cert.Pre_finite7.fn_part1] at e
  obtain ⟨e, e5⟩ := both_hold e
  obtain ⟨e, e4⟩ := both_hold e
  obtain ⟨e2, e3⟩ := both_hold e
  haveI : Subsingleton Cert.Pre_finite7.S_.Idx := ⟨fun a b => funext fun d => d.elim0⟩
  exact ⟨fun r j => real_below _ (Host.reduce_andi_all _ _ _ _ _ e2 (ix2 r j)), fun j => real_below _ (Host.reduce_andi_all _ _ _ _ _ e3 (ix2 0 j)),
    fun j => real_below _ (Host.reduce_andi_all _ _ _ _ _ e4 (ix2 0 j)), fun j => real_below _ (Host.reduce_andi_all _ _ _ _ _ e5 (ix2 0 j))⟩

/-! ## The claims -/

theorem quiescent_kernel : Cert.quiescent_Kernel7 (hKernel7 := Cert.Kernel7.Gen.facts) := fun m ρ _ => Cert.Kernel7.Gen.frame m ρ

theorem quiescent_ideal : Cert.quiescent_Kernel7Ideal (hKernel7Ideal := Cert.Kernel7Ideal.Gen.facts) := fun m ρ _ => Cert.Kernel7Ideal.Gen.frame m ρ

theorem quiescent_ideal_pre : Cert.quiescent_Kernel7Ideal_pre_finite7 (hKernel7Ideal := Cert.Kernel7Ideal.Gen.facts)
    (hPre_finite7 := Cert.Pre_finite7.Gen.facts) := fun m ρ _ => Cert.Kernel7Ideal.Gen.frame m ρ

theorem quiescent_reference : Cert.quiescent_Reference7Ideal (hReference7Ideal := Cert.Reference7Ideal.Gen.facts) :=
  fun m ρ _ => (θ_run Cert.Reference7Ideal.defs _ _).mono
    (fun r h => ⟨fun c => (h c).2.2, sem_eq_zero_of_no_sems (by decide) r.2⟩)
    (Cert.Reference7Ideal.Value.run m ρ)

theorem quiescent_reference_pre : Cert.quiescent_Reference7Ideal_pre_finite7 (hReference7Ideal := Cert.Reference7Ideal.Gen.facts)
    (hPre_finite7 := Cert.Pre_finite7.Gen.facts) := fun m ρ _ => quiescent_reference m ρ trivial

theorem algebraic : Cert.algebraic_Kernel7Ideal_Reference7Ideal_pre_finite7 (hKernel7Ideal := Cert.Kernel7Ideal.Gen.facts)
    (hReference7Ideal := Cert.Reference7Ideal.Gen.facts) (hPre_finite7 := Cert.Pre_finite7.Gen.facts) := by
  intro m g m' g' hpre hargs
  refine ⟨_, _, (θ_run _ _ _).mono (fun r h c => ⟨(h c).1.trans (array_rows m c (reals m c (hpre c))), (h c).2.1.trans (array_states m c (reals m c (hpre c))), (h c).2.2⟩)
      (Cert.Kernel7Ideal.Value.run_blocks m g),
    (θ_run Cert.Reference7Ideal.defs _ _).mono (fun r h c => ?_) (Cert.Reference7Ideal.Value.run m' g')⟩
  obtain ⟨a0, a1, a2, a3, a4, a5, a6⟩ := hargs c
  refine ⟨(h c).1.trans ((val_main_v142_eq _).trans ?_), (h c).2.1.trans ((val_main_v144_eq _).trans ?_), (h c).2.2⟩
  · exact congr (congr (congr (congr (congr (congrArg₂ (val_main_v142 (F := Ideal)) a0 a1) a2) a3) a4) a5) a6
  · exact congr (congr (congr (congrArg₂ (val_main_v144 (F := Ideal)) a0 a1) a2) a3) a4

end Cert.SsdFwd
end
-- ==== Proof.SsdClaim.lean ====
/-
  The claims about the recurrence's backward kernel: its frames, its reference's frame, and that the gradients of the
  gate's columns, of the columns the convolution weighs, of the convolution's weights and bias and of the norm's weights
  are the reference's wherever the step sizes, rates and skips are made of real numbers.
-/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Pre_finite3
public import proofs.«01_k».proof.Proof.SsdBackOut
public import proofs.«01_k».proof.Proof.SsdFwdClaim
public import Idealize.ShloMosaic.Lib.ReduceAll
public import Idealize.ShloMosaic.Lib.Claim

@[expose] public section

set_option maxRecDepth 16384

namespace Cert.SsdBack

open Idealize.ShloMosaic Idealize.ShloMosaic.TcCoe
open Idealize.SL Idealize.SL.Sem
open Cert.Kernel3Ideal Cert.Kernel3Ideal.Gen
open Cert.Reference3Ideal.Read
open Cert.SsdFwd (real_below both_hold)

/-! ## All points -/

section Points

variable (m : (ℓ : Loc nD τ sig) → Buf (Elt Ideal) ℓ) (c : Dev nD)

/-- What point `n` leaves the next: its own chunk's gradients, and the sums over the chunks met so far. -/
abbrev Left (n : ℕ) (hn : n < cfg0.N) : Prop :=
  (outsAt0 m c n hn).2.2.2.2.2.2.2.2.1 = carry m c (here ⟨n, hn⟩)
    ∧ Before m c (outsAt0 m c n hn).2.2.2.2.2.2.2.1 (outsAt0 m c n hn).2.2.2.2.2.2.2.2.2.1 (outsAt0 m c n hn).2.2.2.2.2.2.2.2.2.2 (outsAt0 m c n hn).2.2.2.2.2.2.1 (n + 1) (turn ⟨n, hn⟩).val

theorem after_here (n : ℕ) (hn : n + 1 < cfg0.N) : after ⟨n + 1, hn⟩ = here ⟨n, Nat.lt_of_succ_lt hn⟩ := by
  have hN := Nat.lt_of_lt_of_eq hn N_0
  exact Fin.ext (show 63 - (n + 1) + 1 = 63 - n by omega)

theorem turn_next (n : ℕ) (hn : n + 1 < cfg0.N) : (turn ⟨n + 1, hn⟩).val + 1 = (turn ⟨n, Nat.lt_of_succ_lt hn⟩).val :=
  congrArg Fin.val (after_here n hn)

theorem left (H : Reals m c) : ∀ (n : ℕ) (hn : n < cfg0.N), n < 63 → Left m c n hn
  | 0, hn, _ => ⟨state_A m c ⟨0, hn⟩ H rfl rfl (show ¬0 % 64 = 63 by decide), rows_A m c ⟨0, hn⟩ H rfl rfl (show ¬0 % 64 = 63 by decide), taps_A m c ⟨0, hn⟩ H rfl rfl (show ¬0 % 64 = 63 by decide),
      bias_A m c ⟨0, hn⟩ H rfl rfl (show ¬0 % 64 = 63 by decide), scale_A m c ⟨0, hn⟩ H rfl rfl (show ¬0 % 64 = 63 by decide)⟩
  | n + 1, hn, hl => by
    obtain ⟨hS, hB⟩ := left H n (Nat.lt_of_succ_lt hn) (by omega)
    have hS' := hS.trans (congrArg (carry m c) (after_here n hn).symm)
    rw [← turn_next n hn] at hB
    have h0 : ¬(n + 1) % 64 = 0 := by omega
    have h2 : ¬(n + 1) % 64 = 63 := by omega
    exact ⟨state_B m c ⟨n + 1, hn⟩ H h0 h0 h2 hS', rows_B m c ⟨n + 1, hn⟩ H h0 h0 h2 hS', taps_B m c ⟨n + 1, hn⟩ H h0 h0 h2 _ hS' hB,
      fun q j => bias_B m c ⟨n + 1, hn⟩ H h0 h0 h2 hS' q j (hB.bias q j), fun j => scale_B m c ⟨n + 1, hn⟩ H h0 h0 h2 j (hB.scale j)⟩

/-- What a point after the first finds. -/
theorem found (H : Reals m c) (n : ℕ) (hn : n + 1 < cfg0.N) (hl : n < 63) (t : Fin cfg0.N) (ht : t = ⟨n + 1, hn⟩) :
    (outsAt0 m c (t.val - 1) (Nat.lt_of_le_of_lt (Nat.sub_le _ _) t.isLt)).2.2.2.2.2.2.2.2.1 = carry m c (after t)
    ∧ Before m c (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.2.1
      (outsAt0 m c (t.val - 1) (Nat.lt_of_le_of_lt (Nat.sub_le _ _) t.isLt)).2.2.2.2.2.2.2.2.2.2 (outsAt0 m c (t.val - 1) (Nat.lt_of_le_of_lt (Nat.sub_le _ _) t.isLt)).2.2.2.2.2.2.1
      t.val ((turn t).val + 1) := by
  subst ht
  obtain ⟨hS, hB⟩ := left m c H n (Nat.lt_of_succ_lt hn) hl
  rw [← turn_next n hn] at hB
  exact ⟨hS.trans (congrArg (carry m c) (after_here n hn).symm), hB⟩

/-- The last point. -/
theorem last_lt : 62 + 1 < cfg0.N := by
  rw [show cfg0.N = 64 from N_0]
  decide
def last : Fin cfg0.N := ⟨62 + 1, last_lt⟩
theorem last_off : ¬last.val % 64 = 0 := show ¬(62 + 1) % 64 = 0 by decide
theorem last_end : last.val % 64 = 63 := rfl

/-- The sums of the eight rows a weight's running sums are kept in. -/
theorem rows_all (f : Fin 64 → Fin 128 → EReal) : ∑ q : Fin 8, sofar (fun g => ∑ a : Fin 16, f g ⟨a.val * 8 + q.val, by omega⟩) 64 = ∑ g : Fin 64, ∑ l : Fin 128, f g l := by
  simp only [sofar_all]
  rw [Finset.sum_comm]
  exact Finset.sum_congr rfl fun g _ => rows_by_eight (f g)

/-- The gradient of the convolution's weights. -/
theorem array_weights (H : Reals m c) : (dats m 0 c).arrAt 12 cfg0.N
    = val_main_v338 (F := Ideal) (m (c, main_arg0)) (m (c, main_arg1)) (m (c, main_arg2)) (m (c, main_arg3)) (m (c, main_arg4)) (m (c, main_arg5)) (m (c, main_arg6)) (m (c, main_arg7)) := by
  refine (dats m 0 c).arrAt_eq_of_after_last 12 last (by decide +kernel) _ fun j => ?_
  refine (cast_eq _ _).trans ((congrFun (after0_12 m c last) _).trans (Eq.trans (b := val_main_v338 (F := Ideal) _ _ _ _ _ _ _ _ j) ?_
    (congrArg (val_main_v338 (F := Ideal) (m (c, main_arg0)) (m (c, main_arg1)) (m (c, main_arg2)) (m (c, main_arg3)) (m (c, main_arg4)) (m (c, main_arg5)) (m (c, main_arg6)) (m (c, main_arg7))) ?_)))
  · obtain ⟨k, l, rfl⟩ : ∃ (k : Fin 4) (l : Fin 1536), j = ix2 k l := ⟨j 0, j 1, eq_ix2 j⟩
    refine (taps_C m c last H last_off last_off last_end _ (found m c H 62 last_lt (by decide) last rfl).1 (found m c H 62 last_lt (by decide) last rfl).2 k l).trans ?_
    exact (rows_all fun g l' => tap (convIn m c) (convRows m c) l k.val g l').trans (weights_chunks _ _ _ _ _ _ _ _ k l).symm
  · blk_ext []

/-- The gradient of the convolution's bias. -/
theorem array_bias (H : Reals m c) : (dats m 0 c).arrAt 13 cfg0.N
    = val_main_v347 (F := Ideal) (m (c, main_arg0)) (m (c, main_arg1)) (m (c, main_arg2)) (m (c, main_arg3)) (m (c, main_arg4)) (m (c, main_arg5)) (m (c, main_arg6)) (m (c, main_arg7)) := by
  refine (dats m 0 c).arrAt_eq_of_after_last 13 last (by decide +kernel) _ fun j => ?_
  refine (cast_eq _ _).trans ((congrFun (after0_13 m c last) _).trans (Eq.trans (b := val_main_v347 (F := Ideal) _ _ _ _ _ _ _ _ j) ?_
    (congrArg (val_main_v347 (F := Ideal) (m (c, main_arg0)) (m (c, main_arg1)) (m (c, main_arg2)) (m (c, main_arg3)) (m (c, main_arg4)) (m (c, main_arg5)) (m (c, main_arg6)) (m (c, main_arg7))) ?_)))
  · obtain ⟨l, rfl⟩ : ∃ l : Fin 1536, j = ix2 0 l := ⟨j 1, (eq_ix2 j).trans (congrArg (fun a => ix2 a (j 1)) (Subsingleton.elim (α := Fin 1) (j 0) 0))⟩
    refine (bias_C m c last H last_off last_off last_end (found m c H 62 last_lt (by decide) last rfl).1 (found m c H 62 last_lt (by decide) last rfl).2.bias l).trans ?_
    exact (rows_all fun g l' => convRows m c (ix2 (Cert.Gm.rowOf g l') l)).trans (bias_at _ _ _ _ _ _ _ _ l).symm
  · blk_ext []

/-- The gradient of the norm's weights. -/
theorem array_scale (H : Reals m c) : (dats m 0 c).arrAt 17 cfg0.N
    = val_main_v343 (F := Ideal) (m (c, main_arg0)) (m (c, main_arg1)) (m (c, main_arg2)) (m (c, main_arg3)) (m (c, main_arg4)) (m (c, main_arg5)) (m (c, main_arg6)) := by
  refine (dats m 0 c).arrAt_eq_of_after_last 17 last (by decide +kernel) _ fun j => ?_
  refine (cast_eq _ _).trans ((congrFun (after0_17 m c last) _).trans (Eq.trans (b := val_main_v343 (F := Ideal) _ _ _ _ _ _ _ j) ?_
    (congrArg (val_main_v343 (F := Ideal) (m (c, main_arg0)) (m (c, main_arg1)) (m (c, main_arg2)) (m (c, main_arg3)) (m (c, main_arg4)) (m (c, main_arg5)) (m (c, main_arg6))) ?_)))
  · obtain ⟨l, rfl⟩ : ∃ l : Fin 1024, j = ix2 0 l := ⟨j 1, (eq_ix2 j).trans (congrArg (fun a => ix2 a (j 1)) (Subsingleton.elim (α := Fin 1) (j 0) 0))⟩
    refine (scale_C m c last H last_off last_off last_end l ((found m c H 62 last_lt (by decide) last rfl).2.scale l)).trans ?_
    exact (sofar_all _).trans (scale_at _ _ _ _ _ _ _ l).symm
  · blk_ext []

/-! ## The rows -/

theorem turn_rows (r : Fin 8192) : 63 - r.val / 128 < cfg0.N := by
  rw [show cfg0.N = 64 from N_0]
  omega

/-- What the rows end as: the reference's gradients, and in the last columns what the points leave there. -/
noncomputable def rowsOut : Vec Ideal S8192x2688 .bf16 := fun y =>
  if h : (y 1).val < 2560 then
    val_main_v349 (F := Ideal) (m (c, main_arg0)) (m (c, main_arg1)) (m (c, main_arg2)) (m (c, main_arg3)) (m (c, main_arg4)) (m (c, main_arg5)) (m (c, main_arg6)) (m (c, main_arg7)) (ix2 (y 0) ⟨(y 1).val, h⟩)
  else (outsAt0 m c (63 - (y 0).val / 128) (turn_rows (y 0))).1 (ix2 ⟨(y 0).val % 128, Nat.mod_lt _ (by decide)⟩ (y 1))

theorem all_rows (H : Reals m c) (t : Fin cfg0.N) : Rows m c t (outsAt0 m c t.val t.isLt).1 := by
  have hN : t.val < 64 := Nat.lt_of_lt_of_eq t.isLt N_0
  obtain ⟨n, hn⟩ := t
  rcases n with _ | n
  · exact out_A m c ⟨0, hn⟩ H rfl rfl (show ¬0 % 64 = 63 by decide)
  have hf := found m c H n hn (by simp only at hN; omega) ⟨n + 1, hn⟩ rfl
  have h0 : ¬(n + 1) % 64 = 0 := by simp only at hN; omega
  by_cases h2 : (n + 1) % 64 = 63
  · exact out_C m c ⟨n + 1, hn⟩ H h0 h0 h2 _ hf.1 hf.2
  · exact out_B m c ⟨n + 1, hn⟩ H h0 h0 h2 _ hf.1 hf.2

/-- A row of a chunk, at the point that leaves it. -/
theorem rows_at (H : Reals m c) (t : Fin cfg0.N) (l : Fin 128) (j : Fin 2688) : (outsAt0 m c t.val t.isLt).1 (ix2 l j) = rowsOut m c (ix2 (Cert.Gm.rowOf (turn t) l) j) := by
  have hN : t.val < 64 := Nat.lt_of_lt_of_eq t.isLt N_0
  have hR := all_rows m c H t
  unfold rowsOut
  by_cases h : j.val < 2560
  · refine Eq.trans ?_ (dif_pos (c := (ix2 (Cert.Gm.rowOf (turn t) l) j 1).val < 2560) h).symm
    by_cases h' : j.val < 1024
    · refine (hR.gate l ⟨j.val, h'⟩).trans ?_
      pointwise [val_main_v349, val_main_v348]
      rw [dif_pos h']
    · obtain ⟨k, hk⟩ : ∃ k : Fin 1536, j.val = 1024 + k.val := ⟨⟨j.val - 1024, by omega⟩, by change j.val = 1024 + (j.val - 1024); omega⟩
      refine (congrArg (outsAt0 m c t.val t.isLt).1 (congrArg (ix2 l) (Fin.ext hk))).trans ((hR.conv l k).trans ?_)
      pointwise [val_main_v349, val_main_v348]
      rw [dif_neg h']
      exact congrArg (fun q => weighedRows m c (ix2 _ q)) (Fin.ext (show k.val = j.val - 1024 by omega))
  · refine Eq.trans ?_ (dif_neg (c := (ix2 (Cert.Gm.rowOf (turn t) l) j 1).val < 2560) h).symm
    have e : ∀ (n : ℕ) (hn : n < cfg0.N) (q : Fin 128), n = t.val → q = l → (outsAt0 m c t.val t.isLt).1 (ix2 l j) = (outsAt0 m c n hn).1 (ix2 q j) := by
      rintro n hn q rfl rfl
      rfl
    refine e _ _ _ ?_ (Fin.ext ?_)
    · change 63 - ((63 - t.val) * 128 + l.val) / 128 = t.val
      omega
    · change ((63 - t.val) * 128 + l.val) % 128 = l.val
      omega

theorem at11 : ∀ t : Fin cfg0.N, win0_11.index t = ![63 - t.val, 0] := (by decide +kernel : ∀ t : Fin grid0.N, _)

/-- The rows of gradients. -/
theorem array_rows (H : Reals m c) : (dats m 0 c).arrAt 11 cfg0.N = rowsOut m c := by
  refine (dats m 0 c).arrAt_eq_of_covers 11 _ (by decide +kernel) fun t hf y => ?_
  obtain ⟨l, j, rfl⟩ : ∃ (l : Fin 128) (j : Fin 2688), y = ix2 l j := ⟨y 0, y 1, eq_ix2 y⟩
  blk_simp
  refine (congrFun (after0_11 m c t) _).trans ?_
  refine Eq.trans ?_ ((rows_at m c H t l j).trans ?_)
  · blk_ext []
  · blk_ext [at11, Cert.Gm.rowOf, turn]

/-- What the program returns of them. -/
theorem returned_rows (H : Reals m c) : extractStridedSlice S8192x2560 ![0, 0] ((dats m 0 c).arrAt 11 cfg0.N) slices_S8192x2688_S8192x2560_0_0
    = val_main_v349 (F := Ideal) (m (c, main_arg0)) (m (c, main_arg1)) (m (c, main_arg2)) (m (c, main_arg3)) (m (c, main_arg4)) (m (c, main_arg5)) (m (c, main_arg6)) (m (c, main_arg7)) := by
  rw [array_rows m c H]
  refine Cert.Gm.ext2 8192 2560 fun r j => ?_
  pointwise [rowsOut]

/-- The host's slice after the kernel. -/
theorem sliced : Pipeline.afterTail₀ cfgs (dats m) 0 (V0 m) [hostOps1] c main_v87
    = extractStridedSlice S8192x2560 ![0, 0] ((dats m 0 c).arrAt 11 cfg0.N) slices_S8192x2688_S8192x2560_0_0 := by
  unfold Pipeline.afterTail₀
  simp only [hostOps1, List.flatten_cons, List.flatten_nil, List.append_nil, StableHlo.after_cons, StableHlo.after_nil]
  refine (StableHlo.unary_result ..).trans ?_
  exact congrArg (extractStridedSlice S8192x2560 ![0, 0] · slices_S8192x2688_S8192x2560_0_0) ((dats m 0 c).withArrays_arrAt sharedIn0 (V0 m c) (A_eq m c) 11)

end Points

/-! ## The precondition -/

theorem reals (m : (ℓ : Loc nD τ sig) → Buf (Elt Ideal) ℓ) (c : Dev nD)
    (h : Cert.Pre_finite3.fn (F := Ideal) (m (c, main_arg0)) (m (c, main_arg1)) (m (c, main_arg2)) (m (c, main_arg3)) (m (c, main_arg4)) (m (c, main_arg5)) (m (c, main_arg6)) (m (c, main_arg7)) = fun _ => 1#1) :
    Reals m c := by
  have e := congrFun h (fun a => a.elim0)
  simp only [Cert.Pre_finite3.fn, Cert.Pre_finite3.fn_part1] at e
  obtain ⟨e, e5⟩ := both_hold e
  obtain ⟨e, e4⟩ := both_hold e
  obtain ⟨e2, e3⟩ := both_hold e
  haveI : Subsingleton Cert.Pre_finite3.S_.Idx := ⟨fun a b => funext fun d => d.elim0⟩
  exact ⟨fun r j => real_below _ (Host.reduce_andi_all _ _ _ _ _ e2 (ix2 r j)), fun j => real_below _ (Host.reduce_andi_all _ _ _ _ _ e3 (ix2 0 j)),
    fun j => real_below _ (Host.reduce_andi_all _ _ _ _ _ e4 (ix2 0 j)), fun j => real_below _ (Host.reduce_andi_all _ _ _ _ _ e5 (ix2 0 j))⟩

/-! ## The claims -/

theorem quiescent_kernel : Cert.quiescent_Kernel3 (hKernel3 := Cert.Kernel3.Gen.facts) := fun m ρ _ => Cert.Kernel3.Gen.frame m ρ

theorem quiescent_ideal : Cert.quiescent_Kernel3Ideal (hKernel3Ideal := Cert.Kernel3Ideal.Gen.facts) := fun m ρ _ => Cert.Kernel3Ideal.Gen.frame m ρ

theorem quiescent_ideal_pre : Cert.quiescent_Kernel3Ideal_pre_finite3 (hKernel3Ideal := Cert.Kernel3Ideal.Gen.facts)
    (hPre_finite3 := Cert.Pre_finite3.Gen.facts) := fun m ρ _ => Cert.Kernel3Ideal.Gen.frame m ρ

theorem quiescent_reference : Cert.quiescent_Reference3Ideal (hReference3Ideal := Cert.Reference3Ideal.Gen.facts) :=
  fun m ρ _ => (θ_run Cert.Reference3Ideal.defs _ _).mono
    (fun r h => ⟨fun c => (h c).2.2.2.2, sem_eq_zero_of_no_sems (by decide) r.2⟩)
    (Cert.Reference3Ideal.Value.run m ρ)

theorem quiescent_reference_pre : Cert.quiescent_Reference3Ideal_pre_finite3 (hReference3Ideal := Cert.Reference3Ideal.Gen.facts)
    (hPre_finite3 := Cert.Pre_finite3.Gen.facts) := fun m ρ _ => quiescent_reference m ρ trivial

theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hargs
  refine ⟨_, _, _, _, (θ_run _ _ _).mono (fun r h c => ⟨((h.1 c).2 main_v87 (Pipeline.mem_restRefs_of main_v87 (by decide) (by decide))).trans ((sliced m c).trans (returned_rows m c (reals m c (hpre c)))),
      ((h.1 c).1 12).trans (array_weights m c (reals m c (hpre c))), ((h.1 c).1 13).trans (array_bias m c (reals m c (hpre c))),
      ((h.1 c).1 17).trans (array_scale m c (reals m c (hpre c))), h.2 c⟩) (θ_run_and (run_main m g) (Cert.Kernel3Ideal.Gen.unchanged m g)),
    (θ_run Cert.Reference3Ideal.defs _ _).mono (fun r h c => ?_) (Cert.Reference3Ideal.Value.run m' g')⟩
  obtain ⟨a0, a1, a2, a3, a4, a5, a6, a7⟩ := hargs c
  refine ⟨(h c).1.trans ((val_main_v349_eq _).trans ?_), (h c).2.1.trans ((val_main_v338_eq _).trans ?_), (h c).2.2.1.trans ((val_main_v347_eq _).trans ?_),
    (h c).2.2.2.1.trans ((val_main_v343_eq _).trans ?_), (h c).2.2.2.2⟩
  · exact congr (congr (congr (congr (congr (congr (congrArg₂ (val_main_v349 (F := Ideal)) a0 a1) a2) a3) a4) a5) a6) a7
  · exact congr (congr (congr (congr (congr (congr (congrArg₂ (val_main_v338 (F := Ideal)) a0 a1) a2) a3) a4) a5) a6) a7
  · exact congr (congr (congr (congr (congr (congr (congrArg₂ (val_main_v347 (F := Ideal)) a0 a1) a2) a3) a4) a5) a6) a7
  · exact congr (congr (congr (congr (congr (congrArg₂ (val_main_v343 (F := Ideal)) a0 a1) a2) a3) a4) a5) a6

end Cert.SsdBack
end
-- ==== Proof.TailRun.lean ====
/-
  One grid point of the tail kernel, after the weights are in scratch memory: what the body leaves in its seven outputs,
  written out as functions of the blocks it reads, and the proof that it does.
-/
module

public import proofs.«01_k».proof.Proof.Gen.Kernel4Ideal.Frame.Runs
public import proofs.«01_k».proof.Proof.Staged

@[expose] public section

set_option maxRecDepth 16384

noncomputable section

namespace Cert.Tail

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- Core `c` owns the whole buffer `a`, which holds `v`. -/
abbrev has (c : Dev nD) {sp : Space} {S : Shape} {e : EltTy} (a : Memref sig .tc sp S e) (v : S.Idx → Elt F e) : sProp 𝕄 := owns (c : Thread nD τ) a fullShare v

section Values

variable (h : Vec F S512x1024 .f32) (p : Vec F S512x256 .f32) (tgt : Vec F S512x1024 .f32) (pn bg fn : Vec F S1x1024 .f32)
  (wg : Vec F S1024x1024 .bf16) (wq : Vec F S1024x256 .bf16)

/-- The projected embedding, -/
def proj : Vec F S512x1024 .f32 := k0_pay14 p wq
/-- the gate, -/
def gate : Vec F S512x1024 .f32 := k0_pay15 h pn wg bg
/-- the gate's slope. -/
def slope : Vec F S512x1024 .f32 := k0_pay16 (gate h pn bg wg) (Scalar.ofBits .f32 0x3F800000#32)
/-- What the last norm is given, -/
def inner : Vec F S512x1024 .f32 := k0_pay17 h (proj p wq) (gate h pn bg wg)
/-- its factor, -/
def factor : Vec F S512x1 .f32 := k0_pay19 h (proj p wq) (gate h pn bg wg)
/-- the factor's slope, -/
def factorSlope : Vec F S512x1 .f32 := k0_pay20 h (proj p wq) (gate h pn bg wg)
/-- the normalised rows. -/
def normed : Vec F S512x1024 .f32 := k0_pay21 h (proj p wq) (gate h pn bg wg)
/-- The error's gradient, as its two equal halves. -/
def half0 : Vec F S512x1024 .f32 := k0_pay25 h (proj p wq) tgt fn (gate h pn bg wg)
def half1 : Vec F S512x1024 .f32 := k0_pay26 h (proj p wq) tgt fn (gate h pn bg wg)

/-- The block of the input's gradient. -/
def outH : Vec F S512x1024 .f32 :=
  k0_pay40 (k0_pay29 fn (inner h p pn bg wg wq) (factor h p pn bg wg wq) (factorSlope h p pn bg wg wq) (half0 h p tgt pn bg fn wg wq) (half1 h p tgt pn bg fn wg wq))
    (k0_pay38 h pn (k0_pay9 h) (k0_pay10 h) (proj p wq) fn (slope h pn bg wg) (inner h p pn bg wg wq) (factor h p pn bg wg wq) (factorSlope h p pn bg wg wq)
      (half0 h p tgt pn bg fn wg wq) (half1 h p tgt pn bg fn wg wq) wg)
    (k0_pay39 h pn (k0_pay10 h) (proj p wq) fn (slope h pn bg wg) (inner h p pn bg wg wq) (factor h p pn bg wg wq) (factorSlope h p pn bg wg wq)
      (half0 h p tgt pn bg fn wg wq) (half1 h p tgt pn bg fn wg wq) wg)
/-- The loss so far, -/
def outL (acc : Vec F S1x1 .f32) : Vec F S1x1 .f32 := k0_pay41 (k0_pay23 h (proj p wq) tgt fn (gate h pn bg wg)) acc
/-- the gradient of the gate's weights so far, -/
def outG (acc : Vec F S1024x1024 .f32) : Vec F S1024x1024 .f32 :=
  k0_pay42 (k0_pay12 h pn) (k0_pay33 (proj p wq) fn (slope h pn bg wg) (inner h p pn bg wg wq) (factor h p pn bg wg wq) (factorSlope h p pn bg wg wq)
    (half0 h p tgt pn bg fn wg wq) (half1 h p tgt pn bg fn wg wq)) acc
/-- of the projection's weights, -/
def outP (acc : Vec F S256x1024 .f32) : Vec F S256x1024 .f32 :=
  k0_pay43 (k0_pay13 p) (k0_pay30 fn (gate h pn bg wg) (inner h p pn bg wg wq) (factor h p pn bg wg wq) (factorSlope h p pn bg wg wq)
    (half0 h p tgt pn bg fn wg wq) (half1 h p tgt pn bg fn wg wq)) acc
/-- of the first norm's scale, -/
def outN (acc : Vec F S1x1024 .f32) : Vec F S1x1024 .f32 :=
  k0_pay44 (k0_pay35 (k0_pay11 h) (proj p wq) fn (slope h pn bg wg) (inner h p pn bg wg wq) (factor h p pn bg wg wq) (factorSlope h p pn bg wg wq)
    (half0 h p tgt pn bg fn wg wq) (half1 h p tgt pn bg fn wg wq) wg) acc
/-- of the gate's bias, -/
def outB (acc : Vec F S1x1024 .f32) : Vec F S1x1024 .f32 :=
  k0_pay45 (k0_pay32 (proj p wq) fn (slope h pn bg wg) (inner h p pn bg wg wq) (factor h p pn bg wg wq) (factorSlope h p pn bg wg wq)
    (half0 h p tgt pn bg fn wg wq) (half1 h p tgt pn bg fn wg wq)) acc
/-- of the last norm's scale. -/
def outF (acc : Vec F S1x1024 .f32) : Vec F S1x1024 .f32 :=
  k0_pay1 (k0_pay28 (normed h p pn bg wg wq) (half0 h p tgt pn bg fn wg wq) (half1 h p tgt pn bg fn wg wq)) (k0_pay46 acc)

end Values

/-- Rows 256 to 384 of block `k` of the packed weights, as a matrix. -/
def block (X : Vec F S8x384x1024 .bf16) (k : ℕ) (hk : ∀ d, ![k, 256, 0] d + S1x128x1024.size d ≤ S8x384x1024.size d) :
    Vec F S128x1024 .bf16 :=
  shapeCast S128x1024 (View.ld X (Rect.unit (s := S8x384x1024) ![k, 256, 0] S1x128x1024.size hk)) squeezes_S1x128x1024_S128x1024.numel_eq

/-- Rows 256 to 384 of all eight blocks, one block under the other. -/
def stacked (X : Vec F S8x384x1024 .bf16) : Vec F S1024x1024 .bf16 := fun y =>
  X (ix3 ⟨(y 0).val / 128, by have : (y 0).val < 1024 := (y 0).isLt; omega⟩ ⟨256 + (y 0).val % 128, by omega⟩ (y 1))

/-- A block is the matching rows of the stack. -/
theorem block_apply (X : Vec F S8x384x1024 .bf16) (k : ℕ) (hk) (x : S128x1024.Idx) (y : S1024x1024.Idx)
    (h0 : (y 0).val = 128 * k + (x 0).val) (h1 : (y 1).val = (x 1).val) : block X k hk x = stacked X y := by
  have hx : (x 0).val < 128 := (x 0).isLt
  unfold block stacked
  refine (shapeCast_apply _ _ x (ix3 (0 : Fin 1) (x 0 : Fin 128) (x 1 : Fin 1024)) (by rw [Shape.rowMajor_val_three, Shape.rowMajor_val_two]; simp [ix3])).trans ?_
  refine congrArg X (funext fun a => Fin.ext ?_)
  match a with
  | ⟨0, _⟩ => show k + 1 * 0 = (y 0).val / 128; omega
  | ⟨1, _⟩ => show 256 + 1 * (x 0).val = 256 + (y 0).val % 128; omega
  | ⟨2, _⟩ => show 0 + 1 * (x 1).val = (y 1).val; omega

/-- Eight row blocks written one under the other, the last first. -/
abbrev rowPieces (p : Fin 8 → Vec F S128x1024 .bf16) : List (View.Piece (Elt F) S1024x1024 .bf16) :=
  [⟨Rect.unit (s := S1024x1024) ![896, 0] S128x1024.size inb_S1024x1024_S128x1024_896_0, p 7⟩,
    ⟨Rect.unit (s := S1024x1024) ![768, 0] S128x1024.size inb_S1024x1024_S128x1024_768_0, p 6⟩,
    ⟨Rect.unit (s := S1024x1024) ![640, 0] S128x1024.size inb_S1024x1024_S128x1024_640_0, p 5⟩,
    ⟨Rect.unit (s := S1024x1024) ![512, 0] S128x1024.size inb_S1024x1024_S128x1024_512_0, p 4⟩,
    ⟨Rect.unit (s := S1024x1024) ![384, 0] S128x1024.size inb_S1024x1024_S128x1024_384_0, p 3⟩,
    ⟨Rect.unit (s := S1024x1024) ![256, 0] S128x1024.size inb_S1024x1024_S128x1024_256_0, p 2⟩,
    ⟨Rect.unit (s := S1024x1024) ![128, 0] S128x1024.size inb_S1024x1024_S128x1024_128_0, p 1⟩,
    ⟨Rect.unit (s := S1024x1024) ![0, 0] S128x1024.size inb_S1024x1024_S128x1024_0_0, p 0⟩]

theorem rowPieces_cover (p : Fin 8 → Vec F S128x1024 .bf16) (y : S1024x1024.Idx) : ∃ q ∈ rowPieces p, y ∈ q.1.set :=
  View.cover_of_tiledL (rowPieces p) S128x1024.size (by sl_kernel_rfl) y

/-- The eight blocks written into their places, whatever was there before, make the stack. -/
theorem read_stacked (v : View sig .tc .vmem S1024x1024 .bf16) (f : v.ty.Contents (Elt F)) (X : Vec F S8x384x1024 .bf16)
    (p : Fin 8 → Vec F S128x1024 .bf16) (hk : ∀ k : Fin 8, ∀ d, ![k.val, 256, 0] d + S1x128x1024.size d ≤ S8x384x1024.size d)
    (hp : ∀ k, p k = block X k.val (hk k)) :
    v.read (Elt F) (v.writes (Elt F) f (rowPieces p)) = stacked X := by
  refine (View.read_writes_eq_canon v f _ (rowPieces_cover p)).trans ?_
  funext y
  refine View.canon_apply_of_pieces _ _ ?_ y (rowPieces_cover p y)
  intro q hq
  simp only [List.mem_cons, List.not_mem_nil, or_false] at hq
  rcases hq with rfl | rfl | rfl | rfl | rfl | rfl | rfl | rfl <;> intro x <;> refine (congrFun (hp _) x).trans (block_apply X _ _ x _ ?_ (show 0 + 1 * (x 1).val = _ by omega))
  · show 896 + 1 * (x 0).val = 128 * 7 + (x 0).val; omega
  · show 768 + 1 * (x 0).val = 128 * 6 + (x 0).val; omega
  · show 640 + 1 * (x 0).val = 128 * 5 + (x 0).val; omega
  · show 512 + 1 * (x 0).val = 128 * 4 + (x 0).val; omega
  · show 384 + 1 * (x 0).val = 128 * 3 + (x 0).val; omega
  · show 256 + 1 * (x 0).val = 128 * 2 + (x 0).val; omega
  · show 128 + 1 * (x 0).val = 128 * 1 + (x 0).val; omega
  · show 0 + 1 * (x 0).val = 128 * 0 + (x 0).val; omega

section Program

variable (c : Dev nD) (i j : grid0.Coords)
    (a1 : Memref sig .tc .vmem S512x1024 .f32) (h1 : a1.IsWhole) (a2 : Memref sig .tc .vmem S512x256 .f32) (h2 : a2.IsWhole) (a3 : Memref sig .tc .vmem S512x1024 .f32) (h3 : a3.IsWhole)
    (a4 : Memref sig .tc .vmem S1x1024 .f32) (h4 : a4.IsWhole) (a5 : Memref sig .tc .vmem S1x1024 .f32) (h5 : a5.IsWhole) (a6 : Memref sig .tc .vmem S1x1024 .f32) (h6 : a6.IsWhole)
    (a7 : Memref sig .tc .hbm S8x384x1024 .bf16) (h7 : a7.IsWhole) (a8 : Memref sig .tc .hbm S1024x256 .bf16) (h8 : a8.IsWhole) (a9 : Memref sig .tc .vmem S512x1024 .f32) (h9 : a9.IsWhole)
    (a10 : Memref sig .tc .vmem S1x1 .f32) (h10 : a10.IsWhole) (a11 : Memref sig .tc .vmem S1024x1024 .f32) (h11 : a11.IsWhole) (a12 : Memref sig .tc .vmem S256x1024 .f32) (h12 : a12.IsWhole)
    (a13 : Memref sig .tc .vmem S1x1024 .f32) (h13 : a13.IsWhole) (a14 : Memref sig .tc .vmem S1x1024 .f32) (h14 : a14.IsWhole) (a15 : Memref sig .tc .vmem S1x1024 .f32) (h15 : a15.IsWhole)
    (a16 : Memref sig .tc .vmem S1024x1024 .bf16) (h16 : a16.IsWhole) (a17 : Memref sig .tc .vmem S1024x256 .bf16) (h17 : a17.IsWhole) (s : DmaSems sig S9)

/-- Waiting for one row block of the gate's matrix: semaphore `q`, block `k` of the packed array, rows from `r`. -/
abbrev await (q k r : ℕ) (hq : ∀ d, ![q] d + S1.size d ≤ S9.size d)
    (hk : ∀ d, ![k, 256, 0] d + S1x128x1024.size d ≤ S8x384x1024.size d) (hr : ∀ d, ![r, 0] d + S128x1024.size d ≤ S1024x1024.size d)
    (wk : (Rect.unit (s := S8x384x1024) ![k, 256, 0] S1x128x1024.size hk).WholeWords (EltTy.packing .bf16))
    (wr : (Rect.unit (s := S1024x1024) ![r, 0] S128x1024.size hr).WholeWords (EltTy.packing .bf16)) :
    Prog (TpuEff nD τ sig (Elt F) Λ₀ .tc) PUnit :=
  Prog.lift (.waitDma2 ((s.slice (Rect.unit (s := S9) ![q] S1.size hq)).squeeze S_ squeezes_S1_S_).sem
    ((a7.slice (Rect.unit (s := S8x384x1024) ![k, 256, 0] S1x128x1024.size hk) (fun _ => rfl)).squeeze S128x1024 squeezes_S1x128x1024_S128x1024)
    (a16.slice (Rect.unit (s := S1024x1024) ![r, 0] S128x1024.size hr) (fun _ => rfl))
    ((h7.wordExact_slice rfl _ wk).reshape _ _) (h16.wordExact_slice rfl _ wr))

/-- What the first point does before the computation: the copies are started, the sums are cleared, and every copy is
    waited for. -/
def stage : Prog (TpuEff nD τ sig (Elt F) Λ₀ .tc) PUnit := do
  k0_part1 i a1 h1 a2 h2 a3 h3 a4 h4 a5 h5 a6 h6 a7 h7 a8 h8 a9 h9 a10 h10 a11 h11 a12 h12 a13 h13 a14 h14 a15 h15 a16 h16 a17 h17 s
  let v ← k0_part2 i a1 h1 a2 h2 a3 h3 a4 h4 a5 h5 a6 h6 a7 h7 a8 h8 a9 h9 a10 h10 a11 h11 a12 h12 a13 h13 a14 h14 a15 h15 a16 h16 a17 h17 s
  k0_part3 i a1 h1 a2 h2 a3 h3 a4 h4 a5 h5 a6 h6 a7 h7 a8 h8 a9 h9 a10 h10 a11 h11 a12 h12 a13 h13 a14 h14 a15 h15 a16 h16 a17 h17 s v
  await a7 h7 a16 h16 s 3 3 384 inb_S9_S1_3 inb_S8x384x1024_S1x128x1024_3_256_0 inb_S1024x1024_S128x1024_384_0
    wordsbf16_S8x384x1024_S1x128x1024_3_256_0 wordsbf16_S1024x1024_S128x1024_384_0
  await a7 h7 a16 h16 s 4 4 512 inb_S9_S1_4 inb_S8x384x1024_S1x128x1024_4_256_0 inb_S1024x1024_S128x1024_512_0
    wordsbf16_S8x384x1024_S1x128x1024_4_256_0 wordsbf16_S1024x1024_S128x1024_512_0
  await a7 h7 a16 h16 s 5 5 640 inb_S9_S1_5 inb_S8x384x1024_S1x128x1024_5_256_0 inb_S1024x1024_S128x1024_640_0
    wordsbf16_S8x384x1024_S1x128x1024_5_256_0 wordsbf16_S1024x1024_S128x1024_640_0
  await a7 h7 a16 h16 s 6 6 768 inb_S9_S1_6 inb_S8x384x1024_S1x128x1024_6_256_0 inb_S1024x1024_S128x1024_768_0
    wordsbf16_S8x384x1024_S1x128x1024_6_256_0 wordsbf16_S1024x1024_S128x1024_768_0
  await a7 h7 a16 h16 s 7 7 896 inb_S9_S1_7 inb_S8x384x1024_S1x128x1024_7_256_0 inb_S1024x1024_S128x1024_896_0
    wordsbf16_S8x384x1024_S1x128x1024_7_256_0 wordsbf16_S1024x1024_S128x1024_896_0
  Prog.lift (.waitDma2 ((s.slice (Rect.unit (s := S9) ![8] S1.size inb_S9_S1_8)).squeeze S_ squeezes_S1_S_).sem a8 a17 h8.wordExact h17.wordExact)

/-- At the first point the body is the staging followed by the body of any other point. -/
theorem body_first (hi : cond0_0 i) (hj : ¬cond0_0 j) :
    cc0_tail (F := F) i a1 h1 a2 h2 a3 h3 a4 h4 a5 h5 a6 h6 a7 h7 a8 h8 a9 h9 a10 h10 a11 h11 a12 h12 a13 h13 a14 h14 a15 h15 a16 h16 a17 h17 s
      = stage i a1 h1 a2 h2 a3 h3 a4 h4 a5 h5 a6 h6 a7 h7 a8 h8 a9 h9 a10 h10 a11 h11 a12 h12 a13 h13 a14 h14 a15 h15 a16 h16 a17 h17 s >>= fun _ => cc0_tail j a1 h1 a2 h2 a3 h3 a4 h4 a5 h5 a6 h6 a7 h7 a8 h8 a9 h9 a10 h10 a11 h11 a12 h12 a13 h13 a14 h14 a15 h15 a16 h16 a17 h17 s := by
  simp only [cc0_tail_eq_skeleton]; unfold cc0_tail_skel
  simp only [k0_part4_eq_skeleton]; unfold k0_part4_skel
  dsimp only
  rw [dif_pos hi, dif_neg hj]
  rfl

set_option sl_exec.dmaWindow true in
set_option sl_exec.dmaWindowSet true in
set_option maxHeartbeats 1600000 in
/-- The staging of the first point leaves the two matrices in scratch memory and the sums at zero. -/
theorem stage_run (hi : cond0_0 i)
    (fg : HbBuf0 (F := F) c hbM0_0) (fp : HbBuf0 (F := F) c hbM0_1) (W : Waits sig Unit) (K : PUnit → sProp 𝕄) :
    iprop((∃ d, has c a10 d) ∗ (∃ d, has c a11 d) ∗ (∃ d, has c a12 d) ∗ (∃ d, has c a13 d) ∗ (∃ d, has c a14 d) ∗ (∃ d, has c a15 d) ∗ (∃ d, has c a16 d) ∗ (∃ d, has c a17 d)
        ∗ Pipeline.ownSems0 (Ix := Unit) (Name := ℕ) (U := Pipeline.UD sig nD τ) (Lvl := ℕ) (Val := Elt F) (τ := τ) osem0 c
        ∗ hbPt0 c hbM0_0 fg ∗ hbPt0 c hbM0_1 fp ∗ owes (c : Thread nD τ) 0 W
        ∗ (iprop(has c a10 k0_pay2 ∗ has c a11 k0_pay3 ∗ has c a12 k0_pay4 ∗ has c a13 k0_pay5 ∗ has c a14 k0_pay6 ∗ has c a15 k0_pay7
            ∗ has c a16 (stacked fg) ∗ has c a17 fp
            ∗ Pipeline.ownSems0 (Ix := Unit) (Name := ℕ) (U := Pipeline.UD sig nD τ) (Lvl := ℕ) (Val := Elt F) (τ := τ) osem0 c
            ∗ hbPt0 c hbM0_0 fg ∗ hbPt0 c hbM0_1 fp ∗ (∃ W', owes (c : Thread nD τ) 0 W')) -∗ K ⟨⟩))
      ⊢ wp frame (wpE (defs₀ (F := F)) Variants.none c none) Set.univ (stage i a1 h1 a2 h2 a3 h3 a4 h4 a5 h5 a6 h6 (Memref.whole main_v4) (Memref.isWhole_whole _) (Memref.whole main_v6) (Memref.isWhole_whole _) a9 h9 a10 h10 a11 h11 a12 h12 a13 h13 a14 h14 a15 h15 a16 h16 a17 h17 cc0_scratch2) K := by
  rw [ownSems00_eq]
  unfold stage
  simp only [k0_part1_eq_skeleton, k0_part2_eq_skeleton, k0_part3_eq_skeleton]
  unfold has owns
  iintro ⟨⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨Q0, Q1, Q2, Q3, Q4, Q5, Q6, Q7, Q8⟩, Hg, Hp, HW, Hk⟩
  sl_exec
  sl_step
  iapply Hk
  isplitl [H10]; · iexists _; iframe H10; ipureintro; exact read_whole _ _ zero2 _ _
  isplitl [H11]; · iexists _; iframe H11; ipureintro; exact read_whole _ _ zero2 _ _
  isplitl [H12]; · iexists _; iframe H12; ipureintro; exact read_whole _ _ zero2 _ _
  isplitl [H13]; · iexists _; iframe H13; ipureintro; exact read_whole _ _ zero2 _ _
  isplitl [H14]; · iexists _; iframe H14; ipureintro; exact read_whole _ _ zero2 _ _
  isplitl [H15]; · iexists _; iframe H15; ipureintro; exact read_whole _ _ zero2 _ _
  isplitl [H16]; · iexists _; iframe H16; ipureintro; exact read_stacked _ _ _ ![_, _, _, _, _, _, _, _] (by decide) (by intro k; fin_cases k <;> rfl)
  isplitl [H17]; · iexists _; iframe H17; ipureintro; exact (read_whole a17.view f17 (off := fun _ => 0) rfl (fun a => (Nat.zero_add _).le) _).trans rfl
  iframe Q0 Q1 Q2 Q3 Q4 Q5 Q6 Q7 Q8 Hg Hp
  iexists _; iexact HW

set_option maxHeartbeats 1600000 in
/-- The body at a point where nothing is staged: it leaves the seven outputs at the functions above and everything it
    reads as it was. -/
theorem point_run (hi : ¬cond0_0 i)
    (h : Vec F S512x1024 .f32) (p : Vec F S512x256 .f32) (tgt : Vec F S512x1024 .f32) (pn bg fn : Vec F S1x1024 .f32)
    (wg : Vec F S1024x1024 .bf16) (wq : Vec F S1024x256 .bf16) (accL : Vec F S1x1 .f32) (accG : Vec F S1024x1024 .f32) (accP : Vec F S256x1024 .f32)
    (accN accB accF : Vec F S1x1024 .f32) (K : PUnit → sProp 𝕄) :
    iprop(has c a1 h ∗ has c a2 p ∗ has c a3 tgt ∗ has c a4 pn ∗ has c a5 bg ∗ has c a6 fn ∗ has c a16 wg ∗ has c a17 wq ∗ has c a10 accL ∗ has c a11 accG ∗ has c a12 accP ∗ has c a13 accN ∗ has c a14 accB ∗ has c a15 accF
        ∗ (∃ d, has c a9 d)
        ∗ (iprop(has c a1 h ∗ has c a2 p ∗ has c a3 tgt ∗ has c a4 pn ∗ has c a5 bg ∗ has c a6 fn ∗ has c a16 wg ∗ has c a17 wq
            ∗ has c a10 (outL h p tgt pn bg fn wg wq accL) ∗ has c a11 (outG h p tgt pn bg fn wg wq accG) ∗ has c a12 (outP h p tgt pn bg fn wg wq accP) ∗ has c a13 (outN h p tgt pn bg fn wg wq accN) ∗ has c a14 (outB h p tgt pn bg fn wg wq accB) ∗ has c a15 (outF h p tgt pn bg fn wg wq accF)
            ∗ has c a9 (outH h p tgt pn bg fn wg wq)) -∗ K ⟨⟩))
      ⊢ wp frame (wpE (defs₀ (F := F)) Variants.none c none) Set.univ (cc0_tail i a1 h1 a2 h2 a3 h3 a4 h4 a5 h5 a6 h6 a7 h7 a8 h8 a9 h9 a10 h10 a11 h11 a12 h12 a13 h13 a14 h14 a15 h15 a16 h16 a17 h17 s) K := by
  simp only [cc0_tail_eq_skeleton]; unfold cc0_tail_skel
  simp only [k0_part4_eq_skeleton, k0_part5_eq_skeleton, k0_part6_eq_skeleton, k0_part7_eq_skeleton]
  unfold has owns
  iintro ⟨⟨%f1, %e1, H1⟩, ⟨%f2, %e2, H2⟩, ⟨%f3, %e3, H3⟩, ⟨%f4, %e4, H4⟩, ⟨%f5, %e5, H5⟩, ⟨%f6, %e6, H6⟩, ⟨%f16, %e16, H16⟩, ⟨%f17, %e17, H17⟩, ⟨%f10, %e10, H10⟩, ⟨%f11, %e11, H11⟩, ⟨%f12, %e12, H12⟩, ⟨%f13, %e13, H13⟩, ⟨%f14, %e14, H14⟩, ⟨%f15, %e15, H15⟩, ⟨%d9, %f9, -, H9⟩, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h16.eq_unread e16; obtain rfl := h17.eq_unread e17; obtain rfl := h10.eq_unread e10; obtain rfl := h11.eq_unread e11; obtain rfl := h12.eq_unread e12; obtain rfl := h13.eq_unread e13; obtain rfl := h14.eq_unread e14; obtain rfl := h15.eq_unread e15
  sl_exec (disch := first | sl_exact hi)
  sl_step
  iapply Hk
  isplitl [H1]; rotate_left
  isplitl [H2]; rotate_left
  isplitl [H3]; rotate_left
  isplitl [H4]; rotate_left
  isplitl [H5]; rotate_left
  isplitl [H6]; rotate_left
  isplitl [H16]; rotate_left
  isplitl [H17]; rotate_left
  isplitl [H10]; rotate_left
  isplitl [H11]; rotate_left
  isplitl [H12]; rotate_left
  isplitl [H13]; rotate_left
  isplitl [H14]; rotate_left
  isplitl [H15]; rotate_left
  all_goals
    iexists _; isplitr
    swap; · iassumption
    ipureintro
  all_goals first | with_reducible exact Memref.IsWhole.read_unread ‹_› _ | refine (read_whole _ _ zero2 _ _).trans ?_
  all_goals
    sl_unfold_words
    simp only [outH, outL, outG, outP, outN, outB, outF, half0, half1, factor, factorSlope, inner, normed, slope, gate, proj, View.readAt_eq_ld, h1.read_unread,
      h2.read_unread, h3.read_unread, h4.read_unread, h5.read_unread, h6.read_unread, h16.read_unread, h17.read_unread, h10.read_unread, h11.read_unread,
      h12.read_unread, h13.read_unread, h14.read_unread, h15.read_unread, View.ld_unit_zero (S := S512x1024) zero2, View.ld_unit_zero (S := S512x256) zero2,
      View.ld_unit_zero (S := S1x1024) zero2, View.ld_unit_zero (S := S1024x1024) zero2, View.ld_unit_zero (S := S1024x256) zero2, View.ld_unit_zero (S := S256x1024) zero2,
      View.ld_unit_zero (S := S1x1) zero2]

end Program

end Cert.Tail
end
-- ==== Proof.TailFrame.lean ====
/-
  The whole run of the tail kernel: the invariant between grid points (the weights stay in scratch memory, six outputs are
  summed), the body's obligation at every point, and that the arguments end unchanged.
-/
module

public import proofs.«01_k».proof.Proof.TailRun
public import Idealize.ShloMosaic.Lib.Claim

@[expose] public section

set_option maxRecDepth 16384

noncomputable section

namespace Cert.Tail

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD) (t : Fin cfg0.N)

/-! ## What the points leave -/

/-- The gate's weights as the staging lays them into scratch memory, -/
def gateW : Vec F S1024x1024 .bf16 := stacked (V m c main_v4)
/-- and the projection's. -/
def projW : Vec F S1024x256 .bf16 := V m c main_v6

/-- The loss, summed over the points up to `n`. -/
def sumL : (n : ℕ) → n < cfg0.N → Vec F S1x1 .f32 := sumTo (fun t => outL (iblk m c 0 t) (iblk m c 1 t) (iblk m c 2 t) (iblk m c 3 t) (iblk m c 4 t) (iblk m c 5 t) (gateW m c) (projW m c)) k0_pay2
/-- The gradient of the gate's weights, summed over the points up to `n`. -/
def sumG : (n : ℕ) → n < cfg0.N → Vec F S1024x1024 .f32 := sumTo (fun t => outG (iblk m c 0 t) (iblk m c 1 t) (iblk m c 2 t) (iblk m c 3 t) (iblk m c 4 t) (iblk m c 5 t) (gateW m c) (projW m c)) k0_pay3
/-- The gradient of the projection's weights, summed over the points up to `n`. -/
def sumP : (n : ℕ) → n < cfg0.N → Vec F S256x1024 .f32 := sumTo (fun t => outP (iblk m c 0 t) (iblk m c 1 t) (iblk m c 2 t) (iblk m c 3 t) (iblk m c 4 t) (iblk m c 5 t) (gateW m c) (projW m c)) k0_pay4
/-- The gradient of the first norm's scale, summed over the points up to `n`. -/
def sumN : (n : ℕ) → n < cfg0.N → Vec F S1x1024 .f32 := sumTo (fun t => outN (iblk m c 0 t) (iblk m c 1 t) (iblk m c 2 t) (iblk m c 3 t) (iblk m c 4 t) (iblk m c 5 t) (gateW m c) (projW m c)) k0_pay5
/-- The gradient of the gate's bias, summed over the points up to `n`. -/
def sumB : (n : ℕ) → n < cfg0.N → Vec F S1x1024 .f32 := sumTo (fun t => outB (iblk m c 0 t) (iblk m c 1 t) (iblk m c 2 t) (iblk m c 3 t) (iblk m c 4 t) (iblk m c 5 t) (gateW m c) (projW m c)) k0_pay6
/-- The gradient of the last norm's scale, summed over the points up to `n`. -/
def sumF : (n : ℕ) → n < cfg0.N → Vec F S1x1024 .f32 := sumTo (fun t => outF (iblk m c 0 t) (iblk m c 1 t) (iblk m c 2 t) (iblk m c 3 t) (iblk m c 4 t) (iblk m c 5 t) (gateW m c) (projW m c)) k0_pay7

/-! ## The invariant and the proof data -/

/-- The parts of the invariant that no point changes: the generator's register, the copies' semaphores at zero, the
    weights in main memory. -/
def rest : sProp 𝕄 :=
  iprop((∃ r, prngReg c r) ∗ Pipeline.ownSems0 (Ix := Unit) (Name := ℕ) (U := Pipeline.UD sig nD τ) (Lvl := ℕ) (Val := Elt F) (τ := τ) osem0 c
    ∗ hbPt0 c hbM0_0 (V m c main_v4) ∗ hbPt0 c hbM0_1 (V m c main_v6))

theorem launch_eq :
    (Pipeline.ΦD osem0 spec0 H0 (V m) c : sProp 𝕄)
      = iprop(iprop((∃ d, has c scM0_0 d) ∗ (∃ d, has c scM0_1 d)) ∗ rest m c) := by
  rw [PhiD0_eq]; unfold rest; rw [ownSems00_eq]

/-- Before the first point the scratch memory holds anything, later the two weights. -/
def inv : ℕ → sProp 𝕄
  | 0 => Pipeline.ΦD osem0 spec0 H0 (V m) c
  | _ + 1 => iprop(iprop(has c scM0_0 (gateW m c) ∗ has c scM0_1 (projW m c)) ∗ rest m c)

theorem inv_pos (n : ℕ) (h : n ≠ 0) :
    inv m c n = iprop(iprop(has c scM0_0 (gateW m c) ∗ has c scM0_1 (projW m c)) ∗ rest m c) := by
  cases n with
  | zero => exact absurd rfl h
  | succ n => rfl

/-- The proof data of the pipeline: the inputs' blocks stay, the outputs are the functions of one point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t) (gateW m c) (projW m c)
    | ⟨7, _⟩ => sumL m c t.val t.isLt
    | ⟨8, _⟩ => sumG m c t.val t.isLt
    | ⟨9, _⟩ => sumP m c t.val t.isLt
    | ⟨10, _⟩ => sumN m c t.val t.isLt
    | ⟨11, _⟩ => sumB m c t.val t.isLt
    | ⟨12, _⟩ => sumF m c t.val t.isLt
  Φ t := inv m c t.val
  q _ := fullShare
  owed _ := 0

theorem A_eq (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = outH (iblk m c 0 t) (iblk m c 1 t) (iblk m c 2 t) (iblk m c 3 t) (iblk m c 4 t) (iblk m c 5 t) (gateW m c) (projW m c) := by dsimp only [dats]
theorem after_7 : (dats m 0 c).after 7 t = sumL m c t.val t.isLt := by dsimp only [dats]
theorem after_8 : (dats m 0 c).after 8 t = sumG m c t.val t.isLt := by dsimp only [dats]
theorem after_9 : (dats m 0 c).after 9 t = sumP m c t.val t.isLt := by dsimp only [dats]
theorem after_10 : (dats m 0 c).after 10 t = sumN m c t.val t.isLt := by dsimp only [dats]
theorem after_11 : (dats m 0 c).after 11 t = sumB m c t.val t.isLt := by dsimp only [dats]
theorem after_12 : (dats m 0 c).after 12 t = sumF m c t.val t.isLt := by dsimp only [dats]

theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d
theorem before_5 (d) : (dats m 0 c).before 5 t d = iblk m c 5 t :=
  before0_5_of m (dats m 0 c) (A_eq m c 5) (after_5 m c) t d

/-! A summed output's buffer holds, at a later point, what the point before left. -/

theorem before_sums (h : t.val ≠ 0) :
    (∀ d, (dats m 0 c).before 7 t d = sumL m c (t.val - 1) (Nat.lt_of_le_of_lt (Nat.sub_le _ _) t.isLt)) ∧
    (∀ d, (dats m 0 c).before 8 t d = sumG m c (t.val - 1) (Nat.lt_of_le_of_lt (Nat.sub_le _ _) t.isLt)) ∧
    (∀ d, (dats m 0 c).before 9 t d = sumP m c (t.val - 1) (Nat.lt_of_le_of_lt (Nat.sub_le _ _) t.isLt)) ∧
    (∀ d, (dats m 0 c).before 10 t d = sumN m c (t.val - 1) (Nat.lt_of_le_of_lt (Nat.sub_le _ _) t.isLt)) ∧
    (∀ d, (dats m 0 c).before 11 t d = sumB m c (t.val - 1) (Nat.lt_of_le_of_lt (Nat.sub_le _ _) t.isLt)) ∧
    (∀ d, (dats m 0 c).before 12 t d = sumF m c (t.val - 1) (Nat.lt_of_le_of_lt (Nat.sub_le _ _) t.isLt)) := by
  have hN : t.val < 16 := lt_of_lt_of_eq t.isLt (show cfg0.N = 16 from N_0)
  have kept {b : Bool} {n : ℕ} (e : b = true ↔ n % 16 = 15) (hn : n = t.val - 1) : b = false := Bool.eq_false_iff.mpr fun h => by have := e.mp h; omega
  refine ⟨fun d => ?_, fun d => ?_, fun d => ?_, fun d => ?_, fun d => ?_, fun d => ?_⟩ <;>
    rw [Dat.before_out_kept _ _ rfl t (by omega) (by first | exact kept (flush0_7 _) rfl | exact kept (flush0_8 _) rfl | exact kept (flush0_9 _) rfl | exact kept (flush0_10 _) rfl | exact kept (flush0_11 _) rfl | exact kept (flush0_12 _) rfl)
      (fun _ => rfl) (fun _ _ => rfl)] <;> dsimp only [dats]

/-! ## One point -/

/-- What the body is called with at point `t`, window by window, -/
def pre : sProp 𝕄 :=
  iprop((dats m 0 c).Φ t.castSucc ∗ (dats m 0 c).owesAt () t.castSucc
    ∗ (∃ d, has c (ms0_0 t) ((dats m 0 c).before 0 t d))
    ∗ (∃ d, has c (ms0_1 t) ((dats m 0 c).before 1 t d))
    ∗ (∃ d, has c (ms0_2 t) ((dats m 0 c).before 2 t d))
    ∗ (∃ d, has c (ms0_3 t) ((dats m 0 c).before 3 t d))
    ∗ (∃ d, has c (ms0_4 t) ((dats m 0 c).before 4 t d))
    ∗ (∃ d, has c (ms0_5 t) ((dats m 0 c).before 5 t d))
    ∗ (∃ d, has c (ms0_6 t) ((dats m 0 c).before 6 t d))
    ∗ (∃ d, has c (ms0_7 t) ((dats m 0 c).before 7 t d))
    ∗ (∃ d, has c (ms0_8 t) ((dats m 0 c).before 8 t d))
    ∗ (∃ d, has c (ms0_9 t) ((dats m 0 c).before 9 t d))
    ∗ (∃ d, has c (ms0_10 t) ((dats m 0 c).before 10 t d))
    ∗ (∃ d, has c (ms0_11 t) ((dats m 0 c).before 11 t d))
    ∗ (∃ d, has c (ms0_12 t) ((dats m 0 c).before 12 t d)))

/-- and what it returns. -/
def post : sProp 𝕄 :=
  iprop((dats m 0 c).Φ t.succ ∗ (dats m 0 c).owesAt () t.succ
    ∗ has c (ms0_0 t) ((dats m 0 c).after 0 t)
    ∗ has c (ms0_1 t) ((dats m 0 c).after 1 t)
    ∗ has c (ms0_2 t) ((dats m 0 c).after 2 t)
    ∗ has c (ms0_3 t) ((dats m 0 c).after 3 t)
    ∗ has c (ms0_4 t) ((dats m 0 c).after 4 t)
    ∗ has c (ms0_5 t) ((dats m 0 c).after 5 t)
    ∗ has c (ms0_6 t) ((dats m 0 c).after 6 t)
    ∗ has c (ms0_7 t) ((dats m 0 c).after 7 t)
    ∗ has c (ms0_8 t) ((dats m 0 c).after 8 t)
    ∗ has c (ms0_9 t) ((dats m 0 c).after 9 t)
    ∗ has c (ms0_10 t) ((dats m 0 c).after 10 t)
    ∗ has c (ms0_11 t) ((dats m 0 c).after 11 t)
    ∗ has c (ms0_12 t) ((dats m 0 c).after 12 t))

set_option maxHeartbeats 3200000 in
/-- The body at any point takes the one to the other. -/
theorem point :
    pre m c t ⊢ wp frame (wpE (defs₀ (F := F)) Variants.none c none) Set.univ (bodyAt0 t) (fun _ => post m c t) := by
  have hN : cfg0.N = 16 := N_0
  have ht : t.val < 16 := lt_of_lt_of_eq t.isLt hN
  unfold pre post bodyAt0
  simp only [before_0, before_1, before_2, before_3, before_4, before_5]
  rw [show (dats m 0 c).Φ t.succ = inv m c (t.val + 1) from rfl, show (dats m 0 c).Φ t.castSucc = inv m c t.val from rfl, inv_pos m c (t.val + 1) (Nat.succ_ne_zero _),
    after_0, after_1, after_2, after_3, after_4, after_5, after_6, after_7, after_8, after_9, after_10, after_11, after_12]
  unfold Dat.owesAt Pipeline.owesWithin
  rw [show (dats m 0 c).owed t.castSucc = 0 from rfl, show (dats m 0 c).owed t.succ = 0 from rfl]
  unfold sumL sumG sumP sumN sumB sumF
  have run := fun (j : grid0.Coords) (hj : ¬cond0_0 j) => point_run (F := F) c j (ms0_0 t) (hs0_0 t) (ms0_1 t) (hs0_1 t) (ms0_2 t) (hs0_2 t) (ms0_3 t) (hs0_3 t) (ms0_4 t) (hs0_4 t) (ms0_5 t) (hs0_5 t) (Memref.whole main_v4) (Memref.isWhole_whole _) (Memref.whole main_v6) (Memref.isWhole_whole _) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) cc0_scratch2 hj
  by_cases hz : t.val = 0
  · rw [show inv m c t.val = Pipeline.ΦD osem0 spec0 H0 (V m) c from by rw [hz]; rfl, launch_eq]
    simp only [sumTo_first _ _ t hz]
    obtain ⟨j, hj⟩ : ∃ j : grid0.Coords, ¬cond0_0 j := ⟨grid0.coords (⟨1, by omega⟩ : Fin cfg0.N), fun h => by
      have := (hcond0_0 _).mp h; dsimp only at this; omega⟩
    rw [body_first (grid0.coords t) j (hi := (hcond0_0 t).mpr (by omega)) (hj := hj), wp_bind]
    unfold rest
    iintro ⟨⟨⟨S0, S1⟩, Hg, Hq, G0, G1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (stage_run c (grid0.coords t) (hi := (hcond0_0 t).mpr (by omega)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (V m c main_v4) (V m c main_v6) W)
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iframe S0 S1 Hq G0 G1 HW
    iintro ⟨H7, H8, H9, H10, H11, H12, S0, S1, Hq, G0, G1, ⟨%W', HW⟩⟩
    iapply (run j hj)
    iframe H0 H1 H2 H3 H4 H5 S0 S1 H7 H8 H9 H10 H11 H12
    isplitl [H6]; · iexists _; iexact H6
    iintro ⟨H0, H1, H2, H3, H4, H5, S0, S1, H7, H8, H9, H10, H11, H12, H6⟩
    iframe S0 S1 Hg Hq G0 G1 H0 H1 H2 H3 H4 H5 H6 H7 H8 H9 H10 H11 H12
    iexists W'; iframe HW; ipureintro; exact fun _ _ => Or.inl trivial
  · rw [inv_pos m c _ hz]
    obtain ⟨b7, b8, b9, b10, b11, b12⟩ := before_sums m c t hz
    simp only [b7, b8, b9, b10, b11, b12]
    unfold sumL sumG sumP sumN sumB sumF
    simp only [sumTo_next _ _ t hz]
    iintro ⟨⟨⟨S0, S1⟩, R⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run (grid0.coords t) (fun h => hz (by have := (hcond0_0 t).mp h; omega)))
    iframe H0 H1 H2 H3 H4 H5 S0 S1 H7 H8 H9 H10 H11 H12
    isplitl [H6]; · iexists _; iexact H6
    iintro ⟨H0, H1, H2, H3, H4, H5, S0, S1, H7, H8, H9, H10, H11, H12, H6⟩
    iframe S0 S1 R H0 H1 H2 H3 H4 H5 H6 H7 H8 H9 H10 H11 H12
    iexists W; iframe HW; ipureintro; exact fun _ _ => Or.inl trivial

theorem row (t : Fin cfg0.N) : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row]
  exact triple_restated (point m c t) rfl .rfl fun _ => .rfl

theorem hin : Pipeline.ΦD osem0 spec0 H0 (V m) c ⊢ (dats m 0 c).Φ 0 := by
  rw [show (dats m 0 c).Φ 0 = inv m c 0 from rfl]
  exact Idealize.SL.BI.Entails.refl _

theorem hout : (dats m 0 c).Φ (Fin.last cfg0.N) ⊢ Pipeline.ΦD osem0 spec0 H0 (V m) c := by
  rw [show (dats m 0 c).Φ (Fin.last cfg0.N) = inv m c cfg0.N from rfl, inv_pos m c _ (by have : cfg0.N = 16 := N_0; omega), launch_eq]
  iintro ⟨⟨S0, S1⟩, R⟩
  isplitl [S0 S1]
  · isplitl [S0]; · iexists _; iexact S0
    iexists _; iexact S1
  iexact R

/-! ## The run -/

-- the library's run is applied by unifying its conclusion, which unfolds plain definitions in a metavariable's type
set_option backward.isDefEq.respectTransparency.types false in
/-- Every execution ends with the pipeline's arrays as the proof data says and every semaphore at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The arguments end unchanged and the semaphores at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Tail
end
-- ==== Proof.TailPoint.lean ====
/-
  One grid point of the tail kernel, read over the extended reals: every value it computes at a row of its block is the
  reference's value at that row of the whole array.
-/
module

public import proofs.«01_k».proof.Proof.TailRun
public import proofs.«01_k».proof.Proof.GmPoint
public import proofs.«01_k».proof.Proof.Gen.Reference4Ideal.Read
public import Idealize.ShloMosaic.Lib.Pointwise
public import proofs.«01_k».proof.Proof.Reals

@[expose] public section

namespace Cert.Tail

open Cert.Kernel4Ideal Cert.Kernel4Ideal.Gen
open Cert.Reference4Ideal.Read Cert.Reals
open Idealize.ShloMosaic Idealize.ShloMosaic.TcCoe
open Cert.Gm (ext2)

/-- Row `r` of block `t`. -/
def rowOf (t : Fin 16) (r : Fin 512) : Fin 8192 := ⟨t.val * 512 + r.val, by omega⟩

/-- Block `t` of 512 rows. -/
def tile {n : ℕ} {e : EltTy} (t : Fin 16) (X : Vec Ideal ⟨2, ![8192, n]⟩ e) : Vec Ideal ⟨2, ![512, n]⟩ e :=
  fun y => X (ix2 (rowOf t (y 0)) (y 1))

/-- The transpose of a matrix. -/
def turned (w : Vec Ideal S256x1024 .f32) : Vec Ideal S1024x256 .bf16 := fun y => w (ix2 (y 1) (y 0))

/-- A number and itself add up to twice the number. -/
theorem twice (x : EReal) : x + x = Ideal.ofBits .f32 0x40000000#32 * x := by
  have h : Ideal.ofBits .f32 0x40000000#32 = ((2 : ℝ) : EReal) := by simp [Ideal.ofBits, Ideal.ieee]; norm_num [← EReal.coe_mul]
  rw [h]
  induction x with
  | bot => rw [EReal.coe_mul_bot_of_pos (by norm_num)]; rfl
  | top => rw [EReal.coe_mul_top_of_pos (by norm_num)]; rfl
  | coe r => rw [← EReal.coe_add, ← EReal.coe_mul]; exact congrArg _ (by ring)

/-- A factor on either side, added up, is the factor times twice the number. -/
theorem halves (e k : EReal) : e * k + k * e = k * (Ideal.ofBits .f32 0x40000000#32 * e) := by
  rw [mul_comm e k, twice, mul_left_comm]

variable (x0 : Vec Ideal S8192x1024 .f32) (x1 : Vec Ideal S8192x256 .f32) (x2 : Vec Ideal S8192x1024 .f32) (x3 x5 x7 : Vec Ideal S1x1024 .f32)
  (x4 : Vec Ideal S1024x1024 .f32) (x6 : Vec Ideal S256x1024 .f32) (t : Fin 16)

/-! ## The forward values -/

theorem factor_h : k0_pay9 (F := Ideal) (tile t x0) = tile t (val_main_v7 (F := Ideal) x0) := by
  refine ext2 512 1 fun i j => ?_
  pointwise [k0_pay9, k0_pay8, val_main_v7, val_main_v6, val_main_v5, val_main_v4, val_main_v3, val_main_v2, val_main_v1, val_main_v0,
    val_main_cst, val_main_cst_0, val_main_cst_1, tile]

theorem slope_h : k0_pay10 (F := Ideal) (tile t x0) = tile t (val_main_v10 (F := Ideal) x0) := by
  refine ext2 512 1 fun i j => ?_
  pointwise [k0_pay10, k0_pay9, k0_pay8, val_main_v10, val_main_v9, val_main_v8, val_main_v7, val_main_v6, val_main_v5, val_main_v4, val_main_v3,
    val_main_v2, val_main_v1, val_main_v0, val_main_cst, val_main_cst_0, val_main_cst_1, val_main_cst_2, tile]

theorem normed_h : k0_pay11 (F := Ideal) (tile t x0) = tile t (val_main_v12 (F := Ideal) x0) := by
  refine ext2 512 1024 fun i j => ?_
  unfold k0_pay11
  rw [factor_h]
  pointwise [val_main_v12, val_main_v11, tile]

theorem scaled_h : k0_pay12 (F := Ideal) (tile t x0) x3 = tile t (val_main_v14 (F := Ideal) x0 x3) := by
  refine ext2 512 1024 fun i j => ?_
  unfold k0_pay12
  rw [normed_h]
  pointwise [val_main_v14, val_main_v13, tile]

theorem proj_eq : proj (F := Ideal) (tile t x1) (turned x6) = tile t (val_main_v27 (F := Ideal) x1 x6) := by
  refine ext2 512 1024 fun i j => ?_
  unfold proj
  pointwise [k0_pay14, k0_pay13, val_main_v27, turned, tile]
  done

theorem gate_eq : gate (F := Ideal) (tile t x0) x3 x5 x4 = tile t (val_main_v23 (F := Ideal) x0 x3 x4 x5) := by
  refine ext2 512 1024 fun i j => ?_
  unfold gate k0_pay15
  rw [scaled_h]
  pointwise [val_main_v23, val_main_v22, val_main_v21, val_main_v20, val_main_v19, val_main_v18, val_main_v17, val_main_v16, val_main_v15,
    val_main_cst_3, val_main_cst_4, tile]
  rfl

theorem slope_eq : slope (F := Ideal) (tile t x0) x3 x5 x4 = tile t (val_main_v26 (F := Ideal) x0 x3 x4 x5) := by
  refine ext2 512 1024 fun i j => ?_
  unfold slope
  rw [gate_eq]
  pointwise [k0_pay16, val_main_v26, val_main_v25, val_main_v24, val_main_cst_5, tile]

theorem inner_eq : inner (F := Ideal) (tile t x0) (tile t x1) x3 x5 x4 (turned x6) = tile t (val_main_v29 (F := Ideal) x0 x1 x3 x4 x5 x6) := by
  refine ext2 512 1024 fun i j => ?_
  unfold inner
  rw [gate_eq, proj_eq]
  pointwise [k0_pay17, val_main_v29, val_main_v28, tile]

theorem inner_eq' : k0_pay17 (F := Ideal) (tile t x0) (tile t (val_main_v27 (F := Ideal) x1 x6)) (tile t (val_main_v23 (F := Ideal) x0 x3 x4 x5))
    = tile t (val_main_v29 (F := Ideal) x0 x1 x3 x4 x5 x6) := by
  have h := inner_eq x0 x1 x3 x5 x4 x6 t
  unfold inner at h
  rwa [gate_eq, proj_eq] at h

theorem factor_eq : factor (F := Ideal) (tile t x0) (tile t x1) x3 x5 x4 (turned x6) = tile t (val_main_v37 (F := Ideal) x0 x1 x3 x4 x5 x6) := by
  refine ext2 512 1 fun i j => ?_
  unfold factor k0_pay19 k0_pay18
  rw [gate_eq, proj_eq, inner_eq']
  pointwise [val_main_v37, val_main_v36, val_main_v35, val_main_v34, val_main_v33, val_main_v32, val_main_v31, val_main_v30,
    val_main_cst_6, val_main_cst_7, val_main_cst_8, tile]

theorem factorSlope_eq : factorSlope (F := Ideal) (tile t x0) (tile t x1) x3 x5 x4 (turned x6) = tile t (val_main_v40 (F := Ideal) x0 x1 x3 x4 x5 x6) := by
  refine ext2 512 1 fun i j => ?_
  unfold factorSlope k0_pay20 k0_pay19 k0_pay18
  rw [gate_eq, proj_eq, inner_eq']
  pointwise [val_main_v40, val_main_v39, val_main_v38, val_main_v37, val_main_v36, val_main_v35, val_main_v34, val_main_v33, val_main_v32, val_main_v31, val_main_v30,
    val_main_cst_6, val_main_cst_7, val_main_cst_8, val_main_cst_9, tile]

theorem normed_eq : normed (F := Ideal) (tile t x0) (tile t x1) x3 x5 x4 (turned x6) = tile t (val_main_v42 (F := Ideal) x0 x1 x3 x4 x5 x6) := by
  have h := factor_eq x0 x1 x3 x5 x4 x6 t
  unfold factor at h
  refine ext2 512 1024 fun i j => ?_
  unfold normed k0_pay21
  rw [h, gate_eq, proj_eq, inner_eq']
  pointwise [val_main_v42, val_main_v41, tile]

theorem err_eq : k0_pay22 (F := Ideal) (tile t x0) (tile t (val_main_v27 (F := Ideal) x1 x6)) (tile t x2) x7 (tile t (val_main_v23 (F := Ideal) x0 x3 x4 x5))
    = tile t (val_main_v45 (F := Ideal) x0 x1 x2 x3 x4 x5 x6 x7) := by
  have h := normed_eq x0 x1 x3 x5 x4 x6 t
  unfold normed at h
  rw [gate_eq, proj_eq] at h
  refine ext2 512 1024 fun i j => ?_
  unfold k0_pay22
  rw [h]
  pointwise [val_main_v45, val_main_v44, val_main_v43, tile]

/-! ## The gradients at the rows -/

/-- The two halves of the error's gradient. -/
theorem derr_eq : k0_pay27 (F := Ideal) (half0 (F := Ideal) (tile t x0) (tile t x1) (tile t x2) x3 x5 x7 x4 (turned x6))
      (half1 (F := Ideal) (tile t x0) (tile t x1) (tile t x2) x3 x5 x7 x4 (turned x6))
    = tile t (val_main_v59 (F := Ideal) x0 x1 x2 x3 x4 x5 x6 x7) := by
  refine ext2 512 1024 fun i j => ?_
  unfold half0 half1 k0_pay25 k0_pay26
  rw [gate_eq, proj_eq, err_eq]
  pointwise [k0_pay27, k0_pay24, val_main_v59, val_main_v58, val_main_v57, val_main_v56, val_main_v55, val_main_v54, val_main_v48, val_main_v47,
    val_main_cst_10, val_main_cst_15, val_main_cst_16, val_main_cst_17, tile]
  simp only [Fin.sum_univ_one]
  exact halves _ _

theorem dinner_eq : k0_pay29 (F := Ideal) x7 (inner (F := Ideal) (tile t x0) (tile t x1) x3 x5 x4 (turned x6)) (factor (F := Ideal) (tile t x0) (tile t x1) x3 x5 x4 (turned x6))
      (factorSlope (F := Ideal) (tile t x0) (tile t x1) x3 x5 x4 (turned x6)) (half0 (F := Ideal) (tile t x0) (tile t x1) (tile t x2) x3 x5 x7 x4 (turned x6))
      (half1 (F := Ideal) (tile t x0) (tile t x1) (tile t x2) x3 x5 x7 x4 (turned x6))
    = tile t (val_main_v78 (F := Ideal) x0 x1 x2 x3 x4 x5 x6 x7) := by
  refine ext2 512 1024 fun i j => ?_
  unfold k0_pay29
  rw [derr_eq, inner_eq, factor_eq, factorSlope_eq]
  pointwise [val_main_v78, val_main_v77, val_main_v76, val_main_v75, val_main_v74, val_main_v73, val_main_v72, val_main_v71, val_main_v70, val_main_v69, val_main_v68,
    val_main_v67, val_main_v66, val_main_v65, val_main_v64, val_main_v63, val_main_cst_19, val_main_cst_20, val_main_cst_21, tile]
  done

section Back

variable {a u v : Vec Ideal S512x1024 .f32} {b d : Vec Ideal S512x1 .f32}
  (hd : k0_pay29 (F := Ideal) x7 a b d u v = tile t (val_main_v78 (F := Ideal) x0 x1 x2 x3 x4 x5 x6 x7))
include hd

theorem dproj_eq : k0_pay30 (F := Ideal) x7 (tile t (val_main_v23 (F := Ideal) x0 x3 x4 x5)) a b d u v = tile t (val_main_v79 (F := Ideal) x0 x1 x2 x3 x4 x5 x6 x7) := by
  refine ext2 512 1024 fun i j => ?_
  unfold k0_pay30
  rw [hd]
  pointwise [val_main_v79, tile]

theorem dgate_eq : k0_pay31 (F := Ideal) (tile t (val_main_v27 (F := Ideal) x1 x6)) x7 (tile t (val_main_v26 (F := Ideal) x0 x3 x4 x5)) a b d u v
    = tile t (val_main_v83 (F := Ideal) x0 x1 x2 x3 x4 x5 x6 x7) := by
  refine ext2 512 1024 fun i j => ?_
  unfold k0_pay31
  rw [hd]
  pointwise [val_main_v83, val_main_v80, tile]

theorem dscaled_eq : k0_pay34 (F := Ideal) (tile t (val_main_v27 (F := Ideal) x1 x6)) x7 (tile t (val_main_v26 (F := Ideal) x0 x3 x4 x5)) a b d u v x4
    = tile t (val_main_v88 (F := Ideal) x0 x1 x2 x3 x4 x5 x6 x7) := by
  refine ext2 512 1024 fun i j => ?_
  unfold k0_pay34 k0_pay33
  rw [dgate_eq _ _ _ _ _ _ _ _ t hd]
  pointwise [val_main_v88, tile]
  done

theorem dnormed_eq : k0_pay36 (F := Ideal) x3 (tile t (val_main_v27 (F := Ideal) x1 x6)) x7 (tile t (val_main_v26 (F := Ideal) x0 x3 x4 x5)) a b d u v x4
    = tile t (val_main_v93 (F := Ideal) x0 x1 x2 x3 x4 x5 x6 x7) := by
  refine ext2 512 1024 fun i j => ?_
  unfold k0_pay36
  rw [dscaled_eq _ _ _ _ _ _ _ _ t hd]
  pointwise [val_main_v93, val_main_v92, tile]

theorem spread_eq : k0_pay37 (F := Ideal) (tile t x0) x3 (tile t (val_main_v10 (F := Ideal) x0)) (tile t (val_main_v27 (F := Ideal) x1 x6)) x7
      (tile t (val_main_v26 (F := Ideal) x0 x3 x4 x5)) a b d u v x4
    = tile t (val_main_v104 (F := Ideal) x0 x1 x2 x3 x4 x5 x6 x7) := by
  refine ext2 512 1024 fun i j => ?_
  unfold k0_pay37
  rw [dnormed_eq _ _ _ _ _ _ _ _ t hd]
  pointwise [val_main_v104, val_main_v103, val_main_v102, val_main_v101, val_main_v100, val_main_v96, val_main_v95, val_main_v94, val_main_cst_24, val_main_cst_25, val_main_cst_26, tile]
  done

end Back

/-! ## What the body leaves in the seven outputs -/

/-- The block of the input's gradient. -/
theorem outH_eq : outH (F := Ideal) (tile t x0) (tile t x1) (tile t x2) x3 x5 x7 x4 (turned x6) = tile t (val_main_v108 (F := Ideal) x0 x1 x2 x3 x4 x5 x6 x7) := by
  have hd := dinner_eq x0 x1 x2 x3 x5 x7 x4 x6 t
  refine ext2 512 1024 fun i j => ?_
  unfold outH k0_pay38 k0_pay39
  rw [hd, proj_eq, slope_eq, slope_h, factor_h, spread_eq _ _ _ _ _ _ _ _ t hd, dnormed_eq _ _ _ _ _ _ _ _ t hd]
  pointwise [k0_pay40, val_main_v108, val_main_v107, val_main_v106, val_main_v105, val_main_v99, val_main_v98, val_main_v97, tile]
  simp only [add_assoc]

/-- The loss of the block is added to what was there. -/
theorem outL_eq (acc : Vec Ideal S1x1 .f32) : outL (F := Ideal) (tile t x0) (tile t x1) (tile t x2) x3 x5 x7 x4 (turned x6) acc (ix2 0 0)
    = acc (ix2 0 0) + Ideal.ofBits .f32 0x3F000000#32 * ∑ r, val_main_v51 (F := Ideal) x0 x1 x2 x3 x4 x5 x6 x7 (ix1 (rowOf t r)) := by
  unfold outL k0_pay23
  rw [gate_eq, proj_eq, err_eq]
  pointwise [k0_pay41, val_main_v51, val_main_v50, val_main_v49, val_main_v46, val_main_cst_11, val_main_cst_12, tile]
  done

/-- The gate's weights: the products of the rows' normed inputs and gradients. -/
theorem outG_eq (acc : Vec Ideal S1024x1024 .f32) (i j : Fin 1024) : outG (F := Ideal) (tile t x0) (tile t x1) (tile t x2) x3 x5 x7 x4 (turned x6) acc (ix2 i j)
    = acc (ix2 i j) + ∑ r, val_main_v14 (F := Ideal) x0 x3 (ix2 (rowOf t r) i) * val_main_v83 (F := Ideal) x0 x1 x2 x3 x4 x5 x6 x7 (ix2 (rowOf t r) j) := by
  have hd := dinner_eq x0 x1 x2 x3 x5 x7 x4 x6 t
  unfold outG k0_pay33
  rw [scaled_h, proj_eq, slope_eq, dgate_eq _ _ _ _ _ _ _ _ t hd]
  pointwise [k0_pay42, tile]
  done

/-- The projection's weights: the products of the embedding and the gradient. -/
theorem outP_eq (acc : Vec Ideal S256x1024 .f32) (i : Fin 256) (j : Fin 1024) : outP (F := Ideal) (tile t x0) (tile t x1) (tile t x2) x3 x5 x7 x4 (turned x6) acc (ix2 i j)
    = acc (ix2 i j) + ∑ r, x1 (ix2 (rowOf t r) i) * val_main_v79 (F := Ideal) x0 x1 x2 x3 x4 x5 x6 x7 (ix2 (rowOf t r) j) := by
  have hd := dinner_eq x0 x1 x2 x3 x5 x7 x4 x6 t
  unfold outP
  rw [gate_eq, dproj_eq _ _ _ _ _ _ _ _ t hd]
  pointwise [k0_pay43, k0_pay13, tile]
  done

/-- The first norm's scale. -/
theorem outN_eq (acc : Vec Ideal S1x1024 .f32) (k : Fin 1024) : outN (F := Ideal) (tile t x0) (tile t x1) (tile t x2) x3 x5 x7 x4 (turned x6) acc (ix2 0 k)
    = acc (ix2 0 k) + ∑ r, val_main_v89 (F := Ideal) x0 x1 x2 x3 x4 x5 x6 x7 (ix2 (rowOf t r) k) := by
  have hd := dinner_eq x0 x1 x2 x3 x5 x7 x4 x6 t
  unfold outN k0_pay35
  rw [normed_h, proj_eq, slope_eq, dscaled_eq _ _ _ _ _ _ _ _ t hd]
  pointwise [k0_pay44, val_main_v89, tile]
  done

/-- The gate's bias. -/
theorem outB_eq (acc : Vec Ideal S1x1024 .f32) (k : Fin 1024) : outB (F := Ideal) (tile t x0) (tile t x1) (tile t x2) x3 x5 x7 x4 (turned x6) acc (ix2 0 k)
    = acc (ix2 0 k) + ∑ r, val_main_v83 (F := Ideal) x0 x1 x2 x3 x4 x5 x6 x7 (ix2 (rowOf t r) k) := by
  have hd := dinner_eq x0 x1 x2 x3 x5 x7 x4 x6 t
  unfold outB k0_pay32
  rw [proj_eq, slope_eq, dgate_eq _ _ _ _ _ _ _ _ t hd]
  pointwise [k0_pay45, tile]
  done

/-- The last norm's scale. -/
theorem outF_eq (acc : Vec Ideal S1x1024 .f32) (k : Fin 1024) : outF (F := Ideal) (tile t x0) (tile t x1) (tile t x2) x3 x5 x7 x4 (turned x6) acc (ix2 0 k)
    = acc (ix2 0 k) + ∑ r, val_main_v60 (F := Ideal) x0 x1 x2 x3 x4 x5 x6 x7 (ix2 (rowOf t r) k) := by
  unfold outF k0_pay28
  rw [derr_eq, normed_eq]
  pointwise [k0_pay1, k0_pay46, val_main_v60, tile]
  done

end Cert.Tail
end
-- ==== Proof.TailHost.lean ====
/-
  What the host operations before the tail kernel leave in the arrays its copies read.
-/
module

public import proofs.«01_k».proof.Proof.TailFrame
public import proofs.«01_k».proof.Proof.TailPoint
public import Idealize.ShloMosaic.Lib.StableHlo.RunRead

@[expose] public section

set_option maxRecDepth 16384

namespace Cert.Tail

open Cert.Kernel4Ideal Cert.Kernel4Ideal.Gen
open Idealize.ShloMosaic Idealize.ShloMosaic.TcCoe
open Cert.Gm (ext2)

variable (m : (ℓ : Loc nD τ sig) → Buf (Elt Ideal) ℓ) (c : Dev nD)

/-- Two matrices, each cut in eight blocks of rows, block beside block. -/
def packed (A : Vec Ideal S2048x1024 .bf16) (B : Vec Ideal S1024x1024 .bf16) : Vec Ideal S8x384x1024 .bf16 :=
  concatenate S8x384x1024 1 [⟨S8x256x1024, shapeCast S8x256x1024 A shapeCasts_S2048x1024_S8x256x1024⟩, ⟨S8x128x1024, shapeCast S8x128x1024 B shapeCasts_S1024x1024_S8x128x1024⟩]
    concatenates_S8x256x1024_S8x128x1024_S8x384x1024_d1

theorem V_packed : V m c main_v4 = packed (m (c, main_arg8)) (m (c, main_arg4)) := by
  unfold V
  after_reads_simp
  rfl

theorem stacked_packed (A : Vec Ideal S2048x1024 .bf16) (B : Vec Ideal S1024x1024 .bf16) : stacked (packed A B) = B := by
  refine ext2 1024 1024 fun a b => ?_
  unfold stacked packed
  pointwise

theorem gateW_eq : gateW m c = m (c, main_arg4) := by unfold gateW; rw [V_packed]; exact stacked_packed _ _

theorem projW_eq : projW m c = turned (m (c, main_arg6)) := by
  unfold projW V
  after_reads_simp
  refine ext2 1024 256 fun a b => ?_
  pointwise [turned]

end Cert.Tail
end
-- ==== Proof.TailValue.lean ====
/-
  The seven results of the tail kernel as whole arrays, in the reference's terms.
-/
module

public import proofs.«01_k».proof.Proof.TailHost
public import Idealize.ShloMosaic.Lib.Pipeline.ValueKit
public import Idealize.ShloMosaic.Lib.Pointwise

@[expose] public section

set_option maxRecDepth 16384

namespace Cert.Tail

open Cert.Kernel4Ideal Cert.Kernel4Ideal.Gen
open Cert.Reference4Ideal.Read Cert.Reals
open Idealize.ShloMosaic Idealize.ShloMosaic.TcCoe
open Cert.Gm (ext2)

variable (m : (ℓ : Loc nD τ sig) → Buf (Elt Ideal) ℓ) (c : Dev nD)

/-- A grid point as the number of its tile of rows. -/
def pt (t : Fin cfg0.N) : Fin 16 := ⟨t.val, Nat.lt_of_lt_of_eq t.isLt N_0⟩

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val, 0] := (by decide +kernel : ∀ t : Fin grid0.N, _)

theorem small (t : Fin cfg0.N) : t.val < 16 := Nat.lt_of_lt_of_eq t.isLt N_0

/-! ## What the windows hand the body -/

theorem block_h (t : Fin cfg0.N) : iblk m c 0 t = tile (pt t) (m (c, main_arg0)) := by
  funext y
  blk_simp [iblk, at0]
  rw [V_main_arg0]
  unfold tile
  blk_ext [at0, rowOf, pt]

theorem block_p (t : Fin cfg0.N) : iblk m c 1 t = tile (pt t) (m (c, main_arg1)) := by
  funext y
  blk_simp [iblk, at1]
  rw [V_main_arg1]
  unfold tile
  blk_ext [at1, rowOf, pt]

theorem block_target (t : Fin cfg0.N) : iblk m c 2 t = tile (pt t) (m (c, main_arg2)) := by
  funext y
  blk_simp [iblk, at2]
  rw [V_main_arg2]
  unfold tile
  blk_ext [at2, rowOf, pt]

theorem block_norm (t : Fin cfg0.N) : iblk m c 3 t = m (c, main_arg3) := by
  funext y
  blk_simp [iblk, at3]
  rw [V_main_arg3]
  congr 1
  blk_ext [at3]

theorem block_bias (t : Fin cfg0.N) : iblk m c 4 t = m (c, main_arg5) := by
  funext y
  blk_simp [iblk, at4]
  rw [V_main_arg5]
  congr 1
  blk_ext [at4]

theorem block_last (t : Fin cfg0.N) : iblk m c 5 t = m (c, main_arg7) := by
  funext y
  blk_simp [iblk, at5]
  rw [V_main_arg7]
  congr 1
  blk_ext [at5]

/-- The gradient at the input. -/
theorem array_h : (dats m 0 c).arrAt 6 cfg0.N = val_main_v108 (F := Ideal) (m (c, main_arg0)) (m (c, main_arg1)) (m (c, main_arg2)) (m (c, main_arg3)) (m (c, main_arg4)) (m (c, main_arg5)) (m (c, main_arg6)) (m (c, main_arg7)) := by
  refine (dats m 0 c).arrAt_eq_of_covers 6 _ (by decide +kernel) fun t hf y => ?_
  blk_simp
  rw [after_6, block_h, block_p, block_target, block_norm, block_bias, block_last, gateW_eq, projW_eq, outH_eq]
  unfold tile
  blk_ext [at6, rowOf, pt]

/-! ## The running sums -/

/-- A running sum which starts at zero ends as the sum over all points of what each adds. -/
theorem total {ι : Type} (g : Fin cfg0.N → (ι → EReal) → ι → EReal) (z : ι → EReal) (share : Fin 16 → ι → EReal) (hz : ∀ i, z i = 0)
    (hg : ∀ t acc i, g t acc i = acc i + share (pt t) i) (t : Fin cfg0.N) (ht : t.val + 1 = cfg0.N) (i : ι) :
    sumTo g z t.val t.isLt i = ∑ s : Fin 16, share s i := by
  have h := Pipeline.eq_sum_fin_of_reset_step_apply_last (fun n hn i => sumTo g z n hn i) 16 (fun _ => 0) (fun t => share (pt t))
    (fun t h i => (congrFun (sumTo_first g z t (by have := small t; omega)) i).trans ((hg t z i).trans (congrArg (· + share (pt t) i) (hz i))))
    (fun t h i => (congrFun (sumTo_next g z t (by have := small t; omega)) i).trans (hg t _ i)) (Nat.le_of_eq N_0) t ht i
  refine h.trans ((zero_add _).trans ?_)
  exact Fintype.sum_equiv (finCongr N_0) _ _ fun t => rfl

/-- A sum over the tiles and the rows of each is the sum over all rows. -/
theorem all_rows (f : Fin 8192 → EReal) : ∑ s : Fin 16, ∑ r : Fin 512, f (rowOf s r) = ∑ i, f i :=
  Fin.sum_mul_add_congr (S := 16) (n := 512) (fun s r hl => congrArg f (by blk_ext [rowOf]))

/-- A row vector is known by its entries. -/
theorem row_ix (y : S1x1024.Idx) : ∃ k : Fin 1024, y = ix2 0 k :=
  ⟨y 1, (eq_ix2 y).trans (congrArg (fun a => ix2 a (y 1)) (Subsingleton.elim (α := Fin 1) (y 0) 0))⟩

/-- The loss is the sum of the tiles' halves. -/
theorem half_sum {n : ℕ} (f : Fin n → EReal) : ∑ s, Ideal.ofBits .f32 0x3F000000#32 * f s = Ideal.ofBits .f32 0x3F000000#32 * ∑ s, f s := by
  obtain ⟨h, e, hp⟩ : ∃ h : ℝ, Ideal.ofBits .f32 0x3F000000#32 = (h : EReal) ∧ 0 ≤ h :=
    ⟨1 / 2, by simp [Ideal.ofBits, Ideal.ieee]; norm_num [← EReal.coe_mul], by norm_num⟩
  rw [e]
  induction n with
  | zero => simp
  | succ n ih =>
    rw [Fin.sum_univ_succ, Fin.sum_univ_succ, ih, EReal.left_distrib_of_nonneg_of_ne_top (EReal.coe_nonneg.mpr hp) (EReal.coe_ne_top _)]

theorem last_pn (t : Fin cfg0.N) (ht : t.val + 1 = cfg0.N) (y : S1x1024.Idx) :
    (dats m 0 c).after 10 t y = val_main_v91 (F := Ideal) (m (c, main_arg0)) (m (c, main_arg1)) (m (c, main_arg2)) (m (c, main_arg3)) (m (c, main_arg4)) (m (c, main_arg5)) (m (c, main_arg6)) (m (c, main_arg7)) y := by
  refine (congrFun (after_10 m c t) _).trans ?_
  refine (total _ _ (fun s y => ∑ r, val_main_v89 (F := Ideal) (m (c, main_arg0)) (m (c, main_arg1)) (m (c, main_arg2)) (m (c, main_arg3)) (m (c, main_arg4)) (m (c, main_arg5)) (m (c, main_arg6)) (m (c, main_arg7)) (ix2 (rowOf s r) (y 1)))
    (fun y => ?_) (fun t acc y => ?_) t ht y).trans ?_
  · obtain ⟨k, rfl⟩ := row_ix y
    pointwise [k0_pay5]
  · obtain ⟨k, rfl⟩ := row_ix y
    rw [block_h, block_p, block_target, block_norm, block_bias, block_last, gateW_eq, projW_eq]
    exact outN_eq _ _ _ _ _ _ _ _ (pt t) acc k
  · obtain ⟨k, rfl⟩ := row_ix y
    refine (all_rows fun i => val_main_v89 (F := Ideal) (m (c, main_arg0)) (m (c, main_arg1)) (m (c, main_arg2)) (m (c, main_arg3)) (m (c, main_arg4)) (m (c, main_arg5)) (m (c, main_arg6)) (m (c, main_arg7)) (ix2 i k)).trans ?_
    symm
    pointwise [val_main_v91, val_main_v90, val_main_cst_23]

/-- The gradient of the first norm's scale. -/
theorem array_pn : (dats m 0 c).arrAt 10 cfg0.N = val_main_v91 (F := Ideal) (m (c, main_arg0)) (m (c, main_arg1)) (m (c, main_arg2)) (m (c, main_arg3)) (m (c, main_arg4)) (m (c, main_arg5)) (m (c, main_arg6)) (m (c, main_arg7)) := by
  refine (dats m 0 c).arrAt_eq_of_after_last 10 ⟨15, by rw [show cfg0.N = 16 from N_0]; decide⟩ (by decide +kernel) _ fun j => ?_
  refine (cast_eq _ _).trans ((last_pn m c ⟨15, by rw [show cfg0.N = 16 from N_0]; decide⟩ N_0.symm _).trans (congrArg (val_main_v91 (F := Ideal) (m (c, main_arg0)) (m (c, main_arg1)) (m (c, main_arg2)) (m (c, main_arg3)) (m (c, main_arg4)) (m (c, main_arg5)) (m (c, main_arg6)) (m (c, main_arg7))) ?_))
  blk_ext []

theorem last_bg (t : Fin cfg0.N) (ht : t.val + 1 = cfg0.N) (y : S1x1024.Idx) :
    (dats m 0 c).after 11 t y = val_main_v85 (F := Ideal) (m (c, main_arg0)) (m (c, main_arg1)) (m (c, main_arg2)) (m (c, main_arg3)) (m (c, main_arg4)) (m (c, main_arg5)) (m (c, main_arg6)) (m (c, main_arg7)) y := by
  refine (congrFun (after_11 m c t) _).trans ?_
  refine (total _ _ (fun s y => ∑ r, val_main_v83 (F := Ideal) (m (c, main_arg0)) (m (c, main_arg1)) (m (c, main_arg2)) (m (c, main_arg3)) (m (c, main_arg4)) (m (c, main_arg5)) (m (c, main_arg6)) (m (c, main_arg7)) (ix2 (rowOf s r) (y 1)))
    (fun y => ?_) (fun t acc y => ?_) t ht y).trans ?_
  · obtain ⟨k, rfl⟩ := row_ix y
    pointwise [k0_pay6]
  · obtain ⟨k, rfl⟩ := row_ix y
    rw [block_h, block_p, block_target, block_norm, block_bias, block_last, gateW_eq, projW_eq]
    exact outB_eq _ _ _ _ _ _ _ _ (pt t) acc k
  · obtain ⟨k, rfl⟩ := row_ix y
    refine (all_rows fun i => val_main_v83 (F := Ideal) (m (c, main_arg0)) (m (c, main_arg1)) (m (c, main_arg2)) (m (c, main_arg3)) (m (c, main_arg4)) (m (c, main_arg5)) (m (c, main_arg6)) (m (c, main_arg7)) (ix2 i k)).trans ?_
    symm
    pointwise [val_main_v85, val_main_v84, val_main_cst_22]

/-- The gradient of the gate's bias. -/
theorem array_bg : (dats m 0 c).arrAt 11 cfg0.N = val_main_v85 (F := Ideal) (m (c, main_arg0)) (m (c, main_arg1)) (m (c, main_arg2)) (m (c, main_arg3)) (m (c, main_arg4)) (m (c, main_arg5)) (m (c, main_arg6)) (m (c, main_arg7)) := by
  refine (dats m 0 c).arrAt_eq_of_after_last 11 ⟨15, by rw [show cfg0.N = 16 from N_0]; decide⟩ (by decide +kernel) _ fun j => ?_
  refine (cast_eq _ _).trans ((last_bg m c ⟨15, by rw [show cfg0.N = 16 from N_0]; decide⟩ N_0.symm _).trans (congrArg (val_main_v85 (F := Ideal) (m (c, main_arg0)) (m (c, main_arg1)) (m (c, main_arg2)) (m (c, main_arg3)) (m (c, main_arg4)) (m (c, main_arg5)) (m (c, main_arg6)) (m (c, main_arg7))) ?_))
  blk_ext []

theorem last_fn (t : Fin cfg0.N) (ht : t.val + 1 = cfg0.N) (y : S1x1024.Idx) :
    (dats m 0 c).after 12 t y = val_main_v62 (F := Ideal) (m (c, main_arg0)) (m (c, main_arg1)) (m (c, main_arg2)) (m (c, main_arg3)) (m (c, main_arg4)) (m (c, main_arg5)) (m (c, main_arg6)) (m (c, main_arg7)) y := by
  refine (congrFun (after_12 m c t) _).trans ?_
  refine (total _ _ (fun s y => ∑ r, val_main_v60 (F := Ideal) (m (c, main_arg0)) (m (c, main_arg1)) (m (c, main_arg2)) (m (c, main_arg3)) (m (c, main_arg4)) (m (c, main_arg5)) (m (c, main_arg6)) (m (c, main_arg7)) (ix2 (rowOf s r) (y 1)))
    (fun y => ?_) (fun t acc y => ?_) t ht y).trans ?_
  · obtain ⟨k, rfl⟩ := row_ix y
    pointwise [k0_pay7]
  · obtain ⟨k, rfl⟩ := row_ix y
    rw [block_h, block_p, block_target, block_norm, block_bias, block_last, gateW_eq, projW_eq]
    exact outF_eq _ _ _ _ _ _ _ _ (pt t) acc k
  · obtain ⟨k, rfl⟩ := row_ix y
    refine (all_rows fun i => val_main_v60 (F := Ideal) (m (c, main_arg0)) (m (c, main_arg1)) (m (c, main_arg2)) (m (c, main_arg3)) (m (c, main_arg4)) (m (c, main_arg5)) (m (c, main_arg6)) (m (c, main_arg7)) (ix2 i k)).trans ?_
    symm
    pointwise [val_main_v62, val_main_v61, val_main_cst_18]

/-- The gradient of the last norm's scale. -/
theorem array_fn : (dats m 0 c).arrAt 12 cfg0.N = val_main_v62 (F := Ideal) (m (c, main_arg0)) (m (c, main_arg1)) (m (c, main_arg2)) (m (c, main_arg3)) (m (c, main_arg4)) (m (c, main_arg5)) (m (c, main_arg6)) (m (c, main_arg7)) := by
  refine (dats m 0 c).arrAt_eq_of_after_last 12 ⟨15, by rw [show cfg0.N = 16 from N_0]; decide⟩ (by decide +kernel) _ fun j => ?_
  refine (cast_eq _ _).trans ((last_fn m c ⟨15, by rw [show cfg0.N = 16 from N_0]; decide⟩ N_0.symm _).trans (congrArg (val_main_v62 (F := Ideal) (m (c, main_arg0)) (m (c, main_arg1)) (m (c, main_arg2)) (m (c, main_arg3)) (m (c, main_arg4)) (m (c, main_arg5)) (m (c, main_arg6)) (m (c, main_arg7))) ?_))
  blk_ext []

theorem last_wg (t : Fin cfg0.N) (ht : t.val + 1 = cfg0.N) (y : S1024x1024.Idx) :
    (dats m 0 c).after 8 t y = val_main_v87 (F := Ideal) (m (c, main_arg0)) (m (c, main_arg1)) (m (c, main_arg2)) (m (c, main_arg3)) (m (c, main_arg4)) (m (c, main_arg5)) (m (c, main_arg6)) (m (c, main_arg7)) y := by
  refine (congrFun (after_8 m c t) _).trans ?_
  refine (total _ _ (fun s y => ∑ r, val_main_v14 (F := Ideal) (m (c, main_arg0)) (m (c, main_arg3)) (ix2 (rowOf s r) (y 0)) * val_main_v83 (F := Ideal) (m (c, main_arg0)) (m (c, main_arg1)) (m (c, main_arg2)) (m (c, main_arg3)) (m (c, main_arg4)) (m (c, main_arg5)) (m (c, main_arg6)) (m (c, main_arg7)) (ix2 (rowOf s r) (y 1)))
    (fun y => ?_) (fun t acc y => ?_) t ht y).trans ?_
  · obtain ⟨i, j, rfl⟩ : ∃ (i : Fin 1024) (j : Fin 1024), y = ix2 i j := ⟨y 0, y 1, eq_ix2 y⟩
    pointwise [k0_pay3]
  · obtain ⟨i, j, rfl⟩ : ∃ (i : Fin 1024) (j : Fin 1024), y = ix2 i j := ⟨y 0, y 1, eq_ix2 y⟩
    rw [block_h, block_p, block_target, block_norm, block_bias, block_last, gateW_eq, projW_eq]
    exact outG_eq _ _ _ _ _ _ _ _ (pt t) acc i j
  · obtain ⟨i, j, rfl⟩ : ∃ (i : Fin 1024) (j : Fin 1024), y = ix2 i j := ⟨y 0, y 1, eq_ix2 y⟩
    refine (all_rows fun r => val_main_v14 (F := Ideal) (m (c, main_arg0)) (m (c, main_arg3)) (ix2 r i) * val_main_v83 (F := Ideal) (m (c, main_arg0)) (m (c, main_arg1)) (m (c, main_arg2)) (m (c, main_arg3)) (m (c, main_arg4)) (m (c, main_arg5)) (m (c, main_arg6)) (m (c, main_arg7)) (ix2 r j)).trans ?_
    symm
    pointwise [val_main_v87, val_main_v86]
    exact Finset.sum_congr rfl fun r _ => mul_comm _ _

/-- The gradient of the gate's weights. -/
theorem array_wg : (dats m 0 c).arrAt 8 cfg0.N = val_main_v87 (F := Ideal) (m (c, main_arg0)) (m (c, main_arg1)) (m (c, main_arg2)) (m (c, main_arg3)) (m (c, main_arg4)) (m (c, main_arg5)) (m (c, main_arg6)) (m (c, main_arg7)) := by
  refine (dats m 0 c).arrAt_eq_of_after_last 8 ⟨15, by rw [show cfg0.N = 16 from N_0]; decide⟩ (by decide +kernel) _ fun j => ?_
  refine (cast_eq _ _).trans ((last_wg m c ⟨15, by rw [show cfg0.N = 16 from N_0]; decide⟩ N_0.symm _).trans (congrArg (val_main_v87 (F := Ideal) (m (c, main_arg0)) (m (c, main_arg1)) (m (c, main_arg2)) (m (c, main_arg3)) (m (c, main_arg4)) (m (c, main_arg5)) (m (c, main_arg6)) (m (c, main_arg7))) ?_))
  blk_ext []

theorem last_wp (t : Fin cfg0.N) (ht : t.val + 1 = cfg0.N) (y : S256x1024.Idx) :
    (dats m 0 c).after 9 t y = val_main_v82 (F := Ideal) (m (c, main_arg0)) (m (c, main_arg1)) (m (c, main_arg2)) (m (c, main_arg3)) (m (c, main_arg4)) (m (c, main_arg5)) (m (c, main_arg6)) (m (c, main_arg7)) y := by
  refine (congrFun (after_9 m c t) _).trans ?_
  refine (total _ _ (fun s y => ∑ r, (show EReal from m (c, main_arg1) (ix2 (rowOf s r) (y 0))) * val_main_v79 (F := Ideal) (m (c, main_arg0)) (m (c, main_arg1)) (m (c, main_arg2)) (m (c, main_arg3)) (m (c, main_arg4)) (m (c, main_arg5)) (m (c, main_arg6)) (m (c, main_arg7)) (ix2 (rowOf s r) (y 1)))
    (fun y => ?_) (fun t acc y => ?_) t ht y).trans ?_
  · obtain ⟨i, j, rfl⟩ : ∃ (i : Fin 256) (j : Fin 1024), y = ix2 i j := ⟨y 0, y 1, eq_ix2 y⟩
    pointwise [k0_pay4]
  · obtain ⟨i, j, rfl⟩ : ∃ (i : Fin 256) (j : Fin 1024), y = ix2 i j := ⟨y 0, y 1, eq_ix2 y⟩
    rw [block_h, block_p, block_target, block_norm, block_bias, block_last, gateW_eq, projW_eq]
    exact outP_eq _ _ _ _ _ _ _ _ (pt t) acc i j
  · obtain ⟨i, j, rfl⟩ : ∃ (i : Fin 256) (j : Fin 1024), y = ix2 i j := ⟨y 0, y 1, eq_ix2 y⟩
    refine (all_rows fun r => (show EReal from m (c, main_arg1) (ix2 r i)) * val_main_v79 (F := Ideal) (m (c, main_arg0)) (m (c, main_arg1)) (m (c, main_arg2)) (m (c, main_arg3)) (m (c, main_arg4)) (m (c, main_arg5)) (m (c, main_arg6)) (m (c, main_arg7)) (ix2 r j)).trans ?_
    symm
    pointwise [val_main_v82, val_main_v81]
    exact Finset.sum_congr rfl fun r _ => mul_comm _ _

/-- The gradient of the projection's weights. -/
theorem array_wp : (dats m 0 c).arrAt 9 cfg0.N = val_main_v82 (F := Ideal) (m (c, main_arg0)) (m (c, main_arg1)) (m (c, main_arg2)) (m (c, main_arg3)) (m (c, main_arg4)) (m (c, main_arg5)) (m (c, main_arg6)) (m (c, main_arg7)) := by
  refine (dats m 0 c).arrAt_eq_of_after_last 9 ⟨15, by rw [show cfg0.N = 16 from N_0]; decide⟩ (by decide +kernel) _ fun j => ?_
  refine (cast_eq _ _).trans ((last_wp m c ⟨15, by rw [show cfg0.N = 16 from N_0]; decide⟩ N_0.symm _).trans (congrArg (val_main_v82 (F := Ideal) (m (c, main_arg0)) (m (c, main_arg1)) (m (c, main_arg2)) (m (c, main_arg3)) (m (c, main_arg4)) (m (c, main_arg5)) (m (c, main_arg6)) (m (c, main_arg7))) ?_))
  blk_ext []

theorem last_loss (t : Fin cfg0.N) (ht : t.val + 1 = cfg0.N) (y : S1x1.Idx) :
    (dats m 0 c).after 7 t y = val_main_v109 (F := Ideal) (m (c, main_arg0)) (m (c, main_arg1)) (m (c, main_arg2)) (m (c, main_arg3)) (m (c, main_arg4)) (m (c, main_arg5)) (m (c, main_arg6)) (m (c, main_arg7)) y := by
  have one : ∀ y : S1x1.Idx, y = ix2 0 0 := fun y => (eq_ix2 y).trans (by rw [Subsingleton.elim (α := Fin 1) (y 0) 0, Subsingleton.elim (α := Fin 1) (y 1) 0])
  refine (congrFun (after_7 m c t) _).trans ?_
  refine (total _ _ (fun s _ => Ideal.ofBits .f32 0x3F000000#32 * ∑ r, val_main_v51 (F := Ideal) (m (c, main_arg0)) (m (c, main_arg1)) (m (c, main_arg2)) (m (c, main_arg3)) (m (c, main_arg4)) (m (c, main_arg5)) (m (c, main_arg6)) (m (c, main_arg7)) (ix1 (rowOf s r)))
    (fun y => ?_) (fun t acc y => ?_) t ht y).trans ?_
  · obtain rfl := one y
    pointwise [k0_pay2]
  · obtain rfl := one y
    rw [block_h, block_p, block_target, block_norm, block_bias, block_last, gateW_eq, projW_eq]
    exact outL_eq _ _ _ _ _ _ _ _ (pt t) acc
  · obtain rfl := one y
    rw [half_sum]
    refine (congrArg _ (all_rows fun i => val_main_v51 (F := Ideal) (m (c, main_arg0)) (m (c, main_arg1)) (m (c, main_arg2)) (m (c, main_arg3)) (m (c, main_arg4)) (m (c, main_arg5)) (m (c, main_arg6)) (m (c, main_arg7)) (ix1 i))).trans ?_
    symm
    pointwise [val_main_v109, val_main_v53, val_main_v52, val_main_cst_13, val_main_cst_14]

/-- The loss. -/
theorem array_loss : (dats m 0 c).arrAt 7 cfg0.N = val_main_v109 (F := Ideal) (m (c, main_arg0)) (m (c, main_arg1)) (m (c, main_arg2)) (m (c, main_arg3)) (m (c, main_arg4)) (m (c, main_arg5)) (m (c, main_arg6)) (m (c, main_arg7)) := by
  refine (dats m 0 c).arrAt_eq_of_after_last 7 ⟨15, by rw [show cfg0.N = 16 from N_0]; decide⟩ (by decide +kernel) _ fun j => ?_
  refine (cast_eq _ _).trans ((last_loss m c ⟨15, by rw [show cfg0.N = 16 from N_0]; decide⟩ N_0.symm _).trans (congrArg (val_main_v109 (F := Ideal) (m (c, main_arg0)) (m (c, main_arg1)) (m (c, main_arg2)) (m (c, main_arg3)) (m (c, main_arg4)) (m (c, main_arg5)) (m (c, main_arg6)) (m (c, main_arg7))) ?_))
  blk_ext []

end Cert.Tail
end
-- ==== Proof.TailClaim.lean ====
/-
  The claims about the tail kernel: its frames, its reference's frame, and that the loss and the six gradients it leaves
  are the reference's, with no condition on the arguments.
-/
module

public import proofs.«01_k».proof.Defs
public import proofs.«01_k».proof.Proof.Gen.Reference4Ideal.Run
public import proofs.«01_k».proof.Proof.Gen.Kernel4
public import proofs.«01_k».proof.Proof.TailValue
public import Idealize.ShloMosaic.Lib.Claim

@[expose] public section

namespace Cert.Tail

open Idealize.ShloMosaic Idealize.ShloMosaic.TcCoe
open Idealize.SL Idealize.SL.Sem
open Cert.Reference4Ideal.Read

set_option maxHeartbeats 1600000 in
/-- The printed kernel and the one printed for reading over the extended reals are the same text, label by label. -/
theorem defs₀_same {F : FTy → Type} [FloatOps F] : Cert.Kernel4.defs₀ (F := F) = Cert.Kernel4Ideal.defs₀ (F := F) :=
  congrArg Defs.onTc (funext fun l => funext fun a => by
    match l, a with
    | 0, (t, s) => rfl
    | ⟨_ + 1, h⟩, _ => exact absurd h (Nat.not_lt.2 (Nat.le_add_left _ _)))

set_option maxHeartbeats 1600000 in
theorem defs_same {F : FTy → Type} [FloatOps F] : Cert.Kernel4.defs (F := F) = Cert.Kernel4Ideal.defs (F := F) :=
  congrArg (Pipeline.defs (Cert.Kernel4Ideal.pcfgs (F := F))) defs₀_same

set_option maxHeartbeats 1600000 in
theorem quiescent_kernel : Cert.quiescent_Kernel4 (hKernel4 := Cert.Kernel4.Gen.facts) := fun m ρ _ => by
  have h := frame_ideal (F := Bits) m ρ
  rw [← defs_same] at h
  exact h

theorem quiescent_ideal : Cert.quiescent_Kernel4Ideal (hKernel4Ideal := Cert.Kernel4Ideal.Gen.facts) := fun m ρ _ => frame_ideal m ρ

theorem quiescent_reference : Cert.quiescent_Reference4Ideal (hReference4Ideal := Cert.Reference4Ideal.Gen.facts) :=
  fun m ρ _ => (θ_run Cert.Reference4Ideal.defs _ _).mono
    (fun r h => ⟨fun c => (h c).2.2.2.2.2.2.2, sem_eq_zero_of_no_sems (by decide) r.2⟩)
    (Cert.Reference4Ideal.Value.run m ρ)

section Kernel

open Cert.Kernel4Ideal Cert.Kernel4Ideal.Gen

variable (m : (ℓ : Loc nD τ sig) → Buf (Elt Ideal) ℓ) (ρ : Dev nD → PrngReg)

/-- The kernel's run: its seven results in the reference's terms, its arguments unchanged. -/
theorem run_kernel : θ_run defs (onTc (τ := τ) (main (F := Ideal))) ⟨m, fun _ => 0, ρ⟩ (fun r => ∀ c : Dev nD,
      r.2.mem ((c.tc : Thread nD τ).loc main_v7_0) = val_main_v108 (F := Ideal) (m (c, main_arg0)) (m (c, main_arg1)) (m (c, main_arg2)) (m (c, main_arg3)) (m (c, main_arg4)) (m (c, main_arg5)) (m (c, main_arg6)) (m (c, main_arg7))
      ∧ r.2.mem ((c.tc : Thread nD τ).loc main_v7_1) = val_main_v109 (F := Ideal) (m (c, main_arg0)) (m (c, main_arg1)) (m (c, main_arg2)) (m (c, main_arg3)) (m (c, main_arg4)) (m (c, main_arg5)) (m (c, main_arg6)) (m (c, main_arg7))
      ∧ r.2.mem ((c.tc : Thread nD τ).loc main_v7_2) = val_main_v87 (F := Ideal) (m (c, main_arg0)) (m (c, main_arg1)) (m (c, main_arg2)) (m (c, main_arg3)) (m (c, main_arg4)) (m (c, main_arg5)) (m (c, main_arg6)) (m (c, main_arg7))
      ∧ r.2.mem ((c.tc : Thread nD τ).loc main_v7_3) = val_main_v82 (F := Ideal) (m (c, main_arg0)) (m (c, main_arg1)) (m (c, main_arg2)) (m (c, main_arg3)) (m (c, main_arg4)) (m (c, main_arg5)) (m (c, main_arg6)) (m (c, main_arg7))
      ∧ r.2.mem ((c.tc : Thread nD τ).loc main_v7_4) = val_main_v91 (F := Ideal) (m (c, main_arg0)) (m (c, main_arg1)) (m (c, main_arg2)) (m (c, main_arg3)) (m (c, main_arg4)) (m (c, main_arg5)) (m (c, main_arg6)) (m (c, main_arg7))
      ∧ r.2.mem ((c.tc : Thread nD τ).loc main_v7_5) = val_main_v85 (F := Ideal) (m (c, main_arg0)) (m (c, main_arg1)) (m (c, main_arg2)) (m (c, main_arg3)) (m (c, main_arg4)) (m (c, main_arg5)) (m (c, main_arg6)) (m (c, main_arg7))
      ∧ r.2.mem ((c.tc : Thread nD τ).loc main_v7_6) = val_main_v62 (F := Ideal) (m (c, main_arg0)) (m (c, main_arg1)) (m (c, main_arg2)) (m (c, main_arg3)) (m (c, main_arg4)) (m (c, main_arg5)) (m (c, main_arg6)) (m (c, main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run _ _ _).mono (fun r h c =>
    ⟨(h.1.1.out_eq c 6).trans (array_h m c), (h.1.1.out_eq c 7).trans (array_loss m c), (h.1.1.out_eq c 8).trans (array_wg m c), (h.1.1.out_eq c 9).trans (array_wp m c), (h.1.1.out_eq c 10).trans (array_pn m c), (h.1.1.out_eq c 11).trans (array_bg m c), (h.1.1.out_eq c 12).trans (array_fn m c), h.2.1 c⟩)
    (θ_run_and (run m ρ) (frame_ideal m ρ))

end Kernel

theorem algebraic : Cert.algebraic_Kernel4Ideal_Reference4Ideal (hKernel4Ideal := Cert.Kernel4Ideal.Gen.facts)
    (hReference4Ideal := Cert.Reference4Ideal.Gen.facts) := by
  intro m g m' g' _ hargs
  refine ⟨_, _, _, _, _, _, _, run_kernel m g, (θ_run Cert.Reference4Ideal.defs _ _).mono (fun r h c => ?_) (Cert.Reference4Ideal.Value.run m' g')⟩
  obtain ⟨r0, r1, r2, r3, r4, r5, r6, rest⟩ := h c
  obtain ⟨a0, a1, a2, a3, a4, a5, a6, a7, a8⟩ := hargs c
  have e0 : StableHlo.launchContents m' c (Proc.devRef .tc Cert.Reference4Ideal.main_arg0) = m (c, Cert.Kernel4Ideal.main_arg0) := a0
  have e1 : StableHlo.launchContents m' c (Proc.devRef .tc Cert.Reference4Ideal.main_arg1) = m (c, Cert.Kernel4Ideal.main_arg1) := a1
  have e2 : StableHlo.launchContents m' c (Proc.devRef .tc Cert.Reference4Ideal.main_arg2) = m (c, Cert.Kernel4Ideal.main_arg2) := a2
  have e3 : StableHlo.launchContents m' c (Proc.devRef .tc Cert.Reference4Ideal.main_arg3) = m (c, Cert.Kernel4Ideal.main_arg3) := a3
  have e4 : StableHlo.launchContents m' c (Proc.devRef .tc Cert.Reference4Ideal.main_arg4) = m (c, Cert.Kernel4Ideal.main_arg4) := a4
  have e5 : StableHlo.launchContents m' c (Proc.devRef .tc Cert.Reference4Ideal.main_arg5) = m (c, Cert.Kernel4Ideal.main_arg5) := a5
  have e6 : StableHlo.launchContents m' c (Proc.devRef .tc Cert.Reference4Ideal.main_arg6) = m (c, Cert.Kernel4Ideal.main_arg6) := a6
  have e7 : StableHlo.launchContents m' c (Proc.devRef .tc Cert.Reference4Ideal.main_arg7) = m (c, Cert.Kernel4Ideal.main_arg7) := a7
  refine ⟨r0.trans ((val_main_v108_eq (StableHlo.launchContents m' c)).trans ?_), r1.trans ((val_main_v109_eq (StableHlo.launchContents m' c)).trans ?_), r2.trans ((val_main_v87_eq (StableHlo.launchContents m' c)).trans ?_), r3.trans ((val_main_v82_eq (StableHlo.launchContents m' c)).trans ?_), r4.trans ((val_main_v91_eq (StableHlo.launchContents m' c)).trans ?_), r5.trans ((val_main_v85_eq (StableHlo.launchContents m' c)).trans ?_), r6.trans ((val_main_v62_eq (StableHlo.launchContents m' c)).trans ?_), rest⟩
  all_goals rw [e0, e1, e2, e3, e4, e5, e6, e7]

end Cert.Tail
-- ==== Proof.MixRun.lean ====
/-
  One grid point of the input projection's backward kernel. The first point clears the sum of the norm scale's gradient and
  copies the weights into scratch memory; after that the body is that of every other point, and what it leaves in its two
  outputs is written out as functions of the blocks it reads.
-/
module

public import proofs.«01_k».proof.Proof.Gen.Kernel5Ideal.Frame.Runs
public import proofs.«01_k».proof.Proof.Staged

@[expose] public section

set_option maxRecDepth 16384

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- Core `c` owns the whole buffer `a`, which holds `v`. -/
abbrev has (c : Dev nD) {sp : Space} {S : Shape} {e : EltTy} (a : Memref sig .tc sp S e) (v : S.Idx → Elt F e) : sProp 𝕄 := owns (c : Thread nD τ) a fullShare v

section Values

variable (h dh : Vec F S256x1024 .f32) (duv : Vec F S256x2048 .bf16) (dzxd : Vec F S256x2688 .bf16) (g : Vec F S1x1024 .f32) (w : Vec F S4624x1024 .bf16)

/-- The weights' rows for the two gates, for the recurrence's columns, and for the time steps. -/
def rows0 : Vec F S2048x1024 .bf16 := View.ld w (Rect.unit (s := S4624x1024) ![0, 0] S2048x1024.size inb_S4624x1024_S2048x1024_0_0)
def rows1 : Vec F S2560x1024 .bf16 := View.ld w (Rect.unit (s := S4624x1024) ![2048, 0] S2560x1024.size inb_S4624x1024_S2560x1024_2048_0)
def rows2 : Vec F S16x1024 .bf16 := View.ld w (Rect.unit (s := S4624x1024) ![4608, 0] S16x1024.size inb_S4624x1024_S16x1024_4608_0)

/-- The block of the input's gradient, -/
def outH : Vec F S256x1024 .f32 := k0_pay1 (k0_pay4 dzxd duv (rows0 w) (rows1 w) (rows2 w)) h g (k0_pay6 h) (k0_pay7 h) dh
/-- and the gradient of the norm's scale so far. -/
def outN (acc : Vec F S1x1024 .f32) : Vec F S1x1024 .f32 := k0_pay2 (k0_pay8 dzxd duv (rows0 w) (rows1 w) (rows2 w) h) acc

end Values

section Program

variable (c : Dev nD) (i j : grid0.Coords)
    (a1 : Memref sig .tc .vmem S256x1024 .f32) (h1 : a1.IsWhole) (a2 : Memref sig .tc .vmem S256x1024 .f32) (h2 : a2.IsWhole) (a3 : Memref sig .tc .vmem S256x2048 .bf16) (h3 : a3.IsWhole)
    (a4 : Memref sig .tc .vmem S256x2688 .bf16) (h4 : a4.IsWhole) (a5 : Memref sig .tc .vmem S1x1024 .f32) (h5 : a5.IsWhole) (a6 : Memref sig .tc .hbm S4624x1024 .bf16) (h6 : a6.IsWhole)
    (a7 : Memref sig .tc .vmem S256x1024 .f32) (h7 : a7.IsWhole) (a8 : Memref sig .tc .vmem S1x1024 .f32) (h8 : a8.IsWhole) (a9 : Memref sig .tc .vmem S4624x1024 .bf16) (h9 : a9.IsWhole) (s : DmaSems sig S1)

/-- What the first point does before the computation: the copy is started, the sum is cleared, the copy is waited for. -/
def stage : Prog (TpuEff nD τ sig (Elt F) Λ₀ .tc) PUnit := do
  Prog.lift (.enqueueDma a6 (.here a9) (.dma ((s.slice (Rect.unit (s := S1) ![0] S1.size inb_S1_S1_0)).squeeze S_ squeezes_S1_S_).sem) h6.wordExact h9.wordExact ⟨Or.inl rfl, trivial⟩)
  let v : Vec F S1x1024 .f32 ← Prog.lift (.load a8 (Rect.unit (s := S1x1024) ![0, 0] S1x1024.size inb_S1x1024_S1x1024_0_0).toLoadRect (View.loadsAt_vmem h_S1x1024))
  Prog.lift (.store a8 (Rect.unit (s := S1x1024) ![0, 0] S1x1024.size inb_S1x1024_S1x1024_0_0) (k0_pay3 (F := F)) Finset.univ (View.stores_vmem_bits_univ h_S1x1024 rfl) (.inl rfl))
  Prog.lift (.waitDma2 ((s.slice (Rect.unit (s := S1) ![0] S1.size inb_S1_S1_0)).squeeze S_ squeezes_S1_S_).sem a6 a9 h6.wordExact h9.wordExact)

/-- At the first point the body is the staging followed by the body of any other point. -/
theorem body_first (hi : cond0_0 i) (hj : ¬cond0_0 j) :
    cc0_mix_in_dgrad (F := F) i a1 h1 a2 h2 a3 h3 a4 h4 a5 h5 a6 h6 a7 h7 a8 h8 a9 h9 s
      = stage a6 h6 a8 a9 h9 s >>= fun _ => cc0_mix_in_dgrad j a1 h1 a2 h2 a3 h3 a4 h4 a5 h5 a6 h6 a7 h7 a8 h8 a9 h9 s := by
  simp only [cc0_mix_in_dgrad_eq_skeleton]; unfold cc0_mix_in_dgrad_skel
  simp only [k0_part1_eq_skeleton]; unfold k0_part1_skel
  dsimp only
  rw [dif_pos hi, dif_neg hj]
  rfl

set_option sl_exec.dmaWindow true in
set_option sl_exec.dmaWindowSet true in
set_option maxHeartbeats 1600000 in
/-- The staging leaves the weights in scratch memory and the sum at zero. -/
theorem stage_run
    (fw : HbBuf0 (F := F) c hbM0_0) (W : Waits sig Unit) (K : PUnit → sProp 𝕄) :
    iprop((∃ d, has c a8 d) ∗ (∃ d, has c a9 d)
        ∗ Pipeline.ownSems0 (Ix := Unit) (Name := ℕ) (U := Pipeline.UD sig nD τ) (Lvl := ℕ) (Val := Elt F) (τ := τ) osem0 c
        ∗ hbPt0 c hbM0_0 fw ∗ owes (c : Thread nD τ) 0 W
        ∗ (iprop(has c a8 k0_pay3 ∗ has c a9 fw
            ∗ Pipeline.ownSems0 (Ix := Unit) (Name := ℕ) (U := Pipeline.UD sig nD τ) (Lvl := ℕ) (Val := Elt F) (τ := τ) osem0 c
            ∗ hbPt0 c hbM0_0 fw ∗ (∃ W', owes (c : Thread nD τ) 0 W')) -∗ K ⟨⟩))
      ⊢ wp frame (wpE (defs₀ (F := F)) Variants.none c none) Set.univ (stage (Memref.whole main_v7) (Memref.isWhole_whole _) a8 a9 h9 cc0_scratch1) K := by
  rw [ownSems00_eq]
  unfold stage has owns
  iintro ⟨⟨%d8, %f8, -, H8⟩, ⟨%d9, %f9, -, H9⟩, Q, Hw, HW, Hk⟩
  sl_exec
  sl_step
  iapply Hk
  isplitl [H8]
  · iexists _; iframe H8; ipureintro
    exact read_whole _ _ zero2 _ _
  isplitl [H9]
  · iexists _; isplitr
    swap; · iexact H9
    ipureintro
    exact (read_whole a9.view f9 (off := fun _ => 0) rfl (fun a => (Nat.zero_add _).le) _).trans rfl
  iframe Q Hw; iexists _; iexact HW

set_option maxHeartbeats 1600000 in
/-- The body at a point where nothing is staged: it leaves the two outputs at the functions above and everything it reads
    as it was. -/
theorem point_run (hi : ¬cond0_0 i)
    (h dh : Vec F S256x1024 .f32) (duv : Vec F S256x2048 .bf16) (dzxd : Vec F S256x2688 .bf16) (g : Vec F S1x1024 .f32) (w : Vec F S4624x1024 .bf16)
    (acc : Vec F S1x1024 .f32) (K : PUnit → sProp 𝕄) :
    iprop(has c a1 h ∗ has c a2 dh ∗ has c a3 duv ∗ has c a4 dzxd ∗ has c a5 g ∗ has c a9 w ∗ has c a8 acc
        ∗ (∃ d, has c a7 d)
        ∗ (iprop(has c a1 h ∗ has c a2 dh ∗ has c a3 duv ∗ has c a4 dzxd ∗ has c a5 g ∗ has c a9 w
            ∗ has c a8 (outN h duv dzxd w acc)
            ∗ has c a7 (outH h dh duv dzxd g w)) -∗ K ⟨⟩))
      ⊢ wp frame (wpE (defs₀ (F := F)) Variants.none c none) Set.univ (cc0_mix_in_dgrad i a1 h1 a2 h2 a3 h3 a4 h4 a5 h5 a6 h6 a7 h7 a8 h8 a9 h9 s) K := by
  simp only [cc0_mix_in_dgrad_eq_skeleton]; unfold cc0_mix_in_dgrad_skel
  simp only [k0_part1_eq_skeleton]
  unfold has owns
  iintro ⟨⟨%f1, %e1, H1⟩, ⟨%f2, %e2, H2⟩, ⟨%f3, %e3, H3⟩, ⟨%f4, %e4, H4⟩, ⟨%f5, %e5, H5⟩, ⟨%f9, %e9, H9⟩, ⟨%f8, %e8, H8⟩, ⟨%d7, %f7, -, H7⟩, Hk⟩
  obtain rfl := h1.eq_unread e1; obtain rfl := h2.eq_unread e2; obtain rfl := h3.eq_unread e3; obtain rfl := h4.eq_unread e4; obtain rfl := h5.eq_unread e5; obtain rfl := h9.eq_unread e9; obtain rfl := h8.eq_unread e8
  sl_exec (disch := first | sl_exact hi)
  sl_step
  iapply Hk
  isplitl [H1]; rotate_left
  isplitl [H2]; rotate_left
  isplitl [H3]; rotate_left
  isplitl [H4]; rotate_left
  isplitl [H5]; rotate_left
  isplitl [H9]; rotate_left
  isplitl [H8]; rotate_left
  all_goals
    iexists _; isplitr
    swap; · iassumption
    ipureintro
  all_goals first | with_reducible exact Memref.IsWhole.read_unread ‹_› _ | refine (read_whole _ _ zero2 _ _).trans ?_
  all_goals
    sl_unfold_words
    simp only [outN, outH, rows0, rows1, rows2, View.readAt_eq_ld, h1.read_unread, h2.read_unread, h3.read_unread, h4.read_unread, h5.read_unread, h9.read_unread,
      h8.read_unread, View.ld_unit_zero (S := S256x1024) zero2, View.ld_unit_zero (S := S256x2048) zero2, View.ld_unit_zero (S := S1x1024) zero2, View.ld_unit_zero (S := S256x2688) zero2]

end Program

end Cert.Mix
end
-- ==== Proof.MixFrame.lean ====
/-
  The whole run of the input projection's backward kernel: the invariant between grid points (the weights stay in scratch
  memory, the norm scale's gradient is summed), the body's obligation at every point, and that the arguments end unchanged.
-/
module

public import proofs.«01_k».proof.Proof.MixRun
public import Idealize.ShloMosaic.Lib.Claim

@[expose] public section

set_option maxRecDepth 16384

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD) (t : Fin cfg0.N)

/-! ## What the points leave -/

/-- The weights as the staging lays them into scratch memory. -/
def weights : Vec F S4624x1024 .bf16 := V m c main_v7

/-- The gradient of the norm's scale, summed over the points up to `n`. -/
def sumN : (n : ℕ) → n < cfg0.N → Vec F S1x1024 .f32 := sumTo (fun t => outN (iblk m c 0 t) (iblk m c 2 t) (iblk m c 3 t) (weights m c)) k0_pay3

theorem sumN_first (h : t.val = 0) : sumN m c t.val t.isLt = outN (iblk m c 0 t) (iblk m c 2 t) (iblk m c 3 t) (weights m c) k0_pay3 :=
  sumTo_first _ _ t h

theorem sumN_next (h : t.val ≠ 0) :
    sumN m c t.val t.isLt = outN (iblk m c 0 t) (iblk m c 2 t) (iblk m c 3 t) (weights m c) (sumN m c (t.val - 1) (Nat.lt_of_le_of_lt (Nat.sub_le _ _) t.isLt)) :=
  sumTo_next _ _ t h

/-! ## The invariant and the proof data -/

/-- The parts of the invariant that no point changes: the generator's register, the copy's semaphore at zero, the weights
    in main memory. -/
def rest : sProp 𝕄 :=
  iprop((∃ r, prngReg c r) ∗ Pipeline.ownSems0 (Ix := Unit) (Name := ℕ) (U := Pipeline.UD sig nD τ) (Lvl := ℕ) (Val := Elt F) (τ := τ) osem0 c
    ∗ hbPt0 c hbM0_0 (V m c main_v7))

theorem launch_eq :
    (Pipeline.ΦD osem0 spec0 H0 (V m) c : sProp 𝕄)
      = iprop(iprop((∃ d, has c scM0_0 d)) ∗ rest m c) := by
  rw [PhiD0_eq]; unfold rest; rw [ownSems00_eq]

/-- Before the first point the scratch memory holds anything, later the weights. -/
def inv : ℕ → sProp 𝕄
  | 0 => Pipeline.ΦD osem0 spec0 H0 (V m) c
  | _ + 1 => iprop(has c scM0_0 (weights m c) ∗ rest m c)

theorem inv_pos (n : ℕ) (h : n ≠ 0) :
    inv m c n = iprop(has c scM0_0 (weights m c) ∗ rest m c) := by
  cases n with
  | zero => exact absurd rfl h
  | succ n => rfl

/-- The proof data of the pipeline: the inputs' blocks stay, the outputs are the functions of one point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t) (weights m c)
    | ⟨6, _⟩ => sumN m c t.val t.isLt
  Φ t := inv m c t.val
  q _ := fullShare
  owed _ := 0

theorem A_eq (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = outH (iblk m c 0 t) (iblk m c 1 t) (iblk m c 2 t) (iblk m c 3 t) (iblk m c 4 t) (weights m c) := by dsimp only [dats]
theorem after_6 : (dats m 0 c).after 6 t = sumN m c t.val t.isLt := by dsimp only [dats]

theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d

/-- The summed output's buffer holds, at a later point, what the point before left. -/
theorem before_6 (h : t.val ≠ 0) (d) :
    (dats m 0 c).before 6 t d = sumN m c (t.val - 1) (Nat.lt_of_le_of_lt (Nat.sub_le _ _) t.isLt) := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dats]

/-! ## One point -/

/-- What the body is called with at point `t`, window by window, -/
def pre : sProp 𝕄 :=
  iprop((dats m 0 c).Φ t.castSucc ∗ (dats m 0 c).owesAt () t.castSucc
    ∗ (∃ d, has c (ms0_0 t) ((dats m 0 c).before 0 t d))
    ∗ (∃ d, has c (ms0_1 t) ((dats m 0 c).before 1 t d))
    ∗ (∃ d, has c (ms0_2 t) ((dats m 0 c).before 2 t d))
    ∗ (∃ d, has c (ms0_3 t) ((dats m 0 c).before 3 t d))
    ∗ (∃ d, has c (ms0_4 t) ((dats m 0 c).before 4 t d))
    ∗ (∃ d, has c (ms0_5 t) ((dats m 0 c).before 5 t d))
    ∗ (∃ d, has c (ms0_6 t) ((dats m 0 c).before 6 t d)))

/-- and what it returns. -/
def post : sProp 𝕄 :=
  iprop((dats m 0 c).Φ t.succ ∗ (dats m 0 c).owesAt () t.succ
    ∗ has c (ms0_0 t) ((dats m 0 c).after 0 t)
    ∗ has c (ms0_1 t) ((dats m 0 c).after 1 t)
    ∗ has c (ms0_2 t) ((dats m 0 c).after 2 t)
    ∗ has c (ms0_3 t) ((dats m 0 c).after 3 t)
    ∗ has c (ms0_4 t) ((dats m 0 c).after 4 t)
    ∗ has c (ms0_5 t) ((dats m 0 c).after 5 t)
    ∗ has c (ms0_6 t) ((dats m 0 c).after 6 t))

set_option maxHeartbeats 3200000 in
/-- The body at any point takes the one to the other. -/
theorem point :
    pre m c t ⊢ wp frame (wpE (defs₀ (F := F)) Variants.none c none) Set.univ (bodyAt0 t) (fun _ => post m c t) := by
  have hN : cfg0.N = 32 := N_0
  have ht : t.val < 32 := lt_of_lt_of_eq t.isLt hN
  unfold pre post bodyAt0
  simp only [before_0, before_1, before_2, before_3, before_4]
  rw [show (dats m 0 c).Φ t.succ = inv m c (t.val + 1) from rfl, show (dats m 0 c).Φ t.castSucc = inv m c t.val from rfl, inv_pos m c (t.val + 1) (Nat.succ_ne_zero _),
    after_0, after_1, after_2, after_3, after_4, after_5, after_6]
  unfold Dat.owesAt Pipeline.owesWithin
  rw [show (dats m 0 c).owed t.castSucc = 0 from rfl, show (dats m 0 c).owed t.succ = 0 from rfl]
  have run := fun (j : grid0.Coords) (hj : ¬cond0_0 j) => point_run (F := F) c j (ms0_0 t) (hs0_0 t) (ms0_1 t) (hs0_1 t) (ms0_2 t) (hs0_2 t) (ms0_3 t) (hs0_3 t) (ms0_4 t) (hs0_4 t) (Memref.whole main_v7) (Memref.isWhole_whole _) (ms0_5 t) (hs0_5 t) (ms0_6 t) (hs0_6 t) scM0_0 (Memref.isWhole_whole _) cc0_scratch1 hj
  by_cases hz : t.val = 0
  · rw [show inv m c t.val = Pipeline.ΦD osem0 spec0 H0 (V m) c from by rw [hz]; rfl, launch_eq, sumN_first m c t hz]
    obtain ⟨j, hj⟩ : ∃ j : grid0.Coords, ¬cond0_0 j := ⟨grid0.coords (⟨1, by omega⟩ : Fin cfg0.N), fun h => by
      have := (hcond0_0 _).mp h; dsimp only at this; omega⟩
    rw [body_first (grid0.coords t) j (hi := (hcond0_0 t).mpr (by omega)) (hj := hj), wp_bind]
    unfold rest
    iintro ⟨⟨S0, Hg, Hq, G0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (stage_run c (ms0_6 t) scM0_0 (Memref.isWhole_whole _) (V m c main_v7) W)
    isplitl [H6]; · iexists _; iexact H6
    iframe S0 Hq G0 HW
    iintro ⟨H6, S0, Hq, G0, ⟨%W', HW⟩⟩
    iapply (run j hj)
    iframe H0 H1 H2 H3 H4 S0 H6
    isplitl [H5]; · iexists _; iexact H5
    iintro ⟨H0, H1, H2, H3, H4, S0, H6, H5⟩
    iframe S0 Hg Hq G0 H0 H1 H2 H3 H4 H5 H6
    iexists W'; iframe HW; ipureintro; exact fun _ _ => Or.inl trivial
  · rw [inv_pos m c _ hz]
    simp only [before_6 m c t hz, sumN_next m c t hz]
    iintro ⟨⟨S0, R⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (run (grid0.coords t) (fun h => hz (by have := (hcond0_0 t).mp h; omega)))
    iframe H0 H1 H2 H3 H4 S0 H6
    isplitl [H5]; · iexists _; iexact H5
    iintro ⟨H0, H1, H2, H3, H4, S0, H6, H5⟩
    iframe S0 R H0 H1 H2 H3 H4 H5 H6
    iexists W; iframe HW; ipureintro; exact fun _ _ => Or.inl trivial

theorem row (t : Fin cfg0.N) : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row]
  exact triple_restated (point m c t) rfl .rfl fun _ => .rfl

theorem hin : Pipeline.ΦD osem0 spec0 H0 (V m) c ⊢ (dats m 0 c).Φ 0 := by
  rw [show (dats m 0 c).Φ 0 = inv m c 0 from rfl]
  exact Idealize.SL.BI.Entails.refl _

theorem hout : (dats m 0 c).Φ (Fin.last cfg0.N) ⊢ Pipeline.ΦD osem0 spec0 H0 (V m) c := by
  rw [show (dats m 0 c).Φ (Fin.last cfg0.N) = inv m c cfg0.N from rfl, inv_pos m c _ (by have : cfg0.N = 32 := N_0; omega), launch_eq]
  iintro ⟨S0, R⟩
  isplitl [S0]
  · iexists _; iexact S0
  iexact R

/-! ## The run -/

-- the library's run is applied by unifying its conclusion, which unfolds plain definitions in a metavariable's type
set_option backward.isDefEq.respectTransparency.types false in
/-- Every execution ends with the pipeline's arrays as the proof data says and every semaphore at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The arguments end unchanged and the semaphores at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Mix
end
-- ==== Proof.MixPoint.lean ====
/-
  One grid point of the input projection's backward kernel, read over the extended reals: every value it computes at a row
  of its block is the reference's value at that row of the whole array.
-/
module

public import proofs.«01_k».proof.Proof.MixRun
public import proofs.«01_k».proof.Proof.GmPoint
public import proofs.«01_k».proof.Proof.Gen.Reference5Ideal.Read
public import Idealize.ShloMosaic.Lib.Pointwise

@[expose] public section

namespace Cert.Mix

open Cert.Kernel5Ideal Cert.Kernel5Ideal.Gen
open Cert.Reference5Ideal.Read
open Idealize.ShloMosaic Idealize.ShloMosaic.TcCoe
open Cert.Gm (ext2)

/-- Row `r` of block `t`. -/
def rowOf (t : Fin 32) (r : Fin 256) : Fin 8192 := ⟨t.val * 256 + r.val, by omega⟩

/-- Block `t` of 256 rows. -/
def tile {n : ℕ} {e : EltTy} (t : Fin 32) (X : Vec Ideal ⟨2, ![8192, n]⟩ e) : Vec Ideal ⟨2, ![256, n]⟩ e :=
  fun y => X (ix2 (rowOf t (y 0)) (y 1))

/-- The transpose of the weights. -/
def turned (w : Vec Ideal S1024x4624 .f32) : Vec Ideal S4624x1024 .bf16 := fun y => w (ix2 (y 1) (y 0))

/-- The gates' columns of the projection's gradient, -/
def gates (x : Vec Ideal S8192x4624 .f32) : Vec Ideal S8192x2048 .bf16 := fun y =>
  x (ix2 (y 0) ⟨(y 1).val, by have : (y 1).val < 2048 := (y 1).isLt; omega⟩)

/-- and the others, with columns of zeros after them. -/
noncomputable def others (x : Vec Ideal S8192x4624 .f32) : Vec Ideal S8192x2688 .bf16 := fun y =>
  if h : (y 1).val < 2576 then x (ix2 (y 0) ⟨2048 + (y 1).val, by omega⟩) else 0

/-- A sum over the projection's columns, cut at the gates and at the time steps. -/
theorem cut (f : Fin 4624 → EReal) :
    ∑ k, f k = (∑ k : Fin 2048, f ⟨k.val, by omega⟩ + ∑ k : Fin 2560, f ⟨2048 + k.val, by omega⟩) + ∑ k : Fin 16, f ⟨4608 + k.val, by omega⟩ :=
  (Fin.sum_univ_add (a := 4608) (b := 16) f).trans (congrArg (· + _) (Fin.sum_univ_add (a := 2048) (b := 2560) fun k => f ⟨k.val, by omega⟩))

theorem rows0_apply (w : Vec Ideal S4624x1024 .bf16) (i : Fin 2048) (j : Fin 1024) : rows0 w (ix2 i j) = w (ix2 ⟨i.val, by omega⟩ j) := by
  unfold rows0 View.ld
  refine congrArg w (funext fun a => Fin.ext ?_)
  match a with
  | ⟨0, _⟩ => show 0 + 1 * i.val = i.val; omega
  | ⟨1, _⟩ => show 0 + 1 * j.val = j.val; omega

theorem rows1_apply (w : Vec Ideal S4624x1024 .bf16) (i : Fin 2560) (j : Fin 1024) : rows1 w (ix2 i j) = w (ix2 ⟨2048 + i.val, by omega⟩ j) := by
  unfold rows1 View.ld
  refine congrArg w (funext fun a => Fin.ext ?_)
  match a with
  | ⟨0, _⟩ => show 2048 + 1 * i.val = 2048 + i.val; omega
  | ⟨1, _⟩ => show 0 + 1 * j.val = j.val; omega

theorem rows2_apply (w : Vec Ideal S4624x1024 .bf16) (i : Fin 16) (j : Fin 1024) : rows2 w (ix2 i j) = w (ix2 ⟨4608 + i.val, by omega⟩ j) := by
  unfold rows2 View.ld
  refine congrArg w (funext fun a => Fin.ext ?_)
  match a with
  | ⟨0, _⟩ => show 4608 + 1 * i.val = 4608 + i.val; omega
  | ⟨1, _⟩ => show 0 + 1 * j.val = j.val; omega

variable (x0 x3 : Vec Ideal S8192x1024 .f32) (x1 : Vec Ideal S1x1024 .f32) (x2 : Vec Ideal S1024x4624 .f32) (x4 : Vec Ideal S8192x4624 .f32) (t : Fin 32)

theorem factor_eq : k0_pay6 (F := Ideal) (tile t x0) = tile t (val_main_v7 (F := Ideal) x0) := by
  refine ext2 256 1 fun i j => ?_
  pointwise [k0_pay6, k0_pay5, val_main_v7, val_main_v6, val_main_v5, val_main_v4, val_main_v3, val_main_v2, val_main_v1, val_main_v0,
    val_main_cst, val_main_cst_0, val_main_cst_1, tile]

theorem slope_eq : k0_pay7 (F := Ideal) (tile t x0) = tile t (val_main_v10 (F := Ideal) x0) := by
  refine ext2 256 1 fun i j => ?_
  pointwise [k0_pay7, k0_pay6, k0_pay5, val_main_v10, val_main_v9, val_main_v8, val_main_v7, val_main_v6, val_main_v5, val_main_v4, val_main_v3,
    val_main_v2, val_main_v1, val_main_v0, val_main_cst, val_main_cst_0, val_main_cst_1, val_main_cst_2, tile]

/-- The gradient at the scaled rows: the product with the weights, taken in three parts. -/
theorem dscaled_eq : k0_pay4 (F := Ideal) (tile t (others x4)) (tile t (gates x4)) (rows0 (turned x2)) (rows1 (turned x2)) (rows2 (turned x2))
    = tile t (val_main_v16 (F := Ideal) x2 x4) := by
  refine ext2 256 1024 fun i j => ?_
  pointwise [k0_pay4, val_main_v16, tile]
  simp only [rows0_apply, rows1_apply, rows2_apply]
  refine Eq.trans ?_ (cut _).symm
  refine congrArg₂ (· + ·) (congrArg₂ (· + ·) (Finset.sum_congr rfl fun k _ => ?_) (Finset.sum_congr rfl fun k _ => ?_)) (Finset.sum_congr rfl fun k _ => ?_)
  · rfl
  · refine congrArg (· * _) ((dif_pos (show k.val < 2576 by omega)).trans ?_)
    rfl
  · refine congrArg (· * _) ((dif_pos (show 2560 + k.val < 2576 by omega)).trans ?_)
    exact congrArg (fun q => x4 (ix2 _ q)) (Fin.ext (show 2048 + (2560 + k.val) = 4608 + k.val by omega))

/-- The block of the input's gradient. -/
theorem outH_eq : outH (F := Ideal) (tile t x0) (tile t x3) (tile t (gates x4)) (tile t (others x4)) x1 (turned x2)
    = tile t (val_main_v36 (F := Ideal) x0 x1 x2 x3 x4) := by
  refine ext2 256 1024 fun i j => ?_
  unfold outH
  rw [dscaled_eq, factor_eq, slope_eq]
  pointwise [k0_pay1, val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_cst_4, val_main_cst_5, val_main_cst_6, tile]
  simp only [add_assoc]

/-- The gradient of the norm's scale: the rows' shares are added to what was there. -/
theorem outN_eq (acc : Vec Ideal S1x1024 .f32) (k : Fin 1024) : outN (F := Ideal) (tile t x0) (tile t (gates x4)) (tile t (others x4)) (turned x2) acc (ix2 0 k)
    = acc (ix2 0 k) + ∑ r, val_main_v17 (F := Ideal) x0 x2 x4 (ix2 (rowOf t r) k) := by
  unfold outN k0_pay8
  rw [dscaled_eq, factor_eq]
  pointwise [k0_pay2, val_main_v17, val_main_v12, val_main_v11, tile]
  done

end Cert.Mix
end
-- ==== Proof.MixValue.lean ====
/-
  The two results of the input projection's backward kernel as whole arrays, in the reference's terms.
-/
module

public import proofs.«01_k».proof.Proof.MixFrame
public import proofs.«01_k».proof.Proof.MixPoint
public import Idealize.ShloMosaic.Lib.StableHlo.RunRead
public import Idealize.ShloMosaic.Lib.Pipeline.ValueKit

@[expose] public section

set_option maxRecDepth 16384

namespace Cert.Mix

open Cert.Kernel5Ideal Cert.Kernel5Ideal.Gen
open Cert.Reference5Ideal.Read
open Idealize.ShloMosaic Idealize.ShloMosaic.TcCoe
open Cert.Gm (ext2)

variable (m : (ℓ : Loc nD τ sig) → Buf (Elt Ideal) ℓ) (c : Dev nD)

/-! ## What the host operations leave in the arrays the kernel reads -/

/-- Taking back the blocks' own rows drops the rows added after them. -/
theorem own_rows (a : Vec Ideal S8x578x1024 .bf16) (z : Vec Ideal S8x14x1024 .bf16) :
    extractStridedSlice S8x578x1024 ![0, 0, 0]
      (concatenate S8x592x1024 1 [⟨S8x578x1024, a⟩, ⟨S8x14x1024, z⟩] concatenates_S8x578x1024_S8x14x1024_S8x592x1024_d1)
      slices_S8x592x1024_S8x578x1024_0_0_0 = a := by
  funext y
  obtain ⟨p, q, r, rfl⟩ : ∃ (p : Fin 8) (q : Fin 578) (r : Fin 1024), y = ix3 p q r := ⟨y 0, y 1, y 2, eq_ix3 y⟩
  pointwise
  done

/-- Two changes of shape and one back to the first shape change nothing. -/
theorem recast {α : Type} {S T U : Shape} (v : S.Idx → α) (h : S.ShapeCasts T) (h' : T.ShapeCasts U) (h'' : U.ShapeCasts S) :
    shapeCast S (shapeCast U (shapeCast T v h) h') h'' = v := by
  rw [shapeCast_comp, shapeCast_comp, shapeCast_id]

theorem weights_eq : weights m c = turned (m (c, main_arg2)) := by
  unfold weights V
  after_reads_simp
  rw [own_rows]
  after_reads_simp
  refine (recast _ _ _ _).trans ?_
  refine ext2 4624 1024 fun a b => ?_
  pointwise [turned]

theorem V_gates : V m c main_v9 = gates (m (c, main_arg4)) := by
  unfold V
  after_reads_simp
  refine ext2 8192 2048 fun a b => ?_
  pointwise [gates]

theorem V_others : V m c main_v13 = others (m (c, main_arg4)) := by
  unfold V
  after_reads_simp
  refine ext2 8192 2688 fun a b => ?_
  pointwise [others]
  split
  · after_reads_simp
    pointwise
  · after_reads_simp
    pointwise

/-! ## What the windows hand the body -/

/-- A grid point as the number of its tile of rows. -/
def pt (t : Fin cfg0.N) : Fin 32 := ⟨t.val, Nat.lt_of_lt_of_eq t.isLt N_0⟩

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)

theorem small (t : Fin cfg0.N) : t.val < 32 := Nat.lt_of_lt_of_eq t.isLt N_0

theorem block_h (t : Fin cfg0.N) : iblk m c 0 t = tile (pt t) (m (c, main_arg0)) := by
  funext y
  blk_simp [iblk, at0]
  rw [V_main_arg0]
  unfold tile
  blk_ext [at0, rowOf, pt]

theorem block_dh (t : Fin cfg0.N) : iblk m c 1 t = tile (pt t) (m (c, main_arg3)) := by
  funext y
  blk_simp [iblk, at1]
  rw [V_main_arg3]
  unfold tile
  blk_ext [at1, rowOf, pt]

theorem block_gates (t : Fin cfg0.N) : iblk m c 2 t = tile (pt t) (gates (m (c, main_arg4))) := by
  funext y
  blk_simp [iblk, at2]
  rw [V_gates]
  unfold tile
  blk_ext [at2, rowOf, pt]

theorem block_others (t : Fin cfg0.N) : iblk m c 3 t = tile (pt t) (others (m (c, main_arg4))) := by
  funext y
  blk_simp [iblk, at3]
  rw [V_others]
  unfold tile
  blk_ext [at3, rowOf, pt]

theorem block_norm (t : Fin cfg0.N) : iblk m c 4 t = m (c, main_arg1) := by
  funext y
  blk_simp [iblk, at4]
  rw [V_main_arg1]
  congr 1
  blk_ext [at4]

/-- The gradient at the input. -/
theorem array_h : (dats m 0 c).arrAt 5 cfg0.N = val_main_v36 (F := Ideal) (m (c, main_arg0)) (m (c, main_arg1)) (m (c, main_arg2)) (m (c, main_arg3)) (m (c, main_arg4)) := by
  refine (dats m 0 c).arrAt_eq_of_covers 5 _ (by decide +kernel) fun t hf y => ?_
  blk_simp
  rw [after_5, block_h, block_dh, block_gates, block_others, block_norm, weights_eq, outH_eq]
  unfold tile
  blk_ext [at5, rowOf, pt]

/-! ## The running sum -/

/-- What a point adds to the sum. -/
theorem step (t : Fin cfg0.N) (acc : Vec Ideal S1x1024 .f32) (k : Fin 1024) : outN (iblk m c 0 t) (iblk m c 2 t) (iblk m c 3 t) (weights m c) acc (ix2 0 k)
    = acc (ix2 0 k) + ∑ r, val_main_v17 (F := Ideal) (m (c, main_arg0)) (m (c, main_arg2)) (m (c, main_arg4)) (ix2 (rowOf (pt t) r) k) := by
  rw [block_h, block_gates, block_others, weights_eq]
  exact outN_eq _ _ _ (pt t) acc k

/-- The running sum ends as the sum over all points of their rows' shares. -/
theorem total (t : Fin cfg0.N) (ht : t.val + 1 = cfg0.N) (k : Fin 1024) :
    sumN m c t.val t.isLt (ix2 0 k) = ∑ s : Fin 32, ∑ r, val_main_v17 (F := Ideal) (m (c, main_arg0)) (m (c, main_arg2)) (m (c, main_arg4)) (ix2 (rowOf s r) k) := by
  have h := Pipeline.eq_sum_fin_of_reset_step_apply_last (fun n hn (k : Fin 1024) => (show EReal from sumN m c n hn (ix2 0 k))) 32 (fun _ => 0)
    (fun t k => ∑ r, (show EReal from val_main_v17 (F := Ideal) (m (c, main_arg0)) (m (c, main_arg2)) (m (c, main_arg4)) (ix2 (rowOf (pt t) r) k)))
    (fun t h k => (congrFun (sumN_first m c t (by have := small t; omega)) _).trans ((step m c t _ k).trans (congrArg (· + _) (by pointwise [k0_pay3]))))
    (fun t h k => (congrFun (sumN_next m c t (by have := small t; omega)) _).trans (step m c t _ k)) (Nat.le_of_eq N_0) t ht k
  refine h.trans ((zero_add _).trans ?_)
  exact Fintype.sum_equiv (finCongr N_0) _ _ fun t => rfl

/-- A sum over the tiles and the rows of each is the sum over all rows. -/
theorem all_rows (f : Fin 8192 → EReal) : ∑ s : Fin 32, ∑ r : Fin 256, f (rowOf s r) = ∑ i, f i :=
  Fin.sum_mul_add_congr (S := 32) (n := 256) (fun s r hl => congrArg f (by blk_ext [rowOf]))

theorem last_norm (t : Fin cfg0.N) (ht : t.val + 1 = cfg0.N) (y : S1x1024.Idx) :
    (dats m 0 c).after 6 t y = val_main_v19 (F := Ideal) (m (c, main_arg0)) (m (c, main_arg2)) (m (c, main_arg4)) y := by
  obtain ⟨k, rfl⟩ : ∃ k : Fin 1024, y = ix2 0 k := ⟨y 1, (eq_ix2 y).trans (congrArg (fun a => ix2 a (y 1)) (Subsingleton.elim (α := Fin 1) (y 0) 0))⟩
  refine (congrFun (after_6 m c t) _).trans ((total m c t ht k).trans ?_)
  refine (all_rows fun i => val_main_v17 (F := Ideal) (m (c, main_arg0)) (m (c, main_arg2)) (m (c, main_arg4)) (ix2 i k)).trans ?_
  symm
  pointwise [val_main_v19, val_main_v18, val_main_cst_3]

/-- The gradient of the norm's scale. -/
theorem array_norm : (dats m 0 c).arrAt 6 cfg0.N = val_main_v19 (F := Ideal) (m (c, main_arg0)) (m (c, main_arg2)) (m (c, main_arg4)) := by
  refine (dats m 0 c).arrAt_eq_of_after_last 6 ⟨31, by rw [show cfg0.N = 32 from N_0]; decide⟩ (by decide +kernel) _ fun j => ?_
  refine (cast_eq _ _).trans ((last_norm m c ⟨31, by rw [show cfg0.N = 32 from N_0]; decide⟩ N_0.symm _).trans (congrArg (val_main_v19 (F := Ideal) (m (c, main_arg0)) (m (c, main_arg2)) (m (c, main_arg4))) ?_))
  blk_ext []

end Cert.Mix
end
-- ==== Proof.MixClaim.lean ====
/-
  The claims about the input projection's backward kernel: its frames, its reference's frame, and that the two gradients it
  leaves are the reference's, with no condition on the arguments.
-/
module

public import proofs.«01_k».proof.Defs
public import proofs.«01_k».proof.Proof.Gen.Reference5Ideal.Run
public import proofs.«01_k».proof.Proof.Gen.Kernel5
public import proofs.«01_k».proof.Proof.MixValue
public import Idealize.ShloMosaic.Lib.Claim

@[expose] public section

namespace Cert.Mix

open Idealize.ShloMosaic Idealize.ShloMosaic.TcCoe
open Idealize.SL Idealize.SL.Sem
open Cert.Reference5Ideal.Read

set_option maxHeartbeats 1600000 in
/-- The printed kernel and the one printed for reading over the extended reals are the same text, label by label. -/
theorem defs₀_same {F : FTy → Type} [FloatOps F] : Cert.Kernel5.defs₀ (F := F) = Cert.Kernel5Ideal.defs₀ (F := F) :=
  congrArg Defs.onTc (funext fun l => funext fun a => by
    match l, a with
    | 0, (t, s) => rfl
    | ⟨_ + 1, h⟩, _ => exact absurd h (Nat.not_lt.2 (Nat.le_add_left _ _)))

set_option maxHeartbeats 1600000 in
theorem defs_same {F : FTy → Type} [FloatOps F] : Cert.Kernel5.defs (F := F) = Cert.Kernel5Ideal.defs (F := F) :=
  congrArg (Pipeline.defs (Cert.Kernel5Ideal.pcfgs (F := F))) defs₀_same

set_option maxHeartbeats 1600000 in
theorem quiescent_kernel : Cert.quiescent_Kernel5 (hKernel5 := Cert.Kernel5.Gen.facts) := fun m ρ _ => by
  have h := frame_ideal (F := Bits) m ρ
  rw [← defs_same] at h
  exact h

theorem quiescent_ideal : Cert.quiescent_Kernel5Ideal (hKernel5Ideal := Cert.Kernel5Ideal.Gen.facts) := fun m ρ _ => frame_ideal m ρ

theorem quiescent_reference : Cert.quiescent_Reference5Ideal (hReference5Ideal := Cert.Reference5Ideal.Gen.facts) :=
  fun m ρ _ => (θ_run Cert.Reference5Ideal.defs _ _).mono
    (fun r h => ⟨fun c => (h c).2.2, sem_eq_zero_of_no_sems (by decide) r.2⟩)
    (Cert.Reference5Ideal.Value.run m ρ)

section Kernel

open Cert.Kernel5Ideal Cert.Kernel5Ideal.Gen

variable (m : (ℓ : Loc nD τ sig) → Buf (Elt Ideal) ℓ) (ρ : Dev nD → PrngReg)

/-- The kernel's run: its two results in the reference's terms, its arguments unchanged. -/
theorem run_kernel : θ_run defs (onTc (τ := τ) (main (F := Ideal))) ⟨m, fun _ => 0, ρ⟩ (fun r => ∀ c : Dev nD,
      r.2.mem ((c.tc : Thread nD τ).loc main_v14_0) = val_main_v36 (F := Ideal) (m (c, main_arg0)) (m (c, main_arg1)) (m (c, main_arg2)) (m (c, main_arg3)) (m (c, main_arg4))
      ∧ r.2.mem ((c.tc : Thread nD τ).loc main_v14_1) = val_main_v19 (F := Ideal) (m (c, main_arg0)) (m (c, main_arg2)) (m (c, main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨(h.1.1.out_eq c 5).trans (array_h m c), (h.1.1.out_eq c 6).trans (array_norm m c), h.2.1 c⟩)
    (θ_run_and (run m ρ) (frame_ideal m ρ))

end Kernel

theorem algebraic : Cert.algebraic_Kernel5Ideal_Reference5Ideal (hKernel5Ideal := Cert.Kernel5Ideal.Gen.facts)
    (hReference5Ideal := Cert.Reference5Ideal.Gen.facts) := by
  intro m g m' g' _ hargs
  refine ⟨_, _, run_kernel m g, (θ_run Cert.Reference5Ideal.defs _ _).mono (fun r h c => ?_) (Cert.Reference5Ideal.Value.run m' g')⟩
  obtain ⟨r0, r1, rest⟩ := h c
  obtain ⟨a0, a1, a2, a3, a4⟩ := hargs c
  have e0 : StableHlo.launchContents m' c (Proc.devRef .tc Cert.Reference5Ideal.main_arg0) = m (c, Cert.Kernel5Ideal.main_arg0) := a0
  have e1 : StableHlo.launchContents m' c (Proc.devRef .tc Cert.Reference5Ideal.main_arg1) = m (c, Cert.Kernel5Ideal.main_arg1) := a1
  have e2 : StableHlo.launchContents m' c (Proc.devRef .tc Cert.Reference5Ideal.main_arg2) = m (c, Cert.Kernel5Ideal.main_arg2) := a2
  have e3 : StableHlo.launchContents m' c (Proc.devRef .tc Cert.Reference5Ideal.main_arg3) = m (c, Cert.Kernel5Ideal.main_arg3) := a3
  have e4 : StableHlo.launchContents m' c (Proc.devRef .tc Cert.Reference5Ideal.main_arg4) = m (c, Cert.Kernel5Ideal.main_arg4) := a4
  refine ⟨r0.trans ((val_main_v36_eq m' c).trans ?_), r1.trans ?_, rest⟩
  · exact congr (congr (congr (congrArg₂ (val_main_v36 (F := Ideal)) a0 a1) a2) a3) a4
  · exact (val_main_v19_eq (StableHlo.launchContents m' c (Proc.devRef .tc Cert.Reference5Ideal.main_arg0)) (StableHlo.launchContents m' c (Proc.devRef .tc Cert.Reference5Ideal.main_arg2)) (StableHlo.launchContents m' c (Proc.devRef .tc Cert.Reference5Ideal.main_arg4))).trans (by rw [e0, e2, e4])

end Cert.Mix
-- ==== Proof.GfPoint.lean ====
/-
  One chunk of the spatial-gating forward kernel, read over the extended reals: what it computes from 128 rows of its two
  inputs is what the reference has at those rows of its result.
-/
module

public import proofs.«01_k».proof.Proof.Gen.Kernel6Ideal.Skeleton
public import proofs.«01_k».proof.Proof.Gen.Reference6Ideal.Read
public import proofs.«01_k».proof.Proof.GmHeads

@[expose] public section

namespace Cert.Gf

open Cert.Kernel6Ideal Cert.Kernel6Ideal.Gen
open Cert.Reference6Ideal.Read
open Cert.Gm (ext2 chunk rowOf colOf slab headOf row_div row_mod col_div pick)
open Idealize.ShloMosaic Idealize.ShloMosaic.TcCoe

/-! ## The chunk as one function of its rows -/

/-- One head: the causal part of its mixing matrix times its columns, plus its bias. -/
noncomputable def mixHead (W : FVec Ideal S128x128 .f32) (X : FVec Ideal S128x1024 .f32) (B : FVec Ideal S128x8 .f32) (o p : ℕ)
    (ho : S128x1024.Slices ![0, o] S128x128) (hp : S128x8.Slices ![0, p] S128x1) : FVec Ideal S128x128 .f32 :=
  addf (matmul dot_S128x128_S128x128_S128x128_1_0_0_1_n_n none
      (truncf .bf16 (select k0_pay15 W (broadcast S128x128 (Scalar.ofBits (F := Ideal) .f32 0x00000000#32))) bitsLt_bf16_f32)
      (truncf .bf16 (extractStridedSlice S128x128 ![0, o] X ho) bitsLt_bf16_f32) (constant S128x128 .f32 0x00000000#32))
    (broadcastTo S128x128 (extractStridedSlice S128x1 ![0, p] B hp) broadcasts_S128x1_S128x128)

/-- The eight heads side by side. -/
noncomputable def heads (W : Fin 8 → FVec Ideal S128x128 .f32) (X : FVec Ideal S128x1024 .f32) (B : FVec Ideal S128x8 .f32) : FVec Ideal S128x1024 .f32 :=
  concatenate S128x1024 1 [
    ⟨S128x128, mixHead (W 0) X B 0 0 slices_S128x1024_o0_0_S128x128 slices_S128x8_o0_0_S128x1⟩,
    ⟨S128x128, mixHead (W 1) X B 128 1 slices_S128x1024_o0_128_S128x128 slices_S128x8_o0_1_S128x1⟩,
    ⟨S128x128, mixHead (W 2) X B 256 2 slices_S128x1024_o0_256_S128x128 slices_S128x8_o0_2_S128x1⟩,
    ⟨S128x128, mixHead (W 3) X B 384 3 slices_S128x1024_o0_384_S128x128 slices_S128x8_o0_3_S128x1⟩,
    ⟨S128x128, mixHead (W 4) X B 512 4 slices_S128x1024_o0_512_S128x128 slices_S128x8_o0_4_S128x1⟩,
    ⟨S128x128, mixHead (W 5) X B 640 5 slices_S128x1024_o0_640_S128x128 slices_S128x8_o0_5_S128x1⟩,
    ⟨S128x128, mixHead (W 6) X B 768 6 slices_S128x1024_o0_768_S128x128 slices_S128x8_o0_6_S128x1⟩,
    ⟨S128x128, mixHead (W 7) X B 896 7 slices_S128x1024_o0_896_S128x128 slices_S128x8_o0_7_S128x1⟩]
    concatenates_S128x128_S128x128_S128x128_S128x128_S128x128_S128x128_S128x128_S128x128_S128x1024_d1

/-- A chunk's rows, each divided by its root mean square and scaled. -/
noncomputable def rmsRows (Y : FVec Ideal S128x1024 .f32) (g : Vec Ideal S1x1024 .f32) : FVec Ideal S128x1024 .bf16 :=
  truncf .bf16 (mulf (mulf Y (broadcastTo S128x1024
      (rsqrt (addf (divf (shapeCast S128x1 (multiReduction .add [1] S128 (mulf Y Y) 0x00000000#32 reduces_S128x1024_S128 (.inl rfl) rfl) shapeCasts_S128_S128x1)
        (broadcast S128x1 (Scalar.ofBits (F := Ideal) .f32 0x44800000#32))) (broadcast S128x1 (Scalar.ofBits (F := Ideal) .f32 0x358637BD#32))))
      broadcasts_S128x1_S128x1024)) (broadcastTo S128x1024 g broadcasts_S1x1024_S128x1024)) bitsLt_bf16_f32

/-- The whole chunk. -/
noncomputable def chunkOut (u v : FVec Ideal S128x1024 .f32) (lg lb : Vec Ideal S1x1024 .f32) (W : Fin 8 → FVec Ideal S128x128 .f32)
    (B : FVec Ideal S128x8 .f32) (g : Vec Ideal S1x1024 .f32) : FVec Ideal S128x1024 .bf16 :=
  rmsRows (mulf (k0_pay13 u) (heads W (k0_pay14 v lg lb) B)) g

/-! ## Its value -/

variable (x0 : Vec Ideal S8192x4624 .f32) (x1 x2 x5 : Vec Ideal S1x1024 .f32)
  (x3 : Vec Ideal S1x8x128x128 .f32) (x4 : Vec Ideal S1x8x128 .f32) (t : Fin 64)

theorem gelu_u : k0_pay13 (F := Ideal) (chunk t (val_main_v0 (F := Ideal) x0)) = chunk t (val_main_v8 (F := Ideal) x0) := by
  refine ext2 128 1024 fun i j => ?_
  pointwise [k0_pay13, val_main_v8, val_main_v7, val_main_v6, val_main_v5, val_main_v4, val_main_v3, val_main_v2,
    val_main_cst, val_main_cst_0, chunk, neg_mul, Ideal.erfc_neg, Ideal.erf_def]

theorem norm_v : k0_pay14 (F := Ideal) (chunk t (val_main_v1 (F := Ideal) x0)) x1 x2 = chunk t (val_main_v37 (F := Ideal) x0 x1 x2) := by
  refine ext2 128 1024 fun i j => ?_
  pointwise [k0_pay14, val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19, val_main_v18,
    val_main_v15, val_main_v14, val_main_v13, val_main_v12, val_main_v11, val_main_v10, val_main_v9, val_main_cst_1, val_main_cst_2, val_main_cst_3,
    val_main_cst_4, val_main_cst_5, val_main_cst_6, val_main_cst_7, chunk, neg_mul, Ideal.erfc_neg, Ideal.erf_def]

theorem masked (h : Fin 8) (r s : Fin 128) :
    Scalar.select (k0_pay15 (ix2 r s)) (val_main_v16 (F := Ideal) x3 (ix3 h r s)) (0 : EReal) = val_main_v42 (F := Ideal) x3 (ix3 h r s) := by
  pointwise [k0_pay15, val_main_v42, val_main_v41, val_main_v40, val_main_v39, val_main_call1_v0, val_main_c, val_main_call0_v4, val_main_call0_v2, val_main_call0_v0,
    val_main_call0_v1, val_main_call0_c, val_main_call0_v3, val_main_call0_v5, val_main_call0_c_0, val_main_cst_8, pick, IntOp.addi, BitVec.add_zero]

/-- The causal part of one head's mixing matrix. -/
theorem mask_eq (h : Fin 8) : select k0_pay15 (slab h (val_main_v16 (F := Ideal) x3)) (broadcast S128x128 (Scalar.ofBits (F := Ideal) .f32 0x00000000#32))
    = slab h (val_main_v42 (F := Ideal) x3) := by
  refine ext2 128 128 fun r s => ?_
  pointwise [slab]
  exact masked x3 h r s

theorem mixed_at (h : Fin 8) (r d : Fin 128) :
    val_main_v49 (F := Ideal) x0 x1 x2 x3 x4 (ix2 (rowOf t r) (colOf h d))
      = (∑ s : Fin 128, val_main_v42 (F := Ideal) x3 (ix3 h r s) * val_main_v37 (F := Ideal) x0 x1 x2 (ix2 (rowOf t s) (colOf h d)))
        + val_main_v45 (F := Ideal) x4 (ix2 r h) := by
  pointwise [val_main_v49, val_main_v48, val_main_v47, val_main_v46, val_main_v44, val_main_v43, val_main_v38]
  simp only [row_div, row_mod, col_div]
  exact congrArg (· + _) (Finset.sum_congr rfl fun s _ => mul_comm _ _)

theorem head_eq (h : Fin 8) (ho hp) :
    mixHead (slab h (val_main_v16 (F := Ideal) x3)) (chunk t (val_main_v37 (F := Ideal) x0 x1 x2)) (val_main_v45 (F := Ideal) x4) (h.val * 128) h.val ho hp
      = headOf t h (val_main_v49 (F := Ideal) x0 x1 x2 x3 x4) := by
  refine ext2 128 128 fun r d => Eq.trans ?_ (mixed_at x0 x1 x2 x3 x4 t h r d).symm
  unfold mixHead
  rw [mask_eq]
  pointwise [slab, chunk]
  rfl

theorem heads_eq : heads (fun h => slab h (val_main_v16 (F := Ideal) x3)) (chunk t (val_main_v37 (F := Ideal) x0 x1 x2)) (val_main_v45 (F := Ideal) x4)
    = chunk t (val_main_v49 (F := Ideal) x0 x1 x2 x3 x4) := by
  refine Eq.trans ?_ (Cert.Gm.join_heads t _)
  have e (h : Fin 8) (ho hp) := head_eq x0 x1 x2 x3 x4 t h ho hp
  unfold heads
  rw [← e 0 slices_S128x1024_o0_0_S128x128 slices_S128x8_o0_0_S128x1, ← e 1 slices_S128x1024_o0_128_S128x128 slices_S128x8_o0_1_S128x1,
    ← e 2 slices_S128x1024_o0_256_S128x128 slices_S128x8_o0_2_S128x1, ← e 3 slices_S128x1024_o0_384_S128x128 slices_S128x8_o0_3_S128x1,
    ← e 4 slices_S128x1024_o0_512_S128x128 slices_S128x8_o0_4_S128x1, ← e 5 slices_S128x1024_o0_640_S128x128 slices_S128x8_o0_5_S128x1,
    ← e 6 slices_S128x1024_o0_768_S128x128 slices_S128x8_o0_6_S128x1, ← e 7 slices_S128x1024_o0_896_S128x128 slices_S128x8_o0_7_S128x1]
  rfl

theorem chunk_eq : chunkOut (chunk t (val_main_v0 (F := Ideal) x0)) (chunk t (val_main_v1 (F := Ideal) x0)) x1 x2
      (fun h => slab h (val_main_v16 (F := Ideal) x3)) (val_main_v45 (F := Ideal) x4) x5
    = chunk t (val_main_v63 (F := Ideal) x0 x1 x2 x3 x4 x5) := by
  unfold chunkOut
  rw [gelu_u, norm_v, heads_eq]
  refine ext2 128 1024 fun i j => ?_
  pointwise [rmsRows, chunk, val_main_v63, val_main_v62, val_main_v61, val_main_v60, val_main_v59, val_main_v58, val_main_v57, val_main_v56, val_main_v55,
    val_main_v54, val_main_v53, val_main_v52, val_main_v51, val_main_v50, val_main_cst_9, val_main_cst_10, val_main_cst_11]

end Cert.Gf
-- ==== Proof.GfValue.lean ====
/-
  What the spatial-gating forward kernel leaves in its result: at each point four chunks, each the reference's.
-/
module

public import proofs.«01_k».proof.Proof.Gen.Kernel6Ideal.Value
public import proofs.«01_k».proof.Proof.GfPoint
public import Idealize.ShloMosaic.Lib.Pipeline.ValueKit
public import Idealize.ShloMosaic.Lib.StableHlo.RunRead

@[expose] public section

set_option maxRecDepth 16384

namespace Cert.Gf

open Cert.Kernel6Ideal Cert.Kernel6Ideal.Gen
open Cert.Reference6Ideal.Read
open Cert.Gm (ext2 chunk rowOf slab)
open Idealize.ShloMosaic Idealize.ShloMosaic.TcCoe

variable (m : (ℓ : Loc nD τ sig) → Buf (Elt Ideal) ℓ) (c : Dev nD)

/-- Row `r` of the 512 rows of point `t`, and chunk `k` of its four. -/
def fourRow (t : Fin cfg0.N) (r : Fin 512) : Fin 8192 := ⟨t.val * 512 + r.val, by have := Nat.lt_of_lt_of_eq t.isLt N_0; omega⟩
def fourth (t : Fin cfg0.N) (k : Fin 4) : Fin 64 := ⟨t.val * 4 + k.val, by have := Nat.lt_of_lt_of_eq t.isLt N_0; omega⟩

/-- The 512 rows of point `t`. -/
def four {n : ℕ} {e : EltTy} (t : Fin cfg0.N) (X : Vec Ideal ⟨2, ![8192, n]⟩ e) : Vec Ideal ⟨2, ![512, n]⟩ e :=
  fun y => X (ix2 (fourRow t (y 0)) (y 1))

theorem at0 : ∀ t : Fin cfg0.N, win0_0.index t = ![t.val, 0] := (by decide +kernel : ∀ t : Fin grid0.N, _)
theorem at1 : ∀ t : Fin cfg0.N, win0_1.index t = ![t.val, 1] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![t.val, 0] := (by decide +kernel : ∀ t : Fin grid0.N, _)

/-- The columns the kernel reads are the argument's first ones. -/
theorem kept_at (a : Fin 8192) (b : Fin 3200) (hb : b.val < 3072) :
    V m c main_v3 (ix2 a b) = m (c, main_arg0) (ix2 a ⟨b.val, by omega⟩) := by
  unfold V
  after_reads_simp
  pointwise
  rw [dif_pos hb]
  after_reads_simp
  pointwise

theorem V_mixers : V m c main_v4 = val_main_v16 (F := Ideal) (m (c, main_arg3)) := by
  unfold V
  after_reads_simp
  rfl

theorem V_biases : V m c main_v6 = val_main_v45 (F := Ideal) (m (c, main_arg4)) := by
  unfold V
  after_reads_simp
  rfl

theorem block_u (t : Fin cfg0.N) : X0_0 m c t = four t (val_main_v0 (F := Ideal) (m (c, main_arg0))) := by
  refine ext2 512 1024 fun i j => ?_
  unfold X0_0 Pipeline.Window.fill
  rw [dif_pos (moved0_0 t _)]
  blk_simp [iblk, at0]
  refine (congrArg (V m c main_v3) (?_ : _ = ix2 (fourRow t i) ⟨j.val, by omega⟩)).trans ((kept_at m c _ _ (by change j.val < _; omega)).trans ?_)
  · blk_ext [at0, fourRow]
  · unfold four
    pointwise [val_main_v0]

theorem block_v (t : Fin cfg0.N) : X0_1 m c t = four t (val_main_v1 (F := Ideal) (m (c, main_arg0))) := by
  refine ext2 512 1024 fun i j => ?_
  unfold X0_1 Pipeline.Window.fill
  rw [dif_pos (moved0_1 t _)]
  blk_simp [iblk, at1]
  refine (congrArg (V m c main_v3) (?_ : _ = ix2 (fourRow t i) ⟨1024 + j.val, by omega⟩)).trans
    ((kept_at m c _ _ (by change 1024 + j.val < _; omega)).trans ?_)
  · blk_ext [at1, fourRow]
  · unfold four
    pointwise [val_main_v1]

theorem block_g (t : Fin cfg0.N) : iblk m c 2 t = m (c, main_arg1) := by
  funext y
  blk_simp [iblk, at2]
  rw [V_main_arg1]
  congr 1
  blk_ext [at2]

theorem block_b (t : Fin cfg0.N) : iblk m c 3 t = m (c, main_arg2) := by
  funext y
  blk_simp [iblk, at3]
  rw [V_main_arg2]
  congr 1
  blk_ext [at3]

theorem block_w (t : Fin cfg0.N) : iblk m c 4 t = val_main_v16 (F := Ideal) (m (c, main_arg3)) := by
  funext y
  blk_simp [iblk, at4]
  rw [V_mixers]
  congr 1
  blk_ext [at4]

theorem block_bs (t : Fin cfg0.N) : iblk m c 5 t = val_main_v45 (F := Ideal) (m (c, main_arg4)) := by
  funext y
  blk_simp [iblk, at5]
  rw [V_biases]
  congr 1
  blk_ext [at5]

theorem block_og (t : Fin cfg0.N) : iblk m c 6 t = m (c, main_arg5) := by
  funext y
  blk_simp [iblk, at6]
  rw [V_main_arg5]
  congr 1
  blk_ext [at6]

theorem same_chunk (X : FVec Ideal S128x1024 .f32) : shapeCast S128x1024 X shapeCasts_S128x1024_S128x1024 = X := by
  refine ext2 128 1024 fun i j => ?_
  pointwise

theorem same_bias (X : FVec Ideal S128x8 .f32) : shapeCast S128x8 X shapeCasts_S128x8_S128x8 = X := by
  refine ext2 128 8 fun i j => ?_
  pointwise

theorem drop_at (X : Vec Ideal S1x128x128 .f32) (i j : Fin 128) : shapeCast S128x128 X shapeCasts_S1x128x128_S128x128 (ix2 i j) = X (ix3 0 i j) := by
  pointwise

/-- A load of one of the four chunks. -/
theorem load_chunk (t : Fin cfg0.N) (k : Fin 4) (X : Vec Ideal S8192x1024 .f32)
    (inb : ∀ a, (![k.val * 128, 0] : Fin 2 → ℕ) a + S128x1024.size a ≤ S512x1024.size a) :
    shapeCast S128x1024 (View.ld (four t X) (Rect.unit (s := S512x1024) ![k.val * 128, 0] S128x1024.size inb)) shapeCasts_S128x1024_S128x1024 = chunk (fourth t k) X := by
  refine (same_chunk _).trans ?_
  refine ext2 128 1024 fun i j => congrArg X (?_ : ix2 (fourRow t _) _ = ix2 (rowOf (fourth t k) i) j)
  have h0 := Rect.idx_unit_val (s := S512x1024) ![k.val * 128, 0] S128x1024.size inb (ix2 i j) 0
  have h1 := Rect.idx_unit_val (s := S512x1024) ![k.val * 128, 0] S128x1024.size inb (ix2 i j) 1
  refine congrArg₂ ix2 (Fin.ext ?_) (Fin.ext ?_)
  · change t.val * 512 + _ = (t.val * 4 + k.val) * 128 + i.val
    refine (congrArg (t.val * 512 + ·) h0).trans ?_
    change t.val * 512 + (k.val * 128 + i.val) = _
    omega
  · refine h1.trans ?_
    change 0 + j.val = j.val
    omega

/-- The body's load of one head's matrix. -/
theorem load_head (h : Fin 8) (W : Vec Ideal S8x128x128 .f32)
    (inb : ∀ a, (![h.val, 0, 0] : Fin 3 → ℕ) a + S1x128x128.size a ≤ S8x128x128.size a) :
    shapeCast S128x128 (View.ld W (Rect.unit ![h.val, 0, 0] S1x128x128.size inb)) shapeCasts_S1x128x128_S128x128 = slab h W := by
  refine ext2 128 128 fun i j => (drop_at _ i j).trans ?_
  refine congrArg W (?_ : _ = ix3 h i j)
  blk_ext
  all_goals exact (Rect.idx_unit_val _ _ _ _ _).trans (by simp)

/-- The matrices of the eight heads as the body loads them. -/
noncomputable def loaded (W : Vec Ideal S8x128x128 .f32) : Fin 8 → FVec Ideal S128x128 .f32
  | 0 => k0_pay2 (View.ld W (Rect.unit ![0, 0, 0] S1x128x128.size inb_S8x128x128_S1x128x128_0_0_0))
  | 1 => k0_pay3 (View.ld W (Rect.unit ![1, 0, 0] S1x128x128.size inb_S8x128x128_S1x128x128_1_0_0))
  | 2 => k0_pay4 (View.ld W (Rect.unit ![2, 0, 0] S1x128x128.size inb_S8x128x128_S1x128x128_2_0_0))
  | 3 => k0_pay5 (View.ld W (Rect.unit ![3, 0, 0] S1x128x128.size inb_S8x128x128_S1x128x128_3_0_0))
  | 4 => k0_pay6 (View.ld W (Rect.unit ![4, 0, 0] S1x128x128.size inb_S8x128x128_S1x128x128_4_0_0))
  | 5 => k0_pay7 (View.ld W (Rect.unit ![5, 0, 0] S1x128x128.size inb_S8x128x128_S1x128x128_5_0_0))
  | 6 => k0_pay8 (View.ld W (Rect.unit ![6, 0, 0] S1x128x128.size inb_S8x128x128_S1x128x128_6_0_0))
  | 7 => k0_pay9 (View.ld W (Rect.unit ![7, 0, 0] S1x128x128.size inb_S8x128x128_S1x128x128_7_0_0))

theorem loaded_eq (W : Vec Ideal S8x128x128 .f32) : loaded W = fun h => slab h W := by
  funext h
  fin_cases h
  · exact load_head 0 W _
  · exact load_head 1 W _
  · exact load_head 2 W _
  · exact load_head 3 W _
  · exact load_head 4 W _
  · exact load_head 5 W _
  · exact load_head 6 W _
  · exact load_head 7 W _

variable (x0 : Vec Ideal S8192x4624 .f32) (x1 x2 x5 : Vec Ideal S1x1024 .f32)
  (x3 : Vec Ideal S1x8x128x128 .f32) (x4 : Vec Ideal S1x8x128 .f32)

/-- One of the four chunks as the body computes it. -/
theorem body_chunk (t : Fin cfg0.N) (k : Fin 4)
    (inb : ∀ a, (![k.val * 128, 0] : Fin 2 → ℕ) a + S128x1024.size a ≤ S512x1024.size a) :
    chunkOut (k0_pay10 (View.ld (four t (val_main_v0 (F := Ideal) x0)) (Rect.unit (s := S512x1024) ![k.val * 128, 0] S128x1024.size inb)))
        (k0_pay11 (View.ld (four t (val_main_v1 (F := Ideal) x0)) (Rect.unit (s := S512x1024) ![k.val * 128, 0] S128x1024.size inb)))
        x1 x2 (loaded (val_main_v16 (F := Ideal) x3)) (k0_pay12 (val_main_v45 (F := Ideal) x4)) x5
      = chunk (fourth t k) (val_main_v63 (F := Ideal) x0 x1 x2 x3 x4 x5) := by
  rw [← chunk_eq, loaded_eq]
  unfold k0_pay10 k0_pay11 k0_pay12
  rw [load_chunk, load_chunk, same_bias]

/-- A place of a chunk as a place of its point's rows. -/
theorem place (t : Fin cfg0.N) (k : Fin 4) (X : Vec Ideal S8192x1024 .bf16) (i : Fin 512) (j : Fin 1024) (a : Fin 128) (b : Fin 1024)
    (h0 : i.val = k.val * 128 + a.val) (h1 : j.val = b.val) : chunk (fourth t k) X (ix2 a b) = four t X (ix2 i j) := by
  refine congrArg X (congrArg₂ ix2 (Fin.ext ?_) (Fin.ext h1.symm))
  change (t.val * 4 + k.val) * 128 + a.val = t.val * 512 + i.val
  omega

theorem point_eq (t : Fin cfg0.N) : outsAt0 m c t
    = four t (val_main_v63 (F := Ideal) (m (c, main_arg0)) (m (c, main_arg1)) (m (c, main_arg2)) (m (c, main_arg3)) (m (c, main_arg4)) (m (c, main_arg5))) := by
  unfold outsAt0
  frame_out
  simp only [block_u, block_v, block_g, block_b, block_w, block_bs, block_og]
  refine ext2 512 1024 fun i j => ?_
  canon_tiles x h
  all_goals
    obtain ⟨a, b, rfl⟩ : ∃ (a : Fin 128) (b : Fin 1024), x = ix2 a b := ⟨x 0, x 1, eq_ix2 x⟩
  · exact (congrFun (body_chunk _ _ _ _ _ _ t 3 inb_S512x1024_S128x1024_384_0) (ix2 a b)).trans (place t 3 _ i j a b h0 h1)
  · exact (congrFun (body_chunk _ _ _ _ _ _ t 2 inb_S512x1024_S128x1024_256_0) (ix2 a b)).trans (place t 2 _ i j a b h0 h1)
  · exact (congrFun (body_chunk _ _ _ _ _ _ t 1 inb_S512x1024_S128x1024_128_0) (ix2 a b)).trans (place t 1 _ i j a b h0 h1)
  · exact (congrFun (body_chunk _ _ _ _ _ _ t 0 inb_S512x1024_S128x1024_0_0) (ix2 a b)).trans (place t 0 _ i j a b (h0.trans (Nat.zero_add _).symm) h1)

/-- The result. -/
theorem array_ya : (dats m 0 c).arrAt 7 cfg0.N
    = val_main_v63 (F := Ideal) (m (c, main_arg0)) (m (c, main_arg1)) (m (c, main_arg2)) (m (c, main_arg3)) (m (c, main_arg4)) (m (c, main_arg5)) := by
  refine (dats m 0 c).arrAt_eq_of_covers 7 _ (by decide +kernel) fun t hf y => ?_
  blk_simp
  refine (congrFun (after0_7 m c t) _).trans ?_
  rw [point_eq]
  unfold four
  blk_ext [at7, fourRow]

end Cert.Gf
-- ==== Proof.GfClaim.lean ====
/-
  The claims about the spatial-gating forward kernel: its frames, its reference's frame, and that its result is the
  reference's, with no condition on the arguments.
-/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel6Ideal.Value
public import proofs.«01_k».proof.Proof.GfValue
public import Idealize.ShloMosaic.Lib.Claim

@[expose] public section

namespace Cert.Gf

open Idealize.ShloMosaic Idealize.ShloMosaic.TcCoe
open Idealize.SL Idealize.SL.Sem
open Cert.Reference6Ideal.Read

theorem quiescent_kernel : Cert.quiescent_Kernel6 (hKernel6 := Cert.Kernel6.Gen.facts) := fun m ρ _ => Cert.Kernel6.Gen.frame m ρ

theorem quiescent_ideal : Cert.quiescent_Kernel6Ideal (hKernel6Ideal := Cert.Kernel6Ideal.Gen.facts) := fun m ρ _ => Cert.Kernel6Ideal.Gen.frame m ρ

theorem quiescent_reference : Cert.quiescent_Reference6Ideal (hReference6Ideal := Cert.Reference6Ideal.Gen.facts) :=
  fun m ρ _ => (θ_run Cert.Reference6Ideal.defs _ _).mono
    (fun r h => ⟨fun c => (h c).2, sem_eq_zero_of_no_sems (by decide) r.2⟩)
    (Cert.Reference6Ideal.Value.run m ρ)

theorem algebraic : Cert.algebraic_Kernel6Ideal_Reference6Ideal (hKernel6Ideal := Cert.Kernel6Ideal.Gen.facts)
    (hReference6Ideal := Cert.Reference6Ideal.Gen.facts) := by
  intro m g m' g' _ hargs
  refine ⟨_, (θ_run _ _ _).mono (fun r h c => ⟨(h c).1.trans (array_ya m c), (h c).2⟩) (Cert.Kernel6Ideal.Value.run_blocks m g),
    (θ_run Cert.Reference6Ideal.defs _ _).mono (fun r h c => ?_) (Cert.Reference6Ideal.Value.run m' g')⟩
  obtain ⟨a0, a1, a2, a3, a4, a5⟩ := hargs c
  refine ⟨(h c).1.trans ((val_main_v63_eq m' c).trans ?_), (h c).2⟩
  exact congr (congr (congr (congr (congrArg₂ (val_main_v63 (F := Ideal)) a0 a1) a2) a3) a4) a5

end Cert.Gf
end
-- ==== Proof.WgradClaim.lean ====
/-
  The claims about the product that gives a weight matrix's gradient: its frames, its reference's frame, and that its result
  is the reference's, with no condition on the arguments.
-/
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel8Ideal.Value
public import proofs.«01_k».proof.Proof.GmPoint
public import Idealize.ShloMosaic.Lib.Pipeline.ValueKit
public import Idealize.ShloMosaic.Lib.Pipeline.ReadBack
public import Idealize.ShloMosaic.Lib.Claim

@[expose] public section

set_option maxRecDepth 16384

namespace Cert.Wgrad

open Cert.Kernel8Ideal Cert.Kernel8Ideal.Gen
open Cert.Reference8Ideal.Read
open Cert.Gm (ext2)
open Idealize.ShloMosaic Idealize.ShloMosaic.TcCoe
open Idealize.SL Idealize.SL.Sem

/-! ## The sum over the rows, 2048 of them at a time -/

/-- Row `r` of the `k`-th 2048 rows, and column `q` of the `j`-th 1408 columns. -/
def row (k : ℕ) (r : Fin 2048) : Fin 8192 := ⟨k % 4 * 2048 + r.val, by omega⟩
def column (j : ℕ) (q : Fin 1408) : Fin 2816 := ⟨j % 2 * 1408 + q.val, by omega⟩

theorem rows_by_four (f : Fin 8192 → EReal) : ∑ k ∈ Finset.range 4, ∑ r, f (row k r) = ∑ i, f i := by
  rw [Finset.sum_range fun k => ∑ r, f (row k r), ← Fintype.sum_prod_type' fun (k : Fin 4) r => f (row k.val r)]
  refine Fintype.sum_equiv finProdFinEquiv (fun x : Fin 4 × Fin 2048 => f (row x.1.val x.2)) f fun x => congrArg f (Fin.ext ?_)
  show x.1.val % 4 * 2048 + x.2.val = x.2.val + 2048 * x.1.val
  omega

variable (x0 : Vec Ideal S8192x1024 .bf16) (x1 : Vec Ideal S8192x2816 .bf16)

/-- What the `k`-th 2048 rows add to a place of the `j`-th half. -/
noncomputable def part (j : ℕ) (p : Fin 1024) (q : Fin 1408) (k : ℕ) : EReal := ∑ r, x0 (ix2 (row k r) p) * x1 (ix2 (row k r) (column j q))

theorem product_at (j : ℕ) (p : Fin 1024) (q : Fin 1408) :
    val_main_v6 (F := Ideal) x0 x1 (ix2 (column j q) p) = ∑ k ∈ Finset.range 4, part x0 x1 j p q k := by
  refine Eq.trans ?_ (rows_by_four fun i => x0 (ix2 i p) * x1 (ix2 i (column j q))).symm
  pointwise [val_main_v6, val_main_v5, val_main_v4, val_main_v3]
  exact Finset.sum_congr rfl fun i _ => mul_comm _ _

/-! ## The points -/

variable (m : (ℓ : Loc nD τ sig) → Buf (Elt Ideal) ℓ) (c : Dev nD)

theorem at0 : ∀ t : Fin cfg0.N, win0_0.index t = ![t.val % 4, 0] := (by decide +kernel : ∀ t : Fin grid0.N, _)
theorem at1 : ∀ t : Fin cfg0.N, win0_1.index t = ![t.val % 4, t.val / 4 % 2] := (by decide +kernel : ∀ t : Fin grid0.N, _)
theorem at2 : ∀ t : Fin cfg0.N, win0_2.index t = ![t.val / 4 % 2, 0] := (by decide +kernel : ∀ t : Fin grid0.N, _)
theorem last : ∀ t : Fin cfg0.N, win0_2.flush t = true → t.val % 4 = 3 := (by decide +kernel : ∀ t : Fin grid0.N, _)

theorem block_n (t : Fin cfg0.N) (r : Fin 2048) (p : Fin 1024) : iblk m c 0 t (ix2 r p) = m (c, main_arg0) (ix2 (row t.val r) p) := by
  blk_simp [iblk, at0]
  rw [V_main_arg0]
  congr 1
  blk_ext [at0, row]

theorem block_da (t : Fin cfg0.N) (r : Fin 2048) (q : Fin 1408) : iblk m c 1 t (ix2 r q) = m (c, main_arg1) (ix2 (row t.val r) (column (t.val / 4) q)) := by
  blk_simp [iblk, at1]
  rw [V_main_arg1]
  congr 1
  blk_ext [at1, row, column]

/-- A point adds its rows' part to what the block holds. -/
theorem added (t : Fin cfg0.N) (A : Vec Ideal S1024x1408 .f32) (p : Fin 1024) (q : Fin 1408) :
    k0_pay2 (F := Ideal) (iblk m c 1 t) A (iblk m c 0 t) (ix2 p q) = A (ix2 p q) + part (m (c, main_arg0)) (m (c, main_arg1)) (t.val / 4) p q t.val := by
  unfold part
  pointwise [k0_pay2]
  simp only [block_n, block_da]

theorem part_mod (j : ℕ) (p : Fin 1024) (q : Fin 1408) (k : ℕ) : part x0 x1 j p q (k % 4) = part x0 x1 j p q k := by
  simp only [part, row, Nat.mod_mod]

theorem empty_at (p : Fin 1024) (q : Fin 1408) : k0_pay1 (F := Ideal) (ix2 p q) = (0 : EReal) := by
  pointwise [k0_pay1]

/-- What the block holds after a point: the parts of the rows so far. -/
theorem held : ∀ (n : ℕ) (hn : n < cfg0.N) (p : Fin 1024) (q : Fin 1408),
    (outsAt0 m c n hn).2 (ix2 p q) = ∑ k ∈ Finset.range (n % 4 + 1), part (m (c, main_arg0)) (m (c, main_arg1)) (n / 4) p q k := by
  intro n
  induction n with
  | zero =>
    intro hn p q
    rw [outsAt0_A m c ⟨0, hn⟩ rfl (by show ¬ 0 % 4 = 3; omega)]
    dsimp only
    frame_out
    rw [added, empty_at, zero_add]
    exact (Finset.sum_range_one _).symm
  | succ n ih =>
    intro hn p q
    rw [Finset.sum_range_succ, part_mod]
    by_cases h0 : (n + 1) % 4 = 0
    · rw [show ∑ k ∈ Finset.range ((n + 1) % 4), part (m (c, main_arg0)) (m (c, main_arg1)) ((n + 1) / 4) p q k = 0 by rw [h0]; rfl,
        outsAt0_A m c ⟨n + 1, hn⟩ h0 (by show ¬ (n + 1) % 4 = 3; omega)]
      dsimp only
      frame_out
      rw [added, empty_at]
    · have e : (n + 1) % 4 = n % 4 + 1 := by omega
      have d : (n + 1) / 4 = n / 4 := by omega
      rw [e, d, ← ih (by omega) p q, ← d]
      by_cases h1 : (n + 1) % 4 = 3
      · rw [outsAt0_C m c ⟨n + 1, hn⟩ h0 h1]
        dsimp only
        frame_out
        rw [read_unread_whole]
        exact added m c ⟨n + 1, hn⟩ _ p q
      · rw [outsAt0_B m c ⟨n + 1, hn⟩ h0 h1]
        dsimp only
        frame_out
        rw [read_unread_whole]
        exact added m c ⟨n + 1, hn⟩ _ p q

/-- The result. -/
theorem array_dw : (dats m 0 c).arrAt 2 cfg0.N = val_main_v6 (F := Ideal) (m (c, main_arg0)) (m (c, main_arg1)) := by
  refine (dats m 0 c).arrAt_eq_of_covers 2 _ (by decide +kernel) fun t hf y => ?_
  have h := last t hf
  blk_simp
  refine (congrFun (after0_2 m c t) _).trans ?_
  have e : (outsAt0 m c t.val t.isLt).1 = k0_pay3 (outsAt0 m c t.val t.isLt).2 := by
    rw [outsAt0_C m c t (by omega) h]
    dsimp only
    frame_out
  obtain ⟨q, p, rfl⟩ : ∃ (q : Fin 1408) (p : Fin 1024), y = ix2 q p := ⟨y 0, y 1, eq_ix2 y⟩
  rw [e]
  have k : k0_pay3 (F := Ideal) (outsAt0 m c t.val t.isLt).2 (ix2 q p) = (outsAt0 m c t.val t.isLt).2 (ix2 p q) := by
    pointwise [k0_pay3]
  refine k.trans ((held m c t.val t.isLt p q).trans ?_)
  rw [h, ← product_at]
  congr 1
  blk_ext [at2, column]

theorem quiescent_kernel : Cert.quiescent_Kernel8 (hKernel8 := Cert.Kernel8.Gen.facts) := fun m ρ _ => Cert.Kernel8.Gen.frame m ρ

theorem quiescent_ideal : Cert.quiescent_Kernel8Ideal (hKernel8Ideal := Cert.Kernel8Ideal.Gen.facts) := fun m ρ _ => Cert.Kernel8Ideal.Gen.frame m ρ

theorem quiescent_reference : Cert.quiescent_Reference8Ideal (hReference8Ideal := Cert.Reference8Ideal.Gen.facts) :=
  fun m ρ _ => (θ_run Cert.Reference8Ideal.defs _ _).mono
    (fun r h => ⟨fun c => (h c).2, sem_eq_zero_of_no_sems (by decide) r.2⟩)
    (Cert.Reference8Ideal.Value.run m ρ)

theorem algebraic : Cert.algebraic_Kernel8Ideal_Reference8Ideal (hKernel8Ideal := Cert.Kernel8Ideal.Gen.facts)
    (hReference8Ideal := Cert.Reference8Ideal.Gen.facts) := by
  intro m g m' g' _ hargs
  refine ⟨_, (θ_run _ _ _).mono (fun r h c => ⟨(h c).1.trans (array_dw m c), (h c).2⟩) (Cert.Kernel8Ideal.Value.run_blocks m g),
    (θ_run Cert.Reference8Ideal.defs _ _).mono (fun r h c => ?_) (Cert.Reference8Ideal.Value.run m' g')⟩
  obtain ⟨a0, a1⟩ := hargs c
  exact ⟨(h c).1.trans ((val_main_v6_eq _ _).trans (congrArg₂ (val_main_v6 (F := Ideal)) a0 a1)), (h c).2⟩

end Cert.Wgrad
end
-- ==== Proof.AdamClaim.lean ====
/-
  The claims about the optimiser's step: its frames, its reference's frame, and that its four results are the reference's,
  with no condition on the arguments.
-/
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gen.Kernel9Ideal.Value
public import proofs.«01_k».proof.Proof.GmPoint
public import Idealize.ShloMosaic.Lib.Claim

@[expose] public section

set_option maxRecDepth 16384

namespace Cert.Adam

open Cert.Kernel9Ideal Cert.Kernel9Ideal.Gen
open Cert.Reference9Ideal.Read
open Cert.Gm (ext2)
open Idealize.ShloMosaic Idealize.ShloMosaic.TcCoe
open Idealize.SL Idealize.SL.Sem

section Results

variable (x0 : Vec Ideal S8x144x1024 .f32) (x1 x2 x3 : Vec Ideal S144x1024 .f32)

/-- The reference's sum of the eight parts, at a place. -/
theorem sum_at (i : Fin 144) (j : Fin 1024) : val_main_v0 (F := Ideal) x0 (ix2 i j) = ∑ p : Fin 8, x0 (ix3 p i j) := by
  pointwise [val_main_v0, val_main_cst]

/-- The kernel adds the eight parts one after another. -/
theorem slabs_at (i : Fin 144) (j : Fin 1024) : k0_pay5 (F := Ideal) x0 x1 x2 x3 (ix2 i j) = ∑ p : Fin 8, x0 (ix3 p i j) := by
  rw [Fin.sum_univ_eight]
  pointwise [k0_pay5, k0_pay3, r0_0, r0_1, r0_2, r0_3, r0_4, r0_5, r0_6, r0_7]

theorem sum_eq : k0_pay5 (F := Ideal) x0 x1 x2 x3 = val_main_v0 (F := Ideal) x0 :=
  ext2 144 1024 fun i j => (slabs_at x0 x1 x2 x3 i j).trans (sum_at x0 i j).symm

/-- The first moment is the decayed one and the sum's share. -/
theorem moment_sum : k0_pay6 (F := Ideal) x0 x1 x2 x3
    = addf (mulf (broadcast S144x1024 (Scalar.ofBits (F := Ideal) .f32 0x3F666666#32)) x2)
        (mulf (broadcast S144x1024 (Scalar.ofBits (F := Ideal) .f32 0x3DCCCCCD#32)) (k0_pay5 x0 x1 x2 x3)) := by
  unfold k0_pay6 k0_pay4 k0_pay5
  rw [View.ld_unit_zero (funext fun a => by fin_cases a <;> rfl)]

theorem mean_eq : k0_pay6 (F := Ideal) x0 x1 x2 x3 = val_main_v5 (F := Ideal) x0 x2 := by
  rw [moment_sum, sum_eq]
  refine ext2 144 1024 fun i j => ?_
  pointwise [val_main_v5, val_main_v2, val_main_v4, val_main_v1, val_main_v3, val_main_cst_0, val_main_cst_1]

theorem square_eq : k0_pay1 (F := Ideal) (val_main_v0 (F := Ideal) x0) x3 = val_main_v11 (F := Ideal) x0 x3 := by
  refine ext2 144 1024 fun i j => ?_
  pointwise [k0_pay1, val_main_v11, val_main_v7, val_main_v10, val_main_v8, val_main_v6, val_main_v9, val_main_cst_2, val_main_cst_3]

/-- What is added to the parameters, from the two moments. -/
theorem delta_eq : k0_pay2 (F := Ideal) (val_main_v0 (F := Ideal) x0) (val_main_v5 (F := Ideal) x0 x2) x3 x1 = val_main_v24 (F := Ideal) x0 x1 x2 x3 := by
  unfold k0_pay2
  rw [square_eq]
  refine ext2 144 1024 fun i j => ?_
  pointwise [val_main_v24, val_main_v23, val_main_v22, val_main_v21, val_main_v20, val_main_v19, val_main_v18, val_main_v17, val_main_v16, val_main_v15, val_main_v14, val_main_v13, val_main_v12,
    val_main_cst_4, val_main_cst_5, val_main_cst_6, val_main_cst_7, val_main_cst_8]

theorem delta_all : Cert.Kernel9Ideal.Value.G5 (F := Ideal) x0 x1 x2 x3 = val_main_v24 (F := Ideal) x0 x1 x2 x3 := by
  unfold Cert.Kernel9Ideal.Value.G5
  rw [sum_eq, mean_eq, delta_eq]

theorem square_all : Cert.Kernel9Ideal.Value.G7 (F := Ideal) x0 x1 x2 x3 = val_main_v11 (F := Ideal) x0 x3 := by
  unfold Cert.Kernel9Ideal.Value.G7
  rw [sum_eq, square_eq]

end Results

theorem quiescent_kernel : Cert.quiescent_Kernel9 (hKernel9 := Cert.Kernel9.Gen.facts) := fun m ρ _ => Cert.Kernel9.Gen.frame m ρ

theorem quiescent_ideal : Cert.quiescent_Kernel9Ideal (hKernel9Ideal := Cert.Kernel9Ideal.Gen.facts) := fun m ρ _ => Cert.Kernel9Ideal.Gen.frame m ρ

theorem quiescent_reference : Cert.quiescent_Reference9Ideal (hReference9Ideal := Cert.Reference9Ideal.Gen.facts) :=
  fun m ρ _ => (θ_run Cert.Reference9Ideal.defs _ _).mono
    (fun r h => ⟨fun c => (h c).2.2.2.2, sem_eq_zero_of_no_sems (by decide) r.2⟩)
    (Cert.Reference9Ideal.Value.run m ρ)

theorem algebraic : Cert.algebraic_Kernel9Ideal_Reference9Ideal (hKernel9Ideal := Cert.Kernel9Ideal.Gen.facts)
    (hReference9Ideal := Cert.Reference9Ideal.Gen.facts) := by
  intro m g m' g' _ hargs
  refine ⟨_, _, _, _, (θ_run _ _ _).mono (fun r h c => ⟨(h c).1.trans (sum_eq _ _ _ _), (h c).2.1.trans (delta_all _ _ _ _),
      (h c).2.2.1.trans (mean_eq _ _ _ _), (h c).2.2.2.1.trans (square_all _ _ _ _), (h c).2.2.2.2⟩) (Cert.Kernel9Ideal.Value.run m g),
    (θ_run Cert.Reference9Ideal.defs _ _).mono (fun r h c => ?_) (Cert.Reference9Ideal.Value.run m' g')⟩
  obtain ⟨r0, r1, r2, r3, rest⟩ := h c
  obtain ⟨a0, a1, a2, a3⟩ := hargs c
  refine ⟨r0.trans ((val_main_v0_eq _).trans ?_), r1.trans ((val_main_v24_eq _ _ _ _).trans ?_), r2.trans ((val_main_v5_eq _ _).trans ?_),
    r3.trans ((val_main_v11_eq _ _).trans ?_), rest⟩
  · rw [a0]
  · rw [a0, a1, a2, a3]
  · rw [a0, a2]
  · rw [a0, a3]

end Cert.Adam
end
-- ==== Proof.FwdRun.lean ====
/-
  One grid point of the feed-forward forward kernel. The first point copies the three weight arrays into scratch memory;
  after that the body is that of every other point, and what it leaves in its five outputs is written out as functions of
  the blocks it reads.
-/
module

public import proofs.«01_k».proof.Proof.Gen.Kernel10Ideal.Frame.Runs
public import proofs.«01_k».proof.Proof.Staged

@[expose] public section

set_option maxRecDepth 16384

noncomputable section

namespace Cert.Fwd

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- Core `c` owns the whole buffer `a`, which holds `v`. -/
abbrev has (c : Dev nD) {sp : Space} {S : Shape} {e : EltTy} (a : Memref sig .tc sp S e) (v : S.Idx → Elt F e) : sProp 𝕄 := owns (c : Thread nD τ) a fullShare v

/-- The body with the arrays in main memory, the scratch memory and the semaphores it is always called with. -/
abbrev body (i : grid0.Coords) (a1 : Memref sig .tc .vmem S256x1024 .f32) (h1 : a1.IsWhole) (a2 : Memref sig .tc .vmem S1x1024 .f32) (h2 : a2.IsWhole)
    (a6 : Memref sig .tc .vmem S256x1024 .f32) (h6 : a6.IsWhole) (a7 : Memref sig .tc .vmem S256x1024 .bf16) (h7 : a7.IsWhole) (a8 : Memref sig .tc .vmem S256x2816 .bf16) (h8 : a8.IsWhole)
    (a9 : Memref sig .tc .vmem S256x2816 .bf16) (h9 : a9.IsWhole) (a10 : Memref sig .tc .vmem S256x2816 .bf16) (h10 : a10.IsWhole) : Prog (TpuEff nD τ sig (Elt F) Λ₀ .tc) PUnit :=
  cc0_ffn1_fwd i a1 h1 a2 h2 (Memref.whole main_v1) (Memref.isWhole_whole _) (Memref.whole main_v3) (Memref.isWhole_whole _) (Memref.whole main_v4) (Memref.isWhole_whole _)
    a6 h6 a7 h7 a8 h8 a9 h9 a10 h10 scM0_0 (Memref.isWhole_whole _) scM0_1 (Memref.isWhole_whole _) scM0_2 (Memref.isWhole_whole _) cc0_scratch3

/-- The semaphore of copy `q`. -/
abbrev sem (q : ℕ) (h : ∀ a, ![q] a + S1.size a ≤ S3.size a) : DmaSem sig := ((cc0_scratch3.slice (Rect.unit (s := S3) ![q] S1.size h)).squeeze S_ squeezes_S1_S_).sem

/-- What the first point does before the computation: the three copies are started and waited for. -/
def stage : Prog (TpuEff nD τ sig (Elt F) Λ₀ .tc) PUnit := do
  Prog.lift (.enqueueDma hbM0_0 (.here scM0_0) (.dma (sem 0 inb_S3_S1_0)) (Memref.isWhole_whole _).wordExact (Memref.isWhole_whole _).wordExact ⟨Or.inl rfl, trivial⟩)
  Prog.lift (.enqueueDma hbM0_1 (.here scM0_1) (.dma (sem 1 inb_S3_S1_1)) (Memref.isWhole_whole _).wordExact (Memref.isWhole_whole _).wordExact ⟨Or.inl rfl, trivial⟩)
  Prog.lift (.enqueueDma hbM0_2 (.here scM0_2) (.dma (sem 2 inb_S3_S1_2)) (Memref.isWhole_whole _).wordExact (Memref.isWhole_whole _).wordExact ⟨Or.inl rfl, trivial⟩)
  Prog.lift (.waitDma2 (sem 0 inb_S3_S1_0) hbM0_0 scM0_0 (Memref.isWhole_whole _).wordExact (Memref.isWhole_whole _).wordExact)
  Prog.lift (.waitDma2 (sem 1 inb_S3_S1_1) hbM0_1 scM0_1 (Memref.isWhole_whole _).wordExact (Memref.isWhole_whole _).wordExact)
  Prog.lift (.waitDma2 (sem 2 inb_S3_S1_2) hbM0_2 scM0_2 (Memref.isWhole_whole _).wordExact (Memref.isWhole_whole _).wordExact)

/-- The three scratch arrays, holding three given arrays. -/
def scratch (c : Dev nD) (wg wu wd : Vec F S2816x1024 .bf16) : sProp 𝕄 :=
  iprop(has c scM0_0 wg ∗ has c scM0_1 wu ∗ has c scM0_2 wd)

/-- The semaphores at zero, and the three arrays in main memory. -/
def source (c : Dev nD) (wg : HbBuf0 (F := F) c hbM0_0) (wu : HbBuf0 (F := F) c hbM0_1) (wd : HbBuf0 (F := F) c hbM0_2) : sProp 𝕄 :=
  iprop(iprop(semVal ((c : Thread nD τ), SemLoc.dma 13) 0 ∗ semVal ((c : Thread nD τ), SemLoc.dma 14) 0 ∗ semVal ((c : Thread nD τ), SemLoc.dma 15) 0)
    ∗ iprop(hbPt0 c hbM0_0 wg ∗ hbPt0 c hbM0_1 wu ∗ hbPt0 c hbM0_2 wd))

set_option sl_exec.dmaWindow true in
set_option sl_exec.dmaWindowSet true in
set_option maxHeartbeats 1600000 in
/-- The staging leaves the weights in scratch memory. -/
theorem stage_run (c : Dev nD) (wg : HbBuf0 (F := F) c hbM0_0) (wu : HbBuf0 (F := F) c hbM0_1) (wd : HbBuf0 (F := F) c hbM0_2) (W : Waits sig Unit) (K : PUnit → sProp 𝕄) :
    iprop(iprop((∃ d, has c scM0_0 d) ∗ (∃ d, has c scM0_1 d) ∗ (∃ d, has c scM0_2 d))
        ∗ source c wg wu wd ∗ owes (c : Thread nD τ) 0 W
        ∗ (iprop(scratch c wg wu wd ∗ source c wg wu wd ∗ (∃ W', owes (c : Thread nD τ) 0 W')) -∗ K ⟨⟩))
      ⊢ wp frame (wpE (defs₀ (F := F)) Variants.none c none) Set.univ stage K := by
  unfold stage source scratch has owns
  iintro ⟨⟨⟨%d0, %f0, -, S0⟩, ⟨%d1, %f1, -, S1⟩, ⟨%d2, %f2, -, S2⟩⟩, ⟨⟨Q0, Q1, Q2⟩, G0, G1, G2⟩, HW, Hk⟩
  sl_exec
  sl_step
  iapply Hk
  isplitl [S0 S1 S2]
  · isplitl [S0]
    · iexists _; isplitr
      swap; · iexact S0
      ipureintro
      exact (read_whole scM0_0.view f0 (off := fun _ => 0) rfl (fun a => (Nat.zero_add _).le) _).trans rfl
    isplitl [S1]
    · iexists _; isplitr
      swap; · iexact S1
      ipureintro
      exact (read_whole scM0_1.view f1 (off := fun _ => 0) rfl (fun a => (Nat.zero_add _).le) _).trans rfl
    · iexists _; isplitr
      swap; · iexact S2
      ipureintro
      exact (read_whole scM0_2.view f2 (off := fun _ => 0) rfl (fun a => (Nat.zero_add _).le) _).trans rfl
  isplitl [Q0 Q1 Q2 G0 G1 G2]
  · isplitl [Q0 Q1 Q2]
    · isplitl [Q0]; · iexact Q0
      isplitl [Q1]; · iexact Q1
      iexact Q2
    isplitl [G0]; · iexact G0
    isplitl [G1]; · iexact G1
    iexact G2
  iexists _; iexact HW

/-! ## The two blocks of columns -/

abbrev cols0 : Rect S256x2816 := Rect.unit (s := S256x2816) ![0, 0] S256x1536.size inb_S256x2816_S256x1536_0_0
abbrev cols1 : Rect S256x2816 := Rect.unit (s := S256x2816) ![0, 1536] S256x1280.size inb_S256x2816_S256x1280_0_1536
/-- Their weights. -/
def rows0 (w : Vec F S2816x1024 .bf16) : Vec F S1536x1024 .bf16 := View.ld w (Rect.unit (s := S2816x1024) ![0, 0] S1536x1024.size inb_S2816x1024_S1536x1024_0_0)
def rows1 (w : Vec F S2816x1024 .bf16) : Vec F S1280x1024 .bf16 := View.ld w (Rect.unit (s := S2816x1024) ![1536, 0] S1280x1024.size inb_S2816x1024_S1280x1024_1536_0)

/-- Two column blocks side by side, and that they cover the array. -/
def side (p1 : Vec F S256x1280 .bf16) (p0 : Vec F S256x1536 .bf16) : Vec F S256x2816 .bf16 := View.canon [⟨cols1, p1⟩, ⟨cols0, p0⟩]

theorem read_side (v : View sig .tc .vmem S256x2816 .bf16) (f : v.ty.Contents (Elt F)) (p1 : Vec F S256x1280 .bf16) (p0 : Vec F S256x1536 .bf16) :
    v.read (Elt F) (v.writes (Elt F) f [⟨cols1, p1⟩, ⟨cols0, p0⟩]) = side p1 p0 :=
  View.read_writes_eq_canon _ _ _ fun y => View.cover_of_tiledBy [⟨cols1, p1⟩, ⟨cols0, p0⟩] ![256, 256] (by sl_kernel_rfl) y

section Values

variable (h : Vec F S256x1024 .f32) (g : Vec F S1x1024 .f32) (wg wu wd : Vec F S2816x1024 .bf16)

/-- The product with one weight array, -/
def outA : Vec F S256x2816 .bf16 := side (k0_pay4 (k0_pay7 h g) (rows1 wg)) (k0_pay12 h g (rows0 wg))
/-- with the other, -/
def outB : Vec F S256x2816 .bf16 := side (k0_pay5 (k0_pay7 h g) (rows1 wu)) (k0_pay13 h g (rows0 wu))
/-- the gated product, -/
def outS : Vec F S256x2816 .bf16 := side (k0_pay3 (k0_pay7 h g) (rows1 wg) (rows1 wu)) (k0_pay11 h g (rows0 wg) (rows0 wu))
/-- and the block of the layer's output. -/
def outO : Vec F S256x1024 .f32 := k0_pay6 h (k0_pay7 h g) k0_pay8 (k0_pay11 h g (rows0 wg) (rows0 wu)) (rows0 wd) (rows1 wg) (rows1 wu) (rows1 wd)

end Values

section Program

variable (c : Dev nD) (i j : grid0.Coords) (a1 : Memref sig .tc .vmem S256x1024 .f32) (h1 : a1.IsWhole) (a2 : Memref sig .tc .vmem S1x1024 .f32) (h2 : a2.IsWhole)
    (a6 : Memref sig .tc .vmem S256x1024 .f32) (h6 : a6.IsWhole) (a7 : Memref sig .tc .vmem S256x1024 .bf16) (h7 : a7.IsWhole) (a8 : Memref sig .tc .vmem S256x2816 .bf16) (h8 : a8.IsWhole)
    (a9 : Memref sig .tc .vmem S256x2816 .bf16) (h9 : a9.IsWhole) (a10 : Memref sig .tc .vmem S256x2816 .bf16) (h10 : a10.IsWhole)

/-- At the first point the body is the staging followed by the body of any other point. -/
theorem body_first (hi : cond0_0 i) (hj : ¬cond0_0 j) :
    body (F := F) i a1 h1 a2 h2 a6 h6 a7 h7 a8 h8 a9 h9 a10 h10 = stage >>= fun _ => body j a1 h1 a2 h2 a6 h6 a7 h7 a8 h8 a9 h9 a10 h10 := by
  simp only [body, cc0_ffn1_fwd_eq_skeleton]; unfold cc0_ffn1_fwd_skel
  simp only [k0_part1_eq_skeleton]; unfold k0_part1_skel
  dsimp only
  rw [dif_pos hi, dif_neg hj]
  rfl

set_option maxHeartbeats 1600000 in
/-- The body at a point where nothing is staged: it leaves the five outputs at the functions above and everything it reads
    as it was. -/
theorem point_run (hi : ¬cond0_0 i) (h : Vec F S256x1024 .f32) (g : Vec F S1x1024 .f32) (wg wu wd : Vec F S2816x1024 .bf16) (K : PUnit → sProp 𝕄) :
    iprop(has c a1 h ∗ has c a2 g ∗ scratch c wg wu wd
        ∗ (∃ d, has c a6 d) ∗ (∃ d, has c a7 d) ∗ (∃ d, has c a8 d)
        ∗ (∃ d, has c a9 d) ∗ (∃ d, has c a10 d)
        ∗ (iprop(has c a1 h ∗ has c a2 g ∗ scratch c wg wu wd
            ∗ has c a6 (outO h g wg wu wd) ∗ has c a7 (k0_pay7 h g) ∗ has c a8 (outA h g wg)
            ∗ has c a9 (outB h g wu) ∗ has c a10 (outS h g wg wu)) -∗ K ⟨⟩))
      ⊢ wp frame (wpE (defs₀ (F := F)) Variants.none c none) Set.univ (body i a1 h1 a2 h2 a6 h6 a7 h7 a8 h8 a9 h9 a10 h10) K := by
  simp only [body, cc0_ffn1_fwd_eq_skeleton]; unfold cc0_ffn1_fwd_skel
  simp only [k0_part1_eq_skeleton]
  unfold scratch has owns
  iintro ⟨⟨%f1, %e1, H1⟩, ⟨%f2, %e2, H2⟩, ⟨⟨%s0, %e3, S0⟩, ⟨%s1, %e4, S1⟩, ⟨%s2, %e5, S2⟩⟩, ⟨%d6, %f6, -, H6⟩, ⟨%d7, %f7, -, H7⟩, ⟨%d8, %f8, -, H8⟩, ⟨%d9, %f9, -, H9⟩, ⟨%d10, %f10, -, H10⟩, Hk⟩
  subst e3 e4 e5
  obtain rfl := h1.eq_unread e1; obtain rfl := h2.eq_unread e2
  sl_exec (disch := first | sl_exact hi)
  sl_step
  iapply Hk
  isplitl [H1]; rotate_left
  isplitl [H2]; rotate_left
  isplitl [S0 S1 S2]
  · isplitl [S0]; rotate_left; isplitl [S1]; rotate_left
    all_goals iexists _; isplitr; rotate_left; iassumption; ipureintro; rfl
  isplitl [H6]; rotate_left
  isplitl [H7]; rotate_left
  isplitl [H8]; rotate_left
  isplitl [H9]; rotate_left
  all_goals
    iexists _; isplitr
    swap; · iassumption
    ipureintro
  all_goals first | with_reducible exact Memref.IsWhole.read_unread ‹_› _ | refine (read_whole _ _ zero2 _ _).trans ?_ | refine (read_side _ _ _ _).trans ?_
  all_goals
    sl_unfold_words
    simp only [outO, outA, outB, outS, rows0, rows1, View.readAt_eq_ld, h1.read_unread, h2.read_unread, View.ld_unit_zero (S := S256x1024) zero2, View.ld_unit_zero (S := S1x1024) zero2]

end Program

end Cert.Fwd
end
-- ==== Proof.FwdFrame.lean ====
/-
  The whole run of the feed-forward forward kernel: the invariant between grid points (the weights stay in scratch memory),
  the body's obligation at every point, and that the arguments end unchanged.
-/
module

public import proofs.«01_k».proof.Proof.FwdRun
public import Idealize.ShloMosaic.Lib.Claim

@[expose] public section

set_option maxRecDepth 16384

noncomputable section

namespace Cert.Fwd

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD) (t : Fin cfg0.N)

/-! ## The invariant and the proof data -/

/-- The three weight arrays as the kernel is handed them. -/
def gateW : Vec F S2816x1024 .bf16 := V m c main_v1
def upW : Vec F S2816x1024 .bf16 := V m c main_v3
def downW : Vec F S2816x1024 .bf16 := V m c main_v4

/-- The parts of the invariant that no point changes: the generator's register, the semaphores at zero, the weights in main
    memory. -/
def rest : sProp 𝕄 := iprop((∃ r, prngReg c r) ∗ source c (gateW m c) (upW m c) (downW m c))

theorem launch_eq : (Pipeline.ΦD osem0 spec0 H0 (V m) c : sProp 𝕄)
    = iprop(iprop((∃ d, has c scM0_0 d) ∗ (∃ d, has c scM0_1 d) ∗ (∃ d, has c scM0_2 d)) ∗ rest m c) := by
  rw [PhiD0_eq]; rfl

/-- Before the first point the scratch memory holds anything, later the weights. -/
def inv : ℕ → sProp 𝕄
  | 0 => Pipeline.ΦD osem0 spec0 H0 (V m) c
  | _ + 1 => iprop(scratch c (gateW m c) (upW m c) (downW m c) ∗ rest m c)

theorem inv_pos (n : ℕ) (h : n ≠ 0) : inv m c n = iprop(scratch c (gateW m c) (upW m c) (downW m c) ∗ rest m c) := by
  cases n with
  | zero => exact absurd rfl h
  | succ n => rfl

/-- The proof data of the pipeline: the inputs' blocks stay, the outputs are the functions of one point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outO (iblk m c 0 t) (iblk m c 1 t) (gateW m c) (upW m c) (downW m c)
    | ⟨3, _⟩ => k0_pay7 (iblk m c 0 t) (iblk m c 1 t)
    | ⟨4, _⟩ => outA (iblk m c 0 t) (iblk m c 1 t) (gateW m c)
    | ⟨5, _⟩ => outB (iblk m c 0 t) (iblk m c 1 t) (upW m c)
    | ⟨6, _⟩ => outS (iblk m c 0 t) (iblk m c 1 t) (gateW m c) (upW m c)
  Φ t := inv m c t.val
  q _ := fullShare
  owed _ := 0

theorem A_eq (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = outO (iblk m c 0 t) (iblk m c 1 t) (gateW m c) (upW m c) (downW m c) := by dsimp only [dats]
theorem after_3 : (dats m 0 c).after 3 t = k0_pay7 (iblk m c 0 t) (iblk m c 1 t) := by dsimp only [dats]
theorem after_4 : (dats m 0 c).after 4 t = outA (iblk m c 0 t) (iblk m c 1 t) (gateW m c) := by dsimp only [dats]
theorem after_5 : (dats m 0 c).after 5 t = outB (iblk m c 0 t) (iblk m c 1 t) (upW m c) := by dsimp only [dats]
theorem after_6 : (dats m 0 c).after 6 t = outS (iblk m c 0 t) (iblk m c 1 t) (gateW m c) (upW m c) := by dsimp only [dats]

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d

/-! ## One point -/

/-- What the windows hold when the body is called at point `t`, -/
def windows : sProp 𝕄 :=
  iprop((∃ d, has c (ms0_0 t) ((dats m 0 c).before 0 t d))
    ∗ (∃ d, has c (ms0_1 t) ((dats m 0 c).before 1 t d))
    ∗ (∃ d, has c (ms0_2 t) ((dats m 0 c).before 2 t d))
    ∗ (∃ d, has c (ms0_3 t) ((dats m 0 c).before 3 t d))
    ∗ (∃ d, has c (ms0_4 t) ((dats m 0 c).before 4 t d))
    ∗ (∃ d, has c (ms0_5 t) ((dats m 0 c).before 5 t d))
    ∗ (∃ d, has c (ms0_6 t) ((dats m 0 c).before 6 t d)))

/-- and what it returns. -/
def post : sProp 𝕄 :=
  iprop((dats m 0 c).Φ t.succ ∗ (dats m 0 c).owesAt () t.succ
    ∗ has c (ms0_0 t) ((dats m 0 c).after 0 t)
    ∗ has c (ms0_1 t) ((dats m 0 c).after 1 t)
    ∗ has c (ms0_2 t) ((dats m 0 c).after 2 t)
    ∗ has c (ms0_3 t) ((dats m 0 c).after 3 t)
    ∗ has c (ms0_4 t) ((dats m 0 c).after 4 t)
    ∗ has c (ms0_5 t) ((dats m 0 c).after 5 t)
    ∗ has c (ms0_6 t) ((dats m 0 c).after 6 t))

set_option maxHeartbeats 3200000 in
/-- The body of any other point takes the one, with the weights in scratch memory, to the other. -/
theorem later (i : grid0.Coords) (hi : ¬cond0_0 i) (W : Waits sig Unit) :
    iprop(scratch c (gateW m c) (upW m c) (downW m c) ∗ rest m c ∗ owes (c : Thread nD τ) 0 W ∗ windows m c t)
    ⊢ wp frame (wpE (defs₀ (F := F)) Variants.none c none) Set.univ (body i (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)) (fun _ => post m c t) := by
  unfold post windows
  simp only [before_0, before_1]
  rw [show (dats m 0 c).Φ t.succ = inv m c (t.val + 1) from rfl, inv_pos m c (t.val + 1) (Nat.succ_ne_zero _),
    after_0, after_1, after_2, after_3, after_4, after_5, after_6]
  unfold Dat.owesAt Pipeline.owesWithin
  rw [show (dats m 0 c).owed t.succ = 0 from rfl]
  iintro ⟨S, R, HW, ⟨%d0, H0⟩, ⟨%d1, H1⟩, ⟨%d2, H2⟩, ⟨%d3, H3⟩, ⟨%d4, H4⟩, ⟨%d5, H5⟩, ⟨%d6, H6⟩⟩
  iapply (point_run c i (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hi)
  iframe H0 H1 S
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, S, H2, H3, H4, H5, H6⟩
  iframe S R H0 H1 H2 H3 H4 H5 H6
  iexists W; iframe HW; ipureintro; exact fun _ _ => Or.inl trivial

set_option maxHeartbeats 3200000 in
/-- The body at any point takes the one to the other. -/
theorem point : iprop((dats m 0 c).Φ t.castSucc ∗ (dats m 0 c).owesAt () t.castSucc ∗ windows m c t)
    ⊢ wp frame (wpE (defs₀ (F := F)) Variants.none c none) Set.univ (bodyAt0 t) (fun _ => post m c t) := by
  have hN : cfg0.N = 32 := N_0
  have ht : t.val < 32 := lt_of_lt_of_eq t.isLt hN
  unfold bodyAt0
  rw [show (dats m 0 c).Φ t.castSucc = inv m c t.val from rfl]
  unfold Dat.owesAt Pipeline.owesWithin
  rw [show (dats m 0 c).owed t.castSucc = 0 from rfl]
  by_cases hz : t.val = 0
  · rw [show inv m c t.val = Pipeline.ΦD osem0 spec0 H0 (V m) c from by rw [hz]; rfl, launch_eq]
    obtain ⟨j, hj⟩ : ∃ j : grid0.Coords, ¬cond0_0 j := ⟨grid0.coords (⟨1, by omega⟩ : Fin cfg0.N), fun h => by
      have := (hcond0_0 _).mp h; dsimp only at this; omega⟩
    rw [show cc0_ffn1_fwd (F := F) _ _ _ _ _ _ _ _ _ _ _ _ _ _ _ _ _ _ _ _ _ _ _ _ _ _ _ _ = _ from
      body_first (grid0.coords t) j (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr (by omega)) hj]
    rw [wp_bind]
    unfold rest
    iintro ⟨⟨S, Hg, G⟩, ⟨%W, -, HW⟩, H⟩
    iapply (stage_run c (gateW m c) (upW m c) (downW m c) W)
    iframe S G HW
    iintro ⟨S, G, ⟨%W', HW⟩⟩
    iapply (later m c t j hj W')
    unfold rest; iframe S Hg G HW H
  · rw [inv_pos m c _ hz]
    iintro ⟨⟨S, R⟩, ⟨%W, -, HW⟩, H⟩
    iapply (later m c t (grid0.coords t) (fun h => hz (by have := (hcond0_0 t).mp h; omega)) W)
    iframe S R HW H

theorem row : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row]
  exact triple_restated (point m c t) rfl .rfl fun _ => .rfl

theorem hin : Pipeline.ΦD osem0 spec0 H0 (V m) c ⊢ (dats m 0 c).Φ 0 := by
  rw [show (dats m 0 c).Φ 0 = inv m c 0 from rfl]
  exact Idealize.SL.BI.Entails.refl _

theorem hout : (dats m 0 c).Φ (Fin.last cfg0.N) ⊢ Pipeline.ΦD osem0 spec0 H0 (V m) c := by
  rw [show (dats m 0 c).Φ (Fin.last cfg0.N) = inv m c cfg0.N from rfl, inv_pos m c _ (by have : cfg0.N = 32 := N_0; omega), launch_eq]
  unfold scratch
  iintro ⟨⟨S0, S1, S2⟩, R⟩
  isplitl [S0 S1 S2]
  · isplitl [S0]; · iexists _; iexact S0
    isplitl [S1]; · iexists _; iexact S1
    iexists _; iexact S2
  iexact R

/-! ## The run -/

-- the library's run is applied by unifying its conclusion, which unfolds plain definitions in a metavariable's type
set_option backward.isDefEq.respectTransparency.types false in
/-- Every execution ends with the pipeline's arrays as the proof data says and every semaphore at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The arguments end unchanged and the semaphores at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Fwd
end
-- ==== Proof.FwdPoint.lean ====
/-
  One point of the feed-forward forward kernel, read over the extended reals: every value it leaves at a row of its block is
  the reference's value at that row of the whole array.
-/
module

public import proofs.«01_k».proof.Proof.FwdRun
public import proofs.«01_k».proof.Proof.GmPoint
public import proofs.«01_k».proof.Proof.Gen.Reference10Ideal.Read
public import Idealize.ShloMosaic.Lib.Pointwise

@[expose] public section

namespace Cert.Fwd

open Cert.Kernel10Ideal Cert.Kernel10Ideal.Gen
open Cert.Reference10Ideal.Read
open Idealize.ShloMosaic Idealize.ShloMosaic.TcCoe
open Cert.Gm (ext2)

/-- Row `r` of block `t`. -/
def rowOf (t : Fin 32) (r : Fin 256) : Fin 8192 := ⟨t.val * 256 + r.val, by omega⟩

/-- Block `t` of 256 rows. -/
def tile {n : ℕ} {e : EltTy} (t : Fin 32) (X : Vec Ideal ⟨2, ![8192, n]⟩ e) : Vec Ideal ⟨2, ![256, n]⟩ e :=
  fun y => X (ix2 (rowOf t (y 0)) (y 1))

/-- The transpose of a matrix. -/
def turned (w : Vec Ideal S1024x2816 .f32) : Vec Ideal S2816x1024 .bf16 := fun y => w (ix2 (y 1) (y 0))

/-- The places of the two column blocks. -/
def c0 (j : Fin 1536) : Fin 2816 := ⟨j.val, by omega⟩
def c1 (j : Fin 1280) : Fin 2816 := ⟨1536 + j.val, by omega⟩

theorem cut (f : Fin 2816 → EReal) : ∑ k, f k = ∑ k, f (c0 k) + ∑ k, f (c1 k) := Fin.sum_univ_add (a := 1536) (b := 1280) f

theorem rows0_apply (w : Vec Ideal S2816x1024 .bf16) (i : Fin 1536) (j : Fin 1024) : rows0 w (ix2 i j) = w (ix2 (c0 i) j) := by
  unfold rows0 View.ld
  refine congrArg w (funext fun a => Fin.ext ?_)
  match a with
  | ⟨0, _⟩ => show 0 + 1 * i.val = i.val; omega
  | ⟨1, _⟩ => show 0 + 1 * j.val = j.val; omega

theorem rows1_apply (w : Vec Ideal S2816x1024 .bf16) (i : Fin 1280) (j : Fin 1024) : rows1 w (ix2 i j) = w (ix2 (c1 i) j) := by
  unfold rows1 View.ld
  refine congrArg w (funext fun a => Fin.ext ?_)
  match a with
  | ⟨0, _⟩ => show 1536 + 1 * i.val = 1536 + i.val; omega
  | ⟨1, _⟩ => show 0 + 1 * j.val = j.val; omega

/-- A block stored in two pieces is the array whose columns the pieces are. -/
theorem two_pieces (G : Vec Ideal S256x2816 .bf16) (p1 : Vec Ideal S256x1280 .bf16) (p0 : Vec Ideal S256x1536 .bf16)
    (e1 : ∀ r j, p1 (ix2 r j) = G (ix2 r (c1 j))) (e0 : ∀ r j, p0 (ix2 r j) = G (ix2 r (c0 j))) : side p1 p0 = G := by
  funext y
  refine View.canon_apply_of_pieces (Val := Elt Ideal) G [⟨cols1, p1⟩, ⟨cols0, p0⟩] ?_ y (View.cover_of_tiledBy [⟨cols1, p1⟩, ⟨cols0, p0⟩] ![256, 256] (by sl_kernel_rfl) y)
  intro p hp x
  rcases List.mem_cons.mp hp with rfl | hp
  · refine (congrArg p1 (eq_ix2 x)).trans ((e1 _ _).trans (congrArg G (funext fun d => Fin.ext ?_)))
    match d with
    | ⟨0, _⟩ => show (x 0).val = 0 + 1 * (x 0).val; omega
    | ⟨1, _⟩ => show 1536 + (x 1).val = 1536 + 1 * (x 1).val; omega
  rcases List.mem_cons.mp hp with rfl | hp
  · refine (congrArg p0 (eq_ix2 x)).trans ((e0 _ _).trans (congrArg G (funext fun d => Fin.ext ?_)))
    match d with
    | ⟨0, _⟩ => show (x 0).val = 0 + 1 * (x 0).val; omega
    | ⟨1, _⟩ => show (x 1).val = 0 + 1 * (x 1).val; omega
  exact absurd hp List.not_mem_nil

variable (x0 : Vec Ideal S8192x1024 .f32) (x1 : Vec Ideal S1x1024 .f32) (x2 x3 : Vec Ideal S1024x2816 .f32) (x4 : Vec Ideal S2816x1024 .f32) (t : Fin 32)

theorem normed_eq : k0_pay7 (F := Ideal) (tile t x0) x1 = tile t (val_main_v20 (F := Ideal) x0 x1) := by
  refine ext2 256 1024 fun i j => ?_
  pointwise [k0_pay7, val_main_v20, val_main_v11, val_main_v10, val_main_v9, val_main_v8, val_main_v7, val_main_v6, val_main_v5, val_main_v4, val_main_v3, val_main_v2, val_main_v1, val_main_v0,
    val_main_cst, val_main_cst_0, val_main_cst_1, tile]

/-- A product with the weights, in the one block of columns and in the other. -/
theorem prod0 (i : Fin 256) (j : Fin 1536) : k0_pay9 (F := Ideal) (tile t x0) x1 (rows0 (turned x2)) (ix2 i j) = val_main_v12 (F := Ideal) x0 x1 x2 (ix2 (rowOf t i) (c0 j)) := by
  unfold k0_pay9
  rw [normed_eq]
  pointwise [rows0_apply, turned, tile, val_main_v12, val_main_v20]
  done

theorem prod1 (i : Fin 256) (j : Fin 1280) : k0_pay1 (F := Ideal) (k0_pay7 (F := Ideal) (tile t x0) x1) (rows1 (turned x2)) (ix2 i j) = val_main_v12 (F := Ideal) x0 x1 x2 (ix2 (rowOf t i) (c1 j)) := by
  unfold k0_pay1
  rw [normed_eq]
  pointwise [rows1_apply, turned, tile, val_main_v12, val_main_v20]
  done

/-- The gated product, in the one block of columns and in the other. -/
theorem gated0 (i : Fin 256) (j : Fin 1536) : k0_pay11 (F := Ideal) (tile t x0) x1 (rows0 (turned x2)) (rows0 (turned x3)) (ix2 i j) = val_main_v15 (F := Ideal) x0 x1 x2 x3 (ix2 (rowOf t i) (c0 j)) := by
  have ha := prod0 x0 x1 x2 t i j
  have hb : k0_pay10 (F := Ideal) (tile t x0) x1 (rows0 (turned x3)) (ix2 i j) = val_main_v13 (F := Ideal) x0 x1 x3 (ix2 (rowOf t i) (c0 j)) := prod0 x0 x1 x3 t i j
  pointwise [k0_pay11, ha, hb, val_main_v15, val_main_v14, val_main_call0_v5, val_main_call0_v4, val_main_call0_v3, val_main_call0_v2, val_main_call0_v1, val_main_call0_v0, val_main_call0_cst, val_main_call0_cst_0]
  rfl

theorem gated1 (i : Fin 256) (j : Fin 1280) : k0_pay3 (F := Ideal) (k0_pay7 (F := Ideal) (tile t x0) x1) (rows1 (turned x2)) (rows1 (turned x3)) (ix2 i j) = val_main_v15 (F := Ideal) x0 x1 x2 x3 (ix2 (rowOf t i) (c1 j)) := by
  have ha := prod1 x0 x1 x2 t i j
  have hb : k0_pay2 (F := Ideal) (k0_pay7 (F := Ideal) (tile t x0) x1) (rows1 (turned x3)) (ix2 i j) = val_main_v13 (F := Ideal) x0 x1 x3 (ix2 (rowOf t i) (c1 j)) := prod1 x0 x1 x3 t i j
  pointwise [k0_pay3, ha, hb, val_main_v15, val_main_v14, val_main_call0_v5, val_main_call0_v4, val_main_call0_v3, val_main_call0_v2, val_main_call0_v1, val_main_call0_v0, val_main_call0_cst, val_main_call0_cst_0]
  rfl

theorem outA_eq : outA (F := Ideal) (tile t x0) x1 (turned x2) = tile t (val_main_v21 (F := Ideal) x0 x1 x2) :=
  two_pieces _ _ _ (fun i j => prod1 x0 x1 x2 t i j) (fun i j => prod0 x0 x1 x2 t i j)

theorem outB_eq : outB (F := Ideal) (tile t x0) x1 (turned x3) = tile t (val_main_v22 (F := Ideal) x0 x1 x3) :=
  two_pieces _ _ _ (fun i j => prod1 x0 x1 x3 t i j) (fun i j => prod0 x0 x1 x3 t i j)

theorem outS_eq : outS (F := Ideal) (tile t x0) x1 (turned x2) (turned x3) = tile t (val_main_v23 (F := Ideal) x0 x1 x2 x3) :=
  two_pieces _ _ _ (fun i j => gated1 x0 x1 x2 x3 t i j) (fun i j => gated0 x0 x1 x2 x3 t i j)

/-- The block of the layer's output: its product is taken in two parts. -/
theorem outO_eq : outO (F := Ideal) (tile t x0) x1 (turned x2) (turned x3) x4 = tile t (val_main_v19 (F := Ideal) x0 x1 x2 x3 x4) := by
  refine ext2 256 1024 fun i j => ?_
  unfold outO
  have h0 := fun k => gated0 x0 x1 x2 x3 t i k
  have h1 := fun k => gated1 x0 x1 x2 x3 t i k
  pointwise [k0_pay6, k0_pay8, h0, h1, rows0_apply, rows1_apply, val_main_v19, val_main_v18, val_main_v17, val_main_v16, val_main_cst_2, tile]
  simp only [cut]
  done

end Cert.Fwd
end
-- ==== Proof.FwdValue.lean ====
/-
  What the feed-forward forward kernel's five arrays hold at the end: the host hands it the transposed weights, every block
  is one point's value, and the blocks of rows make up the whole arrays.
-/
module

public import proofs.«01_k».proof.Proof.FwdFrame
public import proofs.«01_k».proof.Proof.FwdPoint
public import Idealize.ShloMosaic.Lib.StableHlo.RunRead
public import Idealize.ShloMosaic.Lib.Pipeline.ValueKit

@[expose] public section

namespace Cert.Fwd

open Cert.Kernel10Ideal Cert.Kernel10Ideal.Gen
open Cert.Reference10Ideal.Read
open Idealize.ShloMosaic Idealize.ShloMosaic.TcCoe
open Cert.Gm (ext2)

variable (m : (ℓ : Loc nD τ sig) → Buf (Elt Ideal) ℓ) (c : Dev nD)

theorem gateW_eq : gateW m c = turned (m (c, main_arg2)) := by
  unfold gateW V
  after_reads_simp
  refine ext2 2816 1024 fun a b => ?_
  pointwise [turned]

theorem upW_eq : upW m c = turned (m (c, main_arg3)) := by
  unfold upW V
  after_reads_simp
  refine ext2 2816 1024 fun a b => ?_
  pointwise [turned]

theorem downW_eq : downW m c = m (c, main_arg4) := by
  unfold downW V
  after_reads_simp
  rfl

/-- A grid point as the number of its tile of rows. -/
def pt (t : Fin cfg0.N) : Fin 32 := ⟨t.val, Nat.lt_of_lt_of_eq t.isLt N_0⟩

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)

theorem block_h (t : Fin cfg0.N) : iblk m c 0 t = tile (pt t) (m (c, main_arg0)) := by
  funext y
  blk_simp [iblk, at0]
  rw [V_main_arg0]
  unfold tile
  blk_ext [at0, rowOf, pt]

theorem block_norm (t : Fin cfg0.N) : iblk m c 1 t = m (c, main_arg1) := by
  funext y
  blk_simp [iblk, at1]
  rw [V_main_arg1]
  congr 1
  blk_ext [at1]

/-- The layer's output, -/
theorem array_out : (dats m 0 c).arrAt 2 cfg0.N = val_main_v19 (F := Ideal) (m (c, main_arg0)) (m (c, main_arg1)) (m (c, main_arg2)) (m (c, main_arg3)) (m (c, main_arg4)) := by
  refine (dats m 0 c).arrAt_eq_of_covers 2 _ (by decide +kernel) fun t hf y => ?_
  blk_simp
  rw [after_2, block_h, block_norm, gateW_eq, upW_eq, downW_eq, outO_eq]
  unfold tile
  blk_ext [at2, rowOf, pt]

/-- the normed rows, -/
theorem array_norm : (dats m 0 c).arrAt 3 cfg0.N = val_main_v20 (F := Ideal) (m (c, main_arg0)) (m (c, main_arg1)) := by
  refine (dats m 0 c).arrAt_eq_of_covers 3 _ (by decide +kernel) fun t hf y => ?_
  blk_simp
  rw [after_3, block_h, block_norm, normed_eq]
  unfold tile
  blk_ext [at3, rowOf, pt]

/-- the two products, -/
theorem array_gate : (dats m 0 c).arrAt 4 cfg0.N = val_main_v21 (F := Ideal) (m (c, main_arg0)) (m (c, main_arg1)) (m (c, main_arg2)) := by
  refine (dats m 0 c).arrAt_eq_of_covers 4 _ (by decide +kernel) fun t hf y => ?_
  blk_simp
  rw [after_4, block_h, block_norm, gateW_eq, outA_eq]
  unfold tile
  blk_ext [at4, rowOf, pt]

theorem array_up : (dats m 0 c).arrAt 5 cfg0.N = val_main_v22 (F := Ideal) (m (c, main_arg0)) (m (c, main_arg1)) (m (c, main_arg3)) := by
  refine (dats m 0 c).arrAt_eq_of_covers 5 _ (by decide +kernel) fun t hf y => ?_
  blk_simp
  rw [after_5, block_h, block_norm, upW_eq, outB_eq]
  unfold tile
  blk_ext [at5, rowOf, pt]

/-- and the gated product. -/
theorem array_gated : (dats m 0 c).arrAt 6 cfg0.N = val_main_v23 (F := Ideal) (m (c, main_arg0)) (m (c, main_arg1)) (m (c, main_arg2)) (m (c, main_arg3)) := by
  refine (dats m 0 c).arrAt_eq_of_covers 6 _ (by decide +kernel) fun t hf y => ?_
  blk_simp
  rw [after_6, block_h, block_norm, gateW_eq, upW_eq, outS_eq]
  unfold tile
  blk_ext [at6, rowOf, pt]

end Cert.Fwd
end
-- ==== Proof.FwdClaim.lean ====
/-
  The claims about the feed-forward forward kernel: its frames, its reference's frame, and that the five arrays it leaves are
  the reference's, with no condition on the arguments.
-/
module

public import proofs.«01_k».proof.Defs
public import proofs.«01_k».proof.Proof.Gen.Kernel10
public import proofs.«01_k».proof.Proof.Gen.Reference10Ideal.Run
public import proofs.«01_k».proof.Proof.FwdValue
public import Idealize.ShloMosaic.Lib.Claim

@[expose] public section

namespace Cert.Fwd

open Idealize.ShloMosaic Idealize.ShloMosaic.TcCoe
open Idealize.SL Idealize.SL.Sem
open Cert.Reference10Ideal.Read

set_option maxHeartbeats 1600000 in
/-- The printed kernel and the one printed for reading over the extended reals are the same text, label by label. -/
theorem defs₀_same {F : FTy → Type} [FloatOps F] : Cert.Kernel10.defs₀ (F := F) = Cert.Kernel10Ideal.defs₀ (F := F) :=
  congrArg Defs.onTc (funext fun l => funext fun a => by
    match l, a with
    | 0, (t, s) => rfl
    | ⟨_ + 1, h⟩, _ => exact absurd h (Nat.not_lt.2 (Nat.le_add_left _ _)))

set_option maxHeartbeats 1600000 in
theorem defs_same {F : FTy → Type} [FloatOps F] : Cert.Kernel10.defs (F := F) = Cert.Kernel10Ideal.defs (F := F) :=
  congrArg (Pipeline.defs (Cert.Kernel10Ideal.pcfgs (F := F))) defs₀_same

set_option maxHeartbeats 1600000 in
theorem quiescent_kernel : Cert.quiescent_Kernel10 (hKernel10 := Cert.Kernel10.Gen.facts) := fun m ρ _ => by
  have h := frame_ideal (F := Bits) m ρ
  rw [← defs_same] at h
  exact h

theorem quiescent_ideal : Cert.quiescent_Kernel10Ideal (hKernel10Ideal := Cert.Kernel10Ideal.Gen.facts) := fun m ρ _ => frame_ideal m ρ

theorem quiescent_reference : Cert.quiescent_Reference10Ideal (hReference10Ideal := Cert.Reference10Ideal.Gen.facts) :=
  fun m ρ _ => (θ_run Cert.Reference10Ideal.defs _ _).mono
    (fun r h => ⟨fun c => (h c).2.2.2.2.2, sem_eq_zero_of_no_sems (by decide) r.2⟩)
    (Cert.Reference10Ideal.Value.run m ρ)

section Kernel

open Cert.Kernel10Ideal Cert.Kernel10Ideal.Gen

variable (m : (ℓ : Loc nD τ sig) → Buf (Elt Ideal) ℓ) (ρ : Dev nD → PrngReg)

/-- The kernel's run: its five results in the reference's terms, its arguments unchanged. -/
theorem run_kernel : θ_run defs (onTc (τ := τ) (main (F := Ideal))) ⟨m, fun _ => 0, ρ⟩ (fun r => ∀ c : Dev nD,
      r.2.mem ((c.tc : Thread nD τ).loc main_v5_0) = val_main_v19 (F := Ideal) (m (c, main_arg0)) (m (c, main_arg1)) (m (c, main_arg2)) (m (c, main_arg3)) (m (c, main_arg4))
      ∧ r.2.mem ((c.tc : Thread nD τ).loc main_v5_1) = val_main_v20 (F := Ideal) (m (c, main_arg0)) (m (c, main_arg1))
      ∧ r.2.mem ((c.tc : Thread nD τ).loc main_v5_2) = val_main_v21 (F := Ideal) (m (c, main_arg0)) (m (c, main_arg1)) (m (c, main_arg2))
      ∧ r.2.mem ((c.tc : Thread nD τ).loc main_v5_3) = val_main_v22 (F := Ideal) (m (c, main_arg0)) (m (c, main_arg1)) (m (c, main_arg3))
      ∧ r.2.mem ((c.tc : Thread nD τ).loc main_v5_4) = val_main_v23 (F := Ideal) (m (c, main_arg0)) (m (c, main_arg1)) (m (c, main_arg2)) (m (c, main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨(h.1.1.out_eq c 2).trans (array_out m c), (h.1.1.out_eq c 3).trans (array_norm m c), (h.1.1.out_eq c 4).trans (array_gate m c),
      (h.1.1.out_eq c 5).trans (array_up m c), (h.1.1.out_eq c 6).trans (array_gated m c), h.2.1 c⟩)
    (θ_run_and (run m ρ) (frame_ideal m ρ))

end Kernel

theorem algebraic : Cert.algebraic_Kernel10Ideal_Reference10Ideal (hKernel10Ideal := Cert.Kernel10Ideal.Gen.facts)
    (hReference10Ideal := Cert.Reference10Ideal.Gen.facts) := by
  intro m g m' g' _ hargs
  refine ⟨_, _, _, _, _, run_kernel m g, (θ_run Cert.Reference10Ideal.defs _ _).mono (fun r h c => ?_) (Cert.Reference10Ideal.Value.run m' g')⟩
  obtain ⟨r0, r1, r2, r3, r4, rest⟩ := h c
  obtain ⟨a0, a1, a2, a3, a4⟩ := hargs c
  refine ⟨r0.trans ((val_main_v19_eq _ _ _ _ _).trans ?_), r1.trans ((val_main_v20_eq _ _).trans ?_), r2.trans ((val_main_v21_eq _ _ _).trans ?_),
    r3.trans ((val_main_v22_eq _ _ _).trans ?_), r4.trans ((val_main_v23_eq _ _ _ _).trans ?_), rest⟩
  · exact congr (congr (congr (congrArg₂ (val_main_v19 (F := Ideal)) a0 a1) a2) a3) a4
  · exact congrArg₂ (val_main_v20 (F := Ideal)) a0 a1
  · exact congr (congrArg₂ (val_main_v21 (F := Ideal)) a0 a1) a2
  · exact congr (congrArg₂ (val_main_v22 (F := Ideal)) a0 a1) a3
  · exact congr (congr (congrArg₂ (val_main_v23 (F := Ideal)) a0 a1) a2) a3

end Cert.Fwd
-- ==== Proof.lean ====
/-
  The proof of the claims: for the five backward kernels, the three forward kernels, the plain product and the
  optimiser's step the frames, that nothing was rewritten, and that their results are the references'.
-/
module

public import proofs.«01_k».proof.Defs
public import proofs.«01_k».proof.Proof.Gen.KernelIdeal.Frame.Runs
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite3
public import proofs.«01_k».proof.Proof.FfnClaim
public import proofs.«01_k».proof.Proof.GmClaim
public import proofs.«01_k».proof.Proof.SsdClaim
public import proofs.«01_k».proof.Proof.TailClaim
public import proofs.«01_k».proof.Proof.MixClaim
public import proofs.«01_k».proof.Proof.GfClaim
public import proofs.«01_k».proof.Proof.SsdFwdClaim
public import proofs.«01_k».proof.Proof.WgradClaim
public import proofs.«01_k».proof.Proof.AdamClaim
public import proofs.«01_k».proof.Proof.FwdClaim
public import proofs.«01_k».proof.Proof.Gen.Kernel4Ideal.Frame.Runs
public import proofs.«01_k».proof.Proof.Gen.Kernel5Ideal.Frame.Runs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference4Ideal.Read
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Claim

@[expose] public section

namespace Cert.Proof

open Idealize.ShloMosaic Idealize.ShloMosaic.TcCoe
open Idealize.SL Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Pre_finite.Gen.facts, Cert.Pre_finite3.Gen.facts, Cert.Pre_finite7.Gen.facts,
    Cert.Ffn.quiescent_kernel, Cert.Ffn.quiescent_ideal, Cert.Ffn.quiescent_ideal_pre, Cert.Ffn.quiescent_reference, Cert.Ffn.quiescent_reference_pre,
    Cert.Gm.quiescent_kernel, Cert.Gm.quiescent_ideal, Cert.Gm.quiescent_reference,
    Cert.SsdBack.quiescent_kernel, Cert.SsdBack.quiescent_ideal, Cert.SsdBack.quiescent_ideal_pre, Cert.SsdBack.quiescent_reference, Cert.SsdBack.quiescent_reference_pre,
    Cert.Tail.quiescent_kernel, Cert.Tail.quiescent_ideal, Cert.Tail.quiescent_reference,
    Cert.Mix.quiescent_kernel, Cert.Mix.quiescent_ideal, Cert.Mix.quiescent_reference,
    Cert.Gf.quiescent_kernel, Cert.Gf.quiescent_ideal, Cert.Gf.quiescent_reference,
    Cert.SsdFwd.quiescent_kernel, Cert.SsdFwd.quiescent_ideal, Cert.SsdFwd.quiescent_ideal_pre, Cert.SsdFwd.quiescent_reference, Cert.SsdFwd.quiescent_reference_pre,
    Cert.Wgrad.quiescent_kernel, Cert.Wgrad.quiescent_ideal, Cert.Wgrad.quiescent_reference,
    Cert.Adam.quiescent_kernel, Cert.Adam.quiescent_ideal, Cert.Adam.quiescent_reference,
    Cert.Fwd.quiescent_kernel, Cert.Fwd.quiescent_ideal, Cert.Fwd.quiescent_reference,
    trivial, Cert.Ffn.algebraic, trivial, Cert.Gm.algebraic, trivial, Cert.SsdBack.algebraic, trivial, Cert.Tail.algebraic,
    trivial, Cert.Mix.algebraic, trivial, Cert.Gf.algebraic,
    trivial, Cert.SsdFwd.algebraic, trivial, Cert.Wgrad.algebraic, trivial, Cert.Adam.algebraic, trivial, Cert.Fwd.algebraic⟩

end Cert.Proof

end
